-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)) (v2 : (c : Dev Cert.KernelIdeal.nD) → Buf (Elt Ideal) ((c.tc : Thread Cert.KernelIdeal.nD Cert.KernelIdeal.τ).loc Cert.KernelIdeal.main_v107_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_v107_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)) (v3 : (c : Dev Cert.Kernel3Ideal.nD) → Buf (Elt Ideal) ((c.tc : Thread Cert.Kernel3Ideal.nD Cert.Kernel3Ideal.τ).loc Cert.Kernel3Ideal.main_v33_3)) (v4 : (c : Dev Cert.Kernel3Ideal.nD) → Buf (Elt Ideal) ((c.tc : Thread Cert.Kernel3Ideal.nD Cert.Kernel3Ideal.τ).loc Cert.Kernel3Ideal.main_v33_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_v33_3) = v3 c
          ∧ r.2.mem ((c.tc : Thread Cert.Kernel3Ideal.nD Cert.Kernel3Ideal.τ).loc Cert.Kernel3Ideal.main_v33_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v87) = v3 c
          ∧ r.2.mem ((c.tc : Thread Cert.Reference3Ideal.nD Cert.Reference3Ideal.τ).loc Cert.Reference3Ideal.main_v55) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)) (v4 : (c : Dev Cert.Kernel4Ideal.nD) → Buf (Elt Ideal) ((c.tc : Thread Cert.Kernel4Ideal.nD Cert.Kernel4Ideal.τ).loc Cert.Kernel4Ideal.main_v27_4)) (v5 : (c : Dev Cert.Kernel4Ideal.nD) → Buf (Elt Ideal) ((c.tc : Thread Cert.Kernel4Ideal.nD Cert.Kernel4Ideal.τ).loc Cert.Kernel4Ideal.main_v27_5)) (v6 : (c : Dev Cert.Kernel4Ideal.nD) → Buf (Elt Ideal) ((c.tc : Thread Cert.Kernel4Ideal.nD Cert.Kernel4Ideal.τ).loc Cert.Kernel4Ideal.main_v27_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_v27_4) = v4 c
          ∧ r.2.mem ((c.tc : Thread Cert.Kernel4Ideal.nD Cert.Kernel4Ideal.τ).loc Cert.Kernel4Ideal.main_v27_5) = v5 c
          ∧ r.2.mem ((c.tc : Thread Cert.Kernel4Ideal.nD Cert.Kernel4Ideal.τ).loc Cert.Kernel4Ideal.main_v27_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_v79) = v2 c
          ∧ r.2.mem ((c.tc : Thread Cert.Reference4Ideal.nD Cert.Reference4Ideal.τ).loc Cert.Reference4Ideal.main_v80) = v3 c
          ∧ r.2.mem ((c.tc : Thread Cert.Reference4Ideal.nD Cert.Reference4Ideal.τ).loc Cert.Reference4Ideal.main_v81) = v4 c
          ∧ r.2.mem ((c.tc : Thread Cert.Reference4Ideal.nD Cert.Reference4Ideal.τ).loc Cert.Reference4Ideal.main_v82) = v5 c
          ∧ r.2.mem ((c.tc : Thread Cert.Reference4Ideal.nD Cert.Reference4Ideal.τ).loc Cert.Reference4Ideal.main_v83) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_4)) (v5 : (c : Dev Cert.Kernel5Ideal.nD) → Buf (Elt Ideal) ((c.tc : Thread Cert.Kernel5Ideal.nD Cert.Kernel5Ideal.τ).loc Cert.Kernel5Ideal.main_v11_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v11_4) = v4 c
          ∧ r.2.mem ((c.tc : Thread Cert.Kernel5Ideal.nD Cert.Kernel5Ideal.τ).loc Cert.Kernel5Ideal.main_v11_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_v73) = v3 c
          ∧ r.2.mem ((c.tc : Thread Cert.Reference5Ideal.nD Cert.Reference5Ideal.τ).loc Cert.Reference5Ideal.main_v68) = v4 c
          ∧ r.2.mem ((c.tc : Thread Cert.Reference5Ideal.nD Cert.Reference5Ideal.τ).loc Cert.Reference5Ideal.main_v74) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Pre_finite.lean ====
abbrev S2x2048x8704 : Shape := ⟨3, ![2, 2048, 8704]⟩
abbrev S2x2048x512 : Shape := ⟨3, ![2, 2048, 512]⟩
abbrev S_ : Shape := ⟨0, ![]⟩

class Facts : Prop where
  bcast_S_S2x2048x8704 : S_.BroadcastsInDim S2x2048x8704 (![] : Fin 0 → Fin S2x2048x8704.rank)
  bcast_S_S2x2048x512 : S_.BroadcastsInDim S2x2048x512 (![] : Fin 0 → Fin S2x2048x512.rank)

variable [Facts]

def fn {F : FTy → Type} [FloatOps F] (main_arg0 : FVec F S2x2048x8704 .f32) (main_arg1 : FVec F S2x2048x512 .f32) : IVec S2x2048x8704 1 × IVec S2x2048x512 1 :=
  let main_v0 : FVec F S2x2048x8704 .f32 := Host.absf main_arg0
  let main_cst : FVec F S_ .f32 := constant S_ .f32 0x7F800000#32
  let main_v1 : FVec F S2x2048x8704 .f32 := broadcastInDim S2x2048x8704 ![] bcast_S_S2x2048x8704 main_cst
  let main_v2 : IVec S2x2048x8704 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  (main_v2, main_v5)
-- ==== Pre_finite3.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S2x2048x1024 .f32) (main_arg1 : FVec F S2x2048x1024 .f32) (main_arg2 : FVec F S1x1024 .f32) (main_arg3 : FVec F S1x1024x2816 .f32) (main_arg4 : FVec F S1x1024x2816 .f32) (main_arg5 : FVec F S1x2816x1024 .f32) : IVec S2x2048x1024 1 × IVec S1x1024 1 × IVec S1x1024x2816 1 × IVec S1x2816x1024 1 :=
  let main_v0 : FVec F S2x2048x1024 .f32 := Host.absf main_arg1
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg4
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x2816x1024 .f32 := Host.absf main_arg5
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  (main_v2, main_v5, main_v8, main_v11)
-- ==== Kernel.lean ====
abbrev S2x2048x8704 : Shape := ⟨3, ![2, 2048, 8704]⟩
abbrev S2x2048x512 : Shape := ⟨3, ![2, 2048, 512]⟩
abbrev S3x8 : Shape := ⟨2, ![3, 8]⟩
abbrev S3 : Shape := ⟨1, ![3]⟩
abbrev S24 : Shape := ⟨1, ![24]⟩
abbrev S2x2048x1536 : Shape := ⟨3, ![2, 2048, 1536]⟩
abbrev S2x2048x3x8x64 : Shape := ⟨5, ![2, 2048, 3, 8, 64]⟩
abbrev S3x1x1 : Shape := ⟨3, ![3, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S_ : Shape := ⟨0, ![]⟩
abbrev S3x2048x2048 : Shape := ⟨3, ![3, 2048, 2048]⟩
abbrev S2x3x8x2048x2048 : Shape := ⟨5, ![2, 3, 8, 2048, 2048]⟩
abbrev S3x8x1x1 : Shape := ⟨4, ![3, 8, 1, 1]⟩
abbrev S1x1x2048x2048 : Shape := ⟨4, ![1, 1, 2048, 2048]⟩
abbrev S3x8x2048x2048 : Shape := ⟨4, ![3, 8, 2048, 2048]⟩
abbrev S1x3x8x2048x2048 : Shape := ⟨5, ![1, 3, 8, 2048, 2048]⟩
abbrev S1x3x1x2048x2048 : Shape := ⟨5, ![1, 3, 1, 2048, 2048]⟩
abbrev S2x3x8x2048 : Shape := ⟨4, ![2, 3, 8, 2048]⟩
abbrev S2x3x8x2048x1 : Shape := ⟨5, ![2, 3, 8, 2048, 1]⟩
abbrev S2x3x8x2048x64 : Shape := ⟨5, ![2, 3, 8, 2048, 64]⟩
abbrev S2x1x8x2048 : Shape := ⟨4, ![2, 1, 8, 2048]⟩
abbrev S2x8x2048 : Shape := ⟨3, ![2, 8, 2048]⟩
abbrev S2x8x2048x1 : Shape := ⟨4, ![2, 8, 2048, 1]⟩
abbrev S2x1x8x2048x64 : Shape := ⟨5, ![2, 1, 8, 2048, 64]⟩
abbrev S2x8x2048x64 : Shape := ⟨4, ![2, 8, 2048, 64]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x2048x128 : Shape := ⟨3, ![1, 2048, 128]⟩
abbrev S2048x128 : Shape := ⟨2, ![2048, 128]⟩
abbrev S2176x128 : Shape := ⟨2, ![2176, 128]⟩
abbrev S16x256x128 : Shape := ⟨3, ![16, 256, 128]⟩
abbrev S256x256 : Shape := ⟨2, ![256, 256]⟩
abbrev S128x128 : Shape := ⟨2, ![128, 128]⟩
abbrev S1 : Shape := ⟨1, ![1]⟩
abbrev S256x128 : Shape := ⟨2, ![256, 128]⟩
abbrev S128x1 : Shape := ⟨2, ![128, 1]⟩
abbrev S256x1 : Shape := ⟨2, ![256, 1]⟩
abbrev S1x128x128 : Shape := ⟨3, ![1, 128, 128]⟩
abbrev S1x256x128 : Shape := ⟨3, ![1, 256, 128]⟩
abbrev S1x512x128 : Shape := ⟨3, ![1, 512, 128]⟩
abbrev S512x128 : Shape := ⟨2, ![512, 128]⟩

abbrev nBuf : Space → Nat
  | .hbm => 126
  | .vmem => 31
  | .smem => 1
  | _ => 0

abbrev bufTy : (tb : Table) → Fin (tcTables nBuf tb) → BufTy
  | .hbm, ⟨0, _⟩ => ⟨S2x2048x8704, .f32⟩
  | .hbm, ⟨1, _⟩ => ⟨S2x2048x512, .f32⟩
  | .hbm, ⟨2, _⟩ => ⟨S3x8, .f32⟩
  | .hbm, ⟨3, _⟩ => ⟨S3, .i32⟩
  | .hbm, ⟨4, _⟩ => ⟨S3, .i32⟩
  | .hbm, ⟨5, _⟩ => ⟨S24, .f32⟩
  | .hbm, ⟨6, _⟩ => ⟨S2x2048x1536, .f32⟩
  | .hbm, ⟨7, _⟩ => ⟨S2x2048x3x8x64, .f32⟩
  | .hbm, ⟨8, _⟩ => ⟨S2x2048x1536, .f32⟩
  | .hbm, ⟨9, _⟩ => ⟨S2x2048x3x8x64, .f32⟩
  | .hbm, ⟨10, _⟩ => ⟨S2x2048x1536, .f32⟩
  | .hbm, ⟨11, _⟩ => ⟨S2x2048x3x8x64, .f32⟩
  | .hbm, ⟨12, _⟩ => ⟨S3x1x1, .i32⟩
  | .hbm, ⟨13, _⟩ => ⟨S3x1x1, .i32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S1x2048x2048, .i32⟩
  | .hbm, ⟨22, _⟩ => ⟨S_, .i32⟩
  | .hbm, ⟨23, _⟩ => ⟨S1x2048x2048, .i32⟩
  | .hbm, ⟨24, _⟩ => ⟨S1x2048x2048, .i1⟩
  | .hbm, ⟨25, _⟩ => ⟨S3x2048x2048, .i32⟩
  | .hbm, ⟨26, _⟩ => ⟨S3x2048x2048, .i32⟩
  | .hbm, ⟨27, _⟩ => ⟨S3x2048x2048, .i1⟩
  | .hbm, ⟨28, _⟩ => ⟨S3x2048x2048, .i1⟩
  | .hbm, ⟨29, _⟩ => ⟨S3x2048x2048, .i1⟩
  | .hbm, ⟨30, _⟩ => ⟨S3x2048x2048, .i32⟩
  | .hbm, ⟨31, _⟩ => ⟨S3x2048x2048, .i32⟩
  | .hbm, ⟨32, _⟩ => ⟨S3x2048x2048, .i32⟩
  | .hbm, ⟨33, _⟩ => ⟨S_, .i32⟩
  | .hbm, ⟨34, _⟩ => ⟨S3x2048x2048, .i32⟩
  | .hbm, ⟨35, _⟩ => ⟨S3x2048x2048, .i1⟩
  | .hbm, ⟨36, _⟩ => ⟨S3x2048x2048, .i1⟩
  | .hbm, ⟨37, _⟩ => ⟨S2048x2048, .i32⟩
  | .hbm, ⟨38, _⟩ => ⟨S2048x2048, .f32⟩
  | .hbm, ⟨39, _⟩ => ⟨S2x3x8x2048x2048, .f32⟩
  | .hbm, ⟨40, _⟩ => ⟨S_, .f32⟩
  | .hbm, ⟨41, _⟩ => ⟨S2x3x8x2048x2048, .f32⟩
  | .hbm, ⟨42, _⟩ => ⟨S2x3x8x2048x2048, .f32⟩
  | .hbm, ⟨43, _⟩ => ⟨S3x8x1x1, .f32⟩
  | .hbm, ⟨44, _⟩ => ⟨S1x1x2048x2048, .f32⟩
  | .hbm, ⟨45, _⟩ => ⟨S3x8x2048x2048, .f32⟩
  | .hbm, ⟨46, _⟩ => ⟨S3x8x2048x2048, .f32⟩
  | .hbm, ⟨47, _⟩ => ⟨S3x8x2048x2048, .f32⟩
  | .hbm, ⟨48, _⟩ => ⟨S1x3x8x2048x2048, .f32⟩
  | .hbm, ⟨49, _⟩ => ⟨S2x3x8x2048x2048, .f32⟩
  | .hbm, ⟨50, _⟩ => ⟨S2x3x8x2048x2048, .f32⟩
  | .hbm, ⟨51, _⟩ => ⟨S1x3x1x2048x2048, .i1⟩
  | .hbm, ⟨52, _⟩ => ⟨S_, .f32⟩
  | .hbm, ⟨53, _⟩ => ⟨S_, .f32⟩
  | .hbm, ⟨54, _⟩ => ⟨S2x3x8x2048x2048, .i1⟩
  | .hbm, ⟨55, _⟩ => ⟨S2x3x8x2048x2048, .f32⟩
  | .hbm, ⟨56, _⟩ => ⟨S2x3x8x2048x2048, .f32⟩
  | .hbm, ⟨57, _⟩ => ⟨S_, .f32⟩
  | .hbm, ⟨58, _⟩ => ⟨S2x3x8x2048, .f32⟩
  | .hbm, ⟨59, _⟩ => ⟨S2x3x8x2048x1, .f32⟩
  | .hbm, ⟨60, _⟩ => ⟨S2x3x8x2048x2048, .f32⟩
  | .hbm, ⟨61, _⟩ => ⟨S2x3x8x2048x2048, .f32⟩
  | .hbm, ⟨62, _⟩ => ⟨S2x3x8x2048x2048, .f32⟩
  | .hbm, ⟨63, _⟩ => ⟨S_, .f32⟩
  | .hbm, ⟨64, _⟩ => ⟨S2x3x8x2048, .f32⟩
  | .hbm, ⟨65, _⟩ => ⟨S2x3x8x2048x64, .f32⟩
  | .hbm, ⟨66, _⟩ => ⟨S2x3x8x2048x1, .f32⟩
  | .hbm, ⟨67, _⟩ => ⟨S2x3x8x2048x64, .f32⟩
  | .hbm, ⟨68, _⟩ => ⟨S2x3x8x2048x64, .f32⟩
  | .hbm, ⟨69, _⟩ => ⟨S2x3x8x2048, .f32⟩
  | .hbm, ⟨70, _⟩ => ⟨S2x3x8x2048, .f32⟩
  | .hbm, ⟨71, _⟩ => ⟨S2x3x8x2048, .f32⟩
  | .hbm, ⟨72, _⟩ => ⟨S2x1x8x2048, .f32⟩
  | .hbm, ⟨73, _⟩ => ⟨S2x8x2048, .f32⟩
  | .hbm, ⟨74, _⟩ => ⟨S2x1x8x2048, .f32⟩
  | .hbm, ⟨75, _⟩ => ⟨S2x8x2048, .f32⟩
  | .hbm, ⟨76, _⟩ => ⟨S2x1x8x2048, .f32⟩
  | .hbm, ⟨77, _⟩ => ⟨S2x8x2048, .f32⟩
  | .hbm, ⟨78, _⟩ => ⟨S2x8x2048, .f32⟩
  | .hbm, ⟨79, _⟩ => ⟨S2x8x2048, .f32⟩
  | .hbm, ⟨80, _⟩ => ⟨S2x8x2048, .f32⟩
  | .hbm, ⟨81, _⟩ => ⟨S2x8x2048, .f32⟩
  | .hbm, ⟨82, _⟩ => ⟨S2x8x2048, .f32⟩
  | .hbm, ⟨83, _⟩ => ⟨S2x8x2048, .f32⟩
  | .hbm, ⟨84, _⟩ => ⟨S2x8x2048, .f32⟩
  | .hbm, ⟨85, _⟩ => ⟨S2x8x2048, .f32⟩
  | .hbm, ⟨86, _⟩ => ⟨S2x8x2048, .f32⟩
  | .hbm, ⟨87, _⟩ => ⟨S2x8x2048, .f32⟩
  | .hbm, ⟨88, _⟩ => ⟨S2x8x2048x1, .f32⟩
  | .hbm, ⟨89, _⟩ => ⟨S2x1x8x2048x64, .f32⟩
  | .hbm, ⟨90, _⟩ => ⟨S2x8x2048x64, .f32⟩
  | .hbm, ⟨91, _⟩ => ⟨S2x8x2048x64, .f32⟩
  | .hbm, ⟨92, _⟩ => ⟨S2x8x2048x64, .f32⟩
  | .hbm, ⟨93, _⟩ => ⟨S2x8x2048x1, .f32⟩
  | .hbm, ⟨94, _⟩ => ⟨S2x1x8x2048x64, .f32⟩
  | .hbm, ⟨95, _⟩ => ⟨S2x8x2048x64, .f32⟩
  | .hbm, ⟨96, _⟩ => ⟨S2x8x2048x64, .f32⟩
  | .hbm, ⟨97, _⟩ => ⟨S2x8x2048x64, .f32⟩
  | .hbm, ⟨98, _⟩ => ⟨S2x8x2048x64, .f32⟩
  | .hbm, ⟨99, _⟩ => ⟨S2x8x2048x1, .f32⟩
  | .hbm, ⟨100, _⟩ => ⟨S2x1x8x2048x64, .f32⟩
  | .hbm, ⟨101, _⟩ => ⟨S2x8x2048x64, .f32⟩
  | .hbm, ⟨102, _⟩ => ⟨S2x8x2048x64, .f32⟩
  | .hbm, ⟨103, _⟩ => ⟨S2x8x2048x64, .f32⟩
  | .hbm, ⟨104, _⟩ => ⟨S2x8x2048x64, .f32⟩
  | .hbm, ⟨105, _⟩ => ⟨S2x8x2048x1, .f32⟩
  | .hbm, ⟨106, _⟩ => ⟨S2x8x2048x64, .f32⟩
  | .hbm, ⟨107, _⟩ => ⟨S2x8x2048x64, .f32⟩
  | .hbm, ⟨108, _⟩ => ⟨S2x2048x8x64, .f32⟩
  | .hbm, ⟨109, _⟩ => ⟨S2x8x2048x64, .f32⟩
  | .hbm, ⟨110, _⟩ => ⟨S2x8x2048x64, .f32⟩
  | .hbm, ⟨111, _⟩ => ⟨S_, .f32⟩
  | .hbm, ⟨112, _⟩ => ⟨S2x8x2048, .f32⟩
  | .hbm, ⟨113, _⟩ => ⟨S2x8x2048, .f32⟩
  | .hbm, ⟨114, _⟩ => ⟨S2x8x2048, .f32⟩
  | .hbm, ⟨115, _⟩ => ⟨S2x2048x8, .f32⟩
  | .hbm, ⟨116, _⟩ => ⟨S2x2048x8x1, .f32⟩
  | .hbm, ⟨117, _⟩ => ⟨S2x2048x8x64, .f32⟩
  | .hbm, ⟨118, _⟩ => ⟨S2x2048x512, .f32⟩
  | .hbm, ⟨119, _⟩ => ⟨S2x2048x8, .f32⟩
  | .hbm, ⟨120, _⟩ => ⟨S2x2048x8x1, .f32⟩
  | .hbm, ⟨121, _⟩ => ⟨S2x2048x8x64, .f32⟩
  | .hbm, ⟨122, _⟩ => ⟨S2x2048x512, .f32⟩
  | .hbm, ⟨123, _⟩ => ⟨S2x2048x1536, .bf16⟩
  | .hbm, ⟨124, _⟩ => ⟨S2x2048x1536, .bf16⟩
  | .hbm, ⟨125, _⟩ => ⟨S2x2048x1536, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S2048x128, .bf16⟩
  | .local _ .vmem, ⟨19, _⟩ => ⟨S2176x128, .bf16⟩
  | .local _ .vmem, ⟨20, _⟩ => ⟨S2176x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S16x256x128, .f32⟩
  | .local _ .vmem, ⟨28, _⟩ => ⟨S16x256x128, .f32⟩
  | .local _ .vmem, ⟨29, _⟩ => ⟨S2048x128, .f32⟩
  | .local _ .vmem, ⟨30, _⟩ => ⟨S256x256, .f32⟩
  | .local _ .smem, ⟨0, _⟩ => ⟨S24, .f32⟩
  | _, _ => ⟨S2x2048x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_8 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107_0 : Ref sig .tc := ⟨.hbm, 123, rfl⟩
abbrev main_v107_1 : Ref sig .tc := ⟨.hbm, 124, rfl⟩
abbrev main_v107_2 : Ref sig .tc := ⟨.hbm, 125, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def k0_off1 (i : grid0.Coords) (c0_i32_38 : BitVec 32) : Fin 1 → Nat :=
  let c0_i32_37 : BitVec 32 := 0#32
  let c2_i32_36 : BitVec 32 := 2#32
  let arg2 : BitVec 32 := BitVec.ofNat 32 (i 2).val
  let v54 : BitVec 32 := Scalar.muli c2_i32_36 arg2
  let v55 : BitVec 32 := Scalar.addi c0_i32_37 v54
  let v56 : BitVec 32 := Scalar.addi v55 c0_i32_38
  let v57 : Index := Scalar.indexCast v56
  ![v57.toNat]
def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_1 : BitVec 32 := 0#32
  let v8 : BitVec 1 := Scalar.cmpi .ne v7 c0_i32_1
  v8

def k0_off2 (i : grid0.Coords) (c0_i32_118 : BitVec 32) : Fin 1 → Nat :=
  let c8_i32 : BitVec 32 := 8#32
  let c2_i32_117 : BitVec 32 := 2#32
  let arg2 : BitVec 32 := BitVec.ofNat 32 (i 2).val
  let v156 : BitVec 32 := Scalar.muli c2_i32_117 arg2
  let v157 : BitVec 32 := Scalar.addi c8_i32 v156
  let v158 : BitVec 32 := Scalar.addi v157 c0_i32_118
  let v159 : Index := Scalar.indexCast v158
  ![v159.toNat]
def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_2 : BitVec 32 := 0#32
  let v11 : BitVec 1 := Scalar.cmpi .ne v10 c0_i32_2
  v11

def k0_off3 (i : grid0.Coords) (c0_i32_457 : BitVec 32) : Fin 1 → Nat :=
  let c16_i32 : BitVec 32 := 16#32
  let c2_i32_456 : BitVec 32 := 2#32
  let arg2 : BitVec 32 := BitVec.ofNat 32 (i 2).val
  let v564 : BitVec 32 := Scalar.muli c2_i32_456 arg2
  let v565 : BitVec 32 := Scalar.addi c16_i32 v564
  let v566 : BitVec 32 := Scalar.addi v565 c0_i32_457
  let v567 : Index := Scalar.indexCast v566
  ![v567.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![arg0.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c12_i32 : BitVec 32 := 12#32
  let v1 : BitVec 32 := Scalar.addi c12_i32 v0
  let v2 : BitVec 32 := Scalar.addi v1 arg2
  let c0_i32 : BitVec 32 := 0#32
  let c0_i32_0 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c24_i32 : BitVec 32 := 24#32
  let v1 : BitVec 32 := Scalar.addi c24_i32 v0
  let v2 : BitVec 32 := Scalar.addi v1 arg2
  let c0_i32 : BitVec 32 := 0#32
  let c0_i32_0 : BitVec 32 := 0#32
  ![arg0.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x2048x8704 : Shape := ⟨3, ![2, 2048, 8704]⟩
abbrev S2x2048x512 : Shape := ⟨3, ![2, 2048, 512]⟩
abbrev S3x8 : Shape := ⟨2, ![3, 8]⟩
abbrev S3 : Shape := ⟨1, ![3]⟩
abbrev S2x2048x1536 : Shape := ⟨3, ![2, 2048, 1536]⟩
abbrev S2x2048x3x8x64 : Shape := ⟨5, ![2, 2048, 3, 8, 64]⟩
abbrev S3x1x1 : Shape := ⟨3, ![3, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S_ : Shape := ⟨0, ![]⟩
abbrev S3x2048x2048 : Shape := ⟨3, ![3, 2048, 2048]⟩
abbrev S2x3x8x2048x2048 : Shape := ⟨5, ![2, 3, 8, 2048, 2048]⟩
abbrev S3x8x1x1 : Shape := ⟨4, ![3, 8, 1, 1]⟩
abbrev S1x1x2048x2048 : Shape := ⟨4, ![1, 1, 2048, 2048]⟩
abbrev S3x8x2048x2048 : Shape := ⟨4, ![3, 8, 2048, 2048]⟩
abbrev S1x3x8x2048x2048 : Shape := ⟨5, ![1, 3, 8, 2048, 2048]⟩
abbrev S1x3x1x2048x2048 : Shape := ⟨5, ![1, 3, 1, 2048, 2048]⟩
abbrev S2x3x8x2048 : Shape := ⟨4, ![2, 3, 8, 2048]⟩
abbrev S2x3x8x2048x1 : Shape := ⟨5, ![2, 3, 8, 2048, 1]⟩
abbrev S2x3x8x2048x64 : Shape := ⟨5, ![2, 3, 8, 2048, 64]⟩
abbrev S2x8x2048 : Shape := ⟨3, ![2, 8, 2048]⟩
abbrev S2x1x8x2048 : Shape := ⟨4, ![2, 1, 8, 2048]⟩
abbrev S2x8x2048x64 : Shape := ⟨4, ![2, 8, 2048, 64]⟩
abbrev S2x2048x8x64 : Shape := ⟨4, ![2, 2048, 8, 64]⟩
abbrev S2x3x8x64x2048 : Shape := ⟨5, ![2, 3, 8, 64, 2048]⟩

abbrev nBuf : Space → Nat
  | .hbm => 209
  | .vmem => 0
  | .smem => 0
  | _ => 0

abbrev hbmTy0_0 (i : Nat) : BufTy := match i % 128 with
  | 0 => ⟨S2x2048x8704, .f32⟩
  | 1 => ⟨S2x2048x512, .f32⟩
  | 2 => ⟨S3x8, .f32⟩
  | 3 => ⟨S3, .i32⟩
  | 4 => ⟨S3, .i32⟩
  | 5 => ⟨S2x2048x1536, .f32⟩
  | 6 => ⟨S2x2048x3x8x64, .f32⟩
  | 7 => ⟨S2x2048x1536, .f32⟩
  | 8 => ⟨S2x2048x3x8x64, .f32⟩
  | 9 => ⟨S2x2048x1536, .f32⟩
  | 10 => ⟨S2x2048x3x8x64, .f32⟩
  | 11 => ⟨S3x1x1, .i32⟩
  | 12 => ⟨S3x1x1, .i32⟩
  | 13 => ⟨S2048, .i32⟩
  | 14 => ⟨S2048x1, .i32⟩
  | 15 => ⟨S2048, .i32⟩
  | 16 => ⟨S1x2048, .i32⟩
  | 17 => ⟨S2048x2048, .i32⟩
  | 18 => ⟨S2048x2048, .i32⟩
  | 19 => ⟨S2048x2048, .i32⟩
  | 20 => ⟨S1x2048x2048, .i32⟩
  | 21 => ⟨S_, .i32⟩
  | 22 => ⟨S1x2048x2048, .i32⟩
  | 23 => ⟨S1x2048x2048, .i1⟩
  | 24 => ⟨S3x2048x2048, .i32⟩
  | 25 => ⟨S3x2048x2048, .i32⟩
  | 26 => ⟨S3x2048x2048, .i1⟩
  | 27 => ⟨S3x2048x2048, .i1⟩
  | 28 => ⟨S3x2048x2048, .i1⟩
  | 29 => ⟨S3x2048x2048, .i32⟩
  | 30 => ⟨S3x2048x2048, .i32⟩
  | 31 => ⟨S3x2048x2048, .i32⟩
  | 32 => ⟨S_, .i32⟩
  | 33 => ⟨S3x2048x2048, .i32⟩
  | 34 => ⟨S3x2048x2048, .i1⟩
  | 35 => ⟨S3x2048x2048, .i1⟩
  | 36 => ⟨S2048x2048, .i32⟩
  | 37 => ⟨S2048x2048, .f32⟩
  | 38 => ⟨S2x3x8x2048x2048, .f32⟩
  | 39 => ⟨S_, .f32⟩
  | 40 => ⟨S2x3x8x2048x2048, .f32⟩
  | 41 => ⟨S2x3x8x2048x2048, .f32⟩
  | 42 => ⟨S3x8x1x1, .f32⟩
  | 43 => ⟨S1x1x2048x2048, .f32⟩
  | 44 => ⟨S3x8x2048x2048, .f32⟩
  | 45 => ⟨S3x8x2048x2048, .f32⟩
  | 46 => ⟨S3x8x2048x2048, .f32⟩
  | 47 => ⟨S1x3x8x2048x2048, .f32⟩
  | 48 => ⟨S2x3x8x2048x2048, .f32⟩
  | 49 => ⟨S2x3x8x2048x2048, .f32⟩
  | 50 => ⟨S1x3x1x2048x2048, .i1⟩
  | 51 => ⟨S_, .f32⟩
  | 52 => ⟨S_, .f32⟩
  | 53 => ⟨S2x3x8x2048x2048, .i1⟩
  | 54 => ⟨S2x3x8x2048x2048, .f32⟩
  | 55 => ⟨S2x3x8x2048x2048, .f32⟩
  | 56 => ⟨S_, .f32⟩
  | 57 => ⟨S2x3x8x2048x2048, .f32⟩
  | 58 => ⟨S_, .f32⟩
  | 59 => ⟨S2x3x8x2048, .f32⟩
  | 60 => ⟨S2x3x8x2048x1, .f32⟩
  | 61 => ⟨S2x3x8x2048x2048, .f32⟩
  | 62 => ⟨S2x3x8x2048x2048, .i1⟩
  | 63 => ⟨S2x3x8x2048x2048, .f32⟩
  | 64 => ⟨S_, .f32⟩
  | 65 => ⟨S2x3x8x2048, .f32⟩
  | 66 => ⟨S2x3x8x2048x1, .f32⟩
  | 67 => ⟨S2x3x8x2048x2048, .f32⟩
  | 68 => ⟨S2x3x8x2048x2048, .f32⟩
  | 69 => ⟨S2x3x8x2048x2048, .f32⟩
  | 70 => ⟨S_, .f32⟩
  | 71 => ⟨S2x3x8x2048, .f32⟩
  | 72 => ⟨S2x3x8x2048x64, .f32⟩
  | 73 => ⟨S2x3x8x2048x1, .f32⟩
  | 74 => ⟨S2x3x8x2048x64, .f32⟩
  | 75 => ⟨S2x3x8x2048x64, .f32⟩
  | 76 => ⟨S2x3x8x2048x1, .f32⟩
  | 77 => ⟨S_, .f32⟩
  | 78 => ⟨S2x3x8x2048x1, .f32⟩
  | 79 => ⟨S2x3x8x2048x1, .f32⟩
  | 80 => ⟨S2x3x8x2048, .f32⟩
  | 81 => ⟨S2x3x8x2048, .f32⟩
  | 82 => ⟨S2x3x8x2048, .f32⟩
  | 83 => ⟨S_, .f32⟩
  | 84 => ⟨S2x8x2048, .f32⟩
  | 85 => ⟨S2x1x8x2048, .f32⟩
  | 86 => ⟨S2x3x8x2048, .f32⟩
  | 87 => ⟨S2x3x8x2048, .i1⟩
  | 88 => ⟨S2x3x8x2048, .f32⟩
  | 89 => ⟨S_, .f32⟩
  | 90 => ⟨S2x8x2048, .f32⟩
  | 91 => ⟨S_, .f32⟩
  | 92 => ⟨S2x8x2048, .f32⟩
  | 93 => ⟨S2x8x2048, .f32⟩
  | 94 => ⟨S_, .f32⟩
  | 95 => ⟨S2x8x2048, .f32⟩
  | 96 => ⟨S2x8x2048, .i1⟩
  | 97 => ⟨S_, .f32⟩
  | 98 => ⟨S2x8x2048, .f32⟩
  | 99 => ⟨S2x8x2048, .i1⟩
  | 100 => ⟨S_, .f32⟩
  | 101 => ⟨S2x8x2048, .f32⟩
  | 102 => ⟨S_, .f32⟩
  | 103 => ⟨S2x8x2048, .f32⟩
  | 104 => ⟨S_, .f32⟩
  | 105 => ⟨S2x8x2048, .f32⟩
  | 106 => ⟨S2x8x2048, .f32⟩
  | 107 => ⟨S2x8x2048, .f32⟩
  | 108 => ⟨S2x1x8x2048, .f32⟩
  | 109 => ⟨S2x3x8x2048, .f32⟩
  | 110 => ⟨S2x3x8x2048, .f32⟩
  | 111 => ⟨S2x3x8x2048, .f32⟩
  | 112 => ⟨S_, .f32⟩
  | 113 => ⟨S2x8x2048, .f32⟩
  | 114 => ⟨S2x1x8x2048, .f32⟩
  | 115 => ⟨S2x3x8x2048, .f32⟩
  | 116 => ⟨S2x3x8x2048, .f32⟩
  | 117 => ⟨S2x1x8x2048, .f32⟩
  | 118 => ⟨S_, .f32⟩
  | 119 => ⟨S2x1x8x2048, .f32⟩
  | 120 => ⟨S2x1x8x2048, .f32⟩
  | 121 => ⟨S2x3x8x2048x1, .f32⟩
  | 122 => ⟨S2x3x8x2048x64, .f32⟩
  | 123 => ⟨S2x3x8x2048x64, .f32⟩
  | 124 => ⟨S_, .f32⟩
  | 125 => ⟨S2x8x2048x64, .f32⟩
  | 126 => ⟨S2x2048x8x64, .f32⟩
  | 127 => ⟨S2x2048x512, .f32⟩
  | _ => ⟨S2x2048x8704, .f32⟩

abbrev hbmTy0_1 (i : Nat) : BufTy := match i % 128 with
  | 0 => ⟨S2x2048x8x64, .f32⟩
  | 1 => ⟨S2x8x2048x64, .f32⟩
  | 2 => ⟨S2x3x8x2048x64, .f32⟩
  | 3 => ⟨S2x3x8x2048x64, .f32⟩
  | 4 => ⟨S2x3x8x2048x64, .f32⟩
  | 5 => ⟨S2x3x8x2048x64, .f32⟩
  | 6 => ⟨S_, .f32⟩
  | 7 => ⟨S2x3x8x2048, .f32⟩
  | 8 => ⟨S2x3x8x2048x1, .f32⟩
  | 9 => ⟨S_, .f32⟩
  | 10 => ⟨S2x3x8x2048, .f32⟩
  | 11 => ⟨S2x3x8x2048, .f32⟩
  | 12 => ⟨S2x3x8x2048, .f32⟩
  | 13 => ⟨S2x3x8x2048, .f32⟩
  | 14 => ⟨S_, .f32⟩
  | 15 => ⟨S2x8x2048, .f32⟩
  | 16 => ⟨S2x1x8x2048, .f32⟩
  | 17 => ⟨S2x1x8x2048, .f32⟩
  | 18 => ⟨S2x3x8x2048, .f32⟩
  | 19 => ⟨S2x3x8x2048, .f32⟩
  | 20 => ⟨S_, .f32⟩
  | 21 => ⟨S2x8x2048, .f32⟩
  | 22 => ⟨S2x3x8x2048, .f32⟩
  | 23 => ⟨S2x3x8x2048, .f32⟩
  | 24 => ⟨S2x3x8x2048, .f32⟩
  | 25 => ⟨S2x3x8x2048, .f32⟩
  | 26 => ⟨S2x3x8x2048x1, .f32⟩
  | 27 => ⟨S2x3x8x2048x64, .f32⟩
  | 28 => ⟨S2x3x8x2048x64, .f32⟩
  | 29 => ⟨S2x3x8x2048x64, .f32⟩
  | 30 => ⟨S_, .f32⟩
  | 31 => ⟨S2x3x8x2048, .f32⟩
  | 32 => ⟨S2x3x8x2048x1, .f32⟩
  | 33 => ⟨S2x3x8x2048x1, .f32⟩
  | 34 => ⟨S2x3x8x2048x64, .f32⟩
  | 35 => ⟨S2x3x8x2048x64, .f32⟩
  | 36 => ⟨S_, .f32⟩
  | 37 => ⟨S2x3x8x2048, .f32⟩
  | 38 => ⟨S2x3x8x2048, .f32⟩
  | 39 => ⟨S2x3x8x64x2048, .f32⟩
  | 40 => ⟨S2x2048x3x8x64, .f32⟩
  | 41 => ⟨S2x3x8x2048x2048, .f32⟩
  | 42 => ⟨S2x3x8x2048x2048, .f32⟩
  | 43 => ⟨S2x3x8x2048x2048, .f32⟩
  | 44 => ⟨S2x3x8x2048x2048, .f32⟩
  | 45 => ⟨S2x3x8x2048x2048, .f32⟩
  | 46 => ⟨S_, .f32⟩
  | 47 => ⟨S2x3x8x2048, .f32⟩
  | 48 => ⟨S2x3x8x2048x1, .f32⟩
  | 49 => ⟨S2x3x8x2048x1, .f32⟩
  | 50 => ⟨S_, .f32⟩
  | 51 => ⟨S2x3x8x2048, .f32⟩
  | 52 => ⟨S2x3x8x2048, .f32⟩
  | 53 => ⟨S2x3x8x2048x2048, .f32⟩
  | 54 => ⟨S2x3x8x2048x2048, .f32⟩
  | 55 => ⟨S2x3x8x2048x2048, .f32⟩
  | 56 => ⟨S_, .f32⟩
  | 57 => ⟨S2x3x8x2048x2048, .f32⟩
  | 58 => ⟨S2x3x8x2048x2048, .f32⟩
  | 59 => ⟨S_, .f32⟩
  | 60 => ⟨S2x3x8x2048x2048, .f32⟩
  | 61 => ⟨S2x3x8x2048x2048, .f32⟩
  | 62 => ⟨S2x3x8x2048x64, .f32⟩
  | 63 => ⟨S2x2048x3x8x64, .f32⟩
  | 64 => ⟨S2x3x8x2048x64, .f32⟩
  | 65 => ⟨S2x2048x3x8x64, .f32⟩
  | 66 => ⟨S2x2048x1536, .f32⟩
  | 67 => ⟨S_, .f32⟩
  | 68 => ⟨S2x2048x8704, .f32⟩
  | 69 => ⟨S2x2048x1536, .f32⟩
  | 70 => ⟨S_, .f32⟩
  | 71 => ⟨S2x2048x8704, .f32⟩
  | 72 => ⟨S2x2048x8704, .f32⟩
  | 73 => ⟨S2x2048x1536, .f32⟩
  | 74 => ⟨S_, .f32⟩
  | 75 => ⟨S2x2048x8704, .f32⟩
  | 76 => ⟨S2x2048x8704, .f32⟩
  | 77 => ⟨S2x2048x8704, .bf16⟩
  | 78 => ⟨S2x2048x1536, .bf16⟩
  | 79 => ⟨S2x2048x1536, .bf16⟩
  | 80 => ⟨S2x2048x1536, .bf16⟩
  | _ => ⟨S2x2048x8704, .f32⟩

abbrev hbmTy (i : Nat) : BufTy := match i / 128 with
  | 0 => hbmTy0_0 i
  | 1 => hbmTy0_1 i
  | _ => ⟨S2x2048x8704, .f32⟩

abbrev bufTy : (tb : Table) → Fin (tcTables nBuf tb) → BufTy
  | .hbm, ⟨i, _⟩ => hbmTy i
  | _, _ => ⟨S2x2048x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_call0_v0 : Ref sig .tc := ⟨.hbm, 52, rfl⟩
abbrev main_v43_1 : Ref sig .tc := ⟨.hbm, 53, rfl⟩
abbrev main_call0_v2 : Ref sig .tc := ⟨.hbm, 54, rfl⟩
abbrev main_v43_0 : Ref sig .tc := ⟨.hbm, 55, rfl⟩
abbrev main_call0_cst : Ref sig .tc := ⟨.hbm, 56, rfl⟩
abbrev main_v43_2 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_18 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_19 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_20 : Ref sig .tc := ⟨.hbm, 134, rfl⟩
abbrev main_v105 : Ref sig .tc := ⟨.hbm, 135, rfl⟩
abbrev main_v106 : Ref sig .tc := ⟨.hbm, 136, rfl⟩
abbrev main_cst_21 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_22 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_23 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_24 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_25 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_26 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_27 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_call1_cst : Ref sig .tc := ⟨.hbm, 184, rfl⟩
abbrev main_call1_v0 : Ref sig .tc := ⟨.hbm, 185, rfl⟩
abbrev main_v147 : Ref sig .tc := ⟨.hbm, 186, rfl⟩
abbrev main_cst_28 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_29 : Ref sig .tc := ⟨.hbm, 195, rfl⟩
abbrev main_v155 : Ref sig .tc := ⟨.hbm, 196, rfl⟩
abbrev main_v156 : Ref sig .tc := ⟨.hbm, 197, rfl⟩
abbrev main_cst_30 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_31 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x2048x8704 : Shape := ⟨3, ![2, 2048, 8704]⟩
abbrev S1x1024 : Shape := ⟨2, ![1, 1024]⟩
abbrev S1x1024x8704 : Shape := ⟨3, ![1, 1024, 8704]⟩
abbrev S4096x8704 : Shape := ⟨2, ![4096, 8704]⟩
abbrev S4096x1536 : Shape := ⟨2, ![4096, 1536]⟩
abbrev S4096x1024 : Shape := ⟨2, ![4096, 1024]⟩
abbrev S4096x2048 : Shape := ⟨2, ![4096, 2048]⟩
abbrev S1024x8704 : Shape := ⟨2, ![1024, 8704]⟩
abbrev S8704x1024 : Shape := ⟨2, ![8704, 1024]⟩
abbrev S256x1536 : Shape := ⟨2, ![256, 1536]⟩
abbrev S256x1024 : Shape := ⟨2, ![256, 1024]⟩
abbrev S256x2048 : Shape := ⟨2, ![256, 2048]⟩
abbrev S_ : Shape := ⟨0, ![]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 20
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x8704, .f32⟩
  | .hbm, ⟨3, _⟩ => ⟨S1x1024, .f32⟩
  | .hbm, ⟨4, _⟩ => ⟨S1x1024x8704, .f32⟩
  | .hbm, ⟨5, _⟩ => ⟨S4096x8704, .f32⟩
  | .hbm, ⟨6, _⟩ => ⟨S4096x8704, .bf16⟩
  | .hbm, ⟨7, _⟩ => ⟨S4096x1536, .bf16⟩
  | .hbm, ⟨8, _⟩ => ⟨S4096x1536, .bf16⟩
  | .hbm, ⟨9, _⟩ => ⟨S4096x1536, .bf16⟩
  | .hbm, ⟨10, _⟩ => ⟨S4096x1024, .bf16⟩
  | .hbm, ⟨11, _⟩ => ⟨S4096x1024, .bf16⟩
  | .hbm, ⟨12, _⟩ => ⟨S4096x2048, .bf16⟩
  | .hbm, ⟨13, _⟩ => ⟨S1024x8704, .f32⟩
  | .hbm, ⟨14, _⟩ => ⟨S1024x8704, .bf16⟩
  | .hbm, ⟨15, _⟩ => ⟨S8704x1024, .bf16⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S256x1536, .bf16⟩
  | .local _ .vmem, ⟨3, _⟩ => ⟨S256x1536, .bf16⟩
  | .local _ .vmem, ⟨4, _⟩ => ⟨S256x1536, .bf16⟩
  | .local _ .vmem, ⟨5, _⟩ => ⟨S256x1536, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S8704x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2x2048x1024 : Shape := ⟨3, ![2, 2048, 1024]⟩
abbrev S2x2048x8704 : Shape := ⟨3, ![2, 2048, 8704]⟩
abbrev S1x1024 : Shape := ⟨2, ![1, 1024]⟩
abbrev S1x1024x8704 : Shape := ⟨3, ![1, 1024, 8704]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x8704 : Shape := ⟨2, ![1024, 8704]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x8704, .f32⟩
  | .hbm, ⟨3, _⟩ => ⟨S1x1024, .f32⟩
  | .hbm, ⟨4, _⟩ => ⟨S1x1024x8704, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x8704, .f32⟩
  | .hbm, ⟨27, _⟩ => ⟨S2x2048x8704, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S1x1024, .f32⟩
  | .hbm, ⟨55, _⟩ => ⟨S2x2048x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x2816 : Shape := ⟨2, ![4096, 2816]⟩
abbrev S4096x1024 : Shape := ⟨2, ![4096, 1024]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩

abbrev nBuf : Space → Nat
  | .hbm => 47
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S1024x2816, .f32⟩
  | .hbm, ⟨32, _⟩ => ⟨S2x2048x2816, .f32⟩
  | .hbm, ⟨33, _⟩ => ⟨S2x2048x2816, .bf16⟩
  | .hbm, ⟨34, _⟩ => ⟨S4096x2816, .bf16⟩
  | .hbm, ⟨35, _⟩ => ⟨S1024x2816, .f32⟩
  | .hbm, ⟨36, _⟩ => ⟨S2x2048x2816, .f32⟩
  | .hbm, ⟨37, _⟩ => ⟨S2x2048x2816, .bf16⟩
  | .hbm, ⟨38, _⟩ => ⟨S4096x2816, .bf16⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S4096x2816, .bf16⟩
  | .hbm, ⟨43, _⟩ => ⟨S4096x2816, .bf16⟩
  | .hbm, ⟨44, _⟩ => ⟨S4096x1024, .f32⟩
  | .hbm, ⟨45, _⟩ => ⟨S4096x1024, .bf16⟩
  | .hbm, ⟨46, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S2816x1024, .bf16⟩
  | .local _ .vmem, ⟨21, _⟩ => ⟨S2816x1024, .bf16⟩
  | .local _ .vmem, ⟨22, _⟩ => ⟨S2816x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4096x1024 : Shape := ⟨2, ![4096, 1024]⟩
abbrev S4096x2816 : Shape := ⟨2, ![4096, 2816]⟩

abbrev nBuf : Space → Nat
  | .hbm => 136
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S1x1024, .f32⟩
  | 3 => ⟨S1x1024x2816, .f32⟩
  | 4 => ⟨S1x1024x2816, .f32⟩
  | 5 => ⟨S1x2816x1024, .f32⟩
  | 6 => ⟨S1024, .f32⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1024, .f32⟩
  | 23 => ⟨S2x2048x1024, .f32⟩
  | 24 => ⟨S1x1x1024, .f32⟩
  | 25 => ⟨S2x2048x1024, .f32⟩
  | 26 => ⟨S2x2048x1024, .f32⟩
  | 27 => ⟨S1024x2816, .f32⟩
  | 28 => ⟨S2x2048x2816, .f32⟩
  | 29 => ⟨S1024x2816, .f32⟩
  | 30 => ⟨S2x2048x2816, .f32⟩
  | 31 => ⟨S2x2048x2816, .f32⟩
  | 32 => ⟨S2x2048x2816, .f32⟩
  | 33 => ⟨S_, .f32⟩
  | 34 => ⟨S2x2048x2816, .f32⟩
  | 35 => ⟨S2x2048x2816, .f32⟩
  | 36 => ⟨S_, .f32⟩
  | 37 => ⟨S2x2048x2816, .f32⟩
  | 38 => ⟨S2x2048x2816, .f32⟩
  | 39 => ⟨S_, .f32⟩
  | 40 => ⟨S2x2048x2816, .f32⟩
  | 41 => ⟨S2x2048x2816, .f32⟩
  | 42 => ⟨S2x2048x2816, .f32⟩
  | 43 => ⟨S2x2048x2816, .f32⟩
  | 44 => ⟨S2x2048x2816, .f32⟩
  | 45 => ⟨S2816x1024, .f32⟩
  | 46 => ⟨S2x2048x1024, .f32⟩
  | 47 => ⟨S2x2048x1024, .f32⟩
  | 48 => ⟨S2x2048x1024, .f32⟩
  | 49 => ⟨S2x2048x2816, .f32⟩
  | 50 => ⟨S2x2048x2816, .f32⟩
  | 51 => ⟨S2x2048x2816, .f32⟩
  | 52 => ⟨S2x2048x2816, .f32⟩
  | 53 => ⟨S2x2048x2816, .f32⟩
  | 54 => ⟨S2x2048x2816, .f32⟩
  | 55 => ⟨S2x2048x2816, .f32⟩
  | 56 => ⟨S2x2048x1024, .f32⟩
  | 57 => ⟨S2x2048x1024, .f32⟩
  | 58 => ⟨S2x2048x1024, .f32⟩
  | 59 => ⟨S2x2048x1024, .f32⟩
  | 60 => ⟨S_, .f32⟩
  | 61 => ⟨S1024, .f32⟩
  | 62 => ⟨S1x1x1024, .f32⟩
  | 63 => ⟨S2x2048x1024, .f32⟩
  | 64 => ⟨S2x2048x1024, .f32⟩
  | 65 => ⟨S_, .f32⟩
  | 66 => ⟨S1024, .f32⟩
  | 67 => ⟨S2x2048x1024, .f32⟩
  | 68 => ⟨S_, .f32⟩
  | 69 => ⟨S2x2048, .f32⟩
  | 70 => ⟨S2x2048x1, .f32⟩
  | 71 => ⟨S2x2048x1024, .f32⟩
  | 72 => ⟨S2x2048x1024, .f32⟩
  | 73 => ⟨S2x2048x1024, .f32⟩
  | 74 => ⟨S2x2048x1, .f32⟩
  | 75 => ⟨S_, .f32⟩
  | 76 => ⟨S2x2048x1, .f32⟩
  | 77 => ⟨S2x2048x1, .f32⟩
  | 78 => ⟨S_, .f32⟩
  | 79 => ⟨S2x2048, .f32⟩
  | 80 => ⟨S2x2048x1024, .f32⟩
  | 81 => ⟨S2x2048x1024, .f32⟩
  | 82 => ⟨S2x2048x1024, .f32⟩
  | 83 => ⟨S2x2048x1024, .f32⟩
  | 84 => ⟨S2x2048x1024, .f32⟩
  | 85 => ⟨S1x1024, .f32⟩
  | 86 => ⟨S1024, .f32⟩
  | 87 => ⟨S2x2048x1024, .f32⟩
  | 88 => ⟨S_, .f32⟩
  | 89 => ⟨S2x2048, .f32⟩
  | 90 => ⟨S2x2048x1, .f32⟩
  | 91 => ⟨S_, .f32⟩
  | 92 => ⟨S2x2048x1, .f32⟩
  | 93 => ⟨S2x2048x1, .f32⟩
  | 94 => ⟨S_, .f32⟩
  | 95 => ⟨S2x2048x1, .f32⟩
  | 96 => ⟨S2x2048x1, .f32⟩
  | 97 => ⟨S2x2048x1, .f32⟩
  | 98 => ⟨S2x2048x1024, .f32⟩
  | 99 => ⟨S2x2048x1024, .f32⟩
  | 100 => ⟨S1x1x1024, .f32⟩
  | 101 => ⟨S2x2048x1024, .f32⟩
  | 102 => ⟨S2x2048x1024, .f32⟩
  | 103 => ⟨S1024x2816, .f32⟩
  | 104 => ⟨S2x2048x2816, .f32⟩
  | 105 => ⟨S1024x2816, .f32⟩
  | 106 => ⟨S2x2048x2816, .f32⟩
  | 107 => ⟨S2x2048x2816, .f32⟩
  | 108 => ⟨S2x2048x2816, .f32⟩
  | 109 => ⟨S_, .f32⟩
  | 110 => ⟨S2x2048x2816, .f32⟩
  | 111 => ⟨S2x2048x2816, .f32⟩
  | 112 => ⟨S_, .f32⟩
  | 113 => ⟨S2x2048x2816, .f32⟩
  | 114 => ⟨S2x2048x2816, .f32⟩
  | 115 => ⟨S_, .f32⟩
  | 116 => ⟨S2x2048x2816, .f32⟩
  | 117 => ⟨S2x2048x2816, .f32⟩
  | 118 => ⟨S2x2048x2816, .f32⟩
  | 119 => ⟨S2x2048x2816, .f32⟩
  | 120 => ⟨S2x2048x2816, .f32⟩
  | 121 => ⟨S2816x1024, .f32⟩
  | 122 => ⟨S2x2048x1024, .f32⟩
  | 123 => ⟨S2x2048x2816, .f32⟩
  | 124 => ⟨S2x2048x2816, .f32⟩
  | 125 => ⟨S2x2048x2816, .f32⟩
  | 126 => ⟨S2x2048x2816, .f32⟩
  | 127 => ⟨S2x2048x2816, .f32⟩
  | _ => ⟨S2x2048x1024, .f32⟩

abbrev hbmTy0_1 (i : Nat) : BufTy := match i % 128 with
  | 0 => ⟨S2x2048x2816, .f32⟩
  | 1 => ⟨S2x2048x2816, .f32⟩
  | 2 => ⟨S4096x1024, .f32⟩
  | 3 => ⟨S4096x2816, .f32⟩
  | 4 => ⟨S4096x2816, .bf16⟩
  | 5 => ⟨S4096x2816, .f32⟩
  | 6 => ⟨S4096x2816, .bf16⟩
  | 7 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_v74_2 : Ref sig .tc := ⟨.hbm, 114, rfl⟩
abbrev main_call2_cst_1 : Ref sig .tc := ⟨.hbm, 115, rfl⟩
abbrev main_call2_v6 : Ref sig .tc := ⟨.hbm, 116, rfl⟩
abbrev main_call2_v7 : Ref sig .tc := ⟨.hbm, 117, rfl⟩
abbrev main_v74_1 : Ref sig .tc := ⟨.hbm, 118, rfl⟩
abbrev main_v74_0 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩

abbrev nBuf : Space → Nat
  | .hbm => 44
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024x2816, .f32⟩
  | .hbm, ⟨8, _⟩ => ⟨S1024x2816, .bf16⟩
  | .hbm, ⟨9, _⟩ => ⟨S2816x1024, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S2x2048x1024, .f32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S2x2048x1024, .bf16⟩
  | .hbm, ⟨33, _⟩ => ⟨S4096x1024, .bf16⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x2816, .bf16⟩
  | .hbm, ⟨38, _⟩ => ⟨S4096x2816, .bf16⟩
  | .hbm, ⟨39, _⟩ => ⟨S4096x2816, .bf16⟩
  | .hbm, ⟨40, _⟩ => ⟨S4096x1024, .f32⟩
  | .hbm, ⟨41, _⟩ => ⟨S4096x1024, .bf16⟩
  | .hbm, ⟨42, _⟩ => ⟨S1x128, .f32⟩
  | .hbm, ⟨43, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x128, .f32⟩
  | .local _ .vmem, ⟨18, _⟩ => ⟨S1x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev main_v27_5 : Ref sig .tc := ⟨.hbm, 42, rfl⟩
abbrev main_v27_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4096x2816 : Shape := ⟨2, ![4096, 2816]⟩
abbrev S4096x1024 : Shape := ⟨2, ![4096, 1024]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S1024x2816, .f32⟩
  | .hbm, ⟨25, _⟩ => ⟨S2x2048x2816, .f32⟩
  | .hbm, ⟨26, _⟩ => ⟨S1024x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2816x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S_, .f32⟩
  | .hbm, ⟨69, _⟩ => ⟨S2x2048, .f32⟩
  | .hbm, ⟨70, _⟩ => ⟨S2x2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2x2048, .f32⟩
  | .hbm, ⟨79, _⟩ => ⟨S_, .f32⟩
  | .hbm, ⟨80, _⟩ => ⟨S2x2048, .f32⟩
  | .hbm, ⟨81, _⟩ => ⟨S2x2048, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S_, .f32⟩
  | .hbm, ⟨86, _⟩ => ⟨S1024, .f32⟩
  | .hbm, ⟨87, _⟩ => ⟨S1x1x1024, .f32⟩
  | .hbm, ⟨88, _⟩ => ⟨S2x2048x1024, .f32⟩
  | .hbm, ⟨89, _⟩ => ⟨S2x2048x1024, .f32⟩
  | .hbm, ⟨90, _⟩ => ⟨S_, .f32⟩
  | .hbm, ⟨91, _⟩ => ⟨S1024, .f32⟩
  | .hbm, ⟨92, _⟩ => ⟨S2x2048x1024, .f32⟩
  | .hbm, ⟨93, _⟩ => ⟨S_, .f32⟩
  | .hbm, ⟨94, _⟩ => ⟨S2x2048, .f32⟩
  | .hbm, ⟨95, _⟩ => ⟨S2x2048x1, .f32⟩
  | .hbm, ⟨96, _⟩ => ⟨S2x2048x1024, .f32⟩
  | .hbm, ⟨97, _⟩ => ⟨S2x2048x1024, .f32⟩
  | .hbm, ⟨98, _⟩ => ⟨S2x2048x1, .f32⟩
  | .hbm, ⟨99, _⟩ => ⟨S_, .f32⟩
  | .hbm, ⟨100, _⟩ => ⟨S2x2048x1, .f32⟩
  | .hbm, ⟨101, _⟩ => ⟨S2x2048x1, .f32⟩
  | .hbm, ⟨102, _⟩ => ⟨S_, .f32⟩
  | .hbm, ⟨103, _⟩ => ⟨S2x2048, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S2x2048x1024, .f32⟩
  | .hbm, ⟨109, _⟩ => ⟨S4096x2816, .f32⟩
  | .hbm, ⟨110, _⟩ => ⟨S4096x2816, .bf16⟩
  | .hbm, ⟨111, _⟩ => ⟨S4096x2816, .f32⟩
  | .hbm, ⟨112, _⟩ => ⟨S4096x2816, .bf16⟩
  | .hbm, ⟨113, _⟩ => ⟨S4096x2816, .f32⟩
  | .hbm, ⟨114, _⟩ => ⟨S4096x2816, .bf16⟩
  | .hbm, ⟨115, _⟩ => ⟨S4096x1024, .f32⟩
  | .hbm, ⟨116, _⟩ => ⟨S4096x1024, .bf16⟩
  | .hbm, ⟨117, _⟩ => ⟨S1x128, .f32⟩
  | .hbm, ⟨118, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Kernel5.lean ====
abbrev S2x2048x512 : Shape := ⟨3, ![2, 2048, 512]⟩
abbrev S2x2048x1024 : Shape := ⟨3, ![2, 2048, 1024]⟩
abbrev S2x2048x8704 : Shape := ⟨3, ![2, 2048, 8704]⟩
abbrev S1x2048 : Shape := ⟨2, ![1, 2048]⟩
abbrev S1x1024 : Shape := ⟨2, ![1, 1024]⟩
abbrev S1x512x1024 : Shape := ⟨3, ![1, 512, 1024]⟩
abbrev S1x1024x1024 : Shape := ⟨3, ![1, 1024, 1024]⟩
abbrev S4096x512 : Shape := ⟨2, ![4096, 512]⟩
abbrev S4096x1024 : Shape := ⟨2, ![4096, 1024]⟩
abbrev S4096x8704 : Shape := ⟨2, ![4096, 8704]⟩
abbrev S512x1024 : Shape := ⟨2, ![512, 1024]⟩
abbrev S1024x1024 : Shape := ⟨2, ![1024, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 28
  | .vmem => 33
  | .smem => 0
  | _ => 0

abbrev bufTy : (tb : Table) → Fin (tcTables nBuf tb) → BufTy
  | .hbm, ⟨0, _⟩ => ⟨S2x2048x512, .f32⟩
  | .hbm, ⟨1, _⟩ => ⟨S2x2048x1024, .f32⟩
  | .hbm, ⟨2, _⟩ => ⟨S2x2048x8704, .f32⟩
  | .hbm, ⟨3, _⟩ => ⟨S2x2048x1024, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x512x1024, .f32⟩
  | .hbm, ⟨9, _⟩ => ⟨S1x1024x1024, .f32⟩
  | .hbm, ⟨10, _⟩ => ⟨S1x1024x1024, .f32⟩
  | .hbm, ⟨11, _⟩ => ⟨S4096x512, .f32⟩
  | .hbm, ⟨12, _⟩ => ⟨S4096x512, .bf16⟩
  | .hbm, ⟨13, _⟩ => ⟨S4096x1024, .f32⟩
  | .hbm, ⟨14, _⟩ => ⟨S4096x8704, .f32⟩
  | .hbm, ⟨15, _⟩ => ⟨S4096x1024, .f32⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x2048, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S2x2048x512 : Shape := ⟨3, ![2, 2048, 512]⟩
abbrev S2x2048x1024 : Shape := ⟨3, ![2, 2048, 1024]⟩
abbrev S2x2048x8704 : Shape := ⟨3, ![2, 2048, 8704]⟩
abbrev S1x2048 : Shape := ⟨2, ![1, 2048]⟩
abbrev S1x1024 : Shape := ⟨2, ![1, 1024]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S512x1024 : Shape := ⟨2, ![512, 1024]⟩
abbrev S1024x1024 : Shape := ⟨2, ![1024, 1024]⟩
abbrev S2x2048x2048 : Shape := ⟨3, ![2, 2048, 2048]⟩
abbrev S2048 : Shape := ⟨1, ![2048]⟩
abbrev S1x1x2048 : Shape := ⟨3, ![1, 1, 2048]⟩
abbrev S4096x1024 : Shape := ⟨2, ![4096, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x1024, .f32⟩
  | .hbm, ⟨2, _⟩ => ⟨S2x2048x8704, .f32⟩
  | .hbm, ⟨3, _⟩ => ⟨S2x2048x1024, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x512x1024, .f32⟩
  | .hbm, ⟨9, _⟩ => ⟨S1x1024x1024, .f32⟩
  | .hbm, ⟨10, _⟩ => ⟨S1x1024x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S512x1024, .f32⟩
  | .hbm, ⟨52, _⟩ => ⟨S2x2048x1024, .f32⟩
  | .hbm, ⟨53, _⟩ => ⟨S1024x1024, .f32⟩
  | .hbm, ⟨54, _⟩ => ⟨S2x2048x1024, .f32⟩
  | .hbm, ⟨55, _⟩ => ⟨S2x2048x2048, .f32⟩
  | .hbm, ⟨56, _⟩ => ⟨S2048, .f32⟩
  | .hbm, ⟨57, _⟩ => ⟨S1x1x2048, .f32⟩
  | .hbm, ⟨58, _⟩ => ⟨S2x2048x2048, .f32⟩
  | .hbm, ⟨59, _⟩ => ⟨S2x2048x2048, .f32⟩
  | .hbm, ⟨60, _⟩ => ⟨S2x2048x2048, .f32⟩
  | .hbm, ⟨61, _⟩ => ⟨S2x2048x2048, .f32⟩
  | .hbm, ⟨62, _⟩ => ⟨S_, .f32⟩
  | .hbm, ⟨63, _⟩ => ⟨S2x2048x2048, .f32⟩
  | .hbm, ⟨64, _⟩ => ⟨S2x2048x2048, .f32⟩
  | .hbm, ⟨65, _⟩ => ⟨S_, .f32⟩
  | .hbm, ⟨66, _⟩ => ⟨S2x2048x2048, .f32⟩
  | .hbm, ⟨67, _⟩ => ⟨S2x2048x2048, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S1024x1024, .f32⟩
  | .hbm, ⟨74, _⟩ => ⟨S2x2048x1024, .f32⟩
  | .hbm, ⟨75, _⟩ => ⟨S2x2048x1024, .f32⟩
  | .hbm, ⟨76, _⟩ => ⟨S1024, .f32⟩
  | .hbm, ⟨77, _⟩ => ⟨S2x2048x1024, .f32⟩
  | .hbm, ⟨78, _⟩ => ⟨S_, .f32⟩
  | .hbm, ⟨79, _⟩ => ⟨S2x2048, .f32⟩
  | .hbm, ⟨80, _⟩ => ⟨S2x2048x1, .f32⟩
  | .hbm, ⟨81, _⟩ => ⟨S_, .f32⟩
  | .hbm, ⟨82, _⟩ => ⟨S2x2048x1, .f32⟩
  | .hbm, ⟨83, _⟩ => ⟨S2x2048x1, .f32⟩
  | .hbm, ⟨84, _⟩ => ⟨S_, .f32⟩
  | .hbm, ⟨85, _⟩ => ⟨S2x2048x1, .f32⟩
  | .hbm, ⟨86, _⟩ => ⟨S2x2048x1, .f32⟩
  | .hbm, ⟨87, _⟩ => ⟨S2x2048x1, .f32⟩
  | .hbm, ⟨88, _⟩ => ⟨S2x2048x1024, .f32⟩
  | .hbm, ⟨89, _⟩ => ⟨S2x2048x1024, .f32⟩
  | .hbm, ⟨90, _⟩ => ⟨S1x1x1024, .f32⟩
  | .hbm, ⟨91, _⟩ => ⟨S2x2048x1024, .f32⟩
  | .hbm, ⟨92, _⟩ => ⟨S2x2048x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S4096x1024, .bf16⟩
  | .hbm, ⟨101, _⟩ => ⟨S4096x1024, .bf16⟩
  | .hbm, ⟨102, _⟩ => ⟨S4096x1024, .bf16⟩
  | .hbm, ⟨103, _⟩ => ⟨S4096x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Kernel6.lean ====
abbrev S2x2048x1024 : Shape := ⟨3, ![2, 2048, 1024]⟩
abbrev S1x1024 : Shape := ⟨2, ![1, 1024]⟩
abbrev S1x1024x8704 : Shape := ⟨3, ![1, 1024, 8704]⟩
abbrev S4096x1024 : Shape := ⟨2, ![4096, 1024]⟩
abbrev S1024x8704 : Shape := ⟨2, ![1024, 8704]⟩
abbrev S8704x1024 : Shape := ⟨2, ![8704, 1024]⟩
abbrev S4096x8704 : Shape := ⟨2, ![4096, 8704]⟩
abbrev S256x1024 : Shape := ⟨2, ![256, 1024]⟩
abbrev S256x8704 : Shape := ⟨2, ![256, 8704]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S256x512 : Shape := ⟨2, ![256, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x8704, .f32⟩
  | .hbm, ⟨3, _⟩ => ⟨S4096x1024, .f32⟩
  | .hbm, ⟨4, _⟩ => ⟨S1024x8704, .f32⟩
  | .hbm, ⟨5, _⟩ => ⟨S1024x8704, .bf16⟩
  | .hbm, ⟨6, _⟩ => ⟨S8704x1024, .bf16⟩
  | .hbm, ⟨7, _⟩ => ⟨S4096x1024, .bf16⟩
  | .hbm, ⟨8, _⟩ => ⟨S4096x8704, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x8704, .f32⟩
  | .local _ .vmem, ⟨6, _⟩ => ⟨S256x8704, .f32⟩
  | .local _ .vmem, ⟨7, _⟩ => ⟨S8704x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x2048x1024 : Shape := ⟨3, ![2, 2048, 1024]⟩
abbrev S1x1024 : Shape := ⟨2, ![1, 1024]⟩
abbrev S1x1024x8704 : Shape := ⟨3, ![1, 1024, 8704]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1024x8704 : Shape := ⟨2, ![1024, 8704]⟩
abbrev S2x2048x8704 : Shape := ⟨3, ![2, 2048, 8704]⟩
abbrev S4096x8704 : Shape := ⟨2, ![4096, 8704]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x8704, .f32⟩
  | .hbm, ⟨3, _⟩ => ⟨S1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S4096x1024, .f32⟩
  | .hbm, ⟨21, _⟩ => ⟨S4096x1024, .bf16⟩
  | .hbm, ⟨22, _⟩ => ⟨S1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S1024x8704, .f32⟩
  | .hbm, ⟨40, _⟩ => ⟨S2x2048x8704, .f32⟩
  | .hbm, ⟨41, _⟩ => ⟨S4096x8704, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel7.lean ====
abbrev S2x2048x8704 : Shape := ⟨3, ![2, 2048, 8704]⟩
abbrev S24 : Shape := ⟨1, ![24]⟩
abbrev S2x2048x512 : Shape := ⟨3, ![2, 2048, 512]⟩
abbrev S1x2048x128 : Shape := ⟨3, ![1, 2048, 128]⟩
abbrev S2048x128 : Shape := ⟨2, ![2048, 128]⟩
abbrev S2176x128 : Shape := ⟨2, ![2176, 128]⟩
abbrev S16x128x256 : Shape := ⟨3, ![16, 128, 256]⟩
abbrev S3x2048x128 : Shape := ⟨3, ![3, 2048, 128]⟩
abbrev S256x256 : Shape := ⟨2, ![256, 256]⟩
abbrev S128x128 : Shape := ⟨2, ![128, 128]⟩
abbrev S1x128x128 : Shape := ⟨3, ![1, 128, 128]⟩
abbrev S1 : Shape := ⟨1, ![1]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S1x256x128 : Shape := ⟨3, ![1, 256, 128]⟩

abbrev nBuf : Space → Nat
  | .hbm => 4
  | .vmem => 29
  | .smem => 1
  | _ => 0

abbrev bufTy : (tb : Table) → Fin (tcTables nBuf tb) → BufTy
  | .hbm, ⟨0, _⟩ => ⟨S2x2048x8704, .f32⟩
  | .hbm, ⟨1, _⟩ => ⟨S24, .f32⟩
  | .hbm, ⟨2, _⟩ => ⟨S2x2048x512, .bf16⟩
  | .hbm, ⟨3, _⟩ => ⟨S2x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .f32⟩
  | .local _ .vmem, ⟨21, _⟩ => ⟨S1x2048x128, .f32⟩
  | .local _ .vmem, ⟨22, _⟩ => ⟨S2048x128, .bf16⟩
  | .local _ .vmem, ⟨23, _⟩ => ⟨S2176x128, .bf16⟩
  | .local _ .vmem, ⟨24, _⟩ => ⟨S2176x128, .bf16⟩
  | .local _ .vmem, ⟨25, _⟩ => ⟨S16x128x256, .bf16⟩
  | .local _ .vmem, ⟨26, _⟩ => ⟨S3x2048x128, .f32⟩
  | .local _ .vmem, ⟨27, _⟩ => ⟨S3x2048x128, .f32⟩
  | .local _ .vmem, ⟨28, _⟩ => ⟨S256x256, .f32⟩
  | .local _ .smem, ⟨0, _⟩ => ⟨S24, .f32⟩
  | _, _ => ⟨S2x2048x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 4], ![false, false]⟩

def k0_off1 (i : grid0.Coords) (c0_i32 : BitVec 32) (c0_i32_117 : BitVec 32) : Fin 1 → Nat :=
  let c2_i32 : BitVec 32 := 2#32
  let arg1 : BitVec 32 := BitVec.ofNat 32 (i 1).val
  let v158 : BitVec 32 := Scalar.muli c2_i32 arg1
  let v159 : BitVec 32 := Scalar.addi c0_i32 v158
  let v160 : BitVec 32 := Scalar.addi v159 c0_i32_117
  let v161 : Index := Scalar.indexCast v160
  ![v161.toNat]
@[reducible] def k0_t1_loop : Scf.Loop 32 :=
  let c0_i32_1801 : BitVec 32 := 0#32
  let c8_i32_1802 : BitVec 32 := 8#32
  let v3078 : BitVec 32 := Scalar.addi c0_i32_1801 c8_i32_1802
  let c1_i32_1803 : BitVec 32 := 1#32
  ⟨c0_i32_1801, v3078, c1_i32_1803⟩
def k0_mult1 (k0_t1 : Fin k0_t1_loop.trips) : BitVec 32 :=
  let c0_i32_1801 : BitVec 32 := 0#32
  let c1_i32_1803 : BitVec 32 := 1#32
  let arg21 : BitVec 32 := Scf.iv c0_i32_1801 c1_i32_1803 k0_t1
  let c256_i32 : BitVec 32 := 256#32
  let v3079 : BitVec 32 := Scalar.muli arg21 c256_i32
  v3079
def k0_off2 (k0_t1 : Fin k0_t1_loop.trips) : Fin 3 → Nat :=
  let c0_1805 : Index := 0#32
  let c0_i32_1801 : BitVec 32 := 0#32
  let c1_i32_1803 : BitVec 32 := 1#32
  let arg21 : BitVec 32 := Scf.iv c0_i32_1801 c1_i32_1803 k0_t1
  let c256_i32 : BitVec 32 := 256#32
  let v3079 : BitVec 32 := Scalar.muli arg21 c256_i32
  let v3080 : BitVec 32 := v3079
  let v3081 : Index := Scalar.indexCast v3080
  let c0_1806 : Index := 0#32
  ![0, v3081.toNat, 0]
def k0_off3 (k0_t1 : Fin k0_t1_loop.trips) : Fin 3 → Nat :=
  let c1_1807 : Index := 1#32
  let c0_i32_1801 : BitVec 32 := 0#32
  let c1_i32_1803 : BitVec 32 := 1#32
  let arg21 : BitVec 32 := Scf.iv c0_i32_1801 c1_i32_1803 k0_t1
  let c256_i32 : BitVec 32 := 256#32
  let v3079 : BitVec 32 := Scalar.muli arg21 c256_i32
  let v3080 : BitVec 32 := v3079
  let v3084 : Index := Scalar.indexCast v3080
  let c0_1808 : Index := 0#32
  ![1, v3084.toNat, 0]
def k0_off4 (k0_t1 : Fin k0_t1_loop.trips) : Fin 3 → Nat :=
  let c2_1809 : Index := 2#32
  let c0_i32_1801 : BitVec 32 := 0#32
  let c1_i32_1803 : BitVec 32 := 1#32
  let arg21 : BitVec 32 := Scf.iv c0_i32_1801 c1_i32_1803 k0_t1
  let c256_i32 : BitVec 32 := 256#32
  let v3079 : BitVec 32 := Scalar.muli arg21 c256_i32
  let v3080 : BitVec 32 := v3079
  let v3087 : Index := Scalar.indexCast v3080
  let c0_1810 : Index := 0#32
  ![2, v3087.toNat, 0]
def k0_off5 (k0_t1 : Fin k0_t1_loop.trips) : Fin 3 → Nat :=
  let c0_1817 : Index := 0#32
  let c0_i32_1801 : BitVec 32 := 0#32
  let c1_i32_1803 : BitVec 32 := 1#32
  let arg21 : BitVec 32 := Scf.iv c0_i32_1801 c1_i32_1803 k0_t1
  let c256_i32 : BitVec 32 := 256#32
  let v3079 : BitVec 32 := Scalar.muli arg21 c256_i32
  let v3080 : BitVec 32 := v3079
  let v3116 : Index := Scalar.indexCast v3080
  let c0_1818 : Index := 0#32
  ![0, v3116.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel7Ideal.lean ====
variable {F : FTy → Type} [FloatOps F] [Named F]
def κ : String → Option EReal := fun
  | "mask" => some ⊥
  | _ => none
-- ==== Proof.HostDefs.lean ====
module
public import proofs.«01_k».proof.Proof.Gen.KernelIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

section
variable (P : FVec Ideal S2x2048x8704 .f32) (D : FVec Ideal S2x2048x512 .f32)
def k_cst : FVec Ideal S3x8 .f32 := fun i => FloatOps.ofBits (F := Ideal) .f32 (lit0 (S3x8.rowMajor i))
def k_c : Vec Ideal S3 .i32 := fun i => lit1 (S3.rowMajor i)
def k_c_0 : Vec Ideal S3 .i32 := fun i => lit2 (S3.rowMajor i)
def k_cst_1 : FVec Ideal S24 .f32 := fun i => FloatOps.ofBits (F := Ideal) .f32 (lit3 (S24.rowMajor i))
def k_v0 : FVec Ideal S2x2048x1536 .f32 := ((extractStridedSlice S2x2048x1536 ![0, 0, 0] · slices_S2x2048x8704_S2x2048x1536_0_0_0)) P
def k_v1 : FVec Ideal S2x2048x3x8x64 .f32 := shapeCast S2x2048x3x8x64 (k_v0 P) shapeCasts_S2x2048x1536_S2x2048x3x8x64
def k_v2 : FVec Ideal S2x2048x1536 .f32 := ((extractStridedSlice S2x2048x1536 ![0, 0, 1536] · slices_S2x2048x8704_S2x2048x1536_0_0_1536)) P
def k_v3 : FVec Ideal S2x2048x3x8x64 .f32 := shapeCast S2x2048x3x8x64 (k_v2 P) shapeCasts_S2x2048x1536_S2x2048x3x8x64
def k_v4 : FVec Ideal S2x2048x1536 .f32 := ((extractStridedSlice S2x2048x1536 ![0, 0, 3072] · slices_S2x2048x8704_S2x2048x1536_0_0_3072)) P
def k_v5 : FVec Ideal S2x2048x3x8x64 .f32 := shapeCast S2x2048x3x8x64 (k_v4 P) shapeCasts_S2x2048x1536_S2x2048x3x8x64
def k_v6 : Vec Ideal S3x1x1 .i32 := (broadcastInDim S3x1x1 ![0] bcast_S3_S3x1x1_0) k_c
def k_v7 : Vec Ideal S3x1x1 .i32 := (broadcastInDim S3x1x1 ![0] bcast_S3_S3x1x1_0) k_c_0
def k_v8 : Vec Ideal S2048 .i32 := iotaInDim S2048 32 0
def k_v9 : Vec Ideal S2048x1 .i32 := (broadcastInDim S2048x1 ![0] bcast_S2048_S2048x1_0) k_v8
def k_v10 : Vec Ideal S2048 .i32 := iotaInDim S2048 32 0
def k_v11 : Vec Ideal S1x2048 .i32 := (broadcastInDim S1x2048 ![1] bcast_S2048_S1x2048_1) k_v10
def k_v12 : Vec Ideal S2048x2048 .i32 := (broadcastInDim S2048x2048 ![0, 1] bcast_S2048x1_S2048x2048_0_1) k_v9
def k_v13 : Vec Ideal S2048x2048 .i32 := (broadcastInDim S2048x2048 ![0, 1] bcast_S1x2048_S2048x2048_0_1) k_v11
def k_v14 : Vec Ideal S2048x2048 .i32 := (subi) k_v12 k_v13
def k_v15 : Vec Ideal S1x2048x2048 .i32 := (broadcastInDim S1x2048x2048 ![1, 2] bcast_S2048x2048_S1x2048x2048_1_2) k_v14
def k_c_2 : Vec Ideal S_ .i32 := constantI S_ 32 0#32
def k_v16 : Vec Ideal S1x2048x2048 .i32 := (broadcastInDim S1x2048x2048 ![] bcast_S_S1x2048x2048) k_c_2
def k_v17 : Vec Ideal S1x2048x2048 .i1 := (cmpi .sge) k_v15 k_v16
def k_v18 : Vec Ideal S3x2048x2048 .i32 := (broadcastInDim S3x2048x2048 ![0, 1, 2] bcast_S1x2048x2048_S3x2048x2048_0_1_2) k_v15
def k_v19 : Vec Ideal S3x2048x2048 .i32 := (broadcastInDim S3x2048x2048 ![0, 1, 2] bcast_S3x1x1_S3x2048x2048_0_1_2) k_v6
def k_v20 : Vec Ideal S3x2048x2048 .i1 := (cmpi .sle) k_v18 k_v19
def k_v21 : Vec Ideal S3x2048x2048 .i1 := (broadcastInDim S3x2048x2048 ![0, 1, 2] bcast_S1x2048x2048_S3x2048x2048_0_1_2) k_v17
def k_v22 : Vec Ideal S3x2048x2048 .i1 := (andi) k_v21 k_v20
def k_v23 : Vec Ideal S3x2048x2048 .i32 := (broadcastInDim S3x2048x2048 ![0, 1, 2] bcast_S1x2048x2048_S3x2048x2048_0_1_2) k_v15
def k_v24 : Vec Ideal S3x2048x2048 .i32 := (broadcastInDim S3x2048x2048 ![0, 1, 2] bcast_S3x1x1_S3x2048x2048_0_1_2) k_v7
def k_v25 : Vec Ideal S3x2048x2048 .i32 := (Host.remsi) k_v23 k_v24
def k_c_3 : Vec Ideal S_ .i32 := constantI S_ 32 0#32
def k_v26 : Vec Ideal S3x2048x2048 .i32 := (broadcastInDim S3x2048x2048 ![] bcast_S_S3x2048x2048) k_c_3
def k_v27 : Vec Ideal S3x2048x2048 .i1 := (cmpi .eq) k_v25 k_v26
def k_v28 : Vec Ideal S3x2048x2048 .i1 := (andi) k_v22 k_v27
def k_v29 : Vec Ideal S2048x2048 .i32 := shapeCast S2048x2048 k_v15 shapeCasts_S1x2048x2048_S2048x2048
def k_v30 : FVec Ideal S2048x2048 .f32 := (sitofp (F := Ideal) .f32) k_v29
def k_v31 : FVec Ideal S2x3x8x2048x2048 .f32 := ((fun l r => Host.dotGeneral dot_S2x2048x3x8x64_S2x2048x3x8x64_S2x3x8x2048x2048_4_4_1_1_023_023 none l r)) (k_v1 P) (k_v3 P)
def k_cst_4 : FVec Ideal S_ .f32 := constant (F := Ideal) S_ .f32 0x3E000000#32
def k_v32 : FVec Ideal S2x3x8x2048x2048 .f32 := (broadcastInDim S2x3x8x2048x2048 ![] bcast_S_S2x3x8x2048x2048) k_cst_4
def k_v33 : FVec Ideal S2x3x8x2048x2048 .f32 := (mulf) (k_v31 P) k_v32
def k_v34 : FVec Ideal S3x8x1x1 .f32 := (broadcastInDim S3x8x1x1 ![0, 1] bcast_S3x8_S3x8x1x1_0_1) k_cst
def k_v35 : FVec Ideal S1x1x2048x2048 .f32 := (broadcastInDim S1x1x2048x2048 ![2, 3] bcast_S2048x2048_S1x1x2048x2048_2_3) k_v30
def k_v36 : FVec Ideal S3x8x2048x2048 .f32 := (broadcastInDim S3x8x2048x2048 ![0, 1, 2, 3] bcast_S3x8x1x1_S3x8x2048x2048_0_1_2_3) k_v34
def k_v37 : FVec Ideal S3x8x2048x2048 .f32 := (broadcastInDim S3x8x2048x2048 ![0, 1, 2, 3] bcast_S1x1x2048x2048_S3x8x2048x2048_0_1_2_3) k_v35
def k_v38 : FVec Ideal S3x8x2048x2048 .f32 := (mulf) k_v36 k_v37
def k_v39 : FVec Ideal S1x3x8x2048x2048 .f32 := (broadcastInDim S1x3x8x2048x2048 ![1, 2, 3, 4] bcast_S3x8x2048x2048_S1x3x8x2048x2048_1_2_3_4) k_v38
def k_v40 : FVec Ideal S2x3x8x2048x2048 .f32 := (broadcastInDim S2x3x8x2048x2048 ![0, 1, 2, 3, 4] bcast_S1x3x8x2048x2048_S2x3x8x2048x2048_0_1_2_3_4) k_v39
def k_v41 : FVec Ideal S2x3x8x2048x2048 .f32 := (subf) (k_v33 P) k_v40
def k_v42 : Vec Ideal S1x3x1x2048x2048 .i1 := (broadcastInDim S1x3x1x2048x2048 ![1, 3, 4] bcast_S3x2048x2048_S1x3x1x2048x2048_1_3_4) k_v28
def k_cst_5 : FVec Ideal S_ .f32 := constant (F := Ideal) S_ .f32 0xFF800000#32
def k_call0_v0 : FVec Ideal S_ .f32 := id k_cst_5
def k_call0_v1 : Vec Ideal S2x3x8x2048x2048 .i1 := (broadcastInDim S2x3x8x2048x2048 ![0, 1, 2, 3, 4] bcast_S1x3x1x2048x2048_S2x3x8x2048x2048_0_1_2_3_4) k_v42
def k_call0_v2 : FVec Ideal S2x3x8x2048x2048 .f32 := (broadcastInDim S2x3x8x2048x2048 ![] bcast_S_S2x3x8x2048x2048) k_call0_v0
def k_v43 : FVec Ideal S2x3x8x2048x2048 .f32 := select k_call0_v1 (k_v41 P) k_call0_v2
def k_cst_6 : FVec Ideal S_ .f32 := constant (F := Ideal) S_ .f32 0xFF800000#32
def k_v44 : FVec Ideal S2x3x8x2048 .f32 := ((fun x v => Host.reduce FloatOps.maximumf x v reducesTo_S2x3x8x2048x2048_S2x3x8x2048_d4 h_S_)) (k_v43 P) k_cst_6
def k_v45 : FVec Ideal S2x3x8x2048x1 .f32 := (broadcastInDim S2x3x8x2048x1 ![0, 1, 2, 3] bcast_S2x3x8x2048_S2x3x8x2048x1_0_1_2_3) (k_v44 P)
def k_v46 : FVec Ideal S2x3x8x2048x2048 .f32 := (broadcastInDim S2x3x8x2048x2048 ![0, 1, 2, 3, 4] bcast_S2x3x8x2048x1_S2x3x8x2048x2048_0_1_2_3_4) (k_v45 P)
def k_v47 : FVec Ideal S2x3x8x2048x2048 .f32 := (subf) (k_v43 P) (k_v46 P)
def k_v48 : FVec Ideal S2x3x8x2048x2048 .f32 := (Host.exp) (k_v47 P)
def k_cst_7 : FVec Ideal S_ .f32 := constant (F := Ideal) S_ .f32 0x00000000#32
def k_v49 : FVec Ideal S2x3x8x2048 .f32 := ((fun x v => Host.reduceAdd x v reducesTo_S2x3x8x2048x2048_S2x3x8x2048_d4 h_S_)) (k_v48 P) k_cst_7
def k_v50 : FVec Ideal S2x3x8x2048x64 .f32 := ((fun l r => Host.dotGeneral dot_S2x3x8x2048x2048_S2x2048x3x8x64_S2x3x8x2048x64_4_1_3_4_012_023 none l r)) (k_v48 P) (k_v5 P)
def k_v51 : FVec Ideal S2x3x8x2048x1 .f32 := (broadcastInDim S2x3x8x2048x1 ![0, 1, 2, 3] bcast_S2x3x8x2048_S2x3x8x2048x1_0_1_2_3) (k_v49 P)
def k_v52 : FVec Ideal S2x3x8x2048x64 .f32 := (broadcastInDim S2x3x8x2048x64 ![0, 1, 2, 3, 4] bcast_S2x3x8x2048x1_S2x3x8x2048x64_0_1_2_3_4) (k_v51 P)
def k_v53 : FVec Ideal S2x3x8x2048x64 .f32 := (Host.divf) (k_v50 P) (k_v52 P)
def k_v54 : FVec Ideal S2x3x8x2048 .f32 := shapeCast S2x3x8x2048 (k_v45 P) shapeCasts_S2x3x8x2048x1_S2x3x8x2048
def k_v55 : FVec Ideal S2x3x8x2048 .f32 := (Host.log) (k_v49 P)
def k_v56 : FVec Ideal S2x3x8x2048 .f32 := (addf) (k_v54 P) (k_v55 P)
def k_v57 : FVec Ideal S2x1x8x2048 .f32 := ((extractStridedSlice S2x1x8x2048 ![0, 0, 0, 0] · slices_S2x3x8x2048_S2x1x8x2048_0_0_0_0)) (k_v56 P)
def k_v58 : FVec Ideal S2x8x2048 .f32 := shapeCast S2x8x2048 (k_v57 P) shapeCasts_S2x1x8x2048_S2x8x2048
def k_v59 : FVec Ideal S2x1x8x2048 .f32 := ((extractStridedSlice S2x1x8x2048 ![0, 1, 0, 0] · slices_S2x3x8x2048_S2x1x8x2048_0_1_0_0)) (k_v56 P)
def k_v60 : FVec Ideal S2x8x2048 .f32 := shapeCast S2x8x2048 (k_v59 P) shapeCasts_S2x1x8x2048_S2x8x2048
def k_v61 : FVec Ideal S2x1x8x2048 .f32 := ((extractStridedSlice S2x1x8x2048 ![0, 2, 0, 0] · slices_S2x3x8x2048_S2x1x8x2048_0_2_0_0)) (k_v56 P)
def k_v62 : FVec Ideal S2x8x2048 .f32 := shapeCast S2x8x2048 (k_v61 P) shapeCasts_S2x1x8x2048_S2x8x2048
def k_v63 : FVec Ideal S2x8x2048 .f32 := (maximumf) (k_v58 P) (k_v60 P)
def k_v64 : FVec Ideal S2x8x2048 .f32 := (maximumf) (k_v63 P) (k_v62 P)
def k_v65 : FVec Ideal S2x8x2048 .f32 := (subf) (k_v58 P) (k_v64 P)
def k_v66 : FVec Ideal S2x8x2048 .f32 := (Host.exp) (k_v65 P)
def k_v67 : FVec Ideal S2x8x2048 .f32 := (subf) (k_v60 P) (k_v64 P)
def k_v68 : FVec Ideal S2x8x2048 .f32 := (Host.exp) (k_v67 P)
def k_v69 : FVec Ideal S2x8x2048 .f32 := (subf) (k_v62 P) (k_v64 P)
def k_v70 : FVec Ideal S2x8x2048 .f32 := (Host.exp) (k_v69 P)
def k_v71 : FVec Ideal S2x8x2048 .f32 := (addf) (k_v66 P) (k_v68 P)
def k_v72 : FVec Ideal S2x8x2048 .f32 := (addf) (k_v71 P) (k_v70 P)
def k_v73 : FVec Ideal S2x8x2048x1 .f32 := (broadcastInDim S2x8x2048x1 ![0, 1, 2] bcast_S2x8x2048_S2x8x2048x1_0_1_2) (k_v66 P)
def k_v74 : FVec Ideal S2x1x8x2048x64 .f32 := ((extractStridedSlice S2x1x8x2048x64 ![0, 0, 0, 0, 0] · slices_S2x3x8x2048x64_S2x1x8x2048x64_0_0_0_0_0)) (k_v53 P)
def k_v75 : FVec Ideal S2x8x2048x64 .f32 := shapeCast S2x8x2048x64 (k_v74 P) shapeCasts_S2x1x8x2048x64_S2x8x2048x64
def k_v76 : FVec Ideal S2x8x2048x64 .f32 := (broadcastInDim S2x8x2048x64 ![0, 1, 2, 3] bcast_S2x8x2048x1_S2x8x2048x64_0_1_2_3) (k_v73 P)
def k_v77 : FVec Ideal S2x8x2048x64 .f32 := (mulf) (k_v76 P) (k_v75 P)
def k_v78 : FVec Ideal S2x8x2048x1 .f32 := (broadcastInDim S2x8x2048x1 ![0, 1, 2] bcast_S2x8x2048_S2x8x2048x1_0_1_2) (k_v68 P)
def k_v79 : FVec Ideal S2x1x8x2048x64 .f32 := ((extractStridedSlice S2x1x8x2048x64 ![0, 1, 0, 0, 0] · slices_S2x3x8x2048x64_S2x1x8x2048x64_0_1_0_0_0)) (k_v53 P)
def k_v80 : FVec Ideal S2x8x2048x64 .f32 := shapeCast S2x8x2048x64 (k_v79 P) shapeCasts_S2x1x8x2048x64_S2x8x2048x64
def k_v81 : FVec Ideal S2x8x2048x64 .f32 := (broadcastInDim S2x8x2048x64 ![0, 1, 2, 3] bcast_S2x8x2048x1_S2x8x2048x64_0_1_2_3) (k_v78 P)
def k_v82 : FVec Ideal S2x8x2048x64 .f32 := (mulf) (k_v81 P) (k_v80 P)
def k_v83 : FVec Ideal S2x8x2048x64 .f32 := (addf) (k_v77 P) (k_v82 P)
def k_v84 : FVec Ideal S2x8x2048x1 .f32 := (broadcastInDim S2x8x2048x1 ![0, 1, 2] bcast_S2x8x2048_S2x8x2048x1_0_1_2) (k_v70 P)
def k_v85 : FVec Ideal S2x1x8x2048x64 .f32 := ((extractStridedSlice S2x1x8x2048x64 ![0, 2, 0, 0, 0] · slices_S2x3x8x2048x64_S2x1x8x2048x64_0_2_0_0_0)) (k_v53 P)
def k_v86 : FVec Ideal S2x8x2048x64 .f32 := shapeCast S2x8x2048x64 (k_v85 P) shapeCasts_S2x1x8x2048x64_S2x8x2048x64
def k_v87 : FVec Ideal S2x8x2048x64 .f32 := (broadcastInDim S2x8x2048x64 ![0, 1, 2, 3] bcast_S2x8x2048x1_S2x8x2048x64_0_1_2_3) (k_v84 P)
def k_v88 : FVec Ideal S2x8x2048x64 .f32 := (mulf) (k_v87 P) (k_v86 P)
def k_v89 : FVec Ideal S2x8x2048x64 .f32 := (addf) (k_v83 P) (k_v88 P)
def k_v90 : FVec Ideal S2x8x2048x1 .f32 := (broadcastInDim S2x8x2048x1 ![0, 1, 2] bcast_S2x8x2048_S2x8x2048x1_0_1_2) (k_v72 P)
def k_v91 : FVec Ideal S2x8x2048x64 .f32 := (broadcastInDim S2x8x2048x64 ![0, 1, 2, 3] bcast_S2x8x2048x1_S2x8x2048x64_0_1_2_3) (k_v90 P)
def k_v92 : FVec Ideal S2x8x2048x64 .f32 := (Host.divf) (k_v89 P) (k_v91 P)
def k_v93 : FVec Ideal S2x2048x8x64 .f32 := shapeCast S2x2048x8x64 D shapeCasts_S2x2048x512_S2x2048x8x64
def k_v94 : FVec Ideal S2x8x2048x64 .f32 := ((transpose S2x8x2048x64 [0, 2, 1, 3] · transposes_S2x2048x8x64_S2x8x2048x64_0_2_1_3)) (k_v93 D)
def k_v95 : FVec Ideal S2x8x2048x64 .f32 := (mulf) (k_v94 D) (k_v92 P)
def k_cst_8 : FVec Ideal S_ .f32 := constant (F := Ideal) S_ .f32 0x00000000#32
def k_v96 : FVec Ideal S2x8x2048 .f32 := ((fun x v => Host.reduceAdd x v reducesTo_S2x8x2048x64_S2x8x2048_d3 h_S_)) (k_v95 P D) k_cst_8
def k_v97 : FVec Ideal S2x8x2048 .f32 := (Host.log) (k_v72 P)
def k_v98 : FVec Ideal S2x8x2048 .f32 := (addf) (k_v64 P) (k_v97 P)
def k_v99 : FVec Ideal S2x2048x8 .f32 := ((transpose S2x2048x8 [0, 2, 1] · transposes_S2x8x2048_S2x2048x8_0_2_1)) (k_v98 P)
def k_v100 : FVec Ideal S2x2048x8x1 .f32 := (broadcastInDim S2x2048x8x1 ![0, 1, 2] bcast_S2x2048x8_S2x2048x8x1_0_1_2) (k_v99 P)
def k_v101 : FVec Ideal S2x2048x8x64 .f32 := (broadcastInDim S2x2048x8x64 ![0, 1, 2, 3] bcast_S2x2048x8x1_S2x2048x8x64_0_1_2_3) (k_v100 P)
def k_v102 : FVec Ideal S2x2048x512 .f32 := shapeCast S2x2048x512 (k_v101 P) shapeCasts_S2x2048x8x64_S2x2048x512
def k_v103 : FVec Ideal S2x2048x8 .f32 := ((transpose S2x2048x8 [0, 2, 1] · transposes_S2x8x2048_S2x2048x8_0_2_1)) (k_v96 P D)
def k_v104 : FVec Ideal S2x2048x8x1 .f32 := (broadcastInDim S2x2048x8x1 ![0, 1, 2] bcast_S2x2048x8_S2x2048x8x1_0_1_2) (k_v103 P D)
def k_v105 : FVec Ideal S2x2048x8x64 .f32 := (broadcastInDim S2x2048x8x64 ![0, 1, 2, 3] bcast_S2x2048x8x1_S2x2048x8x64_0_1_2_3) (k_v104 P D)
def k_v106 : FVec Ideal S2x2048x512 .f32 := shapeCast S2x2048x512 (k_v105 P D) shapeCasts_S2x2048x8x64_S2x2048x512
end

end Cert.KernelIdeal.Value
-- ==== Proof.Unit.lean ====
module
public import proofs.«01_k».proof.Proof.Gen.KernelIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- A sum of reals, as an extended real. -/
theorem csum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Lane `d` of the `hh`-th of the two heads of a lane block. -/
abbrev hd (hh : Fin 2) (d : Fin 64) : Fin 128 := ⟨64 * hh.val + d.val, by omega⟩
/-- The head a lane belongs to. -/
abbrev headOf (x : Fin 128) : Fin 2 := ⟨x.val / 64, by omega⟩
/-- The head and the row of a stacked row. -/
abbrev rowH (r : Fin 256) : Fin 2 := ⟨r.val / 128, by omega⟩
abbrev rowQ (r : Fin 256) : Fin 128 := ⟨r.val % 128, by omega⟩
/-- The stacked row of a head and a row. -/
abbrev stk (hh : Fin 2) (q : Fin 128) : Fin 256 := ⟨128 * hh.val + q.val, by omega⟩

theorem rowH_stk (hh : Fin 2) (q : Fin 128) : rowH (stk hh q) = hh := Fin.ext (by show (128 * hh.val + q.val) / 128 = _; omega)
theorem rowQ_stk (hh : Fin 2) (q : Fin 128) : rowQ (stk hh q) = q := Fin.ext (by show (128 * hh.val + q.val) % 128 = _; omega)

/-- A sum over the lanes of one head. -/
theorem sum_head (hh : Fin 2) (f : Fin 128 → ℝ) : ∑ x, (if headOf x = hh then f x else 0) = ∑ d, f (hd hh d) := by
  rw [← Finset.sum_filter]
  refine (Finset.sum_nbij (fun d => hd hh d) (fun d _ => ?_) (fun a _ b _ h => ?_) (fun x hx => ?_) fun _ _ => rfl).symm
  · simp only [Finset.mem_filter, Finset.mem_univ, true_and]; exact Fin.ext (by show (64 * hh.val + d.val) / 64 = _; omega)
  · have := congrArg Fin.val h; exact Fin.ext (by simpa using this)
  · simp only [Finset.coe_filter, Finset.mem_univ, true_and, Set.mem_setOf_eq] at hx
    have := congrArg Fin.val hx
    exact ⟨⟨x.val % 64, by omega⟩, Finset.mem_coe.2 (Finset.mem_univ _), Fin.ext (by show 64 * hh.val + x.val % 64 = x.val; simp only at this; omega)⟩

/-- A sum over the stacked rows, of which those of the other head vanish. -/
theorem sum_stk (hh : Fin 2) (f : Fin 256 → ℝ) : ∑ r, (if hh = rowH r then f r else 0) = ∑ q, f (stk hh q) := by
  rw [← Finset.sum_filter]
  refine (Finset.sum_nbij (fun q => stk hh q) (fun d _ => ?_) (fun a _ b _ h => ?_) (fun x hx => ?_) fun _ _ => rfl).symm
  · simp only [Finset.mem_filter, Finset.mem_univ, true_and]; exact (rowH_stk _ _).symm
  · have := congrArg Fin.val h; exact Fin.ext (by simpa using this)
  · simp only [Finset.coe_filter, Finset.mem_univ, true_and, Set.mem_setOf_eq] at hx
    have := congrArg Fin.val hx
    exact ⟨⟨x.val % 128, by omega⟩, Finset.mem_coe.2 (Finset.mem_univ _), Fin.ext (by show 128 * hh.val + x.val % 128 = x.val; simp only at this; omega)⟩

theorem low_select {α : Type} (x : Fin 128) (a b : α) :
    Scalar.select (IntOp.cmpi CmpIPredicate.slt (BitVec.ofNat 32 x.val) 64#32) a b = if x.val < 64 then a else b := by
  have : ∀ x : Fin 128, (IntOp.cmpi CmpIPredicate.slt (BitVec.ofNat 32 x.val) 64#32) = if x.val < 64 then 1#1 else 0#1 := by decide
  rw [this]; unfold Scalar.select; split <;> simp

/-- What a normal binary32 pattern denotes, from its three fields. -/
theorem f32_lit (b : BitVec 32) (neg : Bool) (ex fr : ℕ) (h1 : (b.extractLsb' 31 1 == 1#1) = neg)
    (h2 : (b.extractLsb' 23 8).toNat = ex) (h3 : (b.extractLsb' 0 23).toNat = fr) (hx : ex ≠ 255) (h0 : ex ≠ 0) :
    Ideal.ofBits .f32 b = (((if neg then -1 else 1) * (2 ^ 23 + fr : ℕ) * (2 : ℝ) ^ ((ex : ℤ) - 150) : ℝ) : EReal) := by
  simp only [Ideal.ofBits, Ideal.ieee]
  rw [h1, h2, h3, if_neg (by simpa using hx), if_neg h0]
  have : (ex : ℤ) - (2 ^ (8 - 1) - 1) - (23 : ℕ) = (ex : ℤ) - 150 := by norm_num; ring
  rw [this]

theorem c8 : Ideal.ofBits .f32 0x3E000000#32 = ((1 / 8 : ℝ) : EReal) := by
  rw [f32_lit _ false 124 0 (by decide) (by decide) (by decide) (by decide) (by decide)]
  norm_num [zpow_neg]

section
variable {n : ℕ} (o : ℕ) (qf dof : Fin 128 → Fin 128 → ℝ) (kf vf : Fin n → Fin 128 → ℝ) (sl : Fin 2 → ℝ) (lf df : Fin 2 → Fin 128 → ℝ)

/-- The softmax weight of query row `q` and key column `kc` of head `hh`. -/
def pl (hh : Fin 2) (q : Fin 128) (kc : Fin n) : ℝ :=
  if q.val ≤ kc.val + o ∧ kc.val + o ≤ q.val + 128 then
    Real.exp ((∑ d, qf q (hd hh d) * kf kc (hd hh d)) * (1 / 8) + -(sl hh) * ((q.val : ℝ) + 128 - (kc.val + o : ℕ)) - lf hh q) else 0
/-- The score's gradient. -/
def dl (hh : Fin 2) (q : Fin 128) (kc : Fin n) : ℝ :=
  pl o qf kf sl lf hh q kc * ((∑ d, dof q (hd hh d) * vf kc (hd hh d)) - df hh q)
/-- The bias of a stacked row and a key column. -/
def bl (r : Fin 256) (kc : Fin n) : EReal :=
  if (rowQ r).val ≤ kc.val + o ∧ kc.val + o ≤ (rowQ r).val + 128 then
    ((-(sl (rowH r)) * (((rowQ r).val : ℝ) + 128 - (kc.val + o : ℕ)) : ℝ) : EReal) else ⊥
def uq (q x : Fin 128) : ℝ := (∑ kc, dl o qf dof kf vf sl lf df (headOf x) q kc * kf kc x) * (1 / 8)
def uk (kc : Fin n) (x : Fin 128) : ℝ := (∑ q, dl o qf dof kf vf sl lf df (headOf x) q kc * qf q x) * (1 / 8)
def uv (kc : Fin n) (x : Fin 128) : ℝ := ∑ q, pl o qf kf sl lf (headOf x) q kc * dof q x
end

/-- The stacked queries: each head's rows hold that head's lanes. -/
theorem pay30_at (Q : Vec Ideal S128x128 .bf16) (qf : Fin 128 → Fin 128 → ℝ) (hQ : ∀ q x, Q (ix2 q x) = (qf q x : EReal)) (r : Fin 256) (x : Fin 128) :
    k0_pay30 (F := Ideal) k0_pay1 Q (ix2 r x) = ((if headOf x = rowH r then qf (rowQ r) x else 0 : ℝ) : EReal) := by
  pointwise [k0_pay30, k0_pay1, low_select, hQ]
  have hr := r.isLt; have hx := x.isLt
  rcases Nat.lt_or_ge r.val 128 with h | h
  · rw [dif_pos h]
    have e1 : rowH r = 0 := Fin.ext (by show r.val / 128 = 0; omega)
    have e2 : rowQ r = ⟨r.val, h⟩ := Fin.ext (by show r.val % 128 = r.val; omega)
    rw [e1, e2]
    rcases Nat.lt_or_ge x.val 64 with g | g
    · rw [if_pos g, if_pos (Fin.ext (by show x.val / 64 = 0; omega))]
    · rw [if_neg (by omega), if_neg (fun he => by have := congrArg Fin.val he; simp only [Fin.val_zero] at this; omega)]; rfl
  · rw [dif_neg (by omega)]
    have e1 : rowH r = 1 := Fin.ext (by show r.val / 128 = 1; omega)
    have e2 : rowQ r = ⟨r.val - 128, by omega⟩ := Fin.ext (by show r.val % 128 = r.val - 128; omega)
    rw [e1, e2]
    rcases Nat.lt_or_ge x.val 64 with g | g
    · rw [if_pos g, if_neg (fun he => by have := congrArg Fin.val he; simp only [Fin.val_one] at this; omega)]; rfl
    · rw [if_neg (by omega), if_pos (Fin.ext (by show x.val / 64 = 1; omega))]

theorem pay31_at (Q : Vec Ideal S128x128 .bf16) (qf : Fin 128 → Fin 128 → ℝ) (hQ : ∀ q x, Q (ix2 q x) = (qf q x : EReal)) (r : Fin 256) (x : Fin 128) :
    k0_pay31 (F := Ideal) k0_pay1 Q (ix2 r x) = ((if headOf x = rowH r then qf (rowQ r) x else 0 : ℝ) : EReal) := pay30_at Q qf hQ r x

/-- The stacked per-row scalars. -/
theorem pay32_at (L : Vec Ideal S128x128 .f32) (lf : Fin 2 → Fin 128 → ℝ) (hL : ∀ q x, L (ix2 q x) = (lf (headOf x) q : EReal)) (r : Fin 256) :
    k0_pay32 (F := Ideal) L (ix2 r 0) = (lf (rowH r) (rowQ r) : EReal) := by
  pointwise [k0_pay32, hL]
  have hr := r.isLt
  rcases Nat.lt_or_ge r.val 128 with h | h
  · rw [dif_pos h]
    have e1 : rowH r = headOf 0 := Fin.ext (by show r.val / 128 = 0 / 64; omega)
    have e2 : rowQ r = ⟨r.val, h⟩ := Fin.ext (by show r.val % 128 = r.val; omega)
    rw [e1, e2]
  · rw [dif_neg (by omega)]
    have e1 : rowH r = headOf 64 := Fin.ext (by show r.val / 128 = 64 / 64; omega)
    have e2 : rowQ r = ⟨r.val - 128, by omega⟩ := Fin.ext (by show r.val % 128 = r.val - 128; omega)
    rw [e1, e2]

/-- The products over a head's lanes. -/
theorem score_sum {n : ℕ} (qf : Fin 128 → Fin 128 → ℝ) (kf : Fin n → Fin 128 → ℝ) (r : Fin 256) (kc : Fin n) :
    ∑ x, ((if headOf x = rowH r then qf (rowQ r) x else 0 : ℝ) : EReal) * (kf kc x : EReal)
      = ((∑ d, qf (rowQ r) (hd (rowH r) d) * kf kc (hd (rowH r) d) : ℝ) : EReal) := by
  simp only [← EReal.coe_mul, ite_mul, zero_mul]
  rw [csum, sum_head (rowH r) fun x => qf (rowQ r) x * kf kc x]

/-- The exponential of a biased score. -/
theorem exp_at {n : ℕ} (o : ℕ) (qf : Fin 128 → Fin 128 → ℝ) (kf : Fin n → Fin 128 → ℝ) (sl : Fin 2 → ℝ) (lf : Fin 2 → Fin 128 → ℝ) (r : Fin 256) (kc : Fin n) :
    Ideal.exp (((∑ d, qf (rowQ r) (hd (rowH r) d) * kf kc (hd (rowH r) d) : ℝ) : EReal) * ((1 / 8 : ℝ) : EReal) + bl o sl r kc - (lf (rowH r) (rowQ r) : EReal))
      = (pl o qf kf sl lf (rowH r) (rowQ r) kc : EReal) := by
  unfold bl pl
  split
  · rw [← EReal.coe_mul, ← EReal.coe_add, ← EReal.coe_sub]; rfl
  · rw [EReal.add_bot, EReal.bot_sub]; rfl

end Cert.KernelIdeal.Value
-- ==== Proof.Layout.lean ====
module
public import proofs.«01_k».proof.Proof.Gen.KernelIdeal.Value
public import proofs.«01_k».proof.Proof.Unit
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The time of layout position `s`: the 2048 times are laid out class by class, a class being a residue modulo `r`. -/
def tau (r s : ℕ) : ℕ := (s % (2048 / r)) * r + s / (2048 / r)
/-- Key time `u` is seen by query time `t`: in the window and a multiple of the dilation before. -/
def valid (r t u : ℕ) : Prop := u ≤ t ∧ t - u ≤ 128 * r ∧ (t - u) % r = 0
instance (r t u : ℕ) : Decidable (valid r t u) := inferInstanceAs (Decidable (_ ∧ _ ∧ _))

theorem tau_lt {r s : ℕ} (hr : r = 1 ∨ r = 4 ∨ r = 16) (hs : s < 2048) : tau r s < 2048 := by
  unfold tau; rcases hr with rfl | rfl | rfl <;> norm_num <;> omega

theorem tau_inj {r s s' : ℕ} (hr : r = 1 ∨ r = 4 ∨ r = 16) (hs : s < 2048) (hs' : s' < 2048) (h : tau r s = tau r s') : s = s' := by
  unfold tau at h; rcases hr with rfl | rfl | rfl <;> norm_num at h <;> omega

/-- A time from its residue and its position in the class. -/
theorem tau_at {r c j : ℕ} (hr : r = 1 ∨ r = 4 ∨ r = 16) (hj : j < 2048 / r) : tau r (c * (2048 / r) + j) = j * r + c := by
  have h0 : 0 < 2048 / r := by omega
  unfold tau
  rw [Nat.mul_comm c, Nat.mul_add_mod, Nat.mod_eq_of_lt hj, Nat.mul_add_div h0, Nat.div_eq_of_lt hj, Nat.add_zero]

theorem tau_surj {r t : ℕ} (hr : r = 1 ∨ r = 4 ∨ r = 16) (ht : t < 2048) : ∃ s, s < 2048 ∧ tau r s = t := by
  have hj : t / r < 2048 / r := by rcases hr with rfl | rfl | rfl <;> norm_num <;> omega
  refine ⟨(t % r) * (2048 / r) + t / r, ?_, ?_⟩
  · rcases hr with rfl | rfl | rfl <;> norm_num <;> omega
  · rw [tau_at hr hj, Nat.mul_comm]; exact Nat.div_add_mod t r

/-- A class of a position. -/
theorem tau_mod {r s : ℕ} (hr : r = 1 ∨ r = 4 ∨ r = 16) (hs : s < 2048) : tau r s % r = s / (2048 / r) ∧ tau r s / r = s % (2048 / r) := by
  have hc : s / (2048 / r) < r := by rcases hr with rfl | rfl | rfl <;> norm_num <;> omega
  have hr0 : 0 < r := by omega
  unfold tau
  rw [Nat.mul_comm, Nat.mul_add_mod, Nat.mod_eq_of_lt hc, Nat.mul_add_div hr0, Nat.div_eq_of_lt hc, Nat.add_zero]
  exact ⟨rfl, rfl⟩

/-- What a seen key says of the two positions. -/
theorem valid_pos {r s s' : ℕ} (hr : r = 1 ∨ r = 4 ∨ r = 16) (hs : s < 2048) (hs' : s' < 2048) (h : valid r (tau r s) (tau r s')) :
    s / (2048 / r) = s' / (2048 / r) ∧ s' ≤ s ∧ s ≤ s' + 128 := by
  obtain ⟨h1, h2, h3⟩ := h
  have a := tau_mod hr hs
  have b := tau_mod hr hs'
  have hm : tau r s % r = tau r s' % r := by
    generalize tau r s = x at *
    generalize tau r s' = y at *
    rcases hr with rfl | rfl | rfl <;> omega
  have hd : tau r s' / r ≤ tau r s / r ∧ tau r s / r ≤ tau r s' / r + 128 := by
    generalize tau r s = x at *
    generalize tau r s' = y at *
    rcases hr with rfl | rfl | rfl <;> omega
  rw [a.1, b.1] at hm
  rw [a.2, b.2] at hd
  refine ⟨hm, ?_⟩
  rcases hr with rfl | rfl | rfl <;> norm_num at hm hd ⊢ <;> omega

/-- The key positions of a unit lie a fixed number of steps before its query positions. -/
theorem tau_step {r u q j : ℕ} (hr : r = 1 ∨ r = 4 ∨ r = 16) (hu : u < 16) (hq : q < 128) (hj : j < 256) (hn : u % (16 / r) ≠ 0 ∨ 128 ≤ j) :
    tau r (128 * u + q) + r * j = tau r (128 * u + j - 128) + r * (q + 128) := by
  unfold tau; rcases hr with rfl | rfl | rfl <;> norm_num at hn ⊢ <;> omega

theorem valid_iff {r u q j : ℕ} (hr : r = 1 ∨ r = 4 ∨ r = 16) (hu : u < 16) (hq : q < 128) (hj : j < 256) (hn : u % (16 / r) ≠ 0 ∨ 128 ≤ j) :
    valid r (tau r (128 * u + q)) (tau r (128 * u + j - 128)) ↔ q ≤ j ∧ j ≤ q + 128 := by
  have h := tau_step hr hu hq hj hn
  unfold valid
  rcases hr with rfl | rfl | rfl <;> omega

/-- A query of unit `u` sees only keys of the unit before it and of its own. -/
theorem valid_key {r u q s : ℕ} (hr : r = 1 ∨ r = 4 ∨ r = 16) (hu : u < 16) (hq : q < 128) (hs : s < 2048)
    (h : valid r (tau r (128 * u + q)) (tau r s)) :
    128 * u ≤ s + 128 ∧ s < 128 * u + 128 ∧ (u % (16 / r) = 0 → 128 * u ≤ s) := by
  obtain ⟨h1, h2, h3⟩ := valid_pos hr (by omega) hs h
  rcases hr with rfl | rfl | rfl <;> norm_num at h1 ⊢ <;> omega

/-- A key of unit `b` is seen only by queries of its own unit and of the next. -/
theorem valid_query {r b k s : ℕ} (hr : r = 1 ∨ r = 4 ∨ r = 16) (hb : b < 16) (hk : k < 128) (hs : s < 2048)
    (h : valid r (tau r s) (tau r (128 * b + k))) :
    128 * b ≤ s ∧ s < 128 * b + 256 ∧ ((b + 1) % (16 / r) = 0 → s < 128 * b + 128) := by
  obtain ⟨h1, h2, h3⟩ := valid_pos hr hs (by omega) h
  rcases hr with rfl | rfl | rfl <;> norm_num at h1 ⊢ <;> omega

section
variable (r : ℕ) (qb kb vb dob : ℕ → Fin 128 → ℝ) (sl : Fin 2 → ℝ) (lb db : Fin 2 → ℕ → ℝ)

/-- The softmax weight of key time `u` for query time `t`. -/
def wt (hh : Fin 2) (t u : ℕ) : ℝ :=
  if valid r t u then Real.exp ((∑ d, qb t (hd hh d) * kb u (hd hh d)) * (1 / 8) + -(sl hh) * ((t : ℝ) - u) - lb hh t) else 0
/-- The score's gradient at `t`, `u`. -/
def dst (hh : Fin 2) (t u : ℕ) : ℝ := wt r qb kb sl lb hh t u * ((∑ d, dob t (hd hh d) * vb u (hd hh d)) - db hh t)
/-- The gradients with respect to queries, keys and values. -/
def dqt (t : ℕ) (x : Fin 128) : ℝ := (∑ u : Fin 2048, dst r qb kb vb dob sl lb db (headOf x) t u * kb u x) * (1 / 8)
def dkt (u : ℕ) (x : Fin 128) : ℝ := (∑ t : Fin 2048, dst r qb kb vb dob sl lb db (headOf x) t u * qb t x) * (1 / 8)
def dvt (u : ℕ) (x : Fin 128) : ℝ := ∑ t : Fin 2048, wt r qb kb sl lb (headOf x) t u * dob t x

/-- Unit `u`'s part of the key gradient at its key column `j`, and of the value gradient. -/
def pk (u j : ℕ) (x : Fin 128) : ℝ :=
  (∑ q : Fin 128, dst r qb kb vb dob sl lb db (headOf x) (tau r (128 * u + q)) (tau r (128 * u + j - 128)) * qb (tau r (128 * u + q)) x) * (1 / 8)
def pv (u j : ℕ) (x : Fin 128) : ℝ :=
  ∑ q : Fin 128, wt r qb kb sl lb (headOf x) (tau r (128 * u + q)) (tau r (128 * u + j - 128)) * dob (tau r (128 * u + q)) x

section
variable {n o u : ℕ} (hr : r = 1 ∨ r = 4 ∨ r = 16) (hu : u < 16) (ho : n + o = 256) (hn : u % (16 / r) ≠ 0 ∨ o = 128)
include hr hu ho hn

theorem pl_eq (hh : Fin 2) (q : Fin 128) (kc : Fin n) :
    pl o (fun q => qb (tau r (128 * u + q))) (fun kc : Fin n => kb (tau r (128 * u + (kc.val + o) - 128))) (fun h => sl h * r)
      (fun h q => lb h (tau r (128 * u + q))) hh q kc = wt r qb kb sl lb hh (tau r (128 * u + q)) (tau r (128 * u + (kc.val + o) - 128)) := by
  have hn' : u % (16 / r) ≠ 0 ∨ 128 ≤ kc.val + o := by rcases hn with h | h; exact .inl h; exact .inr (by omega)
  unfold pl wt
  simp only [valid_iff hr hu q.isLt (j := kc.val + o) (by omega) hn']
  split
  · congr 2
    have h := tau_step hr hu q.isLt (j := kc.val + o) (by omega) hn'
    have h2 : ((tau r (128 * u + q.val) + r * (kc.val + o) : ℕ) : ℝ) = ((tau r (128 * u + (kc.val + o) - 128) + r * (q.val + 128) : ℕ) : ℝ) := by rw [h]
    push_cast at h2 ⊢
    congr 1
    linear_combination (sl hh) * h2
  · rfl

theorem dl_eq (hh : Fin 2) (q : Fin 128) (kc : Fin n) :
    dl o (fun q => qb (tau r (128 * u + q))) (fun q => dob (tau r (128 * u + q))) (fun kc : Fin n => kb (tau r (128 * u + (kc.val + o) - 128)))
      (fun kc : Fin n => vb (tau r (128 * u + (kc.val + o) - 128))) (fun h => sl h * r)
      (fun h q => lb h (tau r (128 * u + q))) (fun h q => db h (tau r (128 * u + q))) hh q kc
      = dst r qb kb vb dob sl lb db hh (tau r (128 * u + q)) (tau r (128 * u + (kc.val + o) - 128)) := by
  unfold dl dst
  rw [pl_eq r qb kb sl lb hr hu ho hn]

theorem uk_eq (kc : Fin n) (x : Fin 128) :
    uk o (fun q => qb (tau r (128 * u + q))) (fun q => dob (tau r (128 * u + q))) (fun kc : Fin n => kb (tau r (128 * u + (kc.val + o) - 128)))
      (fun kc : Fin n => vb (tau r (128 * u + (kc.val + o) - 128))) (fun h => sl h * r)
      (fun h q => lb h (tau r (128 * u + q))) (fun h q => db h (tau r (128 * u + q))) kc x
      = pk r qb kb vb dob sl lb db u (kc.val + o) x := by
  unfold uk pk
  simp only [dl_eq r qb kb vb dob sl lb db hr hu ho hn]

theorem uv_eq (kc : Fin n) (x : Fin 128) :
    uv o (fun q => qb (tau r (128 * u + q))) (fun q => dob (tau r (128 * u + q))) (fun kc : Fin n => kb (tau r (128 * u + (kc.val + o) - 128)))
      (fun h => sl h * r) (fun h q => lb h (tau r (128 * u + q))) kc x = pv r qb kb dob sl lb u (kc.val + o) x := by
  unfold uv pv
  simp only [pl_eq r qb kb sl lb hr hu ho hn]

theorem uq_eq (hz : u % (16 / r) = 0 → o = 128) (hz' : u % (16 / r) ≠ 0 → o = 0) (q x : Fin 128) :
    uq o (fun q => qb (tau r (128 * u + q))) (fun q => dob (tau r (128 * u + q))) (fun kc : Fin n => kb (tau r (128 * u + (kc.val + o) - 128)))
      (fun kc : Fin n => vb (tau r (128 * u + (kc.val + o) - 128))) (fun h => sl h * r)
      (fun h q => lb h (tau r (128 * u + q))) (fun h q => db h (tau r (128 * u + q))) q x
      = dqt r qb kb vb dob sl lb db (tau r (128 * u + q)) x := by
  unfold uq dqt
  simp only [dl_eq r qb kb vb dob sl lb db hr hu ho hn]
  congr 1
  have hu0 : u = 0 → u % (16 / r) = 0 := by rintro rfl; exact Nat.zero_mod _
  have hlt : ∀ kc : Fin n, 128 * u + (kc.val + o) - 128 < 2048 := fun kc => by have := kc.isLt; omega
  refine Finset.sum_of_injOn (fun kc : Fin n => (⟨tau r (128 * u + (kc.val + o) - 128), tau_lt hr (hlt kc)⟩ : Fin 2048)) ?_ (fun _ _ => Finset.mem_coe.2 (Finset.mem_univ _)) ?_ ?_
  · intro a _ b _ h
    have := tau_inj hr (hlt a) (hlt b) (congrArg Fin.val h)
    have h1 : 128 ≤ 128 * u + o := by by_cases h : u % (16 / r) = 0; have := hz h; omega; have := hz' h; have : u ≠ 0 := fun h' => h (hu0 h'); omega
    exact Fin.ext (by omega)
  · intro i _ hi
    have : ¬ valid r (tau r (128 * u + q)) i := by
      intro hv
      obtain ⟨s, hs, hs'⟩ := tau_surj hr i.isLt
      rw [← hs'] at hv
      obtain ⟨h1, h2, h3⟩ := valid_key hr hu q.isLt hs hv
      refine hi ⟨⟨s + 128 - 128 * u - o, ?_⟩, Finset.mem_coe.2 (Finset.mem_univ _), Fin.ext ?_⟩
      · by_cases h : u % (16 / r) = 0
        · have := hz h; have := h3 h; omega
        · have := hz' h; omega
      · show tau r (128 * u + (s + 128 - 128 * u - o + o) - 128) = i.val
        rw [← hs']; congr 1
        by_cases h : u % (16 / r) = 0
        · have := hz h; have := h3 h; omega
        · have := hz' h; omega
    unfold dst wt; rw [if_neg this]; ring
  · intro i _; rfl
end

/-- A sum over the query times of a key of unit `b`, as its own unit's and the next one's. -/
theorem sum_query {b k : ℕ} (hr : r = 1 ∨ r = 4 ∨ r = 16) (hb : b < 16) (hk : k < 128) (f : ℕ → ℝ)
    (hf : ∀ t, ¬ valid r t (tau r (128 * b + k)) → f t = 0) :
    ∑ t : Fin 2048, f t = (∑ q : Fin 128, f (tau r (128 * b + q))) + if (b + 1) % (16 / r) = 0 then 0 else ∑ q : Fin 128, f (tau r (128 * (b + 1) + q)) := by
  have h16 : b + 1 = 16 → (b + 1) % (16 / r) = 0 := by intro h; rw [h]; rcases hr with rfl | rfl | rfl <;> rfl
  by_cases h : (b + 1) % (16 / r) = 0
  · rw [if_pos h, add_zero]
    refine (Finset.sum_of_injOn (fun q : Fin 128 => (⟨tau r (128 * b + q), tau_lt hr (by omega)⟩ : Fin 2048)) ?_ (fun _ _ => Finset.mem_coe.2 (Finset.mem_univ _)) ?_ fun _ _ => rfl).symm
    · intro x _ y _ e
      have := tau_inj hr (by omega) (by omega) (congrArg Fin.val e); exact Fin.ext (by omega)
    · intro i _ hi
      refine hf _ fun hv => ?_
      obtain ⟨s, hs, hs'⟩ := tau_surj hr i.isLt
      rw [← hs'] at hv
      obtain ⟨h1, h2, h3⟩ := valid_query hr hb hk hs hv
      have := h3 h
      exact hi ⟨⟨s - 128 * b, by omega⟩, Finset.mem_coe.2 (Finset.mem_univ _), Fin.ext (by show tau r (128 * b + (s - 128 * b)) = i.val; rw [← hs']; congr 1; omega)⟩
  · rw [if_neg h]
    have hb' : b + 1 < 16 := by omega
    have e256 : ∑ i : Fin 256, f (tau r (128 * b + i)) = (∑ q : Fin 128, f (tau r (128 * b + q))) + ∑ q : Fin 128, f (tau r (128 * (b + 1) + q)) := by
      rw [Fin.sum_univ_add (a := 128) (b := 128) fun i : Fin 256 => f (tau r (128 * b + i))]
      refine congrArg₂ _ rfl (Finset.sum_congr rfl fun q _ => ?_)
      show f (tau r (128 * b + (128 + q.val))) = _
      congr 2; omega
    rw [← e256]
    refine (Finset.sum_of_injOn (fun q : Fin 256 => (⟨tau r (128 * b + q), tau_lt hr (by omega)⟩ : Fin 2048)) ?_ (fun _ _ => Finset.mem_coe.2 (Finset.mem_univ _)) ?_ fun _ _ => rfl).symm
    · intro x _ y _ e
      have := tau_inj hr (by omega) (by omega) (congrArg Fin.val e); exact Fin.ext (by omega)
    · intro i _ hi
      refine hf _ fun hv => ?_
      obtain ⟨s, hs, hs'⟩ := tau_surj hr i.isLt
      rw [← hs'] at hv
      obtain ⟨h1, h2, h3⟩ := valid_query hr hb hk hs hv
      exact hi ⟨⟨s - 128 * b, by omega⟩, Finset.mem_coe.2 (Finset.mem_univ _), Fin.ext (by show tau r (128 * b + (s - 128 * b)) = i.val; rw [← hs']; congr 1; omega)⟩

section
variable {b k : ℕ} (hr : r = 1 ∨ r = 4 ∨ r = 16) (hb : b < 16) (hk : k < 128) (x : Fin 128)
include hr hb hk

theorem dk_eq : pk r qb kb vb dob sl lb db b (k + 128) x + (if (b + 1) % (16 / r) = 0 then 0 else pk r qb kb vb dob sl lb db (b + 1) k x)
    = dkt r qb kb vb dob sl lb db (tau r (128 * b + k)) x := by
  unfold dkt
  rw [sum_query r hr hb hk (fun t => dst r qb kb vb dob sl lb db (headOf x) t (tau r (128 * b + k)) * qb t x)
    (fun t h => by unfold dst wt; rw [if_neg h]; ring)]
  unfold pk
  have e1 : 128 * b + (k + 128) - 128 = 128 * b + k := by omega
  have e2 : 128 * (b + 1) + k - 128 = 128 * b + k := by omega
  rw [e1, e2]
  split <;> ring

theorem dv_eq : pv r qb kb dob sl lb b (k + 128) x + (if (b + 1) % (16 / r) = 0 then 0 else pv r qb kb dob sl lb (b + 1) k x)
    = dvt r qb kb dob sl lb (tau r (128 * b + k)) x := by
  unfold dvt
  rw [sum_query r hr hb hk (fun t => wt r qb kb sl lb (headOf x) t (tau r (128 * b + k)) * dob t x)
    (fun t h => by unfold wt; rw [if_neg h]; ring)]
  unfold pv
  have e1 : 128 * b + (k + 128) - 128 = 128 * b + k := by omega
  have e2 : 128 * (b + 1) + k - 128 = 128 * b + k := by omega
  rw [e1, e2]
end
end

end Cert.KernelIdeal.Value
-- ==== Proof.HostM.lean ====
module
public import proofs.«01_k».proof.Proof.Gen.KernelIdeal.Value
public import proofs.«01_k».proof.Proof.HostDefs
public import proofs.«01_k».proof.Proof.Layout
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The three dilations. -/
abbrev rad (g : Fin 3) : ℕ := match g with | 0 => 1 | 1 => 4 | 2 => 16
/-- The column of section `s` (queries, keys, values), group `g`, head `h`, feature `e`. -/
abbrev col (s g : Fin 3) (h : Fin 8) (e : Fin 64) : Fin 8704 := ⟨s.val * 1536 + (g.val * 512 + h.val * 64 + e.val), by omega⟩

/-- The place of a group and head among the 24 slopes. -/
abbrev sidx (g : Fin 3) (h : Fin 8) : Fin 24 := ⟨g.val * 8 + h.val, by omega⟩

theorem ofNat_int' (p : Fin 2048) : (BitVec.ofNat 32 p.val).toInt = p.val := by
  have hp := p.isLt
  rw [BitVec.toInt_eq_toNat_of_lt (by rw [BitVec.toNat_ofNat, Nat.mod_eq_of_lt (by omega)]; omega), BitVec.toNat_ofNat, Nat.mod_eq_of_lt (by omega)]
theorem sub_int' (p q : Fin 2048) : (IntOp.subi (BitVec.ofNat 32 p.val) (BitVec.ofNat 32 q.val)).toInt = (p.val : ℤ) - q.val := by
  have hp := p.isLt; have hq := q.isLt
  show (BitVec.ofNat 32 p.val - BitVec.ofNat 32 q.val).toInt = _
  rw [BitVec.toInt_sub, ofNat_int', ofNat_int']
  simp only [Int.bmod]
  omega
theorem sub_real' (p q : Fin 2048) : FloatOps.sitofp (F := Ideal) FTy.f32 (IntOp.subi (BitVec.ofNat 32 p.val) (BitVec.ofNat 32 q.val)) = (((p.val : ℝ) - q.val : ℝ) : EReal) := by
  show (((IntOp.subi (BitVec.ofNat 32 p.val) (BitVec.ofNat 32 q.val)).toInt : ℝ) : EReal) = _
  rw [sub_int']; push_cast; rfl

/-- The mask's three tests on the word of a difference of two times. -/
theorem mask_word (w : BitVec 32) (n r : ℕ) (b c : BitVec 32) (hb : b.toInt = n) (hc : c.toInt = r) (hr : 0 < r) (hc1 : c ≠ 0#32) (hc2 : c ≠ -1#32) :
    IntOp.andi (IntOp.andi (IntOp.cmpi CmpIPredicate.sge w 0#32) (IntOp.cmpi CmpIPredicate.sle w b))
      (IntOp.cmpi CmpIPredicate.eq (IntOp.remsi ArithUnit.host w c) 0#32)
      = if 0 ≤ w.toInt ∧ w.toInt ≤ n ∧ w.toInt.tmod r = 0 then 1#1 else 0#1 := by
  have e1 : IntOp.cmpi CmpIPredicate.sge w 0#32 = BitVec.ofBool (decide (0 ≤ w.toInt)) := rfl
  have e2 : IntOp.cmpi CmpIPredicate.sle w b = BitVec.ofBool (decide (w.toInt ≤ n)) := by rw [← hb]; rfl
  have e3 : IntOp.cmpi CmpIPredicate.eq (IntOp.remsi ArithUnit.host w c) 0#32 = BitVec.ofBool (decide (w.toInt.tmod r = 0)) := by
    unfold IntOp.remsi
    rw [if_neg (by rintro (h | h); exact hc1 h; exact hc2 h.2)]
    unfold IntOp.cmpi
    dsimp only
    congr 1
    rw [← hc, ← BitVec.toInt_srem]
    apply Bool.eq_iff_iff.mpr
    rw [beq_iff_eq, decide_eq_true_iff]
    constructor
    · intro h; rw [h]; rfl
    · intro h; exact BitVec.toInt_inj.1 h
  rw [e1, e2, e3]
  by_cases h1 : 0 ≤ w.toInt <;> by_cases h2 : w.toInt ≤ n <;> by_cases h3 : w.toInt.tmod r = 0 <;> simp [h1, h2, h3, IntOp.andi]

/-- The mask of group `g` at query time `t` and key time `u`. -/
theorem k_v28_at (g : Fin 3) (t u : Fin 2048) : k_v28 (ix3 g t u) = if valid (rad g) t u then 1#1 else 0#1 := by
  pointwise [k_v28, k_v22, k_v27, k_v21, k_v20, k_v17, k_v25, k_v26, k_v18, k_v19, k_v16, k_v15, k_v23, k_v24, k_v14, k_v12, k_v13, k_v9, k_v8, k_v11, k_v10, k_v6, k_v7, k_c, k_c_0, k_c_2, k_c_3]
  have ht := t.isLt; have hu := u.isLt
  have key : ∀ (r : ℕ), (r = 1 ∨ r = 4 ∨ r = 16) → ((0 ≤ ((t.val : ℤ) - u.val) ∧ ((t.val : ℤ) - u.val) ≤ (128 * r : ℕ) ∧ ((t.val : ℤ) - u.val).tmod r = 0) ↔ valid r t u) := by
    intro r hr
    unfold valid
    by_cases h : u.val ≤ t.val
    · have e : ((t.val : ℤ) - u.val) = ((t.val - u.val : ℕ) : ℤ) := by omega
      have e2 : (((t.val - u.val : ℕ) : ℤ)).tmod r = (((t.val - u.val) % r : ℕ) : ℤ) := rfl
      rw [e, e2]
      omega
    · constructor
      · rintro ⟨h1, _⟩; omega
      · rintro ⟨h1, _⟩; exact absurd h1 h
  match g with
  | 0 => rw [show lit1 (S3.rowMajor (ix1 (0 : Fin 3))) = 128#32 from rfl, show lit2 (S3.rowMajor (ix1 (0 : Fin 3))) = 1#32 from rfl,
      mask_word _ 128 1 _ _ (by decide) (by decide) (by decide) (by decide) (by decide), sub_int']; exact if_congr (key 1 (.inl rfl)) rfl rfl
  | 1 => rw [show lit1 (S3.rowMajor (ix1 (1 : Fin 3))) = 512#32 from rfl, show lit2 (S3.rowMajor (ix1 (1 : Fin 3))) = 4#32 from rfl,
      mask_word _ 512 4 _ _ (by decide) (by decide) (by decide) (by decide) (by decide), sub_int']; exact if_congr (key 4 (.inr (.inl rfl))) rfl rfl
  | 2 => rw [show lit1 (S3.rowMajor (ix1 (2 : Fin 3))) = 2048#32 from rfl, show lit2 (S3.rowMajor (ix1 (2 : Fin 3))) = 16#32 from rfl,
      mask_word _ 2048 16 _ _ (by decide) (by decide) (by decide) (by decide) (by decide), sub_int']; exact if_congr (key 16 (.inr (.inr rfl))) rfl rfl

/-- The slope of a head and group, a real number, and the kernel's table: the slope times the dilation. -/
theorem slopes_real : ∀ (g : Fin 3) (h : Fin 8), ∃ x : ℝ, Ideal.ofBits .f32 (lit0 (sidx g h)) = (x : EReal) ∧
    Ideal.ofBits .f32 (lit3 (sidx g h)) = ((x * (rad g : ℕ) : ℝ) : EReal) := by
  intro g h
  have lit : ∀ (a b : BitVec 32) (ea eb fr : ℕ) (r k : ℕ), (a.extractLsb' 31 1 == 1#1) = false → (b.extractLsb' 31 1 == 1#1) = false →
      (a.extractLsb' 23 8).toNat = ea → (b.extractLsb' 23 8).toNat = eb → (a.extractLsb' 0 23).toNat = fr → (b.extractLsb' 0 23).toNat = fr →
      ea ≠ 255 → ea ≠ 0 → eb ≠ 255 → eb ≠ 0 → eb = ea + k → r = 2 ^ k →
      ∃ x : ℝ, Ideal.ofBits .f32 a = (x : EReal) ∧ Ideal.ofBits .f32 b = ((x * (r : ℕ) : ℝ) : EReal) := by
    intro a b ea eb fr r k h1 h2 h3 h4 h5 h6 h7 h8 h9 h10 h11 h12
    refine ⟨_, f32_lit a false ea fr h1 h3 h5 h7 h8, ?_⟩
    rw [f32_lit b false eb fr h2 h4 h6 h9 h10]
    refine congrArg (fun z : ℝ => (z : EReal)) ?_
    rw [h11, h12, show (((ea + k : ℕ) : ℤ) - 150) = ((ea : ℤ) - 150) + (k : ℕ) by push_cast; ring, zpow_add₀ (by norm_num), zpow_natCast]
    push_cast; ring
  fin_cases g <;> fin_cases h <;>
    first
    | exact lit _ _ _ _ _ 1 0 (by decide) (by decide) rfl rfl rfl rfl (by decide) (by decide) (by decide) (by decide) (by decide) (by decide)
    | exact lit _ _ _ _ _ 4 2 (by decide) (by decide) rfl rfl rfl rfl (by decide) (by decide) (by decide) (by decide) (by decide) (by decide)
    | exact lit _ _ _ _ _ 16 4 (by decide) (by decide) rfl rfl rfl rfl (by decide) (by decide) (by decide) (by decide) (by decide) (by decide)

end Cert.KernelIdeal.Value
-- ==== Proof.HostR.lean ====
module
public import proofs.«01_k».proof.Proof.Gen.KernelIdeal.Value
public import proofs.«01_k».proof.Proof.HostM
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The slope of group `g` and head `h`. -/
def slR (g : Fin 3) (h : Fin 8) : ℝ := (slopes_real g h).choose
theorem slR_at (g : Fin 3) (h : Fin 8) : Ideal.ofBits .f32 (lit0 (sidx g h)) = (slR g h : EReal) := (slopes_real g h).choose_spec.1
theorem slR3_at (g : Fin 3) (h : Fin 8) : Ideal.ofBits .f32 (lit3 (sidx g h)) = ((slR g h * (rad g : ℕ) : ℝ) : EReal) := (slopes_real g h).choose_spec.2

/-- The greatest of finitely many values from minus infinity is one of them and at least each, if there is a value above it. -/
theorem fold_max_mem {ι : Type*} (s : Finset ι) (f : ι → EReal) (h : s.Nonempty) : (∃ i ∈ s, s.fold max ⊥ f = f i) ∧ ∀ i ∈ s, f i ≤ s.fold max ⊥ f := by
  classical
  constructor
  · induction s using Finset.induction_on with
    | empty => exact absurd h (by simp)
    | insert a s ha ih =>
      rw [Finset.fold_insert ha]
      rcases s.eq_empty_or_nonempty with rfl | hs
      · exact ⟨a, by simp, by simp⟩
      · obtain ⟨i, hi, e⟩ := ih hs
        rcases le_total (f a) (s.fold max ⊥ f) with hle | hle
        · exact ⟨i, Finset.mem_insert_of_mem hi, by rw [max_eq_right hle, e]⟩
        · exact ⟨a, Finset.mem_insert_self _ _, max_eq_left hle⟩
  · intro i hi
    exact (Finset.le_fold_max _).2 (.inr ⟨i, hi, le_rfl⟩)

section
variable (p : S2x2048x8704.Idx → ℝ) (dd : S2x2048x512.Idx → ℝ)
/-- A query, key or value entry of section `s`. -/
def qkv (s : Fin 3) (b : Fin 2) (t : Fin 2048) (g : Fin 3) (h : Fin 8) (e : Fin 64) : ℝ := p (ix3 b t (col s g h e))
/-- The biased score. -/
def sc (b : Fin 2) (g : Fin 3) (h : Fin 8) (t u : Fin 2048) : ℝ :=
  (∑ e, qkv p 0 b t g h e * qkv p 1 b u g h e) * (1 / 8) - slR g h * ((t.val : ℝ) - u.val)
/-- The row's greatest score. -/
def mx (b : Fin 2) (g : Fin 3) (h : Fin 8) (t : Fin 2048) : ℝ := (k_v44 (fun i => (p i : EReal)) (ix4 b g h t)).toReal
/-- The row's exponentials, their sum, the mean of the values, and the logarithm of the sum. -/
def W (b : Fin 2) (g : Fin 3) (h : Fin 8) (t u : Fin 2048) : ℝ := if valid (rad g) t u then Real.exp (sc p b g h t u - mx p b g h t) else 0
def Z (b : Fin 2) (g : Fin 3) (h : Fin 8) (t : Fin 2048) : ℝ := ∑ u, W p b g h t u
def N (b : Fin 2) (g : Fin 3) (h : Fin 8) (t : Fin 2048) (e : Fin 64) : ℝ := ∑ u, W p b g h t u * qkv p 2 b u g h e
def O (b : Fin 2) (g : Fin 3) (h : Fin 8) (t : Fin 2048) (e : Fin 64) : ℝ := N p b g h t e / Z p b g h t
def L (b : Fin 2) (g : Fin 3) (h : Fin 8) (t : Fin 2048) : ℝ := mx p b g h t + Real.log (Z p b g h t)
/-- The greatest of the three groups, the groups' exponentials and their sum. -/
def T (b : Fin 2) (h : Fin 8) (t : Fin 2048) : ℝ := max (max (L p b 0 h t) (L p b 1 h t)) (L p b 2 h t)
def E (b : Fin 2) (g : Fin 3) (h : Fin 8) (t : Fin 2048) : ℝ := Real.exp (L p b g h t - T p b h t)
def Tot (b : Fin 2) (h : Fin 8) (t : Fin 2048) : ℝ := E p b 0 h t + E p b 1 h t + E p b 2 h t
/-- The attention's output, its row log-sum and its row sum against the cotangent. -/
def A (b : Fin 2) (h : Fin 8) (t : Fin 2048) (e : Fin 64) : ℝ :=
  (E p b 0 h t * O p b 0 h t e + E p b 1 h t * O p b 1 h t e + E p b 2 h t * O p b 2 h t e) / Tot p b h t
def LS (b : Fin 2) (h : Fin 8) (t : Fin 2048) : ℝ := T p b h t + Real.log (Tot p b h t)
/-- The column of head `h`, feature `e`. -/
abbrev hcol (h : Fin 8) (e : Fin 64) : Fin 512 := ⟨h.val * 64 + e.val, by omega⟩
def ct (b : Fin 2) (t : Fin 2048) (h : Fin 8) (e : Fin 64) : ℝ := dd (ix3 b t (hcol h e))
def DS (b : Fin 2) (h : Fin 8) (t : Fin 2048) : ℝ := ∑ e, ct dd b t h e * A p b h t e

variable (P : FVec Ideal S2x2048x8704 .f32) (D : FVec Ideal S2x2048x512 .f32)
theorem k_v1_at (b : Fin 2) (t : Fin 2048) (g : Fin 3) (h : Fin 8) (e : Fin 64) : k_v1 P (ix5 b t g h e) = P (ix3 b t (col 0 g h e)) := by
  pointwise [k_v1, k_v0]
  refine congrArg (fun z => P (ix3 b t z)) (Fin.ext ?_)
  show g.val * 512 + h.val * 64 + e.val = 0 * 1536 + (g.val * 512 + h.val * 64 + e.val); omega
theorem k_v3_at (b : Fin 2) (t : Fin 2048) (g : Fin 3) (h : Fin 8) (e : Fin 64) : k_v3 P (ix5 b t g h e) = P (ix3 b t (col 1 g h e)) := by
  pointwise [k_v3, k_v2]
  try rfl
  try (refine congrArg (fun z => P (ix3 b t z)) (Fin.ext ?_); show 1536 + (g.val * 512 + h.val * 64 + e.val) = 1 * 1536 + (g.val * 512 + h.val * 64 + e.val); omega)
theorem k_v5_at (b : Fin 2) (t : Fin 2048) (g : Fin 3) (h : Fin 8) (e : Fin 64) : k_v5 P (ix5 b t g h e) = P (ix3 b t (col 2 g h e)) := by
  pointwise [k_v5, k_v4]
  try rfl
  try (refine congrArg (fun z => P (ix3 b t z)) (Fin.ext ?_); show 3072 + (g.val * 512 + h.val * 64 + e.val) = 2 * 1536 + (g.val * 512 + h.val * 64 + e.val); omega)
theorem cbot : Ideal.ofBits .f32 0xFF800000#32 = (⊥ : EReal) := by
  simp [Ideal.ofBits, Ideal.ieee]

theorem k_v43_at (b : Fin 2) (g : Fin 3) (h : Fin 8) (t u : Fin 2048) : k_v43 P (ix5 b g h t u) =
    Scalar.select (k_v28 (ix3 g t u)) ((∑ x, k_v1 P (ix5 b t g h x) * k_v3 P (ix5 b u g h x)) * Ideal.ofBits FTy.f32 0x3E000000#32 -
        Ideal.ofBits FTy.f32 (lit0 (S3x8.rowMajor (ix2 g h))) * FloatOps.sitofp (F := Ideal) FTy.f32 (IntOp.subi (BitVec.ofNat 32 t.val) (BitVec.ofNat 32 u.val)))
      (Ideal.ofBits .f32 0xFF800000#32) := by
  pointwise [k_v43, k_call0_v1, k_call0_v2, k_call0_v0, k_cst_5, k_v42, k_v41, k_v40, k_v39, k_v38, k_v37, k_v36, k_v35, k_v34, k_cst, k_v33, k_v32, k_cst_4, k_v31, k_v30, k_v29, k_v15, k_v14, k_v13, k_v12, k_v11, k_v10, k_v9, k_v8]
  rfl
theorem k_v44_at (b : Fin 2) (g : Fin 3) (h : Fin 8) (t : Fin 2048) : k_v44 P (ix4 b g h t) = Finset.univ.fold max (Ideal.ofBits .f32 0xFF800000#32) fun x => k_v43 P (ix5 b g h t x) := by
  pointwise [k_v44, k_cst_6]
theorem k_v48_at (b : Fin 2) (g : Fin 3) (h : Fin 8) (t u : Fin 2048) : k_v48 P (ix5 b g h t u) = Ideal.exp (k_v43 P (ix5 b g h t u) - k_v44 P (ix4 b g h t)) := by
  pointwise [k_v48, k_v47, k_v46, k_v45]
theorem k_v49_at (b : Fin 2) (g : Fin 3) (h : Fin 8) (t : Fin 2048) : k_v49 P (ix4 b g h t) = ∑ x, k_v48 P (ix5 b g h t x) := by
  pointwise [k_v49, k_cst_7]
theorem k_v50_at (b : Fin 2) (g : Fin 3) (h : Fin 8) (t : Fin 2048) (e : Fin 64) : k_v50 P (ix5 b g h t e) = ∑ x, k_v48 P (ix5 b g h t x) * k_v5 P (ix5 b x g h e) := by
  pointwise [k_v50]
theorem k_v53_at (b : Fin 2) (g : Fin 3) (h : Fin 8) (t : Fin 2048) (e : Fin 64) : k_v53 P (ix5 b g h t e) = Ideal.div (k_v50 P (ix5 b g h t e)) (k_v49 P (ix4 b g h t)) := by
  pointwise [k_v53, k_v52, k_v51]
end

/-! The later lines, each over variables. -/
section
variable (x44 x49 : FVec Ideal S2x3x8x2048 .f32) (a b c d : FVec Ideal S2x8x2048 .f32) (o : FVec Ideal S2x3x8x2048x64 .f32) (y : FVec Ideal S2x8x2048x64 .f32) (D : FVec Ideal S2x2048x512 .f32)
def f56 : FVec Ideal S2x3x8x2048 .f32 := addf (shapeCast S2x3x8x2048 (broadcastInDim S2x3x8x2048x1 ![0, 1, 2, 3] bcast_S2x3x8x2048_S2x3x8x2048x1_0_1_2_3 x44) shapeCasts_S2x3x8x2048x1_S2x3x8x2048) (Host.log x49)
def f92 : FVec Ideal S2x8x2048x64 .f32 :=
  Host.divf (addf (addf
    (mulf (broadcastInDim S2x8x2048x64 ![0, 1, 2, 3] bcast_S2x8x2048x1_S2x8x2048x64_0_1_2_3 (broadcastInDim S2x8x2048x1 ![0, 1, 2] bcast_S2x8x2048_S2x8x2048x1_0_1_2 a))
      (shapeCast S2x8x2048x64 (extractStridedSlice S2x1x8x2048x64 ![0, 0, 0, 0, 0] o slices_S2x3x8x2048x64_S2x1x8x2048x64_0_0_0_0_0) shapeCasts_S2x1x8x2048x64_S2x8x2048x64))
    (mulf (broadcastInDim S2x8x2048x64 ![0, 1, 2, 3] bcast_S2x8x2048x1_S2x8x2048x64_0_1_2_3 (broadcastInDim S2x8x2048x1 ![0, 1, 2] bcast_S2x8x2048_S2x8x2048x1_0_1_2 b))
      (shapeCast S2x8x2048x64 (extractStridedSlice S2x1x8x2048x64 ![0, 1, 0, 0, 0] o slices_S2x3x8x2048x64_S2x1x8x2048x64_0_1_0_0_0) shapeCasts_S2x1x8x2048x64_S2x8x2048x64)))
    (mulf (broadcastInDim S2x8x2048x64 ![0, 1, 2, 3] bcast_S2x8x2048x1_S2x8x2048x64_0_1_2_3 (broadcastInDim S2x8x2048x1 ![0, 1, 2] bcast_S2x8x2048_S2x8x2048x1_0_1_2 c))
      (shapeCast S2x8x2048x64 (extractStridedSlice S2x1x8x2048x64 ![0, 2, 0, 0, 0] o slices_S2x3x8x2048x64_S2x1x8x2048x64_0_2_0_0_0) shapeCasts_S2x1x8x2048x64_S2x8x2048x64)))
    (broadcastInDim S2x8x2048x64 ![0, 1, 2, 3] bcast_S2x8x2048x1_S2x8x2048x64_0_1_2_3 (broadcastInDim S2x8x2048x1 ![0, 1, 2] bcast_S2x8x2048_S2x8x2048x1_0_1_2 d))
def f72 : FVec Ideal S2x8x2048 .f32 := addf (addf (Host.exp (subf a d)) (Host.exp (subf b d))) (Host.exp (subf c d))
def f66 : FVec Ideal S2x8x2048 .f32 := Host.exp (subf a d)
def f64 : FVec Ideal S2x8x2048 .f32 := maximumf (maximumf a b) c
def f98 : FVec Ideal S2x8x2048 .f32 := addf a (Host.log b)
def f102 : FVec Ideal S2x2048x512 .f32 :=
  shapeCast S2x2048x512 (broadcastInDim S2x2048x8x64 ![0, 1, 2, 3] bcast_S2x2048x8x1_S2x2048x8x64_0_1_2_3 (broadcastInDim S2x2048x8x1 ![0, 1, 2] bcast_S2x2048x8_S2x2048x8x1_0_1_2
    (transpose S2x2048x8 [0, 2, 1] a transposes_S2x8x2048_S2x2048x8_0_2_1))) shapeCasts_S2x2048x8x64_S2x2048x512
def f96 : FVec Ideal S2x8x2048 .f32 := Host.reduceAdd (mulf (transpose S2x8x2048x64 [0, 2, 1, 3] (shapeCast S2x2048x8x64 D shapeCasts_S2x2048x512_S2x2048x8x64) transposes_S2x2048x8x64_S2x8x2048x64_0_2_1_3) y)
  (constant (F := Ideal) S_ .f32 0x00000000#32) reducesTo_S2x8x2048x64_S2x8x2048_d3 h_S_
/-- The head of a column. -/
abbrev headCol (j : Fin 512) : Fin 8 := ⟨j.val / 64, by omega⟩
theorem f56_at (i : Fin 2) (g : Fin 3) (h : Fin 8) (t : Fin 2048) : f56 x44 x49 (ix4 i g h t) = x44 (ix4 i g h t) + Ideal.log (x49 (ix4 i g h t)) := by pointwise [f56]
theorem f92_at (i : Fin 2) (h : Fin 8) (t : Fin 2048) (e : Fin 64) : f92 a b c d o (ix4 i h t e) =
    Ideal.div (a (ix3 i h t) * o (ix5 i 0 h t e) + b (ix3 i h t) * o (ix5 i 1 h t e) + c (ix3 i h t) * o (ix5 i 2 h t e)) (d (ix3 i h t)) := by pointwise [f92]
theorem f72_at (i : Fin 2) (h : Fin 8) (t : Fin 2048) : f72 a b c d (ix3 i h t) =
    Ideal.exp (a (ix3 i h t) - d (ix3 i h t)) + Ideal.exp (b (ix3 i h t) - d (ix3 i h t)) + Ideal.exp (c (ix3 i h t) - d (ix3 i h t)) := by pointwise [f72]
theorem f66_at (i : Fin 2) (h : Fin 8) (t : Fin 2048) : f66 a d (ix3 i h t) = Ideal.exp (a (ix3 i h t) - d (ix3 i h t)) := by pointwise [f66]
theorem f64_at (i : Fin 2) (h : Fin 8) (t : Fin 2048) : f64 a b c (ix3 i h t) = max (max (a (ix3 i h t)) (b (ix3 i h t))) (c (ix3 i h t)) := by pointwise [f64]
theorem f98_at (i : Fin 2) (h : Fin 8) (t : Fin 2048) : f98 a b (ix3 i h t) = a (ix3 i h t) + Ideal.log (b (ix3 i h t)) := by pointwise [f98]
theorem f102_at (i : Fin 2) (t : Fin 2048) (j : Fin 512) : f102 a (ix3 i t j) = a (ix3 i (headCol j) t) := by pointwise [f102]
theorem f96_at (i : Fin 2) (h : Fin 8) (t : Fin 2048) : f96 y D (ix3 i h t) = ∑ e, D (ix3 i t (hcol h e)) * y (ix4 i h t e) := by pointwise [f96]
end

section
variable (P : FVec Ideal S2x2048x8704 .f32) (D : FVec Ideal S2x2048x512 .f32)
theorem e58 (i : Fin 2) (h : Fin 8) (t : Fin 2048) : k_v58 P (ix3 i h t) = k_v56 P (ix4 i 0 h t) := by pointwise [k_v58, k_v57]
theorem e60 (i : Fin 2) (h : Fin 8) (t : Fin 2048) : k_v60 P (ix3 i h t) = k_v56 P (ix4 i 1 h t) := by pointwise [k_v60, k_v59]
theorem e62 (i : Fin 2) (h : Fin 8) (t : Fin 2048) : k_v62 P (ix3 i h t) = k_v56 P (ix4 i 2 h t) := by pointwise [k_v62, k_v61]
theorem e56 : k_v56 P = f56 (k_v44 P) (k_v49 P) := rfl
theorem e64 : k_v64 P = f64 (k_v58 P) (k_v60 P) (k_v62 P) := rfl
theorem e66 : k_v66 P = f66 (k_v58 P) (k_v64 P) := rfl
theorem e68 : k_v68 P = f66 (k_v60 P) (k_v64 P) := rfl
theorem e70 : k_v70 P = f66 (k_v62 P) (k_v64 P) := rfl
theorem e72 : k_v72 P = f72 (k_v58 P) (k_v60 P) (k_v62 P) (k_v64 P) := rfl
theorem e92 : k_v92 P = f92 (k_v66 P) (k_v68 P) (k_v70 P) (k_v72 P) (k_v53 P) := rfl
theorem e96 : k_v96 P D = f96 (k_v92 P) D := rfl
theorem e98 : k_v98 P = f98 (k_v64 P) (k_v72 P) := rfl
theorem e102 : k_v102 P = f102 (k_v98 P) := rfl
theorem e106 : k_v106 P D = f102 (k_v96 P D) := rfl
end

end Cert.KernelIdeal.Value
-- ==== Proof.HostS.lean ====
module
public import proofs.«01_k».proof.Proof.Gen.KernelIdeal.Value
public import proofs.«01_k».proof.Proof.HostR
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- An array of reals as an array of extended reals. -/
abbrev cP (p : S2x2048x8704.Idx → ℝ) : FVec Ideal S2x2048x8704 .f32 := fun i => (p i : EReal)
abbrev cD (dd : S2x2048x512.Idx → ℝ) : FVec Ideal S2x2048x512 .f32 := fun i => (dd i : EReal)
section
variable (p : S2x2048x8704.Idx → ℝ) (dd : S2x2048x512.Idx → ℝ)

theorem valid_self (r t : ℕ) : valid r t t := ⟨le_rfl, by omega, by rw [Nat.sub_self, Nat.zero_mod]⟩

/-- The masked score is the biased score where the key is seen, minus infinity elsewhere. -/
theorem score (b : Fin 2) (g : Fin 3) (h : Fin 8) (t u : Fin 2048) : k_v43 (cP p) (ix5 b g h t u) = if valid (rad g) t u then (sc p b g h t u : EReal) else ⊥ := by
  rw [k_v43_at, k_v28_at, cbot, c8, sub_real', show S3x8.rowMajor (ix2 g h) = sidx g h from (by fin_cases g <;> fin_cases h <;> rfl), slR_at]
  simp only [k_v1_at, k_v3_at]
  have e : (∑ x, cP p (ix3 b t (col 0 g h x)) * cP p (ix3 b u (col 1 g h x))) = ((∑ x, qkv p 0 b t g h x * qkv p 1 b u g h x : ℝ) : EReal) := by
    rw [← csum]; rfl
  rw [e, ← EReal.coe_mul, ← EReal.coe_mul, ← EReal.coe_sub]
  by_cases hv : valid (rad g) t u
  · rw [if_pos hv, if_pos hv]; rfl
  · rw [if_neg hv, if_neg hv]; rfl

/-- The row's greatest score is a real number, that of one of the row's entries. -/
theorem rowmax (b : Fin 2) (g : Fin 3) (h : Fin 8) (t : Fin 2048) : k_v44 (cP p) (ix4 b g h t) = (mx p b g h t : EReal) ∧
    ∃ u, k_v43 (cP p) (ix5 b g h t u) = (mx p b g h t : EReal) := by
  obtain ⟨⟨u, -, hu⟩, hle⟩ := fold_max_mem Finset.univ (fun x => k_v43 (cP p) (ix5 b g h t x)) ⟨t, Finset.mem_univ _⟩
  have hd : k_v44 (cP p) (ix4 b g h t) = Finset.univ.fold max ⊥ fun x => k_v43 (cP p) (ix5 b g h t x) := by rw [k_v44_at, cbot]
  have h1 : (sc p b g h t t : EReal) ≤ k_v43 (cP p) (ix5 b g h t u) := by
    have := hle t (Finset.mem_univ _)
    rw [hu, score p b g h t t, if_pos (valid_self _ _)] at this
    exact this
  have h2 : k_v43 (cP p) (ix5 b g h t u) = (mx p b g h t : EReal) := by
    have e : mx p b g h t = (k_v43 (cP p) (ix5 b g h t u)).toReal := by unfold mx; rw [← hu, ← hd]
    rw [e]
    rw [score] at h1 ⊢
    split at h1
    · rw [if_pos (by assumption)]; rfl
    · exact absurd h1 (by simp)
  exact ⟨by rw [hd, hu, h2], u, h2⟩

theorem weight (b : Fin 2) (g : Fin 3) (h : Fin 8) (t u : Fin 2048) : k_v48 (cP p) (ix5 b g h t u) = (W p b g h t u : EReal) := by
  rw [k_v48_at, score, (rowmax p b g h t).1]
  unfold W
  split
  · rw [← EReal.coe_sub]; rfl
  · rw [EReal.bot_sub]; rfl

theorem W_nonneg (b : Fin 2) (g : Fin 3) (h : Fin 8) (t u : Fin 2048) : 0 ≤ W p b g h t u := by
  unfold W; split; exact (Real.exp_pos _).le; exact le_rfl
theorem Z_pos (b : Fin 2) (g : Fin 3) (h : Fin 8) (t : Fin 2048) : 0 < Z p b g h t := by
  unfold Z
  refine Finset.sum_pos' (fun u _ => W_nonneg p b g h t u) ⟨t, Finset.mem_univ _, ?_⟩
  unfold W; rw [if_pos (valid_self _ _)]; exact Real.exp_pos _

theorem denom (b : Fin 2) (g : Fin 3) (h : Fin 8) (t : Fin 2048) : k_v49 (cP p) (ix4 b g h t) = (Z p b g h t : EReal) := by
  rw [k_v49_at]; simp only [weight]; rw [csum]; rfl
theorem numer (b : Fin 2) (g : Fin 3) (h : Fin 8) (t : Fin 2048) (e : Fin 64) : k_v50 (cP p) (ix5 b g h t e) = (N p b g h t e : EReal) := by
  rw [k_v50_at]
  have : ∀ x, k_v48 (cP p) (ix5 b g h t x) * k_v5 (cP p) (ix5 b x g h e) = ((W p b g h t x * qkv p 2 b x g h e : ℝ) : EReal) := fun x => by
    rw [weight, k_v5_at, EReal.coe_mul]; rfl
  rw [Finset.sum_congr rfl fun x _ => this x, csum]; rfl

/-- The quotient of two reals. -/
theorem cdiv (x y : ℝ) (hy : y ≠ 0) : Ideal.div (x : EReal) (y : EReal) = ((x / y : ℝ) : EReal) := by
  rw [Ideal.div_coe hy, ← EReal.coe_mul, mul_one_div]
theorem clog (x : ℝ) (hx : 0 < x) : Ideal.log (x : EReal) = (Real.log x : EReal) := by
  rw [Ideal.log_coe, if_neg (not_le.2 hx)]

theorem outv (b : Fin 2) (g : Fin 3) (h : Fin 8) (t : Fin 2048) (e : Fin 64) : k_v53 (cP p) (ix5 b g h t e) = (O p b g h t e : EReal) := by
  rw [k_v53_at, numer, denom, cdiv _ _ (Z_pos p b g h t).ne']; rfl
theorem lse (b : Fin 2) (g : Fin 3) (h : Fin 8) (t : Fin 2048) : k_v56 (cP p) (ix4 b g h t) = (L p b g h t : EReal) := by
  rw [e56, f56_at, (rowmax p b g h t).1, denom, clog _ (Z_pos p b g h t), ← EReal.coe_add]; rfl
theorem topv (b : Fin 2) (h : Fin 8) (t : Fin 2048) : k_v64 (cP p) (ix3 b h t) = (T p b h t : EReal) := by
  rw [e64, f64_at, e58, e60, e62, lse, lse, lse]
  unfold T
  rw [EReal.coe_strictMono.monotone.map_max, EReal.coe_strictMono.monotone.map_max]
theorem E_pos (b : Fin 2) (g : Fin 3) (h : Fin 8) (t : Fin 2048) : 0 < E p b g h t := Real.exp_pos _
theorem Tot_pos (b : Fin 2) (h : Fin 8) (t : Fin 2048) : 0 < Tot p b h t := by
  unfold Tot; have := E_pos p b 0 h t; have := E_pos p b 1 h t; have := E_pos p b 2 h t; linarith
theorem e0v (b : Fin 2) (h : Fin 8) (t : Fin 2048) : k_v66 (cP p) (ix3 b h t) = (E p b 0 h t : EReal) := by
  rw [e66, f66_at, e58, lse, topv, ← EReal.coe_sub]; rfl
theorem e1v (b : Fin 2) (h : Fin 8) (t : Fin 2048) : k_v68 (cP p) (ix3 b h t) = (E p b 1 h t : EReal) := by
  rw [e68, f66_at, e60, lse, topv, ← EReal.coe_sub]; rfl
theorem e2v (b : Fin 2) (h : Fin 8) (t : Fin 2048) : k_v70 (cP p) (ix3 b h t) = (E p b 2 h t : EReal) := by
  rw [e70, f66_at, e62, lse, topv, ← EReal.coe_sub]; rfl
theorem totv (b : Fin 2) (h : Fin 8) (t : Fin 2048) : k_v72 (cP p) (ix3 b h t) = (Tot p b h t : EReal) := by
  rw [e72, f72_at, e58, e60, e62, lse, lse, lse, topv, ← EReal.coe_sub, ← EReal.coe_sub, ← EReal.coe_sub]
  unfold Tot
  rw [EReal.coe_add, EReal.coe_add]; rfl
theorem attv (b : Fin 2) (h : Fin 8) (t : Fin 2048) (e : Fin 64) : k_v92 (cP p) (ix4 b h t e) = (A p b h t e : EReal) := by
  rw [e92, f92_at, e0v, e1v, e2v, totv, outv, outv, outv, ← EReal.coe_mul, ← EReal.coe_mul, ← EReal.coe_mul, ← EReal.coe_add, ← EReal.coe_add, cdiv _ _ (Tot_pos p b h t).ne']; rfl
/-- The row log-sum the kernel is given. -/
theorem lsev (b : Fin 2) (t : Fin 2048) (j : Fin 512) : k_v102 (cP p) (ix3 b t j) = (LS p b (headCol j) t : EReal) := by
  rw [e102, f102_at, e98, f98_at, topv, totv, clog _ (Tot_pos p b _ t), ← EReal.coe_add]; rfl
/-- The row sum the kernel is given. -/
theorem dsumv (b : Fin 2) (t : Fin 2048) (j : Fin 512) : k_v106 (cP p) (cD dd) (ix3 b t j) = (DS p dd b (headCol j) t : EReal) := by
  rw [e106, f102_at, e96, f96_at]
  simp only [attv]
  unfold DS
  rw [← csum]
  refine Finset.sum_congr rfl fun e _ => ?_
  rw [EReal.coe_mul]; rfl

/-- The softmax weight over all three groups, and the score's gradient. -/
def om (b : Fin 2) (g : Fin 3) (h : Fin 8) (t u : Fin 2048) : ℝ := if valid (rad g) t u then Real.exp (sc p b g h t u - LS p b h t) else 0
def dsc (b : Fin 2) (g : Fin 3) (h : Fin 8) (t u : Fin 2048) : ℝ := om p b g h t u * ((∑ e, ct dd b t h e * qkv p 2 b u g h e) - DS p dd b h t)
/-- The gradients with respect to queries, keys and values. -/
def DQ (b : Fin 2) (t : Fin 2048) (g : Fin 3) (h : Fin 8) (e : Fin 64) : ℝ := (∑ u, dsc p dd b g h t u * qkv p 1 b u g h e) * (1 / 8)
def DK (b : Fin 2) (u : Fin 2048) (g : Fin 3) (h : Fin 8) (e : Fin 64) : ℝ := (∑ t, dsc p dd b g h t u * qkv p 0 b t g h e) * (1 / 8)
def DV (b : Fin 2) (u : Fin 2048) (g : Fin 3) (h : Fin 8) (e : Fin 64) : ℝ := ∑ t, om p b g h t u * ct dd b t h e

/-- The group's share of the whole. -/
def al (b : Fin 2) (g : Fin 3) (h : Fin 8) (t : Fin 2048) : ℝ := E p b g h t / Tot p b h t
theorem om_eq (b : Fin 2) (g : Fin 3) (h : Fin 8) (t u : Fin 2048) : om p b g h t u = al p b g h t / Z p b g h t * W p b g h t u := by
  have hZ := Z_pos p b g h t
  have hT := Tot_pos p b h t
  unfold om W al
  split
  · have e1 : E p b g h t = Z p b g h t * Real.exp (mx p b g h t - T p b h t) := by
      unfold E L
      rw [show mx p b g h t + Real.log (Z p b g h t) - T p b h t = Real.log (Z p b g h t) + (mx p b g h t - T p b h t) by ring, Real.exp_add, Real.exp_log hZ]
    have e2 : Real.exp (sc p b g h t u - LS p b h t) = Real.exp (sc p b g h t u - mx p b g h t) * Real.exp (mx p b g h t - T p b h t) / Tot p b h t := by
      unfold LS
      rw [show sc p b g h t u - (T p b h t + Real.log (Tot p b h t)) = (sc p b g h t u - mx p b g h t) + (mx p b g h t - T p b h t) - Real.log (Tot p b h t) by ring, Real.exp_sub, Real.exp_log hT, Real.exp_add]
    rw [e2, e1]
    field_simp
  · rw [mul_zero]
end

end Cert.KernelIdeal.Value
-- ==== Proof.Real.lean ====
module
public import proofs.«01_k».proof.Proof.Gen.KernelIdeal.Value
public import proofs.«01_k».proof.Proof.HostS
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- A function of the 2048 times, at every natural number. -/
def lift (f : Fin 2048 → ℝ) (s : ℕ) : ℝ := if h : s < 2048 then f ⟨s, h⟩ else 0
theorem lift_val (f : Fin 2048 → ℝ) (s : Fin 2048) : lift f s.val = f s := by unfold lift; rw [dif_pos s.isLt]
/-- The feature of a lane. -/
abbrev eF (d : Fin 128) : Fin 64 := ⟨d.val % 64, by omega⟩
theorem headOf_hd (hh : Fin 2) (e : Fin 64) : headOf (hd hh e) = hh := Fin.ext (by show (64 * hh.val + e.val) / 64 = hh.val; omega)
theorem eF_hd (hh : Fin 2) (e : Fin 64) : eF (hd hh e) = e := Fin.ext (by show (64 * hh.val + e.val) % 64 = e.val; omega)

section
variable (p : S2x2048x8704.Idx → ℝ) (dd : S2x2048x512.Idx → ℝ) (b : Fin 2) (g : Fin 3) (H : Fin 2 → Fin 8)
/-- A block of two heads' queries, keys or values; of the cotangent; the two heads' slopes, row log-sums and row sums. -/
def bQ (s : Fin 3) (t : ℕ) (d : Fin 128) : ℝ := lift (fun t => qkv p s b t g (H (headOf d)) (eF d)) t
def bC (t : ℕ) (d : Fin 128) : ℝ := lift (fun t => ct dd b t (H (headOf d)) (eF d)) t
def bS (hh : Fin 2) : ℝ := slR g (H hh)
def bL (hh : Fin 2) (t : ℕ) : ℝ := lift (fun t => LS p b (H hh) t) t
def bD (hh : Fin 2) (t : ℕ) : ℝ := lift (fun t => DS p dd b (H hh) t) t

theorem wt_om (hh : Fin 2) (t u : Fin 2048) : wt (rad g) (bQ p b g H 0) (bQ p b g H 1) (bS g H) (bL p b H) hh t u = om p b g (H hh) t u := by
  unfold wt om
  refine if_congr Iff.rfl (congrArg Real.exp ?_) rfl
  unfold bL bQ bS sc
  simp only [lift_val, headOf_hd, eF_hd]
  ring
theorem dst_dsc (hh : Fin 2) (t u : Fin 2048) : dst (rad g) (bQ p b g H 0) (bQ p b g H 1) (bQ p b g H 2) (bC dd b H) (bS g H) (bL p b H) (bD p dd b H) hh t u
    = dsc p dd b g (H hh) t u := by
  unfold dst dsc
  rw [wt_om]
  unfold bD bQ bC
  simp only [lift_val, headOf_hd, eF_hd]
theorem dqt_DQ (t : Fin 2048) (x : Fin 128) : dqt (rad g) (bQ p b g H 0) (bQ p b g H 1) (bQ p b g H 2) (bC dd b H) (bS g H) (bL p b H) (bD p dd b H) t x
    = DQ p dd b t g (H (headOf x)) (eF x) := by
  unfold dqt DQ
  simp only [dst_dsc, bQ, lift_val]
theorem dkt_DK (u : Fin 2048) (x : Fin 128) : dkt (rad g) (bQ p b g H 0) (bQ p b g H 1) (bQ p b g H 2) (bC dd b H) (bS g H) (bL p b H) (bD p dd b H) u x
    = DK p dd b u g (H (headOf x)) (eF x) := by
  unfold dkt DK
  simp only [dst_dsc, bQ, lift_val]
theorem dvt_DV (u : Fin 2048) (x : Fin 128) : dvt (rad g) (bQ p b g H 0) (bQ p b g H 1) (bC dd b H) (bS g H) (bL p b H) u x
    = DV p dd b u g (H (headOf x)) (eF x) := by
  unfold dvt DV
  simp only [wt_om, bC, lift_val]
end

end Cert.KernelIdeal.Value
-- ==== Proof.Unit2.lean ====
module
public import proofs.«01_k».proof.Proof.Gen.KernelIdeal.Value
public import proofs.«01_k».proof.Proof.Unit
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

section
variable (Q D : Vec Ideal S128x128 .bf16) (L E : Vec Ideal S128x128 .f32)
  (qf dof : Fin 128 → Fin 128 → ℝ) (sl : Fin 2 → ℝ) (lf df : Fin 2 → Fin 128 → ℝ)
  (hQ : ∀ q x, Q (ix2 q x) = (qf q x : EReal)) (hD : ∀ q x, D (ix2 q x) = (dof q x : EReal))
  (hL : ∀ q x, L (ix2 q x) = (lf (headOf x) q : EReal)) (hE : ∀ q x, E (ix2 q x) = (df (headOf x) q : EReal))

section
variable (K V : Vec Ideal S256x128 .bf16) (B : Vec Ideal S256x256 .f32) (kf vf : Fin 256 → Fin 128 → ℝ)
  (hK : ∀ q x, K (ix2 q x) = (kf q x : EReal)) (hV : ∀ q x, V (ix2 q x) = (vf q x : EReal)) (hB : ∀ r k, B (ix2 r k) = bl 0 sl r k)
include hQ hL hK hB

/-- The weights of a unit of 256 keys. -/
theorem p256_at (r : Fin 256) (kc : Fin 256) :
    k0_pay35 (F := Ideal) (k0_pay32 L) (k0_pay34 k0_pay1 Q K) B (ix2 r kc) = (pl 0 qf kf sl lf (rowH r) (rowQ r) kc : EReal) := by
  rw [← exp_at]
  pointwise [k0_pay35, k0_pay34, c8, hB, hK, pay30_at Q qf hQ, pay32_at L lf hL]
  rw [score_sum]

include hD hE hV
/-- The scores' gradient of a unit of 256 keys. -/
theorem ds256_at (r : Fin 256) (kc : Fin 256) :
    k0_pay36 (F := Ideal) (k0_pay31 k0_pay1 D) (k0_pay32 L) (k0_pay33 E) (k0_pay34 k0_pay1 Q K) B V (ix2 r kc)
      = (dl 0 qf dof kf vf sl lf df (rowH r) (rowQ r) kc : EReal) := by
  have e : k0_pay33 (F := Ideal) E (ix2 r 0) = _ := pay32_at E df hE r
  pointwise [k0_pay36, p256_at Q L qf sl lf hQ hL K B kf hK hB, hV, pay31_at D dof hD, e]
  rw [score_sum, ← EReal.coe_sub, ← EReal.coe_mul]; rfl

theorem uq256_at (q x : Fin 128) :
    k0_pay37 (F := Ideal) k0_pay1 (k0_pay31 k0_pay1 D) (k0_pay32 L) (k0_pay33 E) (k0_pay34 k0_pay1 Q K) B V K (ix2 q x)
      = (uq 0 qf dof kf vf sl lf df q x : EReal) := by
  have key : ∀ hh : Fin 2, ∑ j, k0_pay36 (F := Ideal) (k0_pay31 k0_pay1 D) (k0_pay32 L) (k0_pay33 E) (k0_pay34 k0_pay1 Q K) B V (ix2 (stk hh q) j) * K (ix2 j x)
      = ((∑ kc, dl 0 qf dof kf vf sl lf df hh q kc * kf kc x : ℝ) : EReal) := fun hh => by
    rw [← csum]
    refine Finset.sum_congr rfl fun j _ => ?_
    rw [ds256_at Q D L E qf dof sl lf df hQ hD hL hE K V B kf vf hK hV hB, hK, rowH_stk, rowQ_stk, EReal.coe_mul]
  have hk : (k0_pay37 (F := Ideal) k0_pay1 (k0_pay31 k0_pay1 D) (k0_pay32 L) (k0_pay33 E) (k0_pay34 k0_pay1 Q K) B V K (ix2 q x) : EReal)
      = (if x.val < 64 then ∑ j, k0_pay36 (F := Ideal) (k0_pay31 k0_pay1 D) (k0_pay32 L) (k0_pay33 E) (k0_pay34 k0_pay1 Q K) B V (ix2 (stk 0 q) j) * K (ix2 j x)
        else ∑ j, k0_pay36 (F := Ideal) (k0_pay31 k0_pay1 D) (k0_pay32 L) (k0_pay33 E) (k0_pay34 k0_pay1 Q K) B V (ix2 (stk 1 q) j) * K (ix2 j x)) * ((1 / 8 : ℝ) : EReal) := by
    rw [← low_select]
    have e0 : stk 0 q = ⟨q.val, by omega⟩ := Fin.ext (by show 128 * 0 + q.val = q.val; omega)
    rw [e0]
    unfold k0_pay37
    generalize k0_pay36 (F := Ideal) _ _ _ _ _ _ = S
    pointwise [c8, k0_pay1]
    rfl
  rw [hk, key, key]
  have hx := x.isLt
  split
  · rw [← EReal.coe_mul]; unfold uq; rw [show headOf x = 0 from Fin.ext (by show x.val / 64 = 0; omega)]
  · rw [← EReal.coe_mul]; unfold uq; rw [show headOf x = 1 from Fin.ext (by show x.val / 64 = 1; omega)]

theorem uk256_at (kc : Fin 256) (x : Fin 128) :
    k0_pay38 (F := Ideal) (k0_pay30 k0_pay1 Q) (k0_pay31 k0_pay1 D) (k0_pay32 L) (k0_pay33 E) (k0_pay34 k0_pay1 Q K) B V (ix3 0 kc x)
      = (uk 0 qf dof kf vf sl lf df kc x : EReal) := by
  pointwise [k0_pay38, c8, pay30_at Q qf hQ, ds256_at Q D L E qf dof sl lf df hQ hD hL hE K V B kf vf hK hV hB]
  simp only [← EReal.coe_mul, mul_ite, mul_zero]
  rw [csum, ← EReal.coe_mul, sum_stk (headOf x) fun r => dl 0 qf dof kf vf sl lf df (rowH r) (rowQ r) kc * qf (rowQ r) x]
  simp only [rowH_stk, rowQ_stk]; rfl

omit hE hV
theorem uv256_at (kc : Fin 256) (x : Fin 128) :
    k0_pay39 (F := Ideal) (k0_pay31 k0_pay1 D) (k0_pay32 L) (k0_pay34 k0_pay1 Q K) B (ix3 0 kc x)
      = (uv 0 qf dof kf sl lf kc x : EReal) := by
  pointwise [k0_pay39, pay31_at D dof hD, p256_at Q L qf sl lf hQ hL K B kf hK hB]
  simp only [← EReal.coe_mul, mul_ite, mul_zero]
  rw [csum, sum_stk (headOf x) fun r => pl 0 qf kf sl lf (rowH r) (rowQ r) kc * dof (rowQ r) x]
  simp only [rowH_stk, rowQ_stk]; rfl
end

section
variable (K V : Vec Ideal S128x128 .bf16) (B : Vec Ideal S256x128 .f32) (kf vf : Fin 128 → Fin 128 → ℝ)
  (hK : ∀ q x, K (ix2 q x) = (kf q x : EReal)) (hV : ∀ q x, V (ix2 q x) = (vf q x : EReal)) (hB : ∀ r k, B (ix2 r k) = bl 128 sl r k)
include hQ hL hK hB

/-- The weights of a unit of 128 keys. -/
theorem p128_at (r : Fin 256) (kc : Fin 128) :
    k0_pay25 (F := Ideal) (k0_pay23 k0_pay1 Q) L K B (ix2 r kc) = (pl 128 qf kf sl lf (rowH r) (rowQ r) kc : EReal) := by
  rw [← exp_at]
  have e1 : ∀ x, k0_pay23 (F := Ideal) k0_pay1 Q (ix2 r x) = _ := pay30_at Q qf hQ r
  have e2 := pay32_at L lf hL r
  have e3 : k0_pay25 (F := Ideal) (k0_pay23 k0_pay1 Q) L K B (ix2 r kc) = Ideal.exp ((∑ x, k0_pay23 (F := Ideal) k0_pay1 Q (ix2 r x) * K (ix2 kc x)) * ((1 / 8 : ℝ) : EReal) + B (ix2 r kc) - k0_pay32 (F := Ideal) L (ix2 r 0)) := by
    generalize k0_pay23 (F := Ideal) k0_pay1 Q = S
    rw [← c8]
    pointwise [k0_pay25, k0_pay32]
  rw [e3, e2, hB]
  simp only [e1, hK]
  rw [score_sum]

include hD hE hV
/-- The scores' gradient of a unit of 128 keys. -/
theorem ds128_at (r : Fin 256) (kc : Fin 128) :
    k0_pay26 (F := Ideal) k0_pay1 (k0_pay23 k0_pay1 Q) D L E K B V (ix2 r kc)
      = (dl 128 qf dof kf vf sl lf df (rowH r) (rowQ r) kc : EReal) := by
  have e : k0_pay32 (F := Ideal) E (ix2 r 0) = _ := pay32_at E df hE r
  have e1 : ∀ x, k0_pay24 (F := Ideal) k0_pay1 D (ix2 r x) = _ := pay30_at D dof hD r
  have e3 : k0_pay26 (F := Ideal) k0_pay1 (k0_pay23 k0_pay1 Q) D L E K B V (ix2 r kc)
      = k0_pay25 (F := Ideal) (k0_pay23 k0_pay1 Q) L K B (ix2 r kc) * ((∑ x, k0_pay24 (F := Ideal) k0_pay1 D (ix2 r x) * V (ix2 kc x)) - k0_pay32 (F := Ideal) E (ix2 r 0)) := by
    unfold k0_pay26
    generalize k0_pay25 (F := Ideal) _ _ _ _ = S
    generalize k0_pay24 (F := Ideal) _ _ = T
    pointwise [k0_pay32]
  rw [e3, e, p128_at Q L qf sl lf hQ hL K B kf hK hB]
  simp only [e1, hV]
  rw [score_sum, ← EReal.coe_sub, ← EReal.coe_mul]; rfl

theorem uq128_at (q x : Fin 128) :
    k0_pay27 (F := Ideal) k0_pay1 (k0_pay23 k0_pay1 Q) D L E K B V K (ix2 q x)
      = (uq 128 qf dof kf vf sl lf df q x : EReal) := by
  have key : ∀ hh : Fin 2, ∑ j, k0_pay26 (F := Ideal) k0_pay1 (k0_pay23 k0_pay1 Q) D L E K B V (ix2 (stk hh q) j) * K (ix2 j x)
      = ((∑ kc, dl 128 qf dof kf vf sl lf df hh q kc * kf kc x : ℝ) : EReal) := fun hh => by
    rw [← csum]
    refine Finset.sum_congr rfl fun j _ => ?_
    rw [ds128_at Q D L E qf dof sl lf df hQ hD hL hE K V B kf vf hK hV hB, hK, rowH_stk, rowQ_stk, EReal.coe_mul]
  have hk : (k0_pay27 (F := Ideal) k0_pay1 (k0_pay23 k0_pay1 Q) D L E K B V K (ix2 q x) : EReal)
      = (if x.val < 64 then ∑ j, k0_pay26 (F := Ideal) k0_pay1 (k0_pay23 k0_pay1 Q) D L E K B V (ix2 (stk 0 q) j) * K (ix2 j x)
        else ∑ j, k0_pay26 (F := Ideal) k0_pay1 (k0_pay23 k0_pay1 Q) D L E K B V (ix2 (stk 1 q) j) * K (ix2 j x)) * ((1 / 8 : ℝ) : EReal) := by
    rw [← low_select]
    have e0 : stk 0 q = ⟨q.val, by omega⟩ := Fin.ext (by show 128 * 0 + q.val = q.val; omega)
    rw [e0]
    unfold k0_pay27
    generalize k0_pay26 (F := Ideal) _ _ _ _ _ _ _ _ = S
    pointwise [c8, k0_pay1]
    rfl
  rw [hk, key, key]
  have hx := x.isLt
  split
  · rw [← EReal.coe_mul]; unfold uq; rw [show headOf x = 0 from Fin.ext (by show x.val / 64 = 0; omega)]
  · rw [← EReal.coe_mul]; unfold uq; rw [show headOf x = 1 from Fin.ext (by show x.val / 64 = 1; omega)]

theorem uk128_at (kc : Fin 128) (x : Fin 128) :
    k0_pay28 (F := Ideal) (k0_pay23 k0_pay1 Q) (k0_pay26 (F := Ideal) k0_pay1 (k0_pay23 k0_pay1 Q) D L E K B V) (ix3 0 kc x)
      = (uk 128 qf dof kf vf sl lf df kc x : EReal) := by
  have e1 : ∀ r x, k0_pay23 (F := Ideal) k0_pay1 Q (ix2 r x) = _ := pay30_at Q qf hQ
  pointwise [k0_pay28, c8, e1, ds128_at Q D L E qf dof sl lf df hQ hD hL hE K V B kf vf hK hV hB]
  simp only [← EReal.coe_mul, mul_ite, mul_zero]
  rw [csum, ← EReal.coe_mul, sum_stk (headOf x) fun r => dl 128 qf dof kf vf sl lf df (rowH r) (rowQ r) kc * qf (rowQ r) x]
  simp only [rowH_stk, rowQ_stk]; rfl

omit hE hV
theorem uv128_at (kc : Fin 128) (x : Fin 128) :
    k0_pay29 (F := Ideal) (k0_pay24 k0_pay1 D) (k0_pay25 (k0_pay23 k0_pay1 Q) L K B) (ix3 0 kc x)
      = (uv 128 qf dof kf sl lf kc x : EReal) := by
  have e1 : ∀ r x, k0_pay24 (F := Ideal) k0_pay1 D (ix2 r x) = _ := pay30_at D dof hD
  pointwise [k0_pay29, e1, p128_at Q L qf sl lf hQ hL K B kf hK hB]
  simp only [← EReal.coe_mul, mul_ite, mul_zero]
  rw [csum, sum_stk (headOf x) fun r => pl 128 qf kf sl lf (rowH r) (rowQ r) kc * dof (rowQ r) x]
  simp only [rowH_stk, rowQ_stk]; rfl
end
end

end Cert.KernelIdeal.Value
-- ==== Proof.Pieces.lean ====
module
public import proofs.«01_k».proof.Proof.Gen.KernelIdeal.Value
public import proofs.«01_k».proof.Proof.Unit2
public import proofs.«01_k».proof.Proof.Layout
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

theorem ext2 {a b : ℕ} (i : (⟨2, ![a, b]⟩ : Shape).Idx) (p : Fin a) (q : Fin b) (h0 : (i 0).val = p.val) (h1 : (i 1).val = q.val) : i = ix2 p q :=
  (eq_ix2 i).trans (congrArg₂ ix2 (Fin.ext h0) (Fin.ext h1))
theorem ext3 {a b c : ℕ} (i : (⟨3, ![a, b, c]⟩ : Shape).Idx) (p : Fin a) (q : Fin b) (s : Fin c) (h0 : (i 0).val = p.val) (h1 : (i 1).val = q.val) (h2 : (i 2).val = s.val) :
    i = ix3 p q s := by
  rw [eq_ix3 i, Fin.ext h0, Fin.ext h1, Fin.ext h2]

/-- A key's row among the 128 rows before it, and the halves of a part. -/
abbrev kI (s : Fin 2048) : Fin 2176 := ⟨128 + s.val, by omega⟩
abbrev kR (k : Fin 128) : Fin 256 := ⟨128 + k.val, by omega⟩
abbrev kL (k : Fin 128) : Fin 256 := ⟨k.val, by omega⟩

/-- A list of writes. -/
abbrev PL (s : Shape) (e : EltTy) := List (View.Piece (Elt Ideal) s e)

theorem inbA {u : ℕ} (h : u < 16) : ∀ a, (![128 * u, 0] : Fin 2 → ℕ) a + (![128, 128] : Fin 2 → ℕ) a ≤ S2048x128.size a := by
  intro a; fin_cases a
  · show 128 * u + 128 ≤ 2048; omega
  · exact Nat.le_refl _
theorem inbK {u : ℕ} (h : u < 16) : ∀ a, (![128 * u, 0] : Fin 2 → ℕ) a + (![256, 128] : Fin 2 → ℕ) a ≤ S2176x128.size a := by
  intro a; fin_cases a
  · show 128 * u + 256 ≤ 2176; omega
  · exact Nat.le_refl _
theorem inbN {u : ℕ} (h : u < 16) : ∀ a, (![128 * u + 128, 0] : Fin 2 → ℕ) a + (![128, 128] : Fin 2 → ℕ) a ≤ S2176x128.size a := by
  intro a; fin_cases a
  · show 128 * u + 128 + 128 ≤ 2176; omega
  · exact Nat.le_refl _
theorem inbP {u : ℕ} (h : u < 16) : ∀ a, (![u, 0, 0] : Fin 3 → ℕ) a + (![1, 256, 128] : Fin 3 → ℕ) a ≤ S16x256x128.size a := by
  intro a; fin_cases a
  · show u + 1 ≤ 16; omega
  · exact Nat.le_refl _
  · exact Nat.le_refl _
theorem inbR {u : ℕ} (h : u < 16) : ∀ a, (![u, 128, 0] : Fin 3 → ℕ) a + (![1, 128, 128] : Fin 3 → ℕ) a ≤ S16x256x128.size a := by
  intro a; fin_cases a
  · show u + 1 ≤ 16; omega
  · exact Nat.le_refl _
  · exact Nat.le_refl _
theorem inbL {u : ℕ} (h : u < 16) : ∀ a, (![u, 0, 0] : Fin 3 → ℕ) a + (![1, 128, 128] : Fin 3 → ℕ) a ≤ S16x256x128.size a := by
  intro a; fin_cases a
  · show u + 1 ≤ 16; omega
  · exact Nat.le_of_ble_eq_true rfl
  · exact Nat.le_refl _

/-- What a unit reads of each scratch buffer. -/
abbrev rdQ (L : PL S2048x128 .bf16) (u : ℕ) (h : u < 16) : Vec Ideal S128x128 .bf16 := (View.whole cc0_scratch0).readCov L (Rect.unit (s := S2048x128) ![128 * u, 0] ![128, 128] (inbA h)).toLoadRect
abbrev rdD (L : PL S2048x128 .bf16) (u : ℕ) (h : u < 16) : Vec Ideal S128x128 .bf16 := (View.whole cc0_scratch3).readCov L (Rect.unit (s := S2048x128) ![128 * u, 0] ![128, 128] (inbA h)).toLoadRect
abbrev rdL (L : PL S2048x128 .f32) (u : ℕ) (h : u < 16) : Vec Ideal S128x128 .f32 := (View.whole cc0_scratch4).readCov L (Rect.unit (s := S2048x128) ![128 * u, 0] ![128, 128] (inbA h)).toLoadRect
abbrev rdE (L : PL S2048x128 .f32) (u : ℕ) (h : u < 16) : Vec Ideal S128x128 .f32 := (View.whole cc0_scratch5).readCov L (Rect.unit (s := S2048x128) ![128 * u, 0] ![128, 128] (inbA h)).toLoadRect
abbrev rdK (L : PL S2176x128 .bf16) (u : ℕ) (h : u < 16) : Vec Ideal S256x128 .bf16 := (View.whole cc0_scratch1).readCov L (Rect.unit (s := S2176x128) ![128 * u, 0] ![256, 128] (inbK h)).toLoadRect
abbrev rdV (L : PL S2176x128 .bf16) (u : ℕ) (h : u < 16) : Vec Ideal S256x128 .bf16 := (View.whole cc0_scratch2).readCov L (Rect.unit (s := S2176x128) ![128 * u, 0] ![256, 128] (inbK h)).toLoadRect
abbrev rnK (L : PL S2176x128 .bf16) (u : ℕ) (h : u < 16) : Vec Ideal S128x128 .bf16 := (View.whole cc0_scratch1).readCov L (Rect.unit (s := S2176x128) ![128 * u + 128, 0] ![128, 128] (inbN h)).toLoadRect
abbrev rnV (L : PL S2176x128 .bf16) (u : ℕ) (h : u < 16) : Vec Ideal S128x128 .bf16 := (View.whole cc0_scratch2).readCov L (Rect.unit (s := S2176x128) ![128 * u + 128, 0] ![128, 128] (inbN h)).toLoadRect
abbrev rdB (L : PL S256x256 .f32) : Vec Ideal S256x256 .f32 := (View.whole cc0_scratch12).readCov L (Rect.unit (s := S256x256) ![0, 0] ![256, 256] inb_S256x256_S256x256_0_0).toLoadRect
abbrev rnB (L : PL S256x256 .f32) : Vec Ideal S256x128 .f32 := (View.whole cc0_scratch12).readCov L (Rect.unit (s := S256x256) ![0, 128] ![256, 128] inb_S256x256_S256x128_0_128).toLoadRect

section
variable (LQ LD : PL S2048x128 .bf16) (LK LV : PL S2176x128 .bf16) (LL LE : PL S2048x128 .f32) (LB : PL S256x256 .f32)

/-- The writes of a unit: to the query gradient, and its parts of the key and value gradients. -/
def dqW (u : ℕ) (h : u < 16) : View.Piece (Elt Ideal) S2048x128 .f32 :=
  ⟨Rect.unit ![128 * u, 0] ![128, 128] (inbA h),
    k0_pay37 k0_pay1 (k0_pay31 k0_pay1 (rdD LD u h)) (k0_pay32 (rdL LL u h)) (k0_pay33 (rdE LE u h)) (k0_pay34 k0_pay1 (rdQ LQ u h) (rdK LK u h)) (rdB LB) (rdV LV u h) (rdK LK u h)⟩
def dqN (u : ℕ) (h : u < 16) : View.Piece (Elt Ideal) S2048x128 .f32 :=
  ⟨Rect.unit ![128 * u, 0] ![128, 128] (inbA h),
    k0_pay27 k0_pay1 (k0_pay23 k0_pay1 (rdQ LQ u h)) (rdD LD u h) (rdL LL u h) (rdE LE u h) (rnK LK u h) (rnB LB) (rnV LV u h) (rnK LK u h)⟩
def dkW (u : ℕ) (h : u < 16) : View.Piece (Elt Ideal) S16x256x128 .f32 :=
  ⟨Rect.unit ![u, 0, 0] ![1, 256, 128] (inbP h),
    k0_pay38 (k0_pay30 k0_pay1 (rdQ LQ u h)) (k0_pay31 k0_pay1 (rdD LD u h)) (k0_pay32 (rdL LL u h)) (k0_pay33 (rdE LE u h)) (k0_pay34 k0_pay1 (rdQ LQ u h) (rdK LK u h)) (rdB LB) (rdV LV u h)⟩
def dkN (u : ℕ) (h : u < 16) : View.Piece (Elt Ideal) S16x256x128 .f32 :=
  ⟨Rect.unit ![u, 128, 0] ![1, 128, 128] (inbR h),
    k0_pay28 (k0_pay23 k0_pay1 (rdQ LQ u h)) (k0_pay26 k0_pay1 (k0_pay23 k0_pay1 (rdQ LQ u h)) (rdD LD u h) (rdL LL u h) (rdE LE u h) (rnK LK u h) (rnB LB) (rnV LV u h))⟩
def dvW (u : ℕ) (h : u < 16) : View.Piece (Elt Ideal) S16x256x128 .f32 :=
  ⟨Rect.unit ![u, 0, 0] ![1, 256, 128] (inbP h),
    k0_pay39 (k0_pay31 k0_pay1 (rdD LD u h)) (k0_pay32 (rdL LL u h)) (k0_pay34 k0_pay1 (rdQ LQ u h) (rdK LK u h)) (rdB LB)⟩
def dvN (u : ℕ) (h : u < 16) : View.Piece (Elt Ideal) S16x256x128 .f32 :=
  ⟨Rect.unit ![u, 128, 0] ![1, 128, 128] (inbR h),
    k0_pay29 (k0_pay24 k0_pay1 (rdD LD u h)) (k0_pay25 (k0_pay23 k0_pay1 (rdQ LQ u h)) (rdL LL u h) (rnK LK u h) (rnB LB))⟩

variable (r : ℕ) (qb kb vb dob : ℕ → Fin 128 → ℝ) (sl : Fin 2 → ℝ) (lb db : Fin 2 → ℕ → ℝ)
  (hr : r = 1 ∨ r = 4 ∨ r = 16)
  (hQ : ∀ (s : Fin 2048) (x : Fin 128), View.canon LQ (ix2 s x) = (qb (tau r s.val) x : EReal))
  (hD : ∀ (s : Fin 2048) (x : Fin 128), View.canon LD (ix2 s x) = (dob (tau r s.val) x : EReal))
  (hK : ∀ (s : Fin 2048) (x : Fin 128), View.canon LK (ix2 (kI s) x) = (kb (tau r s.val) x : EReal))
  (hV : ∀ (s : Fin 2048) (x : Fin 128), View.canon LV (ix2 (kI s) x) = (vb (tau r s.val) x : EReal))
  (hL : ∀ (s : Fin 2048) (x : Fin 128), View.canon LL (ix2 s x) = (lb (headOf x) (tau r s.val) : EReal))
  (hE : ∀ (s : Fin 2048) (x : Fin 128), View.canon LE (ix2 s x) = (db (headOf x) (tau r s.val) : EReal))
  (hB : ∀ (a b : Fin 256), View.canon LB (ix2 a b) = bl 0 (fun h => sl h * r) a b)

include hQ in
theorem rdQ_at {u : ℕ} (h : u < 16) (q x : Fin 128) : rdQ LQ u h (ix2 q x) = (qb (tau r (128 * u + q.val)) x : EReal) := by
  rw [rdQ, View.readCov_eq_canon']
  refine Eq.trans (congrArg _ (ext2 _ _ _ ?_ ?_)) (hQ ⟨128 * u + q.val, by omega⟩ x)
  · show 128 * u + 1 * q.val = 128 * u + q.val; omega
  · show 0 + 1 * x.val = x.val; omega

include hD in
theorem rdD_at {u : ℕ} (h : u < 16) (q x : Fin 128) : rdD LD u h (ix2 q x) = (dob (tau r (128 * u + q.val)) x : EReal) := by
  rw [rdD, View.readCov_eq_canon']
  refine Eq.trans (congrArg _ (ext2 _ _ _ ?_ ?_)) (hD ⟨128 * u + q.val, by omega⟩ x)
  · show 128 * u + 1 * q.val = 128 * u + q.val; omega
  · show 0 + 1 * x.val = x.val; omega

include hL in
theorem rdL_at {u : ℕ} (h : u < 16) (q x : Fin 128) : rdL LL u h (ix2 q x) = (lb (headOf x) (tau r (128 * u + q.val)) : EReal) := by
  rw [rdL, View.readCov_eq_canon']
  refine Eq.trans (congrArg _ (ext2 _ _ _ ?_ ?_)) (hL ⟨128 * u + q.val, by omega⟩ x)
  · show 128 * u + 1 * q.val = 128 * u + q.val; omega
  · show 0 + 1 * x.val = x.val; omega

include hE in
theorem rdE_at {u : ℕ} (h : u < 16) (q x : Fin 128) : rdE LE u h (ix2 q x) = (db (headOf x) (tau r (128 * u + q.val)) : EReal) := by
  rw [rdE, View.readCov_eq_canon']
  refine Eq.trans (congrArg _ (ext2 _ _ _ ?_ ?_)) (hE ⟨128 * u + q.val, by omega⟩ x)
  · show 128 * u + 1 * q.val = 128 * u + q.val; omega
  · show 0 + 1 * x.val = x.val; omega

include hK in
theorem rdK_at {u : ℕ} (h : u < 16) (h0 : u ≠ 0) (q : Fin 256) (x : Fin 128) : rdK LK u h (ix2 q x) = (kb (tau r (128 * u + (q.val + 0) - 128)) x : EReal) := by
  rw [rdK, View.readCov_eq_canon']
  refine Eq.trans (congrArg _ (ext2 _ _ _ ?_ ?_)) (hK ⟨128 * u + (q.val + 0) - 128, by omega⟩ x)
  · show 128 * u + 1 * q.val = 128 + (128 * u + (q.val + 0) - 128); omega
  · show 0 + 1 * x.val = x.val; omega

include hK in
theorem rnK_at {u : ℕ} (h : u < 16) (q x : Fin 128) : rnK LK u h (ix2 q x) = (kb (tau r (128 * u + (q.val + 128) - 128)) x : EReal) := by
  rw [rnK, View.readCov_eq_canon']
  refine Eq.trans (congrArg _ (ext2 _ _ _ ?_ ?_)) (hK ⟨128 * u + (q.val + 128) - 128, by omega⟩ x)
  · show 128 * u + 128 + 1 * q.val = 128 + (128 * u + (q.val + 128) - 128); omega
  · show 0 + 1 * x.val = x.val; omega

include hV in
theorem rdV_at {u : ℕ} (h : u < 16) (h0 : u ≠ 0) (q : Fin 256) (x : Fin 128) : rdV LV u h (ix2 q x) = (vb (tau r (128 * u + (q.val + 0) - 128)) x : EReal) := by
  rw [rdV, View.readCov_eq_canon']
  refine Eq.trans (congrArg _ (ext2 _ _ _ ?_ ?_)) (hV ⟨128 * u + (q.val + 0) - 128, by omega⟩ x)
  · show 128 * u + 1 * q.val = 128 + (128 * u + (q.val + 0) - 128); omega
  · show 0 + 1 * x.val = x.val; omega

include hV in
theorem rnV_at {u : ℕ} (h : u < 16) (q x : Fin 128) : rnV LV u h (ix2 q x) = (vb (tau r (128 * u + (q.val + 128) - 128)) x : EReal) := by
  rw [rnV, View.readCov_eq_canon']
  refine Eq.trans (congrArg _ (ext2 _ _ _ ?_ ?_)) (hV ⟨128 * u + (q.val + 128) - 128, by omega⟩ x)
  · show 128 * u + 128 + 1 * q.val = 128 + (128 * u + (q.val + 128) - 128); omega
  · show 0 + 1 * x.val = x.val; omega

include hB in
theorem rdB_at (a b : Fin 256) : rdB LB (ix2 a b) = bl 0 (fun h => sl h * r) a b := by
  rw [rdB, View.readCov_eq_canon']
  refine Eq.trans (congrArg _ (ext2 _ _ _ ?_ ?_)) (hB a b)
  · show 0 + 1 * a.val = a.val; omega
  · show 0 + 1 * b.val = b.val; omega

include hB in
theorem rnB_at (a : Fin 256) (b : Fin 128) : rnB LB (ix2 a b) = bl 128 (fun h => sl h * r) a b := by
  rw [rnB, View.readCov_eq_canon']
  refine Eq.trans (congrArg _ (ext2 _ _ _ ?_ ?_)) ((hB a ⟨128 + b.val, by omega⟩).trans ?_)
  · show 0 + 1 * a.val = a.val; omega
  · show 128 + 1 * b.val = 128 + b.val; omega
  · unfold bl; rw [show (128 + b.val + 0) = b.val + 128 by omega]

/-- The whole gradients, and the parts, as values at a scratch index. -/
def Gq : S2048x128.Idx → EReal := fun y => (dqt r qb kb vb dob sl lb db (tau r (y 0).val) (y 1) : EReal)
def Gk : S16x256x128.Idx → EReal := fun y => (pk r qb kb vb dob sl lb db (y 0).val (y 1).val (y 2) : EReal)
def Gv : S16x256x128.Idx → EReal := fun y => (pv r qb kb dob sl lb (y 0).val (y 1).val (y 2) : EReal)

include hr

include hQ hD hK hV hL hE hB in
theorem dqW_at {u : ℕ} (h : u < 16) (hz : u % (16 / r) ≠ 0) (y : (dqW LQ LD LK LV LL LE LB u h).1.shape.Idx) :
    (dqW LQ LD LK LV LL LE LB u h).2 y = Gq r qb kb vb dob sl lb db ((dqW LQ LD LK LV LL LE LB u h).1.emb y) := by
  obtain ⟨q, x, rfl⟩ : ∃ (q x : Fin 128), y = ix2 q x := ⟨_, _, eq_ix2 y⟩
  rw [show (dqW LQ LD LK LV LL LE LB u h).1.emb (ix2 q x) = ix2 (⟨128 * u + q.val, by omega⟩ : Fin 2048) x from
    ext2 _ _ _ (by show 128 * u + 1 * q.val = 128 * u + q.val; omega) (by show 0 + 1 * x.val = x.val; omega)]
  refine (uq256_at (rdQ LQ u h) (rdD LD u h) (rdL LL u h) (rdE LE u h) (fun q => qb (tau r (128 * u + q))) (fun q => dob (tau r (128 * u + q))) (fun h => sl h * r) (fun h q => lb h (tau r (128 * u + q))) (fun h q => db h (tau r (128 * u + q))) (rdQ_at LQ r qb hQ h) (rdD_at LD r dob hD h) (rdL_at LL r lb hL h) (rdE_at LE r db hE h) (rdK LK u h) (rdV LV u h) (rdB LB) (fun kc : Fin 256 => kb (tau r (128 * u + (kc.val + 0) - 128))) (fun kc : Fin 256 => vb (tau r (128 * u + (kc.val + 0) - 128))) (rdK_at LK r kb hK h (fun e => hz (by rw [e]; exact Nat.zero_mod _))) (rdV_at LV r vb hV h (fun e => hz (by rw [e]; exact Nat.zero_mod _))) (rdB_at LB r sl hB) q x).trans ?_
  rw [uq_eq r qb kb vb dob sl lb db hr h rfl (.inl hz) (fun e => absurd e hz) (fun _ => rfl) q x]
  rfl

include hQ hD hK hV hL hE hB in
theorem dqN_at {u : ℕ} (h : u < 16) (hz : u % (16 / r) = 0) (y : (dqN LQ LD LK LV LL LE LB u h).1.shape.Idx) :
    (dqN LQ LD LK LV LL LE LB u h).2 y = Gq r qb kb vb dob sl lb db ((dqN LQ LD LK LV LL LE LB u h).1.emb y) := by
  obtain ⟨q, x, rfl⟩ : ∃ (q x : Fin 128), y = ix2 q x := ⟨_, _, eq_ix2 y⟩
  rw [show (dqN LQ LD LK LV LL LE LB u h).1.emb (ix2 q x) = ix2 (⟨128 * u + q.val, by omega⟩ : Fin 2048) x from
    ext2 _ _ _ (by show 128 * u + 1 * q.val = 128 * u + q.val; omega) (by show 0 + 1 * x.val = x.val; omega)]
  refine (uq128_at (rdQ LQ u h) (rdD LD u h) (rdL LL u h) (rdE LE u h) (fun q => qb (tau r (128 * u + q))) (fun q => dob (tau r (128 * u + q))) (fun h => sl h * r) (fun h q => lb h (tau r (128 * u + q))) (fun h q => db h (tau r (128 * u + q))) (rdQ_at LQ r qb hQ h) (rdD_at LD r dob hD h) (rdL_at LL r lb hL h) (rdE_at LE r db hE h) (rnK LK u h) (rnV LV u h) (rnB LB) (fun kc : Fin 128 => kb (tau r (128 * u + (kc.val + 128) - 128))) (fun kc : Fin 128 => vb (tau r (128 * u + (kc.val + 128) - 128))) (rnK_at LK r kb hK h ) (rnV_at LV r vb hV h ) (rnB_at LB r sl hB) q x).trans ?_
  rw [uq_eq r qb kb vb dob sl lb db hr h rfl (.inr rfl) (fun _ => rfl) (fun e => absurd hz e) q x]
  rfl

include hQ hD hK hV hL hE hB in
theorem dkW_at {u : ℕ} (h : u < 16) (hz : u % (16 / r) ≠ 0) (y : (dkW LQ LD LK LV LL LE LB u h).1.shape.Idx) :
    (dkW LQ LD LK LV LL LE LB u h).2 y = Gk r qb kb vb dob sl lb db ((dkW LQ LD LK LV LL LE LB u h).1.emb y) := by
  obtain ⟨kc, x, rfl⟩ : ∃ (kc : Fin 256) (x : Fin 128), y = ix3 (0 : Fin 1) kc x := ⟨y 1, y 2, ext3 y _ _ _ (by have : (y 0).val < 1 := (y 0).isLt; show (y 0).val = 0; omega) rfl rfl⟩
  rw [show (dkW LQ LD LK LV LL LE LB u h).1.emb (ix3 (0 : Fin 1) kc x) = ix3 (⟨u, h⟩ : Fin 16) (⟨kc.val + 0, by omega⟩ : Fin 256) x from
    ext3 _ _ _ _ (by show u + 1 * 0 = u; omega) (by show 0 + 1 * kc.val = kc.val + 0; omega) (by show 0 + 1 * x.val = x.val; omega)]
  refine (uk256_at (rdQ LQ u h) (rdD LD u h) (rdL LL u h) (rdE LE u h) (fun q => qb (tau r (128 * u + q))) (fun q => dob (tau r (128 * u + q))) (fun h => sl h * r) (fun h q => lb h (tau r (128 * u + q))) (fun h q => db h (tau r (128 * u + q))) (rdQ_at LQ r qb hQ h) (rdD_at LD r dob hD h) (rdL_at LL r lb hL h) (rdE_at LE r db hE h) (rdK LK u h) (rdV LV u h) (rdB LB) (fun kc : Fin 256 => kb (tau r (128 * u + (kc.val + 0) - 128))) (fun kc : Fin 256 => vb (tau r (128 * u + (kc.val + 0) - 128))) (rdK_at LK r kb hK h (fun e => hz (by rw [e]; exact Nat.zero_mod _))) (rdV_at LV r vb hV h (fun e => hz (by rw [e]; exact Nat.zero_mod _))) (rdB_at LB r sl hB) kc x).trans ?_
  rw [uk_eq r qb kb vb dob sl lb db hr h rfl (.inl hz) kc x]
  rfl

include hQ hD hK hV hL hE hB in
theorem dkN_at {u : ℕ} (h : u < 16) (y : (dkN LQ LD LK LV LL LE LB u h).1.shape.Idx) :
    (dkN LQ LD LK LV LL LE LB u h).2 y = Gk r qb kb vb dob sl lb db ((dkN LQ LD LK LV LL LE LB u h).1.emb y) := by
  obtain ⟨kc, x, rfl⟩ : ∃ (kc : Fin 128) (x : Fin 128), y = ix3 (0 : Fin 1) kc x := ⟨y 1, y 2, ext3 y _ _ _ (by have : (y 0).val < 1 := (y 0).isLt; show (y 0).val = 0; omega) rfl rfl⟩
  rw [show (dkN LQ LD LK LV LL LE LB u h).1.emb (ix3 (0 : Fin 1) kc x) = ix3 (⟨u, h⟩ : Fin 16) (⟨kc.val + 128, by omega⟩ : Fin 256) x from
    ext3 _ _ _ _ (by show u + 1 * 0 = u; omega) (by show 128 + 1 * kc.val = kc.val + 128; omega) (by show 0 + 1 * x.val = x.val; omega)]
  refine (uk128_at (rdQ LQ u h) (rdD LD u h) (rdL LL u h) (rdE LE u h) (fun q => qb (tau r (128 * u + q))) (fun q => dob (tau r (128 * u + q))) (fun h => sl h * r) (fun h q => lb h (tau r (128 * u + q))) (fun h q => db h (tau r (128 * u + q))) (rdQ_at LQ r qb hQ h) (rdD_at LD r dob hD h) (rdL_at LL r lb hL h) (rdE_at LE r db hE h) (rnK LK u h) (rnV LV u h) (rnB LB) (fun kc : Fin 128 => kb (tau r (128 * u + (kc.val + 128) - 128))) (fun kc : Fin 128 => vb (tau r (128 * u + (kc.val + 128) - 128))) (rnK_at LK r kb hK h ) (rnV_at LV r vb hV h ) (rnB_at LB r sl hB) kc x).trans ?_
  rw [uk_eq r qb kb vb dob sl lb db hr h rfl (.inr rfl) kc x]
  rfl

include hQ hD hK hL hB in
theorem dvW_at {u : ℕ} (h : u < 16) (hz : u % (16 / r) ≠ 0) (y : (dvW LQ LD LK LL LB u h).1.shape.Idx) :
    (dvW LQ LD LK LL LB u h).2 y = Gv r qb kb dob sl lb ((dvW LQ LD LK LL LB u h).1.emb y) := by
  obtain ⟨kc, x, rfl⟩ : ∃ (kc : Fin 256) (x : Fin 128), y = ix3 (0 : Fin 1) kc x := ⟨y 1, y 2, ext3 y _ _ _ (by have : (y 0).val < 1 := (y 0).isLt; show (y 0).val = 0; omega) rfl rfl⟩
  rw [show (dvW LQ LD LK LL LB u h).1.emb (ix3 (0 : Fin 1) kc x) = ix3 (⟨u, h⟩ : Fin 16) (⟨kc.val + 0, by omega⟩ : Fin 256) x from
    ext3 _ _ _ _ (by show u + 1 * 0 = u; omega) (by show 0 + 1 * kc.val = kc.val + 0; omega) (by show 0 + 1 * x.val = x.val; omega)]
  refine (uv256_at (rdQ LQ u h) (rdD LD u h) (rdL LL u h) (fun q => qb (tau r (128 * u + q))) (fun q => dob (tau r (128 * u + q))) (fun h => sl h * r) (fun h q => lb h (tau r (128 * u + q))) (rdQ_at LQ r qb hQ h) (rdD_at LD r dob hD h) (rdL_at LL r lb hL h) (rdK LK u h) (rdB LB) (fun kc : Fin 256 => kb (tau r (128 * u + (kc.val + 0) - 128))) (rdK_at LK r kb hK h (fun e => hz (by rw [e]; exact Nat.zero_mod _))) (rdB_at LB r sl hB) kc x).trans ?_
  rw [uv_eq r qb kb dob sl lb hr h rfl (.inl hz) kc x]
  rfl

include hQ hD hK hL hB in
theorem dvN_at {u : ℕ} (h : u < 16) (y : (dvN LQ LD LK LL LB u h).1.shape.Idx) :
    (dvN LQ LD LK LL LB u h).2 y = Gv r qb kb dob sl lb ((dvN LQ LD LK LL LB u h).1.emb y) := by
  obtain ⟨kc, x, rfl⟩ : ∃ (kc : Fin 128) (x : Fin 128), y = ix3 (0 : Fin 1) kc x := ⟨y 1, y 2, ext3 y _ _ _ (by have : (y 0).val < 1 := (y 0).isLt; show (y 0).val = 0; omega) rfl rfl⟩
  rw [show (dvN LQ LD LK LL LB u h).1.emb (ix3 (0 : Fin 1) kc x) = ix3 (⟨u, h⟩ : Fin 16) (⟨kc.val + 128, by omega⟩ : Fin 256) x from
    ext3 _ _ _ _ (by show u + 1 * 0 = u; omega) (by show 128 + 1 * kc.val = kc.val + 128; omega) (by show 0 + 1 * x.val = x.val; omega)]
  refine (uv128_at (rdQ LQ u h) (rdD LD u h) (rdL LL u h) (fun q => qb (tau r (128 * u + q))) (fun q => dob (tau r (128 * u + q))) (fun h => sl h * r) (fun h q => lb h (tau r (128 * u + q))) (rdQ_at LQ r qb hQ h) (rdD_at LD r dob hD h) (rdL_at LL r lb hL h) (rnK LK u h) (rnB LB) (fun kc : Fin 128 => kb (tau r (128 * u + (kc.val + 128) - 128))) (rnK_at LK r kb hK h ) (rnB_at LB r sl hB) kc x).trans ?_
  rw [uv_eq r qb kb dob sl lb hr h rfl (.inr rfl) kc x]
  rfl
end

end Cert.KernelIdeal.Value
-- ==== Proof.Lists.lean ====
module
public import proofs.«01_k».proof.Proof.Gen.KernelIdeal.Value
public import proofs.«01_k».proof.Proof.Pieces
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

section
variable (LQ LD : PL S2048x128 .bf16) (LK LV : PL S2176x128 .bf16) (LL LE : PL S2048x128 .f32) (LB : PL S256x256 .f32)

/-- The writes of the sixteen units, dilation 1. -/
def dqA : PL S2048x128 .f32 := [dqW LQ LD LK LV LL LE LB 15 (by decide),
    dqW LQ LD LK LV LL LE LB 14 (by decide),
    dqW LQ LD LK LV LL LE LB 13 (by decide),
    dqW LQ LD LK LV LL LE LB 12 (by decide),
    dqW LQ LD LK LV LL LE LB 11 (by decide),
    dqW LQ LD LK LV LL LE LB 10 (by decide),
    dqW LQ LD LK LV LL LE LB 9 (by decide),
    dqW LQ LD LK LV LL LE LB 8 (by decide),
    dqW LQ LD LK LV LL LE LB 7 (by decide),
    dqW LQ LD LK LV LL LE LB 6 (by decide),
    dqW LQ LD LK LV LL LE LB 5 (by decide),
    dqW LQ LD LK LV LL LE LB 4 (by decide),
    dqW LQ LD LK LV LL LE LB 3 (by decide),
    dqW LQ LD LK LV LL LE LB 2 (by decide),
    dqW LQ LD LK LV LL LE LB 1 (by decide),
    dqN LQ LD LK LV LL LE LB 0 (by decide)]
def dkA : PL S16x256x128 .f32 := [dkW LQ LD LK LV LL LE LB 15 (by decide),
    dkW LQ LD LK LV LL LE LB 14 (by decide),
    dkW LQ LD LK LV LL LE LB 13 (by decide),
    dkW LQ LD LK LV LL LE LB 12 (by decide),
    dkW LQ LD LK LV LL LE LB 11 (by decide),
    dkW LQ LD LK LV LL LE LB 10 (by decide),
    dkW LQ LD LK LV LL LE LB 9 (by decide),
    dkW LQ LD LK LV LL LE LB 8 (by decide),
    dkW LQ LD LK LV LL LE LB 7 (by decide),
    dkW LQ LD LK LV LL LE LB 6 (by decide),
    dkW LQ LD LK LV LL LE LB 5 (by decide),
    dkW LQ LD LK LV LL LE LB 4 (by decide),
    dkW LQ LD LK LV LL LE LB 3 (by decide),
    dkW LQ LD LK LV LL LE LB 2 (by decide),
    dkW LQ LD LK LV LL LE LB 1 (by decide),
    dkN LQ LD LK LV LL LE LB 0 (by decide)]
def dvA : PL S16x256x128 .f32 := [dvW LQ LD LK LL LB 15 (by decide),
    dvW LQ LD LK LL LB 14 (by decide),
    dvW LQ LD LK LL LB 13 (by decide),
    dvW LQ LD LK LL LB 12 (by decide),
    dvW LQ LD LK LL LB 11 (by decide),
    dvW LQ LD LK LL LB 10 (by decide),
    dvW LQ LD LK LL LB 9 (by decide),
    dvW LQ LD LK LL LB 8 (by decide),
    dvW LQ LD LK LL LB 7 (by decide),
    dvW LQ LD LK LL LB 6 (by decide),
    dvW LQ LD LK LL LB 5 (by decide),
    dvW LQ LD LK LL LB 4 (by decide),
    dvW LQ LD LK LL LB 3 (by decide),
    dvW LQ LD LK LL LB 2 (by decide),
    dvW LQ LD LK LL LB 1 (by decide),
    dvN LQ LD LK LL LB 0 (by decide)]

/-- The writes of the sixteen units, dilation 4. -/
def dqB : PL S2048x128 .f32 := [dqW LQ LD LK LV LL LE LB 15 (by decide),
    dqW LQ LD LK LV LL LE LB 14 (by decide),
    dqW LQ LD LK LV LL LE LB 13 (by decide),
    dqN LQ LD LK LV LL LE LB 12 (by decide),
    dqW LQ LD LK LV LL LE LB 11 (by decide),
    dqW LQ LD LK LV LL LE LB 10 (by decide),
    dqW LQ LD LK LV LL LE LB 9 (by decide),
    dqN LQ LD LK LV LL LE LB 8 (by decide),
    dqW LQ LD LK LV LL LE LB 7 (by decide),
    dqW LQ LD LK LV LL LE LB 6 (by decide),
    dqW LQ LD LK LV LL LE LB 5 (by decide),
    dqN LQ LD LK LV LL LE LB 4 (by decide),
    dqW LQ LD LK LV LL LE LB 3 (by decide),
    dqW LQ LD LK LV LL LE LB 2 (by decide),
    dqW LQ LD LK LV LL LE LB 1 (by decide),
    dqN LQ LD LK LV LL LE LB 0 (by decide)]
def dkB : PL S16x256x128 .f32 := [dkW LQ LD LK LV LL LE LB 15 (by decide),
    dkW LQ LD LK LV LL LE LB 14 (by decide),
    dkW LQ LD LK LV LL LE LB 13 (by decide),
    dkN LQ LD LK LV LL LE LB 12 (by decide),
    dkW LQ LD LK LV LL LE LB 11 (by decide),
    dkW LQ LD LK LV LL LE LB 10 (by decide),
    dkW LQ LD LK LV LL LE LB 9 (by decide),
    dkN LQ LD LK LV LL LE LB 8 (by decide),
    dkW LQ LD LK LV LL LE LB 7 (by decide),
    dkW LQ LD LK LV LL LE LB 6 (by decide),
    dkW LQ LD LK LV LL LE LB 5 (by decide),
    dkN LQ LD LK LV LL LE LB 4 (by decide),
    dkW LQ LD LK LV LL LE LB 3 (by decide),
    dkW LQ LD LK LV LL LE LB 2 (by decide),
    dkW LQ LD LK LV LL LE LB 1 (by decide),
    dkN LQ LD LK LV LL LE LB 0 (by decide)]
def dvB : PL S16x256x128 .f32 := [dvW LQ LD LK LL LB 15 (by decide),
    dvW LQ LD LK LL LB 14 (by decide),
    dvW LQ LD LK LL LB 13 (by decide),
    dvN LQ LD LK LL LB 12 (by decide),
    dvW LQ LD LK LL LB 11 (by decide),
    dvW LQ LD LK LL LB 10 (by decide),
    dvW LQ LD LK LL LB 9 (by decide),
    dvN LQ LD LK LL LB 8 (by decide),
    dvW LQ LD LK LL LB 7 (by decide),
    dvW LQ LD LK LL LB 6 (by decide),
    dvW LQ LD LK LL LB 5 (by decide),
    dvN LQ LD LK LL LB 4 (by decide),
    dvW LQ LD LK LL LB 3 (by decide),
    dvW LQ LD LK LL LB 2 (by decide),
    dvW LQ LD LK LL LB 1 (by decide),
    dvN LQ LD LK LL LB 0 (by decide)]

/-- The writes of the sixteen units, dilation 16. -/
def dqC : PL S2048x128 .f32 := [dqN LQ LD LK LV LL LE LB 15 (by decide),
    dqN LQ LD LK LV LL LE LB 14 (by decide),
    dqN LQ LD LK LV LL LE LB 13 (by decide),
    dqN LQ LD LK LV LL LE LB 12 (by decide),
    dqN LQ LD LK LV LL LE LB 11 (by decide),
    dqN LQ LD LK LV LL LE LB 10 (by decide),
    dqN LQ LD LK LV LL LE LB 9 (by decide),
    dqN LQ LD LK LV LL LE LB 8 (by decide),
    dqN LQ LD LK LV LL LE LB 7 (by decide),
    dqN LQ LD LK LV LL LE LB 6 (by decide),
    dqN LQ LD LK LV LL LE LB 5 (by decide),
    dqN LQ LD LK LV LL LE LB 4 (by decide),
    dqN LQ LD LK LV LL LE LB 3 (by decide),
    dqN LQ LD LK LV LL LE LB 2 (by decide),
    dqN LQ LD LK LV LL LE LB 1 (by decide),
    dqN LQ LD LK LV LL LE LB 0 (by decide)]
def dkC : PL S16x256x128 .f32 := [dkN LQ LD LK LV LL LE LB 15 (by decide),
    dkN LQ LD LK LV LL LE LB 14 (by decide),
    dkN LQ LD LK LV LL LE LB 13 (by decide),
    dkN LQ LD LK LV LL LE LB 12 (by decide),
    dkN LQ LD LK LV LL LE LB 11 (by decide),
    dkN LQ LD LK LV LL LE LB 10 (by decide),
    dkN LQ LD LK LV LL LE LB 9 (by decide),
    dkN LQ LD LK LV LL LE LB 8 (by decide),
    dkN LQ LD LK LV LL LE LB 7 (by decide),
    dkN LQ LD LK LV LL LE LB 6 (by decide),
    dkN LQ LD LK LV LL LE LB 5 (by decide),
    dkN LQ LD LK LV LL LE LB 4 (by decide),
    dkN LQ LD LK LV LL LE LB 3 (by decide),
    dkN LQ LD LK LV LL LE LB 2 (by decide),
    dkN LQ LD LK LV LL LE LB 1 (by decide),
    dkN LQ LD LK LV LL LE LB 0 (by decide)]
def dvC : PL S16x256x128 .f32 := [dvN LQ LD LK LL LB 15 (by decide),
    dvN LQ LD LK LL LB 14 (by decide),
    dvN LQ LD LK LL LB 13 (by decide),
    dvN LQ LD LK LL LB 12 (by decide),
    dvN LQ LD LK LL LB 11 (by decide),
    dvN LQ LD LK LL LB 10 (by decide),
    dvN LQ LD LK LL LB 9 (by decide),
    dvN LQ LD LK LL LB 8 (by decide),
    dvN LQ LD LK LL LB 7 (by decide),
    dvN LQ LD LK LL LB 6 (by decide),
    dvN LQ LD LK LL LB 5 (by decide),
    dvN LQ LD LK LL LB 4 (by decide),
    dvN LQ LD LK LL LB 3 (by decide),
    dvN LQ LD LK LL LB 2 (by decide),
    dvN LQ LD LK LL LB 1 (by decide),
    dvN LQ LD LK LL LB 0 (by decide)]
end

section
variable (LP : PL S16x256x128 .f32)
/-- A part's right half, and left half. -/
abbrev rkR (u : ℕ) (h : u < 16) : Vec Ideal S1x128x128 .f32 := (View.whole cc0_scratch9).readCov LP (Rect.unit (s := S16x256x128) ![u, 128, 0] ![1, 128, 128] (inbR h)).toLoadRect
abbrev rkL (u : ℕ) (h : u < 16) : Vec Ideal S1x128x128 .f32 := (View.whole cc0_scratch9).readCov LP (Rect.unit (s := S16x256x128) ![u, 0, 0] ![1, 128, 128] (inbL h)).toLoadRect
/-- The writes that gather the parts. -/
def akP (u : ℕ) (h : u + 1 < 16) : View.Piece (Elt Ideal) S2048x128 .f32 :=
  ⟨Rect.unit ![128 * u, 0] ![128, 128] (inbA (Nat.lt_of_succ_lt h)), k0_pay167 (rkR LP u (Nat.lt_of_succ_lt h)) (rkL LP (u + 1) h)⟩
def akE (u : ℕ) (h : u < 16) : View.Piece (Elt Ideal) S2048x128 .f32 :=
  ⟨Rect.unit ![128 * u, 0] ![128, 128] (inbA h), k0_pay204 (rkR LP u h)⟩
def akA : PL S2048x128 .f32 := [akE LP 15 (by decide),
    akP LP 14 (by decide),
    akP LP 13 (by decide),
    akP LP 12 (by decide),
    akP LP 11 (by decide),
    akP LP 10 (by decide),
    akP LP 9 (by decide),
    akP LP 8 (by decide),
    akP LP 7 (by decide),
    akP LP 6 (by decide),
    akP LP 5 (by decide),
    akP LP 4 (by decide),
    akP LP 3 (by decide),
    akP LP 2 (by decide),
    akP LP 1 (by decide),
    akP LP 0 (by decide)]
def akB : PL S2048x128 .f32 := [akE LP 15 (by decide),
    akP LP 14 (by decide),
    akP LP 13 (by decide),
    akP LP 12 (by decide),
    akE LP 11 (by decide),
    akP LP 10 (by decide),
    akP LP 9 (by decide),
    akP LP 8 (by decide),
    akE LP 7 (by decide),
    akP LP 6 (by decide),
    akP LP 5 (by decide),
    akP LP 4 (by decide),
    akE LP 3 (by decide),
    akP LP 2 (by decide),
    akP LP 1 (by decide),
    akP LP 0 (by decide)]
def akC : PL S2048x128 .f32 := [akE LP 15 (by decide),
    akE LP 14 (by decide),
    akE LP 13 (by decide),
    akE LP 12 (by decide),
    akE LP 11 (by decide),
    akE LP 10 (by decide),
    akE LP 9 (by decide),
    akE LP 8 (by decide),
    akE LP 7 (by decide),
    akE LP 6 (by decide),
    akE LP 5 (by decide),
    akE LP 4 (by decide),
    akE LP 3 (by decide),
    akE LP 2 (by decide),
    akE LP 1 (by decide),
    akE LP 0 (by decide)]
end

section
variable (LP : PL S16x256x128 .f32)
/-- A part's right half, and left half. -/
abbrev rvR (u : ℕ) (h : u < 16) : Vec Ideal S1x128x128 .f32 := (View.whole cc0_scratch10).readCov LP (Rect.unit (s := S16x256x128) ![u, 128, 0] ![1, 128, 128] (inbR h)).toLoadRect
abbrev rvL (u : ℕ) (h : u < 16) : Vec Ideal S1x128x128 .f32 := (View.whole cc0_scratch10).readCov LP (Rect.unit (s := S16x256x128) ![u, 0, 0] ![1, 128, 128] (inbL h)).toLoadRect
/-- The writes that gather the parts. -/
def avP (u : ℕ) (h : u + 1 < 16) : View.Piece (Elt Ideal) S2048x128 .f32 :=
  ⟨Rect.unit ![128 * u, 0] ![128, 128] (inbA (Nat.lt_of_succ_lt h)), k0_pay167 (rvR LP u (Nat.lt_of_succ_lt h)) (rvL LP (u + 1) h)⟩
def avE (u : ℕ) (h : u < 16) : View.Piece (Elt Ideal) S2048x128 .f32 :=
  ⟨Rect.unit ![128 * u, 0] ![128, 128] (inbA h), k0_pay204 (rvR LP u h)⟩
def avA : PL S2048x128 .f32 := [avE LP 15 (by decide),
    avP LP 14 (by decide),
    avP LP 13 (by decide),
    avP LP 12 (by decide),
    avP LP 11 (by decide),
    avP LP 10 (by decide),
    avP LP 9 (by decide),
    avP LP 8 (by decide),
    avP LP 7 (by decide),
    avP LP 6 (by decide),
    avP LP 5 (by decide),
    avP LP 4 (by decide),
    avP LP 3 (by decide),
    avP LP 2 (by decide),
    avP LP 1 (by decide),
    avP LP 0 (by decide)]
def avB : PL S2048x128 .f32 := [avE LP 15 (by decide),
    avP LP 14 (by decide),
    avP LP 13 (by decide),
    avP LP 12 (by decide),
    avE LP 11 (by decide),
    avP LP 10 (by decide),
    avP LP 9 (by decide),
    avP LP 8 (by decide),
    avE LP 7 (by decide),
    avP LP 6 (by decide),
    avP LP 5 (by decide),
    avP LP 4 (by decide),
    avE LP 3 (by decide),
    avP LP 2 (by decide),
    avP LP 1 (by decide),
    avP LP 0 (by decide)]
def avC : PL S2048x128 .f32 := [avE LP 15 (by decide),
    avE LP 14 (by decide),
    avE LP 13 (by decide),
    avE LP 12 (by decide),
    avE LP 11 (by decide),
    avE LP 10 (by decide),
    avE LP 9 (by decide),
    avE LP 8 (by decide),
    avE LP 7 (by decide),
    avE LP 6 (by decide),
    avE LP 5 (by decide),
    avE LP 4 (by decide),
    avE LP 3 (by decide),
    avE LP 2 (by decide),
    avE LP 1 (by decide),
    avE LP 0 (by decide)]
end

/-- The bias's four quarters, from the two heads' slopes. -/
def biasL (s0 s1 : Elt Ideal .f32) : PL S256x256 .f32 :=
  [⟨Rect.unit ![128, 128] ![128, 128] inb_S256x256_S128x128_128_128, k0_pay22 s1⟩,
   ⟨Rect.unit ![128, 0] ![128, 128] inb_S256x256_S128x128_128_0, k0_pay21 s1⟩,
   ⟨Rect.unit ![0, 128] ![128, 128] inb_S256x256_S128x128_0_128, k0_pay19 (k0_pay16 s0)⟩,
   ⟨Rect.unit ![0, 0] ![128, 128] inb_S256x256_S128x128_0_0, k0_pay18 (k0_pay17 s0)⟩]

/-- The loads of the dilation-1 case. -/
def ldQA (x : Vec Ideal S1x2048x128 .f32) : PL S2048x128 .bf16 := [⟨Rect.unit ![0, 0] ![2048, 128] inb_S2048x128_S2048x128_0_0, k0_pay6 x⟩]
def ldLA (x : Vec Ideal S1x2048x128 .f32) : PL S2048x128 .f32 := [⟨Rect.unit ![0, 0] ![2048, 128] inb_S2048x128_S2048x128_0_0, k0_pay13 x⟩]
def ldKA (x : Vec Ideal S1x2048x128 .f32) : PL S2176x128 .bf16 :=
  [⟨Rect.unit ![128, 0] ![2048, 128] inb_S2176x128_S2048x128_128_0, k0_pay9 x⟩, ⟨Rect.unit ![0, 0] ![128, 128] inb_S2176x128_S128x128_0_0, k0_pay7 (F := Ideal)⟩]

/-- One slope, read by a step of case 1. -/
theorem inbS1 (t : Fin cfg0.N) (b : Fin 2) : ∀ a, k0_off1 (grid0.coords t) (BitVec.ofNat 32 b.val) a + S1.size a ≤ S24.size a := by
  have h : ∀ (t : Fin cfg0.N) (b : Fin 2), ∀ a, k0_off1 (grid0.coords t) (BitVec.ofNat 32 b.val) a + S1.size a ≤ S24.size a := by decide +kernel
  exact h t b
theorem offS1 (t : Fin cfg0.N) (b : Fin 2) : k0_off1 (grid0.coords t) (BitVec.ofNat 32 b.val) 0 = 0 + 2 * (t.val % 4) + b.val := by
  have h : ∀ (t : Fin cfg0.N) (b : Fin 2), k0_off1 (grid0.coords t) (BitVec.ofNat 32 b.val) 0 = 0 + 2 * (t.val % 4) + b.val := by decide +kernel
  exact h t b
def slp1 (t : Fin cfg0.N) (x : Vec Ideal S24 .f32) (b : Fin 2) : Elt Ideal .f32 :=
  View.ld x (Rect.unit (s := S24) (k0_off1 (grid0.coords t) (BitVec.ofNat 32 b.val)) S1.size (inbS1 t b)) (Shape.Idx.first (lt_of_lt_of_eq Nat.zero_lt_one numel1_S1.symm))
theorem slp1_eq (t : Fin cfg0.N) (x : Vec Ideal S24 .f32) (b : Fin 2) : slp1 t x b = x (ix1 (⟨0 + 2 * (t.val % 4) + b.val, by omega⟩ : Fin 24)) := by
  refine congrArg x ?_
  funext a
  fin_cases a
  refine Fin.ext ?_
  show k0_off1 (grid0.coords t) (BitVec.ofNat 32 b.val) 0 + 1 * 0 = _
  rw [offS1]
  rfl
/-- One slope, read by a step of case 2. -/
theorem inbS2 (t : Fin cfg0.N) (b : Fin 2) : ∀ a, k0_off2 (grid0.coords t) (BitVec.ofNat 32 b.val) a + S1.size a ≤ S24.size a := by
  have h : ∀ (t : Fin cfg0.N) (b : Fin 2), ∀ a, k0_off2 (grid0.coords t) (BitVec.ofNat 32 b.val) a + S1.size a ≤ S24.size a := by decide +kernel
  exact h t b
theorem offS2 (t : Fin cfg0.N) (b : Fin 2) : k0_off2 (grid0.coords t) (BitVec.ofNat 32 b.val) 0 = 8 + 2 * (t.val % 4) + b.val := by
  have h : ∀ (t : Fin cfg0.N) (b : Fin 2), k0_off2 (grid0.coords t) (BitVec.ofNat 32 b.val) 0 = 8 + 2 * (t.val % 4) + b.val := by decide +kernel
  exact h t b
def slp2 (t : Fin cfg0.N) (x : Vec Ideal S24 .f32) (b : Fin 2) : Elt Ideal .f32 :=
  View.ld x (Rect.unit (s := S24) (k0_off2 (grid0.coords t) (BitVec.ofNat 32 b.val)) S1.size (inbS2 t b)) (Shape.Idx.first (lt_of_lt_of_eq Nat.zero_lt_one numel1_S1.symm))
theorem slp2_eq (t : Fin cfg0.N) (x : Vec Ideal S24 .f32) (b : Fin 2) : slp2 t x b = x (ix1 (⟨8 + 2 * (t.val % 4) + b.val, by omega⟩ : Fin 24)) := by
  refine congrArg x ?_
  funext a
  fin_cases a
  refine Fin.ext ?_
  show k0_off2 (grid0.coords t) (BitVec.ofNat 32 b.val) 0 + 1 * 0 = _
  rw [offS2]
  rfl
/-- One slope, read by a step of case 3. -/
theorem inbS3 (t : Fin cfg0.N) (b : Fin 2) : ∀ a, k0_off3 (grid0.coords t) (BitVec.ofNat 32 b.val) a + S1.size a ≤ S24.size a := by
  have h : ∀ (t : Fin cfg0.N) (b : Fin 2), ∀ a, k0_off3 (grid0.coords t) (BitVec.ofNat 32 b.val) a + S1.size a ≤ S24.size a := by decide +kernel
  exact h t b
theorem offS3 (t : Fin cfg0.N) (b : Fin 2) : k0_off3 (grid0.coords t) (BitVec.ofNat 32 b.val) 0 = 16 + 2 * (t.val % 4) + b.val := by
  have h : ∀ (t : Fin cfg0.N) (b : Fin 2), k0_off3 (grid0.coords t) (BitVec.ofNat 32 b.val) 0 = 16 + 2 * (t.val % 4) + b.val := by decide +kernel
  exact h t b
def slp3 (t : Fin cfg0.N) (x : Vec Ideal S24 .f32) (b : Fin 2) : Elt Ideal .f32 :=
  View.ld x (Rect.unit (s := S24) (k0_off3 (grid0.coords t) (BitVec.ofNat 32 b.val)) S1.size (inbS3 t b)) (Shape.Idx.first (lt_of_lt_of_eq Nat.zero_lt_one numel1_S1.symm))
theorem slp3_eq (t : Fin cfg0.N) (x : Vec Ideal S24 .f32) (b : Fin 2) : slp3 t x b = x (ix1 (⟨16 + 2 * (t.val % 4) + b.val, by omega⟩ : Fin 24)) := by
  refine congrArg x ?_
  funext a
  fin_cases a
  refine Fin.ext ?_
  show k0_off3 (grid0.coords t) (BitVec.ofNat 32 b.val) 0 + 1 * 0 = _
  rw [offS3]
  rfl
/-- A strided read of case B: class `c`'s rows. -/
def rcB (c : ℕ) (h : c < 4) : LoadRect S1x2048x128 :=
  { off := ![0, c, 0], size := ![1, 512, 128], stride := ![1, 4, 1], inb := by
      intro a; right; fin_cases a
      · exact Nat.zero_lt_one
      · show c + 4 * (512 - 1) < 2048; omega
      · exact Nat.lt_of_sub_eq_succ rfl }
/-- A strided write of case B. -/
def wcB (c : ℕ) (h : c < 4) : Rect S2048x128 :=
  { off := ![c, 0], size := ![512, 128], stride := ![4, 1], inb := by
      intro a; right; fin_cases a
      · show c + 4 * (512 - 1) < 2048; omega
      · exact Nat.lt_of_sub_eq_succ rfl
    stride_pos := by intro a; fin_cases a <;> exact Nat.succ_pos _ }
theorem inbB {c : ℕ} (h : c < 4) : ∀ a, (![512 * c, 0] : Fin 2 → ℕ) a + (![512, 128] : Fin 2 → ℕ) a ≤ S2048x128.size a := by
  intro a; fin_cases a
  · show 512 * c + 512 ≤ 2048; omega
  · exact Nat.le_refl _
theorem inbkB {c : ℕ} (h : c < 4) : ∀ a, (![512 * c + 128, 0] : Fin 2 → ℕ) a + (![512, 128] : Fin 2 → ℕ) a ≤ S2176x128.size a := by
  intro a; fin_cases a
  · show 512 * c + 128 + 512 ≤ 2176; omega
  · exact Nat.le_refl _
section
variable (w : Memref sig .tc .vmem S1x2048x128 .f32) (hw : w.IsWhole) (x : Vec Ideal S1x2048x128 .f32)
/-- What it reads of a window's block. -/
def rxB (c : ℕ) (h : c < 4) : Vec Ideal S1x512x128 .f32 := View.readAt (Elt Ideal) w.view (rcB c h) (hw.unread x)
theorem rxB_at (c : ℕ) (h : c < 4) (j : Fin 512) (d : Fin 128) : rxB w hw x c h (ix3 0 j d) = x (ix3 0 (⟨c + 4 * j.val, by omega⟩ : Fin 2048) d) := by
  refine (congrFun (hw.read_unread x) ((rcB c h).idx (ix3 (0 : Fin 1) j d))).trans (congrArg x (ext3 _ _ _ _ ?_ ?_ ?_))
  · show 0 + 1 * 0 = 0; rfl
  · rfl
  · show 0 + 1 * d.val = d.val; omega
def qwB (c : ℕ) (h : c < 4) : View.Piece (Elt Ideal) S2048x128 .bf16 :=
  ⟨Rect.unit ![512 * c, 0] ![512, 128] (inbB h), shapeCast S512x128 (truncf (F := Ideal) .bf16 (shapeCast S512x128 (rxB w hw x c h) shapeCasts_S1x512x128_S512x128) bitsLt_bf16_f32) shapeCasts_S512x128_S512x128⟩
def lwB (c : ℕ) (h : c < 4) : View.Piece (Elt Ideal) S2048x128 .f32 :=
  ⟨Rect.unit ![512 * c, 0] ![512, 128] (inbB h), shapeCast S512x128 (shapeCast S512x128 (rxB w hw x c h) shapeCasts_S1x512x128_S512x128) shapeCasts_S512x128_S512x128⟩
def kwB (c : ℕ) (h : c < 4) : View.Piece (Elt Ideal) S2176x128 .bf16 :=
  ⟨Rect.unit ![512 * c + 128, 0] ![512, 128] (inbkB h), shapeCast S512x128 (truncf (F := Ideal) .bf16 (shapeCast S512x128 (rxB w hw x c h) shapeCasts_S1x512x128_S512x128) bitsLt_bf16_f32) shapeCasts_S512x128_S512x128⟩
def ldQB : PL S2048x128 .bf16 := [qwB w hw x 3 (by decide), qwB w hw x 2 (by decide), qwB w hw x 1 (by decide), qwB w hw x 0 (by decide)]
def ldLB : PL S2048x128 .f32 := [lwB w hw x 3 (by decide), lwB w hw x 2 (by decide), lwB w hw x 1 (by decide), lwB w hw x 0 (by decide)]
def ldKB : PL S2176x128 .bf16 := [kwB w hw x 3 (by decide), kwB w hw x 2 (by decide), kwB w hw x 1 (by decide), kwB w hw x 0 (by decide), ⟨Rect.unit ![0, 0] ![128, 128] inb_S2176x128_S128x128_0_0, k0_pay7 (F := Ideal)⟩]
end
section
variable (L : PL S2048x128 .f32)
def swB6 (c : ℕ) (h : c < 4) : View.Piece (Elt Ideal) S2048x128 .f32 :=
  ⟨wcB c h, shapeCast S512x128 (show Vec Ideal S512x128 .f32 from (View.whole cc0_scratch6).readCov L (Rect.unit (s := S2048x128) ![512 * c, 0] ![512, 128] (inbB h)).toLoadRect) shapeCasts_S512x128_S512x128⟩
def stB6 : PL S2048x128 .f32 := [swB6 L 3 (by decide), swB6 L 2 (by decide), swB6 L 1 (by decide), swB6 L 0 (by decide)]
def swB7 (c : ℕ) (h : c < 4) : View.Piece (Elt Ideal) S2048x128 .f32 :=
  ⟨wcB c h, shapeCast S512x128 (show Vec Ideal S512x128 .f32 from (View.whole cc0_scratch7).readCov L (Rect.unit (s := S2048x128) ![512 * c, 0] ![512, 128] (inbB h)).toLoadRect) shapeCasts_S512x128_S512x128⟩
def stB7 : PL S2048x128 .f32 := [swB7 L 3 (by decide), swB7 L 2 (by decide), swB7 L 1 (by decide), swB7 L 0 (by decide)]
def swB8 (c : ℕ) (h : c < 4) : View.Piece (Elt Ideal) S2048x128 .f32 :=
  ⟨wcB c h, shapeCast S512x128 (show Vec Ideal S512x128 .f32 from (View.whole cc0_scratch8).readCov L (Rect.unit (s := S2048x128) ![512 * c, 0] ![512, 128] (inbB h)).toLoadRect) shapeCasts_S512x128_S512x128⟩
def stB8 : PL S2048x128 .f32 := [swB8 L 3 (by decide), swB8 L 2 (by decide), swB8 L 1 (by decide), swB8 L 0 (by decide)]
end
/-- A strided read of case C: class `c`'s rows. -/
def rcC (c : ℕ) (h : c < 16) : LoadRect S1x2048x128 :=
  { off := ![0, c, 0], size := ![1, 128, 128], stride := ![1, 16, 1], inb := by
      intro a; right; fin_cases a
      · exact Nat.zero_lt_one
      · show c + 16 * (128 - 1) < 2048; omega
      · exact Nat.lt_of_sub_eq_succ rfl }
/-- A strided write of case C. -/
def wcC (c : ℕ) (h : c < 16) : Rect S2048x128 :=
  { off := ![c, 0], size := ![128, 128], stride := ![16, 1], inb := by
      intro a; right; fin_cases a
      · show c + 16 * (128 - 1) < 2048; omega
      · exact Nat.lt_of_sub_eq_succ rfl
    stride_pos := by intro a; fin_cases a <;> exact Nat.succ_pos _ }
theorem inbC {c : ℕ} (h : c < 16) : ∀ a, (![128 * c, 0] : Fin 2 → ℕ) a + (![128, 128] : Fin 2 → ℕ) a ≤ S2048x128.size a := by
  intro a; fin_cases a
  · show 128 * c + 128 ≤ 2048; omega
  · exact Nat.le_refl _
theorem inbkC {c : ℕ} (h : c < 16) : ∀ a, (![128 * c + 128, 0] : Fin 2 → ℕ) a + (![128, 128] : Fin 2 → ℕ) a ≤ S2176x128.size a := by
  intro a; fin_cases a
  · show 128 * c + 128 + 128 ≤ 2176; omega
  · exact Nat.le_refl _
section
variable (w : Memref sig .tc .vmem S1x2048x128 .f32) (hw : w.IsWhole) (x : Vec Ideal S1x2048x128 .f32)
/-- What it reads of a window's block. -/
def rxC (c : ℕ) (h : c < 16) : Vec Ideal S1x128x128 .f32 := View.readAt (Elt Ideal) w.view (rcC c h) (hw.unread x)
theorem rxC_at (c : ℕ) (h : c < 16) (j : Fin 128) (d : Fin 128) : rxC w hw x c h (ix3 0 j d) = x (ix3 0 (⟨c + 16 * j.val, by omega⟩ : Fin 2048) d) := by
  refine (congrFun (hw.read_unread x) ((rcC c h).idx (ix3 (0 : Fin 1) j d))).trans (congrArg x (ext3 _ _ _ _ ?_ ?_ ?_))
  · show 0 + 1 * 0 = 0; rfl
  · rfl
  · show 0 + 1 * d.val = d.val; omega
def qwC (c : ℕ) (h : c < 16) : View.Piece (Elt Ideal) S2048x128 .bf16 :=
  ⟨Rect.unit ![128 * c, 0] ![128, 128] (inbC h), shapeCast S128x128 (truncf (F := Ideal) .bf16 (shapeCast S128x128 (rxC w hw x c h) shapeCasts_S1x128x128_S128x128) bitsLt_bf16_f32) shapeCasts_S128x128_S128x128⟩
def lwC (c : ℕ) (h : c < 16) : View.Piece (Elt Ideal) S2048x128 .f32 :=
  ⟨Rect.unit ![128 * c, 0] ![128, 128] (inbC h), shapeCast S128x128 (shapeCast S128x128 (rxC w hw x c h) shapeCasts_S1x128x128_S128x128) shapeCasts_S128x128_S128x128⟩
def kwC (c : ℕ) (h : c < 16) : View.Piece (Elt Ideal) S2176x128 .bf16 :=
  ⟨Rect.unit ![128 * c + 128, 0] ![128, 128] (inbkC h), shapeCast S128x128 (truncf (F := Ideal) .bf16 (shapeCast S128x128 (rxC w hw x c h) shapeCasts_S1x128x128_S128x128) bitsLt_bf16_f32) shapeCasts_S128x128_S128x128⟩
def ldQC : PL S2048x128 .bf16 := [qwC w hw x 15 (by decide), qwC w hw x 14 (by decide), qwC w hw x 13 (by decide), qwC w hw x 12 (by decide), qwC w hw x 11 (by decide), qwC w hw x 10 (by decide), qwC w hw x 9 (by decide), qwC w hw x 8 (by decide), qwC w hw x 7 (by decide), qwC w hw x 6 (by decide), qwC w hw x 5 (by decide), qwC w hw x 4 (by decide), qwC w hw x 3 (by decide), qwC w hw x 2 (by decide), qwC w hw x 1 (by decide), qwC w hw x 0 (by decide)]
def ldLC : PL S2048x128 .f32 := [lwC w hw x 15 (by decide), lwC w hw x 14 (by decide), lwC w hw x 13 (by decide), lwC w hw x 12 (by decide), lwC w hw x 11 (by decide), lwC w hw x 10 (by decide), lwC w hw x 9 (by decide), lwC w hw x 8 (by decide), lwC w hw x 7 (by decide), lwC w hw x 6 (by decide), lwC w hw x 5 (by decide), lwC w hw x 4 (by decide), lwC w hw x 3 (by decide), lwC w hw x 2 (by decide), lwC w hw x 1 (by decide), lwC w hw x 0 (by decide)]
def ldKC : PL S2176x128 .bf16 := [kwC w hw x 15 (by decide), kwC w hw x 14 (by decide), kwC w hw x 13 (by decide), kwC w hw x 12 (by decide), kwC w hw x 11 (by decide), kwC w hw x 10 (by decide), kwC w hw x 9 (by decide), kwC w hw x 8 (by decide), kwC w hw x 7 (by decide), kwC w hw x 6 (by decide), kwC w hw x 5 (by decide), kwC w hw x 4 (by decide), kwC w hw x 3 (by decide), kwC w hw x 2 (by decide), kwC w hw x 1 (by decide), kwC w hw x 0 (by decide), ⟨Rect.unit ![0, 0] ![128, 128] inb_S2176x128_S128x128_0_0, k0_pay7 (F := Ideal)⟩]
end
section
variable (L : PL S2048x128 .f32)
def swC6 (c : ℕ) (h : c < 16) : View.Piece (Elt Ideal) S2048x128 .f32 :=
  ⟨wcC c h, shapeCast S128x128 (show Vec Ideal S128x128 .f32 from (View.whole cc0_scratch6).readCov L (Rect.unit (s := S2048x128) ![128 * c, 0] ![128, 128] (inbC h)).toLoadRect) shapeCasts_S128x128_S128x128⟩
def stC6 : PL S2048x128 .f32 := [swC6 L 15 (by decide), swC6 L 14 (by decide), swC6 L 13 (by decide), swC6 L 12 (by decide), swC6 L 11 (by decide), swC6 L 10 (by decide), swC6 L 9 (by decide), swC6 L 8 (by decide), swC6 L 7 (by decide), swC6 L 6 (by decide), swC6 L 5 (by decide), swC6 L 4 (by decide), swC6 L 3 (by decide), swC6 L 2 (by decide), swC6 L 1 (by decide), swC6 L 0 (by decide)]
def swC7 (c : ℕ) (h : c < 16) : View.Piece (Elt Ideal) S2048x128 .f32 :=
  ⟨wcC c h, shapeCast S128x128 (show Vec Ideal S128x128 .f32 from (View.whole cc0_scratch7).readCov L (Rect.unit (s := S2048x128) ![128 * c, 0] ![128, 128] (inbC h)).toLoadRect) shapeCasts_S128x128_S128x128⟩
def stC7 : PL S2048x128 .f32 := [swC7 L 15 (by decide), swC7 L 14 (by decide), swC7 L 13 (by decide), swC7 L 12 (by decide), swC7 L 11 (by decide), swC7 L 10 (by decide), swC7 L 9 (by decide), swC7 L 8 (by decide), swC7 L 7 (by decide), swC7 L 6 (by decide), swC7 L 5 (by decide), swC7 L 4 (by decide), swC7 L 3 (by decide), swC7 L 2 (by decide), swC7 L 1 (by decide), swC7 L 0 (by decide)]
def swC8 (c : ℕ) (h : c < 16) : View.Piece (Elt Ideal) S2048x128 .f32 :=
  ⟨wcC c h, shapeCast S128x128 (show Vec Ideal S128x128 .f32 from (View.whole cc0_scratch8).readCov L (Rect.unit (s := S2048x128) ![128 * c, 0] ![128, 128] (inbC h)).toLoadRect) shapeCasts_S128x128_S128x128⟩
def stC8 : PL S2048x128 .f32 := [swC8 L 15 (by decide), swC8 L 14 (by decide), swC8 L 13 (by decide), swC8 L 12 (by decide), swC8 L 11 (by decide), swC8 L 10 (by decide), swC8 L 9 (by decide), swC8 L 8 (by decide), swC8 L 7 (by decide), swC8 L 6 (by decide), swC8 L 5 (by decide), swC8 L 4 (by decide), swC8 L 3 (by decide), swC8 L 2 (by decide), swC8 L 1 (by decide), swC8 L 0 (by decide)]
end

/-- The last read of a buffer. -/
abbrev rdW6 (L : PL S2048x128 .f32) : Vec Ideal S2048x128 .f32 := (View.whole cc0_scratch6).readCov L (Rect.unit (s := S2048x128) ![0, 0] ![2048, 128] inb_S2048x128_S2048x128_0_0).toLoadRect
abbrev rdW7 (L : PL S2048x128 .f32) : Vec Ideal S2048x128 .f32 := (View.whole cc0_scratch7).readCov L (Rect.unit (s := S2048x128) ![0, 0] ![2048, 128] inb_S2048x128_S2048x128_0_0).toLoadRect
abbrev rdW8 (L : PL S2048x128 .f32) : Vec Ideal S2048x128 .f32 := (View.whole cc0_scratch8).readCov L (Rect.unit (s := S2048x128) ![0, 0] ![2048, 128] inb_S2048x128_S2048x128_0_0).toLoadRect
abbrev rdW11 (L : PL S2048x128 .f32) : Vec Ideal S2048x128 .f32 := (View.whole cc0_scratch11).readCov L (Rect.unit (s := S2048x128) ![0, 0] ![2048, 128] inb_S2048x128_S2048x128_0_0).toLoadRect

end Cert.KernelIdeal.Value
-- ==== Proof.OpenA.lean ====
module
public import proofs.«01_k».proof.Proof.Gen.KernelIdeal.Value
public import proofs.«01_k».proof.Proof.Lists
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

set_option maxHeartbeats 40000000 in
/-- What a step of case A leaves in its block 0 of results. -/
theorem openA0 (m : (ℓ : Loc nD τ sig) → Buf (Elt Ideal) ℓ) (c : Dev nD) (t : Fin cfg0.N) (h0 : t.val / 4 % 3 = 0) (h1 : ¬t.val / 4 % 3 = 1) (h2 : ¬t.val / 4 % 3 = 2) (r : Fin 2048) (d : Fin 128) :
    (outsAt0 m c t.val t.isLt).1 (ix3 0 r d) = k0_pay206 (k0_pay205 (rdW6 (dqA (ldQA (iblk m c 1 t)) (ldQA (iblk m c 4 t)) (ldKA (iblk m c 2 t)) (ldKA (iblk m c 3 t)) (ldLA (iblk m c 5 t)) (ldLA (iblk m c 6 t)) (biasL (slp1 t (iblk m c 0 t) 0) (slp1 t (iblk m c 0 t) 1))))) (ix3 0 r d) := by
  rw [outsAt0_A m c t h0 h1 h2]
  frame_out
  rfl

set_option maxHeartbeats 40000000 in
/-- What a step of case A leaves in its block 1 of results. -/
theorem openA1 (m : (ℓ : Loc nD τ sig) → Buf (Elt Ideal) ℓ) (c : Dev nD) (t : Fin cfg0.N) (h0 : t.val / 4 % 3 = 0) (h1 : ¬t.val / 4 % 3 = 1) (h2 : ¬t.val / 4 % 3 = 2) (r : Fin 2048) (d : Fin 128) :
    (outsAt0 m c t.val t.isLt).2.1 (ix3 0 r d) = k0_pay206 (k0_pay205 (rdW7 (akA (dkA (ldQA (iblk m c 1 t)) (ldQA (iblk m c 4 t)) (ldKA (iblk m c 2 t)) (ldKA (iblk m c 3 t)) (ldLA (iblk m c 5 t)) (ldLA (iblk m c 6 t)) (biasL (slp1 t (iblk m c 0 t) 0) (slp1 t (iblk m c 0 t) 1)))))) (ix3 0 r d) := by
  rw [outsAt0_A m c t h0 h1 h2]
  frame_out
  rfl

set_option maxHeartbeats 40000000 in
/-- What a step of case A leaves in its block 2 of results. -/
theorem openA2 (m : (ℓ : Loc nD τ sig) → Buf (Elt Ideal) ℓ) (c : Dev nD) (t : Fin cfg0.N) (h0 : t.val / 4 % 3 = 0) (h1 : ¬t.val / 4 % 3 = 1) (h2 : ¬t.val / 4 % 3 = 2) (r : Fin 2048) (d : Fin 128) :
    (outsAt0 m c t.val t.isLt).2.2 (ix3 0 r d) = k0_pay206 (k0_pay205 (rdW8 (avA (dvA (ldQA (iblk m c 1 t)) (ldQA (iblk m c 4 t)) (ldKA (iblk m c 2 t)) (ldLA (iblk m c 5 t)) (biasL (slp1 t (iblk m c 0 t) 0) (slp1 t (iblk m c 0 t) 1)))))) (ix3 0 r d) := by
  rw [outsAt0_A m c t h0 h1 h2]
  frame_out
  rfl

end Cert.KernelIdeal.Value
-- ==== Proof.OpenB.lean ====
module
public import proofs.«01_k».proof.Proof.Gen.KernelIdeal.Value
public import proofs.«01_k».proof.Proof.Lists
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

set_option maxHeartbeats 40000000 in
/-- What a step of case B leaves in its block 0 of results. -/
theorem openB0 (m : (ℓ : Loc nD τ sig) → Buf (Elt Ideal) ℓ) (c : Dev nD) (t : Fin cfg0.N) (h0 : ¬t.val / 4 % 3 = 0) (h1 : t.val / 4 % 3 = 1) (h2 : ¬t.val / 4 % 3 = 2) (r : Fin 2048) (d : Fin 128) :
    (outsAt0 m c t.val t.isLt).1 (ix3 0 r d) = k0_pay206 (rdW11 (stB6 (dqB (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1))))) (ix3 0 r d) := by
  rw [outsAt0_B m c t h0 h1 h2]
  frame_out
  rfl

set_option maxHeartbeats 40000000 in
/-- What a step of case B leaves in its block 1 of results. -/
theorem openB1 (m : (ℓ : Loc nD τ sig) → Buf (Elt Ideal) ℓ) (c : Dev nD) (t : Fin cfg0.N) (h0 : ¬t.val / 4 % 3 = 0) (h1 : t.val / 4 % 3 = 1) (h2 : ¬t.val / 4 % 3 = 2) (r : Fin 2048) (d : Fin 128) :
    (outsAt0 m c t.val t.isLt).2.1 (ix3 0 r d) = k0_pay206 (rdW11 (stB7 (akB (dkB (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1)))) ++ stB6 (dqB (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1))))) (ix3 0 r d) := by
  rw [outsAt0_B m c t h0 h1 h2]
  frame_out
  rfl

set_option maxHeartbeats 40000000 in
/-- What a step of case B leaves in its block 2 of results. -/
theorem openB2 (m : (ℓ : Loc nD τ sig) → Buf (Elt Ideal) ℓ) (c : Dev nD) (t : Fin cfg0.N) (h0 : ¬t.val / 4 % 3 = 0) (h1 : t.val / 4 % 3 = 1) (h2 : ¬t.val / 4 % 3 = 2) (r : Fin 2048) (d : Fin 128) :
    (outsAt0 m c t.val t.isLt).2.2 (ix3 0 r d) = k0_pay206 (rdW11 (stB8 (avB (dvB (ldQB (ms0_1 t) (hs0_1 t) (iblk m c 1 t)) (ldQB (ms0_4 t) (hs0_4 t) (iblk m c 4 t)) (ldKB (ms0_2 t) (hs0_2 t) (iblk m c 2 t)) (ldLB (ms0_5 t) (hs0_5 t) (iblk m c 5 t)) (biasL (slp2 t (iblk m c 0 t) 0) (slp2 t (iblk m c 0 t) 1)))) ++ stB7 (akB (dkB (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1)))) ++ stB6 (dqB (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1))))) (ix3 0 r d) := by
  rw [outsAt0_B m c t h0 h1 h2]
  frame_out
  rfl

end Cert.KernelIdeal.Value
-- ==== Proof.OpenC.lean ====
module
public import proofs.«01_k».proof.Proof.Gen.KernelIdeal.Value
public import proofs.«01_k».proof.Proof.Lists
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

set_option maxHeartbeats 40000000 in
/-- What a step of case C leaves in its block 0 of results. -/
theorem openC0 (m : (ℓ : Loc nD τ sig) → Buf (Elt Ideal) ℓ) (c : Dev nD) (t : Fin cfg0.N) (h0 : ¬t.val / 4 % 3 = 0) (h1 : ¬t.val / 4 % 3 = 1) (h2 : t.val / 4 % 3 = 2) (r : Fin 2048) (d : Fin 128) :
    (outsAt0 m c t.val t.isLt).1 (ix3 0 r d) = k0_pay206 (rdW11 (stC6 (dqC (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1))))) (ix3 0 r d) := by
  rw [outsAt0_C m c t h0 h1 h2]
  frame_out
  rfl

set_option maxHeartbeats 40000000 in
/-- What a step of case C leaves in its block 1 of results. -/
theorem openC1 (m : (ℓ : Loc nD τ sig) → Buf (Elt Ideal) ℓ) (c : Dev nD) (t : Fin cfg0.N) (h0 : ¬t.val / 4 % 3 = 0) (h1 : ¬t.val / 4 % 3 = 1) (h2 : t.val / 4 % 3 = 2) (r : Fin 2048) (d : Fin 128) :
    (outsAt0 m c t.val t.isLt).2.1 (ix3 0 r d) = k0_pay206 (rdW11 (stC7 (akC (dkC (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1)))) ++ stC6 (dqC (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1))))) (ix3 0 r d) := by
  rw [outsAt0_C m c t h0 h1 h2]
  frame_out
  rfl

set_option maxHeartbeats 40000000 in
/-- What a step of case C leaves in its block 2 of results. -/
theorem openC2 (m : (ℓ : Loc nD τ sig) → Buf (Elt Ideal) ℓ) (c : Dev nD) (t : Fin cfg0.N) (h0 : ¬t.val / 4 % 3 = 0) (h1 : ¬t.val / 4 % 3 = 1) (h2 : t.val / 4 % 3 = 2) (r : Fin 2048) (d : Fin 128) :
    (outsAt0 m c t.val t.isLt).2.2 (ix3 0 r d) = k0_pay206 (rdW11 (stC8 (avC (dvC (ldQC (ms0_1 t) (hs0_1 t) (iblk m c 1 t)) (ldQC (ms0_4 t) (hs0_4 t) (iblk m c 4 t)) (ldKC (ms0_2 t) (hs0_2 t) (iblk m c 2 t)) (ldLC (ms0_5 t) (hs0_5 t) (iblk m c 5 t)) (biasL (slp3 t (iblk m c 0 t) 0) (slp3 t (iblk m c 0 t) 1)))) ++ stC7 (akC (dkC (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1)))) ++ stC6 (dqC (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1))))) (ix3 0 r d) := by
  rw [outsAt0_C m c t h0 h1 h2]
  frame_out
  rfl

end Cert.KernelIdeal.Value
-- ==== Proof.Canon.lean ====
module
public import proofs.«01_k».proof.Proof.Gen.KernelIdeal.Value
public import proofs.«01_k».proof.Proof.Lists
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- A row's piece holds it. -/
theorem mem2 {u : ℕ} (h : u < 16) (s : Fin 2048) (x : Fin 128) (hs : s.val / 128 = u) :
    (ix2 s x : S2048x128.Idx) ∈ (Rect.unit (s := S2048x128) ![128 * u, 0] ![128, 128] (inbA h)).set := by
  have e : (Rect.unit (s := S2048x128) ![128 * u, 0] ![128, 128] (inbA h)).toLoadRect.idx (ix2 (⟨s.val % 128, by omega⟩ : Fin 128) x) = ix2 s x :=
    ext2 _ _ _ (by show 128 * u + 1 * (s.val % 128) = s.val; omega) (by show 0 + 1 * x.val = x.val; omega)
  rw [← e]; exact LoadRect.idx_mem _ _
theorem mem3P {u : ℕ} (h : u < 16) (k : Fin 256) (x : Fin 128) :
    (ix3 (⟨u, h⟩ : Fin 16) k x : S16x256x128.Idx) ∈ (Rect.unit (s := S16x256x128) ![u, 0, 0] ![1, 256, 128] (inbP h)).set := by
  have e : (Rect.unit (s := S16x256x128) ![u, 0, 0] ![1, 256, 128] (inbP h)).toLoadRect.idx (ix3 (0 : Fin 1) k x) = ix3 (⟨u, h⟩ : Fin 16) k x :=
    ext3 _ _ _ _ (by show u + 1 * 0 = u; omega) (by show 0 + 1 * k.val = k.val; omega) (by show 0 + 1 * x.val = x.val; omega)
  rw [← e]; exact LoadRect.idx_mem _ _
theorem mem3R {u : ℕ} (h : u < 16) (k : Fin 128) (x : Fin 128) :
    (ix3 (⟨u, h⟩ : Fin 16) (kR k) x : S16x256x128.Idx) ∈ (Rect.unit (s := S16x256x128) ![u, 128, 0] ![1, 128, 128] (inbR h)).set := by
  have e : (Rect.unit (s := S16x256x128) ![u, 128, 0] ![1, 128, 128] (inbR h)).toLoadRect.idx (ix3 (0 : Fin 1) k x) = ix3 (⟨u, h⟩ : Fin 16) (kR k) x :=
    ext3 _ _ _ _ (by show u + 1 * 0 = u; omega) (by show 128 + 1 * k.val = 128 + k.val; omega) (by show 0 + 1 * x.val = x.val; omega)
  rw [← e]; exact LoadRect.idx_mem _ _

section
variable (LQ LD : PL S2048x128 .bf16) (LK LV : PL S2176x128 .bf16) (LL LE : PL S2048x128 .f32) (LB : PL S256x256 .f32) (LP : PL S16x256x128 .f32)
variable (qb kb vb dob : ℕ → Fin 128 → ℝ) (sl : Fin 2 → ℝ) (lb db : Fin 2 → ℕ → ℝ)
section
variable (hQ : ∀ (s : Fin 2048) (x : Fin 128), View.canon LQ (ix2 s x) = (qb (tau 1 s.val) x : EReal))
  (hD : ∀ (s : Fin 2048) (x : Fin 128), View.canon LD (ix2 s x) = (dob (tau 1 s.val) x : EReal))
  (hK : ∀ (s : Fin 2048) (x : Fin 128), View.canon LK (ix2 (kI s) x) = (kb (tau 1 s.val) x : EReal))
  (hV : ∀ (s : Fin 2048) (x : Fin 128), View.canon LV (ix2 (kI s) x) = (vb (tau 1 s.val) x : EReal))
  (hL : ∀ (s : Fin 2048) (x : Fin 128), View.canon LL (ix2 s x) = (lb (headOf x) (tau 1 s.val) : EReal))
  (hE : ∀ (s : Fin 2048) (x : Fin 128), View.canon LE (ix2 s x) = (db (headOf x) (tau 1 s.val) : EReal))
  (hB : ∀ (a b : Fin 256), View.canon LB (ix2 a b) = bl 0 (fun h => sl h * (1 : ℕ)) a b)

include hQ hD hK hV hL hE hB
theorem dqA_at (s : Fin 2048) (x : Fin 128) : View.canon (dqA LQ LD LK LV LL LE LB) (ix2 s x) = (dqt 1 qb kb vb dob sl lb db (tau 1 s.val) x : EReal) := by
  refine View.canon_apply_of_pieces (Val := Elt Ideal) (e := .f32) (Gq 1 qb kb vb dob sl lb db) _ (fun p hp => ?_) (ix2 s x) ?_
  · simp only [dqA, List.mem_cons, List.not_mem_nil, or_false] at hp
    rcases hp with rfl | rfl | rfl | rfl | rfl | rfl | rfl | rfl | rfl | rfl | rfl | rfl | rfl | rfl | rfl | rfl
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqW_at LQ LD LK LV LL LE LB 1 qb kb vb dob sl lb db (.inl rfl) hQ hD hK hV hL hE hB _ (by decide)
    · exact dqN_at LQ LD LK LV LL LE LB 1 qb kb vb dob sl lb db (.inl rfl) hQ hD hK hV hL hE hB _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨dqN LQ LD LK LV LL LE LB 0 (by decide), List.mem_of_getElem? (i := 15) rfl, mem2 (by decide) s x h⟩
    · exact ⟨dqW LQ LD LK LV LL LE LB 1 (by decide), List.mem_of_getElem? (i := 14) rfl, mem2 (by decide) s x h⟩
    · exact ⟨dqW LQ LD LK LV LL LE LB 2 (by decide), List.mem_of_getElem? (i := 13) rfl, mem2 (by decide) s x h⟩
    · exact ⟨dqW LQ LD LK LV LL LE LB 3 (by decide), List.mem_of_getElem? (i := 12) rfl, mem2 (by decide) s x h⟩
    · exact ⟨dqW LQ LD LK LV LL LE LB 4 (by decide), List.mem_of_getElem? (i := 11) rfl, mem2 (by decide) s x h⟩
    · exact ⟨dqW LQ LD LK LV LL LE LB 5 (by decide), List.mem_of_getElem? (i := 10) rfl, mem2 (by decide) s x h⟩
    · exact ⟨dqW LQ LD LK LV LL LE LB 6 (by decide), List.mem_of_getElem? (i := 9) rfl, mem2 (by decide) s x h⟩
    · exact ⟨dqW LQ LD LK LV LL LE LB 7 (by decide), List.mem_of_getElem? (i := 8) rfl, mem2 (by decide) s x h⟩
    · exact ⟨dqW LQ LD LK LV LL LE LB 8 (by decide), List.mem_of_getElem? (i := 7) rfl, mem2 (by decide) s x h⟩
    · exact ⟨dqW LQ LD LK LV LL LE LB 9 (by decide), List.mem_of_getElem? (i := 6) rfl, mem2 (by decide) s x h⟩
    · exact ⟨dqW LQ LD LK LV LL LE LB 10 (by decide), List.mem_of_getElem? (i := 5) rfl, mem2 (by decide) s x h⟩
    · exact ⟨dqW LQ LD LK LV LL LE LB 11 (by decide), List.mem_of_getElem? (i := 4) rfl, mem2 (by decide) s x h⟩
    · exact ⟨dqW LQ LD LK LV LL LE LB 12 (by decide), List.mem_of_getElem? (i := 3) rfl, mem2 (by decide) s x h⟩
    · exact ⟨dqW LQ LD LK LV LL LE LB 13 (by decide), List.mem_of_getElem? (i := 2) rfl, mem2 (by decide) s x h⟩
    · exact ⟨dqW LQ LD LK LV LL LE LB 14 (by decide), List.mem_of_getElem? (i := 1) rfl, mem2 (by decide) s x h⟩
    · exact ⟨dqW LQ LD LK LV LL LE LB 15 (by decide), List.mem_of_getElem? (i := 0) rfl, mem2 (by decide) s x h⟩

theorem dkA_ok : ∀ p ∈ dkA LQ LD LK LV LL LE LB, ∀ x : p.1.shape.Idx, p.2 x = Gk 1 qb kb vb dob sl lb db (p.1.emb x) := by
  intro p hp
  simp only [dkA, List.mem_cons, List.not_mem_nil, or_false] at hp
  rcases hp with rfl | rfl | rfl | rfl | rfl | rfl | rfl | rfl | rfl | rfl | rfl | rfl | rfl | rfl | rfl | rfl
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkW_at LQ LD LK LV LL LE LB 1 qb kb vb dob sl lb db (.inl rfl) hQ hD hK hV hL hE hB _ (by decide)
  · exact dkN_at LQ LD LK LV LL LE LB 1 qb kb vb dob sl lb db (.inl rfl) hQ hD hK hV hL hE hB _

theorem dkA_R (b : Fin 16) (k x : Fin 128) : View.canon (dkA LQ LD LK LV LL LE LB) (ix3 b (kR k) x) = (pk 1 qb kb vb dob sl lb db b.val (k.val + 128) x : EReal) := by
  rw [Nat.add_comm k.val 128]
  refine View.canon_apply_of_pieces (Val := Elt Ideal) (e := .f32) (Gk 1 qb kb vb dob sl lb db) _ (dkA_ok LQ LD LK LV LL LE LB qb kb vb dob sl lb db hQ hD hK hV hL hE hB) (ix3 b (kR k) x) ?_
  fin_cases b
  · exact ⟨dkN LQ LD LK LV LL LE LB 0 (by decide), List.mem_of_getElem? (i := 15) rfl, mem3R (u := 0) (by decide) k x⟩
  · exact ⟨dkW LQ LD LK LV LL LE LB 1 (by decide), List.mem_of_getElem? (i := 14) rfl, mem3P (u := 1) (by decide) (kR k) x⟩
  · exact ⟨dkW LQ LD LK LV LL LE LB 2 (by decide), List.mem_of_getElem? (i := 13) rfl, mem3P (u := 2) (by decide) (kR k) x⟩
  · exact ⟨dkW LQ LD LK LV LL LE LB 3 (by decide), List.mem_of_getElem? (i := 12) rfl, mem3P (u := 3) (by decide) (kR k) x⟩
  · exact ⟨dkW LQ LD LK LV LL LE LB 4 (by decide), List.mem_of_getElem? (i := 11) rfl, mem3P (u := 4) (by decide) (kR k) x⟩
  · exact ⟨dkW LQ LD LK LV LL LE LB 5 (by decide), List.mem_of_getElem? (i := 10) rfl, mem3P (u := 5) (by decide) (kR k) x⟩
  · exact ⟨dkW LQ LD LK LV LL LE LB 6 (by decide), List.mem_of_getElem? (i := 9) rfl, mem3P (u := 6) (by decide) (kR k) x⟩
  · exact ⟨dkW LQ LD LK LV LL LE LB 7 (by decide), List.mem_of_getElem? (i := 8) rfl, mem3P (u := 7) (by decide) (kR k) x⟩
  · exact ⟨dkW LQ LD LK LV LL LE LB 8 (by decide), List.mem_of_getElem? (i := 7) rfl, mem3P (u := 8) (by decide) (kR k) x⟩
  · exact ⟨dkW LQ LD LK LV LL LE LB 9 (by decide), List.mem_of_getElem? (i := 6) rfl, mem3P (u := 9) (by decide) (kR k) x⟩
  · exact ⟨dkW LQ LD LK LV LL LE LB 10 (by decide), List.mem_of_getElem? (i := 5) rfl, mem3P (u := 10) (by decide) (kR k) x⟩
  · exact ⟨dkW LQ LD LK LV LL LE LB 11 (by decide), List.mem_of_getElem? (i := 4) rfl, mem3P (u := 11) (by decide) (kR k) x⟩
  · exact ⟨dkW LQ LD LK LV LL LE LB 12 (by decide), List.mem_of_getElem? (i := 3) rfl, mem3P (u := 12) (by decide) (kR k) x⟩
  · exact ⟨dkW LQ LD LK LV LL LE LB 13 (by decide), List.mem_of_getElem? (i := 2) rfl, mem3P (u := 13) (by decide) (kR k) x⟩
  · exact ⟨dkW LQ LD LK LV LL LE LB 14 (by decide), List.mem_of_getElem? (i := 1) rfl, mem3P (u := 14) (by decide) (kR k) x⟩
  · exact ⟨dkW LQ LD LK LV LL LE LB 15 (by decide), List.mem_of_getElem? (i := 0) rfl, mem3P (u := 15) (by decide) (kR k) x⟩

theorem dkA_L (b : Fin 16) (hb : b.val % (16 / 1) ≠ 0) (k x : Fin 128) : View.canon (dkA LQ LD LK LV LL LE LB) (ix3 b (kL k) x) = (pk 1 qb kb vb dob sl lb db b.val k.val x : EReal) := by
  refine View.canon_apply_of_pieces (Val := Elt Ideal) (e := .f32) (Gk 1 qb kb vb dob sl lb db) _ (dkA_ok LQ LD LK LV LL LE LB qb kb vb dob sl lb db hQ hD hK hV hL hE hB) (ix3 b (kL k) x) ?_
  fin_cases b
  · exact absurd rfl hb
  · exact ⟨dkW LQ LD LK LV LL LE LB 1 (by decide), List.mem_of_getElem? (i := 14) rfl, mem3P (u := 1) (by decide) (kL k) x⟩
  · exact ⟨dkW LQ LD LK LV LL LE LB 2 (by decide), List.mem_of_getElem? (i := 13) rfl, mem3P (u := 2) (by decide) (kL k) x⟩
  · exact ⟨dkW LQ LD LK LV LL LE LB 3 (by decide), List.mem_of_getElem? (i := 12) rfl, mem3P (u := 3) (by decide) (kL k) x⟩
  · exact ⟨dkW LQ LD LK LV LL LE LB 4 (by decide), List.mem_of_getElem? (i := 11) rfl, mem3P (u := 4) (by decide) (kL k) x⟩
  · exact ⟨dkW LQ LD LK LV LL LE LB 5 (by decide), List.mem_of_getElem? (i := 10) rfl, mem3P (u := 5) (by decide) (kL k) x⟩
  · exact ⟨dkW LQ LD LK LV LL LE LB 6 (by decide), List.mem_of_getElem? (i := 9) rfl, mem3P (u := 6) (by decide) (kL k) x⟩
  · exact ⟨dkW LQ LD LK LV LL LE LB 7 (by decide), List.mem_of_getElem? (i := 8) rfl, mem3P (u := 7) (by decide) (kL k) x⟩
  · exact ⟨dkW LQ LD LK LV LL LE LB 8 (by decide), List.mem_of_getElem? (i := 7) rfl, mem3P (u := 8) (by decide) (kL k) x⟩
  · exact ⟨dkW LQ LD LK LV LL LE LB 9 (by decide), List.mem_of_getElem? (i := 6) rfl, mem3P (u := 9) (by decide) (kL k) x⟩
  · exact ⟨dkW LQ LD LK LV LL LE LB 10 (by decide), List.mem_of_getElem? (i := 5) rfl, mem3P (u := 10) (by decide) (kL k) x⟩
  · exact ⟨dkW LQ LD LK LV LL LE LB 11 (by decide), List.mem_of_getElem? (i := 4) rfl, mem3P (u := 11) (by decide) (kL k) x⟩
  · exact ⟨dkW LQ LD LK LV LL LE LB 12 (by decide), List.mem_of_getElem? (i := 3) rfl, mem3P (u := 12) (by decide) (kL k) x⟩
  · exact ⟨dkW LQ LD LK LV LL LE LB 13 (by decide), List.mem_of_getElem? (i := 2) rfl, mem3P (u := 13) (by decide) (kL k) x⟩
  · exact ⟨dkW LQ LD LK LV LL LE LB 14 (by decide), List.mem_of_getElem? (i := 1) rfl, mem3P (u := 14) (by decide) (kL k) x⟩
  · exact ⟨dkW LQ LD LK LV LL LE LB 15 (by decide), List.mem_of_getElem? (i := 0) rfl, mem3P (u := 15) (by decide) (kL k) x⟩

omit hV hE in
theorem dvA_ok : ∀ p ∈ dvA LQ LD LK LL LB, ∀ x : p.1.shape.Idx, p.2 x = Gv 1 qb kb dob sl lb (p.1.emb x) := by
  intro p hp
  simp only [dvA, List.mem_cons, List.not_mem_nil, or_false] at hp
  rcases hp with rfl | rfl | rfl | rfl | rfl | rfl | rfl | rfl | rfl | rfl | rfl | rfl | rfl | rfl | rfl | rfl
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvW_at LQ LD LK LL LB 1 qb kb dob sl lb (.inl rfl) hQ hD hK hL hB _ (by decide)
  · exact dvN_at LQ LD LK LL LB 1 qb kb dob sl lb (.inl rfl) hQ hD hK hL hB _

omit hV hE in
theorem dvA_R (b : Fin 16) (k x : Fin 128) : View.canon (dvA LQ LD LK LL LB) (ix3 b (kR k) x) = (pv 1 qb kb dob sl lb b.val (k.val + 128) x : EReal) := by
  rw [Nat.add_comm k.val 128]
  refine View.canon_apply_of_pieces (Val := Elt Ideal) (e := .f32) (Gv 1 qb kb dob sl lb) _ (dvA_ok LQ LD LK LL LB qb kb dob sl lb hQ hD hK hL hB) (ix3 b (kR k) x) ?_
  fin_cases b
  · exact ⟨dvN LQ LD LK LL LB 0 (by decide), List.mem_of_getElem? (i := 15) rfl, mem3R (u := 0) (by decide) k x⟩
  · exact ⟨dvW LQ LD LK LL LB 1 (by decide), List.mem_of_getElem? (i := 14) rfl, mem3P (u := 1) (by decide) (kR k) x⟩
  · exact ⟨dvW LQ LD LK LL LB 2 (by decide), List.mem_of_getElem? (i := 13) rfl, mem3P (u := 2) (by decide) (kR k) x⟩
  · exact ⟨dvW LQ LD LK LL LB 3 (by decide), List.mem_of_getElem? (i := 12) rfl, mem3P (u := 3) (by decide) (kR k) x⟩
  · exact ⟨dvW LQ LD LK LL LB 4 (by decide), List.mem_of_getElem? (i := 11) rfl, mem3P (u := 4) (by decide) (kR k) x⟩
  · exact ⟨dvW LQ LD LK LL LB 5 (by decide), List.mem_of_getElem? (i := 10) rfl, mem3P (u := 5) (by decide) (kR k) x⟩
  · exact ⟨dvW LQ LD LK LL LB 6 (by decide), List.mem_of_getElem? (i := 9) rfl, mem3P (u := 6) (by decide) (kR k) x⟩
  · exact ⟨dvW LQ LD LK LL LB 7 (by decide), List.mem_of_getElem? (i := 8) rfl, mem3P (u := 7) (by decide) (kR k) x⟩
  · exact ⟨dvW LQ LD LK LL LB 8 (by decide), List.mem_of_getElem? (i := 7) rfl, mem3P (u := 8) (by decide) (kR k) x⟩
  · exact ⟨dvW LQ LD LK LL LB 9 (by decide), List.mem_of_getElem? (i := 6) rfl, mem3P (u := 9) (by decide) (kR k) x⟩
  · exact ⟨dvW LQ LD LK LL LB 10 (by decide), List.mem_of_getElem? (i := 5) rfl, mem3P (u := 10) (by decide) (kR k) x⟩
  · exact ⟨dvW LQ LD LK LL LB 11 (by decide), List.mem_of_getElem? (i := 4) rfl, mem3P (u := 11) (by decide) (kR k) x⟩
  · exact ⟨dvW LQ LD LK LL LB 12 (by decide), List.mem_of_getElem? (i := 3) rfl, mem3P (u := 12) (by decide) (kR k) x⟩
  · exact ⟨dvW LQ LD LK LL LB 13 (by decide), List.mem_of_getElem? (i := 2) rfl, mem3P (u := 13) (by decide) (kR k) x⟩
  · exact ⟨dvW LQ LD LK LL LB 14 (by decide), List.mem_of_getElem? (i := 1) rfl, mem3P (u := 14) (by decide) (kR k) x⟩
  · exact ⟨dvW LQ LD LK LL LB 15 (by decide), List.mem_of_getElem? (i := 0) rfl, mem3P (u := 15) (by decide) (kR k) x⟩

omit hV hE in
theorem dvA_L (b : Fin 16) (hb : b.val % (16 / 1) ≠ 0) (k x : Fin 128) : View.canon (dvA LQ LD LK LL LB) (ix3 b (kL k) x) = (pv 1 qb kb dob sl lb b.val k.val x : EReal) := by
  refine View.canon_apply_of_pieces (Val := Elt Ideal) (e := .f32) (Gv 1 qb kb dob sl lb) _ (dvA_ok LQ LD LK LL LB qb kb dob sl lb hQ hD hK hL hB) (ix3 b (kL k) x) ?_
  fin_cases b
  · exact absurd rfl hb
  · exact ⟨dvW LQ LD LK LL LB 1 (by decide), List.mem_of_getElem? (i := 14) rfl, mem3P (u := 1) (by decide) (kL k) x⟩
  · exact ⟨dvW LQ LD LK LL LB 2 (by decide), List.mem_of_getElem? (i := 13) rfl, mem3P (u := 2) (by decide) (kL k) x⟩
  · exact ⟨dvW LQ LD LK LL LB 3 (by decide), List.mem_of_getElem? (i := 12) rfl, mem3P (u := 3) (by decide) (kL k) x⟩
  · exact ⟨dvW LQ LD LK LL LB 4 (by decide), List.mem_of_getElem? (i := 11) rfl, mem3P (u := 4) (by decide) (kL k) x⟩
  · exact ⟨dvW LQ LD LK LL LB 5 (by decide), List.mem_of_getElem? (i := 10) rfl, mem3P (u := 5) (by decide) (kL k) x⟩
  · exact ⟨dvW LQ LD LK LL LB 6 (by decide), List.mem_of_getElem? (i := 9) rfl, mem3P (u := 6) (by decide) (kL k) x⟩
  · exact ⟨dvW LQ LD LK LL LB 7 (by decide), List.mem_of_getElem? (i := 8) rfl, mem3P (u := 7) (by decide) (kL k) x⟩
  · exact ⟨dvW LQ LD LK LL LB 8 (by decide), List.mem_of_getElem? (i := 7) rfl, mem3P (u := 8) (by decide) (kL k) x⟩
  · exact ⟨dvW LQ LD LK LL LB 9 (by decide), List.mem_of_getElem? (i := 6) rfl, mem3P (u := 9) (by decide) (kL k) x⟩
  · exact ⟨dvW LQ LD LK LL LB 10 (by decide), List.mem_of_getElem? (i := 5) rfl, mem3P (u := 10) (by decide) (kL k) x⟩
  · exact ⟨dvW LQ LD LK LL LB 11 (by decide), List.mem_of_getElem? (i := 4) rfl, mem3P (u := 11) (by decide) (kL k) x⟩
  · exact ⟨dvW LQ LD LK LL LB 12 (by decide), List.mem_of_getElem? (i := 3) rfl, mem3P (u := 12) (by decide) (kL k) x⟩
  · exact ⟨dvW LQ LD LK LL LB 13 (by decide), List.mem_of_getElem? (i := 2) rfl, mem3P (u := 13) (by decide) (kL k) x⟩
  · exact ⟨dvW LQ LD LK LL LB 14 (by decide), List.mem_of_getElem? (i := 1) rfl, mem3P (u := 14) (by decide) (kL k) x⟩
  · exact ⟨dvW LQ LD LK LL LB 15 (by decide), List.mem_of_getElem? (i := 0) rfl, mem3P (u := 15) (by decide) (kL k) x⟩
end
section
variable (hQ : ∀ (s : Fin 2048) (x : Fin 128), View.canon LQ (ix2 s x) = (qb (tau 4 s.val) x : EReal))
  (hD : ∀ (s : Fin 2048) (x : Fin 128), View.canon LD (ix2 s x) = (dob (tau 4 s.val) x : EReal))
  (hK : ∀ (s : Fin 2048) (x : Fin 128), View.canon LK (ix2 (kI s) x) = (kb (tau 4 s.val) x : EReal))
  (hV : ∀ (s : Fin 2048) (x : Fin 128), View.canon LV (ix2 (kI s) x) = (vb (tau 4 s.val) x : EReal))
  (hL : ∀ (s : Fin 2048) (x : Fin 128), View.canon LL (ix2 s x) = (lb (headOf x) (tau 4 s.val) : EReal))
  (hE : ∀ (s : Fin 2048) (x : Fin 128), View.canon LE (ix2 s x) = (db (headOf x) (tau 4 s.val) : EReal))
  (hB : ∀ (a b : Fin 256), View.canon LB (ix2 a b) = bl 0 (fun h => sl h * (4 : ℕ)) a b)

include hQ hD hK hV hL hE hB
theorem dqB_at (s : Fin 2048) (x : Fin 128) : View.canon (dqB LQ LD LK LV LL LE LB) (ix2 s x) = (dqt 4 qb kb vb dob sl lb db (tau 4 s.val) x : EReal) := by
  refine View.canon_apply_of_pieces (Val := Elt Ideal) (e := .f32) (Gq 4 qb kb vb dob sl lb db) _ (fun p hp => ?_) (ix2 s x) ?_
  · simp only [dqB, List.mem_cons, List.not_mem_nil, or_false] at hp
    rcases hp with rfl | rfl | rfl | rfl | rfl | rfl | rfl | rfl | rfl | rfl | rfl | rfl | rfl | rfl | rfl | rfl
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqN_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqN_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqN_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqW_at LQ LD LK LV LL LE LB 4 qb kb vb dob sl lb db (.inr (.inl rfl)) hQ hD hK hV hL hE hB _ (by decide)
    · exact dqN_at LQ LD LK LV LL LE LB 4 qb kb vb dob sl lb db (.inr (.inl rfl)) hQ hD hK hV hL hE hB _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨dqN LQ LD LK LV LL LE LB 0 (by decide), List.mem_of_getElem? (i := 15) rfl, mem2 (by decide) s x h⟩
    · exact ⟨dqW LQ LD LK LV LL LE LB 1 (by decide), List.mem_of_getElem? (i := 14) rfl, mem2 (by decide) s x h⟩
    · exact ⟨dqW LQ LD LK LV LL LE LB 2 (by decide), List.mem_of_getElem? (i := 13) rfl, mem2 (by decide) s x h⟩
    · exact ⟨dqW LQ LD LK LV LL LE LB 3 (by decide), List.mem_of_getElem? (i := 12) rfl, mem2 (by decide) s x h⟩
    · exact ⟨dqN LQ LD LK LV LL LE LB 4 (by decide), List.mem_of_getElem? (i := 11) rfl, mem2 (by decide) s x h⟩
    · exact ⟨dqW LQ LD LK LV LL LE LB 5 (by decide), List.mem_of_getElem? (i := 10) rfl, mem2 (by decide) s x h⟩
    · exact ⟨dqW LQ LD LK LV LL LE LB 6 (by decide), List.mem_of_getElem? (i := 9) rfl, mem2 (by decide) s x h⟩
    · exact ⟨dqW LQ LD LK LV LL LE LB 7 (by decide), List.mem_of_getElem? (i := 8) rfl, mem2 (by decide) s x h⟩
    · exact ⟨dqN LQ LD LK LV LL LE LB 8 (by decide), List.mem_of_getElem? (i := 7) rfl, mem2 (by decide) s x h⟩
    · exact ⟨dqW LQ LD LK LV LL LE LB 9 (by decide), List.mem_of_getElem? (i := 6) rfl, mem2 (by decide) s x h⟩
    · exact ⟨dqW LQ LD LK LV LL LE LB 10 (by decide), List.mem_of_getElem? (i := 5) rfl, mem2 (by decide) s x h⟩
    · exact ⟨dqW LQ LD LK LV LL LE LB 11 (by decide), List.mem_of_getElem? (i := 4) rfl, mem2 (by decide) s x h⟩
    · exact ⟨dqN LQ LD LK LV LL LE LB 12 (by decide), List.mem_of_getElem? (i := 3) rfl, mem2 (by decide) s x h⟩
    · exact ⟨dqW LQ LD LK LV LL LE LB 13 (by decide), List.mem_of_getElem? (i := 2) rfl, mem2 (by decide) s x h⟩
    · exact ⟨dqW LQ LD LK LV LL LE LB 14 (by decide), List.mem_of_getElem? (i := 1) rfl, mem2 (by decide) s x h⟩
    · exact ⟨dqW LQ LD LK LV LL LE LB 15 (by decide), List.mem_of_getElem? (i := 0) rfl, mem2 (by decide) s x h⟩

theorem dkB_ok : ∀ p ∈ dkB LQ LD LK LV LL LE LB, ∀ x : p.1.shape.Idx, p.2 x = Gk 4 qb kb vb dob sl lb db (p.1.emb x) := by
  intro p hp
  simp only [dkB, List.mem_cons, List.not_mem_nil, or_false] at hp
  rcases hp with rfl | rfl | rfl | rfl | rfl | rfl | rfl | rfl | rfl | rfl | rfl | rfl | rfl | rfl | rfl | rfl
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkN_at LQ LD LK LV LL LE LB 4 qb kb vb dob sl lb db (.inr (.inl rfl)) hQ hD hK hV hL hE hB _
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkN_at LQ LD LK LV LL LE LB 4 qb kb vb dob sl lb db (.inr (.inl rfl)) hQ hD hK hV hL hE hB _
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkN_at LQ LD LK LV LL LE LB 4 qb kb vb dob sl lb db (.inr (.inl rfl)) hQ hD hK hV hL hE hB _
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkW_at LQ LD LK LV LL LE LB 4 qb kb vb dob sl lb db (.inr (.inl rfl)) hQ hD hK hV hL hE hB _ (by decide)
  · exact dkN_at LQ LD LK LV LL LE LB 4 qb kb vb dob sl lb db (.inr (.inl rfl)) hQ hD hK hV hL hE hB _

theorem dkB_R (b : Fin 16) (k x : Fin 128) : View.canon (dkB LQ LD LK LV LL LE LB) (ix3 b (kR k) x) = (pk 4 qb kb vb dob sl lb db b.val (k.val + 128) x : EReal) := by
  rw [Nat.add_comm k.val 128]
  refine View.canon_apply_of_pieces (Val := Elt Ideal) (e := .f32) (Gk 4 qb kb vb dob sl lb db) _ (dkB_ok LQ LD LK LV LL LE LB qb kb vb dob sl lb db hQ hD hK hV hL hE hB) (ix3 b (kR k) x) ?_
  fin_cases b
  · exact ⟨dkN LQ LD LK LV LL LE LB 0 (by decide), List.mem_of_getElem? (i := 15) rfl, mem3R (u := 0) (by decide) k x⟩
  · exact ⟨dkW LQ LD LK LV LL LE LB 1 (by decide), List.mem_of_getElem? (i := 14) rfl, mem3P (u := 1) (by decide) (kR k) x⟩
  · exact ⟨dkW LQ LD LK LV LL LE LB 2 (by decide), List.mem_of_getElem? (i := 13) rfl, mem3P (u := 2) (by decide) (kR k) x⟩
  · exact ⟨dkW LQ LD LK LV LL LE LB 3 (by decide), List.mem_of_getElem? (i := 12) rfl, mem3P (u := 3) (by decide) (kR k) x⟩
  · exact ⟨dkN LQ LD LK LV LL LE LB 4 (by decide), List.mem_of_getElem? (i := 11) rfl, mem3R (u := 4) (by decide) k x⟩
  · exact ⟨dkW LQ LD LK LV LL LE LB 5 (by decide), List.mem_of_getElem? (i := 10) rfl, mem3P (u := 5) (by decide) (kR k) x⟩
  · exact ⟨dkW LQ LD LK LV LL LE LB 6 (by decide), List.mem_of_getElem? (i := 9) rfl, mem3P (u := 6) (by decide) (kR k) x⟩
  · exact ⟨dkW LQ LD LK LV LL LE LB 7 (by decide), List.mem_of_getElem? (i := 8) rfl, mem3P (u := 7) (by decide) (kR k) x⟩
  · exact ⟨dkN LQ LD LK LV LL LE LB 8 (by decide), List.mem_of_getElem? (i := 7) rfl, mem3R (u := 8) (by decide) k x⟩
  · exact ⟨dkW LQ LD LK LV LL LE LB 9 (by decide), List.mem_of_getElem? (i := 6) rfl, mem3P (u := 9) (by decide) (kR k) x⟩
  · exact ⟨dkW LQ LD LK LV LL LE LB 10 (by decide), List.mem_of_getElem? (i := 5) rfl, mem3P (u := 10) (by decide) (kR k) x⟩
  · exact ⟨dkW LQ LD LK LV LL LE LB 11 (by decide), List.mem_of_getElem? (i := 4) rfl, mem3P (u := 11) (by decide) (kR k) x⟩
  · exact ⟨dkN LQ LD LK LV LL LE LB 12 (by decide), List.mem_of_getElem? (i := 3) rfl, mem3R (u := 12) (by decide) k x⟩
  · exact ⟨dkW LQ LD LK LV LL LE LB 13 (by decide), List.mem_of_getElem? (i := 2) rfl, mem3P (u := 13) (by decide) (kR k) x⟩
  · exact ⟨dkW LQ LD LK LV LL LE LB 14 (by decide), List.mem_of_getElem? (i := 1) rfl, mem3P (u := 14) (by decide) (kR k) x⟩
  · exact ⟨dkW LQ LD LK LV LL LE LB 15 (by decide), List.mem_of_getElem? (i := 0) rfl, mem3P (u := 15) (by decide) (kR k) x⟩

theorem dkB_L (b : Fin 16) (hb : b.val % (16 / 4) ≠ 0) (k x : Fin 128) : View.canon (dkB LQ LD LK LV LL LE LB) (ix3 b (kL k) x) = (pk 4 qb kb vb dob sl lb db b.val k.val x : EReal) := by
  refine View.canon_apply_of_pieces (Val := Elt Ideal) (e := .f32) (Gk 4 qb kb vb dob sl lb db) _ (dkB_ok LQ LD LK LV LL LE LB qb kb vb dob sl lb db hQ hD hK hV hL hE hB) (ix3 b (kL k) x) ?_
  fin_cases b
  · exact absurd rfl hb
  · exact ⟨dkW LQ LD LK LV LL LE LB 1 (by decide), List.mem_of_getElem? (i := 14) rfl, mem3P (u := 1) (by decide) (kL k) x⟩
  · exact ⟨dkW LQ LD LK LV LL LE LB 2 (by decide), List.mem_of_getElem? (i := 13) rfl, mem3P (u := 2) (by decide) (kL k) x⟩
  · exact ⟨dkW LQ LD LK LV LL LE LB 3 (by decide), List.mem_of_getElem? (i := 12) rfl, mem3P (u := 3) (by decide) (kL k) x⟩
  · exact absurd rfl hb
  · exact ⟨dkW LQ LD LK LV LL LE LB 5 (by decide), List.mem_of_getElem? (i := 10) rfl, mem3P (u := 5) (by decide) (kL k) x⟩
  · exact ⟨dkW LQ LD LK LV LL LE LB 6 (by decide), List.mem_of_getElem? (i := 9) rfl, mem3P (u := 6) (by decide) (kL k) x⟩
  · exact ⟨dkW LQ LD LK LV LL LE LB 7 (by decide), List.mem_of_getElem? (i := 8) rfl, mem3P (u := 7) (by decide) (kL k) x⟩
  · exact absurd rfl hb
  · exact ⟨dkW LQ LD LK LV LL LE LB 9 (by decide), List.mem_of_getElem? (i := 6) rfl, mem3P (u := 9) (by decide) (kL k) x⟩
  · exact ⟨dkW LQ LD LK LV LL LE LB 10 (by decide), List.mem_of_getElem? (i := 5) rfl, mem3P (u := 10) (by decide) (kL k) x⟩
  · exact ⟨dkW LQ LD LK LV LL LE LB 11 (by decide), List.mem_of_getElem? (i := 4) rfl, mem3P (u := 11) (by decide) (kL k) x⟩
  · exact absurd rfl hb
  · exact ⟨dkW LQ LD LK LV LL LE LB 13 (by decide), List.mem_of_getElem? (i := 2) rfl, mem3P (u := 13) (by decide) (kL k) x⟩
  · exact ⟨dkW LQ LD LK LV LL LE LB 14 (by decide), List.mem_of_getElem? (i := 1) rfl, mem3P (u := 14) (by decide) (kL k) x⟩
  · exact ⟨dkW LQ LD LK LV LL LE LB 15 (by decide), List.mem_of_getElem? (i := 0) rfl, mem3P (u := 15) (by decide) (kL k) x⟩

omit hV hE in
theorem dvB_ok : ∀ p ∈ dvB LQ LD LK LL LB, ∀ x : p.1.shape.Idx, p.2 x = Gv 4 qb kb dob sl lb (p.1.emb x) := by
  intro p hp
  simp only [dvB, List.mem_cons, List.not_mem_nil, or_false] at hp
  rcases hp with rfl | rfl | rfl | rfl | rfl | rfl | rfl | rfl | rfl | rfl | rfl | rfl | rfl | rfl | rfl | rfl
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvN_at LQ LD LK LL LB 4 qb kb dob sl lb (.inr (.inl rfl)) hQ hD hK hL hB _
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvN_at LQ LD LK LL LB 4 qb kb dob sl lb (.inr (.inl rfl)) hQ hD hK hL hB _
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvN_at LQ LD LK LL LB 4 qb kb dob sl lb (.inr (.inl rfl)) hQ hD hK hL hB _
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvW_at LQ LD LK LL LB 4 qb kb dob sl lb (.inr (.inl rfl)) hQ hD hK hL hB _ (by decide)
  · exact dvN_at LQ LD LK LL LB 4 qb kb dob sl lb (.inr (.inl rfl)) hQ hD hK hL hB _

omit hV hE in
theorem dvB_R (b : Fin 16) (k x : Fin 128) : View.canon (dvB LQ LD LK LL LB) (ix3 b (kR k) x) = (pv 4 qb kb dob sl lb b.val (k.val + 128) x : EReal) := by
  rw [Nat.add_comm k.val 128]
  refine View.canon_apply_of_pieces (Val := Elt Ideal) (e := .f32) (Gv 4 qb kb dob sl lb) _ (dvB_ok LQ LD LK LL LB qb kb dob sl lb hQ hD hK hL hB) (ix3 b (kR k) x) ?_
  fin_cases b
  · exact ⟨dvN LQ LD LK LL LB 0 (by decide), List.mem_of_getElem? (i := 15) rfl, mem3R (u := 0) (by decide) k x⟩
  · exact ⟨dvW LQ LD LK LL LB 1 (by decide), List.mem_of_getElem? (i := 14) rfl, mem3P (u := 1) (by decide) (kR k) x⟩
  · exact ⟨dvW LQ LD LK LL LB 2 (by decide), List.mem_of_getElem? (i := 13) rfl, mem3P (u := 2) (by decide) (kR k) x⟩
  · exact ⟨dvW LQ LD LK LL LB 3 (by decide), List.mem_of_getElem? (i := 12) rfl, mem3P (u := 3) (by decide) (kR k) x⟩
  · exact ⟨dvN LQ LD LK LL LB 4 (by decide), List.mem_of_getElem? (i := 11) rfl, mem3R (u := 4) (by decide) k x⟩
  · exact ⟨dvW LQ LD LK LL LB 5 (by decide), List.mem_of_getElem? (i := 10) rfl, mem3P (u := 5) (by decide) (kR k) x⟩
  · exact ⟨dvW LQ LD LK LL LB 6 (by decide), List.mem_of_getElem? (i := 9) rfl, mem3P (u := 6) (by decide) (kR k) x⟩
  · exact ⟨dvW LQ LD LK LL LB 7 (by decide), List.mem_of_getElem? (i := 8) rfl, mem3P (u := 7) (by decide) (kR k) x⟩
  · exact ⟨dvN LQ LD LK LL LB 8 (by decide), List.mem_of_getElem? (i := 7) rfl, mem3R (u := 8) (by decide) k x⟩
  · exact ⟨dvW LQ LD LK LL LB 9 (by decide), List.mem_of_getElem? (i := 6) rfl, mem3P (u := 9) (by decide) (kR k) x⟩
  · exact ⟨dvW LQ LD LK LL LB 10 (by decide), List.mem_of_getElem? (i := 5) rfl, mem3P (u := 10) (by decide) (kR k) x⟩
  · exact ⟨dvW LQ LD LK LL LB 11 (by decide), List.mem_of_getElem? (i := 4) rfl, mem3P (u := 11) (by decide) (kR k) x⟩
  · exact ⟨dvN LQ LD LK LL LB 12 (by decide), List.mem_of_getElem? (i := 3) rfl, mem3R (u := 12) (by decide) k x⟩
  · exact ⟨dvW LQ LD LK LL LB 13 (by decide), List.mem_of_getElem? (i := 2) rfl, mem3P (u := 13) (by decide) (kR k) x⟩
  · exact ⟨dvW LQ LD LK LL LB 14 (by decide), List.mem_of_getElem? (i := 1) rfl, mem3P (u := 14) (by decide) (kR k) x⟩
  · exact ⟨dvW LQ LD LK LL LB 15 (by decide), List.mem_of_getElem? (i := 0) rfl, mem3P (u := 15) (by decide) (kR k) x⟩

omit hV hE in
theorem dvB_L (b : Fin 16) (hb : b.val % (16 / 4) ≠ 0) (k x : Fin 128) : View.canon (dvB LQ LD LK LL LB) (ix3 b (kL k) x) = (pv 4 qb kb dob sl lb b.val k.val x : EReal) := by
  refine View.canon_apply_of_pieces (Val := Elt Ideal) (e := .f32) (Gv 4 qb kb dob sl lb) _ (dvB_ok LQ LD LK LL LB qb kb dob sl lb hQ hD hK hL hB) (ix3 b (kL k) x) ?_
  fin_cases b
  · exact absurd rfl hb
  · exact ⟨dvW LQ LD LK LL LB 1 (by decide), List.mem_of_getElem? (i := 14) rfl, mem3P (u := 1) (by decide) (kL k) x⟩
  · exact ⟨dvW LQ LD LK LL LB 2 (by decide), List.mem_of_getElem? (i := 13) rfl, mem3P (u := 2) (by decide) (kL k) x⟩
  · exact ⟨dvW LQ LD LK LL LB 3 (by decide), List.mem_of_getElem? (i := 12) rfl, mem3P (u := 3) (by decide) (kL k) x⟩
  · exact absurd rfl hb
  · exact ⟨dvW LQ LD LK LL LB 5 (by decide), List.mem_of_getElem? (i := 10) rfl, mem3P (u := 5) (by decide) (kL k) x⟩
  · exact ⟨dvW LQ LD LK LL LB 6 (by decide), List.mem_of_getElem? (i := 9) rfl, mem3P (u := 6) (by decide) (kL k) x⟩
  · exact ⟨dvW LQ LD LK LL LB 7 (by decide), List.mem_of_getElem? (i := 8) rfl, mem3P (u := 7) (by decide) (kL k) x⟩
  · exact absurd rfl hb
  · exact ⟨dvW LQ LD LK LL LB 9 (by decide), List.mem_of_getElem? (i := 6) rfl, mem3P (u := 9) (by decide) (kL k) x⟩
  · exact ⟨dvW LQ LD LK LL LB 10 (by decide), List.mem_of_getElem? (i := 5) rfl, mem3P (u := 10) (by decide) (kL k) x⟩
  · exact ⟨dvW LQ LD LK LL LB 11 (by decide), List.mem_of_getElem? (i := 4) rfl, mem3P (u := 11) (by decide) (kL k) x⟩
  · exact absurd rfl hb
  · exact ⟨dvW LQ LD LK LL LB 13 (by decide), List.mem_of_getElem? (i := 2) rfl, mem3P (u := 13) (by decide) (kL k) x⟩
  · exact ⟨dvW LQ LD LK LL LB 14 (by decide), List.mem_of_getElem? (i := 1) rfl, mem3P (u := 14) (by decide) (kL k) x⟩
  · exact ⟨dvW LQ LD LK LL LB 15 (by decide), List.mem_of_getElem? (i := 0) rfl, mem3P (u := 15) (by decide) (kL k) x⟩
end
section
variable (hQ : ∀ (s : Fin 2048) (x : Fin 128), View.canon LQ (ix2 s x) = (qb (tau 16 s.val) x : EReal))
  (hD : ∀ (s : Fin 2048) (x : Fin 128), View.canon LD (ix2 s x) = (dob (tau 16 s.val) x : EReal))
  (hK : ∀ (s : Fin 2048) (x : Fin 128), View.canon LK (ix2 (kI s) x) = (kb (tau 16 s.val) x : EReal))
  (hV : ∀ (s : Fin 2048) (x : Fin 128), View.canon LV (ix2 (kI s) x) = (vb (tau 16 s.val) x : EReal))
  (hL : ∀ (s : Fin 2048) (x : Fin 128), View.canon LL (ix2 s x) = (lb (headOf x) (tau 16 s.val) : EReal))
  (hE : ∀ (s : Fin 2048) (x : Fin 128), View.canon LE (ix2 s x) = (db (headOf x) (tau 16 s.val) : EReal))
  (hB : ∀ (a b : Fin 256), View.canon LB (ix2 a b) = bl 0 (fun h => sl h * (16 : ℕ)) a b)

include hQ hD hK hV hL hE hB
theorem dqC_at (s : Fin 2048) (x : Fin 128) : View.canon (dqC LQ LD LK LV LL LE LB) (ix2 s x) = (dqt 16 qb kb vb dob sl lb db (tau 16 s.val) x : EReal) := by
  refine View.canon_apply_of_pieces (Val := Elt Ideal) (e := .f32) (Gq 16 qb kb vb dob sl lb db) _ (fun p hp => ?_) (ix2 s x) ?_
  · simp only [dqC, List.mem_cons, List.not_mem_nil, or_false] at hp
    rcases hp with rfl | rfl | rfl | rfl | rfl | rfl | rfl | rfl | rfl | rfl | rfl | rfl | rfl | rfl | rfl | rfl
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
    · exact dqN_at LQ LD LK LV LL LE LB 16 qb kb vb dob sl lb db (.inr (.inr rfl)) hQ hD hK hV hL hE hB _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨dqN LQ LD LK LV LL LE LB 0 (by decide), List.mem_of_getElem? (i := 15) rfl, mem2 (by decide) s x h⟩
    · exact ⟨dqN LQ LD LK LV LL LE LB 1 (by decide), List.mem_of_getElem? (i := 14) rfl, mem2 (by decide) s x h⟩
    · exact ⟨dqN LQ LD LK LV LL LE LB 2 (by decide), List.mem_of_getElem? (i := 13) rfl, mem2 (by decide) s x h⟩
    · exact ⟨dqN LQ LD LK LV LL LE LB 3 (by decide), List.mem_of_getElem? (i := 12) rfl, mem2 (by decide) s x h⟩
    · exact ⟨dqN LQ LD LK LV LL LE LB 4 (by decide), List.mem_of_getElem? (i := 11) rfl, mem2 (by decide) s x h⟩
    · exact ⟨dqN LQ LD LK LV LL LE LB 5 (by decide), List.mem_of_getElem? (i := 10) rfl, mem2 (by decide) s x h⟩
    · exact ⟨dqN LQ LD LK LV LL LE LB 6 (by decide), List.mem_of_getElem? (i := 9) rfl, mem2 (by decide) s x h⟩
    · exact ⟨dqN LQ LD LK LV LL LE LB 7 (by decide), List.mem_of_getElem? (i := 8) rfl, mem2 (by decide) s x h⟩
    · exact ⟨dqN LQ LD LK LV LL LE LB 8 (by decide), List.mem_of_getElem? (i := 7) rfl, mem2 (by decide) s x h⟩
    · exact ⟨dqN LQ LD LK LV LL LE LB 9 (by decide), List.mem_of_getElem? (i := 6) rfl, mem2 (by decide) s x h⟩
    · exact ⟨dqN LQ LD LK LV LL LE LB 10 (by decide), List.mem_of_getElem? (i := 5) rfl, mem2 (by decide) s x h⟩
    · exact ⟨dqN LQ LD LK LV LL LE LB 11 (by decide), List.mem_of_getElem? (i := 4) rfl, mem2 (by decide) s x h⟩
    · exact ⟨dqN LQ LD LK LV LL LE LB 12 (by decide), List.mem_of_getElem? (i := 3) rfl, mem2 (by decide) s x h⟩
    · exact ⟨dqN LQ LD LK LV LL LE LB 13 (by decide), List.mem_of_getElem? (i := 2) rfl, mem2 (by decide) s x h⟩
    · exact ⟨dqN LQ LD LK LV LL LE LB 14 (by decide), List.mem_of_getElem? (i := 1) rfl, mem2 (by decide) s x h⟩
    · exact ⟨dqN LQ LD LK LV LL LE LB 15 (by decide), List.mem_of_getElem? (i := 0) rfl, mem2 (by decide) s x h⟩

theorem dkC_ok : ∀ p ∈ dkC LQ LD LK LV LL LE LB, ∀ x : p.1.shape.Idx, p.2 x = Gk 16 qb kb vb dob sl lb db (p.1.emb x) := by
  intro p hp
  simp only [dkC, List.mem_cons, List.not_mem_nil, or_false] at hp
  rcases hp with rfl | rfl | rfl | rfl | rfl | rfl | rfl | rfl | rfl | rfl | rfl | rfl | rfl | rfl | rfl | rfl
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _
  · exact dkN_at LQ LD LK LV LL LE LB 16 qb kb vb dob sl lb db (.inr (.inr rfl)) hQ hD hK hV hL hE hB _

theorem dkC_R (b : Fin 16) (k x : Fin 128) : View.canon (dkC LQ LD LK LV LL LE LB) (ix3 b (kR k) x) = (pk 16 qb kb vb dob sl lb db b.val (k.val + 128) x : EReal) := by
  rw [Nat.add_comm k.val 128]
  refine View.canon_apply_of_pieces (Val := Elt Ideal) (e := .f32) (Gk 16 qb kb vb dob sl lb db) _ (dkC_ok LQ LD LK LV LL LE LB qb kb vb dob sl lb db hQ hD hK hV hL hE hB) (ix3 b (kR k) x) ?_
  fin_cases b
  · exact ⟨dkN LQ LD LK LV LL LE LB 0 (by decide), List.mem_of_getElem? (i := 15) rfl, mem3R (u := 0) (by decide) k x⟩
  · exact ⟨dkN LQ LD LK LV LL LE LB 1 (by decide), List.mem_of_getElem? (i := 14) rfl, mem3R (u := 1) (by decide) k x⟩
  · exact ⟨dkN LQ LD LK LV LL LE LB 2 (by decide), List.mem_of_getElem? (i := 13) rfl, mem3R (u := 2) (by decide) k x⟩
  · exact ⟨dkN LQ LD LK LV LL LE LB 3 (by decide), List.mem_of_getElem? (i := 12) rfl, mem3R (u := 3) (by decide) k x⟩
  · exact ⟨dkN LQ LD LK LV LL LE LB 4 (by decide), List.mem_of_getElem? (i := 11) rfl, mem3R (u := 4) (by decide) k x⟩
  · exact ⟨dkN LQ LD LK LV LL LE LB 5 (by decide), List.mem_of_getElem? (i := 10) rfl, mem3R (u := 5) (by decide) k x⟩
  · exact ⟨dkN LQ LD LK LV LL LE LB 6 (by decide), List.mem_of_getElem? (i := 9) rfl, mem3R (u := 6) (by decide) k x⟩
  · exact ⟨dkN LQ LD LK LV LL LE LB 7 (by decide), List.mem_of_getElem? (i := 8) rfl, mem3R (u := 7) (by decide) k x⟩
  · exact ⟨dkN LQ LD LK LV LL LE LB 8 (by decide), List.mem_of_getElem? (i := 7) rfl, mem3R (u := 8) (by decide) k x⟩
  · exact ⟨dkN LQ LD LK LV LL LE LB 9 (by decide), List.mem_of_getElem? (i := 6) rfl, mem3R (u := 9) (by decide) k x⟩
  · exact ⟨dkN LQ LD LK LV LL LE LB 10 (by decide), List.mem_of_getElem? (i := 5) rfl, mem3R (u := 10) (by decide) k x⟩
  · exact ⟨dkN LQ LD LK LV LL LE LB 11 (by decide), List.mem_of_getElem? (i := 4) rfl, mem3R (u := 11) (by decide) k x⟩
  · exact ⟨dkN LQ LD LK LV LL LE LB 12 (by decide), List.mem_of_getElem? (i := 3) rfl, mem3R (u := 12) (by decide) k x⟩
  · exact ⟨dkN LQ LD LK LV LL LE LB 13 (by decide), List.mem_of_getElem? (i := 2) rfl, mem3R (u := 13) (by decide) k x⟩
  · exact ⟨dkN LQ LD LK LV LL LE LB 14 (by decide), List.mem_of_getElem? (i := 1) rfl, mem3R (u := 14) (by decide) k x⟩
  · exact ⟨dkN LQ LD LK LV LL LE LB 15 (by decide), List.mem_of_getElem? (i := 0) rfl, mem3R (u := 15) (by decide) k x⟩

theorem dkC_L (b : Fin 16) (hb : b.val % (16 / 16) ≠ 0) (k x : Fin 128) : View.canon (dkC LQ LD LK LV LL LE LB) (ix3 b (kL k) x) = (pk 16 qb kb vb dob sl lb db b.val k.val x : EReal) :=
  absurd (Nat.mod_one _) hb

omit hV hE in
theorem dvC_ok : ∀ p ∈ dvC LQ LD LK LL LB, ∀ x : p.1.shape.Idx, p.2 x = Gv 16 qb kb dob sl lb (p.1.emb x) := by
  intro p hp
  simp only [dvC, List.mem_cons, List.not_mem_nil, or_false] at hp
  rcases hp with rfl | rfl | rfl | rfl | rfl | rfl | rfl | rfl | rfl | rfl | rfl | rfl | rfl | rfl | rfl | rfl
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _
  · exact dvN_at LQ LD LK LL LB 16 qb kb dob sl lb (.inr (.inr rfl)) hQ hD hK hL hB _

omit hV hE in
theorem dvC_R (b : Fin 16) (k x : Fin 128) : View.canon (dvC LQ LD LK LL LB) (ix3 b (kR k) x) = (pv 16 qb kb dob sl lb b.val (k.val + 128) x : EReal) := by
  rw [Nat.add_comm k.val 128]
  refine View.canon_apply_of_pieces (Val := Elt Ideal) (e := .f32) (Gv 16 qb kb dob sl lb) _ (dvC_ok LQ LD LK LL LB qb kb dob sl lb hQ hD hK hL hB) (ix3 b (kR k) x) ?_
  fin_cases b
  · exact ⟨dvN LQ LD LK LL LB 0 (by decide), List.mem_of_getElem? (i := 15) rfl, mem3R (u := 0) (by decide) k x⟩
  · exact ⟨dvN LQ LD LK LL LB 1 (by decide), List.mem_of_getElem? (i := 14) rfl, mem3R (u := 1) (by decide) k x⟩
  · exact ⟨dvN LQ LD LK LL LB 2 (by decide), List.mem_of_getElem? (i := 13) rfl, mem3R (u := 2) (by decide) k x⟩
  · exact ⟨dvN LQ LD LK LL LB 3 (by decide), List.mem_of_getElem? (i := 12) rfl, mem3R (u := 3) (by decide) k x⟩
  · exact ⟨dvN LQ LD LK LL LB 4 (by decide), List.mem_of_getElem? (i := 11) rfl, mem3R (u := 4) (by decide) k x⟩
  · exact ⟨dvN LQ LD LK LL LB 5 (by decide), List.mem_of_getElem? (i := 10) rfl, mem3R (u := 5) (by decide) k x⟩
  · exact ⟨dvN LQ LD LK LL LB 6 (by decide), List.mem_of_getElem? (i := 9) rfl, mem3R (u := 6) (by decide) k x⟩
  · exact ⟨dvN LQ LD LK LL LB 7 (by decide), List.mem_of_getElem? (i := 8) rfl, mem3R (u := 7) (by decide) k x⟩
  · exact ⟨dvN LQ LD LK LL LB 8 (by decide), List.mem_of_getElem? (i := 7) rfl, mem3R (u := 8) (by decide) k x⟩
  · exact ⟨dvN LQ LD LK LL LB 9 (by decide), List.mem_of_getElem? (i := 6) rfl, mem3R (u := 9) (by decide) k x⟩
  · exact ⟨dvN LQ LD LK LL LB 10 (by decide), List.mem_of_getElem? (i := 5) rfl, mem3R (u := 10) (by decide) k x⟩
  · exact ⟨dvN LQ LD LK LL LB 11 (by decide), List.mem_of_getElem? (i := 4) rfl, mem3R (u := 11) (by decide) k x⟩
  · exact ⟨dvN LQ LD LK LL LB 12 (by decide), List.mem_of_getElem? (i := 3) rfl, mem3R (u := 12) (by decide) k x⟩
  · exact ⟨dvN LQ LD LK LL LB 13 (by decide), List.mem_of_getElem? (i := 2) rfl, mem3R (u := 13) (by decide) k x⟩
  · exact ⟨dvN LQ LD LK LL LB 14 (by decide), List.mem_of_getElem? (i := 1) rfl, mem3R (u := 14) (by decide) k x⟩
  · exact ⟨dvN LQ LD LK LL LB 15 (by decide), List.mem_of_getElem? (i := 0) rfl, mem3R (u := 15) (by decide) k x⟩

omit hV hE in
theorem dvC_L (b : Fin 16) (hb : b.val % (16 / 16) ≠ 0) (k x : Fin 128) : View.canon (dvC LQ LD LK LL LB) (ix3 b (kL k) x) = (pv 16 qb kb dob sl lb b.val k.val x : EReal) :=
  absurd (Nat.mod_one _) hb
end
end

end Cert.KernelIdeal.Value
-- ==== Proof.Gather.lean ====
module
public import proofs.«01_k».proof.Proof.Gen.KernelIdeal.Value
public import proofs.«01_k».proof.Proof.Canon
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The two ways the parts are gathered, at a row. -/
theorem pay167_at (A B : Vec Ideal S1x128x128 .f32) (k x : Fin 128) : k0_pay167 (F := Ideal) A B (ix2 k x) = A (ix3 0 k x) + B (ix3 0 k x) := by
  pointwise [k0_pay167]
theorem pay204_at (A : Vec Ideal S1x128x128 .f32) (k x : Fin 128) : k0_pay204 (F := Ideal) A (ix2 k x) = A (ix3 0 k x) := by
  pointwise [k0_pay204]

section
variable (LP : PL S16x256x128 .f32) (r : ℕ) (qb kb vb dob : ℕ → Fin 128 → ℝ) (sl : Fin 2 → ℝ) (lb db : Fin 2 → ℕ → ℝ) (hr : r = 1 ∨ r = 4 ∨ r = 16)

/-- The gathered gradient, as a value at a scratch index. -/
def Hk : S2048x128.Idx → EReal := fun y => (dkt r qb kb vb dob sl lb db (tau r (y 0).val) (y 1) : EReal)
section
variable (hR : ∀ (b : Fin 16) (k x : Fin 128), View.canon LP (ix3 b (kR k) x) = (pk r qb kb vb dob sl lb db b.val (k.val + 128) x : EReal))
  (hl : ∀ (b : Fin 16), b.val % (16 / r) ≠ 0 → ∀ (k x : Fin 128), View.canon LP (ix3 b (kL k) x) = (pk r qb kb vb dob sl lb db b.val k.val x : EReal))
include hR in
theorem rkR_at {u : ℕ} (h : u < 16) (k x : Fin 128) : rkR LP u h (ix3 0 k x) = (pk r qb kb vb dob sl lb db u (k.val + 128) x : EReal) := by
  rw [rkR, View.readCov_eq_canon']
  refine Eq.trans (congrArg _ (ext3 _ _ _ _ ?_ ?_ ?_)) (hR ⟨u, h⟩ k x)
  · show u + 1 * 0 = u; omega
  · show 128 + 1 * k.val = 128 + k.val; omega
  · show 0 + 1 * x.val = x.val; omega
include hl in
theorem rkL_at {u : ℕ} (h : u < 16) (hu : u % (16 / r) ≠ 0) (k x : Fin 128) : rkL LP u h (ix3 0 k x) = (pk r qb kb vb dob sl lb db u k.val x : EReal) := by
  rw [rkL, View.readCov_eq_canon']
  refine Eq.trans (congrArg _ (ext3 _ _ _ _ ?_ ?_ ?_)) (hl ⟨u, h⟩ hu k x)
  · show u + 1 * 0 = u; omega
  · show 0 + 1 * k.val = k.val; omega
  · show 0 + 1 * x.val = x.val; omega
include hR hl hr in
theorem akP_at {u : ℕ} (h : u + 1 < 16) (hu : (u + 1) % (16 / r) ≠ 0) (y : (akP LP u h).1.shape.Idx) :
    (akP LP u h).2 y = Hk r qb kb vb dob sl lb db ((akP LP u h).1.emb y) := by
  obtain ⟨k, x, rfl⟩ : ∃ (q x : Fin 128), y = ix2 q x := ⟨_, _, eq_ix2 y⟩
  rw [show (akP LP u h).1.emb (ix2 k x) = ix2 (⟨128 * u + k.val, by omega⟩ : Fin 2048) x from
    ext2 _ _ _ (by show 128 * u + 1 * k.val = 128 * u + k.val; omega) (by show 0 + 1 * x.val = x.val; omega)]
  refine (pay167_at _ _ k x).trans ?_
  rw [rkR_at LP r qb kb vb dob sl lb db hR, rkL_at LP r qb kb vb dob sl lb db hl h hu, ← EReal.coe_add]
  have e := dk_eq r qb kb vb dob sl lb db (b := u) (k := k.val) (x := x) hr (by omega) k.isLt
  rw [if_neg hu] at e
  rw [e]; rfl
include hR hr in
theorem akE_at {u : ℕ} (h : u < 16) (hu : (u + 1) % (16 / r) = 0) (y : (akE LP u h).1.shape.Idx) :
    (akE LP u h).2 y = Hk r qb kb vb dob sl lb db ((akE LP u h).1.emb y) := by
  obtain ⟨k, x, rfl⟩ : ∃ (q x : Fin 128), y = ix2 q x := ⟨_, _, eq_ix2 y⟩
  rw [show (akE LP u h).1.emb (ix2 k x) = ix2 (⟨128 * u + k.val, by omega⟩ : Fin 2048) x from
    ext2 _ _ _ (by show 128 * u + 1 * k.val = 128 * u + k.val; omega) (by show 0 + 1 * x.val = x.val; omega)]
  refine (pay204_at (rkR LP u h) k x).trans ?_
  rw [rkR_at LP r qb kb vb dob sl lb db hR]
  have e := dk_eq r qb kb vb dob sl lb db (b := u) (k := k.val) (x := x) hr h k.isLt
  rw [if_pos hu, add_zero] at e
  rw [e]; rfl
end

theorem akA_at (hR : ∀ (b : Fin 16) (k x : Fin 128), View.canon LP (ix3 b (kR k) x) = (pk 1 qb kb vb dob sl lb db b.val (k.val + 128) x : EReal))
    (hl : ∀ (b : Fin 16), b.val % (16 / 1) ≠ 0 → ∀ (k x : Fin 128), View.canon LP (ix3 b (kL k) x) = (pk 1 qb kb vb dob sl lb db b.val k.val x : EReal))
    (s : Fin 2048) (x : Fin 128) : View.canon (akA LP) (ix2 s x) = (dkt 1 qb kb vb dob sl lb db (tau 1 s.val) x : EReal) := by
  refine View.canon_apply_of_pieces (Val := Elt Ideal) (e := .f32) (Hk 1 qb kb vb dob sl lb db) _ (fun p hp => ?_) (ix2 s x) ?_
  · simp only [akA, List.mem_cons, List.not_mem_nil, or_false] at hp
    rcases hp with rfl | rfl | rfl | rfl | rfl | rfl | rfl | rfl | rfl | rfl | rfl | rfl | rfl | rfl | rfl | rfl
    · exact akE_at LP 1 qb kb vb dob sl lb db (.inl rfl) hR _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
    · exact akP_at LP 1 qb kb vb dob sl lb db (.inl rfl) hR hl _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨akP LP 0 (by decide), List.mem_of_getElem? (i := 15) rfl, mem2 (by decide) s x h⟩
    · exact ⟨akP LP 1 (by decide), List.mem_of_getElem? (i := 14) rfl, mem2 (by decide) s x h⟩
    · exact ⟨akP LP 2 (by decide), List.mem_of_getElem? (i := 13) rfl, mem2 (by decide) s x h⟩
    · exact ⟨akP LP 3 (by decide), List.mem_of_getElem? (i := 12) rfl, mem2 (by decide) s x h⟩
    · exact ⟨akP LP 4 (by decide), List.mem_of_getElem? (i := 11) rfl, mem2 (by decide) s x h⟩
    · exact ⟨akP LP 5 (by decide), List.mem_of_getElem? (i := 10) rfl, mem2 (by decide) s x h⟩
    · exact ⟨akP LP 6 (by decide), List.mem_of_getElem? (i := 9) rfl, mem2 (by decide) s x h⟩
    · exact ⟨akP LP 7 (by decide), List.mem_of_getElem? (i := 8) rfl, mem2 (by decide) s x h⟩
    · exact ⟨akP LP 8 (by decide), List.mem_of_getElem? (i := 7) rfl, mem2 (by decide) s x h⟩
    · exact ⟨akP LP 9 (by decide), List.mem_of_getElem? (i := 6) rfl, mem2 (by decide) s x h⟩
    · exact ⟨akP LP 10 (by decide), List.mem_of_getElem? (i := 5) rfl, mem2 (by decide) s x h⟩
    · exact ⟨akP LP 11 (by decide), List.mem_of_getElem? (i := 4) rfl, mem2 (by decide) s x h⟩
    · exact ⟨akP LP 12 (by decide), List.mem_of_getElem? (i := 3) rfl, mem2 (by decide) s x h⟩
    · exact ⟨akP LP 13 (by decide), List.mem_of_getElem? (i := 2) rfl, mem2 (by decide) s x h⟩
    · exact ⟨akP LP 14 (by decide), List.mem_of_getElem? (i := 1) rfl, mem2 (by decide) s x h⟩
    · exact ⟨akE LP 15 (by decide), List.mem_of_getElem? (i := 0) rfl, mem2 (by decide) s x h⟩

theorem akB_at (hR : ∀ (b : Fin 16) (k x : Fin 128), View.canon LP (ix3 b (kR k) x) = (pk 4 qb kb vb dob sl lb db b.val (k.val + 128) x : EReal))
    (hl : ∀ (b : Fin 16), b.val % (16 / 4) ≠ 0 → ∀ (k x : Fin 128), View.canon LP (ix3 b (kL k) x) = (pk 4 qb kb vb dob sl lb db b.val k.val x : EReal))
    (s : Fin 2048) (x : Fin 128) : View.canon (akB LP) (ix2 s x) = (dkt 4 qb kb vb dob sl lb db (tau 4 s.val) x : EReal) := by
  refine View.canon_apply_of_pieces (Val := Elt Ideal) (e := .f32) (Hk 4 qb kb vb dob sl lb db) _ (fun p hp => ?_) (ix2 s x) ?_
  · simp only [akB, List.mem_cons, List.not_mem_nil, or_false] at hp
    rcases hp with rfl | rfl | rfl | rfl | rfl | rfl | rfl | rfl | rfl | rfl | rfl | rfl | rfl | rfl | rfl | rfl
    · exact akE_at LP 4 qb kb vb dob sl lb db (.inr (.inl rfl)) hR _ (by decide)
    · exact akP_at LP 4 qb kb vb dob sl lb db (.inr (.inl rfl)) hR hl _ (by decide)
    · exact akP_at LP 4 qb kb vb dob sl lb db (.inr (.inl rfl)) hR hl _ (by decide)
    · exact akP_at LP 4 qb kb vb dob sl lb db (.inr (.inl rfl)) hR hl _ (by decide)
    · exact akE_at LP 4 qb kb vb dob sl lb db (.inr (.inl rfl)) hR _ (by decide)
    · exact akP_at LP 4 qb kb vb dob sl lb db (.inr (.inl rfl)) hR hl _ (by decide)
    · exact akP_at LP 4 qb kb vb dob sl lb db (.inr (.inl rfl)) hR hl _ (by decide)
    · exact akP_at LP 4 qb kb vb dob sl lb db (.inr (.inl rfl)) hR hl _ (by decide)
    · exact akE_at LP 4 qb kb vb dob sl lb db (.inr (.inl rfl)) hR _ (by decide)
    · exact akP_at LP 4 qb kb vb dob sl lb db (.inr (.inl rfl)) hR hl _ (by decide)
    · exact akP_at LP 4 qb kb vb dob sl lb db (.inr (.inl rfl)) hR hl _ (by decide)
    · exact akP_at LP 4 qb kb vb dob sl lb db (.inr (.inl rfl)) hR hl _ (by decide)
    · exact akE_at LP 4 qb kb vb dob sl lb db (.inr (.inl rfl)) hR _ (by decide)
    · exact akP_at LP 4 qb kb vb dob sl lb db (.inr (.inl rfl)) hR hl _ (by decide)
    · exact akP_at LP 4 qb kb vb dob sl lb db (.inr (.inl rfl)) hR hl _ (by decide)
    · exact akP_at LP 4 qb kb vb dob sl lb db (.inr (.inl rfl)) hR hl _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨akP LP 0 (by decide), List.mem_of_getElem? (i := 15) rfl, mem2 (by decide) s x h⟩
    · exact ⟨akP LP 1 (by decide), List.mem_of_getElem? (i := 14) rfl, mem2 (by decide) s x h⟩
    · exact ⟨akP LP 2 (by decide), List.mem_of_getElem? (i := 13) rfl, mem2 (by decide) s x h⟩
    · exact ⟨akE LP 3 (by decide), List.mem_of_getElem? (i := 12) rfl, mem2 (by decide) s x h⟩
    · exact ⟨akP LP 4 (by decide), List.mem_of_getElem? (i := 11) rfl, mem2 (by decide) s x h⟩
    · exact ⟨akP LP 5 (by decide), List.mem_of_getElem? (i := 10) rfl, mem2 (by decide) s x h⟩
    · exact ⟨akP LP 6 (by decide), List.mem_of_getElem? (i := 9) rfl, mem2 (by decide) s x h⟩
    · exact ⟨akE LP 7 (by decide), List.mem_of_getElem? (i := 8) rfl, mem2 (by decide) s x h⟩
    · exact ⟨akP LP 8 (by decide), List.mem_of_getElem? (i := 7) rfl, mem2 (by decide) s x h⟩
    · exact ⟨akP LP 9 (by decide), List.mem_of_getElem? (i := 6) rfl, mem2 (by decide) s x h⟩
    · exact ⟨akP LP 10 (by decide), List.mem_of_getElem? (i := 5) rfl, mem2 (by decide) s x h⟩
    · exact ⟨akE LP 11 (by decide), List.mem_of_getElem? (i := 4) rfl, mem2 (by decide) s x h⟩
    · exact ⟨akP LP 12 (by decide), List.mem_of_getElem? (i := 3) rfl, mem2 (by decide) s x h⟩
    · exact ⟨akP LP 13 (by decide), List.mem_of_getElem? (i := 2) rfl, mem2 (by decide) s x h⟩
    · exact ⟨akP LP 14 (by decide), List.mem_of_getElem? (i := 1) rfl, mem2 (by decide) s x h⟩
    · exact ⟨akE LP 15 (by decide), List.mem_of_getElem? (i := 0) rfl, mem2 (by decide) s x h⟩

theorem akC_at (hR : ∀ (b : Fin 16) (k x : Fin 128), View.canon LP (ix3 b (kR k) x) = (pk 16 qb kb vb dob sl lb db b.val (k.val + 128) x : EReal))
    (hl : ∀ (b : Fin 16), b.val % (16 / 16) ≠ 0 → ∀ (k x : Fin 128), View.canon LP (ix3 b (kL k) x) = (pk 16 qb kb vb dob sl lb db b.val k.val x : EReal))
    (s : Fin 2048) (x : Fin 128) : View.canon (akC LP) (ix2 s x) = (dkt 16 qb kb vb dob sl lb db (tau 16 s.val) x : EReal) := by
  refine View.canon_apply_of_pieces (Val := Elt Ideal) (e := .f32) (Hk 16 qb kb vb dob sl lb db) _ (fun p hp => ?_) (ix2 s x) ?_
  · simp only [akC, List.mem_cons, List.not_mem_nil, or_false] at hp
    rcases hp with rfl | rfl | rfl | rfl | rfl | rfl | rfl | rfl | rfl | rfl | rfl | rfl | rfl | rfl | rfl | rfl
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
    · exact akE_at LP 16 qb kb vb dob sl lb db (.inr (.inr rfl)) hR _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨akE LP 0 (by decide), List.mem_of_getElem? (i := 15) rfl, mem2 (by decide) s x h⟩
    · exact ⟨akE LP 1 (by decide), List.mem_of_getElem? (i := 14) rfl, mem2 (by decide) s x h⟩
    · exact ⟨akE LP 2 (by decide), List.mem_of_getElem? (i := 13) rfl, mem2 (by decide) s x h⟩
    · exact ⟨akE LP 3 (by decide), List.mem_of_getElem? (i := 12) rfl, mem2 (by decide) s x h⟩
    · exact ⟨akE LP 4 (by decide), List.mem_of_getElem? (i := 11) rfl, mem2 (by decide) s x h⟩
    · exact ⟨akE LP 5 (by decide), List.mem_of_getElem? (i := 10) rfl, mem2 (by decide) s x h⟩
    · exact ⟨akE LP 6 (by decide), List.mem_of_getElem? (i := 9) rfl, mem2 (by decide) s x h⟩
    · exact ⟨akE LP 7 (by decide), List.mem_of_getElem? (i := 8) rfl, mem2 (by decide) s x h⟩
    · exact ⟨akE LP 8 (by decide), List.mem_of_getElem? (i := 7) rfl, mem2 (by decide) s x h⟩
    · exact ⟨akE LP 9 (by decide), List.mem_of_getElem? (i := 6) rfl, mem2 (by decide) s x h⟩
    · exact ⟨akE LP 10 (by decide), List.mem_of_getElem? (i := 5) rfl, mem2 (by decide) s x h⟩
    · exact ⟨akE LP 11 (by decide), List.mem_of_getElem? (i := 4) rfl, mem2 (by decide) s x h⟩
    · exact ⟨akE LP 12 (by decide), List.mem_of_getElem? (i := 3) rfl, mem2 (by decide) s x h⟩
    · exact ⟨akE LP 13 (by decide), List.mem_of_getElem? (i := 2) rfl, mem2 (by decide) s x h⟩
    · exact ⟨akE LP 14 (by decide), List.mem_of_getElem? (i := 1) rfl, mem2 (by decide) s x h⟩
    · exact ⟨akE LP 15 (by decide), List.mem_of_getElem? (i := 0) rfl, mem2 (by decide) s x h⟩

/-- The gathered gradient, as a value at a scratch index. -/
def Hv : S2048x128.Idx → EReal := fun y => (dvt r qb kb dob sl lb (tau r (y 0).val) (y 1) : EReal)
section
variable (hR : ∀ (b : Fin 16) (k x : Fin 128), View.canon LP (ix3 b (kR k) x) = (pv r qb kb dob sl lb b.val (k.val + 128) x : EReal))
  (hl : ∀ (b : Fin 16), b.val % (16 / r) ≠ 0 → ∀ (k x : Fin 128), View.canon LP (ix3 b (kL k) x) = (pv r qb kb dob sl lb b.val k.val x : EReal))
include hR in
theorem rvR_at {u : ℕ} (h : u < 16) (k x : Fin 128) : rvR LP u h (ix3 0 k x) = (pv r qb kb dob sl lb u (k.val + 128) x : EReal) := by
  rw [rvR, View.readCov_eq_canon']
  refine Eq.trans (congrArg _ (ext3 _ _ _ _ ?_ ?_ ?_)) (hR ⟨u, h⟩ k x)
  · show u + 1 * 0 = u; omega
  · show 128 + 1 * k.val = 128 + k.val; omega
  · show 0 + 1 * x.val = x.val; omega
include hl in
theorem rvL_at {u : ℕ} (h : u < 16) (hu : u % (16 / r) ≠ 0) (k x : Fin 128) : rvL LP u h (ix3 0 k x) = (pv r qb kb dob sl lb u k.val x : EReal) := by
  rw [rvL, View.readCov_eq_canon']
  refine Eq.trans (congrArg _ (ext3 _ _ _ _ ?_ ?_ ?_)) (hl ⟨u, h⟩ hu k x)
  · show u + 1 * 0 = u; omega
  · show 0 + 1 * k.val = k.val; omega
  · show 0 + 1 * x.val = x.val; omega
include hR hl hr in
theorem avP_at {u : ℕ} (h : u + 1 < 16) (hu : (u + 1) % (16 / r) ≠ 0) (y : (avP LP u h).1.shape.Idx) :
    (avP LP u h).2 y = Hv r qb kb dob sl lb ((avP LP u h).1.emb y) := by
  obtain ⟨k, x, rfl⟩ : ∃ (q x : Fin 128), y = ix2 q x := ⟨_, _, eq_ix2 y⟩
  rw [show (avP LP u h).1.emb (ix2 k x) = ix2 (⟨128 * u + k.val, by omega⟩ : Fin 2048) x from
    ext2 _ _ _ (by show 128 * u + 1 * k.val = 128 * u + k.val; omega) (by show 0 + 1 * x.val = x.val; omega)]
  refine (pay167_at _ _ k x).trans ?_
  rw [rvR_at LP r qb kb dob sl lb hR, rvL_at LP r qb kb dob sl lb hl h hu, ← EReal.coe_add]
  have e := dv_eq r qb kb dob sl lb (b := u) (k := k.val) (x := x) hr (by omega) k.isLt
  rw [if_neg hu] at e
  rw [e]; rfl
include hR hr in
theorem avE_at {u : ℕ} (h : u < 16) (hu : (u + 1) % (16 / r) = 0) (y : (avE LP u h).1.shape.Idx) :
    (avE LP u h).2 y = Hv r qb kb dob sl lb ((avE LP u h).1.emb y) := by
  obtain ⟨k, x, rfl⟩ : ∃ (q x : Fin 128), y = ix2 q x := ⟨_, _, eq_ix2 y⟩
  rw [show (avE LP u h).1.emb (ix2 k x) = ix2 (⟨128 * u + k.val, by omega⟩ : Fin 2048) x from
    ext2 _ _ _ (by show 128 * u + 1 * k.val = 128 * u + k.val; omega) (by show 0 + 1 * x.val = x.val; omega)]
  refine (pay204_at (rvR LP u h) k x).trans ?_
  rw [rvR_at LP r qb kb dob sl lb hR]
  have e := dv_eq r qb kb dob sl lb (b := u) (k := k.val) (x := x) hr h k.isLt
  rw [if_pos hu, add_zero] at e
  rw [e]; rfl
end

theorem avA_at (hR : ∀ (b : Fin 16) (k x : Fin 128), View.canon LP (ix3 b (kR k) x) = (pv 1 qb kb dob sl lb b.val (k.val + 128) x : EReal))
    (hl : ∀ (b : Fin 16), b.val % (16 / 1) ≠ 0 → ∀ (k x : Fin 128), View.canon LP (ix3 b (kL k) x) = (pv 1 qb kb dob sl lb b.val k.val x : EReal))
    (s : Fin 2048) (x : Fin 128) : View.canon (avA LP) (ix2 s x) = (dvt 1 qb kb dob sl lb (tau 1 s.val) x : EReal) := by
  refine View.canon_apply_of_pieces (Val := Elt Ideal) (e := .f32) (Hv 1 qb kb dob sl lb) _ (fun p hp => ?_) (ix2 s x) ?_
  · simp only [avA, List.mem_cons, List.not_mem_nil, or_false] at hp
    rcases hp with rfl | rfl | rfl | rfl | rfl | rfl | rfl | rfl | rfl | rfl | rfl | rfl | rfl | rfl | rfl | rfl
    · exact avE_at LP 1 qb kb dob sl lb (.inl rfl) hR _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
    · exact avP_at LP 1 qb kb dob sl lb (.inl rfl) hR hl _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨avP LP 0 (by decide), List.mem_of_getElem? (i := 15) rfl, mem2 (by decide) s x h⟩
    · exact ⟨avP LP 1 (by decide), List.mem_of_getElem? (i := 14) rfl, mem2 (by decide) s x h⟩
    · exact ⟨avP LP 2 (by decide), List.mem_of_getElem? (i := 13) rfl, mem2 (by decide) s x h⟩
    · exact ⟨avP LP 3 (by decide), List.mem_of_getElem? (i := 12) rfl, mem2 (by decide) s x h⟩
    · exact ⟨avP LP 4 (by decide), List.mem_of_getElem? (i := 11) rfl, mem2 (by decide) s x h⟩
    · exact ⟨avP LP 5 (by decide), List.mem_of_getElem? (i := 10) rfl, mem2 (by decide) s x h⟩
    · exact ⟨avP LP 6 (by decide), List.mem_of_getElem? (i := 9) rfl, mem2 (by decide) s x h⟩
    · exact ⟨avP LP 7 (by decide), List.mem_of_getElem? (i := 8) rfl, mem2 (by decide) s x h⟩
    · exact ⟨avP LP 8 (by decide), List.mem_of_getElem? (i := 7) rfl, mem2 (by decide) s x h⟩
    · exact ⟨avP LP 9 (by decide), List.mem_of_getElem? (i := 6) rfl, mem2 (by decide) s x h⟩
    · exact ⟨avP LP 10 (by decide), List.mem_of_getElem? (i := 5) rfl, mem2 (by decide) s x h⟩
    · exact ⟨avP LP 11 (by decide), List.mem_of_getElem? (i := 4) rfl, mem2 (by decide) s x h⟩
    · exact ⟨avP LP 12 (by decide), List.mem_of_getElem? (i := 3) rfl, mem2 (by decide) s x h⟩
    · exact ⟨avP LP 13 (by decide), List.mem_of_getElem? (i := 2) rfl, mem2 (by decide) s x h⟩
    · exact ⟨avP LP 14 (by decide), List.mem_of_getElem? (i := 1) rfl, mem2 (by decide) s x h⟩
    · exact ⟨avE LP 15 (by decide), List.mem_of_getElem? (i := 0) rfl, mem2 (by decide) s x h⟩

theorem avB_at (hR : ∀ (b : Fin 16) (k x : Fin 128), View.canon LP (ix3 b (kR k) x) = (pv 4 qb kb dob sl lb b.val (k.val + 128) x : EReal))
    (hl : ∀ (b : Fin 16), b.val % (16 / 4) ≠ 0 → ∀ (k x : Fin 128), View.canon LP (ix3 b (kL k) x) = (pv 4 qb kb dob sl lb b.val k.val x : EReal))
    (s : Fin 2048) (x : Fin 128) : View.canon (avB LP) (ix2 s x) = (dvt 4 qb kb dob sl lb (tau 4 s.val) x : EReal) := by
  refine View.canon_apply_of_pieces (Val := Elt Ideal) (e := .f32) (Hv 4 qb kb dob sl lb) _ (fun p hp => ?_) (ix2 s x) ?_
  · simp only [avB, List.mem_cons, List.not_mem_nil, or_false] at hp
    rcases hp with rfl | rfl | rfl | rfl | rfl | rfl | rfl | rfl | rfl | rfl | rfl | rfl | rfl | rfl | rfl | rfl
    · exact avE_at LP 4 qb kb dob sl lb (.inr (.inl rfl)) hR _ (by decide)
    · exact avP_at LP 4 qb kb dob sl lb (.inr (.inl rfl)) hR hl _ (by decide)
    · exact avP_at LP 4 qb kb dob sl lb (.inr (.inl rfl)) hR hl _ (by decide)
    · exact avP_at LP 4 qb kb dob sl lb (.inr (.inl rfl)) hR hl _ (by decide)
    · exact avE_at LP 4 qb kb dob sl lb (.inr (.inl rfl)) hR _ (by decide)
    · exact avP_at LP 4 qb kb dob sl lb (.inr (.inl rfl)) hR hl _ (by decide)
    · exact avP_at LP 4 qb kb dob sl lb (.inr (.inl rfl)) hR hl _ (by decide)
    · exact avP_at LP 4 qb kb dob sl lb (.inr (.inl rfl)) hR hl _ (by decide)
    · exact avE_at LP 4 qb kb dob sl lb (.inr (.inl rfl)) hR _ (by decide)
    · exact avP_at LP 4 qb kb dob sl lb (.inr (.inl rfl)) hR hl _ (by decide)
    · exact avP_at LP 4 qb kb dob sl lb (.inr (.inl rfl)) hR hl _ (by decide)
    · exact avP_at LP 4 qb kb dob sl lb (.inr (.inl rfl)) hR hl _ (by decide)
    · exact avE_at LP 4 qb kb dob sl lb (.inr (.inl rfl)) hR _ (by decide)
    · exact avP_at LP 4 qb kb dob sl lb (.inr (.inl rfl)) hR hl _ (by decide)
    · exact avP_at LP 4 qb kb dob sl lb (.inr (.inl rfl)) hR hl _ (by decide)
    · exact avP_at LP 4 qb kb dob sl lb (.inr (.inl rfl)) hR hl _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨avP LP 0 (by decide), List.mem_of_getElem? (i := 15) rfl, mem2 (by decide) s x h⟩
    · exact ⟨avP LP 1 (by decide), List.mem_of_getElem? (i := 14) rfl, mem2 (by decide) s x h⟩
    · exact ⟨avP LP 2 (by decide), List.mem_of_getElem? (i := 13) rfl, mem2 (by decide) s x h⟩
    · exact ⟨avE LP 3 (by decide), List.mem_of_getElem? (i := 12) rfl, mem2 (by decide) s x h⟩
    · exact ⟨avP LP 4 (by decide), List.mem_of_getElem? (i := 11) rfl, mem2 (by decide) s x h⟩
    · exact ⟨avP LP 5 (by decide), List.mem_of_getElem? (i := 10) rfl, mem2 (by decide) s x h⟩
    · exact ⟨avP LP 6 (by decide), List.mem_of_getElem? (i := 9) rfl, mem2 (by decide) s x h⟩
    · exact ⟨avE LP 7 (by decide), List.mem_of_getElem? (i := 8) rfl, mem2 (by decide) s x h⟩
    · exact ⟨avP LP 8 (by decide), List.mem_of_getElem? (i := 7) rfl, mem2 (by decide) s x h⟩
    · exact ⟨avP LP 9 (by decide), List.mem_of_getElem? (i := 6) rfl, mem2 (by decide) s x h⟩
    · exact ⟨avP LP 10 (by decide), List.mem_of_getElem? (i := 5) rfl, mem2 (by decide) s x h⟩
    · exact ⟨avE LP 11 (by decide), List.mem_of_getElem? (i := 4) rfl, mem2 (by decide) s x h⟩
    · exact ⟨avP LP 12 (by decide), List.mem_of_getElem? (i := 3) rfl, mem2 (by decide) s x h⟩
    · exact ⟨avP LP 13 (by decide), List.mem_of_getElem? (i := 2) rfl, mem2 (by decide) s x h⟩
    · exact ⟨avP LP 14 (by decide), List.mem_of_getElem? (i := 1) rfl, mem2 (by decide) s x h⟩
    · exact ⟨avE LP 15 (by decide), List.mem_of_getElem? (i := 0) rfl, mem2 (by decide) s x h⟩

theorem avC_at (hR : ∀ (b : Fin 16) (k x : Fin 128), View.canon LP (ix3 b (kR k) x) = (pv 16 qb kb dob sl lb b.val (k.val + 128) x : EReal))
    (hl : ∀ (b : Fin 16), b.val % (16 / 16) ≠ 0 → ∀ (k x : Fin 128), View.canon LP (ix3 b (kL k) x) = (pv 16 qb kb dob sl lb b.val k.val x : EReal))
    (s : Fin 2048) (x : Fin 128) : View.canon (avC LP) (ix2 s x) = (dvt 16 qb kb dob sl lb (tau 16 s.val) x : EReal) := by
  refine View.canon_apply_of_pieces (Val := Elt Ideal) (e := .f32) (Hv 16 qb kb dob sl lb) _ (fun p hp => ?_) (ix2 s x) ?_
  · simp only [avC, List.mem_cons, List.not_mem_nil, or_false] at hp
    rcases hp with rfl | rfl | rfl | rfl | rfl | rfl | rfl | rfl | rfl | rfl | rfl | rfl | rfl | rfl | rfl | rfl
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
    · exact avE_at LP 16 qb kb dob sl lb (.inr (.inr rfl)) hR _ (by decide)
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨avE LP 0 (by decide), List.mem_of_getElem? (i := 15) rfl, mem2 (by decide) s x h⟩
    · exact ⟨avE LP 1 (by decide), List.mem_of_getElem? (i := 14) rfl, mem2 (by decide) s x h⟩
    · exact ⟨avE LP 2 (by decide), List.mem_of_getElem? (i := 13) rfl, mem2 (by decide) s x h⟩
    · exact ⟨avE LP 3 (by decide), List.mem_of_getElem? (i := 12) rfl, mem2 (by decide) s x h⟩
    · exact ⟨avE LP 4 (by decide), List.mem_of_getElem? (i := 11) rfl, mem2 (by decide) s x h⟩
    · exact ⟨avE LP 5 (by decide), List.mem_of_getElem? (i := 10) rfl, mem2 (by decide) s x h⟩
    · exact ⟨avE LP 6 (by decide), List.mem_of_getElem? (i := 9) rfl, mem2 (by decide) s x h⟩
    · exact ⟨avE LP 7 (by decide), List.mem_of_getElem? (i := 8) rfl, mem2 (by decide) s x h⟩
    · exact ⟨avE LP 8 (by decide), List.mem_of_getElem? (i := 7) rfl, mem2 (by decide) s x h⟩
    · exact ⟨avE LP 9 (by decide), List.mem_of_getElem? (i := 6) rfl, mem2 (by decide) s x h⟩
    · exact ⟨avE LP 10 (by decide), List.mem_of_getElem? (i := 5) rfl, mem2 (by decide) s x h⟩
    · exact ⟨avE LP 11 (by decide), List.mem_of_getElem? (i := 4) rfl, mem2 (by decide) s x h⟩
    · exact ⟨avE LP 12 (by decide), List.mem_of_getElem? (i := 3) rfl, mem2 (by decide) s x h⟩
    · exact ⟨avE LP 13 (by decide), List.mem_of_getElem? (i := 2) rfl, mem2 (by decide) s x h⟩
    · exact ⟨avE LP 14 (by decide), List.mem_of_getElem? (i := 1) rfl, mem2 (by decide) s x h⟩
    · exact ⟨avE LP 15 (by decide), List.mem_of_getElem? (i := 0) rfl, mem2 (by decide) s x h⟩
end

end Cert.KernelIdeal.Value
-- ==== Proof.Bias.lean ====
module
public import proofs.«01_k».proof.Proof.Gen.KernelIdeal.Value
public import proofs.«01_k».proof.Proof.Lists
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

theorem ofNat_int (p : Fin 128) : (BitVec.ofNat 32 p.val).toInt = p.val := by
  have hp := p.isLt
  rw [BitVec.toInt_eq_toNat_of_lt (by rw [BitVec.toNat_ofNat, Nat.mod_eq_of_lt (by omega)]; omega), BitVec.toNat_ofNat, Nat.mod_eq_of_lt (by omega)]
theorem sub_int (p q : Fin 128) : (IntOp.subi (BitVec.ofNat 32 p.val) (BitVec.ofNat 32 q.val)).toInt = (p.val : ℤ) - q.val := by
  have hp := p.isLt; have hq := q.isLt
  show (BitVec.ofNat 32 p.val - BitVec.ofNat 32 q.val).toInt = _
  rw [BitVec.toInt_sub, ofNat_int, ofNat_int]
  simp only [Int.bmod]
  omega
theorem c128 : Ideal.ofBits .f32 0x43000000#32 = ((128 : ℝ) : EReal) := by
  rw [f32_lit _ false 134 0 (by decide) (by decide) (by decide) (by decide) (by decide)]
  norm_num [zpow_neg]
theorem sel_ge (p q : Fin 128) (a b : EReal) : Scalar.select (IntOp.cmpi CmpIPredicate.sge (BitVec.ofNat 32 p.val) (BitVec.ofNat 32 q.val)) a b = if q.val ≤ p.val then a else b := by
  have e : IntOp.cmpi CmpIPredicate.sge (BitVec.ofNat 32 p.val) (BitVec.ofNat 32 q.val) = BitVec.ofBool (decide (((q.val : ℤ)) ≤ p.val)) := by
    rw [← ofNat_int p, ← ofNat_int q]; rfl
  rw [e]; unfold Scalar.select
  by_cases h : q.val ≤ p.val
  · rw [if_pos h, decide_eq_true (by exact_mod_cast h)]; rfl
  · rw [if_neg h, decide_eq_false (by exact_mod_cast h)]; rfl
theorem sel_le (p q : Fin 128) (a b : EReal) : Scalar.select (IntOp.cmpi CmpIPredicate.sle (BitVec.ofNat 32 p.val) (BitVec.ofNat 32 q.val)) a b = if p.val ≤ q.val then a else b := by
  rw [← sel_ge q p]; rfl
/-- The named mask is minus infinity. -/
theorem mask_bot : Named.named (F := Ideal) (φ := FTy.f32) κ "mask" 0xF149F2CA#32 = (⊥ : EReal) := rfl
theorem sub_real (p q : Fin 128) : FloatOps.sitofp (F := Ideal) FTy.f32 (IntOp.subi (BitVec.ofNat 32 p.val) (BitVec.ofNat 32 q.val)) = (((p.val : ℝ) - q.val : ℝ) : EReal) := by
  show (((IntOp.subi (BitVec.ofNat 32 p.val) (BitVec.ofNat 32 q.val)).toInt : ℝ) : EReal) = _
  rw [sub_int]; push_cast; rfl
theorem pay22_at (s : ℝ) (p q : Fin 128) : k0_pay22 (F := Ideal) (s : EReal) (ix2 p q) = if q.val ≤ p.val then ((-s * ((p.val : ℝ) - q.val) : ℝ) : EReal) else ⊥ := by
  pointwise [k0_pay22, k0_pay20]
  rw [sub_real, mask_bot, sel_ge, ← EReal.coe_zero, ← EReal.coe_sub, ← EReal.coe_mul, zero_sub]
theorem pay21_at (s : ℝ) (p q : Fin 128) : k0_pay21 (F := Ideal) (s : EReal) (ix2 p q) = if p.val ≤ q.val then ((-s * ((p.val : ℝ) + 128 - q.val) : ℝ) : EReal) else ⊥ := by
  pointwise [k0_pay21, k0_pay20]
  rw [sub_real, mask_bot, sel_le, c128, ← EReal.coe_zero, ← EReal.coe_sub, ← EReal.coe_add, ← EReal.coe_mul, zero_sub]
  congr 3; ring
theorem pay19_at (s : ℝ) (p q : Fin 128) : k0_pay19 (F := Ideal) (k0_pay16 (s : EReal)) (ix2 p q) = if q.val ≤ p.val then ((-s * ((p.val : ℝ) - q.val) : ℝ) : EReal) else ⊥ := pay22_at s p q
theorem pay18_at (s : ℝ) (p q : Fin 128) : k0_pay18 (F := Ideal) (k0_pay17 (s : EReal)) (ix2 p q) = if p.val ≤ q.val then ((-s * ((p.val : ℝ) + 128 - q.val) : ℝ) : EReal) else ⊥ := pay21_at s p q

/-- The bias, at its index. -/
def Gb (sl : Fin 2 → ℝ) : S256x256.Idx → EReal := fun y => bl 0 sl (y 0) (y 1)
theorem biasL_at (sl : Fin 2 → ℝ) (s0 s1 : Elt Ideal .f32) (h0 : s0 = (sl 0 : EReal)) (h1 : s1 = (sl 1 : EReal)) (a b : Fin 256) :
    View.canon (biasL s0 s1) (ix2 a b) = bl 0 sl a b := by
  subst h0 h1
  refine View.canon_apply_of_pieces (Val := Elt Ideal) (e := .f32) (Gb sl) _ (fun p hp => ?_) (ix2 a b) ?_
  · simp only [biasL, List.mem_cons, List.not_mem_nil, or_false] at hp
    rcases hp with rfl | rfl | rfl | rfl
    · intro y
      obtain ⟨p, q, rfl⟩ : ∃ (q x : Fin 128), y = ix2 q x := ⟨_, _, eq_ix2 y⟩
      have e : (Rect.unit (s := S256x256) ![128, 128] ![128, 128] inb_S256x256_S128x128_128_128).emb (ix2 p q) = ix2 (⟨128 + p.val, by omega⟩ : Fin 256) (⟨128 + q.val, by omega⟩ : Fin 256) :=
        ext2 _ _ _ (by show 128 + 1 * p.val = 128 + p.val; omega) (by show 128 + 1 * q.val = 128 + q.val; omega)
      show k0_pay22 (F := Ideal) (sl 1 : EReal) (ix2 p q) = Gb sl ((Rect.unit (s := S256x256) ![128, 128] ![128, 128] inb_S256x256_S128x128_128_128).emb (ix2 p q))
      rw [e, pay22_at]
      show _ = bl 0 sl (⟨128 + p.val, _⟩ : Fin 256) (⟨128 + q.val, _⟩ : Fin 256)
      have e1 : rowH (⟨128 + p.val, by omega⟩ : Fin 256) = 1 := Fin.ext (by show (128 + p.val) / 128 = 1; omega)
      have e2 : (rowQ (⟨128 + p.val, by omega⟩ : Fin 256)).val = p.val := by show (128 + p.val) % 128 = p.val; omega
      unfold bl; rw [e1, e2]
      refine if_congr ?_ ?_ rfl
      · constructor
        · intro h; constructor <;> (dsimp only; omega)
        · rintro ⟨h, h'⟩; dsimp only at h h'; omega
      · refine congrArg (fun z : ℝ => (z : EReal)) ?_
        dsimp only
        push_cast; ring
    · intro y
      obtain ⟨p, q, rfl⟩ : ∃ (q x : Fin 128), y = ix2 q x := ⟨_, _, eq_ix2 y⟩
      have e : (Rect.unit (s := S256x256) ![128, 0] ![128, 128] inb_S256x256_S128x128_128_0).emb (ix2 p q) = ix2 (⟨128 + p.val, by omega⟩ : Fin 256) (⟨0 + q.val, by omega⟩ : Fin 256) :=
        ext2 _ _ _ (by show 128 + 1 * p.val = 128 + p.val; omega) (by show 0 + 1 * q.val = 0 + q.val; omega)
      show k0_pay21 (F := Ideal) (sl 1 : EReal) (ix2 p q) = Gb sl ((Rect.unit (s := S256x256) ![128, 0] ![128, 128] inb_S256x256_S128x128_128_0).emb (ix2 p q))
      rw [e, pay21_at]
      show _ = bl 0 sl (⟨128 + p.val, _⟩ : Fin 256) (⟨0 + q.val, _⟩ : Fin 256)
      have e1 : rowH (⟨128 + p.val, by omega⟩ : Fin 256) = 1 := Fin.ext (by show (128 + p.val) / 128 = 1; omega)
      have e2 : (rowQ (⟨128 + p.val, by omega⟩ : Fin 256)).val = p.val := by show (128 + p.val) % 128 = p.val; omega
      unfold bl; rw [e1, e2]
      refine if_congr ?_ ?_ rfl
      · constructor
        · intro h; constructor <;> (dsimp only; omega)
        · rintro ⟨h, h'⟩; dsimp only at h h'; omega
      · refine congrArg (fun z : ℝ => (z : EReal)) ?_
        dsimp only
        push_cast; ring
    · intro y
      obtain ⟨p, q, rfl⟩ : ∃ (q x : Fin 128), y = ix2 q x := ⟨_, _, eq_ix2 y⟩
      have e : (Rect.unit (s := S256x256) ![0, 128] ![128, 128] inb_S256x256_S128x128_0_128).emb (ix2 p q) = ix2 (⟨0 + p.val, by omega⟩ : Fin 256) (⟨128 + q.val, by omega⟩ : Fin 256) :=
        ext2 _ _ _ (by show 0 + 1 * p.val = 0 + p.val; omega) (by show 128 + 1 * q.val = 128 + q.val; omega)
      show k0_pay19 (F := Ideal) (k0_pay16 (sl 0 : EReal)) (ix2 p q) = Gb sl ((Rect.unit (s := S256x256) ![0, 128] ![128, 128] inb_S256x256_S128x128_0_128).emb (ix2 p q))
      rw [e, pay19_at]
      show _ = bl 0 sl (⟨0 + p.val, _⟩ : Fin 256) (⟨128 + q.val, _⟩ : Fin 256)
      have e1 : rowH (⟨0 + p.val, by omega⟩ : Fin 256) = 0 := Fin.ext (by show (0 + p.val) / 128 = 0; omega)
      have e2 : (rowQ (⟨0 + p.val, by omega⟩ : Fin 256)).val = p.val := by show (0 + p.val) % 128 = p.val; omega
      unfold bl; rw [e1, e2]
      refine if_congr ?_ ?_ rfl
      · constructor
        · intro h; constructor <;> (dsimp only; omega)
        · rintro ⟨h, h'⟩; dsimp only at h h'; omega
      · refine congrArg (fun z : ℝ => (z : EReal)) ?_
        dsimp only
        push_cast; ring
    · intro y
      obtain ⟨p, q, rfl⟩ : ∃ (q x : Fin 128), y = ix2 q x := ⟨_, _, eq_ix2 y⟩
      have e : (Rect.unit (s := S256x256) ![0, 0] ![128, 128] inb_S256x256_S128x128_0_0).emb (ix2 p q) = ix2 (⟨0 + p.val, by omega⟩ : Fin 256) (⟨0 + q.val, by omega⟩ : Fin 256) :=
        ext2 _ _ _ (by show 0 + 1 * p.val = 0 + p.val; omega) (by show 0 + 1 * q.val = 0 + q.val; omega)
      show k0_pay18 (F := Ideal) (k0_pay17 (sl 0 : EReal)) (ix2 p q) = Gb sl ((Rect.unit (s := S256x256) ![0, 0] ![128, 128] inb_S256x256_S128x128_0_0).emb (ix2 p q))
      rw [e, pay18_at]
      show _ = bl 0 sl (⟨0 + p.val, _⟩ : Fin 256) (⟨0 + q.val, _⟩ : Fin 256)
      have e1 : rowH (⟨0 + p.val, by omega⟩ : Fin 256) = 0 := Fin.ext (by show (0 + p.val) / 128 = 0; omega)
      have e2 : (rowQ (⟨0 + p.val, by omega⟩ : Fin 256)).val = p.val := by show (0 + p.val) % 128 = p.val; omega
      unfold bl; rw [e1, e2]
      refine if_congr ?_ ?_ rfl
      · constructor
        · intro h; constructor <;> (dsimp only; omega)
        · rintro ⟨h, h'⟩; dsimp only at h h'; omega
      · refine congrArg (fun z : ℝ => (z : EReal)) ?_
        dsimp only
        push_cast; ring
  · have ma : ∀ (o1 o2 : ℕ) (hi : ∀ i, (![o1, o2] : Fin 2 → ℕ) i + (![128, 128] : Fin 2 → ℕ) i ≤ S256x256.size i) (h1 : o1 ≤ a.val) (h2 : a.val < o1 + 128) (h3 : o2 ≤ b.val) (h4 : b.val < o2 + 128),
        (ix2 a b : S256x256.Idx) ∈ (Rect.unit (s := S256x256) ![o1, o2] ![128, 128] hi).set := by
      intro o1 o2 hi h1 h2 h3 h4
      have e : (Rect.unit (s := S256x256) ![o1, o2] ![128, 128] hi).toLoadRect.idx (ix2 (⟨a.val - o1, by omega⟩ : Fin 128) (⟨b.val - o2, by omega⟩ : Fin 128)) = ix2 a b :=
        ext2 _ _ _ (by show o1 + 1 * (a.val - o1) = a.val; omega) (by show o2 + 1 * (b.val - o2) = b.val; omega)
      rw [← e]; exact LoadRect.idx_mem _ _
    by_cases ha : a.val < 128 <;> by_cases hb : b.val < 128
    · exact ⟨_, List.mem_of_getElem? (i := 3) rfl, ma 0 0 inb_S256x256_S128x128_0_0 (by omega) (by omega) (by omega) (by omega)⟩
    · exact ⟨_, List.mem_of_getElem? (i := 2) rfl, ma 0 128 inb_S256x256_S128x128_0_128 (by omega) (by omega) (by omega) (by omega)⟩
    · exact ⟨_, List.mem_of_getElem? (i := 1) rfl, ma 128 0 inb_S256x256_S128x128_128_0 (by omega) (by omega) (by omega) (by omega)⟩
    · exact ⟨_, List.mem_of_getElem? (i := 0) rfl, ma 128 128 inb_S256x256_S128x128_128_128 (by omega) (by omega) (by omega) (by omega)⟩

end Cert.KernelIdeal.Value
-- ==== Proof.Loads.lean ====
module
public import proofs.«01_k».proof.Proof.Gen.KernelIdeal.Value
public import proofs.«01_k».proof.Proof.Lists
public import Idealize.ShloMosaic.Lib.Pipeline.CanonAppend
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

theorem tau_one {s : ℕ} (h : s < 2048) : tau 1 s = s := by unfold tau; omega
theorem tau_four {s : ℕ} : tau 4 s = (s % 512) * 4 + s / 512 := rfl
theorem tau_sixteen {s : ℕ} : tau 16 s = (s % 128) * 16 + s / 128 := rfl
theorem pay6_at (A : Vec Ideal S1x2048x128 .f32) (k : Fin 2048) (x : Fin 128) : k0_pay6 (F := Ideal) A (ix2 k x) = A (ix3 0 k x) := by
  pointwise [k0_pay6]
theorem pay9_at (A : Vec Ideal S1x2048x128 .f32) (k : Fin 2048) (x : Fin 128) : k0_pay9 (F := Ideal) A (ix2 k x) = A (ix3 0 k x) := by
  pointwise [k0_pay9]
theorem pay13_at (A : Vec Ideal S1x2048x128 .f32) (k : Fin 2048) (x : Fin 128) : k0_pay13 (F := Ideal) A (ix2 k x) = A (ix3 0 k x) := by
  pointwise [k0_pay13]
theorem pay205_at (A : Vec Ideal S2048x128 .f32) (k : Fin 2048) (x : Fin 128) : k0_pay205 (F := Ideal) A (ix2 k x) = A (ix2 k x) := by
  pointwise [k0_pay205]
theorem pay206_at (A : Vec Ideal S2048x128 .f32) (k : Fin 2048) (x : Fin 128) : k0_pay206 (F := Ideal) A (ix3 0 k x) = A (ix2 k x) := by
  pointwise [k0_pay206]
/-- A value at a scratch index: the class row's time, and the key rows' shifted by the pad. -/
def Lq (r : ℕ) (f : ℕ → Fin 128 → ℝ) : S2048x128.Idx → EReal := fun y => (f (tau r (y 0).val) (y 1) : EReal)
def Lk (r : ℕ) (f : ℕ → Fin 128 → ℝ) : S2176x128.Idx → EReal := fun y => (f (tau r ((y 0).val - 128)) (y 1) : EReal)
def Lt (g : ℕ → Fin 128 → ℝ) : S2048x128.Idx → EReal := fun y => (g (y 0).val (y 1) : EReal)

theorem rdW6_at (L : PL S2048x128 .f32) (s : Fin 2048) (x : Fin 128) : rdW6 L (ix2 s x) = View.canon L (ix2 s x) := by
  rw [rdW6, View.readCov_eq_canon']
  refine congrArg _ (ext2 _ _ _ ?_ ?_)
  · show 0 + 1 * s.val = s.val; omega
  · show 0 + 1 * x.val = x.val; omega

theorem rdW7_at (L : PL S2048x128 .f32) (s : Fin 2048) (x : Fin 128) : rdW7 L (ix2 s x) = View.canon L (ix2 s x) := by
  rw [rdW7, View.readCov_eq_canon']
  refine congrArg _ (ext2 _ _ _ ?_ ?_)
  · show 0 + 1 * s.val = s.val; omega
  · show 0 + 1 * x.val = x.val; omega

theorem rdW8_at (L : PL S2048x128 .f32) (s : Fin 2048) (x : Fin 128) : rdW8 L (ix2 s x) = View.canon L (ix2 s x) := by
  rw [rdW8, View.readCov_eq_canon']
  refine congrArg _ (ext2 _ _ _ ?_ ?_)
  · show 0 + 1 * s.val = s.val; omega
  · show 0 + 1 * x.val = x.val; omega

theorem rdW11_at (L : PL S2048x128 .f32) (s : Fin 2048) (x : Fin 128) : rdW11 L (ix2 s x) = View.canon L (ix2 s x) := by
  rw [rdW11, View.readCov_eq_canon']
  refine congrArg _ (ext2 _ _ _ ?_ ?_)
  · show 0 + 1 * s.val = s.val; omega
  · show 0 + 1 * x.val = x.val; omega

section
variable (x : Vec Ideal S1x2048x128 .f32) (f : ℕ → Fin 128 → ℝ) (hx : ∀ (t : Fin 2048) (d : Fin 128), x (ix3 0 t d) = (f t.val d : EReal))
include hx

theorem ldQA_at (s : Fin 2048) (d : Fin 128) : View.canon (ldQA x) (ix2 s d) = (f (tau 1 s.val) d : EReal) := by
  refine View.canon_apply_of_pieces (Val := Elt Ideal) (e := .bf16) (Lq 1 f) _ (fun p hp => ?_) (ix2 s d) ?_
  · simp only [ldQA, List.mem_cons, List.not_mem_nil, or_false] at hp
    subst hp
    intro y
    obtain ⟨k, d, rfl⟩ : ∃ (q : Fin 2048) (x : Fin 128), y = ix2 q x := ⟨_, _, eq_ix2 y⟩
    have e : (Rect.unit (s := S2048x128) ![0, 0] ![2048, 128] inb_S2048x128_S2048x128_0_0).emb (ix2 k d) = ix2 k d :=
      ext2 _ _ _ (by show 0 + 1 * k.val = k.val; omega) (by show 0 + 1 * d.val = d.val; omega)
    refine (pay6_at x k d).trans ((hx k d).trans ?_)
    show _ = Lq 1 f ((Rect.unit (s := S2048x128) ![0, 0] ![2048, 128] inb_S2048x128_S2048x128_0_0).emb (ix2 k d))
    rw [e]
    show _ = (f (tau 1 k.val) d : EReal)
    rw [tau_one k.isLt]
  · refine ⟨_, List.mem_of_getElem? (i := 0) rfl, ?_⟩
    have e : (Rect.unit (s := S2048x128) ![0, 0] ![2048, 128] inb_S2048x128_S2048x128_0_0).toLoadRect.idx (ix2 s d) = ix2 s d :=
      ext2 _ _ _ (by show 0 + 1 * s.val = s.val; omega) (by show 0 + 1 * d.val = d.val; omega)
    show _ ∈ (Rect.unit (s := S2048x128) ![0, 0] ![2048, 128] inb_S2048x128_S2048x128_0_0).set
    rw [← e]; exact LoadRect.idx_mem _ _

theorem ldLA_at (s : Fin 2048) (d : Fin 128) : View.canon (ldLA x) (ix2 s d) = (f (tau 1 s.val) d : EReal) := by
  refine View.canon_apply_of_pieces (Val := Elt Ideal) (e := .f32) (Lq 1 f) _ (fun p hp => ?_) (ix2 s d) ?_
  · simp only [ldLA, List.mem_cons, List.not_mem_nil, or_false] at hp
    subst hp
    intro y
    obtain ⟨k, d, rfl⟩ : ∃ (q : Fin 2048) (x : Fin 128), y = ix2 q x := ⟨_, _, eq_ix2 y⟩
    have e : (Rect.unit (s := S2048x128) ![0, 0] ![2048, 128] inb_S2048x128_S2048x128_0_0).emb (ix2 k d) = ix2 k d :=
      ext2 _ _ _ (by show 0 + 1 * k.val = k.val; omega) (by show 0 + 1 * d.val = d.val; omega)
    refine (pay13_at x k d).trans ((hx k d).trans ?_)
    show _ = Lq 1 f ((Rect.unit (s := S2048x128) ![0, 0] ![2048, 128] inb_S2048x128_S2048x128_0_0).emb (ix2 k d))
    rw [e]
    show _ = (f (tau 1 k.val) d : EReal)
    rw [tau_one k.isLt]
  · refine ⟨_, List.mem_of_getElem? (i := 0) rfl, ?_⟩
    have e : (Rect.unit (s := S2048x128) ![0, 0] ![2048, 128] inb_S2048x128_S2048x128_0_0).toLoadRect.idx (ix2 s d) = ix2 s d :=
      ext2 _ _ _ (by show 0 + 1 * s.val = s.val; omega) (by show 0 + 1 * d.val = d.val; omega)
    show _ ∈ (Rect.unit (s := S2048x128) ![0, 0] ![2048, 128] inb_S2048x128_S2048x128_0_0).set
    rw [← e]; exact LoadRect.idx_mem _ _

theorem ldKA_at (s : Fin 2048) (d : Fin 128) : View.canon (ldKA x) (ix2 (kI s) d) = (f (tau 1 s.val) d : EReal) := by
  refine (View.canon_append_of_pieces (Val := Elt Ideal) (e := .bf16) (Lk 1 f) [⟨Rect.unit ![0, 0] ![128, 128] inb_S2176x128_S128x128_0_0, k0_pay7 (F := Ideal)⟩] [⟨Rect.unit ![128, 0] ![2048, 128] inb_S2176x128_S2048x128_128_0, k0_pay9 x⟩] (fun p hp => ?_) (ix2 (kI s) d) ?_).trans ?_
  · simp only [List.mem_cons, List.not_mem_nil, or_false] at hp
    subst hp
    intro y
    obtain ⟨k, d, rfl⟩ : ∃ (q : Fin 2048) (x : Fin 128), y = ix2 q x := ⟨_, _, eq_ix2 y⟩
    have e : (Rect.unit (s := S2176x128) ![128, 0] ![2048, 128] inb_S2176x128_S2048x128_128_0).emb (ix2 k d) = ix2 (kI k) d :=
      ext2 _ _ _ (by show 128 + 1 * k.val = 128 + k.val; omega) (by show 0 + 1 * d.val = d.val; omega)
    refine (pay9_at x k d).trans ((hx k d).trans ?_)
    show _ = Lk 1 f ((Rect.unit (s := S2176x128) ![128, 0] ![2048, 128] inb_S2176x128_S2048x128_128_0).emb (ix2 k d))
    rw [e]
    show _ = (f (tau 1 (128 + k.val - 128)) d : EReal)
    rw [Nat.add_sub_cancel_left, tau_one k.isLt]
  · refine ⟨_, List.mem_of_getElem? (i := 0) rfl, ?_⟩
    have e : (Rect.unit (s := S2176x128) ![128, 0] ![2048, 128] inb_S2176x128_S2048x128_128_0).toLoadRect.idx (ix2 s d) = ix2 (kI s) d :=
      ext2 _ _ _ (by show 128 + 1 * s.val = 128 + s.val; omega) (by show 0 + 1 * d.val = d.val; omega)
    show _ ∈ (Rect.unit (s := S2176x128) ![128, 0] ![2048, 128] inb_S2176x128_S2048x128_128_0).set
    rw [← e]; exact LoadRect.idx_mem _ _
  · show (f (tau 1 (128 + s.val - 128)) d : EReal) = _
    rw [Nat.add_sub_cancel_left]
end

theorem qcB_at (A : Vec Ideal S1x512x128 .f32) (j : Fin 512) (d : Fin 128) : shapeCast S512x128 (truncf (F := Ideal) .bf16 (shapeCast S512x128 A shapeCasts_S1x512x128_S512x128) bitsLt_bf16_f32) shapeCasts_S512x128_S512x128 (ix2 j d) = A (ix3 0 j d) := by
  pointwise []
theorem lcB_at (A : Vec Ideal S1x512x128 .f32) (j : Fin 512) (d : Fin 128) : shapeCast S512x128 (shapeCast S512x128 A shapeCasts_S1x512x128_S512x128) shapeCasts_S512x128_S512x128 (ix2 j d) = A (ix3 0 j d) := by
  pointwise []
theorem scB_at (A : Vec Ideal S512x128 .f32) (j : Fin 512) (d : Fin 128) : shapeCast S512x128 A shapeCasts_S512x128_S512x128 (ix2 j d) = A (ix2 j d) := by
  pointwise []
theorem memB {u : ℕ} (h : u < 4) (s : Fin 2048) (x : Fin 128) (hs : s.val / 512 = u) :
    (ix2 s x : S2048x128.Idx) ∈ (Rect.unit (s := S2048x128) ![512 * u, 0] ![512, 128] (inbB h)).set := by
  have e : (Rect.unit (s := S2048x128) ![512 * u, 0] ![512, 128] (inbB h)).toLoadRect.idx (ix2 (⟨s.val % 512, by omega⟩ : Fin 512) x) = ix2 s x :=
    ext2 _ _ _ (by show 512 * u + 1 * (s.val % 512) = s.val; omega) (by show 0 + 1 * x.val = x.val; omega)
  rw [← e]; exact LoadRect.idx_mem _ _
theorem memKB {u : ℕ} (h : u < 4) (s : Fin 2048) (x : Fin 128) (hs : s.val / 512 = u) :
    (ix2 (kI s) x : S2176x128.Idx) ∈ (Rect.unit (s := S2176x128) ![512 * u + 128, 0] ![512, 128] (inbkB h)).set := by
  have e : (Rect.unit (s := S2176x128) ![512 * u + 128, 0] ![512, 128] (inbkB h)).toLoadRect.idx (ix2 (⟨s.val % 512, by omega⟩ : Fin 512) x) = ix2 (kI s) x :=
    ext2 _ _ _ (by show 512 * u + 128 + 1 * (s.val % 512) = 128 + s.val; omega) (by show 0 + 1 * x.val = x.val; omega)
  rw [← e]; exact LoadRect.idx_mem _ _
theorem memWB {u : ℕ} (h : u < 4) (s : Fin 2048) (x : Fin 128) (hs : s.val % 4 = u) :
    (ix2 s x : S2048x128.Idx) ∈ (wcB u h).set := by
  have e : (wcB u h).toLoadRect.idx (ix2 (⟨s.val / 4, by omega⟩ : Fin 512) x) = ix2 s x :=
    ext2 _ _ _ (by show u + 4 * (s.val / 4) = s.val; omega) (by show 0 + 1 * x.val = x.val; omega)
  rw [← e]; exact LoadRect.idx_mem _ _
section
variable (w : Memref sig .tc .vmem S1x2048x128 .f32) (hw : w.IsWhole) (x : Vec Ideal S1x2048x128 .f32) (f : ℕ → Fin 128 → ℝ) (hx : ∀ (t : Fin 2048) (d : Fin 128), x (ix3 0 t d) = (f t.val d : EReal))
include hx
theorem rxvB {u : ℕ} (h : u < 4) (j : Fin 512) (d : Fin 128) (s : ℕ) (hs : s = 512 * u + j.val) : rxB w hw x u h (ix3 0 j d) = (f (tau 4 s) d : EReal) := by
  rw [rxB_at, hx]
  subst hs
  rw [tau_four, show (512 * u + j.val) % 512 * 4 + (512 * u + j.val) / 512 = u + 4 * j.val by omega]

theorem qwB_at {u : ℕ} (h : u < 4) (y : (qwB w hw x u h).1.shape.Idx) : (qwB w hw x u h).2 y = Lq 4 f ((qwB w hw x u h).1.emb y) := by
  obtain ⟨k, d, rfl⟩ : ∃ (q : Fin 512) (x : Fin 128), y = ix2 q x := ⟨_, _, eq_ix2 y⟩
  rw [show (qwB w hw x u h).1.emb (ix2 k d) = ix2 (⟨512 * u + k.val, by omega⟩ : Fin 2048) d from
    ext2 _ _ _ (by show 512 * u + 1 * k.val = 512 * u + k.val; omega) (by show 0 + 1 * d.val = d.val; omega)]
  exact (qcB_at (rxB w hw x u h) k d).trans (rxvB w hw x f hx h k d _ rfl)

theorem lwB_at {u : ℕ} (h : u < 4) (y : (lwB w hw x u h).1.shape.Idx) : (lwB w hw x u h).2 y = Lq 4 f ((lwB w hw x u h).1.emb y) := by
  obtain ⟨k, d, rfl⟩ : ∃ (q : Fin 512) (x : Fin 128), y = ix2 q x := ⟨_, _, eq_ix2 y⟩
  rw [show (lwB w hw x u h).1.emb (ix2 k d) = ix2 (⟨512 * u + k.val, by omega⟩ : Fin 2048) d from
    ext2 _ _ _ (by show 512 * u + 1 * k.val = 512 * u + k.val; omega) (by show 0 + 1 * d.val = d.val; omega)]
  exact (lcB_at (rxB w hw x u h) k d).trans (rxvB w hw x f hx h k d _ rfl)

theorem kwB_at {u : ℕ} (h : u < 4) (y : (kwB w hw x u h).1.shape.Idx) : (kwB w hw x u h).2 y = Lk 4 f ((kwB w hw x u h).1.emb y) := by
  obtain ⟨k, d, rfl⟩ : ∃ (q : Fin 512) (x : Fin 128), y = ix2 q x := ⟨_, _, eq_ix2 y⟩
  rw [show (kwB w hw x u h).1.emb (ix2 k d) = ix2 (⟨512 * u + 128 + k.val, by omega⟩ : Fin 2176) d from
    ext2 _ _ _ (by show 512 * u + 128 + 1 * k.val = 512 * u + 128 + k.val; omega) (by show 0 + 1 * d.val = d.val; omega)]
  exact (qcB_at (rxB w hw x u h) k d).trans (rxvB w hw x f hx h k d _ (by show 512 * u + 128 + k.val - 128 = 512 * u + k.val; omega))

theorem ldQB_at (s : Fin 2048) (d : Fin 128) : View.canon (ldQB w hw x) (ix2 s d) = (f (tau 4 s.val) d : EReal) := by
  refine View.canon_apply_of_pieces (Val := Elt Ideal) (e := .bf16) (Lq 4 f) _ (fun p hp => ?_) (ix2 s d) ?_
  · simp only [ldQB, List.mem_cons, List.not_mem_nil, or_false] at hp
    rcases hp with rfl | rfl | rfl | rfl <;> exact qwB_at w hw x f hx _
  · rcases (by omega : s.val / 512 = 0 ∨ s.val / 512 = 1 ∨ s.val / 512 = 2 ∨ s.val / 512 = 3) with h | h | h | h
    · exact ⟨qwB w hw x 0 (by decide), List.mem_of_getElem? (i := 3) rfl, memB (by decide) s d h⟩
    · exact ⟨qwB w hw x 1 (by decide), List.mem_of_getElem? (i := 2) rfl, memB (by decide) s d h⟩
    · exact ⟨qwB w hw x 2 (by decide), List.mem_of_getElem? (i := 1) rfl, memB (by decide) s d h⟩
    · exact ⟨qwB w hw x 3 (by decide), List.mem_of_getElem? (i := 0) rfl, memB (by decide) s d h⟩

theorem ldLB_at (s : Fin 2048) (d : Fin 128) : View.canon (ldLB w hw x) (ix2 s d) = (f (tau 4 s.val) d : EReal) := by
  refine View.canon_apply_of_pieces (Val := Elt Ideal) (e := .f32) (Lq 4 f) _ (fun p hp => ?_) (ix2 s d) ?_
  · simp only [ldLB, List.mem_cons, List.not_mem_nil, or_false] at hp
    rcases hp with rfl | rfl | rfl | rfl <;> exact lwB_at w hw x f hx _
  · rcases (by omega : s.val / 512 = 0 ∨ s.val / 512 = 1 ∨ s.val / 512 = 2 ∨ s.val / 512 = 3) with h | h | h | h
    · exact ⟨lwB w hw x 0 (by decide), List.mem_of_getElem? (i := 3) rfl, memB (by decide) s d h⟩
    · exact ⟨lwB w hw x 1 (by decide), List.mem_of_getElem? (i := 2) rfl, memB (by decide) s d h⟩
    · exact ⟨lwB w hw x 2 (by decide), List.mem_of_getElem? (i := 1) rfl, memB (by decide) s d h⟩
    · exact ⟨lwB w hw x 3 (by decide), List.mem_of_getElem? (i := 0) rfl, memB (by decide) s d h⟩

theorem ldKB_at (s : Fin 2048) (d : Fin 128) : View.canon (ldKB w hw x) (ix2 (kI s) d) = (f (tau 4 s.val) d : EReal) := by
  refine (View.canon_append_of_pieces (Val := Elt Ideal) (e := .bf16) (Lk 4 f) [⟨Rect.unit ![0, 0] ![128, 128] inb_S2176x128_S128x128_0_0, k0_pay7 (F := Ideal)⟩] [kwB w hw x 3 (by decide), kwB w hw x 2 (by decide), kwB w hw x 1 (by decide), kwB w hw x 0 (by decide)] (fun p hp => ?_) (ix2 (kI s) d) ?_).trans ?_
  · simp only [List.mem_cons, List.not_mem_nil, or_false] at hp
    rcases hp with rfl | rfl | rfl | rfl <;> exact kwB_at w hw x f hx _
  · rcases (by omega : s.val / 512 = 0 ∨ s.val / 512 = 1 ∨ s.val / 512 = 2 ∨ s.val / 512 = 3) with h | h | h | h
    · exact ⟨kwB w hw x 0 (by decide), List.mem_of_getElem? (i := 3) rfl, memKB (by decide) s d h⟩
    · exact ⟨kwB w hw x 1 (by decide), List.mem_of_getElem? (i := 2) rfl, memKB (by decide) s d h⟩
    · exact ⟨kwB w hw x 2 (by decide), List.mem_of_getElem? (i := 1) rfl, memKB (by decide) s d h⟩
    · exact ⟨kwB w hw x 3 (by decide), List.mem_of_getElem? (i := 0) rfl, memKB (by decide) s d h⟩
  · show (f (tau 4 (128 + s.val - 128)) d : EReal) = _
    rw [Nat.add_sub_cancel_left]
end

theorem swB6_at (L : PL S2048x128 .f32) (g : ℕ → Fin 128 → ℝ) (hL : ∀ (s : Fin 2048) (d : Fin 128), View.canon L (ix2 s d) = (g (tau 4 s.val) d : EReal))
    {u : ℕ} (h : u < 4) (y : (swB6 L u h).1.shape.Idx) : (swB6 L u h).2 y = Lt g ((swB6 L u h).1.emb y) := by
  obtain ⟨k, d, rfl⟩ : ∃ (q : Fin 512) (x : Fin 128), y = ix2 q x := ⟨_, _, eq_ix2 y⟩
  rw [show (swB6 L u h).1.emb (ix2 k d) = ix2 (⟨u + 4 * k.val, by omega⟩ : Fin 2048) d from
    ext2 _ _ _ rfl (by show 0 + 1 * d.val = d.val; omega)]
  refine (scB_at ((View.whole cc0_scratch6).readCov L (Rect.unit (s := S2048x128) ![512 * u, 0] ![512, 128] (inbB h)).toLoadRect) k d).trans ?_
  rw [View.readCov_eq_canon']
  refine (congrArg _ (ext2 _ (⟨512 * u + k.val, by omega⟩ : Fin 2048) d ?_ ?_)).trans ((hL _ d).trans ?_)
  · show 512 * u + 1 * k.val = 512 * u + k.val; omega
  · show 0 + 1 * d.val = d.val; omega
  · show (g (tau 4 (512 * u + k.val)) d : EReal) = (g (u + 4 * k.val) d : EReal)
    rw [tau_four, show (512 * u + k.val) % 512 * 4 + (512 * u + k.val) / 512 = u + 4 * k.val by omega]
/-- Class rows, put back at their times, over any earlier writes. -/
theorem stB6_at (L R : PL S2048x128 .f32) (g : ℕ → Fin 128 → ℝ) (hL : ∀ (s : Fin 2048) (d : Fin 128), View.canon L (ix2 s d) = (g (tau 4 s.val) d : EReal))
    (s : Fin 2048) (d : Fin 128) : View.canon (stB6 L ++ R) (ix2 s d) = (g s.val d : EReal) := by
  refine View.canon_append_of_pieces (Val := Elt Ideal) (e := .f32) (Lt g) R _ (fun p hp => ?_) (ix2 s d) ?_
  · simp only [stB6, List.mem_cons, List.not_mem_nil, or_false] at hp
    rcases hp with rfl | rfl | rfl | rfl <;> exact swB6_at L g hL _
  · rcases (by omega : s.val % 4 = 0 ∨ s.val % 4 = 1 ∨ s.val % 4 = 2 ∨ s.val % 4 = 3) with h | h | h | h
    · exact ⟨swB6 L 0 (by decide), List.mem_of_getElem? (i := 3) rfl, memWB (by decide) s d h⟩
    · exact ⟨swB6 L 1 (by decide), List.mem_of_getElem? (i := 2) rfl, memWB (by decide) s d h⟩
    · exact ⟨swB6 L 2 (by decide), List.mem_of_getElem? (i := 1) rfl, memWB (by decide) s d h⟩
    · exact ⟨swB6 L 3 (by decide), List.mem_of_getElem? (i := 0) rfl, memWB (by decide) s d h⟩

theorem swB7_at (L : PL S2048x128 .f32) (g : ℕ → Fin 128 → ℝ) (hL : ∀ (s : Fin 2048) (d : Fin 128), View.canon L (ix2 s d) = (g (tau 4 s.val) d : EReal))
    {u : ℕ} (h : u < 4) (y : (swB7 L u h).1.shape.Idx) : (swB7 L u h).2 y = Lt g ((swB7 L u h).1.emb y) := by
  obtain ⟨k, d, rfl⟩ : ∃ (q : Fin 512) (x : Fin 128), y = ix2 q x := ⟨_, _, eq_ix2 y⟩
  rw [show (swB7 L u h).1.emb (ix2 k d) = ix2 (⟨u + 4 * k.val, by omega⟩ : Fin 2048) d from
    ext2 _ _ _ rfl (by show 0 + 1 * d.val = d.val; omega)]
  refine (scB_at ((View.whole cc0_scratch7).readCov L (Rect.unit (s := S2048x128) ![512 * u, 0] ![512, 128] (inbB h)).toLoadRect) k d).trans ?_
  rw [View.readCov_eq_canon']
  refine (congrArg _ (ext2 _ (⟨512 * u + k.val, by omega⟩ : Fin 2048) d ?_ ?_)).trans ((hL _ d).trans ?_)
  · show 512 * u + 1 * k.val = 512 * u + k.val; omega
  · show 0 + 1 * d.val = d.val; omega
  · show (g (tau 4 (512 * u + k.val)) d : EReal) = (g (u + 4 * k.val) d : EReal)
    rw [tau_four, show (512 * u + k.val) % 512 * 4 + (512 * u + k.val) / 512 = u + 4 * k.val by omega]
/-- Class rows, put back at their times, over any earlier writes. -/
theorem stB7_at (L R : PL S2048x128 .f32) (g : ℕ → Fin 128 → ℝ) (hL : ∀ (s : Fin 2048) (d : Fin 128), View.canon L (ix2 s d) = (g (tau 4 s.val) d : EReal))
    (s : Fin 2048) (d : Fin 128) : View.canon (stB7 L ++ R) (ix2 s d) = (g s.val d : EReal) := by
  refine View.canon_append_of_pieces (Val := Elt Ideal) (e := .f32) (Lt g) R _ (fun p hp => ?_) (ix2 s d) ?_
  · simp only [stB7, List.mem_cons, List.not_mem_nil, or_false] at hp
    rcases hp with rfl | rfl | rfl | rfl <;> exact swB7_at L g hL _
  · rcases (by omega : s.val % 4 = 0 ∨ s.val % 4 = 1 ∨ s.val % 4 = 2 ∨ s.val % 4 = 3) with h | h | h | h
    · exact ⟨swB7 L 0 (by decide), List.mem_of_getElem? (i := 3) rfl, memWB (by decide) s d h⟩
    · exact ⟨swB7 L 1 (by decide), List.mem_of_getElem? (i := 2) rfl, memWB (by decide) s d h⟩
    · exact ⟨swB7 L 2 (by decide), List.mem_of_getElem? (i := 1) rfl, memWB (by decide) s d h⟩
    · exact ⟨swB7 L 3 (by decide), List.mem_of_getElem? (i := 0) rfl, memWB (by decide) s d h⟩

theorem swB8_at (L : PL S2048x128 .f32) (g : ℕ → Fin 128 → ℝ) (hL : ∀ (s : Fin 2048) (d : Fin 128), View.canon L (ix2 s d) = (g (tau 4 s.val) d : EReal))
    {u : ℕ} (h : u < 4) (y : (swB8 L u h).1.shape.Idx) : (swB8 L u h).2 y = Lt g ((swB8 L u h).1.emb y) := by
  obtain ⟨k, d, rfl⟩ : ∃ (q : Fin 512) (x : Fin 128), y = ix2 q x := ⟨_, _, eq_ix2 y⟩
  rw [show (swB8 L u h).1.emb (ix2 k d) = ix2 (⟨u + 4 * k.val, by omega⟩ : Fin 2048) d from
    ext2 _ _ _ rfl (by show 0 + 1 * d.val = d.val; omega)]
  refine (scB_at ((View.whole cc0_scratch8).readCov L (Rect.unit (s := S2048x128) ![512 * u, 0] ![512, 128] (inbB h)).toLoadRect) k d).trans ?_
  rw [View.readCov_eq_canon']
  refine (congrArg _ (ext2 _ (⟨512 * u + k.val, by omega⟩ : Fin 2048) d ?_ ?_)).trans ((hL _ d).trans ?_)
  · show 512 * u + 1 * k.val = 512 * u + k.val; omega
  · show 0 + 1 * d.val = d.val; omega
  · show (g (tau 4 (512 * u + k.val)) d : EReal) = (g (u + 4 * k.val) d : EReal)
    rw [tau_four, show (512 * u + k.val) % 512 * 4 + (512 * u + k.val) / 512 = u + 4 * k.val by omega]
/-- Class rows, put back at their times, over any earlier writes. -/
theorem stB8_at (L R : PL S2048x128 .f32) (g : ℕ → Fin 128 → ℝ) (hL : ∀ (s : Fin 2048) (d : Fin 128), View.canon L (ix2 s d) = (g (tau 4 s.val) d : EReal))
    (s : Fin 2048) (d : Fin 128) : View.canon (stB8 L ++ R) (ix2 s d) = (g s.val d : EReal) := by
  refine View.canon_append_of_pieces (Val := Elt Ideal) (e := .f32) (Lt g) R _ (fun p hp => ?_) (ix2 s d) ?_
  · simp only [stB8, List.mem_cons, List.not_mem_nil, or_false] at hp
    rcases hp with rfl | rfl | rfl | rfl <;> exact swB8_at L g hL _
  · rcases (by omega : s.val % 4 = 0 ∨ s.val % 4 = 1 ∨ s.val % 4 = 2 ∨ s.val % 4 = 3) with h | h | h | h
    · exact ⟨swB8 L 0 (by decide), List.mem_of_getElem? (i := 3) rfl, memWB (by decide) s d h⟩
    · exact ⟨swB8 L 1 (by decide), List.mem_of_getElem? (i := 2) rfl, memWB (by decide) s d h⟩
    · exact ⟨swB8 L 2 (by decide), List.mem_of_getElem? (i := 1) rfl, memWB (by decide) s d h⟩
    · exact ⟨swB8 L 3 (by decide), List.mem_of_getElem? (i := 0) rfl, memWB (by decide) s d h⟩

theorem qcC_at (A : Vec Ideal S1x128x128 .f32) (j : Fin 128) (d : Fin 128) : shapeCast S128x128 (truncf (F := Ideal) .bf16 (shapeCast S128x128 A shapeCasts_S1x128x128_S128x128) bitsLt_bf16_f32) shapeCasts_S128x128_S128x128 (ix2 j d) = A (ix3 0 j d) := by
  pointwise []
theorem lcC_at (A : Vec Ideal S1x128x128 .f32) (j : Fin 128) (d : Fin 128) : shapeCast S128x128 (shapeCast S128x128 A shapeCasts_S1x128x128_S128x128) shapeCasts_S128x128_S128x128 (ix2 j d) = A (ix3 0 j d) := by
  pointwise []
theorem scC_at (A : Vec Ideal S128x128 .f32) (j : Fin 128) (d : Fin 128) : shapeCast S128x128 A shapeCasts_S128x128_S128x128 (ix2 j d) = A (ix2 j d) := by
  pointwise []
theorem memC {u : ℕ} (h : u < 16) (s : Fin 2048) (x : Fin 128) (hs : s.val / 128 = u) :
    (ix2 s x : S2048x128.Idx) ∈ (Rect.unit (s := S2048x128) ![128 * u, 0] ![128, 128] (inbC h)).set := by
  have e : (Rect.unit (s := S2048x128) ![128 * u, 0] ![128, 128] (inbC h)).toLoadRect.idx (ix2 (⟨s.val % 128, by omega⟩ : Fin 128) x) = ix2 s x :=
    ext2 _ _ _ (by show 128 * u + 1 * (s.val % 128) = s.val; omega) (by show 0 + 1 * x.val = x.val; omega)
  rw [← e]; exact LoadRect.idx_mem _ _
theorem memKC {u : ℕ} (h : u < 16) (s : Fin 2048) (x : Fin 128) (hs : s.val / 128 = u) :
    (ix2 (kI s) x : S2176x128.Idx) ∈ (Rect.unit (s := S2176x128) ![128 * u + 128, 0] ![128, 128] (inbkC h)).set := by
  have e : (Rect.unit (s := S2176x128) ![128 * u + 128, 0] ![128, 128] (inbkC h)).toLoadRect.idx (ix2 (⟨s.val % 128, by omega⟩ : Fin 128) x) = ix2 (kI s) x :=
    ext2 _ _ _ (by show 128 * u + 128 + 1 * (s.val % 128) = 128 + s.val; omega) (by show 0 + 1 * x.val = x.val; omega)
  rw [← e]; exact LoadRect.idx_mem _ _
theorem memWC {u : ℕ} (h : u < 16) (s : Fin 2048) (x : Fin 128) (hs : s.val % 16 = u) :
    (ix2 s x : S2048x128.Idx) ∈ (wcC u h).set := by
  have e : (wcC u h).toLoadRect.idx (ix2 (⟨s.val / 16, by omega⟩ : Fin 128) x) = ix2 s x :=
    ext2 _ _ _ (by show u + 16 * (s.val / 16) = s.val; omega) (by show 0 + 1 * x.val = x.val; omega)
  rw [← e]; exact LoadRect.idx_mem _ _
section
variable (w : Memref sig .tc .vmem S1x2048x128 .f32) (hw : w.IsWhole) (x : Vec Ideal S1x2048x128 .f32) (f : ℕ → Fin 128 → ℝ) (hx : ∀ (t : Fin 2048) (d : Fin 128), x (ix3 0 t d) = (f t.val d : EReal))
include hx
theorem rxvC {u : ℕ} (h : u < 16) (j : Fin 128) (d : Fin 128) (s : ℕ) (hs : s = 128 * u + j.val) : rxC w hw x u h (ix3 0 j d) = (f (tau 16 s) d : EReal) := by
  rw [rxC_at, hx]
  subst hs
  rw [tau_sixteen, show (128 * u + j.val) % 128 * 16 + (128 * u + j.val) / 128 = u + 16 * j.val by omega]

theorem qwC_at {u : ℕ} (h : u < 16) (y : (qwC w hw x u h).1.shape.Idx) : (qwC w hw x u h).2 y = Lq 16 f ((qwC w hw x u h).1.emb y) := by
  obtain ⟨k, d, rfl⟩ : ∃ (q : Fin 128) (x : Fin 128), y = ix2 q x := ⟨_, _, eq_ix2 y⟩
  rw [show (qwC w hw x u h).1.emb (ix2 k d) = ix2 (⟨128 * u + k.val, by omega⟩ : Fin 2048) d from
    ext2 _ _ _ (by show 128 * u + 1 * k.val = 128 * u + k.val; omega) (by show 0 + 1 * d.val = d.val; omega)]
  exact (qcC_at (rxC w hw x u h) k d).trans (rxvC w hw x f hx h k d _ rfl)

theorem lwC_at {u : ℕ} (h : u < 16) (y : (lwC w hw x u h).1.shape.Idx) : (lwC w hw x u h).2 y = Lq 16 f ((lwC w hw x u h).1.emb y) := by
  obtain ⟨k, d, rfl⟩ : ∃ (q : Fin 128) (x : Fin 128), y = ix2 q x := ⟨_, _, eq_ix2 y⟩
  rw [show (lwC w hw x u h).1.emb (ix2 k d) = ix2 (⟨128 * u + k.val, by omega⟩ : Fin 2048) d from
    ext2 _ _ _ (by show 128 * u + 1 * k.val = 128 * u + k.val; omega) (by show 0 + 1 * d.val = d.val; omega)]
  exact (lcC_at (rxC w hw x u h) k d).trans (rxvC w hw x f hx h k d _ rfl)

theorem kwC_at {u : ℕ} (h : u < 16) (y : (kwC w hw x u h).1.shape.Idx) : (kwC w hw x u h).2 y = Lk 16 f ((kwC w hw x u h).1.emb y) := by
  obtain ⟨k, d, rfl⟩ : ∃ (q : Fin 128) (x : Fin 128), y = ix2 q x := ⟨_, _, eq_ix2 y⟩
  rw [show (kwC w hw x u h).1.emb (ix2 k d) = ix2 (⟨128 * u + 128 + k.val, by omega⟩ : Fin 2176) d from
    ext2 _ _ _ (by show 128 * u + 128 + 1 * k.val = 128 * u + 128 + k.val; omega) (by show 0 + 1 * d.val = d.val; omega)]
  exact (qcC_at (rxC w hw x u h) k d).trans (rxvC w hw x f hx h k d _ (by show 128 * u + 128 + k.val - 128 = 128 * u + k.val; omega))

theorem ldQC_at (s : Fin 2048) (d : Fin 128) : View.canon (ldQC w hw x) (ix2 s d) = (f (tau 16 s.val) d : EReal) := by
  refine View.canon_apply_of_pieces (Val := Elt Ideal) (e := .bf16) (Lq 16 f) _ (fun p hp => ?_) (ix2 s d) ?_
  · simp only [ldQC, List.mem_cons, List.not_mem_nil, or_false] at hp
    rcases hp with rfl | rfl | rfl | rfl | rfl | rfl | rfl | rfl | rfl | rfl | rfl | rfl | rfl | rfl | rfl | rfl <;> exact qwC_at w hw x f hx _
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨qwC w hw x 0 (by decide), List.mem_of_getElem? (i := 15) rfl, memC (by decide) s d h⟩
    · exact ⟨qwC w hw x 1 (by decide), List.mem_of_getElem? (i := 14) rfl, memC (by decide) s d h⟩
    · exact ⟨qwC w hw x 2 (by decide), List.mem_of_getElem? (i := 13) rfl, memC (by decide) s d h⟩
    · exact ⟨qwC w hw x 3 (by decide), List.mem_of_getElem? (i := 12) rfl, memC (by decide) s d h⟩
    · exact ⟨qwC w hw x 4 (by decide), List.mem_of_getElem? (i := 11) rfl, memC (by decide) s d h⟩
    · exact ⟨qwC w hw x 5 (by decide), List.mem_of_getElem? (i := 10) rfl, memC (by decide) s d h⟩
    · exact ⟨qwC w hw x 6 (by decide), List.mem_of_getElem? (i := 9) rfl, memC (by decide) s d h⟩
    · exact ⟨qwC w hw x 7 (by decide), List.mem_of_getElem? (i := 8) rfl, memC (by decide) s d h⟩
    · exact ⟨qwC w hw x 8 (by decide), List.mem_of_getElem? (i := 7) rfl, memC (by decide) s d h⟩
    · exact ⟨qwC w hw x 9 (by decide), List.mem_of_getElem? (i := 6) rfl, memC (by decide) s d h⟩
    · exact ⟨qwC w hw x 10 (by decide), List.mem_of_getElem? (i := 5) rfl, memC (by decide) s d h⟩
    · exact ⟨qwC w hw x 11 (by decide), List.mem_of_getElem? (i := 4) rfl, memC (by decide) s d h⟩
    · exact ⟨qwC w hw x 12 (by decide), List.mem_of_getElem? (i := 3) rfl, memC (by decide) s d h⟩
    · exact ⟨qwC w hw x 13 (by decide), List.mem_of_getElem? (i := 2) rfl, memC (by decide) s d h⟩
    · exact ⟨qwC w hw x 14 (by decide), List.mem_of_getElem? (i := 1) rfl, memC (by decide) s d h⟩
    · exact ⟨qwC w hw x 15 (by decide), List.mem_of_getElem? (i := 0) rfl, memC (by decide) s d h⟩

theorem ldLC_at (s : Fin 2048) (d : Fin 128) : View.canon (ldLC w hw x) (ix2 s d) = (f (tau 16 s.val) d : EReal) := by
  refine View.canon_apply_of_pieces (Val := Elt Ideal) (e := .f32) (Lq 16 f) _ (fun p hp => ?_) (ix2 s d) ?_
  · simp only [ldLC, List.mem_cons, List.not_mem_nil, or_false] at hp
    rcases hp with rfl | rfl | rfl | rfl | rfl | rfl | rfl | rfl | rfl | rfl | rfl | rfl | rfl | rfl | rfl | rfl <;> exact lwC_at w hw x f hx _
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨lwC w hw x 0 (by decide), List.mem_of_getElem? (i := 15) rfl, memC (by decide) s d h⟩
    · exact ⟨lwC w hw x 1 (by decide), List.mem_of_getElem? (i := 14) rfl, memC (by decide) s d h⟩
    · exact ⟨lwC w hw x 2 (by decide), List.mem_of_getElem? (i := 13) rfl, memC (by decide) s d h⟩
    · exact ⟨lwC w hw x 3 (by decide), List.mem_of_getElem? (i := 12) rfl, memC (by decide) s d h⟩
    · exact ⟨lwC w hw x 4 (by decide), List.mem_of_getElem? (i := 11) rfl, memC (by decide) s d h⟩
    · exact ⟨lwC w hw x 5 (by decide), List.mem_of_getElem? (i := 10) rfl, memC (by decide) s d h⟩
    · exact ⟨lwC w hw x 6 (by decide), List.mem_of_getElem? (i := 9) rfl, memC (by decide) s d h⟩
    · exact ⟨lwC w hw x 7 (by decide), List.mem_of_getElem? (i := 8) rfl, memC (by decide) s d h⟩
    · exact ⟨lwC w hw x 8 (by decide), List.mem_of_getElem? (i := 7) rfl, memC (by decide) s d h⟩
    · exact ⟨lwC w hw x 9 (by decide), List.mem_of_getElem? (i := 6) rfl, memC (by decide) s d h⟩
    · exact ⟨lwC w hw x 10 (by decide), List.mem_of_getElem? (i := 5) rfl, memC (by decide) s d h⟩
    · exact ⟨lwC w hw x 11 (by decide), List.mem_of_getElem? (i := 4) rfl, memC (by decide) s d h⟩
    · exact ⟨lwC w hw x 12 (by decide), List.mem_of_getElem? (i := 3) rfl, memC (by decide) s d h⟩
    · exact ⟨lwC w hw x 13 (by decide), List.mem_of_getElem? (i := 2) rfl, memC (by decide) s d h⟩
    · exact ⟨lwC w hw x 14 (by decide), List.mem_of_getElem? (i := 1) rfl, memC (by decide) s d h⟩
    · exact ⟨lwC w hw x 15 (by decide), List.mem_of_getElem? (i := 0) rfl, memC (by decide) s d h⟩

theorem ldKC_at (s : Fin 2048) (d : Fin 128) : View.canon (ldKC w hw x) (ix2 (kI s) d) = (f (tau 16 s.val) d : EReal) := by
  refine (View.canon_append_of_pieces (Val := Elt Ideal) (e := .bf16) (Lk 16 f) [⟨Rect.unit ![0, 0] ![128, 128] inb_S2176x128_S128x128_0_0, k0_pay7 (F := Ideal)⟩] [kwC w hw x 15 (by decide), kwC w hw x 14 (by decide), kwC w hw x 13 (by decide), kwC w hw x 12 (by decide), kwC w hw x 11 (by decide), kwC w hw x 10 (by decide), kwC w hw x 9 (by decide), kwC w hw x 8 (by decide), kwC w hw x 7 (by decide), kwC w hw x 6 (by decide), kwC w hw x 5 (by decide), kwC w hw x 4 (by decide), kwC w hw x 3 (by decide), kwC w hw x 2 (by decide), kwC w hw x 1 (by decide), kwC w hw x 0 (by decide)] (fun p hp => ?_) (ix2 (kI s) d) ?_).trans ?_
  · simp only [List.mem_cons, List.not_mem_nil, or_false] at hp
    rcases hp with rfl | rfl | rfl | rfl | rfl | rfl | rfl | rfl | rfl | rfl | rfl | rfl | rfl | rfl | rfl | rfl <;> exact kwC_at w hw x f hx _
  · rcases (by omega : s.val / 128 = 0 ∨ s.val / 128 = 1 ∨ s.val / 128 = 2 ∨ s.val / 128 = 3 ∨ s.val / 128 = 4 ∨ s.val / 128 = 5 ∨ s.val / 128 = 6 ∨ s.val / 128 = 7 ∨ s.val / 128 = 8 ∨ s.val / 128 = 9 ∨ s.val / 128 = 10 ∨ s.val / 128 = 11 ∨ s.val / 128 = 12 ∨ s.val / 128 = 13 ∨ s.val / 128 = 14 ∨ s.val / 128 = 15) with h | h | h | h | h | h | h | h | h | h | h | h | h | h | h | h
    · exact ⟨kwC w hw x 0 (by decide), List.mem_of_getElem? (i := 15) rfl, memKC (by decide) s d h⟩
    · exact ⟨kwC w hw x 1 (by decide), List.mem_of_getElem? (i := 14) rfl, memKC (by decide) s d h⟩
    · exact ⟨kwC w hw x 2 (by decide), List.mem_of_getElem? (i := 13) rfl, memKC (by decide) s d h⟩
    · exact ⟨kwC w hw x 3 (by decide), List.mem_of_getElem? (i := 12) rfl, memKC (by decide) s d h⟩
    · exact ⟨kwC w hw x 4 (by decide), List.mem_of_getElem? (i := 11) rfl, memKC (by decide) s d h⟩
    · exact ⟨kwC w hw x 5 (by decide), List.mem_of_getElem? (i := 10) rfl, memKC (by decide) s d h⟩
    · exact ⟨kwC w hw x 6 (by decide), List.mem_of_getElem? (i := 9) rfl, memKC (by decide) s d h⟩
    · exact ⟨kwC w hw x 7 (by decide), List.mem_of_getElem? (i := 8) rfl, memKC (by decide) s d h⟩
    · exact ⟨kwC w hw x 8 (by decide), List.mem_of_getElem? (i := 7) rfl, memKC (by decide) s d h⟩
    · exact ⟨kwC w hw x 9 (by decide), List.mem_of_getElem? (i := 6) rfl, memKC (by decide) s d h⟩
    · exact ⟨kwC w hw x 10 (by decide), List.mem_of_getElem? (i := 5) rfl, memKC (by decide) s d h⟩
    · exact ⟨kwC w hw x 11 (by decide), List.mem_of_getElem? (i := 4) rfl, memKC (by decide) s d h⟩
    · exact ⟨kwC w hw x 12 (by decide), List.mem_of_getElem? (i := 3) rfl, memKC (by decide) s d h⟩
    · exact ⟨kwC w hw x 13 (by decide), List.mem_of_getElem? (i := 2) rfl, memKC (by decide) s d h⟩
    · exact ⟨kwC w hw x 14 (by decide), List.mem_of_getElem? (i := 1) rfl, memKC (by decide) s d h⟩
    · exact ⟨kwC w hw x 15 (by decide), List.mem_of_getElem? (i := 0) rfl, memKC (by decide) s d h⟩
  · show (f (tau 16 (128 + s.val - 128)) d : EReal) = _
    rw [Nat.add_sub_cancel_left]
end

theorem swC6_at (L : PL S2048x128 .f32) (g : ℕ → Fin 128 → ℝ) (hL : ∀ (s : Fin 2048) (d : Fin 128), View.canon L (ix2 s d) = (g (tau 16 s.val) d : EReal))
    {u : ℕ} (h : u < 16) (y : (swC6 L u h).1.shape.Idx) : (swC6 L u h).2 y = Lt g ((swC6 L u h).1.emb y) := by
  obtain ⟨k, d, rfl⟩ : ∃ (q : Fin 128) (x : Fin 128), y = ix2 q x := ⟨_, _, eq_ix2 y⟩
  rw [show (swC6 L u h).1.emb (ix2 k d) = ix2 (⟨u + 16 * k.val, by omega⟩ : Fin 2048) d from
    ext2 _ _ _ rfl (by show 0 + 1 * d.val = d.val; omega)]
  refine (scC_at ((View.whole cc0_scratch6).readCov L (Rect.unit (s := S2048x128) ![128 * u, 0] ![128, 128] (inbC h)).toLoadRect) k d).trans ?_
  rw [View.readCov_eq_canon']
  refine (congrArg _ (ext2 _ (⟨128 * u + k.val, by omega⟩ : Fin 2048) d ?_ ?_)).trans ((hL _ d).trans ?_)
  · show 128 * u + 1 * k.val = 128 * u + k.val; omega
  · show 0 + 1 * d.val = d.val; omega
  · show (g (tau 16 (128 * u + k.val)) d : EReal) = (g (u + 16 * k.val) d : EReal)
    rw [tau_sixteen, show (128 * u + k.val) % 128 * 16 + (128 * u + k.val) / 128 = u + 16 * k.val by omega]
/-- Class rows, put back at their times, over any earlier writes. -/
theorem stC6_at (L R : PL S2048x128 .f32) (g : ℕ → Fin 128 → ℝ) (hL : ∀ (s : Fin 2048) (d : Fin 128), View.canon L (ix2 s d) = (g (tau 16 s.val) d : EReal))
    (s : Fin 2048) (d : Fin 128) : View.canon (stC6 L ++ R) (ix2 s d) = (g s.val d : EReal) := by
  refine View.canon_append_of_pieces (Val := Elt Ideal) (e := .f32) (Lt g) R _ (fun p hp => ?_) (ix2 s d) ?_
  · simp only [stC6, List.mem_cons, List.not_mem_nil, or_false] at hp
    rcases hp with rfl | rfl | rfl | rfl | rfl | rfl | rfl | rfl | rfl | rfl | rfl | rfl | rfl | rfl | rfl | rfl <;> exact swC6_at L g hL _
  · rcases (by omega : s.val % 16 = 0 ∨ s.val % 16 = 1 ∨ s.val % 16 = 2 ∨ s.val % 16 = 3 ∨ s.val % 16 = 4 ∨ s.val % 16 = 5 ∨ s.val % 16 = 6 ∨ s.val % 16 = 7 ∨ s.val % 16 = 8 ∨ s.val % 16 = 9 ∨ s.val % 16 = 10 ∨ s.val % 16 = 11 ∨ s.val % 16 = 12 ∨ s.val % 16 = 13 ∨ s.val % 16 = 14 ∨ s.val % 16 = 15) with h | h | h | h | h | h | h | h | h | h | h | h | h | h | h | h
    · exact ⟨swC6 L 0 (by decide), List.mem_of_getElem? (i := 15) rfl, memWC (by decide) s d h⟩
    · exact ⟨swC6 L 1 (by decide), List.mem_of_getElem? (i := 14) rfl, memWC (by decide) s d h⟩
    · exact ⟨swC6 L 2 (by decide), List.mem_of_getElem? (i := 13) rfl, memWC (by decide) s d h⟩
    · exact ⟨swC6 L 3 (by decide), List.mem_of_getElem? (i := 12) rfl, memWC (by decide) s d h⟩
    · exact ⟨swC6 L 4 (by decide), List.mem_of_getElem? (i := 11) rfl, memWC (by decide) s d h⟩
    · exact ⟨swC6 L 5 (by decide), List.mem_of_getElem? (i := 10) rfl, memWC (by decide) s d h⟩
    · exact ⟨swC6 L 6 (by decide), List.mem_of_getElem? (i := 9) rfl, memWC (by decide) s d h⟩
    · exact ⟨swC6 L 7 (by decide), List.mem_of_getElem? (i := 8) rfl, memWC (by decide) s d h⟩
    · exact ⟨swC6 L 8 (by decide), List.mem_of_getElem? (i := 7) rfl, memWC (by decide) s d h⟩
    · exact ⟨swC6 L 9 (by decide), List.mem_of_getElem? (i := 6) rfl, memWC (by decide) s d h⟩
    · exact ⟨swC6 L 10 (by decide), List.mem_of_getElem? (i := 5) rfl, memWC (by decide) s d h⟩
    · exact ⟨swC6 L 11 (by decide), List.mem_of_getElem? (i := 4) rfl, memWC (by decide) s d h⟩
    · exact ⟨swC6 L 12 (by decide), List.mem_of_getElem? (i := 3) rfl, memWC (by decide) s d h⟩
    · exact ⟨swC6 L 13 (by decide), List.mem_of_getElem? (i := 2) rfl, memWC (by decide) s d h⟩
    · exact ⟨swC6 L 14 (by decide), List.mem_of_getElem? (i := 1) rfl, memWC (by decide) s d h⟩
    · exact ⟨swC6 L 15 (by decide), List.mem_of_getElem? (i := 0) rfl, memWC (by decide) s d h⟩

theorem swC7_at (L : PL S2048x128 .f32) (g : ℕ → Fin 128 → ℝ) (hL : ∀ (s : Fin 2048) (d : Fin 128), View.canon L (ix2 s d) = (g (tau 16 s.val) d : EReal))
    {u : ℕ} (h : u < 16) (y : (swC7 L u h).1.shape.Idx) : (swC7 L u h).2 y = Lt g ((swC7 L u h).1.emb y) := by
  obtain ⟨k, d, rfl⟩ : ∃ (q : Fin 128) (x : Fin 128), y = ix2 q x := ⟨_, _, eq_ix2 y⟩
  rw [show (swC7 L u h).1.emb (ix2 k d) = ix2 (⟨u + 16 * k.val, by omega⟩ : Fin 2048) d from
    ext2 _ _ _ rfl (by show 0 + 1 * d.val = d.val; omega)]
  refine (scC_at ((View.whole cc0_scratch7).readCov L (Rect.unit (s := S2048x128) ![128 * u, 0] ![128, 128] (inbC h)).toLoadRect) k d).trans ?_
  rw [View.readCov_eq_canon']
  refine (congrArg _ (ext2 _ (⟨128 * u + k.val, by omega⟩ : Fin 2048) d ?_ ?_)).trans ((hL _ d).trans ?_)
  · show 128 * u + 1 * k.val = 128 * u + k.val; omega
  · show 0 + 1 * d.val = d.val; omega
  · show (g (tau 16 (128 * u + k.val)) d : EReal) = (g (u + 16 * k.val) d : EReal)
    rw [tau_sixteen, show (128 * u + k.val) % 128 * 16 + (128 * u + k.val) / 128 = u + 16 * k.val by omega]
/-- Class rows, put back at their times, over any earlier writes. -/
theorem stC7_at (L R : PL S2048x128 .f32) (g : ℕ → Fin 128 → ℝ) (hL : ∀ (s : Fin 2048) (d : Fin 128), View.canon L (ix2 s d) = (g (tau 16 s.val) d : EReal))
    (s : Fin 2048) (d : Fin 128) : View.canon (stC7 L ++ R) (ix2 s d) = (g s.val d : EReal) := by
  refine View.canon_append_of_pieces (Val := Elt Ideal) (e := .f32) (Lt g) R _ (fun p hp => ?_) (ix2 s d) ?_
  · simp only [stC7, List.mem_cons, List.not_mem_nil, or_false] at hp
    rcases hp with rfl | rfl | rfl | rfl | rfl | rfl | rfl | rfl | rfl | rfl | rfl | rfl | rfl | rfl | rfl | rfl <;> exact swC7_at L g hL _
  · rcases (by omega : s.val % 16 = 0 ∨ s.val % 16 = 1 ∨ s.val % 16 = 2 ∨ s.val % 16 = 3 ∨ s.val % 16 = 4 ∨ s.val % 16 = 5 ∨ s.val % 16 = 6 ∨ s.val % 16 = 7 ∨ s.val % 16 = 8 ∨ s.val % 16 = 9 ∨ s.val % 16 = 10 ∨ s.val % 16 = 11 ∨ s.val % 16 = 12 ∨ s.val % 16 = 13 ∨ s.val % 16 = 14 ∨ s.val % 16 = 15) with h | h | h | h | h | h | h | h | h | h | h | h | h | h | h | h
    · exact ⟨swC7 L 0 (by decide), List.mem_of_getElem? (i := 15) rfl, memWC (by decide) s d h⟩
    · exact ⟨swC7 L 1 (by decide), List.mem_of_getElem? (i := 14) rfl, memWC (by decide) s d h⟩
    · exact ⟨swC7 L 2 (by decide), List.mem_of_getElem? (i := 13) rfl, memWC (by decide) s d h⟩
    · exact ⟨swC7 L 3 (by decide), List.mem_of_getElem? (i := 12) rfl, memWC (by decide) s d h⟩
    · exact ⟨swC7 L 4 (by decide), List.mem_of_getElem? (i := 11) rfl, memWC (by decide) s d h⟩
    · exact ⟨swC7 L 5 (by decide), List.mem_of_getElem? (i := 10) rfl, memWC (by decide) s d h⟩
    · exact ⟨swC7 L 6 (by decide), List.mem_of_getElem? (i := 9) rfl, memWC (by decide) s d h⟩
    · exact ⟨swC7 L 7 (by decide), List.mem_of_getElem? (i := 8) rfl, memWC (by decide) s d h⟩
    · exact ⟨swC7 L 8 (by decide), List.mem_of_getElem? (i := 7) rfl, memWC (by decide) s d h⟩
    · exact ⟨swC7 L 9 (by decide), List.mem_of_getElem? (i := 6) rfl, memWC (by decide) s d h⟩
    · exact ⟨swC7 L 10 (by decide), List.mem_of_getElem? (i := 5) rfl, memWC (by decide) s d h⟩
    · exact ⟨swC7 L 11 (by decide), List.mem_of_getElem? (i := 4) rfl, memWC (by decide) s d h⟩
    · exact ⟨swC7 L 12 (by decide), List.mem_of_getElem? (i := 3) rfl, memWC (by decide) s d h⟩
    · exact ⟨swC7 L 13 (by decide), List.mem_of_getElem? (i := 2) rfl, memWC (by decide) s d h⟩
    · exact ⟨swC7 L 14 (by decide), List.mem_of_getElem? (i := 1) rfl, memWC (by decide) s d h⟩
    · exact ⟨swC7 L 15 (by decide), List.mem_of_getElem? (i := 0) rfl, memWC (by decide) s d h⟩

theorem swC8_at (L : PL S2048x128 .f32) (g : ℕ → Fin 128 → ℝ) (hL : ∀ (s : Fin 2048) (d : Fin 128), View.canon L (ix2 s d) = (g (tau 16 s.val) d : EReal))
    {u : ℕ} (h : u < 16) (y : (swC8 L u h).1.shape.Idx) : (swC8 L u h).2 y = Lt g ((swC8 L u h).1.emb y) := by
  obtain ⟨k, d, rfl⟩ : ∃ (q : Fin 128) (x : Fin 128), y = ix2 q x := ⟨_, _, eq_ix2 y⟩
  rw [show (swC8 L u h).1.emb (ix2 k d) = ix2 (⟨u + 16 * k.val, by omega⟩ : Fin 2048) d from
    ext2 _ _ _ rfl (by show 0 + 1 * d.val = d.val; omega)]
  refine (scC_at ((View.whole cc0_scratch8).readCov L (Rect.unit (s := S2048x128) ![128 * u, 0] ![128, 128] (inbC h)).toLoadRect) k d).trans ?_
  rw [View.readCov_eq_canon']
  refine (congrArg _ (ext2 _ (⟨128 * u + k.val, by omega⟩ : Fin 2048) d ?_ ?_)).trans ((hL _ d).trans ?_)
  · show 128 * u + 1 * k.val = 128 * u + k.val; omega
  · show 0 + 1 * d.val = d.val; omega
  · show (g (tau 16 (128 * u + k.val)) d : EReal) = (g (u + 16 * k.val) d : EReal)
    rw [tau_sixteen, show (128 * u + k.val) % 128 * 16 + (128 * u + k.val) / 128 = u + 16 * k.val by omega]
/-- Class rows, put back at their times, over any earlier writes. -/
theorem stC8_at (L R : PL S2048x128 .f32) (g : ℕ → Fin 128 → ℝ) (hL : ∀ (s : Fin 2048) (d : Fin 128), View.canon L (ix2 s d) = (g (tau 16 s.val) d : EReal))
    (s : Fin 2048) (d : Fin 128) : View.canon (stC8 L ++ R) (ix2 s d) = (g s.val d : EReal) := by
  refine View.canon_append_of_pieces (Val := Elt Ideal) (e := .f32) (Lt g) R _ (fun p hp => ?_) (ix2 s d) ?_
  · simp only [stC8, List.mem_cons, List.not_mem_nil, or_false] at hp
    rcases hp with rfl | rfl | rfl | rfl | rfl | rfl | rfl | rfl | rfl | rfl | rfl | rfl | rfl | rfl | rfl | rfl <;> exact swC8_at L g hL _
  · rcases (by omega : s.val % 16 = 0 ∨ s.val % 16 = 1 ∨ s.val % 16 = 2 ∨ s.val % 16 = 3 ∨ s.val % 16 = 4 ∨ s.val % 16 = 5 ∨ s.val % 16 = 6 ∨ s.val % 16 = 7 ∨ s.val % 16 = 8 ∨ s.val % 16 = 9 ∨ s.val % 16 = 10 ∨ s.val % 16 = 11 ∨ s.val % 16 = 12 ∨ s.val % 16 = 13 ∨ s.val % 16 = 14 ∨ s.val % 16 = 15) with h | h | h | h | h | h | h | h | h | h | h | h | h | h | h | h
    · exact ⟨swC8 L 0 (by decide), List.mem_of_getElem? (i := 15) rfl, memWC (by decide) s d h⟩
    · exact ⟨swC8 L 1 (by decide), List.mem_of_getElem? (i := 14) rfl, memWC (by decide) s d h⟩
    · exact ⟨swC8 L 2 (by decide), List.mem_of_getElem? (i := 13) rfl, memWC (by decide) s d h⟩
    · exact ⟨swC8 L 3 (by decide), List.mem_of_getElem? (i := 12) rfl, memWC (by decide) s d h⟩
    · exact ⟨swC8 L 4 (by decide), List.mem_of_getElem? (i := 11) rfl, memWC (by decide) s d h⟩
    · exact ⟨swC8 L 5 (by decide), List.mem_of_getElem? (i := 10) rfl, memWC (by decide) s d h⟩
    · exact ⟨swC8 L 6 (by decide), List.mem_of_getElem? (i := 9) rfl, memWC (by decide) s d h⟩
    · exact ⟨swC8 L 7 (by decide), List.mem_of_getElem? (i := 8) rfl, memWC (by decide) s d h⟩
    · exact ⟨swC8 L 8 (by decide), List.mem_of_getElem? (i := 7) rfl, memWC (by decide) s d h⟩
    · exact ⟨swC8 L 9 (by decide), List.mem_of_getElem? (i := 6) rfl, memWC (by decide) s d h⟩
    · exact ⟨swC8 L 10 (by decide), List.mem_of_getElem? (i := 5) rfl, memWC (by decide) s d h⟩
    · exact ⟨swC8 L 11 (by decide), List.mem_of_getElem? (i := 4) rfl, memWC (by decide) s d h⟩
    · exact ⟨swC8 L 12 (by decide), List.mem_of_getElem? (i := 3) rfl, memWC (by decide) s d h⟩
    · exact ⟨swC8 L 13 (by decide), List.mem_of_getElem? (i := 2) rfl, memWC (by decide) s d h⟩
    · exact ⟨swC8 L 14 (by decide), List.mem_of_getElem? (i := 1) rfl, memWC (by decide) s d h⟩
    · exact ⟨swC8 L 15 (by decide), List.mem_of_getElem? (i := 0) rfl, memWC (by decide) s d h⟩

end Cert.KernelIdeal.Value
-- ==== Proof.Cases.lean ====
module
public import proofs.«01_k».proof.Proof.Gen.KernelIdeal.Value
public import proofs.«01_k».proof.Proof.OpenA
public import proofs.«01_k».proof.Proof.OpenB
public import proofs.«01_k».proof.Proof.OpenC
public import proofs.«01_k».proof.Proof.Gather
public import proofs.«01_k».proof.Proof.Bias
public import proofs.«01_k».proof.Proof.Loads
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

section
variable (m : (ℓ : Loc nD τ sig) → Buf (Elt Ideal) ℓ) (c : Dev nD) (t : Fin cfg0.N) (h0 : t.val / 4 % 3 = 0) (h1 : ¬t.val / 4 % 3 = 1) (h2 : ¬t.val / 4 % 3 = 2)
  (qb kb vb dob : ℕ → Fin 128 → ℝ) (sl : Fin 2 → ℝ) (lb db : Fin 2 → ℕ → ℝ)
  (hs : ∀ h : Fin 2, slp1 t (iblk m c 0 t) h = ((sl h * ((1 : ℕ) : ℝ) : ℝ) : EReal))
  (hq : ∀ (s : Fin 2048) (d : Fin 128), iblk m c 1 t (ix3 0 s d) = (qb s.val d : EReal))
  (hk : ∀ (s : Fin 2048) (d : Fin 128), iblk m c 2 t (ix3 0 s d) = (kb s.val d : EReal))
  (hv : ∀ (s : Fin 2048) (d : Fin 128), iblk m c 3 t (ix3 0 s d) = (vb s.val d : EReal))
  (hdo : ∀ (s : Fin 2048) (d : Fin 128), iblk m c 4 t (ix3 0 s d) = (dob s.val d : EReal))
  (hl : ∀ (s : Fin 2048) (d : Fin 128), iblk m c 5 t (ix3 0 s d) = (lb (headOf d) s.val : EReal))
  (hd : ∀ (s : Fin 2048) (d : Fin 128), iblk m c 6 t (ix3 0 s d) = (db (headOf d) s.val : EReal))
include h0 h1 h2 hs hq hk hdo hl
include hv hd in
/-- What a step of case A leaves in its block 0 of results, as a real number. -/
theorem outA0 (s : Fin 2048) (d : Fin 128) : (outsAt0 m c t.val t.isLt).1 (ix3 0 s d) = (dqt 1 qb kb vb dob sl lb db s.val d : EReal) := by

  rw [openA0 m c t h0 h1 h2, pay206_at, pay205_at, rdW6_at]
  refine ((fun s d => dqA_at (ldQA (iblk m c 1 t)) (ldQA (iblk m c 4 t)) (ldKA (iblk m c 2 t)) (ldKA (iblk m c 3 t)) (ldLA (iblk m c 5 t)) (ldLA (iblk m c 6 t)) (biasL (slp1 t (iblk m c 0 t) 0) (slp1 t (iblk m c 0 t) 1)) qb kb vb dob sl lb db (ldQA_at (iblk m c 1 t) qb hq) (ldQA_at (iblk m c 4 t) dob hdo) (ldKA_at (iblk m c 2 t) kb hk) (ldKA_at (iblk m c 3 t) vb hv) (ldLA_at (iblk m c 5 t) (fun s d => lb (headOf d) s) hl) (ldLA_at (iblk m c 6 t) (fun s d => db (headOf d) s) hd) (biasL_at (fun h => sl h * ((1 : ℕ) : ℝ)) _ _ (hs 0) (hs 1)) s d) s d).trans ?_
  rw [tau_one s.isLt]

include hv hd in
/-- What a step of case A leaves in its block 1 of results, as a real number. -/
theorem outA1 (s : Fin 2048) (d : Fin 128) : (outsAt0 m c t.val t.isLt).2.1 (ix3 0 s d) = (dkt 1 qb kb vb dob sl lb db s.val d : EReal) := by

  rw [openA1 m c t h0 h1 h2, pay206_at, pay205_at, rdW7_at]
  refine ((fun s d => akA_at _ qb kb vb dob sl lb db (dkA_R (ldQA (iblk m c 1 t)) (ldQA (iblk m c 4 t)) (ldKA (iblk m c 2 t)) (ldKA (iblk m c 3 t)) (ldLA (iblk m c 5 t)) (ldLA (iblk m c 6 t)) (biasL (slp1 t (iblk m c 0 t) 0) (slp1 t (iblk m c 0 t) 1)) qb kb vb dob sl lb db (ldQA_at (iblk m c 1 t) qb hq) (ldQA_at (iblk m c 4 t) dob hdo) (ldKA_at (iblk m c 2 t) kb hk) (ldKA_at (iblk m c 3 t) vb hv) (ldLA_at (iblk m c 5 t) (fun s d => lb (headOf d) s) hl) (ldLA_at (iblk m c 6 t) (fun s d => db (headOf d) s) hd) (biasL_at (fun h => sl h * ((1 : ℕ) : ℝ)) _ _ (hs 0) (hs 1))) (dkA_L (ldQA (iblk m c 1 t)) (ldQA (iblk m c 4 t)) (ldKA (iblk m c 2 t)) (ldKA (iblk m c 3 t)) (ldLA (iblk m c 5 t)) (ldLA (iblk m c 6 t)) (biasL (slp1 t (iblk m c 0 t) 0) (slp1 t (iblk m c 0 t) 1)) qb kb vb dob sl lb db (ldQA_at (iblk m c 1 t) qb hq) (ldQA_at (iblk m c 4 t) dob hdo) (ldKA_at (iblk m c 2 t) kb hk) (ldKA_at (iblk m c 3 t) vb hv) (ldLA_at (iblk m c 5 t) (fun s d => lb (headOf d) s) hl) (ldLA_at (iblk m c 6 t) (fun s d => db (headOf d) s) hd) (biasL_at (fun h => sl h * ((1 : ℕ) : ℝ)) _ _ (hs 0) (hs 1))) s d) s d).trans ?_
  rw [tau_one s.isLt]

/-- What a step of case A leaves in its block 2 of results, as a real number. -/
theorem outA2 (s : Fin 2048) (d : Fin 128) : (outsAt0 m c t.val t.isLt).2.2 (ix3 0 s d) = (dvt 1 qb kb dob sl lb s.val d : EReal) := by

  rw [openA2 m c t h0 h1 h2, pay206_at, pay205_at, rdW8_at]
  refine ((fun s d => avA_at _ qb kb dob sl lb (dvA_R (ldQA (iblk m c 1 t)) (ldQA (iblk m c 4 t)) (ldKA (iblk m c 2 t)) (ldLA (iblk m c 5 t)) (biasL (slp1 t (iblk m c 0 t) 0) (slp1 t (iblk m c 0 t) 1)) qb kb dob sl lb (ldQA_at (iblk m c 1 t) qb hq) (ldQA_at (iblk m c 4 t) dob hdo) (ldKA_at (iblk m c 2 t) kb hk) (ldLA_at (iblk m c 5 t) (fun s d => lb (headOf d) s) hl) (biasL_at (fun h => sl h * ((1 : ℕ) : ℝ)) _ _ (hs 0) (hs 1))) (dvA_L (ldQA (iblk m c 1 t)) (ldQA (iblk m c 4 t)) (ldKA (iblk m c 2 t)) (ldLA (iblk m c 5 t)) (biasL (slp1 t (iblk m c 0 t) 0) (slp1 t (iblk m c 0 t) 1)) qb kb dob sl lb (ldQA_at (iblk m c 1 t) qb hq) (ldQA_at (iblk m c 4 t) dob hdo) (ldKA_at (iblk m c 2 t) kb hk) (ldLA_at (iblk m c 5 t) (fun s d => lb (headOf d) s) hl) (biasL_at (fun h => sl h * ((1 : ℕ) : ℝ)) _ _ (hs 0) (hs 1))) s d) s d).trans ?_
  rw [tau_one s.isLt]

end

section
variable (m : (ℓ : Loc nD τ sig) → Buf (Elt Ideal) ℓ) (c : Dev nD) (t : Fin cfg0.N) (h0 : ¬t.val / 4 % 3 = 0) (h1 : t.val / 4 % 3 = 1) (h2 : ¬t.val / 4 % 3 = 2)
  (qb kb vb dob : ℕ → Fin 128 → ℝ) (sl : Fin 2 → ℝ) (lb db : Fin 2 → ℕ → ℝ)
  (hs : ∀ h : Fin 2, slp2 t (iblk m c 0 t) h = ((sl h * ((4 : ℕ) : ℝ) : ℝ) : EReal))
  (hq : ∀ (s : Fin 2048) (d : Fin 128), iblk m c 1 t (ix3 0 s d) = (qb s.val d : EReal))
  (hk : ∀ (s : Fin 2048) (d : Fin 128), iblk m c 2 t (ix3 0 s d) = (kb s.val d : EReal))
  (hv : ∀ (s : Fin 2048) (d : Fin 128), iblk m c 3 t (ix3 0 s d) = (vb s.val d : EReal))
  (hdo : ∀ (s : Fin 2048) (d : Fin 128), iblk m c 4 t (ix3 0 s d) = (dob s.val d : EReal))
  (hl : ∀ (s : Fin 2048) (d : Fin 128), iblk m c 5 t (ix3 0 s d) = (lb (headOf d) s.val : EReal))
  (hd : ∀ (s : Fin 2048) (d : Fin 128), iblk m c 6 t (ix3 0 s d) = (db (headOf d) s.val : EReal))
include h0 h1 h2 hs hq hk hdo hl
include hv hd in
/-- What a step of case B leaves in its block 0 of results, as a real number. -/
theorem outB0 (s : Fin 2048) (d : Fin 128) : (outsAt0 m c t.val t.isLt).1 (ix3 0 s d) = (dqt 4 qb kb vb dob sl lb db s.val d : EReal) := by

  rw [openB0 m c t h0 h1 h2, pay206_at, rdW11_at]
  exact stB6_at _ [] (dqt 4 qb kb vb dob sl lb db) (fun s d => dqB_at (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1)) qb kb vb dob sl lb db (ldQB_at (ms0_1 t) (hs0_1 t) (iblk m c 1 t) qb hq) (ldQB_at (ms0_4 t) (hs0_4 t) (iblk m c 4 t) dob hdo) (ldKB_at (ms0_2 t) (hs0_2 t) (iblk m c 2 t) kb hk) (ldKB_at (ms0_3 t) (hs0_3 t) (iblk m c 3 t) vb hv) (ldLB_at (ms0_5 t) (hs0_5 t) (iblk m c 5 t) (fun s d => lb (headOf d) s) hl) (ldLB_at (ms0_6 t) (hs0_6 t) (iblk m c 6 t) (fun s d => db (headOf d) s) hd) (biasL_at (fun h => sl h * ((4 : ℕ) : ℝ)) _ _ (hs 0) (hs 1)) s d) s d

include hv hd in
/-- What a step of case B leaves in its block 1 of results, as a real number. -/
theorem outB1 (s : Fin 2048) (d : Fin 128) : (outsAt0 m c t.val t.isLt).2.1 (ix3 0 s d) = (dkt 4 qb kb vb dob sl lb db s.val d : EReal) := by

  rw [openB1 m c t h0 h1 h2, pay206_at, rdW11_at]
  exact stB7_at _ _ (dkt 4 qb kb vb dob sl lb db) (fun s d => akB_at _ qb kb vb dob sl lb db (dkB_R (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1)) qb kb vb dob sl lb db (ldQB_at (ms0_1 t) (hs0_1 t) (iblk m c 1 t) qb hq) (ldQB_at (ms0_4 t) (hs0_4 t) (iblk m c 4 t) dob hdo) (ldKB_at (ms0_2 t) (hs0_2 t) (iblk m c 2 t) kb hk) (ldKB_at (ms0_3 t) (hs0_3 t) (iblk m c 3 t) vb hv) (ldLB_at (ms0_5 t) (hs0_5 t) (iblk m c 5 t) (fun s d => lb (headOf d) s) hl) (ldLB_at (ms0_6 t) (hs0_6 t) (iblk m c 6 t) (fun s d => db (headOf d) s) hd) (biasL_at (fun h => sl h * ((4 : ℕ) : ℝ)) _ _ (hs 0) (hs 1))) (dkB_L (ldQB (ms0_1 t) (hs0_1 t) (iblk m c 1 t)) (ldQB (ms0_4 t) (hs0_4 t) (iblk m c 4 t)) (ldKB (ms0_2 t) (hs0_2 t) (iblk m c 2 t)) (ldKB (ms0_3 t) (hs0_3 t) (iblk m c 3 t)) (ldLB (ms0_5 t) (hs0_5 t) (iblk m c 5 t)) (ldLB (ms0_6 t) (hs0_6 t) (iblk m c 6 t)) (biasL (slp2 t (iblk m c 0 t) 0) (slp2 t (iblk m c 0 t) 1)) qb kb vb dob sl lb db (ldQB_at (ms0_1 t) (hs0_1 t) (iblk m c 1 t) qb hq) (ldQB_at (ms0_4 t) (hs0_4 t) (iblk m c 4 t) dob hdo) (ldKB_at (ms0_2 t) (hs0_2 t) (iblk m c 2 t) kb hk) (ldKB_at (ms0_3 t) (hs0_3 t) (iblk m c 3 t) vb hv) (ldLB_at (ms0_5 t) (hs0_5 t) (iblk m c 5 t) (fun s d => lb (headOf d) s) hl) (ldLB_at (ms0_6 t) (hs0_6 t) (iblk m c 6 t) (fun s d => db (headOf d) s) hd) (biasL_at (fun h => sl h * ((4 : ℕ) : ℝ)) _ _ (hs 0) (hs 1))) s d) s d

/-- What a step of case B leaves in its block 2 of results, as a real number. -/
theorem outB2 (s : Fin 2048) (d : Fin 128) : (outsAt0 m c t.val t.isLt).2.2 (ix3 0 s d) = (dvt 4 qb kb dob sl lb s.val d : EReal) := by

  rw [openB2 m c t h0 h1 h2, pay206_at, rdW11_at]
  rw [List.append_assoc]
  exact stB8_at _ _ (dvt 4 qb kb dob sl lb) (fun s d => avB_at _ qb kb dob sl lb (dvB_R (ldQB (ms0_1 t) (hs0_1 t) (iblk m c 1 t)) (ldQB (ms0_4 t) (hs0_4 t) (iblk m c 4 t)) (ldKB (ms0_2 t) (hs0_2 t) (iblk m c 2 t)) (ldLB (ms0_5 t) (hs0_5 t) (iblk m c 5 t)) (biasL (slp2 t (iblk m c 0 t) 0) (slp2 t (iblk m c 0 t) 1)) qb kb dob sl lb (ldQB_at (ms0_1 t) (hs0_1 t) (iblk m c 1 t) qb hq) (ldQB_at (ms0_4 t) (hs0_4 t) (iblk m c 4 t) dob hdo) (ldKB_at (ms0_2 t) (hs0_2 t) (iblk m c 2 t) kb hk) (ldLB_at (ms0_5 t) (hs0_5 t) (iblk m c 5 t) (fun s d => lb (headOf d) s) hl) (biasL_at (fun h => sl h * ((4 : ℕ) : ℝ)) _ _ (hs 0) (hs 1))) (dvB_L (ldQB (ms0_1 t) (hs0_1 t) (iblk m c 1 t)) (ldQB (ms0_4 t) (hs0_4 t) (iblk m c 4 t)) (ldKB (ms0_2 t) (hs0_2 t) (iblk m c 2 t)) (ldLB (ms0_5 t) (hs0_5 t) (iblk m c 5 t)) (biasL (slp2 t (iblk m c 0 t) 0) (slp2 t (iblk m c 0 t) 1)) qb kb dob sl lb (ldQB_at (ms0_1 t) (hs0_1 t) (iblk m c 1 t) qb hq) (ldQB_at (ms0_4 t) (hs0_4 t) (iblk m c 4 t) dob hdo) (ldKB_at (ms0_2 t) (hs0_2 t) (iblk m c 2 t) kb hk) (ldLB_at (ms0_5 t) (hs0_5 t) (iblk m c 5 t) (fun s d => lb (headOf d) s) hl) (biasL_at (fun h => sl h * ((4 : ℕ) : ℝ)) _ _ (hs 0) (hs 1))) s d) s d

end

section
variable (m : (ℓ : Loc nD τ sig) → Buf (Elt Ideal) ℓ) (c : Dev nD) (t : Fin cfg0.N) (h0 : ¬t.val / 4 % 3 = 0) (h1 : ¬t.val / 4 % 3 = 1) (h2 : t.val / 4 % 3 = 2)
  (qb kb vb dob : ℕ → Fin 128 → ℝ) (sl : Fin 2 → ℝ) (lb db : Fin 2 → ℕ → ℝ)
  (hs : ∀ h : Fin 2, slp3 t (iblk m c 0 t) h = ((sl h * ((16 : ℕ) : ℝ) : ℝ) : EReal))
  (hq : ∀ (s : Fin 2048) (d : Fin 128), iblk m c 1 t (ix3 0 s d) = (qb s.val d : EReal))
  (hk : ∀ (s : Fin 2048) (d : Fin 128), iblk m c 2 t (ix3 0 s d) = (kb s.val d : EReal))
  (hv : ∀ (s : Fin 2048) (d : Fin 128), iblk m c 3 t (ix3 0 s d) = (vb s.val d : EReal))
  (hdo : ∀ (s : Fin 2048) (d : Fin 128), iblk m c 4 t (ix3 0 s d) = (dob s.val d : EReal))
  (hl : ∀ (s : Fin 2048) (d : Fin 128), iblk m c 5 t (ix3 0 s d) = (lb (headOf d) s.val : EReal))
  (hd : ∀ (s : Fin 2048) (d : Fin 128), iblk m c 6 t (ix3 0 s d) = (db (headOf d) s.val : EReal))
include h0 h1 h2 hs hq hk hdo hl
include hv hd in
/-- What a step of case C leaves in its block 0 of results, as a real number. -/
theorem outC0 (s : Fin 2048) (d : Fin 128) : (outsAt0 m c t.val t.isLt).1 (ix3 0 s d) = (dqt 16 qb kb vb dob sl lb db s.val d : EReal) := by

  rw [openC0 m c t h0 h1 h2, pay206_at, rdW11_at]
  exact stC6_at _ [] (dqt 16 qb kb vb dob sl lb db) (fun s d => dqC_at (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1)) qb kb vb dob sl lb db (ldQC_at (ms0_1 t) (hs0_1 t) (iblk m c 1 t) qb hq) (ldQC_at (ms0_4 t) (hs0_4 t) (iblk m c 4 t) dob hdo) (ldKC_at (ms0_2 t) (hs0_2 t) (iblk m c 2 t) kb hk) (ldKC_at (ms0_3 t) (hs0_3 t) (iblk m c 3 t) vb hv) (ldLC_at (ms0_5 t) (hs0_5 t) (iblk m c 5 t) (fun s d => lb (headOf d) s) hl) (ldLC_at (ms0_6 t) (hs0_6 t) (iblk m c 6 t) (fun s d => db (headOf d) s) hd) (biasL_at (fun h => sl h * ((16 : ℕ) : ℝ)) _ _ (hs 0) (hs 1)) s d) s d

include hv hd in
/-- What a step of case C leaves in its block 1 of results, as a real number. -/
theorem outC1 (s : Fin 2048) (d : Fin 128) : (outsAt0 m c t.val t.isLt).2.1 (ix3 0 s d) = (dkt 16 qb kb vb dob sl lb db s.val d : EReal) := by

  rw [openC1 m c t h0 h1 h2, pay206_at, rdW11_at]
  exact stC7_at _ _ (dkt 16 qb kb vb dob sl lb db) (fun s d => akC_at _ qb kb vb dob sl lb db (dkC_R (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1)) qb kb vb dob sl lb db (ldQC_at (ms0_1 t) (hs0_1 t) (iblk m c 1 t) qb hq) (ldQC_at (ms0_4 t) (hs0_4 t) (iblk m c 4 t) dob hdo) (ldKC_at (ms0_2 t) (hs0_2 t) (iblk m c 2 t) kb hk) (ldKC_at (ms0_3 t) (hs0_3 t) (iblk m c 3 t) vb hv) (ldLC_at (ms0_5 t) (hs0_5 t) (iblk m c 5 t) (fun s d => lb (headOf d) s) hl) (ldLC_at (ms0_6 t) (hs0_6 t) (iblk m c 6 t) (fun s d => db (headOf d) s) hd) (biasL_at (fun h => sl h * ((16 : ℕ) : ℝ)) _ _ (hs 0) (hs 1))) (dkC_L (ldQC (ms0_1 t) (hs0_1 t) (iblk m c 1 t)) (ldQC (ms0_4 t) (hs0_4 t) (iblk m c 4 t)) (ldKC (ms0_2 t) (hs0_2 t) (iblk m c 2 t)) (ldKC (ms0_3 t) (hs0_3 t) (iblk m c 3 t)) (ldLC (ms0_5 t) (hs0_5 t) (iblk m c 5 t)) (ldLC (ms0_6 t) (hs0_6 t) (iblk m c 6 t)) (biasL (slp3 t (iblk m c 0 t) 0) (slp3 t (iblk m c 0 t) 1)) qb kb vb dob sl lb db (ldQC_at (ms0_1 t) (hs0_1 t) (iblk m c 1 t) qb hq) (ldQC_at (ms0_4 t) (hs0_4 t) (iblk m c 4 t) dob hdo) (ldKC_at (ms0_2 t) (hs0_2 t) (iblk m c 2 t) kb hk) (ldKC_at (ms0_3 t) (hs0_3 t) (iblk m c 3 t) vb hv) (ldLC_at (ms0_5 t) (hs0_5 t) (iblk m c 5 t) (fun s d => lb (headOf d) s) hl) (ldLC_at (ms0_6 t) (hs0_6 t) (iblk m c 6 t) (fun s d => db (headOf d) s) hd) (biasL_at (fun h => sl h * ((16 : ℕ) : ℝ)) _ _ (hs 0) (hs 1))) s d) s d

/-- What a step of case C leaves in its block 2 of results, as a real number. -/
theorem outC2 (s : Fin 2048) (d : Fin 128) : (outsAt0 m c t.val t.isLt).2.2 (ix3 0 s d) = (dvt 16 qb kb dob sl lb s.val d : EReal) := by

  rw [openC2 m c t h0 h1 h2, pay206_at, rdW11_at]
  rw [List.append_assoc]
  exact stC8_at _ _ (dvt 16 qb kb dob sl lb) (fun s d => avC_at _ qb kb dob sl lb (dvC_R (ldQC (ms0_1 t) (hs0_1 t) (iblk m c 1 t)) (ldQC (ms0_4 t) (hs0_4 t) (iblk m c 4 t)) (ldKC (ms0_2 t) (hs0_2 t) (iblk m c 2 t)) (ldLC (ms0_5 t) (hs0_5 t) (iblk m c 5 t)) (biasL (slp3 t (iblk m c 0 t) 0) (slp3 t (iblk m c 0 t) 1)) qb kb dob sl lb (ldQC_at (ms0_1 t) (hs0_1 t) (iblk m c 1 t) qb hq) (ldQC_at (ms0_4 t) (hs0_4 t) (iblk m c 4 t) dob hdo) (ldKC_at (ms0_2 t) (hs0_2 t) (iblk m c 2 t) kb hk) (ldLC_at (ms0_5 t) (hs0_5 t) (iblk m c 5 t) (fun s d => lb (headOf d) s) hl) (biasL_at (fun h => sl h * ((16 : ℕ) : ℝ)) _ _ (hs 0) (hs 1))) (dvC_L (ldQC (ms0_1 t) (hs0_1 t) (iblk m c 1 t)) (ldQC (ms0_4 t) (hs0_4 t) (iblk m c 4 t)) (ldKC (ms0_2 t) (hs0_2 t) (iblk m c 2 t)) (ldLC (ms0_5 t) (hs0_5 t) (iblk m c 5 t)) (biasL (slp3 t (iblk m c 0 t) 0) (slp3 t (iblk m c 0 t) 1)) qb kb dob sl lb (ldQC_at (ms0_1 t) (hs0_1 t) (iblk m c 1 t) qb hq) (ldQC_at (ms0_4 t) (hs0_4 t) (iblk m c 4 t) dob hdo) (ldKC_at (ms0_2 t) (hs0_2 t) (iblk m c 2 t) kb hk) (ldLC_at (ms0_5 t) (hs0_5 t) (iblk m c 5 t) (fun s d => lb (headOf d) s) hl) (biasL_at (fun h => sl h * ((16 : ℕ) : ℝ)) _ _ (hs 0) (hs 1))) s d) s d

end

end Cert.KernelIdeal.Value
-- ==== Proof.HostV0.lean ====
module
public import proofs.«01_k».proof.Proof.Gen.KernelIdeal.Value
public import proofs.«01_k».proof.Proof.HostDefs
public import Idealize.ShloMosaic.Lib.StableHlo.RunRead
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (c : Dev nD)
theorem V_a0 : V m c main_arg0 = m ((c.tc : Thread nD τ).loc main_arg0) := by
  unfold V
  after_reads_simp
theorem V_a1 : V m c main_arg1 = m ((c.tc : Thread nD τ).loc main_arg1) := by
  unfold V
  after_reads_simp

end Cert.KernelIdeal.Value
-- ==== Proof.HostV.lean ====
module
public import proofs.«01_k».proof.Proof.Gen.KernelIdeal.Value
public import proofs.«01_k».proof.Proof.HostDefs
public import Idealize.ShloMosaic.Lib.StableHlo.RunRead
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (c : Dev nD)
theorem V_cst_1 : V m c main_cst_1 = k_cst_1 := by
  unfold V
  after_reads_simp
  rfl
set_option maxHeartbeats 40000000 in
theorem V_v102 : V m c main_v102 = k_v102 (m ((c.tc : Thread nD τ).loc main_arg0)) := by
  unfold V
  after_reads_simp
  rfl

end Cert.KernelIdeal.Value
-- ==== Proof.HostV2.lean ====
module
public import proofs.«01_k».proof.Proof.Gen.KernelIdeal.Value
public import proofs.«01_k».proof.Proof.HostDefs
public import Idealize.ShloMosaic.Lib.StableHlo.RunRead
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ) (c : Dev nD)
set_option maxHeartbeats 40000000 in
theorem V_v106 : V m c main_v106 = k_v106 (m ((c.tc : Thread nD τ).loc main_arg0)) (m ((c.tc : Thread nD τ).loc main_arg1)) := by
  unfold V
  after_reads_simp
  rfl

end Cert.KernelIdeal.Value
-- ==== Proof.Blk.lean ====
module
public import proofs.«01_k».proof.Proof.Gen.KernelIdeal.Value
public import proofs.«01_k».proof.Proof.Real
public import proofs.«01_k».proof.Proof.Cases
public import proofs.«01_k».proof.Proof.HostV0
public import proofs.«01_k».proof.Proof.HostV
public import proofs.«01_k».proof.Proof.HostV2
public import Idealize.ShloMosaic.Lib.Pipeline.ReadBack
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

theorem idx : ∀ t : Fin cfg0.N, win0_0.index t = ![0] ∧ win0_1.index t = ![t.val / 12, 0, t.val / 4 % 3 * 4 + t.val % 4]
    ∧ win0_2.index t = ![t.val / 12, 0, 12 + t.val / 4 % 3 * 4 + t.val % 4] ∧ win0_3.index t = ![t.val / 12, 0, 24 + t.val / 4 % 3 * 4 + t.val % 4]
    ∧ win0_4.index t = ![t.val / 12, 0, t.val % 4] ∧ win0_5.index t = ![t.val / 12, 0, t.val % 4] ∧ win0_6.index t = ![t.val / 12, 0, t.val % 4]
    ∧ win0_7.index t = ![t.val / 12, 0, t.val / 4 % 3 * 4 + t.val % 4] ∧ win0_8.index t = ![t.val / 12, 0, t.val / 4 % 3 * 4 + t.val % 4]
    ∧ win0_9.index t = ![t.val / 12, 0, t.val / 4 % 3 * 4 + t.val % 4] :=
  (by decide +kernel : ∀ t : Fin grid0.N, _)

/-- A step's batch row, group and two heads. -/
abbrev bT (t : Fin cfg0.N) : Fin 2 := ⟨t.val / 12, by have := t.isLt; have : cfg0.N = 24 := N_0; omega⟩
abbrev gT (t : Fin cfg0.N) : Fin 3 := ⟨t.val / 4 % 3, by omega⟩
abbrev hT (t : Fin cfg0.N) (hh : Fin 2) : Fin 8 := ⟨2 * (t.val % 4) + hh.val, by omega⟩
section
variable (m : (ℓ : Loc nD τ sig) → Buf (Elt Ideal) ℓ) (c : Dev nD) (t : Fin cfg0.N)
abbrev cq (s : ℕ) (t : Fin cfg0.N) (d : Fin 128) (hs : s < 3) : Fin 8704 := ⟨(s * 12 + t.val / 4 % 3 * 4 + t.val % 4) * 128 + d.val, by omega⟩
abbrev c5 (t : Fin cfg0.N) (d : Fin 128) : Fin 512 := ⟨t.val % 4 * 128 + d.val, by omega⟩
theorem b1 (s : Fin 2048) (d : Fin 128) : iblk m c 1 t (ix3 0 s d) = m ((c.tc : Thread nD τ).loc main_arg0) (ix3 (bT t) s (cq 0 t d (by decide))) := by
  rw [← V_a0 m c]
  blk_point [iblk, idx t]
theorem b2 (s : Fin 2048) (d : Fin 128) : iblk m c 2 t (ix3 0 s d) = m ((c.tc : Thread nD τ).loc main_arg0) (ix3 (bT t) s (cq 1 t d (by decide))) := by
  rw [← V_a0 m c]
  blk_point [iblk, idx t]
theorem b3 (s : Fin 2048) (d : Fin 128) : iblk m c 3 t (ix3 0 s d) = m ((c.tc : Thread nD τ).loc main_arg0) (ix3 (bT t) s (cq 2 t d (by decide))) := by
  rw [← V_a0 m c]
  blk_point [iblk, idx t]
theorem b4 (s : Fin 2048) (d : Fin 128) : iblk m c 4 t (ix3 0 s d) = m ((c.tc : Thread nD τ).loc main_arg1) (ix3 (bT t) s (c5 t d)) := by
  rw [← V_a1 m c]
  blk_point [iblk, idx t]
theorem r5 (X : Vec Ideal S2x2048x512 .f32) (s : Fin 2048) (d : Fin 128) : View.read (Elt Ideal) ((cfg0.win 5).blk t).view X (ix3 0 s d) = X (ix3 (bT t) s (c5 t d)) := by
  blk_point [idx t]
theorem b5 (s : Fin 2048) (d : Fin 128) : iblk m c 5 t (ix3 0 s d) = k_v102 (m ((c.tc : Thread nD τ).loc main_arg0)) (ix3 (bT t) s (c5 t d)) := by
  rw [← V_v102 m c]
  unfold iblk
  generalize V m c main_v102 = X
  exact r5 t X s d
theorem r6 (X : Vec Ideal S2x2048x512 .f32) (s : Fin 2048) (d : Fin 128) : View.read (Elt Ideal) ((cfg0.win 6).blk t).view X (ix3 0 s d) = X (ix3 (bT t) s (c5 t d)) := by
  blk_point [idx t]
theorem b6 (s : Fin 2048) (d : Fin 128) : iblk m c 6 t (ix3 0 s d) = k_v106 (m ((c.tc : Thread nD τ).loc main_arg0)) (m ((c.tc : Thread nD τ).loc main_arg1)) (ix3 (bT t) s (c5 t d)) := by
  rw [← V_v106 m c]
  unfold iblk
  generalize V m c main_v106 = X
  exact r6 t X s d
theorem b0 (j : Fin 24) : iblk m c 0 t (ix1 j) = k_cst_1 (ix1 j) := by
  rw [← V_cst_1 m c]
  blk_point [iblk, idx t]
end

end Cert.KernelIdeal.Value
-- ==== Proof.KFin.lean ====
module
public import proofs.«01_k».proof.Proof.Gen.KernelIdeal.Value
public import proofs.«01_k».proof.Proof.Blk
public import Idealize.ShloMosaic.Lib.Pipeline.ReadBack
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

def at3 {α β γ : Type} (f : α → β → γ → EReal) (a : α) (b : β) (c : γ) : EReal := f a b c
theorem at3_congr {α β γ : Type} (f : α → β → γ → EReal) {a a' : α} {b b' : β} {c c' : γ} (h1 : a = a') (h2 : b = b') (h3 : c = c') : at3 f a b c = at3 f a' b' c' := by
  rw [h1, h2, h3]
abbrev jC (t : Fin cfg0.N) (y : Fin 128) : Fin 1536 := ⟨(t.val / 4 % 3 * 4 + t.val % 4) * 128 + y.val, by omega⟩
/-- The group, head and feature of one of the 1536 columns. -/
abbrev gC (j : Fin 1536) : Fin 3 := ⟨j.val / 512, by omega⟩
abbrev hC (j : Fin 1536) : Fin 8 := ⟨j.val % 512 / 64, by omega⟩
abbrev eC (j : Fin 1536) : Fin 64 := ⟨j.val % 64, by omega⟩
theorem cst1_at (j : Fin 24) : k_cst_1 (ix1 j) = Ideal.ofBits .f32 (lit3 j) := by
  fin_cases j <;> rfl
section
variable (m : (ℓ : Loc nD τ sig) → Buf (Elt Ideal) ℓ) (c : Dev nD) (p : S2x2048x8704.Idx → ℝ) (dd : S2x2048x512.Idx → ℝ)
  (hP : m ((c.tc : Thread nD τ).loc main_arg0) = cP p) (hD : m ((c.tc : Thread nD τ).loc main_arg1) = cD dd)
section
variable (t : Fin cfg0.N)
include hP
theorem hq_at (s : Fin 2048) (d : Fin 128) : iblk m c 1 t (ix3 0 s d) = (bQ p (bT t) (gT t) (hT t) 0 s.val d : EReal) := by
  rw [b1, hP]
  unfold bQ qkv
  rw [lift_val]
  refine congrArg (fun z => (p (ix3 (bT t) s z) : EReal)) (Fin.ext ?_)
  show (0 * 12 + t.val / 4 % 3 * 4 + t.val % 4) * 128 + d.val = 0 * 1536 + (t.val / 4 % 3 * 512 + (2 * (t.val % 4) + d.val / 64) * 64 + d.val % 64)
  omega
theorem hk_at (s : Fin 2048) (d : Fin 128) : iblk m c 2 t (ix3 0 s d) = (bQ p (bT t) (gT t) (hT t) 1 s.val d : EReal) := by
  rw [b2, hP]
  unfold bQ qkv
  rw [lift_val]
  refine congrArg (fun z => (p (ix3 (bT t) s z) : EReal)) (Fin.ext ?_)
  show (1 * 12 + t.val / 4 % 3 * 4 + t.val % 4) * 128 + d.val = 1 * 1536 + (t.val / 4 % 3 * 512 + (2 * (t.val % 4) + d.val / 64) * 64 + d.val % 64)
  omega
theorem hv_at (s : Fin 2048) (d : Fin 128) : iblk m c 3 t (ix3 0 s d) = (bQ p (bT t) (gT t) (hT t) 2 s.val d : EReal) := by
  rw [b3, hP]
  unfold bQ qkv
  rw [lift_val]
  refine congrArg (fun z => (p (ix3 (bT t) s z) : EReal)) (Fin.ext ?_)
  show (2 * 12 + t.val / 4 % 3 * 4 + t.val % 4) * 128 + d.val = 2 * 1536 + (t.val / 4 % 3 * 512 + (2 * (t.val % 4) + d.val / 64) * 64 + d.val % 64)
  omega
theorem hl_at (s : Fin 2048) (d : Fin 128) : iblk m c 5 t (ix3 0 s d) = (bL p (bT t) (hT t) (headOf d) s.val : EReal) := by
  rw [b5, hP, lsev]
  unfold bL
  rw [lift_val]
  refine congrArg (fun z => (LS p (bT t) z s : EReal)) (Fin.ext ?_)
  show (t.val % 4 * 128 + d.val) / 64 = 2 * (t.val % 4) + d.val / 64
  omega
include hD
theorem hd_at (s : Fin 2048) (d : Fin 128) : iblk m c 6 t (ix3 0 s d) = (bD p dd (bT t) (hT t) (headOf d) s.val : EReal) := by
  rw [b6, hP, hD, dsumv]
  unfold bD
  rw [lift_val]
  refine congrArg (fun z => (DS p dd (bT t) z s : EReal)) (Fin.ext ?_)
  show (t.val % 4 * 128 + d.val) / 64 = 2 * (t.val % 4) + d.val / 64
  omega
omit hP in
theorem hdo_at (s : Fin 2048) (d : Fin 128) : iblk m c 4 t (ix3 0 s d) = (bC dd (bT t) (hT t) s.val d : EReal) := by
  rw [b4, hD]
  unfold bC ct
  rw [lift_val]
  refine congrArg (fun z => (dd (ix3 (bT t) s z) : EReal)) (Fin.ext ?_)
  show t.val % 4 * 128 + d.val = (2 * (t.val % 4) + d.val / 64) * 64 + d.val % 64
  omega
omit hP hD
theorem hsA (h0 : t.val / 4 % 3 = 0) (h : Fin 2) : slp1 t (iblk m c 0 t) h = ((bS (gT t) (hT t) h * ((1 : ℕ) : ℝ) : ℝ) : EReal) := by
  have hr : rad (gT t) = 1 := by rw [show gT t = 0 from Fin.ext h0]
  rw [slp1_eq, b0, cst1_at]
  refine Eq.trans ?_ ((slR3_at (gT t) (hT t h)).trans ?_)
  · refine congrArg (fun z => Ideal.ofBits .f32 (lit3 z)) (Fin.ext ?_)
    show 0 + 2 * (t.val % 4) + h.val = t.val / 4 % 3 * 8 + (2 * (t.val % 4) + h.val)
    omega
  · rw [hr]; rfl
theorem hsB (h0 : t.val / 4 % 3 = 1) (h : Fin 2) : slp2 t (iblk m c 0 t) h = ((bS (gT t) (hT t) h * ((4 : ℕ) : ℝ) : ℝ) : EReal) := by
  have hr : rad (gT t) = 4 := by rw [show gT t = 1 from Fin.ext h0]
  rw [slp2_eq, b0, cst1_at]
  refine Eq.trans ?_ ((slR3_at (gT t) (hT t h)).trans ?_)
  · refine congrArg (fun z => Ideal.ofBits .f32 (lit3 z)) (Fin.ext ?_)
    show 8 + 2 * (t.val % 4) + h.val = t.val / 4 % 3 * 8 + (2 * (t.val % 4) + h.val)
    omega
  · rw [hr]; rfl
theorem hsC (h0 : t.val / 4 % 3 = 2) (h : Fin 2) : slp3 t (iblk m c 0 t) h = ((bS (gT t) (hT t) h * ((16 : ℕ) : ℝ) : ℝ) : EReal) := by
  have hr : rad (gT t) = 16 := by rw [show gT t = 2 from Fin.ext h0]
  rw [slp3_eq, b0, cst1_at]
  refine Eq.trans ?_ ((slR3_at (gT t) (hT t h)).trans ?_)
  · refine congrArg (fun z => Ideal.ofBits .f32 (lit3 z)) (Fin.ext ?_)
    show 16 + 2 * (t.val % 4) + h.val = t.val / 4 % 3 * 8 + (2 * (t.val % 4) + h.val)
    omega
  · rw [hr]; rfl
include hP hD
theorem dq_at (s : Fin 2048) (d : Fin 128) : (outsAt0 m c t.val t.isLt).1 (ix3 0 s d) = (DQ p dd (bT t) s (gT t) (hT t (headOf d)) (eF d) : EReal) := by
  have ht : t.val / 4 % 3 < 3 := Nat.mod_lt _ (by decide)
  rw [← dqt_DQ p dd (bT t) (gT t) (hT t) s d]
  rcases (by omega : t.val / 4 % 3 = 0 ∨ t.val / 4 % 3 = 1 ∨ t.val / 4 % 3 = 2) with h | h | h
  · rw [show rad (gT t) = 1 by rw [show gT t = 0 from Fin.ext h]]
    exact outA0 m c t h (by omega) (by omega) (bQ p (bT t) (gT t) (hT t) 0) (bQ p (bT t) (gT t) (hT t) 1) (bQ p (bT t) (gT t) (hT t) 2) (bC dd (bT t) (hT t)) (bS (gT t) (hT t)) (bL p (bT t) (hT t)) (bD p dd (bT t) (hT t)) (hsA m c t h) (hq_at m c p hP t) (hk_at m c p hP t) (hv_at m c p hP t) (hdo_at m c dd hD t) (hl_at m c p hP t) (hd_at m c p dd hP hD t) s d
  · rw [show rad (gT t) = 4 by rw [show gT t = 1 from Fin.ext h]]
    exact outB0 m c t (by omega) h (by omega) (bQ p (bT t) (gT t) (hT t) 0) (bQ p (bT t) (gT t) (hT t) 1) (bQ p (bT t) (gT t) (hT t) 2) (bC dd (bT t) (hT t)) (bS (gT t) (hT t)) (bL p (bT t) (hT t)) (bD p dd (bT t) (hT t)) (hsB m c t h) (hq_at m c p hP t) (hk_at m c p hP t) (hv_at m c p hP t) (hdo_at m c dd hD t) (hl_at m c p hP t) (hd_at m c p dd hP hD t) s d
  · rw [show rad (gT t) = 16 by rw [show gT t = 2 from Fin.ext h]]
    exact outC0 m c t (by omega) (by omega) h (bQ p (bT t) (gT t) (hT t) 0) (bQ p (bT t) (gT t) (hT t) 1) (bQ p (bT t) (gT t) (hT t) 2) (bC dd (bT t) (hT t)) (bS (gT t) (hT t)) (bL p (bT t) (hT t)) (bD p dd (bT t) (hT t)) (hsC m c t h) (hq_at m c p hP t) (hk_at m c p hP t) (hv_at m c p hP t) (hdo_at m c dd hD t) (hl_at m c p hP t) (hd_at m c p dd hP hD t) s d
theorem dk_at (s : Fin 2048) (d : Fin 128) : (outsAt0 m c t.val t.isLt).2.1 (ix3 0 s d) = (DK p dd (bT t) s (gT t) (hT t (headOf d)) (eF d) : EReal) := by
  have ht : t.val / 4 % 3 < 3 := Nat.mod_lt _ (by decide)
  rw [← dkt_DK p dd (bT t) (gT t) (hT t) s d]
  rcases (by omega : t.val / 4 % 3 = 0 ∨ t.val / 4 % 3 = 1 ∨ t.val / 4 % 3 = 2) with h | h | h
  · rw [show rad (gT t) = 1 by rw [show gT t = 0 from Fin.ext h]]
    exact outA1 m c t h (by omega) (by omega) (bQ p (bT t) (gT t) (hT t) 0) (bQ p (bT t) (gT t) (hT t) 1) (bQ p (bT t) (gT t) (hT t) 2) (bC dd (bT t) (hT t)) (bS (gT t) (hT t)) (bL p (bT t) (hT t)) (bD p dd (bT t) (hT t)) (hsA m c t h) (hq_at m c p hP t) (hk_at m c p hP t) (hv_at m c p hP t) (hdo_at m c dd hD t) (hl_at m c p hP t) (hd_at m c p dd hP hD t) s d
  · rw [show rad (gT t) = 4 by rw [show gT t = 1 from Fin.ext h]]
    exact outB1 m c t (by omega) h (by omega) (bQ p (bT t) (gT t) (hT t) 0) (bQ p (bT t) (gT t) (hT t) 1) (bQ p (bT t) (gT t) (hT t) 2) (bC dd (bT t) (hT t)) (bS (gT t) (hT t)) (bL p (bT t) (hT t)) (bD p dd (bT t) (hT t)) (hsB m c t h) (hq_at m c p hP t) (hk_at m c p hP t) (hv_at m c p hP t) (hdo_at m c dd hD t) (hl_at m c p hP t) (hd_at m c p dd hP hD t) s d
  · rw [show rad (gT t) = 16 by rw [show gT t = 2 from Fin.ext h]]
    exact outC1 m c t (by omega) (by omega) h (bQ p (bT t) (gT t) (hT t) 0) (bQ p (bT t) (gT t) (hT t) 1) (bQ p (bT t) (gT t) (hT t) 2) (bC dd (bT t) (hT t)) (bS (gT t) (hT t)) (bL p (bT t) (hT t)) (bD p dd (bT t) (hT t)) (hsC m c t h) (hq_at m c p hP t) (hk_at m c p hP t) (hv_at m c p hP t) (hdo_at m c dd hD t) (hl_at m c p hP t) (hd_at m c p dd hP hD t) s d
theorem dv_at (s : Fin 2048) (d : Fin 128) : (outsAt0 m c t.val t.isLt).2.2 (ix3 0 s d) = (DV p dd (bT t) s (gT t) (hT t (headOf d)) (eF d) : EReal) := by
  have ht : t.val / 4 % 3 < 3 := Nat.mod_lt _ (by decide)
  rw [← dvt_DV p dd (bT t) (gT t) (hT t) s d]
  rcases (by omega : t.val / 4 % 3 = 0 ∨ t.val / 4 % 3 = 1 ∨ t.val / 4 % 3 = 2) with h | h | h
  · rw [show rad (gT t) = 1 by rw [show gT t = 0 from Fin.ext h]]
    exact outA2 m c t h (by omega) (by omega) (bQ p (bT t) (gT t) (hT t) 0) (bQ p (bT t) (gT t) (hT t) 1) (bC dd (bT t) (hT t)) (bS (gT t) (hT t)) (bL p (bT t) (hT t)) (hsA m c t h) (hq_at m c p hP t) (hk_at m c p hP t) (hdo_at m c dd hD t) (hl_at m c p hP t) s d
  · rw [show rad (gT t) = 4 by rw [show gT t = 1 from Fin.ext h]]
    exact outB2 m c t (by omega) h (by omega) (bQ p (bT t) (gT t) (hT t) 0) (bQ p (bT t) (gT t) (hT t) 1) (bC dd (bT t) (hT t)) (bS (gT t) (hT t)) (bL p (bT t) (hT t)) (hsB m c t h) (hq_at m c p hP t) (hk_at m c p hP t) (hdo_at m c dd hD t) (hl_at m c p hP t) s d
  · rw [show rad (gT t) = 16 by rw [show gT t = 2 from Fin.ext h]]
    exact outC2 m c t (by omega) (by omega) h (bQ p (bT t) (gT t) (hT t) 0) (bQ p (bT t) (gT t) (hT t) 1) (bC dd (bT t) (hT t)) (bS (gT t) (hT t)) (bL p (bT t) (hT t)) (hsC m c t h) (hq_at m c p hP t) (hk_at m c p hP t) (hdo_at m c dd hD t) (hl_at m c p hP t) s d
end
/-- A result array, as real numbers. -/
def G7 (p : S2x2048x8704.Idx → ℝ) (dd : S2x2048x512.Idx → ℝ) : S2x2048x1536.Idx → EReal := fun i =>
  (DQ p dd (i 0) (i 1) (gC (i 2)) (hC (i 2)) (eC (i 2)) : EReal)
include hP hD in
theorem final_7 : (dats m 0 c).arrAt 7 cfg0.N = G7 p dd :=
  (dats m 0 c).arrAt_eq_of_covers 7 (G7 p dd) (by decide +kernel) fun t hf y => by
    blk_simp
    rw [after0_7]
    idx_vars y
    obtain rfl : y0 = 0 := Subsingleton.elim _ _
    refine (dq_at m c p dd hP hD t y1 y2).trans ?_
    have e1 : gT t = gC (jC t y2) := Fin.ext (by show t.val / 4 % 3 = ((t.val / 4 % 3 * 4 + t.val % 4) * 128 + y2.val) / 512; omega)
    have e2 : hT t (headOf y2) = hC (jC t y2) := Fin.ext (by show 2 * (t.val % 4) + y2.val / 64 = ((t.val / 4 % 3 * 4 + t.val % 4) * 128 + y2.val) % 512 / 64; omega)
    have e3 : eF y2 = eC (jC t y2) := Fin.ext (by show y2.val % 64 = ((t.val / 4 % 3 * 4 + t.val % 4) * 128 + y2.val) % 64; omega)
    rw [e1, e2, e3]
    show at3 (fun b s j => (DQ p dd b s (gC j) (hC j) (eC j) : EReal)) (bT t) y1 (jC t y2) = at3 (fun b s j => (DQ p dd b s (gC j) (hC j) (eC j) : EReal)) _ _ _
    refine at3_congr _ (Fin.ext ?_) (Fin.ext ?_) (Fin.ext ?_)
    · blk_simp [idx t]
      rfl
    · blk_simp [idx t]
    · blk_simp [idx t]
/-- A result array, as real numbers. -/
def G8 (p : S2x2048x8704.Idx → ℝ) (dd : S2x2048x512.Idx → ℝ) : S2x2048x1536.Idx → EReal := fun i =>
  (DK p dd (i 0) (i 1) (gC (i 2)) (hC (i 2)) (eC (i 2)) : EReal)
include hP hD in
theorem final_8 : (dats m 0 c).arrAt 8 cfg0.N = G8 p dd :=
  (dats m 0 c).arrAt_eq_of_covers 8 (G8 p dd) (by decide +kernel) fun t hf y => by
    blk_simp
    rw [after0_8]
    idx_vars y
    obtain rfl : y0 = 0 := Subsingleton.elim _ _
    refine (dk_at m c p dd hP hD t y1 y2).trans ?_
    have e1 : gT t = gC (jC t y2) := Fin.ext (by show t.val / 4 % 3 = ((t.val / 4 % 3 * 4 + t.val % 4) * 128 + y2.val) / 512; omega)
    have e2 : hT t (headOf y2) = hC (jC t y2) := Fin.ext (by show 2 * (t.val % 4) + y2.val / 64 = ((t.val / 4 % 3 * 4 + t.val % 4) * 128 + y2.val) % 512 / 64; omega)
    have e3 : eF y2 = eC (jC t y2) := Fin.ext (by show y2.val % 64 = ((t.val / 4 % 3 * 4 + t.val % 4) * 128 + y2.val) % 64; omega)
    rw [e1, e2, e3]
    show at3 (fun b s j => (DK p dd b s (gC j) (hC j) (eC j) : EReal)) (bT t) y1 (jC t y2) = at3 (fun b s j => (DK p dd b s (gC j) (hC j) (eC j) : EReal)) _ _ _
    refine at3_congr _ (Fin.ext ?_) (Fin.ext ?_) (Fin.ext ?_)
    · blk_simp [idx t]
      rfl
    · blk_simp [idx t]
    · blk_simp [idx t]
/-- A result array, as real numbers. -/
def G9 (p : S2x2048x8704.Idx → ℝ) (dd : S2x2048x512.Idx → ℝ) : S2x2048x1536.Idx → EReal := fun i =>
  (DV p dd (i 0) (i 1) (gC (i 2)) (hC (i 2)) (eC (i 2)) : EReal)
include hP hD in
theorem final_9 : (dats m 0 c).arrAt 9 cfg0.N = G9 p dd :=
  (dats m 0 c).arrAt_eq_of_covers 9 (G9 p dd) (by decide +kernel) fun t hf y => by
    blk_simp
    rw [after0_9]
    idx_vars y
    obtain rfl : y0 = 0 := Subsingleton.elim _ _
    refine (dv_at m c p dd hP hD t y1 y2).trans ?_
    have e1 : gT t = gC (jC t y2) := Fin.ext (by show t.val / 4 % 3 = ((t.val / 4 % 3 * 4 + t.val % 4) * 128 + y2.val) / 512; omega)
    have e2 : hT t (headOf y2) = hC (jC t y2) := Fin.ext (by show 2 * (t.val % 4) + y2.val / 64 = ((t.val / 4 % 3 * 4 + t.val % 4) * 128 + y2.val) % 512 / 64; omega)
    have e3 : eF y2 = eC (jC t y2) := Fin.ext (by show y2.val % 64 = ((t.val / 4 % 3 * 4 + t.val % 4) * 128 + y2.val) % 64; omega)
    rw [e1, e2, e3]
    show at3 (fun b s j => (DV p dd b s (gC j) (hC j) (eC j) : EReal)) (bT t) y1 (jC t y2) = at3 (fun b s j => (DV p dd b s (gC j) (hC j) (eC j) : EReal)) _ _ _
    refine at3_congr _ (Fin.ext ?_) (Fin.ext ?_) (Fin.ext ?_)
    · blk_simp [idx t]
      rfl
    · blk_simp [idx t]
    · blk_simp [idx t]
end

end Cert.KernelIdeal.Value
-- ==== Proof.RefM.lean ====
module
public import proofs.«01_k».proof.Proof.Gen.ReferenceIdeal.Run
public import proofs.«01_k».proof.Proof.KFin
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Idealize.ShloMosaic.StableHlo
open Cert.KernelIdeal.Value (hcol gC hC eC k_v1 k_v3 k_v5 k_call0_v1 k_v43 k_v44 k_v45 k_v48 k_v49 k_v50 k_v51 k_v53 k_v56)
/-- The head of a column. -/
abbrev hR (j : Fin 1536) : Fin 8 := ⟨j.val / 64 % 8, by omega⟩
def s65 (x64 : FVec Ideal S2x3x8x2048 .f32) : FVec Ideal S2x8x2048 .f32 :=
  Host.reduce FloatOps.maximumf x64 (constant S_ .f32 0xFF800000#32) reducesTo_S2x3x8x2048_S2x8x2048_d1 h_S_
theorem s65_at (x64 : FVec Ideal S2x3x8x2048 .f32) (i : Fin 2) (h : Fin 8) (t : Fin 2048) : s65 x64 (ix3 i h t) = Finset.univ.fold max (Ideal.ofBits .f32 0xFF800000#32) fun g => x64 (ix4 i g h t) := by
  pointwise [s65]

def s85 (x64 : FVec Ideal S2x3x8x2048 .f32) (x65 : FVec Ideal S2x8x2048 .f32) : FVec Ideal S2x3x8x2048 .f32 :=
  Host.exp (subf x64 (broadcastInDim S2x3x8x2048 ![0, 1, 2, 3] bcast_S2x1x8x2048_S2x3x8x2048_0_1_2_3 (broadcastInDim S2x1x8x2048 ![0, 2, 3] bcast_S2x8x2048_S2x1x8x2048_0_2_3 (maximumf (broadcastInDim S2x8x2048 ![] bcast_S_S2x8x2048 (constant S_ .f32 0xFF800000#32)) x65))))
theorem s85_at (x64 : FVec Ideal S2x3x8x2048 .f32) (x65 : FVec Ideal S2x8x2048 .f32) (i : Fin 2) (g : Fin 3) (h : Fin 8) (t : Fin 2048) : s85 x64 x65 (ix4 i g h t) = Ideal.exp (x64 (ix4 i g h t) - max (Ideal.ofBits .f32 0xFF800000#32) (x65 (ix3 i h t))) := by
  pointwise [s85]

def s87 (x85 : FVec Ideal S2x3x8x2048 .f32) : FVec Ideal S2x1x8x2048 .f32 :=
  broadcastInDim S2x1x8x2048 ![0, 2, 3] bcast_S2x8x2048_S2x1x8x2048_0_2_3 (Host.reduceAdd x85 (constant S_ .f32 0x00000000#32) reducesTo_S2x3x8x2048_S2x8x2048_d1 h_S_)
theorem s87_at (x85 : FVec Ideal S2x3x8x2048 .f32) (i : Fin 2) (h : Fin 8) (t : Fin 2048) : s87 x85 (ix4 i 0 h t) = ∑ g, x85 (ix4 i g h t) := by
  pointwise [s87]

def s93 (x85 : FVec Ideal S2x3x8x2048 .f32) (x87 : FVec Ideal S2x1x8x2048 .f32) : FVec Ideal S2x3x8x2048x1 .f32 :=
  broadcastInDim S2x3x8x2048x1 ![0, 1, 2, 3] bcast_S2x3x8x2048_S2x3x8x2048x1_0_1_2_3 (Host.divf x85 (broadcastInDim S2x3x8x2048 ![0, 1, 2, 3] bcast_S2x1x8x2048_S2x3x8x2048_0_1_2_3 x87))
theorem s93_at (x85 : FVec Ideal S2x3x8x2048 .f32) (x87 : FVec Ideal S2x1x8x2048 .f32) (i : Fin 2) (g : Fin 3) (h : Fin 8) (t : Fin 2048) : s93 x85 x87 (ix5 i g h t 0) = Ideal.div (x85 (ix4 i g h t)) (x87 (ix4 i 0 h t)) := by
  pointwise [s93]

def s101 (D : FVec Ideal S2x2048x512 .f32) : FVec Ideal S2x3x8x2048x64 .f32 :=
  broadcastInDim S2x3x8x2048x64 ![0, 2, 3, 4] bcast_S2x8x2048x64_S2x3x8x2048x64_0_2_3_4 (transpose S2x8x2048x64 [0, 2, 1, 3] (shapeCast _ D shapeCasts_S2x2048x512_S2x2048x8x64) transposes_S2x2048x8x64_S2x8x2048x64_0_2_1_3)
theorem s101_at (D : FVec Ideal S2x2048x512 .f32) (i : Fin 2) (g : Fin 3) (h : Fin 8) (t : Fin 2048) (e : Fin 64) : s101 D (ix5 i g h t e) = D (ix3 i t (hcol h e)) := by
  pointwise [s101]

def s103 (x93 : FVec Ideal S2x3x8x2048x1 .f32) (x101 : FVec Ideal S2x3x8x2048x64 .f32) : FVec Ideal S2x3x8x2048x64 .f32 :=
  mulf (broadcastInDim S2x3x8x2048x64 ![0, 1, 2, 3, 4] bcast_S2x3x8x2048x1_S2x3x8x2048x64_0_1_2_3_4 x93) x101
theorem s103_at (x93 : FVec Ideal S2x3x8x2048x1 .f32) (x101 : FVec Ideal S2x3x8x2048x64 .f32) (i : Fin 2) (g : Fin 3) (h : Fin 8) (t : Fin 2048) (e : Fin 64) : s103 x93 x101 (ix5 i g h t e) = x93 (ix5 i g h t 0) * x101 (ix5 i g h t e) := by
  pointwise [s103]

def s107 (x101 : FVec Ideal S2x3x8x2048x64 .f32) (x58 : FVec Ideal S2x3x8x2048x64 .f32) : FVec Ideal S2x3x8x2048 .f32 :=
  Host.reduceAdd (shapeCast _ (Host.reduceAdd (mulf x101 x58) (constant S_ .f32 0x00000000#32) reducesTo_S2x3x8x2048x64_S2x3x8x2048_d4 h_S_) shapeCasts_S2x3x8x2048_S2x3x8x2048x1) (constant S_ .f32 0x00000000#32) reducesTo_S2x3x8x2048x1_S2x3x8x2048_d4 h_S_
theorem s107_at (x101 : FVec Ideal S2x3x8x2048x64 .f32) (x58 : FVec Ideal S2x3x8x2048x64 .f32) (i : Fin 2) (g : Fin 3) (h : Fin 8) (t : Fin 2048) : s107 x101 x58 (ix4 i g h t) = ∑ _z : Fin 1, ∑ e, x101 (ix5 i g h t e) * x58 (ix5 i g h t e) := by
  pointwise [s107]

def s119 (x107 : FVec Ideal S2x3x8x2048 .f32) (x87 : FVec Ideal S2x1x8x2048 .f32) (x85 : FVec Ideal S2x3x8x2048 .f32) : FVec Ideal S2x3x8x2048 .f32 :=
  mulf (addf (Host.divf x107 (broadcastInDim S2x3x8x2048 ![0, 1, 2, 3] bcast_S2x1x8x2048_S2x3x8x2048_0_1_2_3 x87)) (broadcastInDim S2x3x8x2048 ![0, 2, 3] bcast_S2x8x2048_S2x3x8x2048_0_2_3 (Host.reduceAdd (Host.negf (shapeCast _ (Host.reduceAdd (mulf (mulf x107 (broadcastInDim S2x3x8x2048 ![0, 1, 2, 3] bcast_S2x1x8x2048_S2x3x8x2048_0_1_2_3 (Host.divf (broadcastInDim S2x1x8x2048 ![] bcast_S_S2x1x8x2048 (constant S_ .f32 0x3F800000#32)) (mulf x87 x87)))) x85) (constant S_ .f32 0x00000000#32) reducesTo_S2x3x8x2048_S2x8x2048_d1 h_S_) shapeCasts_S2x8x2048_S2x1x8x2048)) (constant S_ .f32 0x00000000#32) reducesTo_S2x1x8x2048_S2x8x2048_d1 h_S_))) x85
theorem s119_at (x107 : FVec Ideal S2x3x8x2048 .f32) (x87 : FVec Ideal S2x1x8x2048 .f32) (x85 : FVec Ideal S2x3x8x2048 .f32) (i : Fin 2) (g : Fin 3) (h : Fin 8) (t : Fin 2048) : s119 x107 x87 x85 (ix4 i g h t) = (Ideal.div (x107 (ix4 i g h t)) (x87 (ix4 i 0 h t)) + ∑ _z : Fin 1, -∑ k, x107 (ix4 i k h t) * Ideal.div 1 (x87 (ix4 i 0 h t) * x87 (ix4 i 0 h t)) * x85 (ix4 i k h t)) * x85 (ix4 i g h t) := by
  pointwise [s119]

def s129 (x103 : FVec Ideal S2x3x8x2048x64 .f32) (x56 : FVec Ideal S2x3x8x2048x1 .f32) : FVec Ideal S2x3x8x2048x64 .f32 :=
  Host.divf x103 (broadcastInDim S2x3x8x2048x64 ![0, 1, 2, 3, 4] bcast_S2x3x8x2048x1_S2x3x8x2048x64_0_1_2_3_4 x56)
theorem s129_at (x103 : FVec Ideal S2x3x8x2048x64 .f32) (x56 : FVec Ideal S2x3x8x2048x1 .f32) (i : Fin 2) (g : Fin 3) (h : Fin 8) (t : Fin 2048) (e : Fin 64) : s129 x103 x56 (ix5 i g h t e) = Ideal.div (x103 (ix5 i g h t e)) (x56 (ix5 i g h t 0)) := by
  pointwise [s129]

def s137 (x129 : FVec Ideal S2x3x8x2048x64 .f32) (x5 : FVec Ideal S2x2048x3x8x64 .f32) (x119 : FVec Ideal S2x3x8x2048 .f32) (x54 : FVec Ideal S2x3x8x2048 .f32) (x103 : FVec Ideal S2x3x8x2048x64 .f32) (x56 : FVec Ideal S2x3x8x2048x1 .f32) (x55 : FVec Ideal S2x3x8x2048x64 .f32) (x53 : FVec Ideal S2x3x8x2048x2048 .f32) : FVec Ideal S2x3x8x2048x2048 .f32 :=
  mulf (addf (Host.dotGeneral dot_S2x3x8x2048x64_S2x2048x3x8x64_S2x3x8x2048x2048_4_4_3_1_012_023 none x129 x5) (broadcastInDim S2x3x8x2048x2048 ![0, 1, 2, 3] bcast_S2x3x8x2048_S2x3x8x2048x2048_0_1_2_3 (addf (Host.divf x119 x54) (Host.reduceAdd (Host.negf (shapeCast _ (Host.reduceAdd (mulf (mulf x103 (broadcastInDim S2x3x8x2048x64 ![0, 1, 2, 3, 4] bcast_S2x3x8x2048x1_S2x3x8x2048x64_0_1_2_3_4 (Host.divf (broadcastInDim S2x3x8x2048x1 ![] bcast_S_S2x3x8x2048x1 (constant S_ .f32 0x3F800000#32)) (mulf x56 x56)))) x55) (constant S_ .f32 0x00000000#32) reducesTo_S2x3x8x2048x64_S2x3x8x2048_d4 h_S_) shapeCasts_S2x3x8x2048_S2x3x8x2048x1)) (constant S_ .f32 0x00000000#32) reducesTo_S2x3x8x2048x1_S2x3x8x2048_d4 h_S_)))) x53
theorem s137_at (x129 : FVec Ideal S2x3x8x2048x64 .f32) (x5 : FVec Ideal S2x2048x3x8x64 .f32) (x119 : FVec Ideal S2x3x8x2048 .f32) (x54 : FVec Ideal S2x3x8x2048 .f32) (x103 : FVec Ideal S2x3x8x2048x64 .f32) (x56 : FVec Ideal S2x3x8x2048x1 .f32) (x55 : FVec Ideal S2x3x8x2048x64 .f32) (x53 : FVec Ideal S2x3x8x2048x2048 .f32) (i : Fin 2) (g : Fin 3) (h : Fin 8) (t : Fin 2048) (u : Fin 2048) : s137 x129 x5 x119 x54 x103 x56 x55 x53 (ix5 i g h t u) = ((∑ e, x129 (ix5 i g h t e) * x5 (ix5 i u g h e)) + (Ideal.div (x119 (ix4 i g h t)) (x54 (ix4 i g h t)) + ∑ _z : Fin 1, -∑ e, x103 (ix5 i g h t e) * Ideal.div 1 (x56 (ix5 i g h t 0) * x56 (ix5 i g h t 0)) * x55 (ix5 i g h t e))) * x53 (ix5 i g h t u) := by
  pointwise [s137]

def s48 (x43_0 : FVec Ideal S2x3x8x2048x2048 .f32) (x44 : FVec Ideal S2x3x8x2048 .f32) : FVec Ideal S2x3x8x2048x2048 .f32 :=
  uitofp .f32 (cmpf .oeq x43_0 (broadcastInDim S2x3x8x2048x2048 ![0, 1, 2, 3, 4] bcast_S2x3x8x2048x1_S2x3x8x2048x2048_0_1_2_3_4 (shapeCast _ x44 shapeCasts_S2x3x8x2048_S2x3x8x2048x1)))
theorem s48_at (x43_0 : FVec Ideal S2x3x8x2048x2048 .f32) (x44 : FVec Ideal S2x3x8x2048 .f32) (i : Fin 2) (g : Fin 3) (h : Fin 8) (t : Fin 2048) (u : Fin 2048) : s48 x43_0 x44 (ix5 i g h t u) = (FloatOps.uitofp (F := Ideal) .f32 (FloatOps.cmpf .oeq (x43_0 (ix5 i g h t u)) (x44 (ix4 i g h t))) : EReal) := by
  pointwise [s48]

def s149 (x43_1 : IVec S2x3x8x2048x2048 1) (x137 : FVec Ideal S2x3x8x2048x2048 .f32) (x119 : FVec Ideal S2x3x8x2048 .f32) (x48 : FVec Ideal S2x3x8x2048x2048 .f32) : FVec Ideal S2x3x8x2048x2048 .f32 :=
  mulf (select x43_1 (addf x137 (mulf (broadcastInDim S2x3x8x2048x2048 ![0, 1, 2, 3] bcast_S2x3x8x2048_S2x3x8x2048x2048_0_1_2_3 (Host.divf (Host.reduceAdd (addf (broadcastInDim S2x3x8x2048x1 ![0, 1, 2, 3] bcast_S2x3x8x2048_S2x3x8x2048x1_0_1_2_3 x119) (shapeCast _ (Host.reduceAdd (Host.negf x137) (constant S_ .f32 0x00000000#32) reducesTo_S2x3x8x2048x2048_S2x3x8x2048_d4 h_S_) shapeCasts_S2x3x8x2048_S2x3x8x2048x1)) (constant S_ .f32 0x00000000#32) reducesTo_S2x3x8x2048x1_S2x3x8x2048_d4 h_S_) (Host.reduceAdd x48 (constant S_ .f32 0x00000000#32) reducesTo_S2x3x8x2048x2048_S2x3x8x2048_d4 h_S_))) x48)) (broadcastInDim S2x3x8x2048x2048 ![] bcast_S_S2x3x8x2048x2048 (constant S_ .f32 0x00000000#32))) (broadcastInDim S2x3x8x2048x2048 ![] bcast_S_S2x3x8x2048x2048 (constant S_ .f32 0x3E000000#32))
theorem s149_at (x43_1 : IVec S2x3x8x2048x2048 1) (x137 : FVec Ideal S2x3x8x2048x2048 .f32) (x119 : FVec Ideal S2x3x8x2048 .f32) (x48 : FVec Ideal S2x3x8x2048x2048 .f32) (i : Fin 2) (g : Fin 3) (h : Fin 8) (t : Fin 2048) (u : Fin 2048) : s149 x43_1 x137 x119 x48 (ix5 i g h t u) = Scalar.select (x43_1 (ix5 i g h t u)) (x137 (ix5 i g h t u) + Ideal.div (∑ _z : Fin 1, (x119 (ix4 i g h t) + ∑ v, -x137 (ix5 i g h t v))) (∑ v, x48 (ix5 i g h t v)) * x48 (ix5 i g h t u)) (Ideal.ofBits .f32 0x00000000#32) * Ideal.ofBits .f32 0x3E000000#32 := by
  pointwise [s149]

def s162 (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) : FVec Ideal S2x2048x8704 .bf16 :=
  truncf .bf16 (addf (addf (pad S2x2048x8704 ![0, 0, 3072] ![0, 0, 4096] ![0, 0, 0] (shapeCast _ (transpose S2x2048x3x8x64 [0, 4, 1, 2, 3] (Host.dotGeneral dot_S2x3x8x2048x64_S2x3x8x2048x2048_S2x3x8x64x2048_3_3_4_4_012_012 none x129 x53) transposes_S2x3x8x64x2048_S2x2048x3x8x64_0_4_1_2_3) shapeCasts_S2x2048x3x8x64_S2x2048x1536) (constant S_ .f32 0x00000000#32) pads_S2x2048x1536_S2x2048x8704_000_000_307240960 h_S_) (pad S2x2048x8704 ![0, 0, 1536] ![0, 0, 5632] ![0, 0, 0] (shapeCast _ (transpose S2x2048x3x8x64 [0, 3, 1, 2, 4] (Host.dotGeneral dot_S2x3x8x2048x2048_S2x2048x3x8x64_S2x3x8x2048x64_3_1_4_4_012_023 none x149 x1) transposes_S2x3x8x2048x64_S2x2048x3x8x64_0_3_1_2_4) shapeCasts_S2x2048x3x8x64_S2x2048x1536) (constant S_ .f32 0x00000000#32) pads_S2x2048x1536_S2x2048x8704_000_000_153656320 h_S_)) (pad S2x2048x8704 ![0, 0, 0] ![0, 0, 7168] ![0, 0, 0] (shapeCast _ (transpose S2x2048x3x8x64 [0, 3, 1, 2, 4] (Host.dotGeneral dot_S2x3x8x2048x2048_S2x2048x3x8x64_S2x3x8x2048x64_4_1_3_4_012_023 none x149 x3) transposes_S2x3x8x2048x64_S2x2048x3x8x64_0_3_1_2_4) shapeCasts_S2x2048x3x8x64_S2x2048x1536) (constant S_ .f32 0x00000000#32) pads_S2x2048x1536_S2x2048x8704_000_000_071680 h_S_)) bitsLt_bf16_f32
def s163 (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) : FVec Ideal S2x2048x1536 .bf16 := extractStridedSlice S2x2048x1536 ![0, 0, 0] (s162 x129 x53 x149 x1 x3) slices_S2x2048x8704_S2x2048x1536_0_0_0
theorem s163_at (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) (i : Fin 2) (t : Fin 2048) (j : Fin 1536) : s163 x129 x53 x149 x1 x3 (ix3 i t j) = (∑ u, x149 (ix5 i (gC j) (hR j) t u) * x3 (ix5 i u (gC j) (hR j) (eC j)) : EReal) := by
  pointwise [s163, s162]
  rw [dif_neg (by omega), dif_neg (fun h => h.1), zero_add, zero_add]

def s164 (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) : FVec Ideal S2x2048x1536 .bf16 := extractStridedSlice S2x2048x1536 ![0, 0, 1536] (s162 x129 x53 x149 x1 x3) slices_S2x2048x8704_S2x2048x1536_0_0_1536
theorem s164_at (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) (i : Fin 2) (t : Fin 2048) (j : Fin 1536) : s164 x129 x53 x149 x1 x3 (ix3 i t j) = (∑ u, x149 (ix5 i (gC j) (hR j) u t) * x1 (ix5 i u (gC j) (hR j) (eC j)) : EReal) := by
  pointwise [s164, s162]
  rw [dif_neg (by omega), zero_add]

def s165 (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) : FVec Ideal S2x2048x1536 .bf16 := extractStridedSlice S2x2048x1536 ![0, 0, 3072] (s162 x129 x53 x149 x1 x3) slices_S2x2048x8704_S2x2048x1536_0_0_3072
theorem s165_at (x129 : FVec Ideal S2x3x8x2048x64 .f32) (x53 : FVec Ideal S2x3x8x2048x2048 .f32) (x149 : FVec Ideal S2x3x8x2048x2048 .f32) (x1 : FVec Ideal S2x2048x3x8x64 .f32) (x3 : FVec Ideal S2x2048x3x8x64 .f32) (i : Fin 2) (t : Fin 2048) (j : Fin 1536) : s165 x129 x53 x149 x1 x3 (ix3 i t j) = (∑ u, x129 (ix5 i (gC j) (hR j) u (eC j)) * x53 (ix5 i (gC j) (hR j) u t) : EReal) := by
  pointwise [s165, s162]
  rw [dif_neg (by omega), dif_neg (by omega), add_zero, add_zero]

section
variable (V0 : Valuation τ sig (Elt Ideal))
/-- The incoming projection and the incoming cotangent. -/
abbrev aP : FVec Ideal S2x2048x8704 .f32 := V0 (Proc.devRef .tc main_arg0)
abbrev aD : FVec Ideal S2x2048x512 .f32 := V0 (Proc.devRef .tc main_arg1)
theorem l1 : res_main_v1 V0 = k_v1 (aP V0) := rfl
theorem l3 : res_main_v3 V0 = k_v3 (aP V0) := rfl
theorem l5 : res_main_v5 V0 = k_v5 (aP V0) := rfl
theorem l43_1 : res_main_v43_1 V0 = k_call0_v1 := rfl
theorem l43 : res_main_v43_0 V0 = k_v43 (aP V0) := by unfold res_main_v43_0; rw [l43_1, l1, l3]; rfl
theorem l44 : res_main_v44 V0 = k_v44 (aP V0) := by unfold res_main_v44; rw [l43]; rfl
theorem l50 : res_main_v50 V0 = k_v45 (aP V0) := by unfold res_main_v50; rw [l44]; rfl
theorem l53 : res_main_v53 V0 = k_v48 (aP V0) := by unfold res_main_v53; rw [l43, l50]; rfl
theorem l54 : res_main_v54 V0 = k_v49 (aP V0) := by unfold res_main_v54; rw [l53]; rfl
theorem l55 : res_main_v55 V0 = k_v50 (aP V0) := by unfold res_main_v55; rw [l53, l5]; rfl
theorem l56 : res_main_v56 V0 = k_v51 (aP V0) := by unfold res_main_v56; rw [l54]; rfl
theorem l58 : res_main_v58 V0 = k_v53 (aP V0) := by unfold res_main_v58; rw [l55, l56]; rfl
theorem l64 : res_main_v64 V0 = k_v56 (aP V0) := by unfold res_main_v64; rw [l50, l54]; rfl
theorem q65 : res_main_v65 V0 = s65 (res_main_v64 V0) := rfl
theorem q85 : res_main_v85 V0 = s85 (res_main_v64 V0) (res_main_v65 V0) := rfl
theorem q87 : res_main_v87 V0 = s87 (res_main_v85 V0) := rfl
theorem q93 : res_main_v93 V0 = s93 (res_main_v85 V0) (res_main_v87 V0) := rfl
theorem q101 : res_main_v101 V0 = s101 (aD V0) := rfl
theorem q103 : res_main_v103 V0 = s103 (res_main_v93 V0) (res_main_v101 V0) := rfl
theorem q107 : res_main_v107 V0 = s107 (res_main_v101 V0) (res_main_v58 V0) := rfl
theorem q119 : res_main_v119 V0 = s119 (res_main_v107 V0) (res_main_v87 V0) (res_main_v85 V0) := rfl
theorem q129 : res_main_v129 V0 = s129 (res_main_v103 V0) (res_main_v56 V0) := rfl
theorem q137 : res_main_v137 V0 = s137 (res_main_v129 V0) (res_main_v5 V0) (res_main_v119 V0) (res_main_v54 V0) (res_main_v103 V0) (res_main_v56 V0) (res_main_v55 V0) (res_main_v53 V0) := rfl
theorem q48 : res_main_v48 V0 = s48 (res_main_v43_0 V0) (res_main_v44 V0) := rfl
theorem q149 : res_main_v149 V0 = s149 (res_main_v43_1 V0) (res_main_v137 V0) (res_main_v119 V0) (res_main_v48 V0) := rfl
theorem q163 : extractStridedSlice S2x2048x1536 ![0, 0, 0] (res_main_v162 V0) slices_S2x2048x8704_S2x2048x1536_0_0_0 = s163 (res_main_v129 V0) (res_main_v53 V0) (res_main_v149 V0) (res_main_v1 V0) (res_main_v3 V0) := rfl
theorem q164 : extractStridedSlice S2x2048x1536 ![0, 0, 1536] (res_main_v162 V0) slices_S2x2048x8704_S2x2048x1536_0_0_1536 = s164 (res_main_v129 V0) (res_main_v53 V0) (res_main_v149 V0) (res_main_v1 V0) (res_main_v3 V0) := rfl
theorem q165 : extractStridedSlice S2x2048x1536 ![0, 0, 3072] (res_main_v162 V0) slices_S2x2048x8704_S2x2048x1536_0_0_3072 = s165 (res_main_v129 V0) (res_main_v53 V0) (res_main_v149 V0) (res_main_v1 V0) (res_main_v3 V0) := rfl
end

end Cert.ReferenceIdeal.Value
-- ==== Proof.RefS.lean ====
module
public import proofs.«01_k».proof.Proof.Gen.ReferenceIdeal.Run
public import proofs.«01_k».proof.Proof.RefM
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Idealize.ShloMosaic.StableHlo
open Cert.KernelIdeal.Value (hcol gC hC eC k_v1 k_v3 k_v5 k_call0_v1 k_v43 k_v44 k_v45 k_v48 k_v49 k_v50 k_v51 k_v53 k_v56 valid rad qkv sc mx W Z N O L T E Tot A LS ct DS DQ DK DV al om dsc om_eq Z_pos Tot_pos cP cD csum cbot c8 cdiv lse outv denom numer weight rowmax k_v28_at k_v1_at k_v3_at k_v5_at G7 G8 G9)
section
variable (p : S2x2048x8704.Idx → ℝ) (dd : S2x2048x512.Idx → ℝ)
theorem fold3 (f : Fin 3 → EReal) : Finset.univ.fold max ⊥ f = max (max (f 0) (f 1)) (f 2) := by
  rw [show (Finset.univ : Finset (Fin 3)) = {0, 1, 2} from rfl, Finset.fold_insert (by decide), Finset.fold_insert (by decide), Finset.fold_singleton, max_bot_right, max_assoc]
theorem sum1 {M : Type*} [AddCommMonoid M] (x : M) : ∑ _z : Fin 1, x = x := by rw [Fin.sum_univ_one]
theorem ext3 (x y : FVec Ideal S2x2048x1536 .bf16) (h : ∀ b t j, x (ix3 b t j) = y (ix3 b t j)) : x = y := by
  funext i
  idx_vars i
  exact h _ _ _
/-- The cotangent against a group's output; the group's log-sum gradient; the score gradient before its mask. -/
def AB (b : Fin 2) (g : Fin 3) (h : Fin 8) (t : Fin 2048) : ℝ := ∑ e, ct dd b t h e * O p b g h t e
def LB (b : Fin 2) (g : Fin 3) (h : Fin 8) (t : Fin 2048) : ℝ :=
  (AB p dd b g h t / Tot p b h t + -∑ k, AB p dd b k h t * (1 / (Tot p b h t * Tot p b h t)) * E p b k h t) * E p b g h t
def X3 (b : Fin 2) (g : Fin 3) (h : Fin 8) (t : Fin 2048) (e : Fin 64) : ℝ := al p b g h t * ct dd b t h e
def X9 (b : Fin 2) (g : Fin 3) (h : Fin 8) (t : Fin 2048) (e : Fin 64) : ℝ := X3 p dd b g h t e / Z p b g h t
def PB (b : Fin 2) (g : Fin 3) (h : Fin 8) (t u : Fin 2048) : ℝ :=
  ((∑ e, X9 p dd b g h t e * qkv p 2 b u g h e) + (LB p dd b g h t / Z p b g h t
    + -∑ e, X3 p dd b g h t e * (1 / (Z p b g h t * Z p b g h t)) * N p b g h t e)) * W p b g h t u

theorem LB_eq (b : Fin 2) (g : Fin 3) (h : Fin 8) (t : Fin 2048) : LB p dd b g h t = al p b g h t * (AB p dd b g h t - DS p dd b h t) := by
  have hT := (Tot_pos p b h t).ne'
  have e : DS p dd b h t = (∑ k, AB p dd b k h t * E p b k h t) / Tot p b h t := by
    unfold DS A
    simp only [Fin.sum_univ_three]
    unfold AB
    rw [Finset.sum_mul, Finset.sum_mul, Finset.sum_mul, ← Finset.sum_add_distrib, ← Finset.sum_add_distrib, Finset.sum_div]
    exact Finset.sum_congr rfl fun e _ => by ring
  unfold LB al
  rw [e]
  have e2 : ∑ k, AB p dd b k h t * (1 / (Tot p b h t * Tot p b h t)) * E p b k h t = (∑ k, AB p dd b k h t * E p b k h t) / (Tot p b h t * Tot p b h t) := by
    rw [Finset.sum_div]
    exact Finset.sum_congr rfl fun k _ => by ring
  rw [e2]
  field_simp
  ring
theorem PB_eq (b : Fin 2) (g : Fin 3) (h : Fin 8) (t u : Fin 2048) : PB p dd b g h t u = dsc p dd b g h t u := by
  have hZ := (Z_pos p b g h t).ne'
  unfold PB dsc
  rw [om_eq, LB_eq]
  have e1 : (∑ e, X9 p dd b g h t e * qkv p 2 b u g h e) = al p b g h t / Z p b g h t * ∑ e, ct dd b t h e * qkv p 2 b u g h e := by
    rw [Finset.mul_sum]
    refine Finset.sum_congr rfl fun e _ => ?_
    unfold X9 X3
    ring
  have e2 : (∑ e, X3 p dd b g h t e * (1 / (Z p b g h t * Z p b g h t)) * N p b g h t e) = al p b g h t / Z p b g h t * AB p dd b g h t := by
    unfold AB
    rw [Finset.mul_sum]
    refine Finset.sum_congr rfl fun e _ => ?_
    unfold X3 O
    field_simp
  rw [e1, e2]
  ring
theorem LB_sum (b : Fin 2) (g : Fin 3) (h : Fin 8) (t : Fin 2048) : LB p dd b g h t + ∑ u, -PB p dd b g h t u = 0 := by
  have hZ := (Z_pos p b g h t).ne'
  rw [LB_eq, Finset.sum_neg_distrib]
  have e1 : ∑ u, PB p dd b g h t u = al p b g h t / Z p b g h t * ((∑ u, W p b g h t u * ∑ e, ct dd b t h e * qkv p 2 b u g h e) - Z p b g h t * DS p dd b h t) := by
    conv_rhs => rw [show Z p b g h t * DS p dd b h t = ∑ u, W p b g h t u * DS p dd b h t by rw [← Finset.sum_mul]; rfl]
    rw [← Finset.sum_sub_distrib, Finset.mul_sum]
    refine Finset.sum_congr rfl fun u _ => ?_
    rw [PB_eq]
    unfold dsc
    rw [om_eq]
    ring
  have e2 : (∑ u, W p b g h t u * ∑ e, ct dd b t h e * qkv p 2 b u g h e) = Z p b g h t * AB p dd b g h t := by
    unfold AB O N
    simp only [Finset.mul_sum, Finset.sum_div]
    rw [Finset.sum_comm]
    refine Finset.sum_congr rfl fun e _ => Finset.sum_congr rfl fun u _ => ?_
    field_simp
  rw [e1, e2]
  field_simp
  ring

section
variable (x64 x107 x85 x119 x54 x44 : FVec Ideal S2x3x8x2048 .f32) (x65 : FVec Ideal S2x8x2048 .f32) (x87 : FVec Ideal S2x1x8x2048 .f32)
  (x93 x56 : FVec Ideal S2x3x8x2048x1 .f32) (x101 x58 x103 x129 x55 : FVec Ideal S2x3x8x2048x64 .f32) (x53 x137 x48 x149 x43 : FVec Ideal S2x3x8x2048x2048 .f32)
  (x1 x3 x5 : FVec Ideal S2x2048x3x8x64 .f32) (x431 : IVec S2x3x8x2048x2048 1)
  (h64 : ∀ b g h t, x64 (ix4 b g h t) = (L p b g h t : EReal)) (h65 : ∀ b h t, x65 (ix3 b h t) = (T p b h t : EReal))
  (h85 : ∀ b g h t, x85 (ix4 b g h t) = (E p b g h t : EReal)) (h87 : ∀ b h t, x87 (ix4 b 0 h t) = (Tot p b h t : EReal))
  (h93 : ∀ b g h t, x93 (ix5 b g h t 0) = (al p b g h t : EReal)) (h101 : ∀ b g h t e, x101 (ix5 b g h t e) = (ct dd b t h e : EReal))
  (h58 : ∀ b g h t e, x58 (ix5 b g h t e) = (O p b g h t e : EReal)) (h103 : ∀ b g h t e, x103 (ix5 b g h t e) = (X3 p dd b g h t e : EReal))
  (h107 : ∀ b g h t, x107 (ix4 b g h t) = (AB p dd b g h t : EReal)) (h119 : ∀ b g h t, x119 (ix4 b g h t) = (LB p dd b g h t : EReal))
  (h54 : ∀ b g h t, x54 (ix4 b g h t) = (Z p b g h t : EReal)) (h56 : ∀ b g h t, x56 (ix5 b g h t 0) = (Z p b g h t : EReal))
  (h55 : ∀ b g h t e, x55 (ix5 b g h t e) = (N p b g h t e : EReal)) (h53 : ∀ b g h t u, x53 (ix5 b g h t u) = (W p b g h t u : EReal))
  (h129 : ∀ b g h t e, x129 (ix5 b g h t e) = (X9 p dd b g h t e : EReal)) (h137 : ∀ b g h t u, x137 (ix5 b g h t u) = (PB p dd b g h t u : EReal))
  (h1 : ∀ b t g h e, x1 (ix5 b t g h e) = (qkv p 0 b t g h e : EReal)) (h3 : ∀ b t g h e, x3 (ix5 b t g h e) = (qkv p 1 b t g h e : EReal))
  (h5 : ∀ b t g h e, x5 (ix5 b t g h e) = (qkv p 2 b t g h e : EReal))
  (h431 : ∀ b g h t u, x431 (ix5 b g h t u) = if valid (rad g) t u then 1#1 else 0#1)
  (h44 : ∀ b g h t, ∃ u, x43 (ix5 b g h t u) = x44 (ix4 b g h t))
  (h48 : ∀ b g h t, ∃ r : ℝ, r ≠ 0 ∧ ∑ u, x48 (ix5 b g h t u) = (r : EReal))
  (h149 : ∀ b g h t u, x149 (ix5 b g h t u) = (dsc p dd b g h t u * (1 / 8) : ℝ))
include h64 in
theorem r65 (b : Fin 2) (h : Fin 8) (t : Fin 2048) : s65 x64 (ix3 b h t) = (T p b h t : EReal) := by
  rw [s65_at, cbot, fold3, h64, h64, h64]
  unfold Cert.KernelIdeal.Value.T
  rw [EReal.coe_strictMono.monotone.map_max, EReal.coe_strictMono.monotone.map_max]
include h64 h65 in
theorem r85 (b : Fin 2) (g : Fin 3) (h : Fin 8) (t : Fin 2048) : s85 x64 x65 (ix4 b g h t) = (E p b g h t : EReal) := by
  rw [s85_at, cbot, max_bot_left, h64, h65, ← EReal.coe_sub]; rfl
include h85 in
theorem r87 (b : Fin 2) (h : Fin 8) (t : Fin 2048) : s87 x85 (ix4 b 0 h t) = (Tot p b h t : EReal) := by
  rw [s87_at, Fin.sum_univ_three, h85, h85, h85, ← EReal.coe_add, ← EReal.coe_add]; rfl
include h85 h87 in
theorem r93 (b : Fin 2) (g : Fin 3) (h : Fin 8) (t : Fin 2048) : s93 x85 x87 (ix5 b g h t 0) = (al p b g h t : EReal) := by
  rw [s93_at, h85, h87, cdiv _ _ (Tot_pos p b h t).ne']; rfl
theorem r101 (b : Fin 2) (g : Fin 3) (h : Fin 8) (t : Fin 2048) (e : Fin 64) : s101 (cD dd) (ix5 b g h t e) = (ct dd b t h e : EReal) := by
  rw [s101_at]; rfl
include h93 h101 in
theorem r103 (b : Fin 2) (g : Fin 3) (h : Fin 8) (t : Fin 2048) (e : Fin 64) : s103 x93 x101 (ix5 b g h t e) = (X3 p dd b g h t e : EReal) := by
  rw [s103_at, h93, h101, ← EReal.coe_mul]; rfl
include h101 h58 in
theorem r107 (b : Fin 2) (g : Fin 3) (h : Fin 8) (t : Fin 2048) : s107 x101 x58 (ix4 b g h t) = (AB p dd b g h t : EReal) := by
  rw [s107_at, sum1]
  simp only [h101, h58, ← EReal.coe_mul, csum]; rfl
include h107 h87 h85 in
theorem r119 (b : Fin 2) (g : Fin 3) (h : Fin 8) (t : Fin 2048) : s119 x107 x87 x85 (ix4 b g h t) = (LB p dd b g h t : EReal) := by
  have hT := (Tot_pos p b h t).ne'
  rw [s119_at, sum1]
  simp only [h107, h85, h87]
  rw [← EReal.coe_mul, ← EReal.coe_one, cdiv _ _ (mul_ne_zero hT hT), cdiv _ _ hT]
  simp only [← EReal.coe_mul, csum]
  rw [← EReal.coe_neg, ← EReal.coe_add, ← EReal.coe_mul]; rfl
include h103 h56 in
theorem r129 (b : Fin 2) (g : Fin 3) (h : Fin 8) (t : Fin 2048) (e : Fin 64) : s129 x103 x56 (ix5 b g h t e) = (X9 p dd b g h t e : EReal) := by
  rw [s129_at, h103, h56, cdiv _ _ (Z_pos p b g h t).ne']; rfl
include h129 h5 h119 h54 h103 h56 h55 h53 in
theorem r137 (b : Fin 2) (g : Fin 3) (h : Fin 8) (t u : Fin 2048) : s137 x129 x5 x119 x54 x103 x56 x55 x53 (ix5 b g h t u) = (PB p dd b g h t u : EReal) := by
  have hZ := (Z_pos p b g h t).ne'
  rw [s137_at, sum1]
  simp only [h129, h5, h119, h54, h103, h56, h55, h53]
  rw [← EReal.coe_mul, ← EReal.coe_one, cdiv _ _ (mul_ne_zero hZ hZ), cdiv _ _ hZ]
  simp only [← EReal.coe_mul, csum]
  rw [← EReal.coe_neg, ← EReal.coe_add, ← EReal.coe_add, ← EReal.coe_mul]; rfl
include h44 in
theorem r48 (b : Fin 2) (g : Fin 3) (h : Fin 8) (t : Fin 2048) : ∃ r : ℝ, r ≠ 0 ∧ ∑ u, s48 x43 x44 (ix5 b g h t u) = (r : EReal) := by
  classical
  have e : ∀ u, s48 x43 x44 (ix5 b g h t u) = ((if x43 (ix5 b g h t u) = x44 (ix4 b g h t) then 1 else 0 : ℝ) : EReal) := fun u => by
    rw [s48_at]
    by_cases hu : x43 (ix5 b g h t u) = x44 (ix4 b g h t)
    · rw [if_pos hu, hu]; simp [FloatOps.uitofp, FloatOps.cmpf, Ideal.cmp]
    · rw [if_neg hu]; simp [FloatOps.uitofp, FloatOps.cmpf, Ideal.cmp, hu]
  refine ⟨∑ u, (if x43 (ix5 b g h t u) = x44 (ix4 b g h t) then 1 else 0 : ℝ), ?_, ?_⟩
  · obtain ⟨u, hu⟩ := h44 b g h t
    refine (Finset.sum_pos' (fun v _ => ?_) ⟨u, Finset.mem_univ _, ?_⟩).ne'
    · split <;> norm_num
    · rw [if_pos hu]; norm_num
  · simp only [e, csum]
include h431 h137 h119 h48 in
theorem r149 (b : Fin 2) (g : Fin 3) (h : Fin 8) (t u : Fin 2048) : s149 x431 x137 x119 x48 (ix5 b g h t u) = (dsc p dd b g h t u * (1 / 8) : ℝ) := by
  obtain ⟨r, hr, hs⟩ := h48 b g h t
  rw [s149_at, sum1, hs, c8]
  simp only [h137, h119]
  rw [show (LB p dd b g h t : EReal) + ∑ v, -(PB p dd b g h t v : EReal) = ((LB p dd b g h t + ∑ v, -PB p dd b g h t v : ℝ) : EReal) by
    rw [EReal.coe_add, ← csum]; rfl]
  rw [LB_sum, cdiv _ _ hr, zero_div, EReal.coe_zero, zero_mul, add_zero, h431, PB_eq]
  by_cases hv : valid (rad g) t u
  · rw [if_pos hv, EReal.coe_mul]; rfl
  · rw [if_neg hv]
    have : dsc p dd b g h t u = 0 := by unfold dsc om; rw [if_neg hv, zero_mul]
    rw [this, zero_mul, EReal.coe_zero]
    show Ideal.ofBits .f32 0x00000000#32 * _ = _
    rw [show Ideal.ofBits .f32 0x00000000#32 = (0 : EReal) from by simp [Ideal.ofBits, Ideal.ieee], zero_mul]
theorem hR_hC (j : Fin 1536) : hR j = hC j := Fin.ext (by show j.val / 64 % 8 = j.val % 512 / 64; omega)
include h149 h3 in
theorem r163 (b : Fin 2) (t : Fin 2048) (j : Fin 1536) : s163 x129 x53 x149 x1 x3 (ix3 b t j) = (DQ p dd b t (gC j) (hC j) (eC j) : EReal) := by
  rw [s163_at, hR_hC]
  simp only [h149, h3, ← EReal.coe_mul, csum]
  unfold DQ
  rw [Finset.sum_mul]
  exact congrArg _ (Finset.sum_congr rfl fun u _ => by ring)
include h149 h1 in
theorem r164 (b : Fin 2) (t : Fin 2048) (j : Fin 1536) : s164 x129 x53 x149 x1 x3 (ix3 b t j) = (DK p dd b t (gC j) (hC j) (eC j) : EReal) := by
  rw [s164_at, hR_hC]
  simp only [h149, h1, ← EReal.coe_mul, csum]
  unfold DK
  rw [Finset.sum_mul]
  exact congrArg _ (Finset.sum_congr rfl fun u _ => by ring)
include h129 h53 in
theorem r165 (b : Fin 2) (t : Fin 2048) (j : Fin 1536) : s165 x129 x53 x149 x1 x3 (ix3 b t j) = (DV p dd b t (gC j) (hC j) (eC j) : EReal) := by
  rw [s165_at, hR_hC]
  simp only [h129, h53, ← EReal.coe_mul, csum]
  unfold DV
  refine congrArg _ (Finset.sum_congr rfl fun u _ => ?_)
  rw [om_eq]
  unfold X9 X3
  ring
end

section
variable (V0 : Valuation τ sig (Elt Ideal)) (hP : aP V0 = cP p) (hD : aD V0 = cD dd)
include hP
theorem v64 (b : Fin 2) (g : Fin 3) (h : Fin 8) (t : Fin 2048) : res_main_v64 V0 (ix4 b g h t) = (L p b g h t : EReal) := by
  rw [l64, hP]; exact lse p b g h t
theorem v65 (b : Fin 2) (h : Fin 8) (t : Fin 2048) : res_main_v65 V0 (ix3 b h t) = (T p b h t : EReal) := by
  rw [q65]; exact r65 p _ (v64 p V0 hP) b h t
theorem v85 (b : Fin 2) (g : Fin 3) (h : Fin 8) (t : Fin 2048) : res_main_v85 V0 (ix4 b g h t) = (E p b g h t : EReal) := by
  rw [q85]; exact r85 p _ _ (v64 p V0 hP) (v65 p V0 hP) b g h t
theorem v87 (b : Fin 2) (h : Fin 8) (t : Fin 2048) : res_main_v87 V0 (ix4 b 0 h t) = (Tot p b h t : EReal) := by
  rw [q87]; exact r87 p _ (v85 p V0 hP) b h t
theorem v93 (b : Fin 2) (g : Fin 3) (h : Fin 8) (t : Fin 2048) : res_main_v93 V0 (ix5 b g h t 0) = (al p b g h t : EReal) := by
  rw [q93]; exact r93 p _ _ (v85 p V0 hP) (v87 p V0 hP) b g h t
omit hP in
include hD in
theorem v101 (b : Fin 2) (g : Fin 3) (h : Fin 8) (t : Fin 2048) (e : Fin 64) : res_main_v101 V0 (ix5 b g h t e) = (ct dd b t h e : EReal) := by
  rw [q101, hD]; exact r101 dd b g h t e
theorem v58 (b : Fin 2) (g : Fin 3) (h : Fin 8) (t : Fin 2048) (e : Fin 64) : res_main_v58 V0 (ix5 b g h t e) = (O p b g h t e : EReal) := by
  rw [l58, hP]; exact outv p b g h t e
theorem v54 (b : Fin 2) (g : Fin 3) (h : Fin 8) (t : Fin 2048) : res_main_v54 V0 (ix4 b g h t) = (Z p b g h t : EReal) := by
  rw [l54, hP]; exact denom p b g h t
omit hP in
theorem k51_at (P : FVec Ideal S2x2048x8704 .f32) (b : Fin 2) (g : Fin 3) (h : Fin 8) (t : Fin 2048) : k_v51 P (ix5 b g h t 0) = k_v49 P (ix4 b g h t) := by
  pointwise [k_v51]
theorem v56 (b : Fin 2) (g : Fin 3) (h : Fin 8) (t : Fin 2048) : res_main_v56 V0 (ix5 b g h t 0) = (Z p b g h t : EReal) := by
  rw [l56, hP]; exact (k51_at (cP p) b g h t).trans (denom p b g h t)
theorem v55 (b : Fin 2) (g : Fin 3) (h : Fin 8) (t : Fin 2048) (e : Fin 64) : res_main_v55 V0 (ix5 b g h t e) = (N p b g h t e : EReal) := by
  rw [l55, hP]; exact numer p b g h t e
theorem v53 (b : Fin 2) (g : Fin 3) (h : Fin 8) (t u : Fin 2048) : res_main_v53 V0 (ix5 b g h t u) = (W p b g h t u : EReal) := by
  rw [l53, hP]; exact weight p b g h t u
theorem v1 (b : Fin 2) (t : Fin 2048) (g : Fin 3) (h : Fin 8) (e : Fin 64) : res_main_v1 V0 (ix5 b t g h e) = (qkv p 0 b t g h e : EReal) := by
  rw [l1, hP]; exact k_v1_at _ b t g h e
theorem v3 (b : Fin 2) (t : Fin 2048) (g : Fin 3) (h : Fin 8) (e : Fin 64) : res_main_v3 V0 (ix5 b t g h e) = (qkv p 1 b t g h e : EReal) := by
  rw [l3, hP]; exact k_v3_at _ b t g h e
theorem v5 (b : Fin 2) (t : Fin 2048) (g : Fin 3) (h : Fin 8) (e : Fin 64) : res_main_v5 V0 (ix5 b t g h e) = (qkv p 2 b t g h e : EReal) := by
  rw [l5, hP]; exact k_v5_at _ b t g h e
omit hP in
theorem v431 (b : Fin 2) (g : Fin 3) (h : Fin 8) (t u : Fin 2048) : res_main_v43_1 V0 (ix5 b g h t u) = if valid (rad g) t u then 1#1 else 0#1 := by
  rw [l43_1]
  refine Eq.trans ?_ (k_v28_at g t u)
  pointwise [k_call0_v1, Cert.KernelIdeal.Value.k_v42]
abbrev x48 (V0 : Valuation τ sig (Elt Ideal)) : FVec Ideal S2x3x8x2048x2048 .f32 := res_main_v48 V0
theorem v48 (b : Fin 2) (g : Fin 3) (h : Fin 8) (t : Fin 2048) : ∃ r : ℝ, r ≠ 0 ∧ ∑ u, x48 V0 (ix5 b g h t u) = (r : EReal) := by
  unfold x48
  rw [q48]
  refine r48 _ _ (fun b g h t => ?_) b g h t
  rw [l43, l44, hP]
  obtain ⟨h1, u, h2⟩ := rowmax p b g h t
  exact ⟨u, h2.trans h1.symm⟩
include hD
theorem v103 (b : Fin 2) (g : Fin 3) (h : Fin 8) (t : Fin 2048) (e : Fin 64) : res_main_v103 V0 (ix5 b g h t e) = (X3 p dd b g h t e : EReal) := by
  rw [q103]; exact r103 p dd _ _ (v93 p V0 hP) (v101 dd V0 hD) b g h t e
theorem v107 (b : Fin 2) (g : Fin 3) (h : Fin 8) (t : Fin 2048) : res_main_v107 V0 (ix4 b g h t) = (AB p dd b g h t : EReal) := by
  rw [q107]; exact r107 p dd _ _ (v101 dd V0 hD) (v58 p V0 hP) b g h t
theorem v119 (b : Fin 2) (g : Fin 3) (h : Fin 8) (t : Fin 2048) : res_main_v119 V0 (ix4 b g h t) = (LB p dd b g h t : EReal) := by
  rw [q119]; exact r119 p dd _ _ _ (v85 p V0 hP) (v87 p V0 hP) (v107 p dd V0 hP hD) b g h t
theorem v129 (b : Fin 2) (g : Fin 3) (h : Fin 8) (t : Fin 2048) (e : Fin 64) : res_main_v129 V0 (ix5 b g h t e) = (X9 p dd b g h t e : EReal) := by
  rw [q129]; exact r129 p dd _ _ (v103 p dd V0 hP hD) (v56 p V0 hP) b g h t e
theorem v137 (b : Fin 2) (g : Fin 3) (h : Fin 8) (t u : Fin 2048) : res_main_v137 V0 (ix5 b g h t u) = (PB p dd b g h t u : EReal) := by
  rw [q137]
  exact r137 p dd _ _ _ _ _ _ _ _ (v103 p dd V0 hP hD) (v119 p dd V0 hP hD) (v54 p V0 hP) (v56 p V0 hP) (v55 p V0 hP) (v53 p V0 hP) (v129 p dd V0 hP hD) (v5 p V0 hP) b g h t u
theorem v149 (b : Fin 2) (g : Fin 3) (h : Fin 8) (t u : Fin 2048) : res_main_v149 V0 (ix5 b g h t u) = ((dsc p dd b g h t u * (1 / 8) : ℝ) : EReal) := by
  rw [q149]
  exact r149 p dd _ _ _ _ (v119 p dd V0 hP hD) (v137 p dd V0 hP hD) (v431 V0) (v48 p V0 hP) b g h t u
/-- The reference's three results are the three gradients, as real numbers. -/
theorem res_dq : extractStridedSlice S2x2048x1536 ![0, 0, 0] (res_main_v162 V0) slices_S2x2048x8704_S2x2048x1536_0_0_0 = G7 p dd := by
  rw [q163]
  refine ext3 _ _ fun b t j => ?_
  exact r163 p dd _ _ _ _ _ (v3 p V0 hP) (v149 p dd V0 hP hD) b t j
theorem res_dk : extractStridedSlice S2x2048x1536 ![0, 0, 1536] (res_main_v162 V0) slices_S2x2048x8704_S2x2048x1536_0_0_1536 = G8 p dd := by
  rw [q164]
  refine ext3 _ _ fun b t j => ?_
  exact r164 p dd _ _ _ _ _ (v1 p V0 hP) (v149 p dd V0 hP hD) b t j
theorem res_dv : extractStridedSlice S2x2048x1536 ![0, 0, 3072] (res_main_v162 V0) slices_S2x2048x8704_S2x2048x1536_0_0_3072 = G9 p dd := by
  rw [q165]
  refine ext3 _ _ fun b t j => ?_
  exact r165 p dd _ _ _ _ _ (v53 p V0 hP) (v129 p dd V0 hP hD) b t j
end
end

end Cert.ReferenceIdeal.Value
-- ==== Proof.AttnClaim.lean ====
module
public import proofs.«01_k».proof.Defs
public import proofs.«01_k».proof.Proof.RefS
public import Idealize.ShloMosaic.Lib.Claim
public import Idealize.ShloMosaic.Lib.Pointwise
@[expose] public section
set_option maxRecDepth 16384
noncomputable section
open Idealize.ShloMosaic Idealize.ShloMosaic.TcCoe Idealize.SL.Sem
namespace Cert.AttnPair

/-- The precondition's two shape facts. -/
theorem finite_facts : Cert.Pre_finite.Facts where
  bcast_S_S2x2048x8704 := by decide
  bcast_S_S2x2048x512 := by decide

/-- The word of plus infinity. -/
theorem inf_word : Ideal.ofBits .f32 0x7F800000#32 = (⊤ : EReal) := by
  simp [Ideal.ofBits, Ideal.ieee]

/-- An extended real whose absolute value is below plus infinity is a real number. -/
theorem real_of_abs (x : EReal) (h : max x (-x) < ⊤) : x = (x.toReal : EReal) := by
  rw [max_lt_iff] at h
  refine (EReal.coe_toReal h.1.ne ?_).symm
  rintro rfl
  exact absurd h.2 (by simp)

/-- One element of the precondition, read. -/
theorem real_of_bit (x : EReal) (h : Ideal.cmp .olt (max x (-x)) (Ideal.ofBits .f32 0x7F800000#32) = 1#1) : x = (x.toReal : EReal) := by
  refine real_of_abs x ?_
  rw [inf_word] at h
  by_contra hx
  simp [Ideal.cmp, hx] at h

open Cert.KernelIdeal in
/-- Where the precondition holds, both arrays are arrays of real numbers. -/
theorem reals [Cert.Pre_finite.Facts] (P : FVec Ideal S2x2048x8704 .f32) (D : FVec Ideal S2x2048x512 .f32)
    (h : (Cert.Pre_finite.fn (F := Ideal) P D).1 = (fun _ => 1#1) ∧ (Cert.Pre_finite.fn (F := Ideal) P D).2 = (fun _ => 1#1)) :
    ∃ p dd, P = Cert.KernelIdeal.Value.cP p ∧ D = Cert.KernelIdeal.Value.cD dd :=
  ⟨fun i => (P i : EReal).toReal, fun i => (D i : EReal).toReal,
    funext fun i => real_of_bit _ (congrFun h.1 i), funext fun i => real_of_bit _ (congrFun h.2 i)⟩

set_option maxHeartbeats 4000000 in
/-- The reference's run, its three results as real numbers. -/
theorem ref_run [Cert.ReferenceIdeal.Facts] (m' : (ℓ : Loc Cert.ReferenceIdeal.nD Cert.ReferenceIdeal.τ Cert.ReferenceIdeal.sig) → Buf (Elt Ideal) ℓ)
    (g' : Dev Cert.ReferenceIdeal.nD → PrngReg) (p : Dev Cert.ReferenceIdeal.nD → Cert.KernelIdeal.S2x2048x8704.Idx → ℝ) (dd : Dev Cert.ReferenceIdeal.nD → Cert.KernelIdeal.S2x2048x512.Idx → ℝ)
    (hP : ∀ c : Dev Cert.ReferenceIdeal.nD, m' ((c.tc : Thread _ Cert.ReferenceIdeal.τ).loc Cert.ReferenceIdeal.main_arg0) = Cert.KernelIdeal.Value.cP (p c))
    (hD : ∀ c : Dev Cert.ReferenceIdeal.nD, m' ((c.tc : Thread _ Cert.ReferenceIdeal.τ).loc Cert.ReferenceIdeal.main_arg1) = Cert.KernelIdeal.Value.cD (dd c)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = Cert.KernelIdeal.Value.G7 (p c) (dd c)
          ∧ r.2.mem ((c.tc : Thread Cert.ReferenceIdeal.nD Cert.ReferenceIdeal.τ).loc Cert.ReferenceIdeal.main_v164) = Cert.KernelIdeal.Value.G8 (p c) (dd c)
          ∧ r.2.mem ((c.tc : Thread Cert.ReferenceIdeal.nD Cert.ReferenceIdeal.τ).loc Cert.ReferenceIdeal.main_v165) = Cert.KernelIdeal.Value.G9 (p c) (dd c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run _ _ _).mono (fun r h c => ⟨(h c).1.trans (Cert.ReferenceIdeal.Value.res_dq (p c) (dd c) _ (hP c) (hD c)),
    (h c).2.1.trans (Cert.ReferenceIdeal.Value.res_dk (p c) (dd c) _ (hP c) (hD c)),
    (h c).2.2.1.trans (Cert.ReferenceIdeal.Value.res_dv (p c) (dd c) _ (hP c) (hD c)), (h c).2.2.2.1, (h c).2.2.2.2⟩)
    (Cert.ReferenceIdeal.Value.run m' g')

set_option maxHeartbeats 4000000 in
/-- Run from arguments that agree and are finite, the kernel and the reference return the same three gradients. -/
theorem algebraic [Cert.KernelIdeal.Facts] [Cert.ReferenceIdeal.Facts] [Cert.Pre_finite.Facts] : Cert.algebraic_KernelIdeal_ReferenceIdeal_pre_finite := by
  intro m g m' g' hpre hagree
  choose p dd h using fun c => reals _ _ (hpre c)
  refine ⟨fun c => Cert.KernelIdeal.Value.G7 (p c) (dd c), fun c => Cert.KernelIdeal.Value.G8 (p c) (dd c), fun c => Cert.KernelIdeal.Value.G9 (p c) (dd c), ?_,
    ref_run m' g' p dd (fun c => (hagree c).1.trans (h c).1) (fun c => (hagree c).2.trans (h c).2)⟩
  run_from Cert.KernelIdeal.Gen.run_main m g
  · exact Cert.KernelIdeal.Value.final_7 m c (p c) (dd c) (h c).1 (h c).2
  · exact Cert.KernelIdeal.Value.final_8 m c (p c) (dd c) (h c).1 (h c).2
  · exact Cert.KernelIdeal.Value.final_9 m c (p c) (dd c) (h c).1 (h c).2
end Cert.AttnPair
-- ==== Proof.InRms.lean ====
module
public import Idealize.ShloMosaic.Lib.Pipeline.ValueKit
public import Idealize.ShloMosaic.Lib.Pointwise
@[expose] public section
noncomputable section
open Idealize.ShloMosaic
namespace Rms

/-- The mean of squares plus the small constant of a row of RMSNorm. -/
def ms {n : ℕ} (N E : EReal) (x : Fin n → EReal) : EReal := Ideal.div (∑ k, x k * x k) N + E

/-- A nonnegative real factor comes out of a sum of extended reals. -/
theorem sum_mul_real {n : ℕ} (a : Fin n → EReal) {r : ℝ} (hr : 0 ≤ r) : ∑ k, a k * (r : EReal) = (∑ k, a k) * (r : EReal) := by
  have h0 : (0 : EReal) ≤ (r : EReal) := EReal.coe_nonneg.2 hr
  induction n with
  | zero => simp
  | succ n ih =>
    rw [Fin.sum_univ_castSucc, Fin.sum_univ_castSucc, ih,
      EReal.right_distrib_of_nonneg_of_ne_top h0 (EReal.coe_ne_top r)]

/-- A sum of squares of extended reals is `⊤` or all its terms are real and the sum is a nonnegative real. -/
theorem sumsq {n : ℕ} (x : Fin n → EReal) :
    (∑ k, x k * x k = ⊤) ∨ ∃ y : Fin n → ℝ, (∀ k, x k = (y k : EReal)) ∧ ∑ k, x k * x k = ((∑ k, y k * y k : ℝ) : EReal) := by
  by_cases h : ∀ k, x k ≠ ⊤ ∧ x k ≠ ⊥
  · refine .inr ⟨fun k => (x k).toReal, fun k => (EReal.coe_toReal (h k).1 (h k).2).symm, ?_⟩
    induction n with
    | zero => simp
    | succ n ih =>
      rw [Fin.sum_univ_castSucc, Fin.sum_univ_castSucc, ih (fun k => x k.castSucc) fun k => h _, EReal.coe_add,
        EReal.coe_mul (x (Fin.last n)).toReal, EReal.coe_toReal (h _).1 (h _).2]
  · left
    push Not at h
    obtain ⟨k, hk⟩ := h
    have hs : ∀ j, (0 : EReal) ≤ x j * x j := fun j => by
      rcases le_total 0 (x j) with h | h
      · exact EReal.mul_nonneg h h
      · exact EReal.mul_nonneg_iff.2 (.inr ⟨h, h⟩)
    have hk' : x k * x k = ⊤ := by
      by_cases ht : x k = ⊤
      · rw [ht]; rfl
      · rw [hk ht]; rfl
    have := Finset.single_le_sum (f := fun j => x j * x j) (fun j _ => hs j) (Finset.mem_univ k)
    rw [← top_le_iff, ← hk']
    exact this

/-- The backward step of RMSNorm as written with `xhat`, against the derivative term by term. No precondition. -/
theorem grad {n : ℕ} (x a : Fin n → EReal) (d1 : EReal) (d : Fin n) {N E : ℝ} (hN : 0 < N) (hE : 0 < E) :
    d1 + Ideal.rsqrt (ms N E x) * (a d - x d * Ideal.rsqrt (ms N E x) *
        Ideal.div (∑ k, a k * (x k * Ideal.rsqrt (ms N E x))) N)
    = d1 + (a d * Ideal.rsqrt (ms N E x)
        + x d * Ideal.div ((∑ k, x k * a k) * (((-(1/2) : ℝ) : EReal) * Ideal.div (Ideal.rsqrt (ms N E x)) (ms N E x))) N
        + Ideal.div ((∑ k, x k * a k) * (((-(1/2) : ℝ) : EReal) * Ideal.div (Ideal.rsqrt (ms N E x)) (ms N E x))) N * x d) := by
  congr 1
  rcases sumsq x with h | ⟨y, hy, h⟩
  · have : ms (N : EReal) E x = ⊤ := by
      unfold ms; rw [h, Ideal.div_coe hN.ne', EReal.top_mul_coe_of_pos (by positivity), EReal.top_add_coe]
    rw [this]
    simp [Ideal.div, hN.ne']
  · set s : ℝ := ∑ k, y k * y k with hs
    have hs0 : 0 ≤ s := Finset.sum_nonneg fun k _ => mul_self_nonneg _
    have hm : ms (N : EReal) E x = ((s * (1 / N) + E : ℝ) : EReal) := by
      unfold ms; rw [h, Ideal.div_coe hN.ne', ← EReal.coe_mul, ← EReal.coe_add]
    have hpos : 0 < s * (1 / N) + E := by positivity
    rw [hm]
    set v : ℝ := s * (1 / N) + E with hv
    have hr : Ideal.rsqrt (v : EReal) = (((Real.sqrt v)⁻¹ : ℝ) : EReal) := by
      rw [Ideal.rsqrt_coe, if_neg hpos.not_gt, if_neg hpos.ne']
    rw [hr]
    have hrpos : 0 ≤ (Real.sqrt v)⁻¹ := by positivity
    have h3 : (Real.sqrt v)⁻¹ * (Real.sqrt v)⁻¹ = 1 / v := by
      rw [← mul_inv, Real.mul_self_sqrt hpos.le, one_div]
    set r : ℝ := (Real.sqrt v)⁻¹ with hrdef
    have hsum : ∑ k, a k * (x k * (r : EReal)) = (∑ k, x k * a k) * (r : EReal) := by
      rw [← sum_mul_real _ hrpos]
      exact Finset.sum_congr rfl fun k _ => by ac_rfl
    rw [hsum, Ideal.div_coe hN.ne', Ideal.div_coe hN.ne', Ideal.div_coe hpos.ne', hy d]
    generalize (∑ k, x k * a k) = S
    generalize a d = A
    rw [sub_eq_add_neg, EReal.left_distrib_of_nonneg_of_ne_top (EReal.coe_nonneg.2 hrpos) (EReal.coe_ne_top r),
      mul_comm A, add_assoc]
    congr 1
    have h2 : ∀ z : EReal, z + z = z * ((2 : ℝ) : EReal) := fun z => by
      rw [show ((2 : ℝ) : EReal) = 1 + 1 by rw [← EReal.coe_one, ← EReal.coe_add]; norm_num,
        EReal.left_distrib_of_nonneg zero_le_one zero_le_one, mul_one]
    rw [mul_comm (S * _ * _) ((y d : ℝ) : EReal), h2]
    have e1 : (r : EReal) * -((y d : EReal) * r * (S * r * ((1 / N : ℝ) : EReal)))
        = S * ((r * (-(y d * r * r * (1 / N))) : ℝ) : EReal) := by
      simp only [EReal.coe_mul, EReal.coe_neg, mul_neg]; congr 1; ac_rfl
    have e2 : ((y d : ℝ) : EReal) * (S * (((-(1/2) : ℝ) : EReal) * ((r : EReal) * ((1 / v : ℝ) : EReal))) * ((1 / N : ℝ) : EReal)) * ((2 : ℝ) : EReal)
        = S * ((y d * (-(1/2) * (r * (1 / v))) * (1 / N) * 2 : ℝ) : EReal) := by
      simp only [EReal.coe_mul]; ac_rfl
    rw [e1, e2, ← h3]
    congr 2
    ring

/-- What a normal binary32 pattern denotes, from its three fields. -/
theorem f32_lit (b : BitVec 32) (neg : Bool) (ex fr : ℕ) (h1 : (b.extractLsb' 31 1 == 1#1) = neg)
    (h2 : (b.extractLsb' 23 8).toNat = ex) (h3 : (b.extractLsb' 0 23).toNat = fr) (hx : ex ≠ 255) (h0 : ex ≠ 0) :
    Ideal.ofBits .f32 b = (((if neg then -1 else 1) * (2 ^ 23 + fr : ℕ) * (2 : ℝ) ^ ((ex : ℤ) - 150) : ℝ) : EReal) := by
  simp only [Ideal.ofBits, Ideal.ieee]
  rw [h1, h2, h3, if_neg (by simpa using hx), if_neg h0]
  have : (ex : ℤ) - (2 ^ (8 - 1) - 1) - (23 : ℕ) = (ex : ℤ) - 150 := by norm_num; ring
  rw [this]

/-- The literal 1024 is the real 1024. -/
theorem c1024 : Ideal.ofBits .f32 0x44800000#32 = ((1024 : ℝ) : EReal) := by
  rw [f32_lit _ false 137 0 (by decide) (by decide) (by decide) (by decide) (by decide)]
  norm_num [zpow_neg]

/-- The small constant of RMSNorm is a positive real. -/
theorem ceps : ∃ E : ℝ, 0 < E ∧ Ideal.ofBits .f32 0x358637BD#32 = (E : EReal) :=
  ⟨_, by norm_num, f32_lit _ false 107 407485 (by decide) (by decide) (by decide) (by decide) (by decide)⟩

/-- The literal -0.5 is the real -1/2. -/
theorem cmhalf : Ideal.ofBits .f32 0xBF000000#32 = ((-(1/2) : ℝ) : EReal) := by
  rw [f32_lit _ true 126 0 (by decide) (by decide) (by decide) (by decide) (by decide)]
  norm_num [zpow_neg]
end Rms
-- ==== Proof.InPure.lean ====
module
public import proofs.«01_k».proof.Proof.Gen.Kernel2Ideal.Value
public import proofs.«01_k».proof.Proof.InRms
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen

/-- Column `k` of the `i`-th group of 512 among the 8704. -/
abbrev at17 (i : Fin 17) (k : Fin 512) : Fin 8704 := ⟨i.val * 512 + k.val, by omega⟩

theorem sum17 (f : Fin 17 → EReal) : ∑ i, f i = f 0 + f 1 + f 2 + f 3 + f 4 + f 5 + f 6 + f 7 + f 8 + f 9 + f 10 + f 11 + f 12 + f 13 + f 14 + f 15 + f 16 := by
  simp only [Fin.sum_univ_castSucc, Fin.sum_univ_zero, zero_add]
  rfl

theorem pay7_at (p0 : Vec Ideal S256x512 .bf16) (w0 : Vec Ideal S512x1024 .bf16) (p1 : Vec Ideal S256x512 .bf16) (w1 : Vec Ideal S512x1024 .bf16) (p2 : Vec Ideal S256x512 .bf16) (w2 : Vec Ideal S512x1024 .bf16) (p3 : Vec Ideal S256x512 .bf16) (w3 : Vec Ideal S512x1024 .bf16) (p4 : Vec Ideal S256x512 .bf16) (w4 : Vec Ideal S512x1024 .bf16) (r : Fin 256) (d : Fin 1024) :
    k0_pay7 (F := Ideal) p0 w0 p1 w1 p2 w2 p3 w3 p4 w4 (ix2 r d) = (∑ k : Fin 512, p0 (ix2 r k) * w0 (ix2 k d)) + (∑ k : Fin 512, p1 (ix2 r k) * w1 (ix2 k d)) + (∑ k : Fin 512, p2 (ix2 r k) * w2 (ix2 k d)) + (∑ k : Fin 512, p3 (ix2 r k) * w3 (ix2 k d)) + (∑ k : Fin 512, p4 (ix2 r k) * w4 (ix2 k d)) := by
  pointwise [k0_pay7]

theorem pay8_at (v : FVec Ideal S256x1024 .f32) (p5 : Vec Ideal S256x512 .bf16) (w5 : Vec Ideal S512x1024 .bf16) (p6 : Vec Ideal S256x512 .bf16) (w6 : Vec Ideal S512x1024 .bf16) (p7 : Vec Ideal S256x512 .bf16) (w7 : Vec Ideal S512x1024 .bf16) (p8 : Vec Ideal S256x512 .bf16) (w8 : Vec Ideal S512x1024 .bf16) (p9 : Vec Ideal S256x512 .bf16) (w9 : Vec Ideal S512x1024 .bf16) (p10 : Vec Ideal S256x512 .bf16) (w10 : Vec Ideal S512x1024 .bf16) (r : Fin 256) (d : Fin 1024) :
    k0_pay8 (F := Ideal) v p5 w5 p6 w6 p7 w7 p8 w8 p9 w9 p10 w10 (ix2 r d) = v (ix2 r d) + (∑ k : Fin 512, p5 (ix2 r k) * w5 (ix2 k d)) + (∑ k : Fin 512, p6 (ix2 r k) * w6 (ix2 k d)) + (∑ k : Fin 512, p7 (ix2 r k) * w7 (ix2 k d)) + (∑ k : Fin 512, p8 (ix2 r k) * w8 (ix2 k d)) + (∑ k : Fin 512, p9 (ix2 r k) * w9 (ix2 k d)) + (∑ k : Fin 512, p10 (ix2 r k) * w10 (ix2 k d)) := by
  pointwise [k0_pay8]

theorem pay9_at (v : FVec Ideal S256x1024 .f32) (p11 : Vec Ideal S256x512 .bf16) (w11 : Vec Ideal S512x1024 .bf16) (p12 : Vec Ideal S256x512 .bf16) (w12 : Vec Ideal S512x1024 .bf16) (p13 : Vec Ideal S256x512 .bf16) (w13 : Vec Ideal S512x1024 .bf16) (p14 : Vec Ideal S256x512 .bf16) (w14 : Vec Ideal S512x1024 .bf16) (p15 : Vec Ideal S256x512 .bf16) (w15 : Vec Ideal S512x1024 .bf16) (p16 : Vec Ideal S256x512 .bf16) (w16 : Vec Ideal S512x1024 .bf16) (r : Fin 256) (d : Fin 1024) :
    k0_pay9 (F := Ideal) v p11 w11 p12 w12 p13 w13 p14 w14 p15 w15 p16 w16 (ix2 r d) = v (ix2 r d) + (∑ k : Fin 512, p11 (ix2 r k) * w11 (ix2 k d)) + (∑ k : Fin 512, p12 (ix2 r k) * w12 (ix2 k d)) + (∑ k : Fin 512, p13 (ix2 r k) * w13 (ix2 k d)) + (∑ k : Fin 512, p14 (ix2 r k) * w14 (ix2 k d)) + (∑ k : Fin 512, p15 (ix2 r k) * w15 (ix2 k d)) + (∑ k : Fin 512, p16 (ix2 r k) * w16 (ix2 k d)) := by
  pointwise [k0_pay9]

/-- The seventeen products of 512 columns each add up to the product over all 8704 columns. -/
theorem dh_at (P : Fin 256 → Fin 8704 → EReal) (W : Fin 8704 → Fin 1024 → EReal)
    (p0 p1 p2 p3 p4 p5 p6 p7 p8 p9 p10 p11 p12 p13 p14 p15 p16 : Vec Ideal S256x512 .bf16) (w0 w1 w2 w3 w4 w5 w6 w7 w8 w9 w10 w11 w12 w13 w14 w15 w16 : Vec Ideal S512x1024 .bf16)
    (hp0 : ∀ r (k : Fin 512), p0 (ix2 r k) = P r (at17 0 k)) (hw0 : ∀ (k : Fin 512) d, w0 (ix2 k d) = W (at17 0 k) d) (hp1 : ∀ r (k : Fin 512), p1 (ix2 r k) = P r (at17 1 k)) (hw1 : ∀ (k : Fin 512) d, w1 (ix2 k d) = W (at17 1 k) d) (hp2 : ∀ r (k : Fin 512), p2 (ix2 r k) = P r (at17 2 k)) (hw2 : ∀ (k : Fin 512) d, w2 (ix2 k d) = W (at17 2 k) d) (hp3 : ∀ r (k : Fin 512), p3 (ix2 r k) = P r (at17 3 k)) (hw3 : ∀ (k : Fin 512) d, w3 (ix2 k d) = W (at17 3 k) d) (hp4 : ∀ r (k : Fin 512), p4 (ix2 r k) = P r (at17 4 k)) (hw4 : ∀ (k : Fin 512) d, w4 (ix2 k d) = W (at17 4 k) d) (hp5 : ∀ r (k : Fin 512), p5 (ix2 r k) = P r (at17 5 k)) (hw5 : ∀ (k : Fin 512) d, w5 (ix2 k d) = W (at17 5 k) d) (hp6 : ∀ r (k : Fin 512), p6 (ix2 r k) = P r (at17 6 k)) (hw6 : ∀ (k : Fin 512) d, w6 (ix2 k d) = W (at17 6 k) d) (hp7 : ∀ r (k : Fin 512), p7 (ix2 r k) = P r (at17 7 k)) (hw7 : ∀ (k : Fin 512) d, w7 (ix2 k d) = W (at17 7 k) d) (hp8 : ∀ r (k : Fin 512), p8 (ix2 r k) = P r (at17 8 k)) (hw8 : ∀ (k : Fin 512) d, w8 (ix2 k d) = W (at17 8 k) d) (hp9 : ∀ r (k : Fin 512), p9 (ix2 r k) = P r (at17 9 k)) (hw9 : ∀ (k : Fin 512) d, w9 (ix2 k d) = W (at17 9 k) d) (hp10 : ∀ r (k : Fin 512), p10 (ix2 r k) = P r (at17 10 k)) (hw10 : ∀ (k : Fin 512) d, w10 (ix2 k d) = W (at17 10 k) d) (hp11 : ∀ r (k : Fin 512), p11 (ix2 r k) = P r (at17 11 k)) (hw11 : ∀ (k : Fin 512) d, w11 (ix2 k d) = W (at17 11 k) d) (hp12 : ∀ r (k : Fin 512), p12 (ix2 r k) = P r (at17 12 k)) (hw12 : ∀ (k : Fin 512) d, w12 (ix2 k d) = W (at17 12 k) d) (hp13 : ∀ r (k : Fin 512), p13 (ix2 r k) = P r (at17 13 k)) (hw13 : ∀ (k : Fin 512) d, w13 (ix2 k d) = W (at17 13 k) d) (hp14 : ∀ r (k : Fin 512), p14 (ix2 r k) = P r (at17 14 k)) (hw14 : ∀ (k : Fin 512) d, w14 (ix2 k d) = W (at17 14 k) d) (hp15 : ∀ r (k : Fin 512), p15 (ix2 r k) = P r (at17 15 k)) (hw15 : ∀ (k : Fin 512) d, w15 (ix2 k d) = W (at17 15 k) d) (hp16 : ∀ r (k : Fin 512), p16 (ix2 r k) = P r (at17 16 k)) (hw16 : ∀ (k : Fin 512) d, w16 (ix2 k d) = W (at17 16 k) d) (r : Fin 256) (d : Fin 1024) :
    k0_pay9 (F := Ideal) (k0_pay8 (F := Ideal) (k0_pay7 (F := Ideal) p0 w0 p1 w1 p2 w2 p3 w3 p4 w4) p5 w5 p6 w6 p7 w7 p8 w8 p9 w9 p10 w10) p11 w11 p12 w12 p13 w13 p14 w14 p15 w15 p16 w16 (ix2 r d) = ∑ k, P r k * W k d := by
  rw [pay9_at, pay8_at, pay7_at, Fin.sum_univ_tiles 17 512 rfl,
    sum17 (fun i => ∑ k : Fin 512, P r (at17 i k) * W (at17 i k) d)]
  simp only [hp0, hw0, hp1, hw1, hp2, hw2, hp3, hw3, hp4, hw4, hp5, hw5, hp6, hw6, hp7, hw7, hp8, hw8, hp9, hw9, hp10, hw10, hp11, hw11, hp12, hw12, hp13, hw13, hp14, hw14, hp15, hw15, hp16, hw16]

/-- The output block at an index, over the rows it reads. -/
theorem pay5_at (v88 v89 v108 : Vec Ideal S256x1024 .f32) (v110 : Vec Ideal S1x1024 .f32) (r : Fin 256) (d : Fin 1024)
    (x dh g : Fin 1024 → EReal) (d1 : EReal) (h88 : ∀ k, v88 (ix2 r k) = dh k) (h89 : ∀ k, v89 (ix2 r k) = x k)
    (h108 : v108 (ix2 r d) = d1) (h110 : ∀ k, v110 (ix2 0 k) = g k) :
    k0_pay5 (F := Ideal) v88 v89 v108 v110 (ix2 r d) = d1 + Ideal.rsqrt (Rms.ms ((1024 : ℝ) : EReal) (Ideal.ofBits .f32 0x358637BD#32) x) *
      (dh d * g d - x d * Ideal.rsqrt (Rms.ms ((1024 : ℝ) : EReal) (Ideal.ofBits .f32 0x358637BD#32) x) *
        Ideal.div (∑ k, dh k * g k * (x k * Ideal.rsqrt (Rms.ms ((1024 : ℝ) : EReal) (Ideal.ofBits .f32 0x358637BD#32) x))) ((1024 : ℝ) : EReal)) := by
  rw [← Rms.c1024]
  pointwise [k0_pay5, k0_pay3, k0_pay2, k0_pay1, Rms.ms, h88, h89, h108, h110]

/-- What a point adds to the gain's gradient, over the rows it reads. -/
theorem pay4_at (v88 v89 : Vec Ideal S256x1024 .f32) (v101 : Vec Ideal S1x1024 .f32) (d : Fin 1024)
    (x dh : Fin 256 → Fin 1024 → EReal) (h88 : ∀ r k, v88 (ix2 r k) = dh r k) (h89 : ∀ r k, v89 (ix2 r k) = x r k) :
    k0_pay4 (F := Ideal) v88 v89 v101 (ix2 0 d) = v101 (ix2 0 d) + ∑ r, dh r d * (x r d * Ideal.rsqrt (Rms.ms ((1024 : ℝ) : EReal) (Ideal.ofBits .f32 0x358637BD#32) (x r))) := by
  rw [← Rms.c1024]
  pointwise [k0_pay4, k0_pay3, k0_pay2, k0_pay1, Rms.ms, h88, h89]

theorem pay6_at (d : Fin 1024) : k0_pay6 (F := Ideal) (ix2 0 d) = 0 := by
  pointwise [k0_pay6]
end Cert.Kernel2Ideal.Value
-- ==== Proof.InBlocks.lean ====
module
public import proofs.«01_k».proof.Proof.Gen.Kernel2Ideal.Value
public import proofs.«01_k».proof.Proof.InPure
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] ∧ win0_10.index t = ![0, 0] :=
  (by decide +kernel : ∀ t : Fin grid0.N, _)

/-- The token a row of a point's blocks is. -/
abbrev tok (t : Fin cfg0.N) (r : Fin 256) : Fin 4096 := ⟨t.val * 256 + r.val, by have := t.isLt; have : cfg0.N = 16 := N_0; omega⟩
/-- A token's sequence and its place in it. -/
abbrev bOf (r : Fin 4096) : Fin 2 := ⟨r.val / 2048, by omega⟩
abbrev sOf (r : Fin 4096) : Fin 2048 := ⟨r.val % 2048, by omega⟩

/-- The input rows, the residual's cotangent, the projection's cotangent, the gain and the weights, by token. -/
def X (c : Dev nD) (R : Fin 4096) (k : Fin 1024) : EReal := m ((c.tc : Thread nD τ).loc main_arg0) (ix3 (bOf R) (sOf R) k)
def D1 (c : Dev nD) (R : Fin 4096) (k : Fin 1024) : EReal := m ((c.tc : Thread nD τ).loc main_arg1) (ix3 (bOf R) (sOf R) k)
def DP (c : Dev nD) (R : Fin 4096) (k : Fin 8704) : EReal := m ((c.tc : Thread nD τ).loc main_arg2) (ix3 (bOf R) (sOf R) k)
def GA (c : Dev nD) (k : Fin 1024) : EReal := m ((c.tc : Thread nD τ).loc main_arg3) (ix2 0 k)
def WI (c : Dev nD) (k : Fin 8704) (d : Fin 1024) : EReal := m ((c.tc : Thread nD τ).loc main_arg4) (ix3 0 d k)
/-- The cotangent of the normalised rows. -/
def DHm (c : Dev nD) (R : Fin 4096) (d : Fin 1024) : EReal := ∑ k, DP m c R k * WI m c k d

/-- The staged weights are the transposed argument. -/
theorem ww (c : Dev nD) (i j) : V m c main_v10 (ix2 i j) = WI m c i j := by
  entry_read
  pointwise [WI]

theorem bx (c : Dev nD) (t : Fin cfg0.N) (r : Fin 256) (k : Fin 1024) : iblk m c 6 t (ix2 r k) = X m c (tok t r) k := by
  unfold X
  blk_point [iblk, V, idx t]
theorem bd (c : Dev nD) (t : Fin cfg0.N) (r : Fin 256) (k : Fin 1024) : iblk m c 7 t (ix2 r k) = D1 m c (tok t r) k := by
  unfold D1
  blk_point [iblk, V, idx t]
theorem bg (c : Dev nD) (t : Fin cfg0.N) (k : Fin 1024) : iblk m c 8 t (ix2 0 k) = GA m c k := by
  unfold GA
  blk_point [iblk, V, idx t]

/-- After every point the weights' scratch holds the staged weights: the first point brings them, the others keep them. -/
theorem scratch (c : Dev nD) : ∀ (n : ℕ) (hn : n < cfg0.N), (outsAt0 m c n hn).2.2 = V m c main_v10 := by
  intro n
  induction n with
  | zero =>
    intro hn
    funext y
    rw [outsAt0_A m c ⟨0, hn⟩ rfl]
    frame_out
    canon_tiles x h
    show V m c main_v10 x = V m c main_v10 y
    exact congrArg _ (funext fun a => Fin.ext (by fin_cases a; exacts [h0.symm, h1.symm]))
  | succ n ih =>
    intro hn
    have hN : cfg0.N = 16 := N_0
    have hB : ¬(⟨n + 1, hn⟩ : Fin cfg0.N).val % 16 = 0 := by dsimp only; omega
    funext y
    rw [outsAt0_B m c ⟨n + 1, hn⟩ hB]
    dsimp only
    unfold sout0_B_0
    exact congrFun (ih _) y

/-- The output block of a point. -/
abbrev KDX (c : Dev nD) (R : Fin 4096) (d : Fin 1024) : EReal :=
  D1 m c R d + Ideal.rsqrt (Rms.ms ((1024 : ℝ) : EReal) (Ideal.ofBits .f32 0x358637BD#32) (X m c R)) *
      (DHm m c R d * GA m c d - X m c R d * Ideal.rsqrt (Rms.ms ((1024 : ℝ) : EReal) (Ideal.ofBits .f32 0x358637BD#32) (X m c R)) *
        Ideal.div (∑ k, DHm m c R k * GA m c k * (X m c R k * Ideal.rsqrt (Rms.ms ((1024 : ℝ) : EReal) (Ideal.ofBits .f32 0x358637BD#32) (X m c R)))) ((1024 : ℝ) : EReal))

set_option maxHeartbeats 4000000 in
theorem outB (c : Dev nD) (t : Fin cfg0.N) (h0 : ¬ t.val % 16 = 0) (r : Fin 256) (d : Fin 1024) :
    (outsAt0 m c t.val t.isLt).1 (ix2 r d) = KDX m c (tok t r) d := by
  rw [outsAt0_B m c t h0]
  frame_out
  rw [scratch]
  refine pay5_at _ _ _ _ r d (X m c (tok t r)) (DHm m c (tok t r)) (GA m c) (D1 m c (tok t r) d) ?_ (bx m c t r) (bd m c t r d) (bg m c t)
  · intro k
    refine dh_at (fun r => DP m c (tok t r)) (WI m c) _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r k
    all_goals
      intro r k
      first
        | (unfold DP; pointwise; blk_point [iblk, V, idx t])
        | (rw [Idealize.ShloMosaic.read_unread_whole (Val := Elt Ideal) cc0_scratch0 (Memref.isWhole_whole _) (V m c main_v10)]
           pointwise [ww m c]
           refine congrArg (fun i => WI m c i k) (Fin.ext ?_)
           dsimp only [at17]
           first | rfl | simp)

set_option maxHeartbeats 4000000 in
theorem outA (c : Dev nD) (t : Fin cfg0.N) (h0 : t.val % 16 = 0) (r : Fin 256) (d : Fin 1024) :
    (outsAt0 m c t.val t.isLt).1 (ix2 r d) = KDX m c (tok t r) d := by
  rw [outsAt0_A m c t h0]
  frame_out
  refine pay5_at _ _ _ _ r d (X m c (tok t r)) (DHm m c (tok t r)) (GA m c) (D1 m c (tok t r) d) ?_ (bx m c t r) (bd m c t r d) (bg m c t)
  · intro k
    refine dh_at (fun r => DP m c (tok t r)) (WI m c) _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r k
    all_goals
      intro r k
      first
        | (unfold DP; pointwise; blk_point [iblk, V, idx t])
        | (refine (congrFun (View.readCov_fill (View.whole cc0_scratch0) (Val := Elt Ideal) (s := S8704x1024) (off := fun _ => 0) (by simp) (V m c main_v10) [] _ (fun _ => rfl)) _).trans ?_
           pointwise [ww m c]
           refine congrArg (fun i => WI m c i k) (Fin.ext ?_)
           dsimp only [at17]
           first | rfl | simp)

end Cert.Kernel2Ideal.Value
-- ==== Proof.InAcc.lean ====
module
public import proofs.«01_k».proof.Proof.Gen.Kernel2Ideal.Value
public import proofs.«01_k».proof.Proof.InBlocks
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen

variable (m : (ℓ : Loc nD τ sig) → Buf (Elt Ideal) ℓ)

/-- What a point adds to the gain's gradient. -/
def KGN (c : Dev nD) (t : Fin cfg0.N) (d : Fin 1024) : EReal :=
  ∑ r : Fin 256, DHm m c (tok t r) d * (X m c (tok t r) d * Ideal.rsqrt (Rms.ms ((1024 : ℝ) : EReal) (Ideal.ofBits .f32 0x358637BD#32) (X m c (tok t r))))

set_option maxHeartbeats 4000000 in
theorem gnB (c : Dev nD) (t : Fin cfg0.N) (h0 : ¬ t.val % 16 = 0) (d : Fin 1024) :
    (outsAt0 m c t.val t.isLt).2.1 (ix2 0 d) = (outsAt0 m c (t.val - 1) (Nat.lt_of_le_of_lt (Nat.sub_le _ _) t.isLt)).2.1 (ix2 0 d) + KGN m c t d := by
  rw [outsAt0_B m c t h0]
  frame_out
  rw [scratch]
  refine (pay4_at _ _ _ d (fun r => X m c (tok t r)) (fun r => DHm m c (tok t r)) ?_ (bx m c t)).trans ?_
  · intro r k
    refine dh_at (fun r => DP m c (tok t r)) (WI m c) _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r k
    all_goals
      intro r k
      first
        | (unfold DP; pointwise; blk_point [iblk, V, idx t])
        | (rw [Idealize.ShloMosaic.read_unread_whole (Val := Elt Ideal) cc0_scratch0 (Memref.isWhole_whole _) (V m c main_v10)]
           pointwise [ww m c]
           refine congrArg (fun i => WI m c i k) (Fin.ext ?_)
           dsimp only [at17]
           first | rfl | simp)

  · rfl
set_option maxHeartbeats 4000000 in
theorem gnA (c : Dev nD) (t : Fin cfg0.N) (h0 : t.val % 16 = 0) (d : Fin 1024) :
    (outsAt0 m c t.val t.isLt).2.1 (ix2 0 d) = 0 + KGN m c t d := by
  rw [outsAt0_A m c t h0]
  frame_out
  refine (pay4_at _ _ _ d (fun r => X m c (tok t r)) (fun r => DHm m c (tok t r)) ?_ (bx m c t)).trans ?_
  · intro r k
    refine dh_at (fun r => DP m c (tok t r)) (WI m c) _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r k
    all_goals
      intro r k
      first
        | (unfold DP; pointwise; blk_point [iblk, V, idx t])
        | (refine (congrFun (View.readCov_fill (View.whole cc0_scratch0) (Val := Elt Ideal) (s := S8704x1024) (off := fun _ => 0) (by simp) (V m c main_v10) [] _ (fun _ => rfl)) _).trans ?_
           pointwise [ww m c]
           refine congrArg (fun i => WI m c i k) (Fin.ext ?_)
           dsimp only [at17]
           first | rfl | simp)

  · rw [pay6_at]
    rfl
end Cert.Kernel2Ideal.Value
-- ==== Proof.InFinal.lean ====
module
public import proofs.«01_k».proof.Proof.Gen.Kernel2Ideal.Value
public import proofs.«01_k».proof.Proof.InAcc
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen

variable (m : (ℓ : Loc nD τ sig) → Buf (Elt Ideal) ℓ)

theorem out (c : Dev nD) (t : Fin cfg0.N) (r : Fin 256) (d : Fin 1024) :
    (outsAt0 m c t.val t.isLt).1 (ix2 r d) = KDX m c (tok t r) d := by
  by_cases h0 : t.val % 16 = 0
  · exact outA m c t h0 r d
  · exact outB m c t h0 r d

/-- The first result array. -/
def G9 (c : Dev nD) : Buf (Elt Ideal) ((c.tc : Thread nD τ).loc main_v13_0) := fun i => KDX m c (i 0) (i 1)

theorem final_9 (c : Dev nD) : (dats m 0 c).arrAt 9 cfg0.N = G9 m c :=
  (dats m 0 c).arrAt_eq_of_covers 9 (G9 m c) (by decide +kernel) fun t hf y => by
    blk_simp
    rw [after0_9]
    idx_vars y
    refine (out m c t y0 y1).trans ?_
    refine congrArg₂ (KDX m c) (Fin.ext ?_) (Fin.ext ?_)
    · blk_simp [idx t]
    · blk_simp [idx t]

/-- After point `n` the gain's gradient holds the sum over the points up to it. -/
theorem acc (c : Dev nD) (d : Fin 1024) : ∀ (n : ℕ) (hn : n < cfg0.N),
    (outsAt0 m c n hn).2.1 (ix2 0 d) = ∑ t : Fin (n + 1), KGN m c ⟨t.val, by have := t.isLt; omega⟩ d := by
  intro n
  induction n with
  | zero =>
    intro hn
    refine (gnA m c ⟨0, hn⟩ rfl d).trans ?_
    rw [zero_add, Fin.sum_univ_one]
    rfl
  | succ n ih =>
    intro hn
    have hN : cfg0.N = 16 := N_0
    have hB : ¬(⟨n + 1, hn⟩ : Fin cfg0.N).val % 16 = 0 := by dsimp only; omega
    refine (gnB m c ⟨n + 1, hn⟩ hB d).trans ?_
    rw [Fin.sum_univ_castSucc]
    refine Ideal.add_congr ?_ rfl
    exact ih _

/-- The sum of what the points add to the gain's gradient. -/
def GNsum (c : Dev nD) (d : Fin 1024) : EReal := ∑ t : Fin 16, KGN m c ⟨t.val, by rw [show cfg0.N = 16 from N_0]; exact t.isLt⟩ d

/-- The second result array. -/
def G10 (c : Dev nD) : Buf (Elt Ideal) ((c.tc : Thread nD τ).loc main_v13_1) := fun i => GNsum m c (i 1)
-- t : Fin 16, KGN m c ⟨t.val, by rw [show cfg0.N = 16 from N_0]; exact t.isLt⟩ (i 1)

theorem final_10 (c : Dev nD) : (dats m 0 c).arrAt 10 cfg0.N = G10 m c :=
  (dats m 0 c).arrAt_eq_of_covers 10 (G10 m c) (by decide +kernel) fun t hf y => by
    blk_simp
    rw [after0_10]
    idx_vars y
    have hN : cfg0.N = 16 := N_0
    have h15 : t.val = 15 := by have := (flush0_10 t).mp hf; have := t.isLt; omega
    obtain rfl : y0 = 0 := Subsingleton.elim _ _
    have e : ∀ n (hn : n < cfg0.N), n = 15 → (outsAt0 m c n hn).2.1 (ix2 0 y1) = GNsum m c y1 := by
      rintro n hn rfl
      exact acc m c y1 15 hn
    refine (e t.val t.isLt h15).trans ?_
    refine congrArg (GNsum m c) (Fin.ext ?_)
    blk_simp [idx t]
end Cert.Kernel2Ideal.Value
-- ==== Proof.InRefPure.lean ====
module
public import proofs.«01_k».proof.Proof.Gen.Reference2Ideal.Run
public import proofs.«01_k».proof.Proof.InRms
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Rms

/-- The source indices of a sum over the two leading axes of three: the last coordinate is kept. -/
theorem fiber_a01 {n0 n1 n2 : ℕ} (h : (⟨3, ![n0, n1, n2]⟩ : Shape).ReducesTo [0, 1] ⟨1, ![n2]⟩) (d : Fin n2)
    (i : (⟨3, ![n0, n1, n2]⟩ : Shape).Idx) : h.drop i = ix1 d ↔ ∃ k : Fin n0 × Fin n1, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b
    apply Fin.ext
    match b with
    | ⟨0, _⟩ => rfl

/-- The host's sum over the two leading axes of three. -/
theorem hostReduceAdd_a01 {n0 n1 n2 : ℕ} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ a : Fin n0, ∑ b : Fin n1, v (ix3 a b d) := by
  refine congrArg (init + ·) ?_
  refine (Finset.sum_filter_eq_sum_of_fiber _ (fun k : Fin n0 × Fin n1 => ix3 k.1 k.2 d)
    (fun _ _ e => Prod.ext (congrFun e 0) (congrFun e 1)) (fiber_a01 h d) v).trans ?_
  simp only [Fintype.sum_prod_type]

end Rms
namespace Cert.Reference2Ideal.Value
open Cert.Reference2Ideal Cert.Reference2Ideal.Gen

/-- The product of the incoming cotangent with the projection's weights. -/
def DH (a2 : FVec Ideal S2x2048x8704 .f32) (a4 : FVec Ideal S1x1024x8704 .f32) : FVec Ideal S2x2048x1024 .f32 :=
  (Host.dotGeneral dot_S2x2048x8704_S1024x8704_S2x2048x1024_2_1_01_0_n_n none a2 (shapeCast _ a4 shapeCasts_S1x1024x8704_S1024x8704))
/-- The gain along every row. -/
def G (a3 : FVec Ideal S1x1024 .f32) : FVec Ideal S2x2048x1024 .f32 :=
  (broadcastInDim S2x2048x1024 ![0, 1, 2] bcast_S1x1x1024_S2x2048x1024_0_1_2 (broadcastInDim S1x1x1024 ![2] bcast_S1024_S1x1x1024_2 (shapeCast _ a3 shapeCasts_S1x1024_S1024)))
/-- The mean of squares plus the small constant. -/
def MS (a0 : FVec Ideal S2x2048x1024 .f32) : FVec Ideal S2x2048x1 .f32 :=
  (addf (Host.divf (broadcastInDim S2x2048x1 ![0, 1] bcast_S2x2048_S2x2048x1_0_1 (Host.reduceAdd (mulf a0 a0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))
/-- The first result over variables. -/
def DX (a0 a1 dh g : FVec Ideal S2x2048x1024 .f32) (v : FVec Ideal S2x2048x1 .f32) : FVec Ideal S4096x1024 .f32 :=
  shapeCast _ (addf a1 (addf (addf (mulf (mulf dh g) (broadcastInDim S2x2048x1024 ![0, 1, 2] bcast_S2x2048x1_S2x2048x1024_0_1_2 (Host.rsqrt v))) (mulf a0 (broadcastInDim S2x2048x1024 ![0, 1] bcast_S2x2048_S2x2048x1024_0_1 (Host.reduceAdd (Host.divf (mulf (shapeCast _ (Host.reduceAdd (mulf a0 (mulf dh g)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt v) v))) (broadcastInDim S2x2048x1 ![] bcast_S_S2x2048x1 (constant S_ .f32 0x44800000#32))) (constant S_ .f32 0x00000000#32) reducesTo_S2x2048x1_S2x2048_d2 h_S_)))) (mulf (broadcastInDim S2x2048x1024 ![0, 1] bcast_S2x2048_S2x2048x1024_0_1 (Host.reduceAdd (Host.divf (mulf (shapeCast _ (Host.reduceAdd (mulf a0 (mulf dh g)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt v) v))) (broadcastInDim S2x2048x1 ![] bcast_S_S2x2048x1 (constant S_ .f32 0x44800000#32))) (constant S_ .f32 0x00000000#32) reducesTo_S2x2048x1_S2x2048_d2 h_S_)) a0))) shapeCasts_S2x2048x1024_S4096x1024
/-- The second result over variables. -/
def GN (a0 dh : FVec Ideal S2x2048x1024 .f32) (v : FVec Ideal S2x2048x1 .f32) : FVec Ideal S1x1024 .f32 :=
  broadcastInDim S1x1024 ![1] bcast_S1024_S1x1024_1 (Host.reduceAdd (shapeCast _ (Host.reduceAdd (mulf (mulf a0 (broadcastInDim S2x2048x1024 ![0, 1, 2] bcast_S2x2048x1_S2x2048x1024_0_1_2 (Host.rsqrt v))) dh) (constant S_ .f32 0x00000000#32) reducesTo_S2x2048x1024_S1024_d0_1 h_S_) shapeCasts_S1024_S1x1x1024) (constant S_ .f32 0x00000000#32) reducesTo_S1x1x1024_S1024_d0_1 h_S_)

/-- The row of a token and its place in it. -/
abbrev bOf (r : Fin 4096) : Fin 2 := ⟨r.val / 2048, by omega⟩
abbrev sOf (r : Fin 4096) : Fin 2048 := ⟨r.val % 2048, by omega⟩

/-- The first result at an index: the derivative term by term. -/
theorem DX_at (a0 a1 dh g : FVec Ideal S2x2048x1024 .f32) (v : FVec Ideal S2x2048x1 .f32) (r : Fin 4096) (d : Fin 1024) :
    DX a0 a1 dh g v (ix2 r d) = a1 (ix3 (bOf r) (sOf r) d) + (dh (ix3 (bOf r) (sOf r) d) * g (ix3 (bOf r) (sOf r) d) * Ideal.rsqrt (v (ix3 (bOf r) (sOf r) 0))
      + a0 (ix3 (bOf r) (sOf r) d) * Ideal.div ((∑ k, a0 (ix3 (bOf r) (sOf r) k) * (dh (ix3 (bOf r) (sOf r) k) * g (ix3 (bOf r) (sOf r) k)))
          * (((-(1/2) : ℝ) : EReal) * Ideal.div (Ideal.rsqrt (v (ix3 (bOf r) (sOf r) 0))) (v (ix3 (bOf r) (sOf r) 0)))) ((1024 : ℝ) : EReal)
      + Ideal.div ((∑ k, a0 (ix3 (bOf r) (sOf r) k) * (dh (ix3 (bOf r) (sOf r) k) * g (ix3 (bOf r) (sOf r) k)))
          * (((-(1/2) : ℝ) : EReal) * Ideal.div (Ideal.rsqrt (v (ix3 (bOf r) (sOf r) 0))) (v (ix3 (bOf r) (sOf r) 0)))) ((1024 : ℝ) : EReal) * a0 (ix3 (bOf r) (sOf r) d)) := by
  rw [← Rms.c1024, ← Rms.cmhalf]
  pointwise [DX, bOf, sOf]
  simp only [Fin.sum_univ_one]

/-- The second result at an index: the sum over all tokens. -/
theorem GN_at (a0 dh : FVec Ideal S2x2048x1024 .f32) (v : FVec Ideal S2x2048x1 .f32) (d : Fin 1024) :
    GN a0 dh v (ix2 0 d) = ∑ a : Fin 2, ∑ b : Fin 2048, a0 (ix3 a b d) * Ideal.rsqrt (v (ix3 a b 0)) * dh (ix3 a b d) := by
  pointwise [GN]
  rw [Rms.hostReduceAdd_a01]
  simp only [Fin.sum_univ_one, zero_add]
  pointwise
  rw [Rms.hostReduceAdd_a01]
  pointwise

theorem MS_at (a0 : FVec Ideal S2x2048x1024 .f32) (b : Fin 2) (s : Fin 2048) :
    MS a0 (ix3 b s 0) = Rms.ms ((1024 : ℝ) : EReal) (Ideal.ofBits .f32 0x358637BD#32) fun k : Fin 1024 => a0 (ix3 b s k) := by
  pointwise [MS, Rms.ms]
  rw [Rms.c1024]

theorem DH_at (a2 : FVec Ideal S2x2048x8704 .f32) (a4 : FVec Ideal S1x1024x8704 .f32) (b : Fin 2) (s : Fin 2048) (d : Fin 1024) :
    DH a2 a4 (ix3 b s d) = ∑ x, a2 (ix3 b s x) * a4 (ix3 0 d x) := by
  pointwise [DH]

theorem G_at (a3 : FVec Ideal S1x1024 .f32) (b : Fin 2) (s : Fin 2048) (d : Fin 1024) : G a3 (ix3 b s d) = a3 (ix2 0 d) := by
  pointwise [G]

variable (m : (ℓ : Loc nD τ sig) → Buf (Elt Ideal) ℓ)

/-- The reference's first result over the arguments. -/
theorem final0 (c : Dev nD) : res_main_v42 (F := Ideal) m c =
    DX (m ((c.tc : Thread nD τ).loc main_arg0)) (m ((c.tc : Thread nD τ).loc main_arg1))
      (DH (m ((c.tc : Thread nD τ).loc main_arg2)) (m ((c.tc : Thread nD τ).loc main_arg4)))
      (G (m ((c.tc : Thread nD τ).loc main_arg3))) (MS (m ((c.tc : Thread nD τ).loc main_arg0))) := rfl
end Cert.Reference2Ideal.Value
-- ==== Proof.InClaim.lean ====
module
public import proofs.«01_k».proof.Defs
public import proofs.«01_k».proof.Proof.InFinal
public import proofs.«01_k».proof.Proof.InRefPure
public import Idealize.ShloMosaic.Lib.Claim
public import Idealize.ShloMosaic.Lib.Pointwise
@[expose] public section
set_option maxRecDepth 16384
noncomputable section
open Idealize.ShloMosaic Idealize.ShloMosaic.TcCoe Idealize.SL.Sem
namespace Cert.InPair

open Cert.Kernel2Ideal.Value in
/-- The kernel's first result is the derivative with respect to the rows plus the residual's cotangent. -/
theorem dx_eq (m : (ℓ : Loc Cert.Kernel2Ideal.nD Cert.Kernel2Ideal.τ Cert.Kernel2Ideal.sig) → Buf (Elt Ideal) ℓ) (c : Dev Cert.Kernel2Ideal.nD) :
    G9 m c = Cert.Reference2Ideal.Value.DX (m ((c.tc : Thread _ _).loc Cert.Kernel2Ideal.main_arg0)) (m ((c.tc : Thread _ _).loc Cert.Kernel2Ideal.main_arg1))
      (Cert.Reference2Ideal.Value.DH (m ((c.tc : Thread _ _).loc Cert.Kernel2Ideal.main_arg2)) (m ((c.tc : Thread _ _).loc Cert.Kernel2Ideal.main_arg4)))
      (Cert.Reference2Ideal.Value.G (m ((c.tc : Thread _ _).loc Cert.Kernel2Ideal.main_arg3))) (Cert.Reference2Ideal.Value.MS (m ((c.tc : Thread _ _).loc Cert.Kernel2Ideal.main_arg0))) := by
  funext i
  obtain ⟨r, d, rfl⟩ : ∃ (r : Fin 4096) (d : Fin 1024), i = ix2 r d := ⟨i 0, i 1, eq_ix2 i⟩
  obtain ⟨E, hE, eE⟩ := Rms.ceps
  rw [Cert.Reference2Ideal.Value.DX_at]
  simp only [Cert.Reference2Ideal.Value.MS_at, Cert.Reference2Ideal.Value.DH_at, Cert.Reference2Ideal.Value.G_at]
  show KDX m c r d = _
  unfold KDX
  rw [eE]
  exact Rms.grad (X m c r) (fun k => DHm m c r k * GA m c k) (D1 m c r d) d (by norm_num) hE

open Cert.Kernel2Ideal.Value in
/-- The kernel's second result is the derivative with respect to the gain. -/
theorem gn_eq (m : (ℓ : Loc Cert.Kernel2Ideal.nD Cert.Kernel2Ideal.τ Cert.Kernel2Ideal.sig) → Buf (Elt Ideal) ℓ) (c : Dev Cert.Kernel2Ideal.nD) :
    G10 m c = Cert.Reference2Ideal.Value.GN (m ((c.tc : Thread _ _).loc Cert.Kernel2Ideal.main_arg0))
      (Cert.Reference2Ideal.Value.DH (m ((c.tc : Thread _ _).loc Cert.Kernel2Ideal.main_arg2)) (m ((c.tc : Thread _ _).loc Cert.Kernel2Ideal.main_arg4)))
      (Cert.Reference2Ideal.Value.MS (m ((c.tc : Thread _ _).loc Cert.Kernel2Ideal.main_arg0))) := by
  funext i
  obtain ⟨r, d, rfl⟩ : ∃ (r : Fin 1) (d : Fin 1024), i = ix2 r d := ⟨i 0, i 1, eq_ix2 i⟩
  obtain rfl : r = 0 := Subsingleton.elim _ _
  rw [Cert.Reference2Ideal.Value.GN_at]
  simp only [Cert.Reference2Ideal.Value.MS_at, Cert.Reference2Ideal.Value.DH_at]
  show GNsum m c d = _
  unfold GNsum KGN
  have key : ∀ f : Fin 4096 → EReal, (∑ t : Fin 16, ∑ r : Fin 256, f ⟨t.val * 256 + r.val, by omega⟩)
      = ∑ a : Fin 2, ∑ b : Fin 2048, f ⟨a.val * 2048 + b.val, by omega⟩ := fun f =>
    (Fin.sum_univ_tiles 16 256 rfl f).symm.trans (Fin.sum_univ_tiles 2 2048 rfl f)
  refine (key fun R => DHm m c R d * (X m c R d * Ideal.rsqrt (Rms.ms ((1024 : ℝ) : EReal) (Ideal.ofBits .f32 0x358637BD#32) (X m c R)))).trans ?_
  refine Finset.sum_congr rfl fun a _ => Finset.sum_congr rfl fun b _ => ?_
  have ha : Cert.Kernel2Ideal.Value.bOf ⟨a.val * 2048 + b.val, by omega⟩ = a := Fin.ext (by dsimp only [Cert.Kernel2Ideal.Value.bOf]; omega)
  have hb : Cert.Kernel2Ideal.Value.sOf ⟨a.val * 2048 + b.val, by omega⟩ = b := Fin.ext (by dsimp only [Cert.Kernel2Ideal.Value.sOf]; omega)
  unfold DHm X DP WI
  rw [ha, hb, mul_comm]

/-- Run from arguments that agree, the kernel and the reference return the same two arrays. -/
theorem algebraic [Cert.Kernel2Ideal.Facts] [Cert.Reference2Ideal.Facts] : Cert.algebraic_Kernel2Ideal_Reference2Ideal := by
  pair_intro
  · run_from Cert.Kernel2Ideal.Gen.run_main m g
  · run_from Cert.Reference2Ideal.Value.run m' g'
    · refine Eq.trans ?_ ((Cert.Kernel2Ideal.Value.final_9 m c).trans (dx_eq m c)).symm
      rw [Cert.Reference2Ideal.Value.final0 m' c, (hagree c).1, (hagree c).2.1, (hagree c).2.2.1, (hagree c).2.2.2.1, (hagree c).2.2.2.2]
    · exact ((Cert.Kernel2Ideal.Value.final_10 m c).trans (gn_eq m c)).symm
end Cert.InPair
-- ==== Proof.FfnMath.lean ====
module
public import proofs.«01_k».proof.Proof.InRms
@[expose] public section
noncomputable section
open Idealize.ShloMosaic
namespace Swi

/-- The literal one half is the real 1/2. -/
theorem chalf : Ideal.ofBits .f32 0x3F000000#32 = (((1/2) : ℝ) : EReal) := by
  rw [Rms.f32_lit _ false 126 0 (by decide) (by decide) (by decide) (by decide) (by decide)]
  norm_num [zpow_neg]

/-- The literal one is 1. -/
theorem cone : Ideal.ofBits .f32 0x3F800000#32 = (1 : EReal) := by
  rw [Rms.f32_lit _ false 127 0 (by decide) (by decide) (by decide) (by decide) (by decide), ← EReal.coe_one]
  norm_num [zpow_neg]

/-- The logistic function. -/
def lg (a : EReal) : EReal := Ideal.div 1 (1 + Ideal.exp (-a))

/-- At a real number the logistic function is real, and at the infinities it is 1 and 0. -/
theorem lg_coe (x : ℝ) : lg (x : EReal) = ((1 / (1 + Real.exp (-x)) : ℝ) : EReal) := by
  have h : (1 + Real.exp (-x) : ℝ) ≠ 0 := by positivity
  unfold lg
  rw [← EReal.coe_neg, Ideal.exp_coe, ← EReal.coe_one, ← EReal.coe_add, Ideal.div_coe h, ← EReal.coe_mul, one_mul]
theorem lg_top : lg ⊤ = 1 := by
  unfold lg
  rw [EReal.neg_top, Ideal.exp_bot, add_zero, ← EReal.coe_one, Ideal.div_coe one_ne_zero]
  norm_num
theorem lg_bot : lg ⊥ = 0 := by
  unfold lg
  rw [EReal.neg_bot, Ideal.exp_top]
  have : (1 : EReal) + ⊤ = ⊤ := by rw [← EReal.coe_one, EReal.coe_add_top]
  rw [this]
  simp [Ideal.div]

/-- The kernel's logistic function, by the hyperbolic tangent of half the argument. -/
theorem lg_tanh (a : EReal) : (((1/2) : ℝ) : EReal) * Ideal.tanh ((((1/2) : ℝ) : EReal) * a) + (((1/2) : ℝ) : EReal) = lg a := by
  induction a with
  | bot =>
    rw [lg_bot, EReal.coe_mul_bot_of_pos (by norm_num), Ideal.tanh_bot, mul_neg, mul_one, ← EReal.coe_neg, ← EReal.coe_add]
    norm_num
  | top =>
    rw [lg_top, EReal.coe_mul_top_of_pos (by norm_num), Ideal.tanh_top, mul_one, ← EReal.coe_add]
    norm_num
  | coe x =>
    rw [lg_coe, ← EReal.coe_mul, Ideal.tanh_coe, ← EReal.coe_mul, ← EReal.coe_add, Real.tanh_eq_sinh_div_cosh, Real.sinh_eq, Real.cosh_eq]
    have e : Real.exp (-x) = Real.exp (-(1/2 * x)) * Real.exp (-(1/2 * x)) := by rw [← Real.exp_add]; ring_nf
    have h1 : Real.exp (1/2 * x) * Real.exp (-(1/2 * x)) = 1 := by rw [← Real.exp_add]; simp
    rw [e]
    set u := Real.exp (-(1/2 * x)) with hu
    have hu0 : 0 < u := Real.exp_pos _
    have h2 : Real.exp (1/2 * x) = 1 / u := eq_div_of_mul_eq hu0.ne' h1
    rw [h2]
    congr 1
    field_simp
    ring

/-- The cotangent of the gate's row: the kernel's factored form against the derivative term by term, for a real factor `c`. -/
theorem gate (a : EReal) (c : ℝ) : (c : EReal) * (lg a * (1 + a * (1 - lg a))) = (c : EReal) * lg a + a * (c : EReal) * (lg a * (1 - lg a)) := by
  have h1 : (1 : EReal) - 1 = 0 := by rw [← EReal.coe_one, ← EReal.coe_sub]; norm_num
  induction a with
  | bot => rw [lg_bot]; simp
  | top => rw [lg_top, h1]; simp
  | coe x =>
    rw [lg_coe, ← EReal.coe_one]
    simp only [← EReal.coe_mul, ← EReal.coe_add, ← EReal.coe_sub]
    congr 1
    ring

/-- A number that is real. -/
abbrev IsR (x : EReal) : Prop := x = (x.toReal : EReal)
theorem isR_coe (r : ℝ) : IsR (r : EReal) := by simp
theorem isR_mul {x y : EReal} (hx : IsR x) (hy : IsR y) : IsR (x * y) := by
  rw [hx, hy, ← EReal.coe_mul]; exact isR_coe _
theorem isR_add {x y : EReal} (hx : IsR x) (hy : IsR y) : IsR (x + y) := by
  rw [hx, hy, ← EReal.coe_add]; exact isR_coe _
theorem isR_sum {n : ℕ} (f : Fin n → EReal) (h : ∀ k, IsR (f k)) : IsR (∑ k, f k) :=
  Finset.sum_induction f IsR (fun _ _ => isR_add) (isR_coe 0) fun k _ => h k

/-- The inverse root of the mean of squares of real numbers is real. -/
theorem isR_rms {n : ℕ} (x : Fin n → EReal) (h : ∀ k, IsR (x k)) {N E : ℝ} (hN : 0 < N) (hE : 0 < E) :
    IsR (Ideal.rsqrt (Rms.ms (N : EReal) (E : EReal) x)) := by
  have hs : ∑ k, x k * x k = ((∑ k, (x k).toReal * (x k).toReal : ℝ) : EReal) := by
    rcases Rms.sumsq x with h' | ⟨y, hy, h'⟩
    · exact absurd h' (by rw [isR_sum _ fun k => isR_mul (h k) (h k)]; exact EReal.coe_ne_top _)
    · rw [h']; simp only [hy, EReal.toReal_coe]
  have hp : 0 < (∑ k, (x k).toReal * (x k).toReal) * (1 / N) + E := by
    have : 0 ≤ ∑ k, (x k).toReal * (x k).toReal := Finset.sum_nonneg fun k _ => mul_self_nonneg _
    positivity
  unfold Rms.ms
  rw [hs, Ideal.div_coe hN.ne', ← EReal.coe_mul, ← EReal.coe_add, Ideal.rsqrt_coe, if_neg hp.not_gt, if_neg hp.ne']
  exact isR_coe _
end Swi
-- ==== Proof.FfnPure.lean ====
module
public import proofs.«01_k».proof.Proof.Gen.Kernel3Ideal.Skeleton
public import proofs.«01_k».proof.Proof.FfnMath
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Kernel3Ideal.Value
open Cert.Kernel3Ideal Cert.Kernel3Ideal.Gen

/-- Columns of the three groups of the feed-forward width. -/
abbrev c0 (k : Fin 1024) : Fin 2816 := ⟨k.val, by omega⟩
abbrev c1 (k : Fin 1024) : Fin 2816 := ⟨1024 + k.val, by omega⟩
abbrev c2 (k : Fin 768) : Fin 2816 := ⟨2048 + k.val, by omega⟩

/-- A sum over the feed-forward width is the sum over its three groups. -/
theorem sum3 (f : Fin 2816 → EReal) : ∑ k, f k = ∑ k, f (c0 k) + ∑ k, f (c1 k) + ∑ k, f (c2 k) := by
  have e := Fin.sum_univ_add (M := EReal) (a := 1024 + 1024) (b := 768) f
  have e' := Fin.sum_univ_add (M := EReal) (a := 1024) (b := 1024) fun k => f (Fin.castAdd 768 k)
  exact e.trans (congrArg₂ _ e' rfl)

section chunks
variable (v6 : Vec Ideal S256x1024 .bf16) (w : Vec Ideal S1024x1024 .bf16) (a b : Vec Ideal S256x1024 .bf16)
  (w' : Vec Ideal S768x1024 .bf16) (a' b' : Vec Ideal S256x768 .bf16) (r : Fin 256)

/-- The cotangent of the gate's row in the first group. -/
theorem da0 (k : Fin 1024) : k0_pay10 (F := Ideal) v6 w a b (ix2 r k) =
    (∑ d : Fin 1024, v6 (ix2 r d) * w (ix2 k d)) * b (ix2 r k) * (Swi.lg (a (ix2 r k)) * (1 + a (ix2 r k) * (1 - Swi.lg (a (ix2 r k))))) := by
  rw [← Swi.lg_tanh, ← Swi.chalf]
  pointwise [k0_pay10, k0_pay6, k0_pay4, k0_pay7, k0_pay8, Swi.cone]
/-- The cotangent of the up projection's row in the first group. -/
theorem db0 (k : Fin 1024) : k0_pay9 (F := Ideal) v6 w a (ix2 r k) =
    (∑ d : Fin 1024, v6 (ix2 r d) * w (ix2 k d)) * a (ix2 r k) * Swi.lg (a (ix2 r k)) := by
  rw [← Swi.lg_tanh, ← Swi.chalf]
  pointwise [k0_pay9, k0_pay6, k0_pay4, k0_pay7, k0_pay8, Swi.cone]
/-- The same in the second group. -/
theorem da1 (k : Fin 1024) : k0_pay16 (F := Ideal) (k0_pay4 v6) w a b (ix2 r k) =
    (∑ d : Fin 1024, v6 (ix2 r d) * w (ix2 k d)) * b (ix2 r k) * (Swi.lg (a (ix2 r k)) * (1 + a (ix2 r k) * (1 - Swi.lg (a (ix2 r k))))) := by
  rw [← Swi.lg_tanh, ← Swi.chalf]
  pointwise [k0_pay16, k0_pay12, k0_pay4, k0_pay13, k0_pay14, Swi.cone]
theorem db1 (k : Fin 1024) : k0_pay15 (F := Ideal) (k0_pay4 v6) w a (ix2 r k) =
    (∑ d : Fin 1024, v6 (ix2 r d) * w (ix2 k d)) * a (ix2 r k) * Swi.lg (a (ix2 r k)) := by
  rw [← Swi.lg_tanh, ← Swi.chalf]
  pointwise [k0_pay15, k0_pay12, k0_pay4, k0_pay13, k0_pay14, Swi.cone]
/-- The same in the third group. -/
theorem da2 (k : Fin 768) : k0_pay22 (F := Ideal) (k0_pay4 v6) w' a' b' (ix2 r k) =
    (∑ d : Fin 1024, v6 (ix2 r d) * w' (ix2 k d)) * b' (ix2 r k) * (Swi.lg (a' (ix2 r k)) * (1 + a' (ix2 r k) * (1 - Swi.lg (a' (ix2 r k))))) := by
  rw [← Swi.lg_tanh, ← Swi.chalf]
  pointwise [k0_pay22, k0_pay18, k0_pay4, k0_pay19, k0_pay20, Swi.cone]
theorem db2 (k : Fin 768) : k0_pay21 (F := Ideal) (k0_pay4 v6) w' a' (ix2 r k) =
    (∑ d : Fin 1024, v6 (ix2 r d) * w' (ix2 k d)) * a' (ix2 r k) * Swi.lg (a' (ix2 r k)) := by
  rw [← Swi.lg_tanh, ← Swi.chalf]
  pointwise [k0_pay21, k0_pay18, k0_pay4, k0_pay19, k0_pay20, Swi.cone]
end chunks

/-- What each group adds to the cotangent of the normalised rows. -/
theorem dh0 (v : FVec Ideal S256x1024 .f32) (y x : FVec Ideal S256x1024 .bf16) (wg wu : Vec Ideal S1024x1024 .bf16) (r : Fin 256) (d : Fin 1024) :
    k0_pay11 (F := Ideal) v y x wg wu (ix2 r d) = v (ix2 r d) + (∑ k : Fin 1024, x (ix2 r k) * wg (ix2 k d)) + ∑ k : Fin 1024, y (ix2 r k) * wu (ix2 k d) := by
  pointwise [k0_pay11]
theorem dh1 (v : FVec Ideal S256x1024 .f32) (y x : FVec Ideal S256x1024 .bf16) (wg wu : Vec Ideal S1024x1024 .bf16) (r : Fin 256) (d : Fin 1024) :
    k0_pay17 (F := Ideal) v y x wg wu (ix2 r d) = v (ix2 r d) + (∑ k : Fin 1024, x (ix2 r k) * wg (ix2 k d)) + ∑ k : Fin 1024, y (ix2 r k) * wu (ix2 k d) := by
  pointwise [k0_pay17]
theorem dh2 (v : FVec Ideal S256x1024 .f32) (y x : FVec Ideal S256x768 .bf16) (wg wu : Vec Ideal S768x1024 .bf16) (r : Fin 256) (d : Fin 1024) :
    k0_pay23 (F := Ideal) v y x wg wu (ix2 r d) = v (ix2 r d) + (∑ k : Fin 768, x (ix2 r k) * wg (ix2 k d)) + ∑ k : Fin 768, y (ix2 r k) * wu (ix2 k d) := by
  pointwise [k0_pay23]
theorem z5 (r : Fin 256) (d : Fin 1024) : k0_pay5 (F := Ideal) (ix2 r d) = 0 := by
  pointwise [k0_pay5]
theorem z3 (d : Fin 1024) : k0_pay3 (F := Ideal) (ix2 0 d) = 0 := by
  pointwise [k0_pay3]

/-- The three groups' products add up to the two products over the whole width. -/
theorem dh_at (X Y : Fin 256 → Fin 2816 → EReal) (G U : Fin 2816 → Fin 1024 → EReal)
    (y0 x0 y1 x1 : FVec Ideal S256x1024 .bf16) (y2 x2 : FVec Ideal S256x768 .bf16) (g0 u0 g1 u1 : Vec Ideal S1024x1024 .bf16) (g2 u2 : Vec Ideal S768x1024 .bf16)
    (hx0 : ∀ r k, x0 (ix2 r k) = X r (c0 k)) (hx1 : ∀ r k, x1 (ix2 r k) = X r (c1 k)) (hx2 : ∀ r k, x2 (ix2 r k) = X r (c2 k))
    (hy0 : ∀ r k, y0 (ix2 r k) = Y r (c0 k)) (hy1 : ∀ r k, y1 (ix2 r k) = Y r (c1 k)) (hy2 : ∀ r k, y2 (ix2 r k) = Y r (c2 k))
    (hg0 : ∀ k d, g0 (ix2 k d) = G (c0 k) d) (hg1 : ∀ k d, g1 (ix2 k d) = G (c1 k) d) (hg2 : ∀ k d, g2 (ix2 k d) = G (c2 k) d)
    (hu0 : ∀ k d, u0 (ix2 k d) = U (c0 k) d) (hu1 : ∀ k d, u1 (ix2 k d) = U (c1 k) d) (hu2 : ∀ k d, u2 (ix2 k d) = U (c2 k) d)
    (r : Fin 256) (d : Fin 1024) :
    k0_pay23 (F := Ideal) (k0_pay17 (k0_pay11 k0_pay5 y0 x0 g0 u0) y1 x1 g1 u1) y2 x2 g2 u2 (ix2 r d)
      = (∑ k, X r k * G k d) + ∑ k, Y r k * U k d := by
  rw [dh2, dh1, dh0, z5, sum3 (fun k => X r k * G k d), sum3 (fun k => Y r k * U k d)]
  simp only [hx0, hx1, hx2, hy0, hy1, hy2, hg0, hg1, hg2, hu0, hu1, hu2, zero_add]
  ac_rfl

section rows
variable (v : FVec Ideal S256x1024 .f32) (y x : FVec Ideal S256x768 .bf16) (g u : Vec Ideal S768x1024 .bf16) (xv d2 : Vec Ideal S256x1024 .f32) (gn : Vec Ideal S1x1024 .f32)
  (X DH : Fin 256 → Fin 1024 → EReal) (D2 : Fin 256 → Fin 1024 → EReal) (Gn : Fin 1024 → EReal)
  (hd : ∀ r d, k0_pay23 (F := Ideal) v y x g u (ix2 r d) = DH r d) (hx : ∀ r k, xv (ix2 r k) = X r k)
include hd hx

/-- The output block at an index, over the rows it reads. -/
theorem dx_at (h2 : ∀ r k, d2 (ix2 r k) = D2 r k) (hg : ∀ k, gn (ix2 0 k) = Gn k) (r : Fin 256) (d : Fin 1024) :
    k0_pay1 (F := Ideal) (k0_pay25 xv) (k0_pay26 xv) (k0_pay28 d2) (k0_pay29 v y x g u gn) (k0_pay30 v y x g u xv gn) (Scalar.ofBits .f32 0x44800000#32) (ix2 r d)
    = D2 r d + Ideal.rsqrt (Rms.ms ((1024 : ℝ) : EReal) (Ideal.ofBits .f32 0x358637BD#32) (X r)) *
      (DH r d * Gn d - X r d * Ideal.rsqrt (Rms.ms ((1024 : ℝ) : EReal) (Ideal.ofBits .f32 0x358637BD#32) (X r)) *
        Ideal.div (∑ k, DH r k * Gn k * (X r k * Ideal.rsqrt (Rms.ms ((1024 : ℝ) : EReal) (Ideal.ofBits .f32 0x358637BD#32) (X r)))) ((1024 : ℝ) : EReal)) := by
  rw [← Rms.c1024]
  pointwise [k0_pay1, k0_pay25, k0_pay26, k0_pay28, k0_pay29, k0_pay30, k0_pay24, Rms.ms, hd, hx, h2, hg]

/-- What a point adds to the gain's gradient, over the rows it reads. -/
theorem gn_at (acc : Vec Ideal S1x1024 .f32) (d : Fin 1024) :
    k0_pay27 (F := Ideal) v y x g u xv acc (ix2 0 d) = acc (ix2 0 d) + ∑ r, DH r d * (X r d * Ideal.rsqrt (Rms.ms ((1024 : ℝ) : EReal) (Ideal.ofBits .f32 0x358637BD#32) (X r))) := by
  rw [← Rms.c1024]
  pointwise [k0_pay27, k0_pay26, k0_pay25, k0_pay24, Rms.ms, hd, hx]
end rows
end Cert.Kernel3Ideal.Value
-- ==== Proof.FfnBlocks.lean ====
module
public import proofs.«01_k».proof.Proof.Gen.Kernel3Ideal.Value
public import proofs.«01_k».proof.Proof.FfnPure
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-- The token a row of a point's blocks is. -/
abbrev tok (t : Fin cfg0.N) (r : Fin 256) : Fin 4096 := ⟨t.val * 256 + r.val, by have := t.isLt; have : cfg0.N = 16 := N_0; omega⟩
/-- A token's sequence and its place in it. -/
abbrev bOf (r : Fin 4096) : Fin 2 := ⟨r.val / 2048, by omega⟩
abbrev sOf (r : Fin 4096) : Fin 2048 := ⟨r.val % 2048, by omega⟩

/-- The rows, the layer's cotangent, the gain and the three weights. -/
def X (c : Dev nD) (R : Fin 4096) (k : Fin 1024) : EReal := m ((c.tc : Thread nD τ).loc main_arg0) (ix3 (bOf R) (sOf R) k)
def D2 (c : Dev nD) (R : Fin 4096) (k : Fin 1024) : EReal := m ((c.tc : Thread nD τ).loc main_arg1) (ix3 (bOf R) (sOf R) k)
def GA (c : Dev nD) (k : Fin 1024) : EReal := m ((c.tc : Thread nD τ).loc main_arg2) (ix2 0 k)
def WG (c : Dev nD) (k : Fin 2816) (d : Fin 1024) : EReal := m ((c.tc : Thread nD τ).loc main_arg3) (ix3 0 d k)
def WU (c : Dev nD) (k : Fin 2816) (d : Fin 1024) : EReal := m ((c.tc : Thread nD τ).loc main_arg4) (ix3 0 d k)
def WD (c : Dev nD) (k : Fin 2816) (d : Fin 1024) : EReal := m ((c.tc : Thread nD τ).loc main_arg5) (ix3 0 k d)
/-- The reciprocal root of a row's mean of squares. -/
def RS (c : Dev nD) (R : Fin 4096) : EReal := Ideal.rsqrt (Rms.ms ((1024 : ℝ) : EReal) (Ideal.ofBits .f32 0x358637BD#32) (X m c R))
/-- The rows of the gate and of the up projection. -/
def AV (c : Dev nD) (R : Fin 4096) (k : Fin 2816) : EReal := ∑ d, X m c R d * RS m c R * GA m c d * WG m c k d
def BV (c : Dev nD) (R : Fin 4096) (k : Fin 2816) : EReal := ∑ d, X m c R d * RS m c R * GA m c d * WU m c k d
/-- The cotangent of the gated product. -/
def DF (c : Dev nD) (R : Fin 4096) (k : Fin 2816) : EReal := ∑ d, D2 m c R d * WD m c k d
/-- The cotangents of the gate's and the up projection's rows, as the kernel writes them. -/
def DA (c : Dev nD) (R : Fin 4096) (k : Fin 2816) : EReal :=
  DF m c R k * BV m c R k * (Swi.lg (AV m c R k) * (1 + AV m c R k * (1 - Swi.lg (AV m c R k))))
def DB (c : Dev nD) (R : Fin 4096) (k : Fin 2816) : EReal := DF m c R k * AV m c R k * Swi.lg (AV m c R k)
/-- The cotangent of the normalised rows. -/
def DHm (c : Dev nD) (R : Fin 4096) (d : Fin 1024) : EReal := (∑ k, DA m c R k * WG m c k d) + ∑ k, DB m c R k * WU m c k d

/-- The normalised rows times the gain, over variables. -/
def HN (a0 : FVec Ideal S2x2048x1024 .f32) (a2 : FVec Ideal S1x1024 .f32) : FVec Ideal S2x2048x1024 .f32 :=
  mulf (mulf a0 (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf a0 a0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 (shapeCast _ a2 shapeCasts_S1x1024_S1024)))
/-- A product of the rows with a weight, by token, over variables. -/
def UP (h : FVec Ideal S2x2048x1024 .f32) (w : FVec Ideal S1x1024x2816 .f32) : FVec Ideal S4096x2816 .bf16 :=
  shapeCast _ (truncf .bf16 (Host.dotGeneral dot_S2x2048x1024_S1024x2816_S2x2048x2816_2_0_01_1_n_n none h (shapeCast _ w shapeCasts_S1x1024x2816_S1024x2816)) bitsLt_bf16_f32) shapeCasts_S2x2048x2816_S4096x2816

theorem HN_at (a0 : FVec Ideal S2x2048x1024 .f32) (a2 : FVec Ideal S1x1024 .f32) (b : Fin 2) (s : Fin 2048) (d : Fin 1024) :
    HN a0 a2 (ix3 b s d) = a0 (ix3 b s d) * Ideal.rsqrt (Rms.ms ((1024 : ℝ) : EReal) (Ideal.ofBits .f32 0x358637BD#32) fun k : Fin 1024 => a0 (ix3 b s k)) * a2 (ix2 0 d) := by
  rw [← Rms.c1024]
  pointwise [HN, Rms.ms]
theorem UP_at (h : FVec Ideal S2x2048x1024 .f32) (w : FVec Ideal S1x1024x2816 .f32) (R : Fin 4096) (k : Fin 2816) :
    UP h w (ix2 R k) = ∑ d, h (ix3 (bOf R) (sOf R) d) * w (ix3 0 d k) := by
  pointwise [UP, bOf, sOf]

/-- The staged arrays of the gate and the up projection. -/
theorem va (c : Dev nD) : V m c main_v25 = UP (HN (m ((c.tc : Thread nD τ).loc main_arg0)) (m ((c.tc : Thread nD τ).loc main_arg2))) (m ((c.tc : Thread nD τ).loc main_arg3)) := rfl
theorem vb (c : Dev nD) : V m c main_v29 = UP (HN (m ((c.tc : Thread nD τ).loc main_arg0)) (m ((c.tc : Thread nD τ).loc main_arg2))) (m ((c.tc : Thread nD τ).loc main_arg4)) := rfl
theorem va_at (c : Dev nD) (R k) : V m c main_v25 (ix2 R k) = AV m c R k := by
  rw [va, UP_at]
  simp only [HN_at]
  rfl
theorem vb_at (c : Dev nD) (R k) : V m c main_v29 (ix2 R k) = BV m c R k := by
  rw [vb, UP_at]
  simp only [HN_at]
  rfl

/-- The staged weights. -/
theorem wg (c : Dev nD) (i j) : V m c main_v2 (ix2 i j) = WG m c i j := by
  entry_read
  pointwise [WG]
theorem wu (c : Dev nD) (i j) : V m c main_v5 (ix2 i j) = WU m c i j := by
  entry_read
  pointwise [WU]
theorem wd (c : Dev nD) (i j) : V m c main_v7 (ix2 i j) = WD m c i j := by
  entry_read
  pointwise [WD]
theorem vdb (c : Dev nD) (R k) : V m c main_v31 (ix2 R k) = D2 m c R k := by
  entry_read
  pointwise [D2]
theorem vd (c : Dev nD) (R k) : V m c main_v30 (ix2 R k) = D2 m c R k := by
  entry_read
  pointwise [D2]
theorem vx (c : Dev nD) (R k) : V m c main_v32 (ix2 R k) = X m c R k := by
  entry_read
  pointwise [X]
end Cert.Kernel3Ideal.Value
-- ==== Proof.FfnOut.lean ====
module
public import proofs.«01_k».proof.Proof.Gen.Kernel3Ideal.Value
public import proofs.«01_k».proof.Proof.FfnBlocks
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen

variable (m : (ℓ : Loc nD τ sig) → Buf (Elt Ideal) ℓ)

/-- The blocks a point reads. -/
theorem bdb (c : Dev nD) (t : Fin cfg0.N) (r : Fin 256) (k : Fin 1024) : iblk m c 0 t (ix2 r k) = D2 m c (tok t r) k := by
  rw [← vdb]
  generalize hv : V m c main_v31 = v
  blk_point [iblk, hv, idx t]
theorem bd (c : Dev nD) (t : Fin cfg0.N) (r : Fin 256) (k : Fin 1024) : iblk m c 1 t (ix2 r k) = D2 m c (tok t r) k := by
  rw [← vd]
  generalize hv : V m c main_v30 = v
  blk_point [iblk, hv, idx t]
theorem ba (c : Dev nD) (t : Fin cfg0.N) (r : Fin 256) (k : Fin 2816) : iblk m c 2 t (ix2 r k) = AV m c (tok t r) k := by
  rw [← va_at]
  generalize hv : V m c main_v25 = v
  blk_point [iblk, hv, idx t]
theorem bb (c : Dev nD) (t : Fin cfg0.N) (r : Fin 256) (k : Fin 2816) : iblk m c 3 t (ix2 r k) = BV m c (tok t r) k := by
  rw [← vb_at]
  generalize hv : V m c main_v29 = v
  blk_point [iblk, hv, idx t]
theorem bx (c : Dev nD) (t : Fin cfg0.N) (r : Fin 256) (k : Fin 1024) : iblk m c 4 t (ix2 r k) = X m c (tok t r) k := by
  rw [← vx]
  generalize hv : V m c main_v32 = v
  blk_point [iblk, hv, idx t]
theorem bg (c : Dev nD) (t : Fin cfg0.N) (k : Fin 1024) : iblk m c 5 t (ix2 0 k) = GA m c k := by
  unfold GA
  blk_point [iblk, V, idx t]

/-- After every point the three scratch arrays hold the staged weights. -/
theorem scratch (c : Dev nD) : ∀ (n : ℕ) (hn : n < cfg0.N), (outsAt0 m c n hn).2.2.2.2.2.1 = V m c main_v2
    ∧ (outsAt0 m c n hn).2.2.2.2.2.2.1 = V m c main_v5 ∧ (outsAt0 m c n hn).2.2.2.2.2.2.2 = V m c main_v7 := by
  intro n
  induction n with
  | zero =>
    intro hn
    rw [outsAt0_A m c ⟨0, hn⟩ rfl rfl]
    refine ⟨?_, ?_, ?_⟩
    · funext y
      frame_out
      canon_tiles x h
      show V m c main_v2 x = V m c main_v2 y
      exact congrArg _ (funext fun a => Fin.ext (by fin_cases a; exacts [h0.symm, h1.symm]))
    · funext y
      frame_out
      canon_tiles x h
      show V m c main_v5 x = V m c main_v5 y
      exact congrArg _ (funext fun a => Fin.ext (by fin_cases a; exacts [h0.symm, h1.symm]))
    · funext y
      frame_out
      canon_tiles x h
      show V m c main_v7 x = V m c main_v7 y
      exact congrArg _ (funext fun a => Fin.ext (by fin_cases a; exacts [h0.symm, h1.symm]))
  | succ n ih =>
    intro hn
    have hN : cfg0.N = 16 := N_0
    have hB : ¬(⟨n + 1, hn⟩ : Fin cfg0.N).val % 16 = 0 := by dsimp only; omega
    rw [outsAt0_B m c ⟨n + 1, hn⟩ hB hB]
    dsimp only
    unfold sout0_B_0 sout0_B_1 sout0_B_2
    exact ih _
end Cert.Kernel3Ideal.Value
-- ==== Proof.FfnGate.lean ====
module
public import proofs.«01_k».proof.Proof.Gen.Kernel3Ideal.Value
public import proofs.«01_k».proof.Proof.FfnOut
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen

variable (m : (ℓ : Loc nD τ sig) → Buf (Elt Ideal) ℓ)

section chunks
variable (c : Dev nD) (R : Fin 256 → Fin 4096) (v6 : Vec Ideal S256x1024 .bf16) (h6 : ∀ r d, v6 (ix2 r d) = D2 m c (R r) d)
  (w : Vec Ideal S1024x1024 .bf16) (a b : Vec Ideal S256x1024 .bf16) (w' : Vec Ideal S768x1024 .bf16) (a' b' : Vec Ideal S256x768 .bf16) (r : Fin 256)
include h6
/-- The three groups of the gate's cotangent, over what the argument blocks hold. -/
theorem da0_eq (hw : ∀ k d, w (ix2 k d) = WD m c (c0 k) d) (ha : ∀ r k, a (ix2 r k) = AV m c (R r) (c0 k)) (hb : ∀ r k, b (ix2 r k) = BV m c (R r) (c0 k)) (k : Fin 1024) :
    k0_pay10 (F := Ideal) v6 w a b (ix2 r k) = DA m c (R r) (c0 k) := by
  rw [da0]; simp only [h6, hw, ha, hb]; rfl
theorem da1_eq (hw : ∀ k d, w (ix2 k d) = WD m c (c1 k) d) (ha : ∀ r k, a (ix2 r k) = AV m c (R r) (c1 k)) (hb : ∀ r k, b (ix2 r k) = BV m c (R r) (c1 k)) (k : Fin 1024) :
    k0_pay16 (F := Ideal) (k0_pay4 v6) w a b (ix2 r k) = DA m c (R r) (c1 k) := by
  rw [da1]; simp only [h6, hw, ha, hb]; rfl
theorem da2_eq (hw : ∀ k d, w' (ix2 k d) = WD m c (c2 k) d) (ha : ∀ r k, a' (ix2 r k) = AV m c (R r) (c2 k)) (hb : ∀ r k, b' (ix2 r k) = BV m c (R r) (c2 k)) (k : Fin 768) :
    k0_pay22 (F := Ideal) (k0_pay4 v6) w' a' b' (ix2 r k) = DA m c (R r) (c2 k) := by
  rw [da2]; simp only [h6, hw, ha, hb]; rfl
/-- The three groups of the up projection's cotangent. -/
theorem db0_eq (hw : ∀ k d, w (ix2 k d) = WD m c (c0 k) d) (ha : ∀ r k, a (ix2 r k) = AV m c (R r) (c0 k)) (k : Fin 1024) :
    k0_pay9 (F := Ideal) v6 w a (ix2 r k) = DB m c (R r) (c0 k) := by
  rw [db0]; simp only [h6, hw, ha]; rfl
theorem db1_eq (hw : ∀ k d, w (ix2 k d) = WD m c (c1 k) d) (ha : ∀ r k, a (ix2 r k) = AV m c (R r) (c1 k)) (k : Fin 1024) :
    k0_pay15 (F := Ideal) (k0_pay4 v6) w a (ix2 r k) = DB m c (R r) (c1 k) := by
  rw [db1]; simp only [h6, hw, ha]; rfl
theorem db2_eq (hw : ∀ k d, w' (ix2 k d) = WD m c (c2 k) d) (ha : ∀ r k, a' (ix2 r k) = AV m c (R r) (c2 k)) (k : Fin 768) :
    k0_pay21 (F := Ideal) (k0_pay4 v6) w' a' (ix2 r k) = DB m c (R r) (c2 k) := by
  rw [db2]; simp only [h6, hw, ha]; rfl
end chunks

set_option maxHeartbeats 4000000 in
theorem daB (c : Dev nD) (t : Fin cfg0.N) (nz : ¬ t.val % 16 = 0) (r : Fin 256) (k : Fin 2816) :
    (outsAt0 m c t.val t.isLt).1 (ix2 r k) = DA m c (tok t r) k := by
  rw [outsAt0_B m c t nz nz]
  obtain ⟨e0, e1, e2⟩ := scratch m c (t.val - 1) (Nat.lt_of_le_of_lt (Nat.sub_le _ _) t.isLt)
  frame_out
  rw [e2]
  clear e0 e1 e2
  canon_tiles x h using View.cover_of_tiledBy _ ![256, 256] (by sl_kernel_rfl) _
  · idx_vars x
    refine (da2_eq m c (tok t) _ (bdb m c t) _ _ _ x0 ?_ ?_ ?_ x1).trans ?_
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
    · refine congrArg₂ (fun r k => DA m c (tok t r) k) (Fin.ext ?_) (Fin.ext ?_)
      · simpa using h0.symm
      · simpa using h1.symm
  · idx_vars x
    refine (da1_eq m c (tok t) _ (bdb m c t) _ _ _ x0 ?_ ?_ ?_ x1).trans ?_
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
    · refine congrArg₂ (fun r k => DA m c (tok t r) k) (Fin.ext ?_) (Fin.ext ?_)
      · simpa using h0.symm
      · simpa using h1.symm
  · idx_vars x
    refine (da0_eq m c (tok t) _ (bdb m c t) _ _ _ x0 ?_ ?_ ?_ x1).trans ?_
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
    · refine congrArg₂ (fun r k => DA m c (tok t r) k) (Fin.ext ?_) (Fin.ext ?_)
      · simpa using h0.symm
      · simpa using h1.symm

set_option maxHeartbeats 4000000 in
theorem daA (c : Dev nD) (t : Fin cfg0.N) (nz : t.val % 16 = 0) (r : Fin 256) (k : Fin 2816) :
    (outsAt0 m c t.val t.isLt).1 (ix2 r k) = DA m c (tok t r) k := by
  rw [outsAt0_A m c t nz nz]
  frame_out
  canon_tiles x h using View.cover_of_tiledBy _ ![256, 256] (by sl_kernel_rfl) _
  · idx_vars x
    refine (da2_eq m c (tok t) _ (bdb m c t) _ _ _ x0 ?_ ?_ ?_ x1).trans ?_
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
    · refine congrArg₂ (fun r k => DA m c (tok t r) k) (Fin.ext ?_) (Fin.ext ?_)
      · simpa using h0.symm
      · simpa using h1.symm
  · idx_vars x
    refine (da1_eq m c (tok t) _ (bdb m c t) _ _ _ x0 ?_ ?_ ?_ x1).trans ?_
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
    · refine congrArg₂ (fun r k => DA m c (tok t r) k) (Fin.ext ?_) (Fin.ext ?_)
      · simpa using h0.symm
      · simpa using h1.symm
  · idx_vars x
    refine (da0_eq m c (tok t) _ (bdb m c t) _ _ _ x0 ?_ ?_ ?_ x1).trans ?_
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
    · refine congrArg₂ (fun r k => DA m c (tok t r) k) (Fin.ext ?_) (Fin.ext ?_)
      · simpa using h0.symm
      · simpa using h1.symm

set_option maxHeartbeats 4000000 in
theorem dbB (c : Dev nD) (t : Fin cfg0.N) (nz : ¬ t.val % 16 = 0) (r : Fin 256) (k : Fin 2816) :
    (outsAt0 m c t.val t.isLt).2.1 (ix2 r k) = DB m c (tok t r) k := by
  rw [outsAt0_B m c t nz nz]
  obtain ⟨e0, e1, e2⟩ := scratch m c (t.val - 1) (Nat.lt_of_le_of_lt (Nat.sub_le _ _) t.isLt)
  frame_out
  rw [e2]
  clear e0 e1 e2
  canon_tiles x h using View.cover_of_tiledBy _ ![256, 256] (by sl_kernel_rfl) _
  · idx_vars x
    refine (db2_eq m c (tok t) _ (bdb m c t) _ _ x0 ?_ ?_ x1).trans ?_
    · intro k d
      rw [Idealize.ShloMosaic.read_unread_whole (Val := Elt Ideal) cc0_scratch2 (Memref.isWhole_whole _) (V m c main_v7)]
      pointwise [wd m c]
    · intro r k
      pointwise [ba m c t]
    · refine congrArg₂ (fun r k => DB m c (tok t r) k) (Fin.ext ?_) (Fin.ext ?_)
      · simpa using h0.symm
      · simpa using h1.symm
  · idx_vars x
    refine (db1_eq m c (tok t) _ (bdb m c t) _ _ x0 ?_ ?_ x1).trans ?_
    · intro k d
      rw [Idealize.ShloMosaic.read_unread_whole (Val := Elt Ideal) cc0_scratch2 (Memref.isWhole_whole _) (V m c main_v7)]
      pointwise [wd m c]
    · intro r k
      pointwise [ba m c t]
    · refine congrArg₂ (fun r k => DB m c (tok t r) k) (Fin.ext ?_) (Fin.ext ?_)
      · simpa using h0.symm
      · simpa using h1.symm
  · idx_vars x
    refine (db0_eq m c (tok t) _ (bdb m c t) _ _ x0 ?_ ?_ x1).trans ?_
    · intro k d
      rw [Idealize.ShloMosaic.read_unread_whole (Val := Elt Ideal) cc0_scratch2 (Memref.isWhole_whole _) (V m c main_v7)]
      pointwise [wd m c]
    · intro r k
      pointwise [ba m c t]
    · refine congrArg₂ (fun r k => DB m c (tok t r) k) (Fin.ext ?_) (Fin.ext ?_)
      · simpa using h0.symm
      · simpa using h1.symm

set_option maxHeartbeats 4000000 in
theorem dbA (c : Dev nD) (t : Fin cfg0.N) (nz : t.val % 16 = 0) (r : Fin 256) (k : Fin 2816) :
    (outsAt0 m c t.val t.isLt).2.1 (ix2 r k) = DB m c (tok t r) k := by
  rw [outsAt0_A m c t nz nz]
  frame_out
  canon_tiles x h using View.cover_of_tiledBy _ ![256, 256] (by sl_kernel_rfl) _
  · idx_vars x
    refine (db2_eq m c (tok t) _ (bdb m c t) _ _ x0 ?_ ?_ x1).trans ?_
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · refine congrArg₂ (fun r k => DB m c (tok t r) k) (Fin.ext ?_) (Fin.ext ?_)
      · simpa using h0.symm
      · simpa using h1.symm
  · idx_vars x
    refine (db1_eq m c (tok t) _ (bdb m c t) _ _ x0 ?_ ?_ x1).trans ?_
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · refine congrArg₂ (fun r k => DB m c (tok t r) k) (Fin.ext ?_) (Fin.ext ?_)
      · simpa using h0.symm
      · simpa using h1.symm
  · idx_vars x
    refine (db0_eq m c (tok t) _ (bdb m c t) _ _ x0 ?_ ?_ x1).trans ?_
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · refine congrArg₂ (fun r k => DB m c (tok t r) k) (Fin.ext ?_) (Fin.ext ?_)
      · simpa using h0.symm
      · simpa using h1.symm
end Cert.Kernel3Ideal.Value
-- ==== Proof.FfnRows.lean ====
module
public import proofs.«01_k».proof.Proof.Gen.Kernel3Ideal.Value
public import proofs.«01_k».proof.Proof.FfnGate
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen

variable (m : (ℓ : Loc nD τ sig) → Buf (Elt Ideal) ℓ)

/-- The block of the rows' cotangent. -/
abbrev KDX (c : Dev nD) (R : Fin 4096) (d : Fin 1024) : EReal :=
  D2 m c R d + RS m c R * (DHm m c R d * GA m c d - X m c R d * RS m c R *
    Ideal.div (∑ k, DHm m c R k * GA m c k * (X m c R k * RS m c R)) ((1024 : ℝ) : EReal))
/-- What a point adds to the gain's gradient. -/
def KGN (c : Dev nD) (t : Fin cfg0.N) (d : Fin 1024) : EReal := ∑ r : Fin 256, DHm m c (tok t r) d * (X m c (tok t r) d * RS m c (tok t r))

/-- The two copies of the rows' cotangent hold the same numbers. -/
theorem pay2_eq (a : FVec Ideal S256x1 .f32) (b e : FVec Ideal S256x1024 .f32) (f : FVec Ideal S256x1024 .f32) (g : FVec Ideal S256x1 .f32) (s : Ideal .f32) (r : Fin 256) (d : Fin 1024) :
    k0_pay2 (F := Ideal) a b e f g s (ix2 r d) = k0_pay1 (F := Ideal) a b e f g s (ix2 r d) := by
  pointwise [k0_pay2, k0_pay1]

set_option maxHeartbeats 4000000 in
theorem dxB (c : Dev nD) (t : Fin cfg0.N) (nz : ¬ t.val % 16 = 0) (r : Fin 256) (d : Fin 1024) :
    (outsAt0 m c t.val t.isLt).2.2.1 (ix2 r d) = KDX m c (tok t r) d := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  refine dx_at _ _ _ _ _ _ _ _ (fun r => X m c (tok t r)) (fun r => DHm m c (tok t r)) (fun r => D2 m c (tok t r)) (GA m c) ?_ (bx m c t) (bd m c t) (bg m c t) r d
  intro r d
  refine dh_at (fun r k => DA m c (tok t r) k) (fun r k => DB m c (tok t r) k) (WG m c) (WU m c) _ _ _ _ _ _ _ _ _ _ _ _ ?_ ?_ ?_ ?_ ?_ ?_ ?_ ?_ ?_ ?_ ?_ ?_ r d
  · intro r k
    refine da0_eq m c (tok t) _ (bdb m c t) _ _ _ r ?_ ?_ ?_ k
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
  · intro r k
    refine da1_eq m c (tok t) _ (bdb m c t) _ _ _ r ?_ ?_ ?_ k
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
  · intro r k
    refine da2_eq m c (tok t) _ (bdb m c t) _ _ _ r ?_ ?_ ?_ k
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
  · intro r k
    refine db0_eq m c (tok t) _ (bdb m c t) _ _ r ?_ ?_ k
    · intro k d
      rw [Idealize.ShloMosaic.read_unread_whole (Val := Elt Ideal) cc0_scratch2 (Memref.isWhole_whole _) (V m c main_v7)]
      pointwise [wd m c]
    · intro r k
      pointwise [ba m c t]
  · intro r k
    refine db1_eq m c (tok t) _ (bdb m c t) _ _ r ?_ ?_ k
    · intro k d
      rw [Idealize.ShloMosaic.read_unread_whole (Val := Elt Ideal) cc0_scratch2 (Memref.isWhole_whole _) (V m c main_v7)]
      pointwise [wd m c]
    · intro r k
      pointwise [ba m c t]
  · intro r k
    refine db2_eq m c (tok t) _ (bdb m c t) _ _ r ?_ ?_ k
    · intro k d
      rw [Idealize.ShloMosaic.read_unread_whole (Val := Elt Ideal) cc0_scratch2 (Memref.isWhole_whole _) (V m c main_v7)]
      pointwise [wd m c]
    · intro r k
      pointwise [ba m c t]
  · intro k d
    rw [Idealize.ShloMosaic.read_unread_whole (Val := Elt Ideal) cc0_scratch0 (Memref.isWhole_whole _) (V m c main_v2)]
    pointwise [wg m c]
  · intro k d
    rw [Idealize.ShloMosaic.read_unread_whole (Val := Elt Ideal) cc0_scratch0 (Memref.isWhole_whole _) (V m c main_v2)]
    pointwise [wg m c]
  · intro k d
    rw [Idealize.ShloMosaic.read_unread_whole (Val := Elt Ideal) cc0_scratch0 (Memref.isWhole_whole _) (V m c main_v2)]
    pointwise [wg m c]
  · intro k d
    rw [Idealize.ShloMosaic.read_unread_whole (Val := Elt Ideal) cc0_scratch1 (Memref.isWhole_whole _) (V m c main_v5)]
    pointwise [wu m c]
  · intro k d
    rw [Idealize.ShloMosaic.read_unread_whole (Val := Elt Ideal) cc0_scratch1 (Memref.isWhole_whole _) (V m c main_v5)]
    pointwise [wu m c]
  · intro k d
    rw [Idealize.ShloMosaic.read_unread_whole (Val := Elt Ideal) cc0_scratch1 (Memref.isWhole_whole _) (V m c main_v5)]
    pointwise [wu m c]

set_option maxHeartbeats 4000000 in
theorem dxA (c : Dev nD) (t : Fin cfg0.N) (nz : t.val % 16 = 0) (r : Fin 256) (d : Fin 1024) :
    (outsAt0 m c t.val t.isLt).2.2.1 (ix2 r d) = KDX m c (tok t r) d := by
  rw [outsAt0_A m c t nz nz]
  frame_out
  refine dx_at _ _ _ _ _ _ _ _ (fun r => X m c (tok t r)) (fun r => DHm m c (tok t r)) (fun r => D2 m c (tok t r)) (GA m c) ?_ (bx m c t) (bd m c t) (bg m c t) r d
  intro r d
  refine dh_at (fun r k => DA m c (tok t r) k) (fun r k => DB m c (tok t r) k) (WG m c) (WU m c) _ _ _ _ _ _ _ _ _ _ _ _ ?_ ?_ ?_ ?_ ?_ ?_ ?_ ?_ ?_ ?_ ?_ ?_ r d
  · intro r k
    refine da0_eq m c (tok t) _ (bdb m c t) _ _ _ r ?_ ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
  · intro r k
    refine da1_eq m c (tok t) _ (bdb m c t) _ _ _ r ?_ ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
  · intro r k
    refine da2_eq m c (tok t) _ (bdb m c t) _ _ _ r ?_ ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
  · intro r k
    refine db0_eq m c (tok t) _ (bdb m c t) _ _ r ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
  · intro r k
    refine db1_eq m c (tok t) _ (bdb m c t) _ _ r ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
  · intro r k
    refine db2_eq m c (tok t) _ (bdb m c t) _ _ r ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
  · intro k d
    refine (congrFun (View.readCov_fill (View.whole cc0_scratch0) (Val := Elt Ideal) (s := S2816x1024) (off := fun _ => 0) (by simp) (V m c main_v2) [] _ (fun _ => rfl)) _).trans ?_
    pointwise [wg m c]
  · intro k d
    refine (congrFun (View.readCov_fill (View.whole cc0_scratch0) (Val := Elt Ideal) (s := S2816x1024) (off := fun _ => 0) (by simp) (V m c main_v2) [] _ (fun _ => rfl)) _).trans ?_
    pointwise [wg m c]
  · intro k d
    refine (congrFun (View.readCov_fill (View.whole cc0_scratch0) (Val := Elt Ideal) (s := S2816x1024) (off := fun _ => 0) (by simp) (V m c main_v2) [] _ (fun _ => rfl)) _).trans ?_
    pointwise [wg m c]
  · intro k d
    refine (congrFun (View.readCov_fill (View.whole cc0_scratch1) (Val := Elt Ideal) (s := S2816x1024) (off := fun _ => 0) (by simp) (V m c main_v5) [] _ (fun _ => rfl)) _).trans ?_
    pointwise [wu m c]
  · intro k d
    refine (congrFun (View.readCov_fill (View.whole cc0_scratch1) (Val := Elt Ideal) (s := S2816x1024) (off := fun _ => 0) (by simp) (V m c main_v5) [] _ (fun _ => rfl)) _).trans ?_
    pointwise [wu m c]
  · intro k d
    refine (congrFun (View.readCov_fill (View.whole cc0_scratch1) (Val := Elt Ideal) (s := S2816x1024) (off := fun _ => 0) (by simp) (V m c main_v5) [] _ (fun _ => rfl)) _).trans ?_
    pointwise [wu m c]

set_option maxHeartbeats 4000000 in
theorem dxbB (c : Dev nD) (t : Fin cfg0.N) (nz : ¬ t.val % 16 = 0) (r : Fin 256) (d : Fin 1024) :
    (outsAt0 m c t.val t.isLt).2.2.2.1 (ix2 r d) = KDX m c (tok t r) d := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  rw [pay2_eq]
  refine dx_at _ _ _ _ _ _ _ _ (fun r => X m c (tok t r)) (fun r => DHm m c (tok t r)) (fun r => D2 m c (tok t r)) (GA m c) ?_ (bx m c t) (bd m c t) (bg m c t) r d
  intro r d
  refine dh_at (fun r k => DA m c (tok t r) k) (fun r k => DB m c (tok t r) k) (WG m c) (WU m c) _ _ _ _ _ _ _ _ _ _ _ _ ?_ ?_ ?_ ?_ ?_ ?_ ?_ ?_ ?_ ?_ ?_ ?_ r d
  · intro r k
    refine da0_eq m c (tok t) _ (bdb m c t) _ _ _ r ?_ ?_ ?_ k
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
  · intro r k
    refine da1_eq m c (tok t) _ (bdb m c t) _ _ _ r ?_ ?_ ?_ k
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
  · intro r k
    refine da2_eq m c (tok t) _ (bdb m c t) _ _ _ r ?_ ?_ ?_ k
    · intro k d
      rw [Idealize.ShloMosaic.read_unread_whole (Val := Elt Ideal) cc0_scratch2 (Memref.isWhole_whole _) (V m c main_v7)]
      pointwise [wd m c]
    · intro r k
      pointwise [ba m c t]
    · intro r k
      pointwise [bb m c t]
  · intro r k
    refine db0_eq m c (tok t) _ (bdb m c t) _ _ r ?_ ?_ k
    · intro k d
      rw [Idealize.ShloMosaic.read_unread_whole (Val := Elt Ideal) cc0_scratch2 (Memref.isWhole_whole _) (V m c main_v7)]
      pointwise [wd m c]
    · intro r k
      pointwise [ba m c t]
  · intro r k
    refine db1_eq m c (tok t) _ (bdb m c t) _ _ r ?_ ?_ k
    · intro k d
      rw [Idealize.ShloMosaic.read_unread_whole (Val := Elt Ideal) cc0_scratch2 (Memref.isWhole_whole _) (V m c main_v7)]
      pointwise [wd m c]
    · intro r k
      pointwise [ba m c t]
  · intro r k
    refine db2_eq m c (tok t) _ (bdb m c t) _ _ r ?_ ?_ k
    · intro k d
      rw [Idealize.ShloMosaic.read_unread_whole (Val := Elt Ideal) cc0_scratch2 (Memref.isWhole_whole _) (V m c main_v7)]
      pointwise [wd m c]
    · intro r k
      pointwise [ba m c t]
  · intro k d
    rw [Idealize.ShloMosaic.read_unread_whole (Val := Elt Ideal) cc0_scratch0 (Memref.isWhole_whole _) (V m c main_v2)]
    pointwise [wg m c]
  · intro k d
    rw [Idealize.ShloMosaic.read_unread_whole (Val := Elt Ideal) cc0_scratch0 (Memref.isWhole_whole _) (V m c main_v2)]
    pointwise [wg m c]
  · intro k d
    rw [Idealize.ShloMosaic.read_unread_whole (Val := Elt Ideal) cc0_scratch0 (Memref.isWhole_whole _) (V m c main_v2)]
    pointwise [wg m c]
  · intro k d
    rw [Idealize.ShloMosaic.read_unread_whole (Val := Elt Ideal) cc0_scratch1 (Memref.isWhole_whole _) (V m c main_v5)]
    pointwise [wu m c]
  · intro k d
    rw [Idealize.ShloMosaic.read_unread_whole (Val := Elt Ideal) cc0_scratch1 (Memref.isWhole_whole _) (V m c main_v5)]
    pointwise [wu m c]
  · intro k d
    rw [Idealize.ShloMosaic.read_unread_whole (Val := Elt Ideal) cc0_scratch1 (Memref.isWhole_whole _) (V m c main_v5)]
    pointwise [wu m c]

set_option maxHeartbeats 4000000 in
theorem dxbA (c : Dev nD) (t : Fin cfg0.N) (nz : t.val % 16 = 0) (r : Fin 256) (d : Fin 1024) :
    (outsAt0 m c t.val t.isLt).2.2.2.1 (ix2 r d) = KDX m c (tok t r) d := by
  rw [outsAt0_A m c t nz nz]
  frame_out
  rw [pay2_eq]
  refine dx_at _ _ _ _ _ _ _ _ (fun r => X m c (tok t r)) (fun r => DHm m c (tok t r)) (fun r => D2 m c (tok t r)) (GA m c) ?_ (bx m c t) (bd m c t) (bg m c t) r d
  intro r d
  refine dh_at (fun r k => DA m c (tok t r) k) (fun r k => DB m c (tok t r) k) (WG m c) (WU m c) _ _ _ _ _ _ _ _ _ _ _ _ ?_ ?_ ?_ ?_ ?_ ?_ ?_ ?_ ?_ ?_ ?_ ?_ r d
  · intro r k
    refine da0_eq m c (tok t) _ (bdb m c t) _ _ _ r ?_ ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
  · intro r k
    refine da1_eq m c (tok t) _ (bdb m c t) _ _ _ r ?_ ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
  · intro r k
    refine da2_eq m c (tok t) _ (bdb m c t) _ _ _ r ?_ ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
    · intro r k
      pointwise [bb m c t]
  · intro r k
    refine db0_eq m c (tok t) _ (bdb m c t) _ _ r ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
  · intro r k
    refine db1_eq m c (tok t) _ (bdb m c t) _ _ r ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
  · intro r k
    refine db2_eq m c (tok t) _ (bdb m c t) _ _ r ?_ ?_ k
    · intro k d
      refine (congrFun (View.readCov_fill (View.whole cc0_scratch2) (Val := Elt Ideal) (s := S2816x1024) (off := fun _ => 0) (by simp) (V m c main_v7) [] _ (fun _ => rfl)) _).trans ?_
      pointwise [wd m c]
    · intro r k
      pointwise [ba m c t]
  · intro k d
    refine (congrFun (View.readCov_fill (View.whole cc0_scratch0) (Val := Elt Ideal) (s := S2816x1024) (off := fun _ => 0) (by simp) (V m c main_v2) [] _ (fun _ => rfl)) _).trans ?_
    pointwise [wg m c]
  · intro k d
    refine (congrFun (View.readCov_fill (View.whole cc0_scratch0) (Val := Elt Ideal) (s := S2816x1024) (off := fun _ => 0) (by simp) (V m c main_v2) [] _ (fun _ => rfl)) _).trans ?_
    pointwise [wg m c]
  · intro k d
    refine (congrFun (View.readCov_fill (View.whole cc0_scratch0) (Val := Elt Ideal) (s := S2816x1024) (off := fun _ => 0) (by simp) (V m c main_v2) [] _ (fun _ => rfl)) _).trans ?_
    pointwise [wg m c]
  · intro k d
    refine (congrFun (View.readCov_fill (View.whole cc0_scratch1) (Val := Elt Ideal) (s := S2816x1024) (off := fun _ => 0) (by simp) (V m c main_v5) [] _ (fun _ => rfl)) _).trans ?_
    pointwise [wu m c]
  · intro k d
    refine (congrFun (View.readCov_fill (View.whole cc0_scratch1) (Val := Elt Ideal) (s := S2816x1024) (off := fun _ => 0) (by simp) (V m c main_v5) [] _ (fun _ => rfl)) _).trans ?_
    pointwise [wu m c]
  · intro k d
    refine (congrFun (View.readCov_fill (View.whole cc0_scratch1) (Val := Elt Ideal) (s := S2816x1024) (off := fun _ => 0) (by simp) (V m c main_v5) [] _ (fun _ => rfl)) _).trans ?_
    pointwise [wu m c]
end Cert.Kernel3Ideal.Value
-- ==== Proof.FfnAcc.lean ====
module
public import proofs.«01_k».proof.Proof.Gen.Kernel3Ideal.Value
public import proofs.«01_k».proof.Proof.FfnRows
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen

variable (m : (ℓ : Loc nD τ sig) → Buf (Elt Ideal) ℓ)

set_option maxHeartbeats 4000000 in
theorem gnB (c : Dev nD) (t : Fin cfg0.N) (nz : ¬ t.val % 16 = 0) (d : Fin 1024) :
    (outsAt0 m c t.val t.isLt).2.2.2.2.1 (ix2 0 d) = (outsAt0 m c (t.val - 1) (Nat.lt_of_le_of_lt (Nat.sub_le _ _) t.isLt)).2.2.2.2.1 (ix2 0 d) + KGN m c t d := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  refine (gn_at _ _ _ _ _ _ (fun r => X m c (tok t r)) (fun r => DHm m c (tok t r)) ?_ (bx m c t) _ d).trans ?_
  · intro r d
    refine dh_at (fun r k => DA m c (tok t r) k) (fun r k => DB m c (tok t r) k) (WG m c) (WU m c) _ _ _ _ _ _ _ _ _ _ _ _ ?_ ?_ ?_ ?_ ?_ ?_ ?_ ?_ ?_ ?_ ?_ ?_ r d
    · intro r k
      refine da0_eq m c (tok t) _ (bdb m c t) _ _ _ r ?_ ?_ ?_ k
      · intro k d
        rw [Idealize.ShloMosaic.read_unread_whole (Val := Elt Ideal) cc0_scratch2 (Memref.isWhole_whole _) (V m c main_v7)]
        pointwise [wd m c]
      · intro r k
        pointwise [ba m c t]
      · intro r k
        pointwise [bb m c t]
    · intro r k
      refine da1_eq m c (tok t) _ (bdb m c t) _ _ _ r ?_ ?_ ?_ k
      · intro k d
        rw [Idealize.ShloMosaic.read_unread_whole (Val := Elt Ideal) cc0_scratch2 (Memref.isWhole_whole _) (V m c main_v7)]
        pointwise [wd m c]
      · intro r k
        pointwise [ba m c t]
      · intro r k
        pointwise [bb m c t]
    · intro r k
      refine da2_eq m c (tok t) _ (bdb m c t) _ _ _ r ?_ ?_ ?_ k
      · intro k d
        rw [Idealize.ShloMosaic.read_unread_whole (Val := Elt Ideal) cc0_scratch2 (Memref.isWhole_whole _) (V m c main_v7)]
        pointwise [wd m c]
      · intro r k
        pointwise [ba m c t]
      · intro r k
        pointwise [bb m c t]
    · intro r k
      refine db0_eq m c (tok t) _ (bdb m c t) _ _ r ?_ ?_ k
      · intro k d
        rw [Idealize.ShloMosaic.read_unread_whole (Val := Elt Ideal) cc0_scratch2 (Memref.isWhole_whole _) (V m c main_v7)]
        pointwise [wd m c]
      · intro r k
        pointwise [ba m c t]
    · intro r k
      refine db1_eq m c (tok t) _ (bdb m c t) _ _ r ?_ ?_ k
      · intro k d
        rw [Idealize.ShloMosaic.read_unread_whole (Val := Elt Ideal) cc0_scratch2 (Memref.isWhole_whole _) (V m c main_v7)]
        pointwise [wd m c]
      · intro r k
        pointwise [ba m c t]
    · intro r k
      refine db2_eq m c (tok t) _ (bdb m c t) _ _ r ?_ ?_ k
      · intro k d
        rw [Idealize.ShloMosaic.read_unread_whole (Val := Elt Ideal) cc0_scratch2 (Memref.isWhole_whole _) (V m c main_v7)]
        pointwise [wd m c]
      · intro r k
        pointwise [ba m c t]
    · intro k d
      rw [Idealize.ShloMosaic.read_unread_whole (Val := Elt Ideal) cc0_scratch0 (Memref.isWhole_whole _) (V m c main_v2)]
      pointwise [wg m c]
    · intro k d
      rw [Idealize.ShloMosaic.read_unread_whole (Val := Elt Ideal) cc0_scratch0 (Memref.isWhole_whole _) (V m c main_v2)]
      pointwise [wg m c]
    · intro k d
      rw [Idealize.ShloMosaic.read_unread_whole (Val := Elt Ideal) cc0_scratch0 (Memref.isWhole_whole _) (V m c main_v2)]
      pointwise [wg m c]
    · intro k d
      rw [Idealize.ShloMosaic.read_unread_whole (Val := Elt Ideal) cc0_scratch1 (Memref.isWhole_whole _) (V m c main_v5)]
      pointwise [wu m c]
    · intro k d
      rw [Idealize.ShloMosaic.read_unread_whole (Val := Elt Ideal) cc0_scratch1 (Memref.isWhole_whole _) (V m c main_v5)]
      pointwise [wu m c]
    · intro k d
      rw [Idealize.ShloMosaic.read_unread_whole (Val := Elt Ideal) cc0_scratch1 (Memref.isWhole_whole _) (V m c main_v5)]
      pointwise [wu m c]
  · rfl

set_option maxHeartbeats 4000000 in
theorem gnA (c : Dev nD) (t : Fin cfg0.N) (nz : t.val % 16 = 0) (d : Fin 1024) :
    (outsAt0 m c t.val t.isLt).2.2.2.2.1 (ix2 0 d) = 0 + KGN m c t d := by
  rw [outsAt0_A m c t nz nz]
  frame_out
  refine (gn_at _ _ _ _ _ _ (fun r => X m c (tok t r)) (fun r => DHm m c (tok t r)) ?_ (bx m c t) _ d).trans ?_
  · intro r d
    refine dh_at (fun r k => DA m c (tok t r) k) (fun r k => DB m c (tok t r) k) (WG m c) (WU m c) _ _ _ _ _ _ _ _ _ _ _ _ ?_ ?_ ?_ ?_ ?_ ?_ ?_ ?_ ?_ ?_ ?_ ?_ r d
    · intro r k
      refine da0_eq m c (tok t) _ (bdb m c t) _ _ _ r ?_ ?_ ?_ k
      · intro k d
        refine (congrFun (View.readCov_fill (View.whole cc0_scratch2) (Val := Elt Ideal) (s := S2816x1024) (off := fun _ => 0) (by simp) (V m c main_v7) [] _ (fun _ => rfl)) _).trans ?_
        pointwise [wd m c]
      · intro r k
        pointwise [ba m c t]
      · intro r k
        pointwise [bb m c t]
    · intro r k
      refine da1_eq m c (tok t) _ (bdb m c t) _ _ _ r ?_ ?_ ?_ k
      · intro k d
        refine (congrFun (View.readCov_fill (View.whole cc0_scratch2) (Val := Elt Ideal) (s := S2816x1024) (off := fun _ => 0) (by simp) (V m c main_v7) [] _ (fun _ => rfl)) _).trans ?_
        pointwise [wd m c]
      · intro r k
        pointwise [ba m c t]
      · intro r k
        pointwise [bb m c t]
    · intro r k
      refine da2_eq m c (tok t) _ (bdb m c t) _ _ _ r ?_ ?_ ?_ k
      · intro k d
        refine (congrFun (View.readCov_fill (View.whole cc0_scratch2) (Val := Elt Ideal) (s := S2816x1024) (off := fun _ => 0) (by simp) (V m c main_v7) [] _ (fun _ => rfl)) _).trans ?_
        pointwise [wd m c]
      · intro r k
        pointwise [ba m c t]
      · intro r k
        pointwise [bb m c t]
    · intro r k
      refine db0_eq m c (tok t) _ (bdb m c t) _ _ r ?_ ?_ k
      · intro k d
        refine (congrFun (View.readCov_fill (View.whole cc0_scratch2) (Val := Elt Ideal) (s := S2816x1024) (off := fun _ => 0) (by simp) (V m c main_v7) [] _ (fun _ => rfl)) _).trans ?_
        pointwise [wd m c]
      · intro r k
        pointwise [ba m c t]
    · intro r k
      refine db1_eq m c (tok t) _ (bdb m c t) _ _ r ?_ ?_ k
      · intro k d
        refine (congrFun (View.readCov_fill (View.whole cc0_scratch2) (Val := Elt Ideal) (s := S2816x1024) (off := fun _ => 0) (by simp) (V m c main_v7) [] _ (fun _ => rfl)) _).trans ?_
        pointwise [wd m c]
      · intro r k
        pointwise [ba m c t]
    · intro r k
      refine db2_eq m c (tok t) _ (bdb m c t) _ _ r ?_ ?_ k
      · intro k d
        refine (congrFun (View.readCov_fill (View.whole cc0_scratch2) (Val := Elt Ideal) (s := S2816x1024) (off := fun _ => 0) (by simp) (V m c main_v7) [] _ (fun _ => rfl)) _).trans ?_
        pointwise [wd m c]
      · intro r k
        pointwise [ba m c t]
    · intro k d
      refine (congrFun (View.readCov_fill (View.whole cc0_scratch0) (Val := Elt Ideal) (s := S2816x1024) (off := fun _ => 0) (by simp) (V m c main_v2) [] _ (fun _ => rfl)) _).trans ?_
      pointwise [wg m c]
    · intro k d
      refine (congrFun (View.readCov_fill (View.whole cc0_scratch0) (Val := Elt Ideal) (s := S2816x1024) (off := fun _ => 0) (by simp) (V m c main_v2) [] _ (fun _ => rfl)) _).trans ?_
      pointwise [wg m c]
    · intro k d
      refine (congrFun (View.readCov_fill (View.whole cc0_scratch0) (Val := Elt Ideal) (s := S2816x1024) (off := fun _ => 0) (by simp) (V m c main_v2) [] _ (fun _ => rfl)) _).trans ?_
      pointwise [wg m c]
    · intro k d
      refine (congrFun (View.readCov_fill (View.whole cc0_scratch1) (Val := Elt Ideal) (s := S2816x1024) (off := fun _ => 0) (by simp) (V m c main_v5) [] _ (fun _ => rfl)) _).trans ?_
      pointwise [wu m c]
    · intro k d
      refine (congrFun (View.readCov_fill (View.whole cc0_scratch1) (Val := Elt Ideal) (s := S2816x1024) (off := fun _ => 0) (by simp) (V m c main_v5) [] _ (fun _ => rfl)) _).trans ?_
      pointwise [wu m c]
    · intro k d
      refine (congrFun (View.readCov_fill (View.whole cc0_scratch1) (Val := Elt Ideal) (s := S2816x1024) (off := fun _ => 0) (by simp) (V m c main_v5) [] _ (fun _ => rfl)) _).trans ?_
      pointwise [wu m c]
  · rw [z3]
    rfl
end Cert.Kernel3Ideal.Value
-- ==== Proof.FfnFinal.lean ====
module
public import proofs.«01_k».proof.Proof.Gen.Kernel3Ideal.Value
public import proofs.«01_k».proof.Proof.FfnAcc
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen

variable (m : (ℓ : Loc nD τ sig) → Buf (Elt Ideal) ℓ)

theorem da_out (c : Dev nD) (t : Fin cfg0.N) (r : Fin 256) (d : Fin 2816) : (outsAt0 m c t.val t.isLt).1 (ix2 r d) = DA m c (tok t r) d := by
  by_cases nz : t.val % 16 = 0
  · exact daA m c t nz r d
  · exact daB m c t nz r d
/-- A result array by token. -/
def G6 (c : Dev nD) : Buf (Elt Ideal) ((c.tc : Thread nD τ).loc main_v33_0) := fun i => DA m c (i 0) (i 1)
theorem final_6 (c : Dev nD) : (dats m 0 c).arrAt 6 cfg0.N = G6 m c :=
  (dats m 0 c).arrAt_eq_of_covers 6 (G6 m c) (by decide +kernel) fun t hf y => by
    blk_simp
    rw [after0_6]
    idx_vars y
    refine (da_out m c t y0 y1).trans ?_
    refine congrArg₂ (DA m c) (Fin.ext ?_) (Fin.ext ?_)
    · blk_simp [idx t]
    · blk_simp [idx t]

theorem db_out (c : Dev nD) (t : Fin cfg0.N) (r : Fin 256) (d : Fin 2816) : (outsAt0 m c t.val t.isLt).2.1 (ix2 r d) = DB m c (tok t r) d := by
  by_cases nz : t.val % 16 = 0
  · exact dbA m c t nz r d
  · exact dbB m c t nz r d
/-- A result array by token. -/
def G7 (c : Dev nD) : Buf (Elt Ideal) ((c.tc : Thread nD τ).loc main_v33_1) := fun i => DB m c (i 0) (i 1)
theorem final_7 (c : Dev nD) : (dats m 0 c).arrAt 7 cfg0.N = G7 m c :=
  (dats m 0 c).arrAt_eq_of_covers 7 (G7 m c) (by decide +kernel) fun t hf y => by
    blk_simp
    rw [after0_7]
    idx_vars y
    refine (db_out m c t y0 y1).trans ?_
    refine congrArg₂ (DB m c) (Fin.ext ?_) (Fin.ext ?_)
    · blk_simp [idx t]
    · blk_simp [idx t]

theorem dx_out (c : Dev nD) (t : Fin cfg0.N) (r : Fin 256) (d : Fin 1024) : (outsAt0 m c t.val t.isLt).2.2.1 (ix2 r d) = KDX m c (tok t r) d := by
  by_cases nz : t.val % 16 = 0
  · exact dxA m c t nz r d
  · exact dxB m c t nz r d
/-- A result array by token. -/
def G8 (c : Dev nD) : Buf (Elt Ideal) ((c.tc : Thread nD τ).loc main_v33_2) := fun i => KDX m c (i 0) (i 1)
theorem final_8 (c : Dev nD) : (dats m 0 c).arrAt 8 cfg0.N = G8 m c :=
  (dats m 0 c).arrAt_eq_of_covers 8 (G8 m c) (by decide +kernel) fun t hf y => by
    blk_simp
    rw [after0_8]
    idx_vars y
    refine (dx_out m c t y0 y1).trans ?_
    refine congrArg₂ (KDX m c) (Fin.ext ?_) (Fin.ext ?_)
    · blk_simp [idx t]
    · blk_simp [idx t]

theorem dxb_out (c : Dev nD) (t : Fin cfg0.N) (r : Fin 256) (d : Fin 1024) : (outsAt0 m c t.val t.isLt).2.2.2.1 (ix2 r d) = KDX m c (tok t r) d := by
  by_cases nz : t.val % 16 = 0
  · exact dxbA m c t nz r d
  · exact dxbB m c t nz r d
/-- A result array by token. -/
def G9 (c : Dev nD) : Buf (Elt Ideal) ((c.tc : Thread nD τ).loc main_v33_3) := fun i => KDX m c (i 0) (i 1)
theorem final_9 (c : Dev nD) : (dats m 0 c).arrAt 9 cfg0.N = G9 m c :=
  (dats m 0 c).arrAt_eq_of_covers 9 (G9 m c) (by decide +kernel) fun t hf y => by
    blk_simp
    rw [after0_9]
    idx_vars y
    refine (dxb_out m c t y0 y1).trans ?_
    refine congrArg₂ (KDX m c) (Fin.ext ?_) (Fin.ext ?_)
    · blk_simp [idx t]
    · blk_simp [idx t]

/-- After point `n` the gain's gradient holds the sum over the points up to it. -/
theorem acc (c : Dev nD) (d : Fin 1024) : ∀ (n : ℕ) (hn : n < cfg0.N),
    (outsAt0 m c n hn).2.2.2.2.1 (ix2 0 d) = ∑ t : Fin (n + 1), KGN m c ⟨t.val, by have := t.isLt; omega⟩ d := by
  intro n
  induction n with
  | zero =>
    intro hn
    refine (gnA m c ⟨0, hn⟩ rfl d).trans ?_
    rw [zero_add, Fin.sum_univ_one]
    rfl
  | succ n ih =>
    intro hn
    have hN : cfg0.N = 16 := N_0
    have hB : ¬(⟨n + 1, hn⟩ : Fin cfg0.N).val % 16 = 0 := by dsimp only; omega
    refine (gnB m c ⟨n + 1, hn⟩ hB d).trans ?_
    rw [Fin.sum_univ_castSucc]
    refine Ideal.add_congr ?_ rfl
    exact ih _

/-- The sum of what the points add to the gain's gradient. -/
def GNsum (c : Dev nD) (d : Fin 1024) : EReal := ∑ t : Fin 16, KGN m c ⟨t.val, by rw [show cfg0.N = 16 from N_0]; exact t.isLt⟩ d

/-- The gain's gradient. -/
def G10 (c : Dev nD) : Buf (Elt Ideal) ((c.tc : Thread nD τ).loc main_v33_4) := fun i => GNsum m c (i 1)

theorem final_10 (c : Dev nD) : (dats m 0 c).arrAt 10 cfg0.N = G10 m c :=
  (dats m 0 c).arrAt_eq_of_covers 10 (G10 m c) (by decide +kernel) fun t hf y => by
    blk_simp
    rw [after0_10]
    idx_vars y
    have hN : cfg0.N = 16 := N_0
    have h15 : t.val = 15 := by have := (flush0_10 t).mp hf; have := t.isLt; omega
    obtain rfl : y0 = 0 := Subsingleton.elim _ _
    have e : ∀ n (hn : n < cfg0.N), n = 15 → (outsAt0 m c n hn).2.2.2.2.1 (ix2 0 y1) = GNsum m c y1 := by
      rintro n hn rfl
      exact acc m c y1 15 hn
    refine (e t.val t.isLt h15).trans ?_
    refine congrArg (GNsum m c) (Fin.ext ?_)
    blk_simp [idx t]
end Cert.Kernel3Ideal.Value
-- ==== Proof.FfnRefPure.lean ====
module
public import proofs.«01_k».proof.Proof.Gen.Reference3Ideal.Run
public import proofs.«01_k».proof.Proof.FfnMath
public import Idealize.ShloMosaic.Lib.Pipeline.ValueKit
public import Idealize.ShloMosaic.Lib.Pointwise
public import proofs.«01_k».proof.Proof.InRefPure
public import Idealize.ShloMosaic.Lib.Claim
@[expose] public section
set_option maxRecDepth 16384
noncomputable section
open Idealize.ShloMosaic Idealize.ShloMosaic.TcCoe Idealize.SL.Sem
namespace Cert.Reference3Ideal.Value
open Cert.Reference3Ideal Cert.Reference3Ideal.Gen

/-- The mean of squares plus the small constant. -/
def MS (a0 : FVec Ideal S2x2048x1024 .f32) : FVec Ideal S2x2048x1 .f32 :=
  (addf (Host.divf (broadcastInDim S2x2048x1 ![0, 1] bcast_S2x2048_S2x2048x1_0_1 (Host.reduceAdd (mulf a0 a0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))
/-- The gain along every row. -/
def G (a2 : FVec Ideal S1x1024 .f32) : FVec Ideal S2x2048x1024 .f32 :=
  (broadcastInDim S2x2048x1024 ![0, 1, 2] bcast_S1x1x1024_S2x2048x1024_0_1_2 (broadcastInDim S1x1x1024 ![2] bcast_S1024_S1x1x1024_2 (shapeCast _ a2 shapeCasts_S1x1024_S1024)))
/-- The normalised rows times the gain. -/
def HN (a0 : FVec Ideal S2x2048x1024 .f32) (v : FVec Ideal S2x2048x1 .f32) (g : FVec Ideal S2x2048x1024 .f32) : FVec Ideal S2x2048x1024 .f32 :=
  mulf (mulf a0 (broadcastInDim S2x2048x1024 ![0, 1, 2] bcast_S2x2048x1_S2x2048x1024_0_1_2 (Host.rsqrt v))) g
/-- A product with one of the two input weights. -/
def UP (h : FVec Ideal S2x2048x1024 .f32) (w : FVec Ideal S1x1024x2816 .f32) : FVec Ideal S2x2048x2816 .f32 :=
  Host.dotGeneral dot_S2x2048x1024_S1024x2816_S2x2048x2816_2_0_01_1_n_n none h (shapeCast _ w shapeCasts_S1x1024x2816_S1024x2816)
/-- The logistic function. -/
def SG (a : FVec Ideal S2x2048x2816 .f32) : FVec Ideal S2x2048x2816 .f32 :=
  Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf a)))
/-- The cotangent of the gated product. -/
def DF (a1 : FVec Ideal S2x2048x1024 .f32) (w : FVec Ideal S1x2816x1024 .f32) : FVec Ideal S2x2048x2816 .f32 :=
  Host.dotGeneral dot_S2x2048x1024_S2816x1024_S2x2048x2816_2_1_01_0_n_n none a1 (shapeCast _ w shapeCasts_S1x2816x1024_S2816x1024)
/-- The cotangent handed on as it is. -/
def ID (a1 : FVec Ideal S2x2048x1024 .f32) : FVec Ideal S2x2048x1024 .f32 := shapeCast _ a1 shapeCasts_S2x2048x1024_S2x2048x1024
/-- The cotangents of the gate's and of the up projection's rows. -/
def DA (a b sg df : FVec Ideal S2x2048x2816 .f32) : FVec Ideal S2x2048x2816 .f32 :=
  addf (mulf (mulf df b) sg) (mulf (mulf a (mulf df b)) (mulf sg (subf (broadcastInDim S2x2048x2816 ![] bcast_S_S2x2048x2816 (constant S_ .f32 0x3F800000#32)) sg)))
def DB (a sg df : FVec Ideal S2x2048x2816 .f32) : FVec Ideal S2x2048x2816 .f32 := mulf (mulf a sg) df
/-- An array by token in the narrow format. -/
def RW (a : FVec Ideal S2x2048x2816 .f32) : FVec Ideal S4096x2816 .bf16 := truncf .bf16 (shapeCast _ a shapeCasts_S2x2048x2816_S4096x2816) bitsLt_bf16_f32
/-- The cotangent of the normalised rows. -/
def DH (da db : FVec Ideal S2x2048x2816 .f32) (w3 w4 : FVec Ideal S1x1024x2816 .f32) : FVec Ideal S2x2048x1024 .f32 :=
  addf (Host.dotGeneral dot_S2x2048x2816_S1024x2816_S2x2048x1024_2_1_01_0_n_n none db (shapeCast _ w4 shapeCasts_S1x1024x2816_S1024x2816)) (Host.dotGeneral dot_S2x2048x2816_S1024x2816_S2x2048x1024_2_1_01_0_n_n none da (shapeCast _ w3 shapeCasts_S1x1024x2816_S1024x2816))
/-- The rows' cotangent over variables. -/
def DX (a0 a1 dh g : FVec Ideal S2x2048x1024 .f32) (v : FVec Ideal S2x2048x1 .f32) : FVec Ideal S4096x1024 .f32 :=
  shapeCast _ (addf (addf (addf a1 (mulf (mulf dh g) (broadcastInDim S2x2048x1024 ![0, 1, 2] bcast_S2x2048x1_S2x2048x1024_0_1_2 (Host.rsqrt v)))) (mulf a0 (broadcastInDim S2x2048x1024 ![0, 1] bcast_S2x2048_S2x2048x1024_0_1 (Host.reduceAdd (Host.divf (mulf (shapeCast _ (Host.reduceAdd (mulf a0 (mulf dh g)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt v) v))) (broadcastInDim S2x2048x1 ![] bcast_S_S2x2048x1 (constant S_ .f32 0x44800000#32))) (constant S_ .f32 0x00000000#32) reducesTo_S2x2048x1_S2x2048_d2 h_S_)))) (mulf (broadcastInDim S2x2048x1024 ![0, 1] bcast_S2x2048_S2x2048x1024_0_1 (Host.reduceAdd (Host.divf (mulf (shapeCast _ (Host.reduceAdd (mulf a0 (mulf dh g)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt v) v))) (broadcastInDim S2x2048x1 ![] bcast_S_S2x2048x1 (constant S_ .f32 0x44800000#32))) (constant S_ .f32 0x00000000#32) reducesTo_S2x2048x1_S2x2048_d2 h_S_)) a0)) shapeCasts_S2x2048x1024_S4096x1024
/-- The gain's gradient over variables. -/
def GN (a0 dh : FVec Ideal S2x2048x1024 .f32) (v : FVec Ideal S2x2048x1 .f32) : FVec Ideal S1x1024 .f32 :=
  broadcastInDim S1x1024 ![1] bcast_S1024_S1x1024_1 (Host.reduceAdd (shapeCast _ (Host.reduceAdd (mulf (mulf a0 (broadcastInDim S2x2048x1024 ![0, 1, 2] bcast_S2x2048x1_S2x2048x1024_0_1_2 (Host.rsqrt v))) dh) (constant S_ .f32 0x00000000#32) reducesTo_S2x2048x1024_S1024_d0_1 h_S_) shapeCasts_S1024_S1x1x1024) (constant S_ .f32 0x00000000#32) reducesTo_S1x1x1024_S1024_d0_1 h_S_)

/-- The same rows' cotangent in the narrow format. -/
def NR (a : FVec Ideal S4096x1024 .f32) : FVec Ideal S4096x1024 .bf16 := truncf .bf16 a bitsLt_bf16_f32

/-- The row of a token and its place in it. -/
abbrev bOf (r : Fin 4096) : Fin 2 := ⟨r.val / 2048, by omega⟩
abbrev sOf (r : Fin 4096) : Fin 2048 := ⟨r.val % 2048, by omega⟩

/-- The rows' cotangent at an index: the derivative term by term. -/
theorem DX_at (a0 a1 dh g : FVec Ideal S2x2048x1024 .f32) (v : FVec Ideal S2x2048x1 .f32) (r : Fin 4096) (d : Fin 1024) :
    DX a0 a1 dh g v (ix2 r d) = a1 (ix3 (bOf r) (sOf r) d) + dh (ix3 (bOf r) (sOf r) d) * g (ix3 (bOf r) (sOf r) d) * Ideal.rsqrt (v (ix3 (bOf r) (sOf r) 0))
      + a0 (ix3 (bOf r) (sOf r) d) * Ideal.div ((∑ k, a0 (ix3 (bOf r) (sOf r) k) * (dh (ix3 (bOf r) (sOf r) k) * g (ix3 (bOf r) (sOf r) k)))
          * (((-(1/2) : ℝ) : EReal) * Ideal.div (Ideal.rsqrt (v (ix3 (bOf r) (sOf r) 0))) (v (ix3 (bOf r) (sOf r) 0)))) ((1024 : ℝ) : EReal)
      + Ideal.div ((∑ k, a0 (ix3 (bOf r) (sOf r) k) * (dh (ix3 (bOf r) (sOf r) k) * g (ix3 (bOf r) (sOf r) k)))
          * (((-(1/2) : ℝ) : EReal) * Ideal.div (Ideal.rsqrt (v (ix3 (bOf r) (sOf r) 0))) (v (ix3 (bOf r) (sOf r) 0)))) ((1024 : ℝ) : EReal) * a0 (ix3 (bOf r) (sOf r) d) := by
  rw [← Rms.c1024, ← Rms.cmhalf]
  pointwise [DX, bOf, sOf]
  simp only [Fin.sum_univ_one]

/-- The gain's gradient at an index: the sum over all tokens. -/
theorem GN_at (a0 dh : FVec Ideal S2x2048x1024 .f32) (v : FVec Ideal S2x2048x1 .f32) (d : Fin 1024) :
    GN a0 dh v (ix2 0 d) = ∑ a : Fin 2, ∑ b : Fin 2048, a0 (ix3 a b d) * Ideal.rsqrt (v (ix3 a b 0)) * dh (ix3 a b d) := by
  pointwise [GN]
  rw [Rms.hostReduceAdd_a01]
  simp only [Fin.sum_univ_one, zero_add]
  pointwise
  rw [Rms.hostReduceAdd_a01]
  pointwise

theorem MS_at (a0 : FVec Ideal S2x2048x1024 .f32) (b : Fin 2) (s : Fin 2048) :
    MS a0 (ix3 b s 0) = Rms.ms ((1024 : ℝ) : EReal) (Ideal.ofBits .f32 0x358637BD#32) fun k : Fin 1024 => a0 (ix3 b s k) := by
  pointwise [MS, Rms.ms]
  rw [Rms.c1024]

theorem G_at (a2 : FVec Ideal S1x1024 .f32) (b : Fin 2) (s : Fin 2048) (d : Fin 1024) : G a2 (ix3 b s d) = a2 (ix2 0 d) := by
  pointwise [G]

theorem NR_at (a : FVec Ideal S4096x1024 .f32) (r : Fin 4096) (d : Fin 1024) : NR a (ix2 r d) = a (ix2 r d) := by
  pointwise [NR]
theorem RW_at (a : FVec Ideal S2x2048x2816 .f32) (r : Fin 4096) (k : Fin 2816) : RW a (ix2 r k) = a (ix3 (bOf r) (sOf r) k) := by
  pointwise [RW, bOf, sOf]
theorem ID_eq (a : FVec Ideal S2x2048x1024 .f32) : ID a = a := by
  funext i
  obtain ⟨b, s, d, rfl⟩ : ∃ b s d, i = ix3 b s d := ⟨i 0, i 1, i 2, eq_ix3 i⟩
  pointwise [ID]
theorem HN_at (a0 : FVec Ideal S2x2048x1024 .f32) (v : FVec Ideal S2x2048x1 .f32) (g : FVec Ideal S2x2048x1024 .f32) (b : Fin 2) (s : Fin 2048) (d : Fin 1024) :
    HN a0 v g (ix3 b s d) = a0 (ix3 b s d) * Ideal.rsqrt (v (ix3 b s 0)) * g (ix3 b s d) := by
  pointwise [HN]
theorem UP_at (h : FVec Ideal S2x2048x1024 .f32) (w : FVec Ideal S1x1024x2816 .f32) (b : Fin 2) (s : Fin 2048) (k : Fin 2816) :
    UP h w (ix3 b s k) = ∑ d, h (ix3 b s d) * w (ix3 0 d k) := by
  pointwise [UP]
theorem SG_at (a : FVec Ideal S2x2048x2816 .f32) (b : Fin 2) (s : Fin 2048) (k : Fin 2816) : SG a (ix3 b s k) = Swi.lg (a (ix3 b s k)) := by
  pointwise [SG, Swi.lg, Swi.cone]
theorem DF_at (a1 : FVec Ideal S2x2048x1024 .f32) (w : FVec Ideal S1x2816x1024 .f32) (b : Fin 2) (s : Fin 2048) (k : Fin 2816) :
    DF a1 w (ix3 b s k) = ∑ d, a1 (ix3 b s d) * w (ix3 0 k d) := by
  pointwise [DF]
theorem DA_at (a b' sg df : FVec Ideal S2x2048x2816 .f32) (b : Fin 2) (s : Fin 2048) (k : Fin 2816) :
    DA a b' sg df (ix3 b s k) = df (ix3 b s k) * b' (ix3 b s k) * sg (ix3 b s k)
      + a (ix3 b s k) * (df (ix3 b s k) * b' (ix3 b s k)) * (sg (ix3 b s k) * (1 - sg (ix3 b s k))) := by
  pointwise [DA, Swi.cone]
theorem DB_at (a sg df : FVec Ideal S2x2048x2816 .f32) (b : Fin 2) (s : Fin 2048) (k : Fin 2816) :
    DB a sg df (ix3 b s k) = a (ix3 b s k) * sg (ix3 b s k) * df (ix3 b s k) := by
  pointwise [DB]
theorem DH_at (da db : FVec Ideal S2x2048x2816 .f32) (w3 w4 : FVec Ideal S1x1024x2816 .f32) (b : Fin 2) (s : Fin 2048) (d : Fin 1024) :
    DH da db w3 w4 (ix3 b s d) = (∑ k, db (ix3 b s k) * w4 (ix3 0 d k)) + ∑ k, da (ix3 b s k) * w3 (ix3 0 d k) := by
  pointwise [DH]

section results
variable (m : (ℓ : Loc nD τ sig) → Buf (Elt Ideal) ℓ) (c : Dev nD)
/-- The reference's stages over its arguments. -/
abbrev p0 : FVec Ideal S2x2048x1024 .f32 := m ((c.tc : Thread nD τ).loc main_arg0)
abbrev p1 : FVec Ideal S2x2048x1024 .f32 := m ((c.tc : Thread nD τ).loc main_arg1)
abbrev p2 : FVec Ideal S1x1024 .f32 := m ((c.tc : Thread nD τ).loc main_arg2)
abbrev p3 : FVec Ideal S1x1024x2816 .f32 := m ((c.tc : Thread nD τ).loc main_arg3)
abbrev p4 : FVec Ideal S1x1024x2816 .f32 := m ((c.tc : Thread nD τ).loc main_arg4)
abbrev p5 : FVec Ideal S1x2816x1024 .f32 := m ((c.tc : Thread nD τ).loc main_arg5)
end results
section stages
variable (a0 a1 : FVec Ideal S2x2048x1024 .f32) (a2 : FVec Ideal S1x1024 .f32) (a3 a4 : FVec Ideal S1x1024x2816 .f32) (a5 : FVec Ideal S1x2816x1024 .f32)
def Ra : FVec Ideal S2x2048x2816 .f32 := UP (HN a0 (MS a0) (G a2)) a3
def Rda : FVec Ideal S2x2048x2816 .f32 := DA (Ra a0 a2 a3) (Ra a0 a2 a4) (SG (Ra a0 a2 a3)) (DF a1 a5)
def Rdb : FVec Ideal S2x2048x2816 .f32 := DB (Ra a0 a2 a3) (SG (Ra a0 a2 a3)) (DF a1 a5)
def Rdh : FVec Ideal S2x2048x1024 .f32 := DH (Rda a0 (ID a1) a2 a3 a4 a5) (Rdb a0 (ID a1) a2 a3 a5) a3 a4
def Rdx : FVec Ideal S4096x1024 .f32 := DX a0 a1 (Rdh a0 a1 a2 a3 a4 a5) (G a2) (MS a0)
end stages
variable (m : (ℓ : Loc nD τ sig) → Buf (Elt Ideal) ℓ) (c : Dev nD)
/-- The reference's results are these stages. -/
theorem final0 : res_main_v84 (F := Ideal) m c = RW (Rda (p0 m c) (p1 m c) (p2 m c) (p3 m c) (p4 m c) (p5 m c)) := rfl
theorem final2 : res_main_v82 (F := Ideal) m c = Rdx (p0 m c) (p1 m c) (p2 m c) (p3 m c) (p4 m c) (p5 m c) := rfl
theorem final3 : res_main_v87 (F := Ideal) m c = NR (Rdx (p0 m c) (p1 m c) (p2 m c) (p3 m c) (p4 m c) (p5 m c)) := rfl
theorem final4 : res_main_v55 (F := Ideal) m c = GN (p0 m c) (Rdh (p0 m c) (p1 m c) (p2 m c) (p3 m c) (p4 m c) (p5 m c)) (MS (p0 m c)) := rfl
end Cert.Reference3Ideal.Value
-- ==== Proof.FfnClaim.lean ====
module
public import proofs.«01_k».proof.Defs
public import proofs.«01_k».proof.Proof.FfnFinal
public import proofs.«01_k».proof.Proof.FfnRefPure
public import proofs.«01_k».proof.Proof.AttnClaim
public import Idealize.ShloMosaic.Lib.Claim
public import Idealize.ShloMosaic.Lib.Pointwise
@[expose] public section
set_option maxRecDepth 16384
noncomputable section
open Idealize.ShloMosaic Idealize.ShloMosaic.TcCoe Idealize.SL.Sem

/-- A normalised entry is real whatever the row: if the squares sum to infinity the inverse root is zero. -/
theorem Swi.isR_xh {n : ℕ} (x : Fin n → EReal) (d : Fin n) {N E : ℝ} (hN : 0 < N) (hE : 0 < E) :
    Swi.IsR (x d * Ideal.rsqrt (Rms.ms (N : EReal) (E : EReal) x)) := by
  rcases Rms.sumsq x with h | ⟨y, hy, h⟩
  · have e : Rms.ms (N : EReal) (E : EReal) x = ⊤ := by
      unfold Rms.ms
      rw [h, Ideal.div_coe hN.ne', EReal.top_mul_coe_of_pos (by positivity), EReal.top_add_coe]
    rw [e, Ideal.rsqrt_top, mul_zero]
    exact Swi.isR_coe 0
  · have hx : ∀ k, Swi.IsR (x k) := fun k => by rw [hy k]; exact Swi.isR_coe _
    exact Swi.isR_mul (hx d) (Swi.isR_rms x hx hN hE)

namespace Cert.FfnPair

/-- The shape conditions of the precondition. -/
theorem finite3_facts : Cert.Pre_finite3.Facts where
  bcast_S_S2x2048x1024 := by decide
  bcast_S_S1x1024 := by decide
  bcast_S_S1x1024x2816 := by decide
  bcast_S_S1x2816x1024 := by decide

section
open Cert.Kernel3Ideal.Value
variable (m : (ℓ : Loc Cert.Kernel3Ideal.nD Cert.Kernel3Ideal.τ Cert.Kernel3Ideal.sig) → Buf (Elt Ideal) ℓ) (c : Dev Cert.Kernel3Ideal.nD)

/-- The kernel's six arguments. -/
abbrev q0 : FVec Ideal Cert.Reference3Ideal.S2x2048x1024 .f32 := m ((c.tc : Thread _ _).loc Cert.Kernel3Ideal.main_arg0)
abbrev q1 : FVec Ideal Cert.Reference3Ideal.S2x2048x1024 .f32 := m ((c.tc : Thread _ _).loc Cert.Kernel3Ideal.main_arg1)
abbrev q2 : FVec Ideal Cert.Reference3Ideal.S1x1024 .f32 := m ((c.tc : Thread _ _).loc Cert.Kernel3Ideal.main_arg2)
abbrev q3 : FVec Ideal Cert.Reference3Ideal.S1x1024x2816 .f32 := m ((c.tc : Thread _ _).loc Cert.Kernel3Ideal.main_arg3)
abbrev q4 : FVec Ideal Cert.Reference3Ideal.S1x1024x2816 .f32 := m ((c.tc : Thread _ _).loc Cert.Kernel3Ideal.main_arg4)
abbrev q5 : FVec Ideal Cert.Reference3Ideal.S1x2816x1024 .f32 := m ((c.tc : Thread _ _).loc Cert.Kernel3Ideal.main_arg5)

/-- The forward rows of the reference are the kernel's saved rows. -/
theorem a_at (R : Fin 4096) (k : Fin 2816) : Cert.Reference3Ideal.Value.Ra (q0 m c) (q2 m c) (q3 m c) (ix3 (bOf R) (sOf R) k) = AV m c R k := by
  unfold Cert.Reference3Ideal.Value.Ra
  rw [Cert.Reference3Ideal.Value.UP_at]
  simp only [Cert.Reference3Ideal.Value.HN_at, Cert.Reference3Ideal.Value.MS_at, Cert.Reference3Ideal.Value.G_at]
  rfl
theorem b_at (R : Fin 4096) (k : Fin 2816) : Cert.Reference3Ideal.Value.Ra (q0 m c) (q2 m c) (q4 m c) (ix3 (bOf R) (sOf R) k) = BV m c R k := by
  unfold Cert.Reference3Ideal.Value.Ra
  rw [Cert.Reference3Ideal.Value.UP_at]
  simp only [Cert.Reference3Ideal.Value.HN_at, Cert.Reference3Ideal.Value.MS_at, Cert.Reference3Ideal.Value.G_at]
  rfl
theorem df_at (R : Fin 4096) (k : Fin 2816) : Cert.Reference3Ideal.Value.DF (q1 m c) (q5 m c) (ix3 (bOf R) (sOf R) k) = DF m c R k := by
  rw [Cert.Reference3Ideal.Value.DF_at]
  rfl

/-- The precondition, entry by entry. -/
def Real : Prop := (∀ i, Swi.IsR (q1 m c i)) ∧ (∀ i, Swi.IsR (q2 m c i)) ∧ (∀ i, Swi.IsR (q4 m c i)) ∧ ∀ i, Swi.IsR (q5 m c i)

/-- The factor before the gate's derivative is real. -/
theorem factor (h : Real m c) (R : Fin 4096) (k : Fin 2816) : Swi.IsR (DF m c R k * BV m c R k) := by
  obtain ⟨E, hE, eE⟩ := Rms.ceps
  refine Swi.isR_mul (Swi.isR_sum _ fun d => Swi.isR_mul (h.1 _) (h.2.2.2 _)) (Swi.isR_sum _ fun d => Swi.isR_mul (Swi.isR_mul ?_ (h.2.1 _)) (h.2.2.1 _))
  unfold RS
  rw [eE]
  exact Swi.isR_xh (X m c R) d (by norm_num) hE

/-- The cotangent of the gate's rows is the derivative's. -/
theorem da_at (h : Real m c) (R : Fin 4096) (k : Fin 2816) :
    Cert.Reference3Ideal.Value.Rda (q0 m c) (q1 m c) (q2 m c) (q3 m c) (q4 m c) (q5 m c) (ix3 (bOf R) (sOf R) k) = DA m c R k := by
  unfold Cert.Reference3Ideal.Value.Rda
  rw [Cert.Reference3Ideal.Value.DA_at, Cert.Reference3Ideal.Value.SG_at, a_at, b_at, df_at]
  unfold DA
  rw [factor m c h R k]
  exact (Swi.gate (AV m c R k) _).symm

/-- The cotangent of the up projection's rows is the derivative's. -/
theorem db_at (R : Fin 4096) (k : Fin 2816) :
    Cert.Reference3Ideal.Value.Rdb (q0 m c) (q1 m c) (q2 m c) (q3 m c) (q5 m c) (ix3 (bOf R) (sOf R) k) = DB m c R k := by
  unfold Cert.Reference3Ideal.Value.Rdb
  rw [Cert.Reference3Ideal.Value.DB_at, Cert.Reference3Ideal.Value.SG_at, a_at, df_at]
  unfold DB
  rw [mul_comm, mul_assoc]

/-- The cotangent of the normalised rows is the derivative's. -/
theorem dh_at (h : Real m c) (R : Fin 4096) (d : Fin 1024) :
    Cert.Reference3Ideal.Value.Rdh (q0 m c) (q1 m c) (q2 m c) (q3 m c) (q4 m c) (q5 m c) (ix3 (bOf R) (sOf R) d) = DHm m c R d := by
  unfold Cert.Reference3Ideal.Value.Rdh
  rw [Cert.Reference3Ideal.Value.ID_eq, Cert.Reference3Ideal.Value.DH_at]
  simp only [da_at m c h R, db_at m c R]
  exact add_comm _ _

theorem da_eq (h : Real m c) : G6 m c = Cert.Reference3Ideal.Value.RW (Cert.Reference3Ideal.Value.Rda (q0 m c) (q1 m c) (q2 m c) (q3 m c) (q4 m c) (q5 m c)) := by
  funext i
  obtain ⟨r, k, rfl⟩ : ∃ (r : Fin 4096) (k : Fin 2816), i = ix2 r k := ⟨i 0, i 1, eq_ix2 i⟩
  exact ((Cert.Reference3Ideal.Value.RW_at _ r k).trans (da_at m c h r k)).symm
theorem db_eq : G7 m c = Cert.Reference3Ideal.Value.RW (Cert.Reference3Ideal.Value.Rdb (q0 m c) (q1 m c) (q2 m c) (q3 m c) (q5 m c)) := by
  funext i
  obtain ⟨r, k, rfl⟩ : ∃ (r : Fin 4096) (k : Fin 2816), i = ix2 r k := ⟨i 0, i 1, eq_ix2 i⟩
  exact ((Cert.Reference3Ideal.Value.RW_at _ r k).trans (db_at m c r k)).symm

/-- The kernel's rows' cotangent is the derivative plus the residual's cotangent. -/
theorem dx_at' (h : Real m c) (r : Fin 4096) (d : Fin 1024) :
    Cert.Reference3Ideal.Value.Rdx (q0 m c) (q1 m c) (q2 m c) (q3 m c) (q4 m c) (q5 m c) (ix2 r d) = KDX m c r d := by
  obtain ⟨E, hE, eE⟩ := Rms.ceps
  unfold Cert.Reference3Ideal.Value.Rdx
  rw [Cert.Reference3Ideal.Value.DX_at]
  simp only [Cert.Reference3Ideal.Value.MS_at, Cert.Reference3Ideal.Value.G_at]
  simp only [dh_at m c h r]
  unfold KDX RS
  rw [eE, add_assoc, add_assoc]
  refine Eq.trans ?_ (Rms.grad (X m c r) (fun k => DHm m c r k * GA m c k) (D2 m c r d) d (by norm_num) hE).symm
  rw [add_assoc]
  rfl
theorem dx_eq (h : Real m c) : G8 m c = Cert.Reference3Ideal.Value.Rdx (q0 m c) (q1 m c) (q2 m c) (q3 m c) (q4 m c) (q5 m c) := by
  funext i
  obtain ⟨r, d, rfl⟩ : ∃ (r : Fin 4096) (d : Fin 1024), i = ix2 r d := ⟨i 0, i 1, eq_ix2 i⟩
  exact (dx_at' m c h r d).symm
theorem dxb_eq (h : Real m c) : G9 m c = Cert.Reference3Ideal.Value.NR (Cert.Reference3Ideal.Value.Rdx (q0 m c) (q1 m c) (q2 m c) (q3 m c) (q4 m c) (q5 m c)) := by
  funext i
  obtain ⟨r, d, rfl⟩ : ∃ (r : Fin 4096) (d : Fin 1024), i = ix2 r d := ⟨i 0, i 1, eq_ix2 i⟩
  exact ((Cert.Reference3Ideal.Value.NR_at _ r d).trans (dx_at' m c h r d)).symm

/-- The kernel's gain gradient is the derivative's. -/
theorem gn_eq (h : Real m c) : G10 m c = Cert.Reference3Ideal.Value.GN (q0 m c)
    (Cert.Reference3Ideal.Value.Rdh (q0 m c) (q1 m c) (q2 m c) (q3 m c) (q4 m c) (q5 m c)) (Cert.Reference3Ideal.Value.MS (q0 m c)) := by
  funext i
  obtain ⟨r, d, rfl⟩ : ∃ (r : Fin 1) (d : Fin 1024), i = ix2 r d := ⟨i 0, i 1, eq_ix2 i⟩
  obtain rfl : r = 0 := Subsingleton.elim _ _
  rw [Cert.Reference3Ideal.Value.GN_at]
  simp only [Cert.Reference3Ideal.Value.MS_at]
  show GNsum m c d = _
  unfold GNsum KGN
  have key : ∀ f : Fin 4096 → EReal, (∑ t : Fin 16, ∑ r : Fin 256, f ⟨t.val * 256 + r.val, by omega⟩)
      = ∑ a : Fin 2, ∑ b : Fin 2048, f ⟨a.val * 2048 + b.val, by omega⟩ := fun f =>
    (Fin.sum_univ_tiles 16 256 rfl f).symm.trans (Fin.sum_univ_tiles 2 2048 rfl f)
  refine (key fun R => DHm m c R d * (X m c R d * RS m c R)).trans ?_
  refine Finset.sum_congr rfl fun a _ => Finset.sum_congr rfl fun b _ => ?_
  have ha : bOf ⟨a.val * 2048 + b.val, by omega⟩ = a := Fin.ext (by dsimp only [bOf]; omega)
  have hb : sOf ⟨a.val * 2048 + b.val, by omega⟩ = b := Fin.ext (by dsimp only [sOf]; omega)
  have hd := dh_at m c h ⟨a.val * 2048 + b.val, by omega⟩ d
  rw [ha, hb] at hd
  rw [hd, mul_comm]
  unfold RS X
  rw [ha, hb]
end

/-- The precondition makes the entries real. -/
theorem reals [Cert.Pre_finite3.Facts] (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) : Real m c :=
  ⟨fun i => Cert.AttnPair.real_of_bit _ (congrFun (h c).1 i), fun i => Cert.AttnPair.real_of_bit _ (congrFun (h c).2.1 i),
    fun i => Cert.AttnPair.real_of_bit _ (congrFun (h c).2.2.1 i), fun i => Cert.AttnPair.real_of_bit _ (congrFun (h c).2.2.2 i)⟩

section
open Cert.Reference3Ideal.Value
set_option maxHeartbeats 4000000 in
/-- The reference's run, its five results by stages. -/
theorem ref_run [Cert.Reference3Ideal.Facts] (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_v84) = RW (Rda (p0 m c) (p1 m c) (p2 m c) (p3 m c) (p4 m c) (p5 m c))
      ∧ r.2.mem ((c.tc : Thread Cert.Reference3Ideal.nD Cert.Reference3Ideal.τ).loc Cert.Reference3Ideal.main_v86) = RW (Rdb (p0 m c) (p1 m c) (p2 m c) (p3 m c) (p5 m c))
      ∧ r.2.mem ((c.tc : Thread Cert.Reference3Ideal.nD Cert.Reference3Ideal.τ).loc Cert.Reference3Ideal.main_v82) = Rdx (p0 m c) (p1 m c) (p2 m c) (p3 m c) (p4 m c) (p5 m c)
      ∧ r.2.mem ((c.tc : Thread Cert.Reference3Ideal.nD Cert.Reference3Ideal.τ).loc Cert.Reference3Ideal.main_v87) = NR (Rdx (p0 m c) (p1 m c) (p2 m c) (p3 m c) (p4 m c) (p5 m c))
      ∧ r.2.mem ((c.tc : Thread Cert.Reference3Ideal.nD Cert.Reference3Ideal.τ).loc Cert.Reference3Ideal.main_v55) = GN (p0 m c) (Rdh (p0 m c) (p1 m c) (p2 m c) (p3 m c) (p4 m c) (p5 m c)) (MS (p0 m c))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)) :=
  (θ_run _ _ _).mono (fun r h c => ⟨(h c).1.trans (final0 m c), (h c).2.1.trans rfl, (h c).2.2.1.trans (final2 m c),
    (h c).2.2.2.1.trans (final3 m c), (h c).2.2.2.2.1.trans (final4 m c), (h c).2.2.2.2.2⟩) (run m g)
end

set_option maxHeartbeats 4000000 in
/-- Run from arguments that agree and of which four are finite, the kernel and the reference return the same five arrays. -/
theorem algebraic [Cert.Kernel3Ideal.Facts] [Cert.Reference3Ideal.Facts] [Cert.Pre_finite3.Facts] : Cert.algebraic_Kernel3Ideal_Reference3Ideal_pre_finite3 := by
  intro m g m' g' hpre hagree
  have h := reals m hpre
  refine ⟨fun c => Cert.Kernel3Ideal.Value.G6 m c, fun c => Cert.Kernel3Ideal.Value.G7 m c, fun c => Cert.Kernel3Ideal.Value.G8 m c,
    fun c => Cert.Kernel3Ideal.Value.G9 m c, fun c => Cert.Kernel3Ideal.Value.G10 m c, ?_, (θ_run _ _ _).mono (fun r hr c => ?_) (ref_run m' g')⟩
  · run_from Cert.Kernel3Ideal.Gen.run_main m g
    · exact Cert.Kernel3Ideal.Value.final_6 m c
    · exact Cert.Kernel3Ideal.Value.final_7 m c
    · exact Cert.Kernel3Ideal.Value.final_8 m c
    · exact Cert.Kernel3Ideal.Value.final_9 m c
    · exact Cert.Kernel3Ideal.Value.final_10 m c
  · have hc := hr c
    have e0 : Cert.Reference3Ideal.Value.p0 m' c = q0 m c := (hagree c).1
    have e1 : Cert.Reference3Ideal.Value.p1 m' c = q1 m c := (hagree c).2.1
    have e2 : Cert.Reference3Ideal.Value.p2 m' c = q2 m c := (hagree c).2.2.1
    have e3 : Cert.Reference3Ideal.Value.p3 m' c = q3 m c := (hagree c).2.2.2.1
    have e4 : Cert.Reference3Ideal.Value.p4 m' c = q4 m c := (hagree c).2.2.2.2.1
    have e5 : Cert.Reference3Ideal.Value.p5 m' c = q5 m c := (hagree c).2.2.2.2.2
    rw [e0, e1, e2, e3, e4, e5] at hc
    exact ⟨hc.1.trans (da_eq m c (h c)).symm, hc.2.1.trans (db_eq m c).symm, hc.2.2.1.trans (dx_eq m c (h c)).symm,
      hc.2.2.2.1.trans (dxb_eq m c (h c)).symm, hc.2.2.2.2.1.trans (gn_eq m c (h c)).symm, (hr c).2.2.2.2.2⟩
end Cert.FfnPair
-- ==== Proof.FwdPure.lean ====
module
public import proofs.«01_k».proof.Proof.Gen.Kernel4Ideal.Skeleton
public import proofs.«01_k».proof.Proof.FfnMath
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Kernel4Ideal.Value
open Cert.Kernel4Ideal Cert.Kernel4Ideal.Gen

/-- Columns of the three groups of the feed-forward width. -/
abbrev c0 (k : Fin 1024) : Fin 2816 := ⟨k.val, by omega⟩
abbrev c1 (k : Fin 1024) : Fin 2816 := ⟨1024 + k.val, by omega⟩
abbrev c2 (k : Fin 768) : Fin 2816 := ⟨2048 + k.val, by omega⟩

/-- A sum over the feed-forward width is the sum over its three groups. -/
theorem sum3 (f : Fin 2816 → EReal) : ∑ k, f k = ∑ k, f (c0 k) + ∑ k, f (c1 k) + ∑ k, f (c2 k) := by
  have e := Fin.sum_univ_add (M := EReal) (a := 1024 + 1024) (b := 768) f
  have e' := Fin.sum_univ_add (M := EReal) (a := 1024) (b := 1024) fun k => f (Fin.castAdd 768 k)
  exact e.trans (congrArg₂ _ e' rfl)

/-- The literals 1/1024 and 1/2048. -/
theorem cinv : Ideal.ofBits .f32 0x3A800000#32 = (((1/1024) : ℝ) : EReal) := by
  rw [Rms.f32_lit _ false 117 0 (by decide) (by decide) (by decide) (by decide) (by decide)]
  norm_num [zpow_neg]
theorem chinv : Ideal.ofBits .f32 0x3A000000#32 = (((1/2048) : ℝ) : EReal) := by
  rw [Rms.f32_lit _ false 116 0 (by decide) (by decide) (by decide) (by decide) (by decide)]
  norm_num [zpow_neg]

section chunks
variable (H : Fin 256 → Fin 1024 → EReal) (v6 : Vec Ideal S256x1024 .bf16) (h6 : ∀ r d, v6 (ix2 r d) = H r d)
  (G U : Fin 2816 → Fin 1024 → EReal) (g u : Vec Ideal S1024x1024 .bf16) (g' u' : Vec Ideal S768x1024 .bf16) (r : Fin 256)
include h6

/-- The gate's and the up projection's rows in the three groups. -/
theorem a0 (hg : ∀ k d, g (ix2 k d) = G (c0 k) d) (k : Fin 1024) : k0_pay13 (F := Ideal) v6 g (ix2 r k) = ∑ d, H r d * G (c0 k) d := by
  simp only [← h6, ← hg]
  pointwise [k0_pay13, k0_pay10, k0_pay8]
theorem b0 (hu : ∀ k d, u (ix2 k d) = U (c0 k) d) (k : Fin 1024) : k0_pay14 (F := Ideal) v6 u (ix2 r k) = ∑ d, H r d * U (c0 k) d := by
  simp only [← h6, ← hu]
  pointwise [k0_pay14, k0_pay11, k0_pay8]
theorem a1 (hg : ∀ k d, g (ix2 k d) = G (c1 k) d) (k : Fin 1024) : k0_pay18 (F := Ideal) (k0_pay8 v6) g (ix2 r k) = ∑ d, H r d * G (c1 k) d := by
  simp only [← h6, ← hg]
  pointwise [k0_pay18, k0_pay15, k0_pay8]
theorem b1 (hu : ∀ k d, u (ix2 k d) = U (c1 k) d) (k : Fin 1024) : k0_pay19 (F := Ideal) (k0_pay8 v6) u (ix2 r k) = ∑ d, H r d * U (c1 k) d := by
  simp only [← h6, ← hu]
  pointwise [k0_pay19, k0_pay16, k0_pay8]
theorem a2 (hg : ∀ k d, g' (ix2 k d) = G (c2 k) d) (k : Fin 768) : k0_pay25 (F := Ideal) (k0_pay21 (k0_pay8 v6) g') (ix2 r k) = ∑ d, H r d * G (c2 k) d := by
  simp only [← h6, ← hg]
  pointwise [k0_pay25, k0_pay21, k0_pay8]
theorem b2 (hu : ∀ k d, u' (ix2 k d) = U (c2 k) d) (k : Fin 768) : k0_pay26 (F := Ideal) (k0_pay22 (k0_pay8 v6) u') (ix2 r k) = ∑ d, H r d * U (c2 k) d := by
  simp only [← h6, ← hu]
  pointwise [k0_pay26, k0_pay22, k0_pay8]

/-- The gated product in the three groups. -/
theorem f0 (hg : ∀ k d, g (ix2 k d) = G (c0 k) d) (hu : ∀ k d, u (ix2 k d) = U (c0 k) d) (k : Fin 1024) :
    k0_pay12 (F := Ideal) v6 g u (ix2 r k) = (∑ d, H r d * G (c0 k) d) * Swi.lg (∑ d, H r d * G (c0 k) d) * ∑ d, H r d * U (c0 k) d := by
  rw [← a0 H v6 h6 G g r hg, ← b0 H v6 h6 U u r hu, ← Swi.lg_tanh, ← Swi.chalf]
  pointwise [k0_pay12, k0_pay13, k0_pay14]
theorem f1 (hg : ∀ k d, g (ix2 k d) = G (c1 k) d) (hu : ∀ k d, u (ix2 k d) = U (c1 k) d) (k : Fin 1024) :
    k0_pay17 (F := Ideal) (k0_pay8 v6) g u (ix2 r k) = (∑ d, H r d * G (c1 k) d) * Swi.lg (∑ d, H r d * G (c1 k) d) * ∑ d, H r d * U (c1 k) d := by
  rw [← a1 H v6 h6 G g r hg, ← b1 H v6 h6 U u r hu, ← Swi.lg_tanh, ← Swi.chalf]
  pointwise [k0_pay17, k0_pay18, k0_pay19]
theorem f2 (hg : ∀ k d, g' (ix2 k d) = G (c2 k) d) (hu : ∀ k d, u' (ix2 k d) = U (c2 k) d) (k : Fin 768) :
    k0_pay24 (F := Ideal) (k0_pay21 (k0_pay8 v6) g') (k0_pay22 (k0_pay8 v6) u') (k0_pay23 (k0_pay8 v6) g') (ix2 r k)
      = (∑ d, H r d * G (c2 k) d) * Swi.lg (∑ d, H r d * G (c2 k) d) * ∑ d, H r d * U (c2 k) d := by
  rw [← a2 H v6 h6 G g' r hg, ← b2 H v6 h6 U u' r hu, ← Swi.lg_tanh, ← Swi.chalf]
  pointwise [k0_pay24, k0_pay25, k0_pay26, k0_pay23]
end chunks

/-- What the groups add to the layer's input. -/
theorem y01 (v7 : FVec Ideal S256x1024 .bf16) (x : FVec Ideal S256x1024 .f32) (f : FVec Ideal S256x1024 .bf16) (w : Vec Ideal S1024x1024 .bf16)
    (g u w' : Vec Ideal S1024x1024 .bf16) (r : Fin 256) (d : Fin 1024) :
    k0_pay20 (F := Ideal) v7 x f w g u w' (ix2 r d) = x (ix2 r d) + (∑ k : Fin 1024, f (ix2 r k) * w (ix2 k d)) + ∑ k : Fin 1024, k0_pay17 (F := Ideal) v7 g u (ix2 r k) * w' (ix2 k d) := by
  generalize hq : k0_pay17 (F := Ideal) v7 g u = q
  pointwise [k0_pay20, hq]
theorem y2 (v : FVec Ideal S256x1024 .f32) (a b e : FVec Ideal S256x768 .f32) (w : Vec Ideal S768x1024 .bf16) (r : Fin 256) (d : Fin 1024) :
    k0_pay27 (F := Ideal) v a b e w (ix2 r d) = v (ix2 r d) + ∑ k : Fin 768, k0_pay24 (F := Ideal) a b e (ix2 r k) * w (ix2 k d) := by
  generalize hq : k0_pay24 (F := Ideal) a b e = q
  pointwise [k0_pay27, hq]
theorem y9 (x : Vec Ideal S256x1024 .f32) (r : Fin 256) (d : Fin 1024) : k0_pay9 (F := Ideal) x (ix2 r d) = x (ix2 r d) := by
  pointwise [k0_pay9]
theorem z6 (l : Fin 128) : k0_pay6 (F := Ideal) (ix2 0 l) = 0 := by
  pointwise [k0_pay6]
theorem z7 (d : Fin 1024) : k0_pay7 (F := Ideal) (ix2 0 d) = 0 := by
  pointwise [k0_pay7]

/-- The layer's output over what the argument blocks hold. -/
theorem y_at (H X : Fin 256 → Fin 1024 → EReal) (G U W : Fin 2816 → Fin 1024 → EReal)
    (v6 : Vec Ideal S256x1024 .bf16) (x : Vec Ideal S256x1024 .f32) (g0 u0 w0 g1 u1 w1 : Vec Ideal S1024x1024 .bf16) (g2 u2 w2 : Vec Ideal S768x1024 .bf16)
    (h6 : ∀ r d, v6 (ix2 r d) = H r d) (hx : ∀ r d, x (ix2 r d) = X r d)
    (hg0 : ∀ k d, g0 (ix2 k d) = G (c0 k) d) (hg1 : ∀ k d, g1 (ix2 k d) = G (c1 k) d) (hg2 : ∀ k d, g2 (ix2 k d) = G (c2 k) d)
    (hu0 : ∀ k d, u0 (ix2 k d) = U (c0 k) d) (hu1 : ∀ k d, u1 (ix2 k d) = U (c1 k) d) (hu2 : ∀ k d, u2 (ix2 k d) = U (c2 k) d)
    (hw0 : ∀ k d, w0 (ix2 k d) = W (c0 k) d) (hw1 : ∀ k d, w1 (ix2 k d) = W (c1 k) d) (hw2 : ∀ k d, w2 (ix2 k d) = W (c2 k) d)
    (r : Fin 256) (d : Fin 1024) :
    k0_pay27 (F := Ideal) (k0_pay20 (k0_pay8 v6) (k0_pay9 x) (k0_pay12 v6 g0 u0) w0 g1 u1 w1) (k0_pay21 (k0_pay8 v6) g2) (k0_pay22 (k0_pay8 v6) u2) (k0_pay23 (k0_pay8 v6) g2) w2 (ix2 r d)
      = X r d + ∑ k, (∑ d, H r d * G k d) * Swi.lg (∑ d, H r d * G k d) * (∑ d, H r d * U k d) * W k d := by
  rw [y2, y01, y9, hx, sum3]
  simp only [f0 H v6 h6 G U g0 u0 r hg0 hu0, f1 H v6 h6 G U g1 u1 r hg1 hu1, f2 H v6 h6 G U g2 u2 r hg2 hu2, hw0, hw1, hw2]
  ac_rfl

section rows
variable (v : FVec Ideal S256x1024 .f32) (a b e : FVec Ideal S256x768 .f32) (w : Vec Ideal S768x1024 .bf16) (gf gf' : Vec Ideal S1x1024 .f32) (tg : Vec Ideal S256x1024 .f32)
  (Y T : Fin 256 → Fin 1024 → EReal) (Gf : Fin 1024 → EReal)
  (hy : ∀ r d, k0_pay27 (F := Ideal) v a b e w (ix2 r d) = Y r d) (ht : ∀ r d, tg (ix2 r d) = T r d) (hg : ∀ d, gf (ix2 0 d) = Gf d)
include hy

/-- The reciprocal root, the normalised rows and the error. -/
theorem rs_at (r : Fin 256) : k0_pay28 (F := Ideal) v a b e w (ix2 r 0) = Ideal.rsqrt (Rms.ms ((1024 : ℝ) : EReal) (Ideal.ofBits .f32 0x358637BD#32) (Y r)) := by
  rw [← Rms.c1024]
  pointwise [k0_pay28, Rms.ms, hy]
theorem xh_at (r : Fin 256) (d : Fin 1024) : k0_pay29 (F := Ideal) v a b e w (ix2 r d) = Y r d * Ideal.rsqrt (Rms.ms ((1024 : ℝ) : EReal) (Ideal.ofBits .f32 0x358637BD#32) (Y r)) := by
  rw [← rs_at v a b e w Y hy, ← hy]
  pointwise [k0_pay29]
include ht hg
theorem err_at (r : Fin 256) (d : Fin 1024) : k0_pay30 (F := Ideal) v a b e w gf tg (ix2 r d) = Y r d * Ideal.rsqrt (Rms.ms ((1024 : ℝ) : EReal) (Ideal.ofBits .f32 0x358637BD#32) (Y r)) * Gf d - T r d := by
  rw [← xh_at v a b e w Y hy, ← ht, ← hg]
  pointwise [k0_pay30]
end rows

section tail
variable (rs : FVec Ideal S256x1 .f32) (xh err : FVec Ideal S256x1024 .f32) (gf : Vec Ideal S1x1024 .f32)

/-- The rows' gradient, over the reciprocal root, the normalised rows and the error. -/
theorem dx_at (r : Fin 256) (d : Fin 1024) : k0_pay4 (F := Ideal) rs xh err gf (ix2 r d) =
    rs (ix2 r 0) * (err (ix2 r d) * (((1/1024) : ℝ) : EReal) * gf (ix2 0 d) - xh (ix2 r d) *
      Ideal.div (∑ k : Fin 1024, err (ix2 r k) * (((1/1024) : ℝ) : EReal) * gf (ix2 0 k) * xh (ix2 r k)) ((1024 : ℝ) : EReal)) := by
  rw [← Rms.c1024, ← cinv]
  pointwise [k0_pay4, k0_pay2]
theorem dxb_at (r : Fin 256) (d : Fin 1024) : k0_pay5 (F := Ideal) rs xh err gf (ix2 r d) = k0_pay4 (F := Ideal) rs xh err gf (ix2 r d) := by
  pointwise [k0_pay5, k0_pay4]
/-- What a point adds to the gain's gradient. -/
theorem gn_at (acc : Vec Ideal S1x1024 .f32) (d : Fin 1024) :
    k0_pay3 (F := Ideal) xh err acc (ix2 0 d) = acc (ix2 0 d) + ∑ r : Fin 256, err (ix2 r d) * (((1/1024) : ℝ) : EReal) * xh (ix2 r d) := by
  rw [← cinv]
  pointwise [k0_pay3, k0_pay2]
end tail

/-- What a point adds to the loss. -/
theorem loss_at (v : FVec Ideal S256x1024 .f32) (a b e : FVec Ideal S256x768 .f32) (w : Vec Ideal S768x1024 .bf16) (gf : Vec Ideal S1x1024 .f32) (tg : Vec Ideal S256x1024 .f32) (acc : Vec Ideal S1x128 .f32) (l : Fin 128) :
    k0_pay1 (F := Ideal) (k0_pay31 acc) (k0_pay32 v a b e w gf tg) (ix2 0 l) = acc (ix2 0 l) + (((1/2048) : ℝ) : EReal) *
      ∑ r : Fin 256, ∑ k : Fin 1024, k0_pay30 (F := Ideal) v a b e w gf tg (ix2 r k) * k0_pay30 (F := Ideal) v a b e w gf tg (ix2 r k) := by
  rw [← chinv]
  generalize hq : k0_pay30 (F := Ideal) v a b e w gf tg = q
  pointwise [k0_pay1, k0_pay31, k0_pay32, hq]
section joined
variable (v : FVec Ideal S256x1024 .f32) (a b e : FVec Ideal S256x768 .f32) (w : Vec Ideal S768x1024 .bf16) (gf gf' : Vec Ideal S1x1024 .f32) (tg : Vec Ideal S256x1024 .f32)
  (Y T : Fin 256 → Fin 1024 → EReal) (Gf : Fin 1024 → EReal)
  (hy : ∀ r d, k0_pay27 (F := Ideal) v a b e w (ix2 r d) = Y r d) (ht : ∀ r d, tg (ix2 r d) = T r d) (hg : ∀ d, gf (ix2 0 d) = Gf d) (hg' : ∀ d, gf' (ix2 0 d) = Gf d)
include hy ht hg

/-- What a point adds to the gain's gradient, over the layer's output. -/
theorem kgn (acc : Vec Ideal S1x1024 .f32) (d : Fin 1024) :
    k0_pay3 (F := Ideal) (k0_pay29 v a b e w) (k0_pay30 v a b e w gf tg) acc (ix2 0 d) = acc (ix2 0 d) + ∑ r : Fin 256, (Y r d * Ideal.rsqrt (Rms.ms ((1024 : ℝ) : EReal) (Ideal.ofBits .f32 0x358637BD#32) (Y r)) * Gf d - T r d) * (((1/1024) : ℝ) : EReal) * (Y r d * Ideal.rsqrt (Rms.ms ((1024 : ℝ) : EReal) (Ideal.ofBits .f32 0x358637BD#32) (Y r))) := by
  rw [gn_at]
  simp only [xh_at v a b e w Y hy, err_at v a b e w gf tg Y T Gf hy ht hg]
/-- What a point adds to the loss, over the layer's output. -/
theorem kloss (acc : Vec Ideal S1x128 .f32) (l : Fin 128) :
    k0_pay1 (F := Ideal) (k0_pay31 acc) (k0_pay32 v a b e w gf tg) (ix2 0 l) = acc (ix2 0 l) + (((1/2048) : ℝ) : EReal) *
      ∑ r : Fin 256, ∑ k : Fin 1024, (Y r k * Ideal.rsqrt (Rms.ms ((1024 : ℝ) : EReal) (Ideal.ofBits .f32 0x358637BD#32) (Y r)) * Gf k - T r k) * (Y r k * Ideal.rsqrt (Rms.ms ((1024 : ℝ) : EReal) (Ideal.ofBits .f32 0x358637BD#32) (Y r)) * Gf k - T r k) := by
  rw [loss_at]
  simp only [err_at v a b e w gf tg Y T Gf hy ht hg]
include hg'
/-- The rows' gradient, over the layer's output. -/
theorem kdx (r : Fin 256) (d : Fin 1024) : k0_pay4 (F := Ideal) (k0_pay28 v a b e w) (k0_pay29 v a b e w) (k0_pay30 v a b e w gf tg) gf' (ix2 r d) =
    Ideal.rsqrt (Rms.ms ((1024 : ℝ) : EReal) (Ideal.ofBits .f32 0x358637BD#32) (Y r)) * ((Y r d * Ideal.rsqrt (Rms.ms ((1024 : ℝ) : EReal) (Ideal.ofBits .f32 0x358637BD#32) (Y r)) * Gf d - T r d) * (((1/1024) : ℝ) : EReal) * Gf d - Y r d * Ideal.rsqrt (Rms.ms ((1024 : ℝ) : EReal) (Ideal.ofBits .f32 0x358637BD#32) (Y r)) * Ideal.div (∑ k : Fin 1024, (Y r k * Ideal.rsqrt (Rms.ms ((1024 : ℝ) : EReal) (Ideal.ofBits .f32 0x358637BD#32) (Y r)) * Gf k - T r k) * (((1/1024) : ℝ) : EReal) * Gf k * (Y r k * Ideal.rsqrt (Rms.ms ((1024 : ℝ) : EReal) (Ideal.ofBits .f32 0x358637BD#32) (Y r)))) ((1024 : ℝ) : EReal)) := by
  rw [dx_at]
  simp only [rs_at v a b e w Y hy, xh_at v a b e w Y hy, err_at v a b e w gf tg Y T Gf hy ht hg, hg']
end joined
end Cert.Kernel4Ideal.Value
-- ==== Proof.FwdBlocks.lean ====
module
public import proofs.«01_k».proof.Proof.Gen.Kernel4Ideal.Frame
public import proofs.«01_k».proof.Proof.FwdPure
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The token a row of a point's blocks is. -/
abbrev tok (t : Fin cfg0.N) (r : Fin 256) : Fin 4096 := ⟨t.val * 256 + r.val, by have := t.isLt; have : cfg0.N = 16 := N_0; omega⟩
/-- A token's sequence and its place in it. -/
abbrev bOf (r : Fin 4096) : Fin 2 := ⟨r.val / 2048, by omega⟩
abbrev sOf (r : Fin 4096) : Fin 2048 := ⟨r.val % 2048, by omega⟩

/-- The rows, the target, the two gains and the three weights. -/
def X (c : Dev nD) (R : Fin 4096) (k : Fin 1024) : EReal := m ((c.tc : Thread nD τ).loc main_arg0) (ix3 (bOf R) (sOf R) k)
def TG (c : Dev nD) (R : Fin 4096) (k : Fin 1024) : EReal := m ((c.tc : Thread nD τ).loc main_arg1) (ix3 (bOf R) (sOf R) k)
def GA (c : Dev nD) (k : Fin 1024) : EReal := m ((c.tc : Thread nD τ).loc main_arg2) (ix2 0 k)
def WG (c : Dev nD) (k : Fin 2816) (d : Fin 1024) : EReal := m ((c.tc : Thread nD τ).loc main_arg3) (ix3 0 d k)
def WU (c : Dev nD) (k : Fin 2816) (d : Fin 1024) : EReal := m ((c.tc : Thread nD τ).loc main_arg4) (ix3 0 d k)
def WD (c : Dev nD) (k : Fin 2816) (d : Fin 1024) : EReal := m ((c.tc : Thread nD τ).loc main_arg5) (ix3 0 k d)
def GF (c : Dev nD) (k : Fin 1024) : EReal := m ((c.tc : Thread nD τ).loc main_arg6) (ix1 k)
/-- The normalised rows times the gain. -/
def HV (c : Dev nD) (R : Fin 4096) (d : Fin 1024) : EReal := X m c R d * Ideal.rsqrt (Rms.ms ((1024 : ℝ) : EReal) (Ideal.ofBits .f32 0x358637BD#32) (X m c R)) * GA m c d
/-- The rows of the gate, of the up projection and of their gated product. -/
def AV (c : Dev nD) (R : Fin 4096) (k : Fin 2816) : EReal := ∑ d, HV m c R d * WG m c k d
def BV (c : Dev nD) (R : Fin 4096) (k : Fin 2816) : EReal := ∑ d, HV m c R d * WU m c k d
def FV (c : Dev nD) (R : Fin 4096) (k : Fin 2816) : EReal := AV m c R k * Swi.lg (AV m c R k) * BV m c R k
/-- The layer's output. -/
def YV (c : Dev nD) (R : Fin 4096) (d : Fin 1024) : EReal := X m c R d + ∑ k, FV m c R k * WD m c k d
/-- The reciprocal root of the output's mean of squares, and the error against the target. -/
def RY (c : Dev nD) (R : Fin 4096) : EReal := Ideal.rsqrt (Rms.ms ((1024 : ℝ) : EReal) (Ideal.ofBits .f32 0x358637BD#32) (YV m c R))
def ER (c : Dev nD) (R : Fin 4096) (d : Fin 1024) : EReal := YV m c R d * RY m c R * GF m c d - TG m c R d
/-- The rows' gradient, as the kernel writes it. -/
def KDX (c : Dev nD) (R : Fin 4096) (d : Fin 1024) : EReal :=
  RY m c R * (ER m c R d * (((1/1024) : ℝ) : EReal) * GF m c d - YV m c R d * RY m c R *
    Ideal.div (∑ k, ER m c R k * (((1/1024) : ℝ) : EReal) * GF m c k * (YV m c R k * RY m c R)) ((1024 : ℝ) : EReal))
/-- What a point adds to the gain's gradient and to the loss. -/
def KGN (c : Dev nD) (t : Fin cfg0.N) (d : Fin 1024) : EReal :=
  ∑ r : Fin 256, ER m c (tok t r) d * (((1/1024) : ℝ) : EReal) * (YV m c (tok t r) d * RY m c (tok t r))
def KL (c : Dev nD) (t : Fin cfg0.N) : EReal := (((1/2048) : ℝ) : EReal) * ∑ r : Fin 256, ∑ k : Fin 1024, ER m c (tok t r) k * ER m c (tok t r) k

/-- The normalised rows times the gain, by token, over variables. -/
def HN (a0 : FVec Ideal S2x2048x1024 .f32) (a2 : FVec Ideal S1x1024 .f32) : FVec Ideal S4096x1024 .bf16 :=
  shapeCast _ (truncf .bf16 (mulf (mulf a0 (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf a0 a0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 (shapeCast _ a2 shapeCasts_S1x1024_S1024)))) bitsLt_bf16_f32) shapeCasts_S2x2048x1024_S4096x1024
theorem HN_at (a0 : FVec Ideal S2x2048x1024 .f32) (a2 : FVec Ideal S1x1024 .f32) (R : Fin 4096) (d : Fin 1024) :
    HN a0 a2 (ix2 R d) = a0 (ix3 (bOf R) (sOf R) d) * Ideal.rsqrt (Rms.ms ((1024 : ℝ) : EReal) (Ideal.ofBits .f32 0x358637BD#32) fun k : Fin 1024 => a0 (ix3 (bOf R) (sOf R) k)) * a2 (ix2 0 d) := by
  rw [← Rms.c1024]
  pointwise [HN, Rms.ms, bOf, sOf]

/-- The staged arrays. -/
theorem vh (c : Dev nD) : V m c main_v23 = HN (m ((c.tc : Thread nD τ).loc main_arg0)) (m ((c.tc : Thread nD τ).loc main_arg2)) := rfl
theorem vh_at (c : Dev nD) (R k) : V m c main_v23 (ix2 R k) = HV m c R k := by
  rw [vh, HN_at]
  rfl
theorem wg (c : Dev nD) (i j) : V m c main_v2 (ix2 i j) = WG m c i j := by
  entry_read
  pointwise [WG]
theorem wu (c : Dev nD) (i j) : V m c main_v5 (ix2 i j) = WU m c i j := by
  entry_read
  pointwise [WU]
theorem wd (c : Dev nD) (i j) : V m c main_v7 (ix2 i j) = WD m c i j := by
  entry_read
  pointwise [WD]
theorem vx (c : Dev nD) (R k) : V m c main_v24 (ix2 R k) = X m c R k := by
  entry_read
  pointwise [X]
theorem vt (c : Dev nD) (R k) : V m c main_v25 (ix2 R k) = TG m c R k := by
  entry_read
  pointwise [TG]
theorem vg (c : Dev nD) (k) : V m c main_v26 (ix2 0 k) = GF m c k := by
  entry_read
  pointwise [GF]

/-- The blocks a point reads. -/
theorem bh (c : Dev nD) (t : Fin cfg0.N) (r : Fin 256) (k : Fin 1024) : iblk m c 0 t (ix2 r k) = HV m c (tok t r) k := by
  rw [← vh_at]
  generalize hv : V m c main_v23 = v
  blk_point [iblk, hv, idx t]
theorem bx (c : Dev nD) (t : Fin cfg0.N) (r : Fin 256) (k : Fin 1024) : iblk m c 1 t (ix2 r k) = X m c (tok t r) k := by
  rw [← vx]
  generalize hv : V m c main_v24 = v
  blk_point [iblk, hv, idx t]
theorem bt (c : Dev nD) (t : Fin cfg0.N) (r : Fin 256) (k : Fin 1024) : iblk m c 2 t (ix2 r k) = TG m c (tok t r) k := by
  rw [← vt]
  generalize hv : V m c main_v25 = v
  blk_point [iblk, hv, idx t]
theorem bg (c : Dev nD) (t : Fin cfg0.N) (k : Fin 1024) : iblk m c 3 t (ix2 0 k) = GF m c k := by
  rw [← vg]
  generalize hv : V m c main_v26 = v
  blk_point [iblk, hv, idx t]

/-- After every point the three scratch arrays hold the staged weights. -/
theorem scratch (c : Dev nD) : ∀ (n : ℕ) (hn : n < cfg0.N), (outsAt0 m c n hn).2.2.2.2.2.2.2.1 = V m c main_v2
    ∧ (outsAt0 m c n hn).2.2.2.2.2.2.2.2.1 = V m c main_v5 ∧ (outsAt0 m c n hn).2.2.2.2.2.2.2.2.2 = V m c main_v7 := by
  intro n
  induction n with
  | zero =>
    intro hn
    rw [outsAt0_A m c ⟨0, hn⟩ rfl rfl]
    refine ⟨?_, ?_, ?_⟩
    · funext y
      frame_out
      canon_tiles x h
      show V m c main_v2 x = V m c main_v2 y
      exact congrArg _ (funext fun a => Fin.ext (by fin_cases a; exacts [h0.symm, h1.symm]))
    · funext y
      frame_out
      canon_tiles x h
      show V m c main_v5 x = V m c main_v5 y
      exact congrArg _ (funext fun a => Fin.ext (by fin_cases a; exacts [h0.symm, h1.symm]))
    · funext y
      frame_out
      canon_tiles x h
      show V m c main_v7 x = V m c main_v7 y
      exact congrArg _ (funext fun a => Fin.ext (by fin_cases a; exacts [h0.symm, h1.symm]))
  | succ n ih =>
    intro hn
    have hN : cfg0.N = 16 := N_0
    have hB : ¬(⟨n + 1, hn⟩ : Fin cfg0.N).val % 16 = 0 := by dsimp only; omega
    rw [outsAt0_B m c ⟨n + 1, hn⟩ hB hB]
    dsimp only
    unfold sout0_B_0 sout0_B_1 sout0_B_2
    exact ih _
end Cert.Kernel4Ideal.Value
-- ==== Proof.FwdGate.lean ====
module
public import proofs.«01_k».proof.Proof.Gen.Kernel4Ideal.Frame
public import proofs.«01_k».proof.Proof.FwdBlocks
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen

variable (m : (ℓ : Loc nD τ sig) → Buf (Elt Ideal) ℓ)

set_option maxHeartbeats 4000000 in
theorem aB (c : Dev nD) (t : Fin cfg0.N) (nz : ¬ t.val % 16 = 0) (r : Fin 256) (k : Fin 2816) :
    (outsAt0 m c t.val t.isLt).1 (ix2 r k) = AV m c (tok t r) k := by
  rw [outsAt0_B m c t nz nz]
  obtain ⟨e0, e1, e2⟩ := scratch m c (t.val - 1) (Nat.lt_of_le_of_lt (Nat.sub_le _ _) t.isLt)
  frame_out
  rw [e0]
  clear e0 e1 e2
  canon_tiles x h using View.cover_of_tiledBy _ ![256, 256] (by sl_kernel_rfl) _
  · idx_vars x
    refine (a2 (fun r => HV m c (tok t r)) _ (bh m c t) (WG m c) _ x0 ?_ x1).trans ?_
    · intro k d
      rw [Idealize.ShloMosaic.read_unread_whole (Val := Elt Ideal) cc0_scratch0 (Memref.isWhole_whole _) (V m c main_v2)]
      pointwise [wg m c]
    · refine congrArg₂ (fun r k => AV m c (tok t r) k) (Fin.ext ?_) (Fin.ext ?_)
      · simpa using h0.symm
      · simpa using h1.symm
  · idx_vars x
    refine (a1 (fun r => HV m c (tok t r)) _ (bh m c t) (WG m c) _ x0 ?_ x1).trans ?_
    · intro k d
      rw [Idealize.ShloMosaic.read_unread_whole (Val := Elt Ideal) cc0_scratch0 (Memref.isWhole_whole _) (V m c main_v2)]
      pointwise [wg m c]
    · refine congrArg₂ (fun r k => AV m c (tok t r) k) (Fin.ext ?_) (Fin.ext ?_)
      · simpa using h0.symm
      · simpa using h1.symm
  · idx_vars x
    refine (a0 (fun r => HV m c (tok t r)) _ (bh m c t) (WG m c) _ x0 ?_ x1).trans ?_
    · intro k d
      rw [Idealize.ShloMosaic.read_unread_whole (Val := Elt Ideal) cc0_scratch0 (Memref.isWhole_whole _) (V m c main_v2)]
      pointwise [wg m c]
    · refine congrArg₂ (fun r k => AV m c (tok t r) k) (Fin.ext ?_) (Fin.ext ?_)
      · simpa using h0.symm
      · simpa using h1.symm

set_option maxHeartbeats 4000000 in
theorem aA (c : Dev nD) (t : Fin cfg0.N) (nz : t.val % 16 = 0) (r : Fin 256) (k : Fin 2816) :
    (outsAt0 m c t.val t.isLt).1 (ix2 r k) = AV m c (tok t r) k := by
  rw [outsAt0_A m c t nz nz]
  frame_out
  canon_tiles x h using View.cover_of_tiledBy _ ![256, 256] (by sl_kernel_rfl) _
  · idx_vars x
    refine (a2 (fun r => HV m c (tok t r)) _ (bh m c t) (WG m c) _ x0 ?_ x1).trans ?_
    · intro k d
      refine (congrFun (View.readCov_fill (View.whole cc0_scratch0) (Val := Elt Ideal) (s := S2816x1024) (off := fun _ => 0) (by simp) (V m c main_v2) [] _ (fun _ => rfl)) _).trans ?_
      pointwise [wg m c]
    · refine congrArg₂ (fun r k => AV m c (tok t r) k) (Fin.ext ?_) (Fin.ext ?_)
      · simpa using h0.symm
      · simpa using h1.symm
  · idx_vars x
    refine (a1 (fun r => HV m c (tok t r)) _ (bh m c t) (WG m c) _ x0 ?_ x1).trans ?_
    · intro k d
      refine (congrFun (View.readCov_fill (View.whole cc0_scratch0) (Val := Elt Ideal) (s := S2816x1024) (off := fun _ => 0) (by simp) (V m c main_v2) [] _ (fun _ => rfl)) _).trans ?_
      pointwise [wg m c]
    · refine congrArg₂ (fun r k => AV m c (tok t r) k) (Fin.ext ?_) (Fin.ext ?_)
      · simpa using h0.symm
      · simpa using h1.symm
  · idx_vars x
    refine (a0 (fun r => HV m c (tok t r)) _ (bh m c t) (WG m c) _ x0 ?_ x1).trans ?_
    · intro k d
      refine (congrFun (View.readCov_fill (View.whole cc0_scratch0) (Val := Elt Ideal) (s := S2816x1024) (off := fun _ => 0) (by simp) (V m c main_v2) [] _ (fun _ => rfl)) _).trans ?_
      pointwise [wg m c]
    · refine congrArg₂ (fun r k => AV m c (tok t r) k) (Fin.ext ?_) (Fin.ext ?_)
      · simpa using h0.symm
      · simpa using h1.symm

set_option maxHeartbeats 4000000 in
theorem bB (c : Dev nD) (t : Fin cfg0.N) (nz : ¬ t.val % 16 = 0) (r : Fin 256) (k : Fin 2816) :
    (outsAt0 m c t.val t.isLt).2.1 (ix2 r k) = BV m c (tok t r) k := by
  rw [outsAt0_B m c t nz nz]
  obtain ⟨e0, e1, e2⟩ := scratch m c (t.val - 1) (Nat.lt_of_le_of_lt (Nat.sub_le _ _) t.isLt)
  frame_out
  rw [e1]
  clear e0 e1 e2
  canon_tiles x h using View.cover_of_tiledBy _ ![256, 256] (by sl_kernel_rfl) _
  · idx_vars x
    refine (b2 (fun r => HV m c (tok t r)) _ (bh m c t) (WU m c) _ x0 ?_ x1).trans ?_
    · intro k d
      rw [Idealize.ShloMosaic.read_unread_whole (Val := Elt Ideal) cc0_scratch1 (Memref.isWhole_whole _) (V m c main_v5)]
      pointwise [wu m c]
    · refine congrArg₂ (fun r k => BV m c (tok t r) k) (Fin.ext ?_) (Fin.ext ?_)
      · simpa using h0.symm
      · simpa using h1.symm
  · idx_vars x
    refine (b1 (fun r => HV m c (tok t r)) _ (bh m c t) (WU m c) _ x0 ?_ x1).trans ?_
    · intro k d
      rw [Idealize.ShloMosaic.read_unread_whole (Val := Elt Ideal) cc0_scratch1 (Memref.isWhole_whole _) (V m c main_v5)]
      pointwise [wu m c]
    · refine congrArg₂ (fun r k => BV m c (tok t r) k) (Fin.ext ?_) (Fin.ext ?_)
      · simpa using h0.symm
      · simpa using h1.symm
  · idx_vars x
    refine (b0 (fun r => HV m c (tok t r)) _ (bh m c t) (WU m c) _ x0 ?_ x1).trans ?_
    · intro k d
      rw [Idealize.ShloMosaic.read_unread_whole (Val := Elt Ideal) cc0_scratch1 (Memref.isWhole_whole _) (V m c main_v5)]
      pointwise [wu m c]
    · refine congrArg₂ (fun r k => BV m c (tok t r) k) (Fin.ext ?_) (Fin.ext ?_)
      · simpa using h0.symm
      · simpa using h1.symm

set_option maxHeartbeats 4000000 in
theorem bA (c : Dev nD) (t : Fin cfg0.N) (nz : t.val % 16 = 0) (r : Fin 256) (k : Fin 2816) :
    (outsAt0 m c t.val t.isLt).2.1 (ix2 r k) = BV m c (tok t r) k := by
  rw [outsAt0_A m c t nz nz]
  frame_out
  canon_tiles x h using View.cover_of_tiledBy _ ![256, 256] (by sl_kernel_rfl) _
  · idx_vars x
    refine (b2 (fun r => HV m c (tok t r)) _ (bh m c t) (WU m c) _ x0 ?_ x1).trans ?_
    · intro k d
      refine (congrFun (View.readCov_fill (View.whole cc0_scratch1) (Val := Elt Ideal) (s := S2816x1024) (off := fun _ => 0) (by simp) (V m c main_v5) [] _ (fun _ => rfl)) _).trans ?_
      pointwise [wu m c]
    · refine congrArg₂ (fun r k => BV m c (tok t r) k) (Fin.ext ?_) (Fin.ext ?_)
      · simpa using h0.symm
      · simpa using h1.symm
  · idx_vars x
    refine (b1 (fun r => HV m c (tok t r)) _ (bh m c t) (WU m c) _ x0 ?_ x1).trans ?_
    · intro k d
      refine (congrFun (View.readCov_fill (View.whole cc0_scratch1) (Val := Elt Ideal) (s := S2816x1024) (off := fun _ => 0) (by simp) (V m c main_v5) [] _ (fun _ => rfl)) _).trans ?_
      pointwise [wu m c]
    · refine congrArg₂ (fun r k => BV m c (tok t r) k) (Fin.ext ?_) (Fin.ext ?_)
      · simpa using h0.symm
      · simpa using h1.symm
  · idx_vars x
    refine (b0 (fun r => HV m c (tok t r)) _ (bh m c t) (WU m c) _ x0 ?_ x1).trans ?_
    · intro k d
      refine (congrFun (View.readCov_fill (View.whole cc0_scratch1) (Val := Elt Ideal) (s := S2816x1024) (off := fun _ => 0) (by simp) (V m c main_v5) [] _ (fun _ => rfl)) _).trans ?_
      pointwise [wu m c]
    · refine congrArg₂ (fun r k => BV m c (tok t r) k) (Fin.ext ?_) (Fin.ext ?_)
      · simpa using h0.symm
      · simpa using h1.symm

set_option maxHeartbeats 4000000 in
theorem fB (c : Dev nD) (t : Fin cfg0.N) (nz : ¬ t.val % 16 = 0) (r : Fin 256) (k : Fin 2816) :
    (outsAt0 m c t.val t.isLt).2.2.1 (ix2 r k) = FV m c (tok t r) k := by
  rw [outsAt0_B m c t nz nz]
  obtain ⟨e0, e1, e2⟩ := scratch m c (t.val - 1) (Nat.lt_of_le_of_lt (Nat.sub_le _ _) t.isLt)
  frame_out
  rw [e0, e1]
  clear e0 e1 e2
  canon_tiles x h using View.cover_of_tiledBy _ ![256, 256] (by sl_kernel_rfl) _
  · idx_vars x
    refine (f2 (fun r => HV m c (tok t r)) _ (bh m c t) (WG m c) (WU m c) _ _ x0 ?_ ?_ x1).trans ?_
    · intro k d
      rw [Idealize.ShloMosaic.read_unread_whole (Val := Elt Ideal) cc0_scratch0 (Memref.isWhole_whole _) (V m c main_v2)]
      pointwise [wg m c]
    · intro k d
      rw [Idealize.ShloMosaic.read_unread_whole (Val := Elt Ideal) cc0_scratch1 (Memref.isWhole_whole _) (V m c main_v5)]
      pointwise [wu m c]
    · refine congrArg₂ (fun r k => FV m c (tok t r) k) (Fin.ext ?_) (Fin.ext ?_)
      · simpa using h0.symm
      · simpa using h1.symm
  · idx_vars x
    refine (f1 (fun r => HV m c (tok t r)) _ (bh m c t) (WG m c) (WU m c) _ _ x0 ?_ ?_ x1).trans ?_
    · intro k d
      rw [Idealize.ShloMosaic.read_unread_whole (Val := Elt Ideal) cc0_scratch0 (Memref.isWhole_whole _) (V m c main_v2)]
      pointwise [wg m c]
    · intro k d
      rw [Idealize.ShloMosaic.read_unread_whole (Val := Elt Ideal) cc0_scratch1 (Memref.isWhole_whole _) (V m c main_v5)]
      pointwise [wu m c]
    · refine congrArg₂ (fun r k => FV m c (tok t r) k) (Fin.ext ?_) (Fin.ext ?_)
      · simpa using h0.symm
      · simpa using h1.symm
  · idx_vars x
    refine (f0 (fun r => HV m c (tok t r)) _ (bh m c t) (WG m c) (WU m c) _ _ x0 ?_ ?_ x1).trans ?_
    · intro k d
      rw [Idealize.ShloMosaic.read_unread_whole (Val := Elt Ideal) cc0_scratch0 (Memref.isWhole_whole _) (V m c main_v2)]
      pointwise [wg m c]
    · intro k d
      rw [Idealize.ShloMosaic.read_unread_whole (Val := Elt Ideal) cc0_scratch1 (Memref.isWhole_whole _) (V m c main_v5)]
      pointwise [wu m c]
    · refine congrArg₂ (fun r k => FV m c (tok t r) k) (Fin.ext ?_) (Fin.ext ?_)
      · simpa using h0.symm
      · simpa using h1.symm

set_option maxHeartbeats 4000000 in
theorem fA (c : Dev nD) (t : Fin cfg0.N) (nz : t.val % 16 = 0) (r : Fin 256) (k : Fin 2816) :
    (outsAt0 m c t.val t.isLt).2.2.1 (ix2 r k) = FV m c (tok t r) k := by
  rw [outsAt0_A m c t nz nz]
  frame_out
  canon_tiles x h using View.cover_of_tiledBy _ ![256, 256] (by sl_kernel_rfl) _
  · idx_vars x
    refine (f2 (fun r => HV m c (tok t r)) _ (bh m c t) (WG m c) (WU m c) _ _ x0 ?_ ?_ x1).trans ?_
    · intro k d
      refine (congrFun (View.readCov_fill (View.whole cc0_scratch0) (Val := Elt Ideal) (s := S2816x1024) (off := fun _ => 0) (by simp) (V m c main_v2) [] _ (fun _ => rfl)) _).trans ?_
      pointwise [wg m c]
    · intro k d
      refine (congrFun (View.readCov_fill (View.whole cc0_scratch1) (Val := Elt Ideal) (s := S2816x1024) (off := fun _ => 0) (by simp) (V m c main_v5) [] _ (fun _ => rfl)) _).trans ?_
      pointwise [wu m c]
    · refine congrArg₂ (fun r k => FV m c (tok t r) k) (Fin.ext ?_) (Fin.ext ?_)
      · simpa using h0.symm
      · simpa using h1.symm
  · idx_vars x
    refine (f1 (fun r => HV m c (tok t r)) _ (bh m c t) (WG m c) (WU m c) _ _ x0 ?_ ?_ x1).trans ?_
    · intro k d
      refine (congrFun (View.readCov_fill (View.whole cc0_scratch0) (Val := Elt Ideal) (s := S2816x1024) (off := fun _ => 0) (by simp) (V m c main_v2) [] _ (fun _ => rfl)) _).trans ?_
      pointwise [wg m c]
    · intro k d
      refine (congrFun (View.readCov_fill (View.whole cc0_scratch1) (Val := Elt Ideal) (s := S2816x1024) (off := fun _ => 0) (by simp) (V m c main_v5) [] _ (fun _ => rfl)) _).trans ?_
      pointwise [wu m c]
    · refine congrArg₂ (fun r k => FV m c (tok t r) k) (Fin.ext ?_) (Fin.ext ?_)
      · simpa using h0.symm
      · simpa using h1.symm
  · idx_vars x
    refine (f0 (fun r => HV m c (tok t r)) _ (bh m c t) (WG m c) (WU m c) _ _ x0 ?_ ?_ x1).trans ?_
    · intro k d
      refine (congrFun (View.readCov_fill (View.whole cc0_scratch0) (Val := Elt Ideal) (s := S2816x1024) (off := fun _ => 0) (by simp) (V m c main_v2) [] _ (fun _ => rfl)) _).trans ?_
      pointwise [wg m c]
    · intro k d
      refine (congrFun (View.readCov_fill (View.whole cc0_scratch1) (Val := Elt Ideal) (s := S2816x1024) (off := fun _ => 0) (by simp) (V m c main_v5) [] _ (fun _ => rfl)) _).trans ?_
      pointwise [wu m c]
    · refine congrArg₂ (fun r k => FV m c (tok t r) k) (Fin.ext ?_) (Fin.ext ?_)
      · simpa using h0.symm
      · simpa using h1.symm

end Cert.Kernel4Ideal.Value
-- ==== Proof.FwdRows.lean ====
module
public import proofs.«01_k».proof.Proof.Gen.Kernel4Ideal.Frame
public import proofs.«01_k».proof.Proof.FwdGate
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen

variable (m : (ℓ : Loc nD τ sig) → Buf (Elt Ideal) ℓ)

set_option maxHeartbeats 4000000 in
theorem dxB (c : Dev nD) (t : Fin cfg0.N) (nz : ¬ t.val % 16 = 0) (r : Fin 256) (d : Fin 1024) :
    (outsAt0 m c t.val t.isLt).2.2.2.1 (ix2 r d) = KDX m c (tok t r) d := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  refine kdx _ _ _ _ _ _ _ _ (fun r => YV m c (tok t r)) (fun r => TG m c (tok t r)) (GF m c) ?_ (bt m c t) (bg m c t) (bg m c t) r d
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        rw [Idealize.ShloMosaic.read_unread_whole (Val := Elt Ideal) cc0_scratch0 (Memref.isWhole_whole _) (V m c main_v2)]
        pointwise [wg m c]
    iterate 3
      focus
        intro k d
        rw [Idealize.ShloMosaic.read_unread_whole (Val := Elt Ideal) cc0_scratch1 (Memref.isWhole_whole _) (V m c main_v5)]
        pointwise [wu m c]
    iterate 3
      focus
        intro k d
        rw [Idealize.ShloMosaic.read_unread_whole (Val := Elt Ideal) cc0_scratch2 (Memref.isWhole_whole _) (V m c main_v7)]
        pointwise [wd m c]

set_option maxHeartbeats 4000000 in
theorem dxA (c : Dev nD) (t : Fin cfg0.N) (nz : t.val % 16 = 0) (r : Fin 256) (d : Fin 1024) :
    (outsAt0 m c t.val t.isLt).2.2.2.1 (ix2 r d) = KDX m c (tok t r) d := by
  rw [outsAt0_A m c t nz nz]
  frame_out
  refine kdx _ _ _ _ _ _ _ _ (fun r => YV m c (tok t r)) (fun r => TG m c (tok t r)) (GF m c) ?_ (bt m c t) (bg m c t) (bg m c t) r d
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        refine (congrFun (View.readCov_fill (View.whole cc0_scratch0) (Val := Elt Ideal) (s := S2816x1024) (off := fun _ => 0) (by simp) (V m c main_v2) [] _ (fun _ => rfl)) _).trans ?_
        pointwise [wg m c]
    iterate 3
      focus
        intro k d
        refine (congrFun (View.readCov_fill (View.whole cc0_scratch1) (Val := Elt Ideal) (s := S2816x1024) (off := fun _ => 0) (by simp) (V m c main_v5) [] _ (fun _ => rfl)) _).trans ?_
        pointwise [wu m c]
    iterate 3
      focus
        intro k d
        refine (congrFun (View.readCov_fill (View.whole cc0_scratch2) (Val := Elt Ideal) (s := S2816x1024) (off := fun _ => 0) (by simp) (V m c main_v7) [] _ (fun _ => rfl)) _).trans ?_
        pointwise [wd m c]

set_option maxHeartbeats 4000000 in
theorem dxbB (c : Dev nD) (t : Fin cfg0.N) (nz : ¬ t.val % 16 = 0) (r : Fin 256) (d : Fin 1024) :
    (outsAt0 m c t.val t.isLt).2.2.2.2.1 (ix2 r d) = KDX m c (tok t r) d := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  rw [dxb_at]
  refine kdx _ _ _ _ _ _ _ _ (fun r => YV m c (tok t r)) (fun r => TG m c (tok t r)) (GF m c) ?_ (bt m c t) (bg m c t) (bg m c t) r d
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        rw [Idealize.ShloMosaic.read_unread_whole (Val := Elt Ideal) cc0_scratch0 (Memref.isWhole_whole _) (V m c main_v2)]
        pointwise [wg m c]
    iterate 3
      focus
        intro k d
        rw [Idealize.ShloMosaic.read_unread_whole (Val := Elt Ideal) cc0_scratch1 (Memref.isWhole_whole _) (V m c main_v5)]
        pointwise [wu m c]
    iterate 3
      focus
        intro k d
        rw [Idealize.ShloMosaic.read_unread_whole (Val := Elt Ideal) cc0_scratch2 (Memref.isWhole_whole _) (V m c main_v7)]
        pointwise [wd m c]

set_option maxHeartbeats 4000000 in
theorem dxbA (c : Dev nD) (t : Fin cfg0.N) (nz : t.val % 16 = 0) (r : Fin 256) (d : Fin 1024) :
    (outsAt0 m c t.val t.isLt).2.2.2.2.1 (ix2 r d) = KDX m c (tok t r) d := by
  rw [outsAt0_A m c t nz nz]
  frame_out
  rw [dxb_at]
  refine kdx _ _ _ _ _ _ _ _ (fun r => YV m c (tok t r)) (fun r => TG m c (tok t r)) (GF m c) ?_ (bt m c t) (bg m c t) (bg m c t) r d
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        refine (congrFun (View.readCov_fill (View.whole cc0_scratch0) (Val := Elt Ideal) (s := S2816x1024) (off := fun _ => 0) (by simp) (V m c main_v2) [] _ (fun _ => rfl)) _).trans ?_
        pointwise [wg m c]
    iterate 3
      focus
        intro k d
        refine (congrFun (View.readCov_fill (View.whole cc0_scratch1) (Val := Elt Ideal) (s := S2816x1024) (off := fun _ => 0) (by simp) (V m c main_v5) [] _ (fun _ => rfl)) _).trans ?_
        pointwise [wu m c]
    iterate 3
      focus
        intro k d
        refine (congrFun (View.readCov_fill (View.whole cc0_scratch2) (Val := Elt Ideal) (s := S2816x1024) (off := fun _ => 0) (by simp) (V m c main_v7) [] _ (fun _ => rfl)) _).trans ?_
        pointwise [wd m c]

end Cert.Kernel4Ideal.Value
-- ==== Proof.FwdAcc.lean ====
module
public import proofs.«01_k».proof.Proof.Gen.Kernel4Ideal.Frame
public import proofs.«01_k».proof.Proof.FwdRows
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen

variable (m : (ℓ : Loc nD τ sig) → Buf (Elt Ideal) ℓ)

set_option maxHeartbeats 4000000 in
theorem gnB (c : Dev nD) (t : Fin cfg0.N) (nz : ¬ t.val % 16 = 0) (d : Fin 1024) :
    (outsAt0 m c t.val t.isLt).2.2.2.2.2.2.1 (ix2 0 d) = (outsAt0 m c (t.val - 1) (Nat.lt_of_le_of_lt (Nat.sub_le _ _) t.isLt)).2.2.2.2.2.2.1 (ix2 0 d) + KGN m c t d := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  refine (kgn _ _ _ _ _ _ _ (fun r => YV m c (tok t r)) (fun r => TG m c (tok t r)) (GF m c) ?_ (bt m c t) (bg m c t) _ d).trans ?_
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        rw [Idealize.ShloMosaic.read_unread_whole (Val := Elt Ideal) cc0_scratch0 (Memref.isWhole_whole _) (V m c main_v2)]
        pointwise [wg m c]
    iterate 3
      focus
        intro k d
        rw [Idealize.ShloMosaic.read_unread_whole (Val := Elt Ideal) cc0_scratch1 (Memref.isWhole_whole _) (V m c main_v5)]
        pointwise [wu m c]
    iterate 3
      focus
        intro k d
        rw [Idealize.ShloMosaic.read_unread_whole (Val := Elt Ideal) cc0_scratch2 (Memref.isWhole_whole _) (V m c main_v7)]
        pointwise [wd m c]
  · rfl

set_option maxHeartbeats 4000000 in
theorem gnA (c : Dev nD) (t : Fin cfg0.N) (nz : t.val % 16 = 0) (d : Fin 1024) :
    (outsAt0 m c t.val t.isLt).2.2.2.2.2.2.1 (ix2 0 d) = 0 + KGN m c t d := by
  rw [outsAt0_A m c t nz nz]
  frame_out
  refine (kgn _ _ _ _ _ _ _ (fun r => YV m c (tok t r)) (fun r => TG m c (tok t r)) (GF m c) ?_ (bt m c t) (bg m c t) _ d).trans ?_
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        refine (congrFun (View.readCov_fill (View.whole cc0_scratch0) (Val := Elt Ideal) (s := S2816x1024) (off := fun _ => 0) (by simp) (V m c main_v2) [] _ (fun _ => rfl)) _).trans ?_
        pointwise [wg m c]
    iterate 3
      focus
        intro k d
        refine (congrFun (View.readCov_fill (View.whole cc0_scratch1) (Val := Elt Ideal) (s := S2816x1024) (off := fun _ => 0) (by simp) (V m c main_v5) [] _ (fun _ => rfl)) _).trans ?_
        pointwise [wu m c]
    iterate 3
      focus
        intro k d
        refine (congrFun (View.readCov_fill (View.whole cc0_scratch2) (Val := Elt Ideal) (s := S2816x1024) (off := fun _ => 0) (by simp) (V m c main_v7) [] _ (fun _ => rfl)) _).trans ?_
        pointwise [wd m c]
  · rw [z7]
    rfl

set_option maxHeartbeats 4000000 in
theorem lsB (c : Dev nD) (t : Fin cfg0.N) (nz : ¬ t.val % 16 = 0) (l : Fin 128) :
    (outsAt0 m c t.val t.isLt).2.2.2.2.2.1 (ix2 0 l) = (outsAt0 m c (t.val - 1) (Nat.lt_of_le_of_lt (Nat.sub_le _ _) t.isLt)).2.2.2.2.2.1 (ix2 0 l) + KL m c t := by
  rw [outsAt0_B m c t nz nz]
  obtain ⟨e0, e1, e2⟩ := scratch m c (t.val - 1) (Nat.lt_of_le_of_lt (Nat.sub_le _ _) t.isLt)
  frame_out
  rw [e0, e1, e2]
  clear e0 e1 e2
  refine (kloss _ _ _ _ _ _ _ (fun r => YV m c (tok t r)) (fun r => TG m c (tok t r)) (GF m c) ?_ (bt m c t) (bg m c t) _ l).trans ?_
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        rw [Idealize.ShloMosaic.read_unread_whole (Val := Elt Ideal) cc0_scratch0 (Memref.isWhole_whole _) (V m c main_v2)]
        pointwise [wg m c]
    iterate 3
      focus
        intro k d
        rw [Idealize.ShloMosaic.read_unread_whole (Val := Elt Ideal) cc0_scratch1 (Memref.isWhole_whole _) (V m c main_v5)]
        pointwise [wu m c]
    iterate 3
      focus
        intro k d
        rw [Idealize.ShloMosaic.read_unread_whole (Val := Elt Ideal) cc0_scratch2 (Memref.isWhole_whole _) (V m c main_v7)]
        pointwise [wd m c]
  · rfl

set_option maxHeartbeats 4000000 in
theorem lsA (c : Dev nD) (t : Fin cfg0.N) (nz : t.val % 16 = 0) (l : Fin 128) :
    (outsAt0 m c t.val t.isLt).2.2.2.2.2.1 (ix2 0 l) = 0 + KL m c t := by
  rw [outsAt0_A m c t nz nz]
  frame_out
  refine (kloss _ _ _ _ _ _ _ (fun r => YV m c (tok t r)) (fun r => TG m c (tok t r)) (GF m c) ?_ (bt m c t) (bg m c t) _ l).trans ?_
  · intro r d
    refine y_at (fun r => HV m c (tok t r)) (fun r => X m c (tok t r)) (WG m c) (WU m c) (WD m c) _ _ _ _ _ _ _ _ _ _ _ (bh m c t) (bx m c t) ?_ ?_ ?_ ?_ ?_ ?_ ?_ ?_ ?_ r d
    iterate 3
      focus
        intro k d
        refine (congrFun (View.readCov_fill (View.whole cc0_scratch0) (Val := Elt Ideal) (s := S2816x1024) (off := fun _ => 0) (by simp) (V m c main_v2) [] _ (fun _ => rfl)) _).trans ?_
        pointwise [wg m c]
    iterate 3
      focus
        intro k d
        refine (congrFun (View.readCov_fill (View.whole cc0_scratch1) (Val := Elt Ideal) (s := S2816x1024) (off := fun _ => 0) (by simp) (V m c main_v5) [] _ (fun _ => rfl)) _).trans ?_
        pointwise [wu m c]
    iterate 3
      focus
        intro k d
        refine (congrFun (View.readCov_fill (View.whole cc0_scratch2) (Val := Elt Ideal) (s := S2816x1024) (off := fun _ => 0) (by simp) (V m c main_v7) [] _ (fun _ => rfl)) _).trans ?_
        pointwise [wd m c]
  · rw [z6]
    rfl

end Cert.Kernel4Ideal.Value
-- ==== Proof.FwdFinal.lean ====
module
public import proofs.«01_k».proof.Proof.FwdGate
public import proofs.«01_k».proof.Proof.FwdRows
public import proofs.«01_k».proof.Proof.FwdAcc
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen

variable (m : (ℓ : Loc nD τ sig) → Buf (Elt Ideal) ℓ)

theorem a_out (c : Dev nD) (t : Fin cfg0.N) (r : Fin 256) (d : Fin 2816) : (outsAt0 m c t.val t.isLt).1 (ix2 r d) = AV m c (tok t r) d := by
  by_cases nz : t.val % 16 = 0
  · exact aA m c t nz r d
  · exact aB m c t nz r d
/-- A result array by token. -/
def G4 (c : Dev nD) : Buf (Elt Ideal) ((c.tc : Thread nD τ).loc main_v27_0) := fun i => AV m c (i 0) (i 1)
theorem final_4 (c : Dev nD) : (dats m 0 c).arrAt 4 cfg0.N = G4 m c :=
  (dats m 0 c).arrAt_eq_of_covers 4 (G4 m c) (by decide +kernel) fun t hf y => by
    blk_simp
    rw [after0_4]
    idx_vars y
    refine (a_out m c t y0 y1).trans ?_
    refine congrArg₂ (AV m c) (Fin.ext ?_) (Fin.ext ?_)
    · blk_simp [idx t]
    · blk_simp [idx t]

theorem b_out (c : Dev nD) (t : Fin cfg0.N) (r : Fin 256) (d : Fin 2816) : (outsAt0 m c t.val t.isLt).2.1 (ix2 r d) = BV m c (tok t r) d := by
  by_cases nz : t.val % 16 = 0
  · exact bA m c t nz r d
  · exact bB m c t nz r d
/-- A result array by token. -/
def G5 (c : Dev nD) : Buf (Elt Ideal) ((c.tc : Thread nD τ).loc main_v27_1) := fun i => BV m c (i 0) (i 1)
theorem final_5 (c : Dev nD) : (dats m 0 c).arrAt 5 cfg0.N = G5 m c :=
  (dats m 0 c).arrAt_eq_of_covers 5 (G5 m c) (by decide +kernel) fun t hf y => by
    blk_simp
    rw [after0_5]
    idx_vars y
    refine (b_out m c t y0 y1).trans ?_
    refine congrArg₂ (BV m c) (Fin.ext ?_) (Fin.ext ?_)
    · blk_simp [idx t]
    · blk_simp [idx t]

theorem f_out (c : Dev nD) (t : Fin cfg0.N) (r : Fin 256) (d : Fin 2816) : (outsAt0 m c t.val t.isLt).2.2.1 (ix2 r d) = FV m c (tok t r) d := by
  by_cases nz : t.val % 16 = 0
  · exact fA m c t nz r d
  · exact fB m c t nz r d
/-- A result array by token. -/
def G6 (c : Dev nD) : Buf (Elt Ideal) ((c.tc : Thread nD τ).loc main_v27_2) := fun i => FV m c (i 0) (i 1)
theorem final_6 (c : Dev nD) : (dats m 0 c).arrAt 6 cfg0.N = G6 m c :=
  (dats m 0 c).arrAt_eq_of_covers 6 (G6 m c) (by decide +kernel) fun t hf y => by
    blk_simp
    rw [after0_6]
    idx_vars y
    refine (f_out m c t y0 y1).trans ?_
    refine congrArg₂ (FV m c) (Fin.ext ?_) (Fin.ext ?_)
    · blk_simp [idx t]
    · blk_simp [idx t]

theorem dx_out (c : Dev nD) (t : Fin cfg0.N) (r : Fin 256) (d : Fin 1024) : (outsAt0 m c t.val t.isLt).2.2.2.1 (ix2 r d) = KDX m c (tok t r) d := by
  by_cases nz : t.val % 16 = 0
  · exact dxA m c t nz r d
  · exact dxB m c t nz r d
/-- A result array by token. -/
def G7 (c : Dev nD) : Buf (Elt Ideal) ((c.tc : Thread nD τ).loc main_v27_3) := fun i => KDX m c (i 0) (i 1)
theorem final_7 (c : Dev nD) : (dats m 0 c).arrAt 7 cfg0.N = G7 m c :=
  (dats m 0 c).arrAt_eq_of_covers 7 (G7 m c) (by decide +kernel) fun t hf y => by
    blk_simp
    rw [after0_7]
    idx_vars y
    refine (dx_out m c t y0 y1).trans ?_
    refine congrArg₂ (KDX m c) (Fin.ext ?_) (Fin.ext ?_)
    · blk_simp [idx t]
    · blk_simp [idx t]

theorem dxb_out (c : Dev nD) (t : Fin cfg0.N) (r : Fin 256) (d : Fin 1024) : (outsAt0 m c t.val t.isLt).2.2.2.2.1 (ix2 r d) = KDX m c (tok t r) d := by
  by_cases nz : t.val % 16 = 0
  · exact dxbA m c t nz r d
  · exact dxbB m c t nz r d
/-- A result array by token. -/
def G8 (c : Dev nD) : Buf (Elt Ideal) ((c.tc : Thread nD τ).loc main_v27_4) := fun i => KDX m c (i 0) (i 1)
theorem final_8 (c : Dev nD) : (dats m 0 c).arrAt 8 cfg0.N = G8 m c :=
  (dats m 0 c).arrAt_eq_of_covers 8 (G8 m c) (by decide +kernel) fun t hf y => by
    blk_simp
    rw [after0_8]
    idx_vars y
    refine (dxb_out m c t y0 y1).trans ?_
    refine congrArg₂ (KDX m c) (Fin.ext ?_) (Fin.ext ?_)
    · blk_simp [idx t]
    · blk_simp [idx t]

/-- After point `n` the loss holds the sum over the points up to it. -/
theorem acc_ls (c : Dev nD) (d : Fin 128) : ∀ (n : ℕ) (hn : n < cfg0.N),
    (outsAt0 m c n hn).2.2.2.2.2.1 (ix2 0 d) = ∑ t : Fin (n + 1), KL m c ⟨t.val, by have := t.isLt; omega⟩ := by
  intro n
  induction n with
  | zero =>
    intro hn
    refine (lsA m c ⟨0, hn⟩ rfl d).trans ?_
    rw [zero_add, Fin.sum_univ_one]
    rfl
  | succ n ih =>
    intro hn
    have hN : cfg0.N = 16 := N_0
    have hB : ¬(⟨n + 1, hn⟩ : Fin cfg0.N).val % 16 = 0 := by dsimp only; omega
    refine (lsB m c ⟨n + 1, hn⟩ hB d).trans ?_
    rw [Fin.sum_univ_castSucc]
    refine Ideal.add_congr ?_ rfl
    exact ih _
/-- The sum of what the points add to the loss. -/
def LSsum (c : Dev nD) : EReal := ∑ t : Fin 16, KL m c ⟨t.val, by rw [show cfg0.N = 16 from N_0]; exact t.isLt⟩
def G9 (c : Dev nD) : Buf (Elt Ideal) ((c.tc : Thread nD τ).loc main_v27_5) := fun i => LSsum m c
theorem final_9 (c : Dev nD) : (dats m 0 c).arrAt 9 cfg0.N = G9 m c :=
  (dats m 0 c).arrAt_eq_of_covers 9 (G9 m c) (by decide +kernel) fun t hf y => by
    blk_simp
    rw [after0_9]
    idx_vars y
    have hN : cfg0.N = 16 := N_0
    have h15 : t.val = 15 := by have := (flush0_9 t).mp hf; have := t.isLt; omega
    obtain rfl : y0 = 0 := Subsingleton.elim _ _
    have e : ∀ n (hn : n < cfg0.N), n = 15 → (outsAt0 m c n hn).2.2.2.2.2.1 (ix2 0 y1) = LSsum m c := by
      rintro n hn rfl
      exact acc_ls m c y1 15 hn
    refine (e t.val t.isLt h15).trans ?_
    rfl

/-- After point `n` the gain's gradient holds the sum over the points up to it. -/
theorem acc_gn (c : Dev nD) (d : Fin 1024) : ∀ (n : ℕ) (hn : n < cfg0.N),
    (outsAt0 m c n hn).2.2.2.2.2.2.1 (ix2 0 d) = ∑ t : Fin (n + 1), KGN m c ⟨t.val, by have := t.isLt; omega⟩ d := by
  intro n
  induction n with
  | zero =>
    intro hn
    refine (gnA m c ⟨0, hn⟩ rfl d).trans ?_
    rw [zero_add, Fin.sum_univ_one]
    rfl
  | succ n ih =>
    intro hn
    have hN : cfg0.N = 16 := N_0
    have hB : ¬(⟨n + 1, hn⟩ : Fin cfg0.N).val % 16 = 0 := by dsimp only; omega
    refine (gnB m c ⟨n + 1, hn⟩ hB d).trans ?_
    rw [Fin.sum_univ_castSucc]
    refine Ideal.add_congr ?_ rfl
    exact ih _
/-- The sum of what the points add to the gain's gradient. -/
def GNsum (c : Dev nD) (d : Fin 1024) : EReal := ∑ t : Fin 16, KGN m c ⟨t.val, by rw [show cfg0.N = 16 from N_0]; exact t.isLt⟩ d
def G10 (c : Dev nD) : Buf (Elt Ideal) ((c.tc : Thread nD τ).loc main_v27_6) := fun i => GNsum m c (i 1)
theorem final_10 (c : Dev nD) : (dats m 0 c).arrAt 10 cfg0.N = G10 m c :=
  (dats m 0 c).arrAt_eq_of_covers 10 (G10 m c) (by decide +kernel) fun t hf y => by
    blk_simp
    rw [after0_10]
    idx_vars y
    have hN : cfg0.N = 16 := N_0
    have h15 : t.val = 15 := by have := (flush0_10 t).mp hf; have := t.isLt; omega
    obtain rfl : y0 = 0 := Subsingleton.elim _ _
    have e : ∀ n (hn : n < cfg0.N), n = 15 → (outsAt0 m c n hn).2.2.2.2.2.2.1 (ix2 0 y1) = GNsum m c y1 := by
      rintro n hn rfl
      exact acc_gn m c y1 15 hn
    refine (e t.val t.isLt h15).trans ?_
    refine congrArg (GNsum m c) (Fin.ext ?_)
    blk_simp [idx t]
end Cert.Kernel4Ideal.Value
-- ==== Proof.FwdRefPure.lean ====
module
public import proofs.«01_k».proof.Proof.Gen.Reference4Ideal.Run
public import proofs.«01_k».proof.Proof.FfnMath
public import Idealize.ShloMosaic.Lib.Pipeline.ValueKit
public import Idealize.ShloMosaic.Lib.Pointwise
public import proofs.«01_k».proof.Proof.InRefPure
public import Idealize.ShloMosaic.Lib.Claim
@[expose] public section
set_option maxRecDepth 16384
noncomputable section
open Idealize.ShloMosaic Idealize.ShloMosaic.TcCoe Idealize.SL.Sem

/-- The host's sum over both axes of two. -/
theorem Rms.hostReduceAdd_total2 {n0 n1 : ℕ} (h : (⟨2, ![n0, n1]⟩ : Shape).ReducesTo [0, 1] ⟨0, ![]⟩)
    (v : (⟨2, ![n0, n1]⟩ : Shape).Idx → EReal) (init : EReal) (j : (⟨0, ![]⟩ : Shape).Idx) :
    Ideal.hostReduceAdd h v init j = init + ∑ a : Fin n0, ∑ b : Fin n1, v (ix2 a b) := by
  refine congrArg (init + ·) ?_
  refine (Finset.sum_filter_eq_sum_of_fiber _ (fun k : Fin n0 × Fin n1 => ix2 k.1 k.2)
    (fun _ _ e => Prod.ext (congrFun e 0) (congrFun e 1))
    (fun i => ⟨fun _ => ⟨(i 0, i 1), (eq_ix2 i).symm⟩, fun _ => funext fun b => b.elim0⟩) v).trans ?_
  simp only [Fintype.sum_prod_type]

/-- The literal two. -/
theorem Swi.ctwo : Ideal.ofBits .f32 0x40000000#32 = ((2 : ℝ) : EReal) := by
  rw [Rms.f32_lit _ false 128 0 (by decide) (by decide) (by decide) (by decide) (by decide)]
  norm_num

namespace Cert.Reference4Ideal.Value
open Cert.Reference4Ideal Cert.Reference4Ideal.Gen

/-- The mean of squares plus the small constant. -/
def MS (y : FVec Ideal S2x2048x1024 .f32) : FVec Ideal S2x2048x1 .f32 :=
  addf (Host.divf (broadcastInDim S2x2048x1 ![0, 1] bcast_S2x2048_S2x2048x1_0_1 (Host.reduceAdd (mulf y y) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
/-- A gain along every row. -/
def G (a : FVec Ideal S1024 .f32) : FVec Ideal S2x2048x1024 .f32 :=
  broadcastInDim S2x2048x1024 ![0, 1, 2] bcast_S1x1x1024_S2x2048x1024_0_1_2 (broadcastInDim S1x1x1024 ![2] bcast_S1024_S1x1x1024_2 a)
/-- The first gain, without its leading axis. -/
def G2 (a : FVec Ideal S1x1024 .f32) : FVec Ideal S1024 .f32 := shapeCast _ a shapeCasts_S1x1024_S1024
/-- The normalised rows. -/
def NX (y : FVec Ideal S2x2048x1024 .f32) (v : FVec Ideal S2x2048x1 .f32) : FVec Ideal S2x2048x1024 .f32 :=
  mulf y (broadcastInDim S2x2048x1024 ![0, 1, 2] bcast_S2x2048x1_S2x2048x1024_0_1_2 (Host.rsqrt v))
/-- A product with one of the two input weights. -/
def UP (h : FVec Ideal S2x2048x1024 .f32) (w : FVec Ideal S1x1024x2816 .f32) : FVec Ideal S2x2048x2816 .f32 :=
  Host.dotGeneral dot_S2x2048x1024_S1024x2816_S2x2048x2816_2_0_01_1_n_n none h (shapeCast _ w shapeCasts_S1x1024x2816_S1024x2816)
/-- The gated product. -/
def FF (a b : FVec Ideal S2x2048x2816 .f32) : FVec Ideal S2x2048x2816 .f32 :=
  mulf (mulf a (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf a))))) b
/-- The layer's output. -/
def YY (x : FVec Ideal S2x2048x1024 .f32) (f : FVec Ideal S2x2048x2816 .f32) (w : FVec Ideal S1x2816x1024 .f32) : FVec Ideal S2x2048x1024 .f32 :=
  addf x (Host.dotGeneral dot_S2x2048x2816_S2816x1024_S2x2048x1024_2_0_01_1_n_n none f (shapeCast _ w shapeCasts_S1x2816x1024_S2816x1024))
/-- The error against the target. -/
def ER (xh g t : FVec Ideal S2x2048x1024 .f32) : FVec Ideal S2x2048x1024 .f32 := subf (mulf xh g) t
/-- The loss in every lane. -/
def LS (e : FVec Ideal S2x2048x1024 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_))
/-- The cotangent of the last norm's rows. -/
def DY (e : FVec Ideal S2x2048x1024 .f32) : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) e)
/-- The cotangent of the mean of squares, handed to every entry of a row. -/
def DM (y dg : FVec Ideal S2x2048x1024 .f32) (v : FVec Ideal S2x2048x1 .f32) : FVec Ideal S2x2048x1024 .f32 :=
  broadcastInDim S2x2048x1024 ![0, 1] bcast_S2x2048_S2x2048x1024_0_1 (Host.reduceAdd (Host.divf (mulf (shapeCast _ (Host.reduceAdd (mulf y dg) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt v) v))) (broadcastInDim S2x2048x1 ![] bcast_S_S2x2048x1 (constant S_ .f32 0x44800000#32))) (constant S_ .f32 0x00000000#32) reducesTo_S2x2048x1_S2x2048_d2 h_S_)
/-- The rows' gradient by token. -/
def DX (y dg dm : FVec Ideal S2x2048x1024 .f32) (v : FVec Ideal S2x2048x1 .f32) : FVec Ideal S4096x1024 .f32 :=
  shapeCast _ (addf (addf (mulf dg (broadcastInDim S2x2048x1024 ![0, 1, 2] bcast_S2x2048x1_S2x2048x1024_0_1_2 (Host.rsqrt v))) (mulf y dm)) (mulf dm y)) shapeCasts_S2x2048x1024_S4096x1024
/-- The last gain's gradient. -/
def GN (xh dy : FVec Ideal S2x2048x1024 .f32) : FVec Ideal S1x1024 .f32 :=
  shapeCast _ (Host.reduceAdd (shapeCast _ (Host.reduceAdd (mulf xh dy) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024
/-- Arrays by token in the narrow format. -/
def RW (a : FVec Ideal S2x2048x2816 .f32) : FVec Ideal S4096x2816 .bf16 := truncf .bf16 (shapeCast _ a shapeCasts_S2x2048x2816_S4096x2816) bitsLt_bf16_f32
def NR (a : FVec Ideal S4096x1024 .f32) : FVec Ideal S4096x1024 .bf16 := truncf .bf16 a bitsLt_bf16_f32

/-- The sequence of a token and its place in it. -/
abbrev bOf (r : Fin 4096) : Fin 2 := ⟨r.val / 2048, by omega⟩
abbrev sOf (r : Fin 4096) : Fin 2048 := ⟨r.val % 2048, by omega⟩

section at_index
variable (b : Fin 2) (s : Fin 2048) (d : Fin 1024) (k : Fin 2816) (r : Fin 4096)
theorem MS_at (y : FVec Ideal S2x2048x1024 .f32) : MS y (ix3 b s 0) = Rms.ms ((1024 : ℝ) : EReal) (Ideal.ofBits .f32 0x358637BD#32) fun k : Fin 1024 => y (ix3 b s k) := by
  pointwise [MS, Rms.ms]
  rw [Rms.c1024]
theorem G_at (a : FVec Ideal S1024 .f32) : G a (ix3 b s d) = a (ix1 d) := by
  pointwise [G]
theorem G2_at (a : FVec Ideal S1x1024 .f32) : G2 a (ix1 d) = a (ix2 0 d) := by
  pointwise [G2]
theorem NX_at (y : FVec Ideal S2x2048x1024 .f32) (v : FVec Ideal S2x2048x1 .f32) : NX y v (ix3 b s d) = y (ix3 b s d) * Ideal.rsqrt (v (ix3 b s 0)) := by
  pointwise [NX]
theorem UP_at (h : FVec Ideal S2x2048x1024 .f32) (w : FVec Ideal S1x1024x2816 .f32) : UP h w (ix3 b s k) = ∑ d, h (ix3 b s d) * w (ix3 0 d k) := by
  pointwise [UP]
theorem FF_at (a b' : FVec Ideal S2x2048x2816 .f32) : FF a b' (ix3 b s k) = a (ix3 b s k) * Swi.lg (a (ix3 b s k)) * b' (ix3 b s k) := by
  pointwise [FF, Swi.lg, Swi.cone]
theorem YY_at (x : FVec Ideal S2x2048x1024 .f32) (f : FVec Ideal S2x2048x2816 .f32) (w : FVec Ideal S1x2816x1024 .f32) :
    YY x f w (ix3 b s d) = x (ix3 b s d) + ∑ k, f (ix3 b s k) * w (ix3 0 k d) := by
  pointwise [YY]
theorem ER_at (xh g t : FVec Ideal S2x2048x1024 .f32) : ER xh g t (ix3 b s d) = xh (ix3 b s d) * g (ix3 b s d) - t (ix3 b s d) := by
  pointwise [ER]
/-- The loss: half the sum over all tokens of the mean of the squared error. -/
theorem LS_at (e : FVec Ideal S2x2048x1024 .f32) (l : Fin 128) : LS e (ix2 0 l) = (((1/2) : ℝ) : EReal) *
    ∑ a : Fin 2, ∑ b : Fin 2048, Ideal.div (∑ k : Fin 1024, e (ix3 a b k) * e (ix3 a b k)) ((1024 : ℝ) : EReal) := by
  rw [← Rms.c1024, ← Swi.chalf]
  pointwise [LS]
/-- Half a mean of twice the error is the error's 1024th part. -/
theorem DY_at (e : FVec Ideal S2x2048x1024 .f32) : DY e (ix3 b s d) = e (ix3 b s d) * (((1/1024) : ℝ) : EReal) := by
  have h : DY e (ix3 b s d) = Ideal.div ((((1/2) : ℝ) : EReal) * 1) ((1024 : ℝ) : EReal) * (((2 : ℝ) : EReal) * e (ix3 b s d)) := by
    rw [← Rms.c1024, ← Swi.chalf, ← Swi.ctwo, ← Swi.cone]
    pointwise [DY]
  rw [h, mul_one, Ideal.div_coe (by norm_num), ← mul_assoc, ← EReal.coe_mul, ← EReal.coe_mul, mul_comm]
  norm_num
theorem DM_at (y dg : FVec Ideal S2x2048x1024 .f32) (v : FVec Ideal S2x2048x1 .f32) : DM y dg v (ix3 b s d) =
    Ideal.div ((∑ k, y (ix3 b s k) * dg (ix3 b s k)) * (((-(1/2) : ℝ) : EReal) * Ideal.div (Ideal.rsqrt (v (ix3 b s 0))) (v (ix3 b s 0)))) ((1024 : ℝ) : EReal) := by
  rw [← Rms.c1024, ← Rms.cmhalf]
  pointwise [DM]
  simp only [Fin.sum_univ_one]
theorem DX_at (y dg dm : FVec Ideal S2x2048x1024 .f32) (v : FVec Ideal S2x2048x1 .f32) : DX y dg dm v (ix2 r d) =
    dg (ix3 (bOf r) (sOf r) d) * Ideal.rsqrt (v (ix3 (bOf r) (sOf r) 0)) + y (ix3 (bOf r) (sOf r) d) * dm (ix3 (bOf r) (sOf r) d)
      + dm (ix3 (bOf r) (sOf r) d) * y (ix3 (bOf r) (sOf r) d) := by
  pointwise [DX, bOf, sOf]
theorem GN_at (xh dy : FVec Ideal S2x2048x1024 .f32) : GN xh dy (ix2 0 d) = ∑ a : Fin 2, ∑ b : Fin 2048, xh (ix3 a b d) * dy (ix3 a b d) := by
  pointwise [GN]
  rw [Rms.hostReduceAdd_a01]
  simp only [Fin.sum_univ_one, zero_add]
  pointwise
  rw [Rms.hostReduceAdd_a01]
  pointwise
theorem NR_at (a : FVec Ideal S4096x1024 .f32) : NR a (ix2 r d) = a (ix2 r d) := by
  pointwise [NR]
theorem ml_at (a a' : FVec Ideal S2x2048x1024 .f32) : mulf a a' (ix3 b s d) = a (ix3 b s d) * a' (ix3 b s d) := rfl
theorem RW_at (a : FVec Ideal S2x2048x2816 .f32) : RW a (ix2 r k) = a (ix3 (bOf r) (sOf r) k) := by
  pointwise [RW, bOf, sOf]
end at_index

section stages
variable (a0 a1 : FVec Ideal S2x2048x1024 .f32) (a2 : FVec Ideal S1x1024 .f32) (a3 a4 : FVec Ideal S1x1024x2816 .f32) (a5 : FVec Ideal S1x2816x1024 .f32) (a6 : FVec Ideal S1024 .f32)
/-- The reference's stages over its arguments: a projection's rows, the gated product, the output, the error, the gradients. -/
def Ra (w : FVec Ideal S1x1024x2816 .f32) : FVec Ideal S2x2048x2816 .f32 := UP (mulf (NX a0 (MS a0)) (G (G2 a2))) w
def Rf : FVec Ideal S2x2048x2816 .f32 := FF (Ra a0 a2 a3) (Ra a0 a2 a4)
def Ry : FVec Ideal S2x2048x1024 .f32 := YY a0 (Rf a0 a2 a3 a4) a5
end stages
section head
variable (y t : FVec Ideal S2x2048x1024 .f32) (g : FVec Ideal S1024 .f32)
def Re : FVec Ideal S2x2048x1024 .f32 := ER (NX y (MS y)) (G g) t
def Rdg : FVec Ideal S2x2048x1024 .f32 := mulf (DY (Re y t g)) (G g)
def Rdx : FVec Ideal S4096x1024 .f32 := DX y (Rdg y t g) (DM y (Rdg y t g) (MS y)) (MS y)
def Rgn : FVec Ideal S1x1024 .f32 := GN (NX y (MS y)) (DY (Re y t g))
end head

section results
variable (m : (ℓ : Loc nD τ sig) → Buf (Elt Ideal) ℓ) (c : Dev nD)
abbrev p0 : FVec Ideal S2x2048x1024 .f32 := m ((c.tc : Thread nD τ).loc main_arg0)
abbrev p1 : FVec Ideal S2x2048x1024 .f32 := m ((c.tc : Thread nD τ).loc main_arg1)
abbrev p2 : FVec Ideal S1x1024 .f32 := m ((c.tc : Thread nD τ).loc main_arg2)
abbrev p3 : FVec Ideal S1x1024x2816 .f32 := m ((c.tc : Thread nD τ).loc main_arg3)
abbrev p4 : FVec Ideal S1x1024x2816 .f32 := m ((c.tc : Thread nD τ).loc main_arg4)
abbrev p5 : FVec Ideal S1x2816x1024 .f32 := m ((c.tc : Thread nD τ).loc main_arg5)
abbrev p6 : FVec Ideal S1024 .f32 := m ((c.tc : Thread nD τ).loc main_arg6)
/-- The reference's results are these stages. -/
theorem final3 : res_main_v80 (F := Ideal) m c = Rdx (Ry (p0 m c) (p2 m c) (p3 m c) (p4 m c) (p5 m c)) (p1 m c) (p6 m c) := rfl
theorem final4 : res_main_v81 (F := Ideal) m c = NR (Rdx (Ry (p0 m c) (p2 m c) (p3 m c) (p4 m c) (p5 m c)) (p1 m c) (p6 m c)) := rfl
theorem final5 : res_main_v82 (F := Ideal) m c = LS (Re (Ry (p0 m c) (p2 m c) (p3 m c) (p4 m c) (p5 m c)) (p1 m c) (p6 m c)) := rfl
theorem final6 : res_main_v83 (F := Ideal) m c = Rgn (Ry (p0 m c) (p2 m c) (p3 m c) (p4 m c) (p5 m c)) (p1 m c) (p6 m c) := rfl
end results
end Cert.Reference4Ideal.Value
-- ==== Proof.FwdClaim.lean ====
module
public import proofs.«01_k».proof.Defs
public import proofs.«01_k».proof.Proof.FwdFinal
public import proofs.«01_k».proof.Proof.FwdRefPure
public import Idealize.ShloMosaic.Lib.Claim
public import Idealize.ShloMosaic.Lib.Pointwise
@[expose] public section
set_option maxRecDepth 16384
noncomputable section
open Idealize.ShloMosaic Idealize.ShloMosaic.TcCoe Idealize.SL.Sem
namespace Cert.FwdPair

section
open Cert.Kernel4Ideal.Value
open Cert.Reference4Ideal.Value (Ra Rf Ry Re Rdg Rdx Rgn)
variable (m : (ℓ : Loc Cert.Kernel4Ideal.nD Cert.Kernel4Ideal.τ Cert.Kernel4Ideal.sig) → Buf (Elt Ideal) ℓ) (c : Dev Cert.Kernel4Ideal.nD)

/-- The kernel's seven arguments. -/
abbrev q0 : FVec Ideal Cert.Reference4Ideal.S2x2048x1024 .f32 := m ((c.tc : Thread _ _).loc Cert.Kernel4Ideal.main_arg0)
abbrev q1 : FVec Ideal Cert.Reference4Ideal.S2x2048x1024 .f32 := m ((c.tc : Thread _ _).loc Cert.Kernel4Ideal.main_arg1)
abbrev q2 : FVec Ideal Cert.Reference4Ideal.S1x1024 .f32 := m ((c.tc : Thread _ _).loc Cert.Kernel4Ideal.main_arg2)
abbrev q3 : FVec Ideal Cert.Reference4Ideal.S1x1024x2816 .f32 := m ((c.tc : Thread _ _).loc Cert.Kernel4Ideal.main_arg3)
abbrev q4 : FVec Ideal Cert.Reference4Ideal.S1x1024x2816 .f32 := m ((c.tc : Thread _ _).loc Cert.Kernel4Ideal.main_arg4)
abbrev q5 : FVec Ideal Cert.Reference4Ideal.S1x2816x1024 .f32 := m ((c.tc : Thread _ _).loc Cert.Kernel4Ideal.main_arg5)
abbrev q6 : FVec Ideal Cert.Reference4Ideal.S1024 .f32 := m ((c.tc : Thread _ _).loc Cert.Kernel4Ideal.main_arg6)
/-- The reference's output of the layer, from the kernel's arguments. -/
abbrev yy : FVec Ideal Cert.Reference4Ideal.S2x2048x1024 .f32 := Ry (q0 m c) (q2 m c) (q3 m c) (q4 m c) (q5 m c)

/-- The projections' rows, the gated product and the layer's output are the kernel's. -/
theorem a_at (R : Fin 4096) (k : Fin 2816) : Ra (q0 m c) (q2 m c) (q3 m c) (ix3 (bOf R) (sOf R) k) = AV m c R k := by
  unfold Ra
  rw [Cert.Reference4Ideal.Value.UP_at]
  simp only [Cert.Reference4Ideal.Value.ml_at, Cert.Reference4Ideal.Value.NX_at, Cert.Reference4Ideal.Value.MS_at, Cert.Reference4Ideal.Value.G_at, Cert.Reference4Ideal.Value.G2_at]
  rfl
theorem b_at (R : Fin 4096) (k : Fin 2816) : Ra (q0 m c) (q2 m c) (q4 m c) (ix3 (bOf R) (sOf R) k) = BV m c R k := by
  unfold Ra
  rw [Cert.Reference4Ideal.Value.UP_at]
  simp only [Cert.Reference4Ideal.Value.ml_at, Cert.Reference4Ideal.Value.NX_at, Cert.Reference4Ideal.Value.MS_at, Cert.Reference4Ideal.Value.G_at, Cert.Reference4Ideal.Value.G2_at]
  rfl
theorem f_at (R : Fin 4096) (k : Fin 2816) : Rf (q0 m c) (q2 m c) (q3 m c) (q4 m c) (ix3 (bOf R) (sOf R) k) = FV m c R k := by
  unfold Rf
  rw [Cert.Reference4Ideal.Value.FF_at, a_at, b_at]
  rfl
theorem y_at' (R : Fin 4096) (d : Fin 1024) : yy m c (ix3 (bOf R) (sOf R) d) = YV m c R d := by
  unfold yy Ry
  rw [Cert.Reference4Ideal.Value.YY_at]
  simp only [f_at m c R]
  rfl

/-- The error and the last norm's cotangent. -/
theorem e_at (R : Fin 4096) (d : Fin 1024) : Re (yy m c) (q1 m c) (q6 m c) (ix3 (bOf R) (sOf R) d) = ER m c R d := by
  unfold Re
  rw [Cert.Reference4Ideal.Value.ER_at, Cert.Reference4Ideal.Value.NX_at, Cert.Reference4Ideal.Value.MS_at, Cert.Reference4Ideal.Value.G_at]
  simp only [y_at' m c R]
  rfl
theorem dg_at (R : Fin 4096) (d : Fin 1024) : Rdg (yy m c) (q1 m c) (q6 m c) (ix3 (bOf R) (sOf R) d) = ER m c R d * (((1/1024) : ℝ) : EReal) * GF m c d := by
  unfold Rdg
  rw [Cert.Reference4Ideal.Value.ml_at, Cert.Reference4Ideal.Value.DY_at, e_at, Cert.Reference4Ideal.Value.G_at]
  rfl

theorem a_eq : G4 m c = Cert.Reference4Ideal.Value.RW (Ra (q0 m c) (q2 m c) (q3 m c)) := by
  funext i
  obtain ⟨r, k, rfl⟩ : ∃ (r : Fin 4096) (k : Fin 2816), i = ix2 r k := ⟨i 0, i 1, eq_ix2 i⟩
  exact ((Cert.Reference4Ideal.Value.RW_at k r _).trans (a_at m c r k)).symm
theorem b_eq : G5 m c = Cert.Reference4Ideal.Value.RW (Ra (q0 m c) (q2 m c) (q4 m c)) := by
  funext i
  obtain ⟨r, k, rfl⟩ : ∃ (r : Fin 4096) (k : Fin 2816), i = ix2 r k := ⟨i 0, i 1, eq_ix2 i⟩
  exact ((Cert.Reference4Ideal.Value.RW_at k r _).trans (b_at m c r k)).symm
theorem f_eq : G6 m c = Cert.Reference4Ideal.Value.RW (Rf (q0 m c) (q2 m c) (q3 m c) (q4 m c)) := by
  funext i
  obtain ⟨r, k, rfl⟩ : ∃ (r : Fin 4096) (k : Fin 2816), i = ix2 r k := ⟨i 0, i 1, eq_ix2 i⟩
  exact ((Cert.Reference4Ideal.Value.RW_at k r _).trans (f_at m c r k)).symm

/-- The kernel's rows' gradient is the derivative's. -/
theorem dx_at' (r : Fin 4096) (d : Fin 1024) : Rdx (yy m c) (q1 m c) (q6 m c) (ix2 r d) = KDX m c r d := by
  obtain ⟨E, hE, eE⟩ := Rms.ceps
  unfold Rdx
  rw [Cert.Reference4Ideal.Value.DX_at, Cert.Reference4Ideal.Value.DM_at, Cert.Reference4Ideal.Value.MS_at]
  simp only [dg_at m c r, y_at' m c r]
  have g := Rms.grad (YV m c r) (fun k => ER m c r k * (((1/1024) : ℝ) : EReal) * GF m c k) 0 d (N := 1024) (by norm_num) hE
  rw [zero_add, zero_add] at g
  unfold KDX RY
  rw [eE]
  exact g.symm
theorem dx_eq : G7 m c = Rdx (yy m c) (q1 m c) (q6 m c) := by
  funext i
  obtain ⟨r, d, rfl⟩ : ∃ (r : Fin 4096) (d : Fin 1024), i = ix2 r d := ⟨i 0, i 1, eq_ix2 i⟩
  exact (dx_at' m c r d).symm
theorem dxb_eq : G8 m c = Cert.Reference4Ideal.Value.NR (Rdx (yy m c) (q1 m c) (q6 m c)) := by
  funext i
  obtain ⟨r, d, rfl⟩ : ∃ (r : Fin 4096) (d : Fin 1024), i = ix2 r d := ⟨i 0, i 1, eq_ix2 i⟩
  exact ((Cert.Reference4Ideal.Value.NR_at d r _).trans (dx_at' m c r d)).symm

/-- A sum over the sixteen tiles of rows is the sum over the two sequences. -/
theorem tiles (f : Fin 4096 → EReal) : (∑ t : Fin 16, ∑ r : Fin 256, f ⟨t.val * 256 + r.val, by omega⟩)
    = ∑ a : Fin 2, ∑ b : Fin 2048, f ⟨a.val * 2048 + b.val, by omega⟩ :=
  (Fin.sum_univ_tiles 16 256 rfl f).symm.trans (Fin.sum_univ_tiles 2 2048 rfl f)
theorem b_of (a : Fin 2) (b : Fin 2048) : bOf ⟨a.val * 2048 + b.val, by omega⟩ = a := Fin.ext (by dsimp only [bOf]; omega)
theorem s_of (a : Fin 2) (b : Fin 2048) : sOf ⟨a.val * 2048 + b.val, by omega⟩ = b := Fin.ext (by dsimp only [sOf]; omega)

/-- The kernel's loss is the reference's. -/
theorem ls_eq : G9 m c = Cert.Reference4Ideal.Value.LS (Re (yy m c) (q1 m c) (q6 m c)) := by
  funext i
  obtain ⟨r, l, rfl⟩ : ∃ (r : Fin 1) (l : Fin 128), i = ix2 r l := ⟨i 0, i 1, eq_ix2 i⟩
  obtain rfl : r = 0 := Subsingleton.elim _ _
  rw [Cert.Reference4Ideal.Value.LS_at]
  have e : ∀ (a : Fin 2) (b : Fin 2048), Ideal.div (∑ k : Fin 1024, Re (yy m c) (q1 m c) (q6 m c) (ix3 a b k) * Re (yy m c) (q1 m c) (q6 m c) (ix3 a b k)) ((1024 : ℝ) : EReal)
      = (∑ k : Fin 1024, ER m c ⟨a.val * 2048 + b.val, by omega⟩ k * ER m c ⟨a.val * 2048 + b.val, by omega⟩ k) * ((1 / 1024 : ℝ) : EReal) := by
    intro a b
    rw [Ideal.div_coe (by norm_num)]
    refine congrArg (· * ((1 / 1024 : ℝ) : EReal)) (Finset.sum_congr rfl fun k _ => ?_)
    have h := e_at m c ⟨a.val * 2048 + b.val, by omega⟩ k
    rw [b_of, s_of] at h
    rw [h]
  simp only [e]
  simp only [Rms.sum_mul_real _ (show (0 : ℝ) ≤ 1 / 1024 by norm_num)]
  rw [← tiles fun R => ∑ k : Fin 1024, ER m c R k * ER m c R k]
  show LSsum m c = _
  unfold LSsum KL
  simp only [mul_comm ((1 / 2048 : ℝ) : EReal)]
  rw [Rms.sum_mul_real _ (show (0 : ℝ) ≤ 1 / 2048 by norm_num), mul_left_comm, ← EReal.coe_mul, show (1 / 2 * (1 / 1024) : ℝ) = 1 / 2048 by norm_num]

/-- The kernel's gain gradient is the derivative's. -/
theorem gn_eq : G10 m c = Rgn (yy m c) (q1 m c) (q6 m c) := by
  funext i
  obtain ⟨r, d, rfl⟩ : ∃ (r : Fin 1) (d : Fin 1024), i = ix2 r d := ⟨i 0, i 1, eq_ix2 i⟩
  obtain rfl : r = 0 := Subsingleton.elim _ _
  unfold Rgn
  rw [Cert.Reference4Ideal.Value.GN_at]
  show GNsum m c d = _
  unfold GNsum KGN
  refine (tiles fun R => ER m c R d * (((1/1024) : ℝ) : EReal) * (YV m c R d * RY m c R)).trans ?_
  refine Finset.sum_congr rfl fun a _ => Finset.sum_congr rfl fun b _ => ?_
  have he := e_at m c ⟨a.val * 2048 + b.val, by omega⟩ d
  have hy := y_at' m c ⟨a.val * 2048 + b.val, by omega⟩
  rw [b_of, s_of] at he
  simp only [b_of, s_of] at hy
  rw [Cert.Reference4Ideal.Value.NX_at, Cert.Reference4Ideal.Value.MS_at, Cert.Reference4Ideal.Value.DY_at, he]
  simp only [hy]
  exact mul_comm _ _
end

section
open Cert.Reference4Ideal.Value
set_option maxHeartbeats 4000000 in
/-- The reference's run, its seven results by stages. -/
theorem ref_run [Cert.Reference4Ideal.Facts] (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => ∀ c : Dev Cert.Reference4Ideal.nD,
      r.2.mem ((c.tc : Thread Cert.Reference4Ideal.nD Cert.Reference4Ideal.τ).loc Cert.Reference4Ideal.main_v75) = RW (Ra (p0 m c) (p2 m c) (p3 m c))
      ∧ r.2.mem ((c.tc : Thread Cert.Reference4Ideal.nD Cert.Reference4Ideal.τ).loc Cert.Reference4Ideal.main_v77) = RW (Ra (p0 m c) (p2 m c) (p4 m c))
      ∧ r.2.mem ((c.tc : Thread Cert.Reference4Ideal.nD Cert.Reference4Ideal.τ).loc Cert.Reference4Ideal.main_v79) = RW (Rf (p0 m c) (p2 m c) (p3 m c) (p4 m c))
      ∧ r.2.mem ((c.tc : Thread Cert.Reference4Ideal.nD Cert.Reference4Ideal.τ).loc Cert.Reference4Ideal.main_v80) = Rdx (Ry (p0 m c) (p2 m c) (p3 m c) (p4 m c) (p5 m c)) (p1 m c) (p6 m c)
      ∧ r.2.mem ((c.tc : Thread Cert.Reference4Ideal.nD Cert.Reference4Ideal.τ).loc Cert.Reference4Ideal.main_v81) = NR (Rdx (Ry (p0 m c) (p2 m c) (p3 m c) (p4 m c) (p5 m c)) (p1 m c) (p6 m c))
      ∧ r.2.mem ((c.tc : Thread Cert.Reference4Ideal.nD Cert.Reference4Ideal.τ).loc Cert.Reference4Ideal.main_v82) = LS (Re (Ry (p0 m c) (p2 m c) (p3 m c) (p4 m c) (p5 m c)) (p1 m c) (p6 m c))
      ∧ r.2.mem ((c.tc : Thread Cert.Reference4Ideal.nD Cert.Reference4Ideal.τ).loc Cert.Reference4Ideal.main_v83) = Rgn (Ry (p0 m c) (p2 m c) (p3 m c) (p4 m c) (p5 m c)) (p1 m c) (p6 m c)
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)) :=
  (θ_run _ _ _).mono (fun r h c => ⟨(h c).1.trans rfl, (h c).2.1.trans rfl, (h c).2.2.1.trans rfl, (h c).2.2.2.1.trans (final3 m c),
    (h c).2.2.2.2.1.trans (final4 m c), (h c).2.2.2.2.2.1.trans (final5 m c), (h c).2.2.2.2.2.2.1.trans (final6 m c), (h c).2.2.2.2.2.2.2⟩) (run m g)
end

set_option maxHeartbeats 4000000 in
/-- Run from arguments that agree, the kernel and the reference return the same seven arrays. -/
theorem algebraic [Cert.Kernel4Ideal.Facts] [Cert.Reference4Ideal.Facts] : Cert.algebraic_Kernel4Ideal_Reference4Ideal := by
  intro m g m' g' _ hagree
  refine ⟨fun c => Cert.Kernel4Ideal.Value.G4 m c, fun c => Cert.Kernel4Ideal.Value.G5 m c, fun c => Cert.Kernel4Ideal.Value.G6 m c,
    fun c => Cert.Kernel4Ideal.Value.G7 m c, fun c => Cert.Kernel4Ideal.Value.G8 m c, fun c => Cert.Kernel4Ideal.Value.G9 m c,
    fun c => Cert.Kernel4Ideal.Value.G10 m c, ?_, (θ_run _ _ _).mono (fun r hr c => ?_) (ref_run m' g')⟩
  · run_from Cert.Kernel4Ideal.Gen.run_main m g
    · exact Cert.Kernel4Ideal.Value.final_4 m c
    · exact Cert.Kernel4Ideal.Value.final_5 m c
    · exact Cert.Kernel4Ideal.Value.final_6 m c
    · exact Cert.Kernel4Ideal.Value.final_7 m c
    · exact Cert.Kernel4Ideal.Value.final_8 m c
    · exact Cert.Kernel4Ideal.Value.final_9 m c
    · exact Cert.Kernel4Ideal.Value.final_10 m c
  · have hc := hr c
    have e0 : Cert.Reference4Ideal.Value.p0 m' c = q0 m c := (hagree c).1
    have e1 : Cert.Reference4Ideal.Value.p1 m' c = q1 m c := (hagree c).2.1
    have e2 : Cert.Reference4Ideal.Value.p2 m' c = q2 m c := (hagree c).2.2.1
    have e3 : Cert.Reference4Ideal.Value.p3 m' c = q3 m c := (hagree c).2.2.2.1
    have e4 : Cert.Reference4Ideal.Value.p4 m' c = q4 m c := (hagree c).2.2.2.2.1
    have e5 : Cert.Reference4Ideal.Value.p5 m' c = q5 m c := (hagree c).2.2.2.2.2.1
    have e6 : Cert.Reference4Ideal.Value.p6 m' c = q6 m c := (hagree c).2.2.2.2.2.2
    rw [e0, e1, e2, e3, e4, e5, e6] at hc
    exact ⟨hc.1.trans (a_eq m c).symm, hc.2.1.trans (b_eq m c).symm, hc.2.2.1.trans (f_eq m c).symm, hc.2.2.2.1.trans (dx_eq m c).symm,
      hc.2.2.2.2.1.trans (dxb_eq m c).symm, hc.2.2.2.2.2.1.trans (ls_eq m c).symm, hc.2.2.2.2.2.2.1.trans (gn_eq m c).symm, (hr c).2.2.2.2.2.2.2⟩
end Cert.FwdPair
-- ==== Proof.MidPure.lean ====
module
public import proofs.«01_k».proof.Proof.Gen.Kernel5Ideal.Skeleton
public import proofs.«01_k».proof.Proof.FfnMath
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

/-- The mean of a row of 1024 entries, and the row with its mean taken off and its spread divided out. -/
def Rms.mu (x : Fin 1024 → EReal) : EReal := Ideal.div (∑ k, x k) ((1024 : ℝ) : EReal)
def Rms.ln (x : Fin 1024 → EReal) (d : Fin 1024) : EReal :=
  (x d - Rms.mu x) * Ideal.rsqrt (Rms.ms ((1024 : ℝ) : EReal) (Ideal.ofBits .f32 0x3727C5AC#32) fun k => x k - Rms.mu x)

namespace Cert.Kernel5Ideal.Value
open Cert.Kernel5Ideal Cert.Kernel5Ideal.Gen

/-- Columns of the gates' first and second half. -/
abbrev d0 (d : Fin 1024) : Fin 2048 := ⟨d.val, by omega⟩
abbrev d1 (d : Fin 1024) : Fin 2048 := ⟨1024 + d.val, by omega⟩

/-- The layer norm's rows times the gain. -/
theorem ln_pay (v14 : Vec Ideal S512x1024 .f32) (v32 : Vec Ideal S1x1024 .f32) (r : Fin 512) (d : Fin 1024) :
    k0_pay5 (F := Ideal) v14 v32 (ix2 r d) = Rms.ln (fun k => v14 (ix2 r k)) d * v32 (ix2 0 d) := by
  unfold Rms.ln Rms.mu Rms.ms
  rw [← Rms.c1024]
  pointwise [k0_pay5]
/-- The gated rows. -/
theorem c3_pay (v34 : FVec Ideal S512x1024 .f32) (v35 : Vec Ideal S1x1024 .f32) (r : Fin 512) (d : Fin 1024) :
    k0_pay6 (F := Ideal) v34 v35 (ix2 r d) = (v34 (ix2 r d) + v35 (ix2 0 d)) * Swi.lg (v34 (ix2 r d) + v35 (ix2 0 d)) := by
  rw [← Swi.lg_tanh, ← Swi.chalf]
  pointwise [k0_pay6]
/-- The two products. -/
theorem yc_pay (v34 : FVec Ideal S512x1024 .f32) (v35 : Vec Ideal S1x1024 .f32) (w : Vec Ideal S1024x1024 .bf16) (r : Fin 512) (d : Fin 1024) :
    k0_pay7 (F := Ideal) v34 v35 w (ix2 r d) = ∑ k, k0_pay6 (F := Ideal) v34 v35 (ix2 r k) * w (ix2 k d) := by
  unfold k0_pay7
  generalize hq : k0_pay6 (F := Ideal) v34 v35 = q
  pointwise
theorem yc_pay' (v34 : FVec Ideal S512x1024 .f32) (v35 : Vec Ideal S1x1024 .f32) (w : Vec Ideal S1024x1024 .bf16) (r : Fin 512) (d : Fin 1024) :
    k0_pay10 (F := Ideal) v34 v35 w (ix2 r d) = k0_pay7 (F := Ideal) v34 v35 w (ix2 r d) := rfl
theorem ya_pay (v9 : Vec Ideal S512x512 .bf16) (w : Vec Ideal S512x1024 .bf16) (r : Fin 512) (d : Fin 1024) :
    k0_pay4 (F := Ideal) v9 w (ix2 r d) = ∑ k, v9 (ix2 r k) * w (ix2 k d) := by
  pointwise [k0_pay4]
theorem ya_pay' (v13 : FVec Ideal S512x1024 .f32) (r : Fin 512) (d : Fin 1024) : k0_pay9 (F := Ideal) v13 (ix2 r d) = v13 (ix2 r d) := rfl
/-- The gates' logits, read in four parts side by side. -/
theorem lg_pay (L : Fin 2048 → EReal) (a b c e : Vec Ideal S512x512 .f32) (r : Fin 512)
    (ha : ∀ k : Fin 512, a (ix2 r k) = L ⟨k.val, by omega⟩) (hb : ∀ k : Fin 512, b (ix2 r k) = L ⟨512 + k.val, by omega⟩)
    (hc : ∀ k : Fin 512, c (ix2 r k) = L ⟨1024 + k.val, by omega⟩) (he : ∀ k : Fin 512, e (ix2 r k) = L ⟨1536 + k.val, by omega⟩) (j : Fin 2048) :
    k0_pay3 (F := Ideal) a b c e (ix2 r j) = L j := by
  pointwise [k0_pay3]
  by_cases h1 : j.val < 512
  · rw [dif_pos h1]
    exact (ha _).trans rfl
  rw [dif_neg h1]
  by_cases h2 : j.val - 512 < 512
  · rw [dif_pos h2]
    exact (hb _).trans (congrArg L (Fin.ext (by dsimp only; omega)))
  rw [dif_neg h2]
  by_cases h3 : j.val - 512 - 512 < 512
  · rw [dif_pos h3]
    exact (hc _).trans (congrArg L (Fin.ext (by dsimp only; omega)))
  rw [dif_neg h3]
  exact (he _).trans (congrArg L (Fin.ext (by dsimp only; omega)))
/-- The mix of the two products by their gates. -/
theorem mix_pay (v8 : FVec Ideal S512x2048 .f32) (v13 : FVec Ideal S512x1024 .f32) (v34 : FVec Ideal S512x1024 .f32) (v35 : Vec Ideal S1x1024 .f32) (w : Vec Ideal S1024x1024 .bf16)
    (v51 : Vec Ideal S1x2048 .f32) (r : Fin 512) (d : Fin 1024) :
    k0_pay8 (F := Ideal) v8 v13 v34 v35 w v51 (ix2 r d)
      = Swi.lg (v8 (ix2 r (d0 d)) + v51 (ix2 0 (d0 d))) * v13 (ix2 r d) + Swi.lg (v8 (ix2 r (d1 d)) + v51 (ix2 0 (d1 d))) * k0_pay7 (F := Ideal) v34 v35 w (ix2 r d) := by
  unfold k0_pay8
  generalize hq : k0_pay7 (F := Ideal) v34 v35 w = q
  rw [← Swi.lg_tanh, ← Swi.lg_tanh, ← Swi.chalf]
  pointwise [d0, d1]
/-- The residual's rows, and their root-mean-square norm. -/
theorem x1_pay (v66 : FVec Ideal S512x1024 .bf16) (x : Vec Ideal S512x1024 .f32) (w : Vec Ideal S1024x1024 .bf16) (r : Fin 512) (d : Fin 1024) :
    k0_pay1 (F := Ideal) v66 x w (ix2 r d) = x (ix2 r d) + ∑ k, v66 (ix2 r k) * w (ix2 k d) := by
  pointwise [k0_pay1]
theorem h2_pay (v66 : FVec Ideal S512x1024 .bf16) (x : Vec Ideal S512x1024 .f32) (w : Vec Ideal S1024x1024 .bf16) (g : Vec Ideal S1x1024 .f32) (r : Fin 512) (d : Fin 1024) :
    k0_pay2 (F := Ideal) v66 x w g (ix2 r d) = k0_pay1 (F := Ideal) v66 x w (ix2 r d)
      * Ideal.rsqrt (Rms.ms ((1024 : ℝ) : EReal) (Ideal.ofBits .f32 0x358637BD#32) fun k => k0_pay1 (F := Ideal) v66 x w (ix2 r k)) * g (ix2 0 d) := by
  unfold k0_pay2 Rms.ms
  generalize hq : k0_pay1 (F := Ideal) v66 x w = q
  rw [← Rms.c1024]
  pointwise
end Cert.Kernel5Ideal.Value
-- ==== Proof.MidBlocks.lean ====
module
public import proofs.«01_k».proof.Proof.Gen.Kernel5Ideal.Frame
public import proofs.«01_k».proof.Proof.MidPure
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 13] ∧ win0_3.index t = ![t.val, 14] ∧ win0_4.index t = ![t.val, 15]
    ∧ win0_5.index t = ![t.val, 16] ∧ win0_6.index t = ![t.val, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![t.val, 0]
    ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

/-- The token a row of a point's blocks is. -/
abbrev tok (t : Fin cfg0.N) (r : Fin 512) : Fin 4096 := ⟨t.val * 512 + r.val, by have := t.isLt; have : cfg0.N = 8 := N_0; omega⟩
/-- A token's sequence and its place in it. -/
abbrev bOf (r : Fin 4096) : Fin 2 := ⟨r.val / 2048, by omega⟩
abbrev sOf (r : Fin 4096) : Fin 2048 := ⟨r.val % 2048, by omega⟩

/-- The attention's and the convolution's rows, the projection's gate columns, the layer's rows, and the weights. -/
def AT (c : Dev nD) (R : Fin 4096) (k : Fin 512) : EReal := m ((c.tc : Thread nD τ).loc main_arg0) (ix3 (bOf R) (sOf R) k)
def C1 (c : Dev nD) (R : Fin 4096) (k : Fin 1024) : EReal := m ((c.tc : Thread nD τ).loc main_arg1) (ix3 (bOf R) (sOf R) k)
def PJ (c : Dev nD) (R : Fin 4096) (k : Fin 8704) : EReal := m ((c.tc : Thread nD τ).loc main_arg2) (ix3 (bOf R) (sOf R) k)
def X (c : Dev nD) (R : Fin 4096) (k : Fin 1024) : EReal := m ((c.tc : Thread nD τ).loc main_arg3) (ix3 (bOf R) (sOf R) k)
def GB (c : Dev nD) (k : Fin 2048) : EReal := m ((c.tc : Thread nD τ).loc main_arg4) (ix2 0 k)
def LG (c : Dev nD) (k : Fin 1024) : EReal := m ((c.tc : Thread nD τ).loc main_arg5) (ix2 0 k)
def LB (c : Dev nD) (k : Fin 1024) : EReal := m ((c.tc : Thread nD τ).loc main_arg6) (ix2 0 k)
def GN (c : Dev nD) (k : Fin 1024) : EReal := m ((c.tc : Thread nD τ).loc main_arg7) (ix2 0 k)
def WA (c : Dev nD) (k : Fin 512) (d : Fin 1024) : EReal := m ((c.tc : Thread nD τ).loc main_arg8) (ix3 0 k d)
def WC (c : Dev nD) (k : Fin 1024) (d : Fin 1024) : EReal := m ((c.tc : Thread nD τ).loc main_arg9) (ix3 0 k d)
def WO (c : Dev nD) (k : Fin 1024) (d : Fin 1024) : EReal := m ((c.tc : Thread nD τ).loc main_arg10) (ix3 0 k d)
/-- The gates' logits, the last 2048 columns of the projection. -/
def LT (c : Dev nD) (R : Fin 4096) (j : Fin 2048) : EReal := PJ m c R ⟨6656 + j.val, by omega⟩
/-- The layer norm's rows with gain and bias, and the gated rows. -/
def C2 (c : Dev nD) (R : Fin 4096) (d : Fin 1024) : EReal := Rms.ln (C1 m c R) d * LG m c d + LB m c d
def C3 (c : Dev nD) (R : Fin 4096) (d : Fin 1024) : EReal := C2 m c R d * Swi.lg (C2 m c R d)
/-- The two products, and their mix by the gates. -/
def YA (c : Dev nD) (R : Fin 4096) (d : Fin 1024) : EReal := ∑ k, AT m c R k * WA m c k d
def YC (c : Dev nD) (R : Fin 4096) (d : Fin 1024) : EReal := ∑ k, C3 m c R k * WC m c k d
def MX (c : Dev nD) (R : Fin 4096) (d : Fin 1024) : EReal :=
  Swi.lg (LT m c R (d0 d) + GB m c (d0 d)) * YA m c R d + Swi.lg (LT m c R (d1 d) + GB m c (d1 d)) * YC m c R d
/-- The layer's rows after the mix, and their norm. -/
def X1 (c : Dev nD) (R : Fin 4096) (d : Fin 1024) : EReal := X m c R d + ∑ k, MX m c R k * WO m c k d
def H2 (c : Dev nD) (R : Fin 4096) (d : Fin 1024) : EReal :=
  X1 m c R d * Ideal.rsqrt (Rms.ms ((1024 : ℝ) : EReal) (Ideal.ofBits .f32 0x358637BD#32) (X1 m c R)) * GN m c d

/-- The staged arrays. -/
theorem va (c : Dev nD) (R k) : V m c main_v1 (ix2 R k) = AT m c R k := by
  entry_read
  pointwise [AT]
theorem vc (c : Dev nD) (R k) : V m c main_v2 (ix2 R k) = C1 m c R k := by
  entry_read
  pointwise [C1]
theorem vp (c : Dev nD) (R k) : V m c main_v3 (ix2 R k) = PJ m c R k := by
  entry_read
  pointwise [PJ]
theorem vx (c : Dev nD) (R k) : V m c main_v4 (ix2 R k) = X m c R k := by
  entry_read
  pointwise [X]
theorem wa (c : Dev nD) (i j) : V m c main_v6 (ix2 i j) = WA m c i j := by
  entry_read
  pointwise [WA]
theorem wc (c : Dev nD) (i j) : V m c main_v8 (ix2 i j) = WC m c i j := by
  entry_read
  pointwise [WC]
theorem wo (c : Dev nD) (i j) : V m c main_v10 (ix2 i j) = WO m c i j := by
  entry_read
  pointwise [WO]
theorem vgb (c : Dev nD) (k) : V m c main_arg4 (ix2 0 k) = GB m c k := by
  entry_read
  pointwise [GB]
theorem vlg (c : Dev nD) (k) : V m c main_arg5 (ix2 0 k) = LG m c k := by
  entry_read
  pointwise [LG]
theorem vlb (c : Dev nD) (k) : V m c main_arg6 (ix2 0 k) = LB m c k := by
  entry_read
  pointwise [LB]
theorem vgn (c : Dev nD) (k) : V m c main_arg7 (ix2 0 k) = GN m c k := by
  entry_read
  pointwise [GN]

/-- The blocks a point reads. -/
theorem ba (c : Dev nD) (t : Fin cfg0.N) (r : Fin 512) (k : Fin 512) : iblk m c 0 t (ix2 r k) = AT m c (tok t r) k := by
  rw [← va]
  generalize hv : V m c main_v1 = v
  blk_point [iblk, hv, idx t]
theorem bc (c : Dev nD) (t : Fin cfg0.N) (r : Fin 512) (k : Fin 1024) : iblk m c 1 t (ix2 r k) = C1 m c (tok t r) k := by
  rw [← vc]
  generalize hv : V m c main_v2 = v
  blk_point [iblk, hv, idx t]
theorem bl0 (c : Dev nD) (t : Fin cfg0.N) (r : Fin 512) (k : Fin 512) : iblk m c 2 t (ix2 r k) = LT m c (tok t r) ⟨k.val, by omega⟩ := by
  unfold LT
  rw [← vp]
  generalize hv : V m c main_v3 = v
  blk_point [iblk, hv, idx t]
theorem bl1 (c : Dev nD) (t : Fin cfg0.N) (r : Fin 512) (k : Fin 512) : iblk m c 3 t (ix2 r k) = LT m c (tok t r) ⟨512 + k.val, by omega⟩ := by
  unfold LT
  rw [← vp]
  generalize hv : V m c main_v3 = v
  blk_point [iblk, hv, idx t]
theorem bl2 (c : Dev nD) (t : Fin cfg0.N) (r : Fin 512) (k : Fin 512) : iblk m c 4 t (ix2 r k) = LT m c (tok t r) ⟨1024 + k.val, by omega⟩ := by
  unfold LT
  rw [← vp]
  generalize hv : V m c main_v3 = v
  blk_point [iblk, hv, idx t]
theorem bl3 (c : Dev nD) (t : Fin cfg0.N) (r : Fin 512) (k : Fin 512) : iblk m c 5 t (ix2 r k) = LT m c (tok t r) ⟨1536 + k.val, by omega⟩ := by
  unfold LT
  rw [← vp]
  generalize hv : V m c main_v3 = v
  blk_point [iblk, hv, idx t]
theorem bx (c : Dev nD) (t : Fin cfg0.N) (r : Fin 512) (k : Fin 1024) : iblk m c 6 t (ix2 r k) = X m c (tok t r) k := by
  rw [← vx]
  generalize hv : V m c main_v4 = v
  blk_point [iblk, hv, idx t]
theorem bwa (c : Dev nD) (t : Fin cfg0.N) (k : Fin 512) (d : Fin 1024) : iblk m c 7 t (ix2 k d) = WA m c k d := by
  rw [← wa]
  generalize hv : V m c main_v6 = v
  blk_point [iblk, hv, idx t]
theorem bwc (c : Dev nD) (t : Fin cfg0.N) (k : Fin 1024) (d : Fin 1024) : iblk m c 8 t (ix2 k d) = WC m c k d := by
  rw [← wc]
  generalize hv : V m c main_v8 = v
  blk_point [iblk, hv, idx t]
theorem bwo (c : Dev nD) (t : Fin cfg0.N) (k : Fin 1024) (d : Fin 1024) : iblk m c 9 t (ix2 k d) = WO m c k d := by
  rw [← wo]
  generalize hv : V m c main_v10 = v
  blk_point [iblk, hv, idx t]
theorem bgb (c : Dev nD) (t : Fin cfg0.N) (k : Fin 2048) : iblk m c 10 t (ix2 0 k) = GB m c k := by
  rw [← vgb]
  generalize hv : V m c main_arg4 = v
  blk_point [iblk, hv, idx t]
theorem blg (c : Dev nD) (t : Fin cfg0.N) (k : Fin 1024) : iblk m c 11 t (ix2 0 k) = LG m c k := by
  rw [← vlg]
  generalize hv : V m c main_arg5 = v
  blk_point [iblk, hv, idx t]
theorem blb (c : Dev nD) (t : Fin cfg0.N) (k : Fin 1024) : iblk m c 12 t (ix2 0 k) = LB m c k := by
  rw [← vlb]
  generalize hv : V m c main_arg6 = v
  blk_point [iblk, hv, idx t]
theorem bgn (c : Dev nD) (t : Fin cfg0.N) (k : Fin 1024) : iblk m c 13 t (ix2 0 k) = GN m c k := by
  rw [← vgn]
  generalize hv : V m c main_arg7 = v
  blk_point [iblk, hv, idx t]
end Cert.Kernel5Ideal.Value
-- ==== Proof.MidRows.lean ====
module
public import proofs.«01_k».proof.Proof.MidBlocks
@[expose] public section
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen

variable (m : (ℓ : Loc nD τ sig) → Buf (Elt Ideal) ℓ) (c : Dev nD) (t : Fin cfg0.N) (r : Fin 512) (d : Fin 1024)

/-- A point's stages from its blocks: the normalised rows times the gain, the two products, the logits, the mix and the layer's rows. -/
def lnB : FVec Ideal S512x1024 .f32 := k0_pay5 (F := Ideal) (iblk m c 1 t) (iblk m c 11 t)
def yaB : FVec Ideal S512x1024 .f32 := k0_pay4 (F := Ideal) (iblk m c 0 t) (iblk m c 7 t)
def ltB : FVec Ideal S512x2048 .f32 := k0_pay3 (F := Ideal) (iblk m c 2 t) (iblk m c 3 t) (iblk m c 4 t) (iblk m c 5 t)
def mxB : FVec Ideal S512x1024 .bf16 := k0_pay8 (F := Ideal) (ltB m c t) (yaB m c t) (lnB m c t) (iblk m c 12 t) (iblk m c 8 t) (iblk m c 10 t)

theorem c3_at : k0_pay6 (F := Ideal) (lnB m c t) (iblk m c 12 t) (ix2 r d) = C3 m c (tok t r) d := by
  have h : lnB m c t (ix2 r d) + iblk m c 12 t (ix2 0 d) = C2 m c (tok t r) d := by
    refine congrArg₂ (· + ·) ((ln_pay _ _ r d).trans (congrArg₂ (· * ·) ?_ (blg m c t d))) (blb m c t d)
    exact congrArg (fun x => Rms.ln x d) (funext fun k => bc m c t r k)
  rw [c3_pay, h]
  rfl
theorem yc_at : k0_pay7 (F := Ideal) (lnB m c t) (iblk m c 12 t) (iblk m c 8 t) (ix2 r d) = YC m c (tok t r) d :=
  (yc_pay _ _ _ r d).trans (Finset.sum_congr rfl fun k _ => congrArg₂ (· * ·) (c3_at m c t r k) (bwc m c t k d))
theorem ya_at : yaB m c t (ix2 r d) = YA m c (tok t r) d :=
  (ya_pay _ _ r d).trans (Finset.sum_congr rfl fun k _ => congrArg₂ (· * ·) (ba m c t r k) (bwa m c t k d))
theorem lt_at (j : Fin 2048) : ltB m c t (ix2 r j) = LT m c (tok t r) j :=
  lg_pay (LT m c (tok t r)) _ _ _ _ r (bl0 m c t r) (bl1 m c t r) (bl2 m c t r) (bl3 m c t r) j
theorem mx_at : mxB m c t (ix2 r d) = MX m c (tok t r) d :=
  (mix_pay _ _ _ _ _ _ r d).trans (congrArg₂ (· + ·)
    (congrArg₂ (· * ·) (congrArg Swi.lg (congrArg₂ (· + ·) (lt_at m c t r _) (bgb m c t _))) (ya_at m c t r d))
    (congrArg₂ (· * ·) (congrArg Swi.lg (congrArg₂ (· + ·) (lt_at m c t r _) (bgb m c t _))) (yc_at m c t r d)))
theorem x1_at : k0_pay1 (F := Ideal) (mxB m c t) (iblk m c 6 t) (iblk m c 9 t) (ix2 r d) = X1 m c (tok t r) d :=
  (x1_pay _ _ _ r d).trans (congrArg₂ (· + ·) (bx m c t r d)
    (Finset.sum_congr rfl fun k _ => congrArg₂ (· * ·) (mx_at m c t r k) (bwo m c t k d)))
theorem h2_at : k0_pay2 (F := Ideal) (mxB m c t) (iblk m c 6 t) (iblk m c 9 t) (iblk m c 13 t) (ix2 r d) = H2 m c (tok t r) d := by
  refine (h2_pay _ _ _ _ r d).trans ?_
  refine congrArg₂ (· * ·) (congrArg₂ (· * ·) (x1_at m c t r d) (congrArg Ideal.rsqrt ?_)) (bgn m c t d)
  exact congrArg (Rms.ms ((1024 : ℝ) : EReal) (Ideal.ofBits .f32 0x358637BD#32)) (funext fun k => x1_at m c t r k)

/-- The six blocks a point writes. -/
theorem c3_out : (dats m 0 c).after 14 t (ix2 r d) = C3 m c (tok t r) d := by
  rw [after0_14]
  unfold_out out0_14
  frame_out
  exact c3_at m c t r d
theorem ya_out : (dats m 0 c).after 15 t (ix2 r d) = YA m c (tok t r) d := by
  rw [after0_15]
  unfold_out out0_15
  frame_out
  exact (ya_pay' _ r d).trans (ya_at m c t r d)
theorem yc_out : (dats m 0 c).after 16 t (ix2 r d) = YC m c (tok t r) d := by
  rw [after0_16]
  unfold_out out0_16
  frame_out
  exact (yc_pay' _ _ _ r d).trans (yc_at m c t r d)
theorem mx_out : (dats m 0 c).after 17 t (ix2 r d) = MX m c (tok t r) d := by
  rw [after0_17]
  unfold_out out0_17
  frame_out
  exact mx_at m c t r d
theorem x1_out : (dats m 0 c).after 18 t (ix2 r d) = X1 m c (tok t r) d := by
  rw [after0_18]
  unfold_out out0_18
  frame_out
  exact x1_at m c t r d
theorem h2_out : (dats m 0 c).after 19 t (ix2 r d) = H2 m c (tok t r) d := by
  rw [after0_19]
  unfold_out out0_19
  frame_out
  exact h2_at m c t r d
end Cert.Kernel5Ideal.Value
-- ==== Proof.MidFinal.lean ====
module
public import proofs.«01_k».proof.Proof.MidRows
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen

variable (m : (ℓ : Loc nD τ sig) → Buf (Elt Ideal) ℓ)

/-- The six result arrays by token. -/
def G14 (c : Dev nD) : Buf (Elt Ideal) ((c.tc : Thread nD τ).loc main_v11_0) := fun i => C3 m c (i 0) (i 1)
theorem final_14 (c : Dev nD) : (dats m 0 c).arrAt 14 cfg0.N = G14 m c :=
  (dats m 0 c).arrAt_eq_of_covers 14 (G14 m c) (by decide +kernel) fun t hf y => by
    blk_simp
    idx_vars y
    refine (c3_out m c t y0 y1).trans ?_
    refine congrArg₂ (C3 m c) (Fin.ext ?_) (Fin.ext ?_)
    · blk_simp [idx t]
    · blk_simp [idx t]
def G15 (c : Dev nD) : Buf (Elt Ideal) ((c.tc : Thread nD τ).loc main_v11_1) := fun i => YA m c (i 0) (i 1)
theorem final_15 (c : Dev nD) : (dats m 0 c).arrAt 15 cfg0.N = G15 m c :=
  (dats m 0 c).arrAt_eq_of_covers 15 (G15 m c) (by decide +kernel) fun t hf y => by
    blk_simp
    idx_vars y
    refine (ya_out m c t y0 y1).trans ?_
    refine congrArg₂ (YA m c) (Fin.ext ?_) (Fin.ext ?_)
    · blk_simp [idx t]
    · blk_simp [idx t]
def G16 (c : Dev nD) : Buf (Elt Ideal) ((c.tc : Thread nD τ).loc main_v11_2) := fun i => YC m c (i 0) (i 1)
theorem final_16 (c : Dev nD) : (dats m 0 c).arrAt 16 cfg0.N = G16 m c :=
  (dats m 0 c).arrAt_eq_of_covers 16 (G16 m c) (by decide +kernel) fun t hf y => by
    blk_simp
    idx_vars y
    refine (yc_out m c t y0 y1).trans ?_
    refine congrArg₂ (YC m c) (Fin.ext ?_) (Fin.ext ?_)
    · blk_simp [idx t]
    · blk_simp [idx t]
def G17 (c : Dev nD) : Buf (Elt Ideal) ((c.tc : Thread nD τ).loc main_v11_3) := fun i => MX m c (i 0) (i 1)
theorem final_17 (c : Dev nD) : (dats m 0 c).arrAt 17 cfg0.N = G17 m c :=
  (dats m 0 c).arrAt_eq_of_covers 17 (G17 m c) (by decide +kernel) fun t hf y => by
    blk_simp
    idx_vars y
    refine (mx_out m c t y0 y1).trans ?_
    refine congrArg₂ (MX m c) (Fin.ext ?_) (Fin.ext ?_)
    · blk_simp [idx t]
    · blk_simp [idx t]
def G18 (c : Dev nD) : Buf (Elt Ideal) ((c.tc : Thread nD τ).loc main_v11_4) := fun i => X1 m c (i 0) (i 1)
theorem final_18 (c : Dev nD) : (dats m 0 c).arrAt 18 cfg0.N = G18 m c :=
  (dats m 0 c).arrAt_eq_of_covers 18 (G18 m c) (by decide +kernel) fun t hf y => by
    blk_simp
    idx_vars y
    refine (x1_out m c t y0 y1).trans ?_
    refine congrArg₂ (X1 m c) (Fin.ext ?_) (Fin.ext ?_)
    · blk_simp [idx t]
    · blk_simp [idx t]
def G19 (c : Dev nD) : Buf (Elt Ideal) ((c.tc : Thread nD τ).loc main_v11_5) := fun i => H2 m c (i 0) (i 1)
theorem final_19 (c : Dev nD) : (dats m 0 c).arrAt 19 cfg0.N = G19 m c :=
  (dats m 0 c).arrAt_eq_of_covers 19 (G19 m c) (by decide +kernel) fun t hf y => by
    blk_simp
    idx_vars y
    refine (h2_out m c t y0 y1).trans ?_
    refine congrArg₂ (H2 m c) (Fin.ext ?_) (Fin.ext ?_)
    · blk_simp [idx t]
    · blk_simp [idx t]
end Cert.Kernel5Ideal.Value
-- ==== Proof.MidRefPure.lean ====
module
public import proofs.«01_k».proof.Proof.Gen.Reference5Ideal.Run
public import proofs.«01_k».proof.Proof.MidPure
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.Reference5Ideal.Value
open Cert.Reference5Ideal Cert.Reference5Ideal.Gen

/-- A mean of the rows, its rows taken off, the mean of squares plus a small constant, and the normalised rows. -/
def MU (y : FVec Ideal S2x2048x1024 .f32) : FVec Ideal S2x2048x1 .f32 :=
  Host.divf (broadcastInDim S2x2048x1 ![0, 1] bcast_S2x2048_S2x2048x1_0_1 (Host.reduceAdd y (constant S_ .f32 0x00000000#32) reducesTo_S2x2048x1024_S2x2048_d2 h_S_)) (broadcastInDim S2x2048x1 ![] bcast_S_S2x2048x1 (constant S_ .f32 0x44800000#32))
def CT (y : FVec Ideal S2x2048x1024 .f32) (u : FVec Ideal S2x2048x1 .f32) : FVec Ideal S2x2048x1024 .f32 :=
  subf y (broadcastInDim S2x2048x1024 ![0, 1, 2] bcast_S2x2048x1_S2x2048x1024_0_1_2 u)
def MS (E : BitVec 32) (y : FVec Ideal S2x2048x1024 .f32) : FVec Ideal S2x2048x1 .f32 :=
  addf (Host.divf (broadcastInDim S2x2048x1 ![0, 1] bcast_S2x2048_S2x2048x1_0_1 (Host.reduceAdd (mulf y y) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 E))
def NX (y : FVec Ideal S2x2048x1024 .f32) (v : FVec Ideal S2x2048x1 .f32) : FVec Ideal S2x2048x1024 .f32 :=
  mulf y (broadcastInDim S2x2048x1024 ![0, 1, 2] bcast_S2x2048x1_S2x2048x1024_0_1_2 (Host.rsqrt v))
/-- A gain along every row. -/
def G (a : FVec Ideal S1x1024 .f32) : FVec Ideal S2x2048x1024 .f32 :=
  broadcastInDim S2x2048x1024 ![0, 1, 2] bcast_S1x1x1024_S2x2048x1024_0_1_2 (broadcastInDim S1x1x1024 ![2] bcast_S1024_S1x1x1024_2 (shapeCast _ a shapeCasts_S1x1024_S1024))
/-- The logistic function's gate, on the rows and on the logits. -/
def SL (a : FVec Ideal S2x2048x1024 .f32) : FVec Ideal S2x2048x1024 .f32 :=
  mulf a (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf a))))
def SG (a : FVec Ideal S2x2048x8704 .f32) (b : FVec Ideal S1x2048 .f32) : FVec Ideal S2x2048x2048 .f32 :=
  Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf (extractStridedSlice S2x2048x2048 ![0, 0, 6656] a slices_S2x2048x8704_S2x2048x2048_0_0_6656) (broadcastInDim S2x2048x2048 ![0, 1, 2] bcast_S1x1x2048_S2x2048x2048_0_1_2 (broadcastInDim S1x1x2048 ![2] bcast_S2048_S1x1x2048_2 (shapeCast _ b shapeCasts_S1x2048_S2048)))))))
/-- The products with the attention's weight and with a square weight. -/
def DA (h : FVec Ideal S2x2048x512 .f32) (w : FVec Ideal S1x512x1024 .f32) : FVec Ideal S2x2048x1024 .f32 :=
  Host.dotGeneral dot_S2x2048x512_S512x1024_S2x2048x1024_2_0_01_1_n_n none h (shapeCast _ w shapeCasts_S1x512x1024_S512x1024)
def DS (h : FVec Ideal S2x2048x1024 .f32) (w : FVec Ideal S1x1024x1024 .f32) : FVec Ideal S2x2048x1024 .f32 :=
  Host.dotGeneral dot_S2x2048x1024_S1024x1024_S2x2048x1024_2_0_01_1_n_n none h (shapeCast _ w shapeCasts_S1x1024x1024_S1024x1024)
/-- The mix of the two products by the gates' halves. -/
def MI (s : FVec Ideal S2x2048x2048 .f32) (a b : FVec Ideal S2x2048x1024 .f32) : FVec Ideal S2x2048x1024 .f32 :=
  addf (mulf (extractStridedSlice S2x2048x1024 ![0, 0, 0] s slices_S2x2048x2048_S2x2048x1024_0_0_0) a) (mulf (extractStridedSlice S2x2048x1024 ![0, 0, 1024] s slices_S2x2048x2048_S2x2048x1024_0_0_1024) b)
/-- Arrays by token. -/
def TK (a : FVec Ideal S2x2048x1024 .f32) : FVec Ideal S4096x1024 .f32 := shapeCast _ a shapeCasts_S2x2048x1024_S4096x1024
def NR (a : FVec Ideal S4096x1024 .f32) : FVec Ideal S4096x1024 .bf16 := truncf .bf16 a bitsLt_bf16_f32

/-- The sequence of a token and its place in it. -/
abbrev bOf (r : Fin 4096) : Fin 2 := ⟨r.val / 2048, by omega⟩
abbrev sOf (r : Fin 4096) : Fin 2048 := ⟨r.val % 2048, by omega⟩

section at_index
open Cert.Kernel5Ideal.Value (d0 d1)
variable (b : Fin 2) (s : Fin 2048) (d : Fin 1024) (r : Fin 4096)
theorem MU_at (y : FVec Ideal S2x2048x1024 .f32) : MU y (ix3 b s 0) = Rms.mu fun k : Fin 1024 => y (ix3 b s k) := by
  unfold Rms.mu
  rw [← Rms.c1024]
  pointwise [MU]
theorem CT_at (y : FVec Ideal S2x2048x1024 .f32) (u : FVec Ideal S2x2048x1 .f32) : CT y u (ix3 b s d) = y (ix3 b s d) - u (ix3 b s 0) := by
  pointwise [CT]
theorem MS_at (E : BitVec 32) (y : FVec Ideal S2x2048x1024 .f32) : MS E y (ix3 b s 0) = Rms.ms ((1024 : ℝ) : EReal) (Ideal.ofBits .f32 E) fun k : Fin 1024 => y (ix3 b s k) := by
  unfold Rms.ms
  rw [← Rms.c1024]
  pointwise [MS]
theorem NX_at (y : FVec Ideal S2x2048x1024 .f32) (v : FVec Ideal S2x2048x1 .f32) : NX y v (ix3 b s d) = y (ix3 b s d) * Ideal.rsqrt (v (ix3 b s 0)) := by
  pointwise [NX]
theorem G_at (a : FVec Ideal S1x1024 .f32) : G a (ix3 b s d) = a (ix2 0 d) := by
  pointwise [G]
theorem SL_at (a : FVec Ideal S2x2048x1024 .f32) : SL a (ix3 b s d) = a (ix3 b s d) * Swi.lg (a (ix3 b s d)) := by
  pointwise [SL, Swi.lg, Swi.cone]
theorem SG_at (a : FVec Ideal S2x2048x8704 .f32) (g : FVec Ideal S1x2048 .f32) (j : Fin 2048) :
    SG a g (ix3 b s j) = Swi.lg (a (ix3 b s ⟨6656 + j.val, by omega⟩) + g (ix2 0 j)) := by
  pointwise [SG, Swi.lg, Swi.cone]
theorem DA_at (h : FVec Ideal S2x2048x512 .f32) (w : FVec Ideal S1x512x1024 .f32) : DA h w (ix3 b s d) = ∑ k, h (ix3 b s k) * w (ix3 0 k d) := by
  pointwise [DA]
theorem DS_at (h : FVec Ideal S2x2048x1024 .f32) (w : FVec Ideal S1x1024x1024 .f32) : DS h w (ix3 b s d) = ∑ k, h (ix3 b s k) * w (ix3 0 k d) := by
  pointwise [DS]
theorem MI_at (g : FVec Ideal S2x2048x2048 .f32) (a a' : FVec Ideal S2x2048x1024 .f32) :
    MI g a a' (ix3 b s d) = g (ix3 b s (d0 d)) * a (ix3 b s d) + g (ix3 b s (d1 d)) * a' (ix3 b s d) := by
  pointwise [MI, d0, d1]
theorem TK_at (a : FVec Ideal S2x2048x1024 .f32) : TK a (ix2 r d) = a (ix3 (bOf r) (sOf r) d) := by
  pointwise [TK, bOf, sOf]
theorem NR_at (a : FVec Ideal S4096x1024 .f32) : NR a (ix2 r d) = a (ix2 r d) := by
  pointwise [NR]
theorem ml_at (a a' : FVec Ideal S2x2048x1024 .f32) : mulf a a' (ix3 b s d) = a (ix3 b s d) * a' (ix3 b s d) := rfl
theorem ad_at (a a' : FVec Ideal S2x2048x1024 .f32) : addf a a' (ix3 b s d) = a (ix3 b s d) + a' (ix3 b s d) := rfl
end at_index

section stages
variable (a0 : FVec Ideal S2x2048x512 .f32) (a1 : FVec Ideal S2x2048x1024 .f32) (a2 : FVec Ideal S2x2048x8704 .f32) (a3 : FVec Ideal S2x2048x1024 .f32)
  (a4 : FVec Ideal S1x2048 .f32) (a5 a6 a7 : FVec Ideal S1x1024 .f32) (a8 : FVec Ideal S1x512x1024 .f32) (a9 a10 : FVec Ideal S1x1024x1024 .f32)
/-- The reference's stages over its arguments: the layer norm, the gated rows, the mix, the layer's rows and their norm. -/
def Rln : FVec Ideal S2x2048x1024 .f32 := addf (mulf (NX (CT a1 (MU a1)) (MS 0x3727C5AC#32 (CT a1 (MU a1)))) (G a5)) (G a6)
def Rc3 : FVec Ideal S2x2048x1024 .f32 := SL (Rln a1 a5 a6)
def Rmx : FVec Ideal S2x2048x1024 .f32 := MI (SG a2 a4) (DA a0 a8) (DS (Rc3 a1 a5 a6) a9)
def Rx1 : FVec Ideal S2x2048x1024 .f32 := addf a3 (DS (Rmx a0 a1 a2 a4 a5 a6 a8 a9) a10)
def Rh2 (y : FVec Ideal S2x2048x1024 .f32) : FVec Ideal S2x2048x1024 .f32 := mulf (NX y (MS 0x358637BD#32 y)) (G a7)
end stages

section results
variable (m : (ℓ : Loc nD τ sig) → Buf (Elt Ideal) ℓ) (c : Dev nD)
abbrev p0 : FVec Ideal S2x2048x512 .f32 := m ((c.tc : Thread nD τ).loc main_arg0)
abbrev p1 : FVec Ideal S2x2048x1024 .f32 := m ((c.tc : Thread nD τ).loc main_arg1)
abbrev p2 : FVec Ideal S2x2048x8704 .f32 := m ((c.tc : Thread nD τ).loc main_arg2)
abbrev p3 : FVec Ideal S2x2048x1024 .f32 := m ((c.tc : Thread nD τ).loc main_arg3)
abbrev p4 : FVec Ideal S1x2048 .f32 := m ((c.tc : Thread nD τ).loc main_arg4)
abbrev p5 : FVec Ideal S1x1024 .f32 := m ((c.tc : Thread nD τ).loc main_arg5)
abbrev p6 : FVec Ideal S1x1024 .f32 := m ((c.tc : Thread nD τ).loc main_arg6)
abbrev p7 : FVec Ideal S1x1024 .f32 := m ((c.tc : Thread nD τ).loc main_arg7)
abbrev p8 : FVec Ideal S1x512x1024 .f32 := m ((c.tc : Thread nD τ).loc main_arg8)
abbrev p9 : FVec Ideal S1x1024x1024 .f32 := m ((c.tc : Thread nD τ).loc main_arg9)
abbrev p10 : FVec Ideal S1x1024x1024 .f32 := m ((c.tc : Thread nD τ).loc main_arg10)
abbrev x1 : FVec Ideal S2x2048x1024 .f32 := Rx1 (p0 m c) (p1 m c) (p2 m c) (p3 m c) (p4 m c) (p5 m c) (p6 m c) (p8 m c) (p9 m c) (p10 m c)
theorem final0 : res_main_v70 m c = NR (TK (Rc3 (p1 m c) (p5 m c) (p6 m c))) := rfl
theorem final2 : res_main_v72 m c = NR (TK (DS (Rc3 (p1 m c) (p5 m c) (p6 m c)) (p9 m c))) := rfl
theorem final3 : res_main_v73 m c = NR (TK (Rmx (p0 m c) (p1 m c) (p2 m c) (p4 m c) (p5 m c) (p6 m c) (p8 m c) (p9 m c))) := rfl
theorem final4 : res_main_v68 m c = TK (x1 m c) := rfl
theorem final5 : res_main_v74 m c = NR (TK (Rh2 (p7 m c) (x1 m c))) := rfl
end results
end Cert.Reference5Ideal.Value
-- ==== Proof.MidClaim.lean ====
module
public import proofs.«01_k».proof.Defs
public import proofs.«01_k».proof.Proof.MidFinal
public import proofs.«01_k».proof.Proof.MidRefPure
public import Idealize.ShloMosaic.Lib.Claim
public import Idealize.ShloMosaic.Lib.Pointwise
@[expose] public section
set_option maxRecDepth 16384
noncomputable section
open Idealize.ShloMosaic Idealize.ShloMosaic.TcCoe Idealize.SL.Sem
namespace Cert.MidPair

section
open Cert.Kernel5Ideal.Value
open Cert.Reference5Ideal.Value (Rln Rc3 Rmx Rx1 Rh2 SG DA DS TK NR)
variable (m : (ℓ : Loc Cert.Kernel5Ideal.nD Cert.Kernel5Ideal.τ Cert.Kernel5Ideal.sig) → Buf (Elt Ideal) ℓ) (c : Dev Cert.Kernel5Ideal.nD)

/-- The kernel's eleven arguments. -/
abbrev q0 : FVec Ideal Cert.Reference5Ideal.S2x2048x512 .f32 := m ((c.tc : Thread _ _).loc Cert.Kernel5Ideal.main_arg0)
abbrev q1 : FVec Ideal Cert.Reference5Ideal.S2x2048x1024 .f32 := m ((c.tc : Thread _ _).loc Cert.Kernel5Ideal.main_arg1)
abbrev q2 : FVec Ideal Cert.Reference5Ideal.S2x2048x8704 .f32 := m ((c.tc : Thread _ _).loc Cert.Kernel5Ideal.main_arg2)
abbrev q3 : FVec Ideal Cert.Reference5Ideal.S2x2048x1024 .f32 := m ((c.tc : Thread _ _).loc Cert.Kernel5Ideal.main_arg3)
abbrev q4 : FVec Ideal Cert.Reference5Ideal.S1x2048 .f32 := m ((c.tc : Thread _ _).loc Cert.Kernel5Ideal.main_arg4)
abbrev q5 : FVec Ideal Cert.Reference5Ideal.S1x1024 .f32 := m ((c.tc : Thread _ _).loc Cert.Kernel5Ideal.main_arg5)
abbrev q6 : FVec Ideal Cert.Reference5Ideal.S1x1024 .f32 := m ((c.tc : Thread _ _).loc Cert.Kernel5Ideal.main_arg6)
abbrev q7 : FVec Ideal Cert.Reference5Ideal.S1x1024 .f32 := m ((c.tc : Thread _ _).loc Cert.Kernel5Ideal.main_arg7)
abbrev q8 : FVec Ideal Cert.Reference5Ideal.S1x512x1024 .f32 := m ((c.tc : Thread _ _).loc Cert.Kernel5Ideal.main_arg8)
abbrev q9 : FVec Ideal Cert.Reference5Ideal.S1x1024x1024 .f32 := m ((c.tc : Thread _ _).loc Cert.Kernel5Ideal.main_arg9)
abbrev q10 : FVec Ideal Cert.Reference5Ideal.S1x1024x1024 .f32 := m ((c.tc : Thread _ _).loc Cert.Kernel5Ideal.main_arg10)
/-- The reference's gated rows, mix and layer's rows, from the kernel's arguments. -/
abbrev c3 : FVec Ideal Cert.Reference5Ideal.S2x2048x1024 .f32 := Rc3 (q1 m c) (q5 m c) (q6 m c)
abbrev mx : FVec Ideal Cert.Reference5Ideal.S2x2048x1024 .f32 := Rmx (q0 m c) (q1 m c) (q2 m c) (q4 m c) (q5 m c) (q6 m c) (q8 m c) (q9 m c)
abbrev x1 : FVec Ideal Cert.Reference5Ideal.S2x2048x1024 .f32 := Rx1 (q0 m c) (q1 m c) (q2 m c) (q3 m c) (q4 m c) (q5 m c) (q6 m c) (q8 m c) (q9 m c) (q10 m c)

/-- Stage by stage the reference's entries are the kernel's. -/
theorem c2_at' (R : Fin 4096) (d : Fin 1024) : Rln (q1 m c) (q5 m c) (q6 m c) (ix3 (bOf R) (sOf R) d) = C2 m c R d := by
  unfold Rln
  rw [Cert.Reference5Ideal.Value.ad_at, Cert.Reference5Ideal.Value.ml_at, Cert.Reference5Ideal.Value.NX_at, Cert.Reference5Ideal.Value.MS_at, Cert.Reference5Ideal.Value.G_at, Cert.Reference5Ideal.Value.G_at]
  simp only [Cert.Reference5Ideal.Value.CT_at, Cert.Reference5Ideal.Value.MU_at]
  rfl
theorem c3_at' (R : Fin 4096) (d : Fin 1024) : c3 m c (ix3 (bOf R) (sOf R) d) = C3 m c R d := by
  unfold c3 Rc3
  rw [Cert.Reference5Ideal.Value.SL_at, c2_at']
  rfl
theorem ya_at' (R : Fin 4096) (d : Fin 1024) : DA (q0 m c) (q8 m c) (ix3 (bOf R) (sOf R) d) = YA m c R d := by
  rw [Cert.Reference5Ideal.Value.DA_at]
  rfl
theorem yc_at' (R : Fin 4096) (d : Fin 1024) : DS (c3 m c) (q9 m c) (ix3 (bOf R) (sOf R) d) = YC m c R d := by
  rw [Cert.Reference5Ideal.Value.DS_at]
  simp only [c3_at' m c R]
  rfl
theorem mx_at' (R : Fin 4096) (d : Fin 1024) : mx m c (ix3 (bOf R) (sOf R) d) = MX m c R d := by
  unfold mx Rmx
  rw [Cert.Reference5Ideal.Value.MI_at, Cert.Reference5Ideal.Value.SG_at, Cert.Reference5Ideal.Value.SG_at, ya_at', yc_at']
  rfl
theorem x1_at' (R : Fin 4096) (d : Fin 1024) : x1 m c (ix3 (bOf R) (sOf R) d) = X1 m c R d := by
  unfold x1 Rx1
  rw [Cert.Reference5Ideal.Value.ad_at, Cert.Reference5Ideal.Value.DS_at]
  simp only [mx_at' m c R]
  rfl
theorem h2_at' (R : Fin 4096) (d : Fin 1024) : Rh2 (q7 m c) (x1 m c) (ix3 (bOf R) (sOf R) d) = H2 m c R d := by
  unfold Rh2
  rw [Cert.Reference5Ideal.Value.ml_at, Cert.Reference5Ideal.Value.NX_at, Cert.Reference5Ideal.Value.MS_at, Cert.Reference5Ideal.Value.G_at]
  simp only [x1_at' m c R]
  rfl

/-- The six results. -/
theorem c3_eq : G14 m c = NR (TK (c3 m c)) := by
  funext i
  obtain ⟨r, k, rfl⟩ : ∃ (r : Fin 4096) (k : Fin 1024), i = ix2 r k := ⟨i 0, i 1, eq_ix2 i⟩
  exact ((Cert.Reference5Ideal.Value.NR_at k r _).trans ((Cert.Reference5Ideal.Value.TK_at k r _).trans (c3_at' m c r k))).symm
theorem ya_eq : G15 m c = NR (TK (DA (q0 m c) (q8 m c))) := by
  funext i
  obtain ⟨r, k, rfl⟩ : ∃ (r : Fin 4096) (k : Fin 1024), i = ix2 r k := ⟨i 0, i 1, eq_ix2 i⟩
  exact ((Cert.Reference5Ideal.Value.NR_at k r _).trans ((Cert.Reference5Ideal.Value.TK_at k r _).trans (ya_at' m c r k))).symm
theorem yc_eq : G16 m c = NR (TK (DS (c3 m c) (q9 m c))) := by
  funext i
  obtain ⟨r, k, rfl⟩ : ∃ (r : Fin 4096) (k : Fin 1024), i = ix2 r k := ⟨i 0, i 1, eq_ix2 i⟩
  exact ((Cert.Reference5Ideal.Value.NR_at k r _).trans ((Cert.Reference5Ideal.Value.TK_at k r _).trans (yc_at' m c r k))).symm
theorem mx_eq : G17 m c = NR (TK (mx m c)) := by
  funext i
  obtain ⟨r, k, rfl⟩ : ∃ (r : Fin 4096) (k : Fin 1024), i = ix2 r k := ⟨i 0, i 1, eq_ix2 i⟩
  exact ((Cert.Reference5Ideal.Value.NR_at k r _).trans ((Cert.Reference5Ideal.Value.TK_at k r _).trans (mx_at' m c r k))).symm
theorem x1_eq : G18 m c = TK (x1 m c) := by
  funext i
  obtain ⟨r, k, rfl⟩ : ∃ (r : Fin 4096) (k : Fin 1024), i = ix2 r k := ⟨i 0, i 1, eq_ix2 i⟩
  exact ((Cert.Reference5Ideal.Value.TK_at k r _).trans (x1_at' m c r k)).symm
theorem h2_eq : G19 m c = NR (TK (Rh2 (q7 m c) (x1 m c))) := by
  funext i
  obtain ⟨r, k, rfl⟩ : ∃ (r : Fin 4096) (k : Fin 1024), i = ix2 r k := ⟨i 0, i 1, eq_ix2 i⟩
  exact ((Cert.Reference5Ideal.Value.NR_at k r _).trans ((Cert.Reference5Ideal.Value.TK_at k r _).trans (h2_at' m c r k))).symm
end

section
open Cert.Reference5Ideal.Value
set_option maxHeartbeats 4000000 in
/-- The reference's run, its six results by stages. -/
theorem ref_run [Cert.Reference5Ideal.Facts] (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => ∀ c : Dev Cert.Reference5Ideal.nD,
      r.2.mem ((c.tc : Thread Cert.Reference5Ideal.nD Cert.Reference5Ideal.τ).loc Cert.Reference5Ideal.main_v70) = NR (TK (Rc3 (p1 m c) (p5 m c) (p6 m c)))
      ∧ r.2.mem ((c.tc : Thread Cert.Reference5Ideal.nD Cert.Reference5Ideal.τ).loc Cert.Reference5Ideal.main_v71) = NR (TK (DA (p0 m c) (p8 m c)))
      ∧ r.2.mem ((c.tc : Thread Cert.Reference5Ideal.nD Cert.Reference5Ideal.τ).loc Cert.Reference5Ideal.main_v72) = NR (TK (DS (Rc3 (p1 m c) (p5 m c) (p6 m c)) (p9 m c)))
      ∧ r.2.mem ((c.tc : Thread Cert.Reference5Ideal.nD Cert.Reference5Ideal.τ).loc Cert.Reference5Ideal.main_v73) = NR (TK (Rmx (p0 m c) (p1 m c) (p2 m c) (p4 m c) (p5 m c) (p6 m c) (p8 m c) (p9 m c)))
      ∧ r.2.mem ((c.tc : Thread Cert.Reference5Ideal.nD Cert.Reference5Ideal.τ).loc Cert.Reference5Ideal.main_v68) = TK (Rx1 (p0 m c) (p1 m c) (p2 m c) (p3 m c) (p4 m c) (p5 m c) (p6 m c) (p8 m c) (p9 m c) (p10 m c))
      ∧ r.2.mem ((c.tc : Thread Cert.Reference5Ideal.nD Cert.Reference5Ideal.τ).loc Cert.Reference5Ideal.main_v74) = NR (TK (Rh2 (p7 m c) (Rx1 (p0 m c) (p1 m c) (p2 m c) (p3 m c) (p4 m c) (p5 m c) (p6 m c) (p8 m c) (p9 m c) (p10 m c))))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)) :=
  (θ_run _ _ _).mono (fun r h c => ⟨(h c).1.trans (final0 m c), (h c).2.1.trans rfl, (h c).2.2.1.trans (final2 m c), (h c).2.2.2.1.trans (final3 m c),
    (h c).2.2.2.2.1.trans (final4 m c), (h c).2.2.2.2.2.1.trans (final5 m c), (h c).2.2.2.2.2.2⟩) (run m g)
end

section
open Cert.Kernel5Ideal.Value
/-- The kernel's run, its six results by token. -/
theorem kernel_run (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v11_0) = G14 m c
      ∧ r.2.mem ((c.tc : Thread Cert.Kernel5Ideal.nD Cert.Kernel5Ideal.τ).loc Cert.Kernel5Ideal.main_v11_1) = G15 m c
      ∧ r.2.mem ((c.tc : Thread Cert.Kernel5Ideal.nD Cert.Kernel5Ideal.τ).loc Cert.Kernel5Ideal.main_v11_2) = G16 m c
      ∧ r.2.mem ((c.tc : Thread Cert.Kernel5Ideal.nD Cert.Kernel5Ideal.τ).loc Cert.Kernel5Ideal.main_v11_3) = G17 m c
      ∧ r.2.mem ((c.tc : Thread Cert.Kernel5Ideal.nD Cert.Kernel5Ideal.τ).loc Cert.Kernel5Ideal.main_v11_4) = G18 m c
      ∧ r.2.mem ((c.tc : Thread Cert.Kernel5Ideal.nD Cert.Kernel5Ideal.τ).loc Cert.Kernel5Ideal.main_v11_5) = G19 m c
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)) :=
  (θ_run _ _ _).mono (fun r h c => ⟨((h.2 c).1 14).trans (final_14 m c), ((h.2 c).1 15).trans (final_15 m c), ((h.2 c).1 16).trans (final_16 m c), ((h.2 c).1 17).trans (final_17 m c), ((h.2 c).1 18).trans (final_18 m c), ((h.2 c).1 19).trans (final_19 m c), h.1 c⟩)
    (θ_run_and (Cert.Kernel5Ideal.Gen.unchanged m g) (Cert.Kernel5Ideal.Gen.run_main m g))
end

set_option maxHeartbeats 4000000 in
/-- Run from arguments that agree, the kernel and the reference return the same six arrays. -/
theorem algebraic [Cert.Kernel5Ideal.Facts] [Cert.Reference5Ideal.Facts] : Cert.algebraic_Kernel5Ideal_Reference5Ideal := by
  intro m g m' g' _ hagree
  refine ⟨fun c => Cert.Kernel5Ideal.Value.G14 m c, fun c => Cert.Kernel5Ideal.Value.G15 m c, fun c => Cert.Kernel5Ideal.Value.G16 m c, fun c => Cert.Kernel5Ideal.Value.G17 m c, fun c => Cert.Kernel5Ideal.Value.G18 m c, fun c => Cert.Kernel5Ideal.Value.G19 m c, ?_,
    (θ_run _ _ _).mono (fun r hr c => ?_) (ref_run m' g')⟩
  · exact kernel_run m g
  · have hc := hr c
    have e0 : Cert.Reference5Ideal.Value.p0 m' c = q0 m c := (hagree c).1
    have e1 : Cert.Reference5Ideal.Value.p1 m' c = q1 m c := (hagree c).2.1
    have e2 : Cert.Reference5Ideal.Value.p2 m' c = q2 m c := (hagree c).2.2.1
    have e3 : Cert.Reference5Ideal.Value.p3 m' c = q3 m c := (hagree c).2.2.2.1
    have e4 : Cert.Reference5Ideal.Value.p4 m' c = q4 m c := (hagree c).2.2.2.2.1
    have e5 : Cert.Reference5Ideal.Value.p5 m' c = q5 m c := (hagree c).2.2.2.2.2.1
    have e6 : Cert.Reference5Ideal.Value.p6 m' c = q6 m c := (hagree c).2.2.2.2.2.2.1
    have e7 : Cert.Reference5Ideal.Value.p7 m' c = q7 m c := (hagree c).2.2.2.2.2.2.2.1
    have e8 : Cert.Reference5Ideal.Value.p8 m' c = q8 m c := (hagree c).2.2.2.2.2.2.2.2.1
    have e9 : Cert.Reference5Ideal.Value.p9 m' c = q9 m c := (hagree c).2.2.2.2.2.2.2.2.2.1
    have e10 : Cert.Reference5Ideal.Value.p10 m' c = q10 m c := (hagree c).2.2.2.2.2.2.2.2.2.2
    rw [e0, e1, e2, e3, e4, e5, e6, e7, e8, e9, e10] at hc
    exact ⟨hc.1.trans (c3_eq m c).symm, hc.2.1.trans (ya_eq m c).symm, hc.2.2.1.trans (yc_eq m c).symm, hc.2.2.2.1.trans (mx_eq m c).symm, hc.2.2.2.2.1.trans (x1_eq m c).symm, hc.2.2.2.2.2.1.trans (h2_eq m c).symm, (hr c).2.2.2.2.2.2⟩
end Cert.MidPair
-- ==== Proof.ProjRows.lean ====
module
public import proofs.«01_k».proof.Proof.Gen.Kernel6Ideal.Value
public import proofs.«01_k».proof.Proof.InRms
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen

/-- The normalised rows of a block times the gain. -/
theorem h_pay (v3 : Vec Ideal S256x1024 .f32) (v15 : Vec Ideal S1x1024 .f32) (r : Fin 256) (d : Fin 1024) :
    k0_pay2 (F := Ideal) v3 v15 (ix2 r d) = v3 (ix2 r d) * Ideal.rsqrt (Rms.ms ((1024 : ℝ) : EReal) (Ideal.ofBits .f32 0x358637BD#32) fun k : Fin 1024 => v3 (ix2 r k)) * v15 (ix2 0 d) := by
  rw [← Rms.c1024]
  pointwise [k0_pay2, Rms.ms]
/-- A chunk of 512 columns of the product. -/
theorem p_pay (h : FVec Ideal S256x1024 .bf16) (w : Vec Ideal S512x1024 .bf16) (r : Fin 256) (k : Fin 512) :
    k0_pay1 (F := Ideal) h w (ix2 r k) = ∑ d, h (ix2 r d) * w (ix2 k d) := by
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The token a row of a point's blocks is. -/
abbrev tok (t : Fin cfg0.N) (r : Fin 256) : Fin 4096 := ⟨t.val * 256 + r.val, by have := t.isLt; have : cfg0.N = 16 := N_0; omega⟩
/-- A token's sequence and its place in it. -/
abbrev bOf (r : Fin 4096) : Fin 2 := ⟨r.val / 2048, by omega⟩
abbrev sOf (r : Fin 4096) : Fin 2048 := ⟨r.val % 2048, by omega⟩

/-- The input rows by token, the gain and the weights. -/
def X (c : Dev nD) (R : Fin 4096) (k : Fin 1024) : EReal := m ((c.tc : Thread nD τ).loc main_arg0) (ix3 (bOf R) (sOf R) k)
def GA (c : Dev nD) (k : Fin 1024) : EReal := m ((c.tc : Thread nD τ).loc main_arg1) (ix2 0 k)
def WI (c : Dev nD) (k : Fin 8704) (d : Fin 1024) : EReal := m ((c.tc : Thread nD τ).loc main_arg2) (ix3 0 d k)
/-- The normalised rows times the gain, and their product with the weights. -/
def HV (c : Dev nD) (R : Fin 4096) (d : Fin 1024) : EReal := X m c R d * Ideal.rsqrt (Rms.ms ((1024 : ℝ) : EReal) (Ideal.ofBits .f32 0x358637BD#32) (X m c R)) * GA m c d
def PJ (c : Dev nD) (R : Fin 4096) (k : Fin 8704) : EReal := ∑ d, HV m c R d * WI m c k d

/-- The staged weights are the transposed argument. -/
theorem ww (c : Dev nD) (i j) : V m c main_v3 (ix2 i j) = WI m c i j := by
  entry_read
  pointwise [WI]
theorem bx (c : Dev nD) (t : Fin cfg0.N) (r : Fin 256) (k : Fin 1024) : iblk m c 0 t (ix2 r k) = X m c (tok t r) k := by
  unfold X
  blk_point [iblk, V, idx t]
theorem bg (c : Dev nD) (t : Fin cfg0.N) (k : Fin 1024) : iblk m c 1 t (ix2 0 k) = GA m c k := by
  unfold GA
  blk_point [iblk, V, idx t]

/-- After every point the weights' scratch holds the staged weights: the first point brings them, the others keep them. -/
theorem scratch (c : Dev nD) : ∀ (n : ℕ) (hn : n < cfg0.N), (outsAt0 m c n hn).2.2 = V m c main_v3 := by
  intro n
  induction n with
  | zero =>
    intro hn
    funext y
    rw [outsAt0_A m c ⟨0, hn⟩ rfl]
    frame_out
    canon_tiles x h
    show V m c main_v3 x = V m c main_v3 y
    exact congrArg _ (funext fun a => Fin.ext (by fin_cases a; exacts [h0.symm, h1.symm]))
  | succ n ih =>
    intro hn
    have hN : cfg0.N = 16 := N_0
    have hB : ¬(⟨n + 1, hn⟩ : Fin cfg0.N).val % 16 = 0 := by dsimp only; omega
    funext y
    rw [outsAt0_B m c ⟨n + 1, hn⟩ hB]
    dsimp only
    unfold sout0_B_0
    exact congrFun (ih _) y

/-- The normalised block of a point, at an index. -/
theorem h_at (c : Dev nD) (t : Fin cfg0.N) (r : Fin 256) (d : Fin 1024) :
    k0_pay2 (F := Ideal) (iblk m c 0 t) (iblk m c 1 t) (ix2 r d) = HV m c (tok t r) d := by
  refine (h_pay _ _ r d).trans ?_
  rw [bg]
  simp only [bx]
  rfl

/-- An entry of a chunk is an entry of the product, once its weights' row is the column's. -/
theorem tile (c : Dev nD) (t : Fin cfg0.N) (r : Fin 256) (k : Fin 8704) (w : Vec Ideal S512x1024 .bf16) (x0 : Fin 256) (x1 : Fin 512)
    (hr : x0 = r) (hw : ∀ d, w (ix2 x1 d) = WI m c k d) :
    k0_pay1 (F := Ideal) (k0_pay2 (F := Ideal) (iblk m c 0 t) (iblk m c 1 t)) w (ix2 x0 x1) = PJ m c (tok t r) k := by
  subst hr
  exact (p_pay _ _ _ _).trans (Finset.sum_congr rfl fun d _ => congrArg₂ (· * ·) (h_at m c t x0 d) (hw d))

theorem hB (c : Dev nD) (t : Fin cfg0.N) (r : Fin 256) (d : Fin 1024) :
    (outsAt0 m c t.val t.isLt).1 (ix2 r d) = HV m c (tok t r) d := by
  by_cases h0 : t.val % 16 = 0
  · rw [outsAt0_A m c t h0]
    frame_out
    exact h_at m c t r d
  · rw [outsAt0_B m c t h0]
    frame_out
    exact h_at m c t r d

set_option maxHeartbeats 4000000 in
theorem pB (c : Dev nD) (t : Fin cfg0.N) (nz : ¬ t.val % 16 = 0) (r : Fin 256) (k : Fin 8704) :
    (outsAt0 m c t.val t.isLt).2.1 (ix2 r k) = PJ m c (tok t r) k := by
  rw [outsAt0_B m c t nz]
  frame_out
  rw [scratch]
  canon_tiles x h using View.cover_of_tiledBy _ ![256, 512] (by sl_kernel_rfl) _
  all_goals
    idx_vars x
    refine tile m c t r k _ x0 x1 (Fin.ext (by simpa using h0.symm)) fun d => ?_
    rw [Idealize.ShloMosaic.read_unread_whole (Val := Elt Ideal) cc0_scratch0 (Memref.isWhole_whole _) (V m c main_v3)]
    pointwise [ww m c]
    exact congrArg (fun i => WI m c i d) (Fin.ext (by simpa using h1.symm))

set_option maxHeartbeats 4000000 in
theorem pA (c : Dev nD) (t : Fin cfg0.N) (nz : t.val % 16 = 0) (r : Fin 256) (k : Fin 8704) :
    (outsAt0 m c t.val t.isLt).2.1 (ix2 r k) = PJ m c (tok t r) k := by
  rw [outsAt0_A m c t nz]
  frame_out
  canon_tiles x h using View.cover_of_tiledBy _ ![256, 512] (by sl_kernel_rfl) _
  all_goals
    idx_vars x
    refine tile m c t r k _ x0 x1 (Fin.ext (by simpa using h0.symm)) fun d => ?_
    refine (congrFun (View.readCov_fill (View.whole cc0_scratch0) (Val := Elt Ideal) (s := S8704x1024) (off := fun _ => 0) (by simp) (V m c main_v3) [] _ (fun _ => rfl)) _).trans ?_
    pointwise [ww m c]
    exact congrArg (fun i => WI m c i d) (Fin.ext (by simpa using h1.symm))

theorem p_out (c : Dev nD) (t : Fin cfg0.N) (r : Fin 256) (k : Fin 8704) :
    (outsAt0 m c t.val t.isLt).2.1 (ix2 r k) = PJ m c (tok t r) k := by
  by_cases h0 : t.val % 16 = 0
  · exact pA m c t h0 r k
  · exact pB m c t h0 r k

/-- The two result arrays by token. -/
def G2 (c : Dev nD) : Buf (Elt Ideal) ((c.tc : Thread nD τ).loc main_v4_0) := fun i => HV m c (i 0) (i 1)
theorem final_2 (c : Dev nD) : (dats m 0 c).arrAt 2 cfg0.N = G2 m c :=
  (dats m 0 c).arrAt_eq_of_covers 2 (G2 m c) (by decide +kernel) fun t hf y => by
    blk_simp
    rw [after0_2]
    idx_vars y
    refine (hB m c t y0 y1).trans ?_
    refine congrArg₂ (HV m c) (Fin.ext ?_) (Fin.ext ?_)
    · blk_simp [idx t]
    · blk_simp [idx t]
def G3 (c : Dev nD) : Buf (Elt Ideal) ((c.tc : Thread nD τ).loc main_v4_1) := fun i => PJ m c (i 0) (i 1)
theorem final_3 (c : Dev nD) : (dats m 0 c).arrAt 3 cfg0.N = G3 m c :=
  (dats m 0 c).arrAt_eq_of_covers 3 (G3 m c) (by decide +kernel) fun t hf y => by
    blk_simp
    rw [after0_3]
    idx_vars y
    refine (p_out m c t y0 y1).trans ?_
    refine congrArg₂ (PJ m c) (Fin.ext ?_) (Fin.ext ?_)
    · blk_simp [idx t]
    · blk_simp [idx t]
end Cert.Kernel6Ideal.Value
-- ==== Proof.ProjClaim.lean ====
module
public import proofs.«01_k».proof.Defs
public import proofs.«01_k».proof.Proof.ProjRows
public import proofs.«01_k».proof.Proof.Gen.Reference6Ideal.Run
public import Idealize.ShloMosaic.Lib.Pipeline.ValueKit
public import Idealize.ShloMosaic.Lib.Claim
public import Idealize.ShloMosaic.Lib.Pointwise
@[expose] public section
set_option maxRecDepth 16384
noncomputable section
open Idealize.ShloMosaic Idealize.ShloMosaic.TcCoe Idealize.SL.Sem
namespace Cert.Reference6Ideal.Value
open Cert.Reference6Ideal Cert.Reference6Ideal.Gen

/-- The normalised rows times the gain. -/
def HN (a0 : FVec Ideal S2x2048x1024 .f32) (a1 : FVec Ideal S1x1024 .f32) : FVec Ideal S2x2048x1024 .f32 :=
  mulf (mulf a0 (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf a0 a0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 (shapeCast _ a1 shapeCasts_S1x1024_S1024)))
/-- The rows by token, and the product by token. -/
def RH (h : FVec Ideal S2x2048x1024 .f32) : FVec Ideal S4096x1024 .bf16 :=
  truncf .bf16 (shapeCast _ h shapeCasts_S2x2048x1024_S4096x1024) bitsLt_bf16_f32
def RP (h : FVec Ideal S2x2048x1024 .f32) (a2 : FVec Ideal S1x1024x8704 .f32) : FVec Ideal S4096x8704 .f32 :=
  shapeCast _ (Host.dotGeneral dot_S2x2048x1024_S1024x8704_S2x2048x8704_2_0_01_1_n_n none h (shapeCast _ a2 shapeCasts_S1x1024x8704_S1024x8704)) shapeCasts_S2x2048x8704_S4096x8704

/-- The sequence of a token and its place in it. -/
abbrev bOf (r : Fin 4096) : Fin 2 := ⟨r.val / 2048, by omega⟩
abbrev sOf (r : Fin 4096) : Fin 2048 := ⟨r.val % 2048, by omega⟩

theorem HN_at (a0 : FVec Ideal S2x2048x1024 .f32) (a1 : FVec Ideal S1x1024 .f32) (b : Fin 2) (s : Fin 2048) (d : Fin 1024) :
    HN a0 a1 (ix3 b s d) = a0 (ix3 b s d) * Ideal.rsqrt (Rms.ms ((1024 : ℝ) : EReal) (Ideal.ofBits .f32 0x358637BD#32) fun k : Fin 1024 => a0 (ix3 b s k)) * a1 (ix2 0 d) := by
  rw [← Rms.c1024]
  pointwise [HN, Rms.ms]
theorem RH_at (h : FVec Ideal S2x2048x1024 .f32) (r : Fin 4096) (d : Fin 1024) : RH h (ix2 r d) = h (ix3 (bOf r) (sOf r) d) := by
  pointwise [RH, bOf, sOf]
theorem RP_at (h : FVec Ideal S2x2048x1024 .f32) (a2 : FVec Ideal S1x1024x8704 .f32) (r : Fin 4096) (k : Fin 8704) :
    RP h a2 (ix2 r k) = ∑ d, h (ix3 (bOf r) (sOf r) d) * a2 (ix3 0 d k) := by
  pointwise [RP, bOf, sOf]

theorem ref_run [Cert.Reference6Ideal.Facts] (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = RH (HN (m ((c.tc : Thread nD τ).loc main_arg0)) (m ((c.tc : Thread nD τ).loc main_arg1)))
      ∧ r.2.mem ((c.tc : Thread nD τ).loc main_v32) = RP (HN (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans rfl, (h c).2.1.trans rfl, (h c).2.2⟩) (run m g)
end Cert.Reference6Ideal.Value

namespace Cert.ProjPair
open Cert.Kernel6Ideal.Value

/-- The kernel's normalised rows are the reference's. -/
theorem h_eq (m : (ℓ : Loc Cert.Kernel6Ideal.nD Cert.Kernel6Ideal.τ Cert.Kernel6Ideal.sig) → Buf (Elt Ideal) ℓ) (c : Dev Cert.Kernel6Ideal.nD) :
    G2 m c = Cert.Reference6Ideal.Value.RH (Cert.Reference6Ideal.Value.HN (m ((c.tc : Thread _ _).loc Cert.Kernel6Ideal.main_arg0)) (m ((c.tc : Thread _ _).loc Cert.Kernel6Ideal.main_arg1))) := by
  funext i
  obtain ⟨r, d, rfl⟩ : ∃ (r : Fin 4096) (d : Fin 1024), i = ix2 r d := ⟨i 0, i 1, eq_ix2 i⟩
  rw [Cert.Reference6Ideal.Value.RH_at, Cert.Reference6Ideal.Value.HN_at]
  rfl
/-- The kernel's product is the reference's. -/
theorem p_eq (m : (ℓ : Loc Cert.Kernel6Ideal.nD Cert.Kernel6Ideal.τ Cert.Kernel6Ideal.sig) → Buf (Elt Ideal) ℓ) (c : Dev Cert.Kernel6Ideal.nD) :
    G3 m c = Cert.Reference6Ideal.Value.RP (Cert.Reference6Ideal.Value.HN (m ((c.tc : Thread _ _).loc Cert.Kernel6Ideal.main_arg0)) (m ((c.tc : Thread _ _).loc Cert.Kernel6Ideal.main_arg1)))
      (m ((c.tc : Thread _ _).loc Cert.Kernel6Ideal.main_arg2)) := by
  funext i
  obtain ⟨r, k, rfl⟩ : ∃ (r : Fin 4096) (k : Fin 8704), i = ix2 r k := ⟨i 0, i 1, eq_ix2 i⟩
  rw [Cert.Reference6Ideal.Value.RP_at]
  simp only [Cert.Reference6Ideal.Value.HN_at]
  rfl

/-- Run from arguments that agree, the kernel and the reference return the same two arrays. -/
theorem algebraic [Cert.Kernel6Ideal.Facts] [Cert.Reference6Ideal.Facts] : Cert.algebraic_Kernel6Ideal_Reference6Ideal := by
  intro m g m' g' _ hagree
  refine ⟨fun c => G2 m c, fun c => G3 m c,
    (θ_run _ _ _).mono (fun r h c => ⟨(h c).1.trans (final_2 m c), (h c).2.1.trans (final_3 m c), (h c).2.2⟩) (run_blocks m g),
    (θ_run _ _ _).mono (fun r hr c => ?_) (Cert.Reference6Ideal.Value.ref_run m' g')⟩
  have hc := hr c
  rw [(hagree c).1, (hagree c).2.1, (hagree c).2.2] at hc
  refine ⟨hc.1.trans (h_eq m c).symm, hc.2.1.trans (p_eq m c).symm, (hr c).2.2⟩
end Cert.ProjPair
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.AttnClaim
public import proofs.«01_k».proof.Proof.InClaim
public import proofs.«01_k».proof.Proof.FfnClaim
public import proofs.«01_k».proof.Proof.FwdClaim
public import proofs.«01_k».proof.Proof.MidClaim
public import proofs.«01_k».proof.Proof.ProjClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the attention gradients ends with its arguments unchanged and every counter at zero. -/
theorem ref_frame [Cert.ReferenceIdeal.Facts] : Cert.quiescent_ReferenceIdeal := fun m ρ _ =>
  (θ_run Cert.ReferenceIdeal.defs _ _).mono
    (fun r h => ⟨fun c => (h c).2.2.2, sem_eq_zero_of_no_sems rfl r.2⟩) (Cert.ReferenceIdeal.Value.run m ρ)

/-- The reference of the input gradients ends with its arguments unchanged and every counter at zero. -/
theorem ref2_frame [Cert.Reference2Ideal.Facts] : Cert.quiescent_Reference2Ideal := fun m ρ _ =>
  (θ_run Cert.Reference2Ideal.defs _ _).mono
    (fun r h => ⟨fun c => (h c).2.2, sem_eq_zero_of_no_sems rfl r.2⟩) (Cert.Reference2Ideal.Value.run m ρ)

/-- The reference of the feed-forward gradients ends with its arguments unchanged and every counter at zero. -/
theorem ref3_frame [Cert.Reference3Ideal.Facts] : Cert.quiescent_Reference3Ideal := fun m ρ _ =>
  (θ_run Cert.Reference3Ideal.defs _ _).mono
    (fun r h => ⟨fun c => (h c).2.2.2.2.2, sem_eq_zero_of_no_sems rfl r.2⟩) (Cert.Reference3Ideal.Value.run m ρ)

/-- The reference of the layer's forward pass and the loss ends with its arguments unchanged and every counter at zero. -/
theorem ref4_frame [Cert.Reference4Ideal.Facts] : Cert.quiescent_Reference4Ideal := fun m ρ _ =>
  (θ_run Cert.Reference4Ideal.defs _ _).mono
    (fun r h => ⟨fun c => (h c).2.2.2.2.2.2.2, sem_eq_zero_of_no_sems rfl r.2⟩) (Cert.Reference4Ideal.Value.run m ρ)

/-- The reference of the gated merge's forward pass ends with its arguments unchanged and every counter at zero. -/
theorem ref5_frame [Cert.Reference5Ideal.Facts] : Cert.quiescent_Reference5Ideal := fun m ρ _ =>
  (θ_run Cert.Reference5Ideal.defs _ _).mono
    (fun r h => ⟨fun c => (h c).2.2.2.2.2.2, sem_eq_zero_of_no_sems rfl r.2⟩) (Cert.Reference5Ideal.Value.run m ρ)

/-- The reference of the input projection ends with its arguments unchanged and every counter at zero. -/
theorem ref6_frame [Cert.Reference6Ideal.Facts] : Cert.quiescent_Reference6Ideal := fun m ρ _ =>
  (θ_run Cert.Reference6Ideal.defs _ _).mono
    (fun r h => ⟨fun c => (h c).2.2, sem_eq_zero_of_no_sems rfl r.2⟩) (Cert.Reference6Ideal.Value.run m ρ)

/-- The frames of the six pairs and of the attention's forward pass, the programs' agreement, and the equality of the results. -/
theorem claim : Cert.Claim :=
  letI := Cert.Kernel.Gen.facts; letI := Cert.KernelIdeal.Gen.facts; letI := Cert.ReferenceIdeal.Gen.facts
  letI := Cert.Kernel2.Gen.facts; letI := Cert.Kernel2Ideal.Gen.facts; letI := Cert.Reference2Ideal.Gen.facts
  letI := Cert.Kernel3.Gen.facts; letI := Cert.Kernel3Ideal.Gen.facts; letI := Cert.Reference3Ideal.Gen.facts
  letI := Cert.Kernel4.Gen.facts; letI := Cert.Kernel4Ideal.Gen.facts; letI := Cert.Reference4Ideal.Gen.facts
  letI := Cert.Kernel5.Gen.facts; letI := Cert.Kernel5Ideal.Gen.facts; letI := Cert.Reference5Ideal.Gen.facts
  letI := Cert.Kernel6.Gen.facts; letI := Cert.Kernel6Ideal.Gen.facts; letI := Cert.Reference6Ideal.Gen.facts
  letI := Cert.Kernel7.Gen.facts; letI := Cert.Kernel7Ideal.Gen.facts
  letI := Cert.AttnPair.finite_facts; letI := Cert.FfnPair.finite3_facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts,
    Cert.AttnPair.finite_facts, Cert.FfnPair.finite3_facts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial,
    fun m ρ _ => Cert.Kernel2.Gen.frame m ρ, fun m ρ _ => Cert.Kernel2Ideal.Gen.frame m ρ, ref2_frame,
    fun m ρ _ => Cert.Kernel3.Gen.frame m ρ, fun m ρ _ => Cert.Kernel3Ideal.Gen.frame m ρ, fun m ρ _ => Cert.Kernel3Ideal.Gen.frame m ρ,
    ref3_frame, fun m ρ _ => ref3_frame m ρ trivial,
    fun m ρ _ => Cert.Kernel4.Gen.frame m ρ, fun m ρ _ => Cert.Kernel4Ideal.Gen.frame m ρ, ref4_frame,
    fun m ρ _ => Cert.Kernel5.Gen.frame m ρ, fun m ρ _ => Cert.Kernel5Ideal.Gen.frame m ρ, ref5_frame,
    fun m ρ _ => Cert.Kernel6.Gen.frame m ρ, fun m ρ _ => Cert.Kernel6Ideal.Gen.frame m ρ, ref6_frame,
    fun m ρ _ => Cert.Kernel7.Gen.frame m ρ, fun m ρ _ => Cert.Kernel7Ideal.Gen.frame m ρ,
    IdealRules.named_const.statement _ _ _ _ _ rfl, Cert.AttnPair.algebraic, trivial, Cert.InPair.algebraic, trivial, Cert.FfnPair.algebraic, trivial, Cert.FwdPair.algebraic, trivial, Cert.MidPair.algebraic, trivial, Cert.ProjPair.algebraic, IdealRules.named_const.statement _ _ _ _ _ rfl⟩

end Cert.Proof

end
